-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_InputB (m : (ℓ : Loc Cert.InputB.nD Cert.InputB.τ Cert.InputB.sig) → Buf (Elt Bits) ℓ) : Prop :=
  True

def Pre_InputBIdeal (m : (ℓ : Loc Cert.InputBIdeal.nD Cert.InputBIdeal.τ Cert.InputBIdeal.sig) → Buf (Elt Ideal) ℓ) : Prop :=
  True

def Pre_InputBRefIdeal (m : (ℓ : Loc Cert.InputBRefIdeal.nD Cert.InputBRefIdeal.τ Cert.InputBRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_SampleB (m : (ℓ : Loc Cert.SampleB.nD Cert.SampleB.τ Cert.SampleB.sig) → Buf (Elt Bits) ℓ) : Prop :=
  True

def Pre_SampleBIdeal (m : (ℓ : Loc Cert.SampleBIdeal.nD Cert.SampleBIdeal.τ Cert.SampleBIdeal.sig) → Buf (Elt Ideal) ℓ) : Prop :=
  True

def Pre_SampleBRefIdeal (m : (ℓ : Loc Cert.SampleBRefIdeal.nD Cert.SampleBRefIdeal.τ Cert.SampleBRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def quiescent_InputB [hInputB : Cert.InputB.Facts] : Prop :=
  ∀ (m : (ℓ : Loc Cert.InputB.nD Cert.InputB.τ Cert.InputB.sig) → Buf (Elt Bits) ℓ) (g : Dev Cert.InputB.nD → PrngReg), Pre_InputB m →
    θ_run (Cert.InputB.defs (F := Bits)) (onTc (τ := Cert.InputB.τ) (Cert.InputB.main (F := Bits))) ⟨m, fun _ => 0, g⟩ (fun r => (∀ c : Dev Cert.InputB.nD,
      r.2.mem ((c.tc : Thread Cert.InputB.nD Cert.InputB.τ).loc Cert.InputB.main_arg0) = m ((c.tc : Thread Cert.InputB.nD Cert.InputB.τ).loc Cert.InputB.main_arg0)
      ∧ r.2.mem ((c.tc : Thread Cert.InputB.nD Cert.InputB.τ).loc Cert.InputB.main_arg1) = m ((c.tc : Thread Cert.InputB.nD Cert.InputB.τ).loc Cert.InputB.main_arg1)
      ∧ r.2.mem ((c.tc : Thread Cert.InputB.nD Cert.InputB.τ).loc Cert.InputB.main_arg2) = m ((c.tc : Thread Cert.InputB.nD Cert.InputB.τ).loc Cert.InputB.main_arg2))
      ∧ r.2.sem = fun _ => 0)

def quiescent_InputBIdeal [hInputBIdeal : Cert.InputBIdeal.Facts] : Prop :=
  ∀ (m : (ℓ : Loc Cert.InputBIdeal.nD Cert.InputBIdeal.τ Cert.InputBIdeal.sig) → Buf (Elt Ideal) ℓ) (g : Dev Cert.InputBIdeal.nD → PrngReg), Pre_InputBIdeal m →
    θ_run (Cert.InputBIdeal.defs (F := Ideal)) (onTc (τ := Cert.InputBIdeal.τ) (Cert.InputBIdeal.main (F := Ideal))) ⟨m, fun _ => 0, g⟩ (fun r => (∀ c : Dev Cert.InputBIdeal.nD,
      r.2.mem ((c.tc : Thread Cert.InputBIdeal.nD Cert.InputBIdeal.τ).loc Cert.InputBIdeal.main_arg0) = m ((c.tc : Thread Cert.InputBIdeal.nD Cert.InputBIdeal.τ).loc Cert.InputBIdeal.main_arg0)
      ∧ r.2.mem ((c.tc : Thread Cert.InputBIdeal.nD Cert.InputBIdeal.τ).loc Cert.InputBIdeal.main_arg1) = m ((c.tc : Thread Cert.InputBIdeal.nD Cert.InputBIdeal.τ).loc Cert.InputBIdeal.main_arg1)
      ∧ r.2.mem ((c.tc : Thread Cert.InputBIdeal.nD Cert.InputBIdeal.τ).loc Cert.InputBIdeal.main_arg2) = m ((c.tc : Thread Cert.InputBIdeal.nD Cert.InputBIdeal.τ).loc Cert.InputBIdeal.main_arg2))
      ∧ r.2.sem = fun _ => 0)

def quiescent_InputBRefIdeal [hInputBRefIdeal : Cert.InputBRefIdeal.Facts] : Prop :=
  ∀ (m : (ℓ : Loc Cert.InputBRefIdeal.nD Cert.InputBRefIdeal.τ Cert.InputBRefIdeal.sig) → Buf (Elt Ideal) ℓ) (g : Dev Cert.InputBRefIdeal.nD → PrngReg), Pre_InputBRefIdeal m →
    θ_run (Cert.InputBRefIdeal.defs (F := Ideal)) (onTc (τ := Cert.InputBRefIdeal.τ) (Cert.InputBRefIdeal.main (F := Ideal))) ⟨m, fun _ => 0, g⟩ (fun r => (∀ c : Dev Cert.InputBRefIdeal.nD,
      r.2.mem ((c.tc : Thread Cert.InputBRefIdeal.nD Cert.InputBRefIdeal.τ).loc Cert.InputBRefIdeal.main_arg0) = m ((c.tc : Thread Cert.InputBRefIdeal.nD Cert.InputBRefIdeal.τ).loc Cert.InputBRefIdeal.main_arg0)
      ∧ r.2.mem ((c.tc : Thread Cert.InputBRefIdeal.nD Cert.InputBRefIdeal.τ).loc Cert.InputBRefIdeal.main_arg1) = m ((c.tc : Thread Cert.InputBRefIdeal.nD Cert.InputBRefIdeal.τ).loc Cert.InputBRefIdeal.main_arg1)
      ∧ r.2.mem ((c.tc : Thread Cert.InputBRefIdeal.nD Cert.InputBRefIdeal.τ).loc Cert.InputBRefIdeal.main_arg2) = m ((c.tc : Thread Cert.InputBRefIdeal.nD Cert.InputBRefIdeal.τ).loc Cert.InputBRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_SampleB [hSampleB : Cert.SampleB.Facts] : Prop :=
  ∀ (m : (ℓ : Loc Cert.SampleB.nD Cert.SampleB.τ Cert.SampleB.sig) → Buf (Elt Bits) ℓ) (g : Dev Cert.SampleB.nD → PrngReg), Pre_SampleB m →
    θ_run (Cert.SampleB.defs (F := Bits)) (onTc (τ := Cert.SampleB.τ) (Cert.SampleB.main (F := Bits))) ⟨m, fun _ => 0, g⟩ (fun r => (∀ c : Dev Cert.SampleB.nD,
      r.2.mem ((c.tc : Thread Cert.SampleB.nD Cert.SampleB.τ).loc Cert.SampleB.main_arg0) = m ((c.tc : Thread Cert.SampleB.nD Cert.SampleB.τ).loc Cert.SampleB.main_arg0)
      ∧ r.2.mem ((c.tc : Thread Cert.SampleB.nD Cert.SampleB.τ).loc Cert.SampleB.main_arg1) = m ((c.tc : Thread Cert.SampleB.nD Cert.SampleB.τ).loc Cert.SampleB.main_arg1)
      ∧ r.2.mem ((c.tc : Thread Cert.SampleB.nD Cert.SampleB.τ).loc Cert.SampleB.main_arg2) = m ((c.tc : Thread Cert.SampleB.nD Cert.SampleB.τ).loc Cert.SampleB.main_arg2))
      ∧ r.2.sem = fun _ => 0)

def quiescent_SampleBIdeal [hSampleBIdeal : Cert.SampleBIdeal.Facts] : Prop :=
  ∀ (m : (ℓ : Loc Cert.SampleBIdeal.nD Cert.SampleBIdeal.τ Cert.SampleBIdeal.sig) → Buf (Elt Ideal) ℓ) (g : Dev Cert.SampleBIdeal.nD → PrngReg), Pre_SampleBIdeal m →
    θ_run (Cert.SampleBIdeal.defs (F := Ideal)) (onTc (τ := Cert.SampleBIdeal.τ) (Cert.SampleBIdeal.main (F := Ideal))) ⟨m, fun _ => 0, g⟩ (fun r => (∀ c : Dev Cert.SampleBIdeal.nD,
      r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
      ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
      ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2))
      ∧ r.2.sem = fun _ => 0)

def quiescent_SampleBRefIdeal [hSampleBRefIdeal : Cert.SampleBRefIdeal.Facts] : Prop :=
  ∀ (m : (ℓ : Loc Cert.SampleBRefIdeal.nD Cert.SampleBRefIdeal.τ Cert.SampleBRefIdeal.sig) → Buf (Elt Ideal) ℓ) (g : Dev Cert.SampleBRefIdeal.nD → PrngReg), Pre_SampleBRefIdeal m →
    θ_run (Cert.SampleBRefIdeal.defs (F := Ideal)) (onTc (τ := Cert.SampleBRefIdeal.τ) (Cert.SampleBRefIdeal.main (F := Ideal))) ⟨m, fun _ => 0, g⟩ (fun r => (∀ c : Dev Cert.SampleBRefIdeal.nD,
      r.2.mem ((c.tc : Thread Cert.SampleBRefIdeal.nD Cert.SampleBRefIdeal.τ).loc Cert.SampleBRefIdeal.main_arg0) = m ((c.tc : Thread Cert.SampleBRefIdeal.nD Cert.SampleBRefIdeal.τ).loc Cert.SampleBRefIdeal.main_arg0)
      ∧ r.2.mem ((c.tc : Thread Cert.SampleBRefIdeal.nD Cert.SampleBRefIdeal.τ).loc Cert.SampleBRefIdeal.main_arg1) = m ((c.tc : Thread Cert.SampleBRefIdeal.nD Cert.SampleBRefIdeal.τ).loc Cert.SampleBRefIdeal.main_arg1)
      ∧ r.2.mem ((c.tc : Thread Cert.SampleBRefIdeal.nD Cert.SampleBRefIdeal.τ).loc Cert.SampleBRefIdeal.main_arg2) = m ((c.tc : Thread Cert.SampleBRefIdeal.nD Cert.SampleBRefIdeal.τ).loc Cert.SampleBRefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v41_0)) (v1 : (c : Dev Cert.InputIdeal.nD) → Buf (Elt Ideal) ((c.tc : Thread Cert.InputIdeal.nD Cert.InputIdeal.τ).loc Cert.InputIdeal.main_v41_1)) (v2 : (c : Dev Cert.InputIdeal.nD) → Buf (Elt Ideal) ((c.tc : Thread Cert.InputIdeal.nD Cert.InputIdeal.τ).loc Cert.InputIdeal.main_v41_2)) (v3 : (c : Dev Cert.InputIdeal.nD) → Buf (Elt Ideal) ((c.tc : Thread Cert.InputIdeal.nD Cert.InputIdeal.τ).loc Cert.InputIdeal.main_v41_3)) (v4 : (c : Dev Cert.InputIdeal.nD) → Buf (Elt Ideal) ((c.tc : Thread Cert.InputIdeal.nD Cert.InputIdeal.τ).loc Cert.InputIdeal.main_v41_4)) (v5 : (c : Dev Cert.InputIdeal.nD) → Buf (Elt Ideal) ((c.tc : Thread Cert.InputIdeal.nD Cert.InputIdeal.τ).loc Cert.InputIdeal.main_v41_5)) (v6 : (c : Dev Cert.InputIdeal.nD) → Buf (Elt Ideal) ((c.tc : Thread Cert.InputIdeal.nD Cert.InputIdeal.τ).loc Cert.InputIdeal.main_v41_6)) (v7 : (c : Dev Cert.InputIdeal.nD) → Buf (Elt Ideal) ((c.tc : Thread Cert.InputIdeal.nD Cert.InputIdeal.τ).loc Cert.InputIdeal.main_v41_7)) (v8 : (c : Dev Cert.InputIdeal.nD) → Buf (Elt Ideal) ((c.tc : Thread Cert.InputIdeal.nD Cert.InputIdeal.τ).loc Cert.InputIdeal.main_v41_8)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v41_0) = v0 c
          ∧ r.2.mem ((c.tc : Thread Cert.InputIdeal.nD Cert.InputIdeal.τ).loc Cert.InputIdeal.main_v41_1) = v1 c
          ∧ r.2.mem ((c.tc : Thread Cert.InputIdeal.nD Cert.InputIdeal.τ).loc Cert.InputIdeal.main_v41_2) = v2 c
          ∧ r.2.mem ((c.tc : Thread Cert.InputIdeal.nD Cert.InputIdeal.τ).loc Cert.InputIdeal.main_v41_3) = v3 c
          ∧ r.2.mem ((c.tc : Thread Cert.InputIdeal.nD Cert.InputIdeal.τ).loc Cert.InputIdeal.main_v41_4) = v4 c
          ∧ r.2.mem ((c.tc : Thread Cert.InputIdeal.nD Cert.InputIdeal.τ).loc Cert.InputIdeal.main_v41_5) = v5 c
          ∧ r.2.mem ((c.tc : Thread Cert.InputIdeal.nD Cert.InputIdeal.τ).loc Cert.InputIdeal.main_v41_6) = v6 c
          ∧ r.2.mem ((c.tc : Thread Cert.InputIdeal.nD Cert.InputIdeal.τ).loc Cert.InputIdeal.main_v41_7) = v7 c
          ∧ r.2.mem ((c.tc : Thread Cert.InputIdeal.nD Cert.InputIdeal.τ).loc Cert.InputIdeal.main_v41_8) = v8 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v41) = v0 c
          ∧ r.2.mem ((c.tc : Thread Cert.InputRefIdeal.nD Cert.InputRefIdeal.τ).loc Cert.InputRefIdeal.main_v42) = v1 c
          ∧ r.2.mem ((c.tc : Thread Cert.InputRefIdeal.nD Cert.InputRefIdeal.τ).loc Cert.InputRefIdeal.main_v43) = v2 c
          ∧ r.2.mem ((c.tc : Thread Cert.InputRefIdeal.nD Cert.InputRefIdeal.τ).loc Cert.InputRefIdeal.main_v60) = v3 c
          ∧ r.2.mem ((c.tc : Thread Cert.InputRefIdeal.nD Cert.InputRefIdeal.τ).loc Cert.InputRefIdeal.main_v61) = v4 c
          ∧ r.2.mem ((c.tc : Thread Cert.InputRefIdeal.nD Cert.InputRefIdeal.τ).loc Cert.InputRefIdeal.main_v78) = v5 c
          ∧ r.2.mem ((c.tc : Thread Cert.InputRefIdeal.nD Cert.InputRefIdeal.τ).loc Cert.InputRefIdeal.main_v79) = v6 c
          ∧ r.2.mem ((c.tc : Thread Cert.InputRefIdeal.nD Cert.InputRefIdeal.τ).loc Cert.InputRefIdeal.main_v87) = v7 c
          ∧ r.2.mem ((c.tc : Thread Cert.InputRefIdeal.nD Cert.InputRefIdeal.τ).loc Cert.InputRefIdeal.main_v88) = v8 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v41_0)) (v1 : (c : Dev Cert.SampleIdeal.nD) → Buf (Elt Ideal) ((c.tc : Thread Cert.SampleIdeal.nD Cert.SampleIdeal.τ).loc Cert.SampleIdeal.main_v41_1)) (v2 : (c : Dev Cert.SampleIdeal.nD) → Buf (Elt Ideal) ((c.tc : Thread Cert.SampleIdeal.nD Cert.SampleIdeal.τ).loc Cert.SampleIdeal.main_v41_2)) (v3 : (c : Dev Cert.SampleIdeal.nD) → Buf (Elt Ideal) ((c.tc : Thread Cert.SampleIdeal.nD Cert.SampleIdeal.τ).loc Cert.SampleIdeal.main_v41_3)) (v4 : (c : Dev Cert.SampleIdeal.nD) → Buf (Elt Ideal) ((c.tc : Thread Cert.SampleIdeal.nD Cert.SampleIdeal.τ).loc Cert.SampleIdeal.main_v41_4)) (v5 : (c : Dev Cert.SampleIdeal.nD) → Buf (Elt Ideal) ((c.tc : Thread Cert.SampleIdeal.nD Cert.SampleIdeal.τ).loc Cert.SampleIdeal.main_v41_5)) (v6 : (c : Dev Cert.SampleIdeal.nD) → Buf (Elt Ideal) ((c.tc : Thread Cert.SampleIdeal.nD Cert.SampleIdeal.τ).loc Cert.SampleIdeal.main_v41_6)) (v7 : (c : Dev Cert.SampleIdeal.nD) → Buf (Elt Ideal) ((c.tc : Thread Cert.SampleIdeal.nD Cert.SampleIdeal.τ).loc Cert.SampleIdeal.main_v41_7)) (v8 : (c : Dev Cert.SampleIdeal.nD) → Buf (Elt Ideal) ((c.tc : Thread Cert.SampleIdeal.nD Cert.SampleIdeal.τ).loc Cert.SampleIdeal.main_v41_8)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v41_0) = v0 c
          ∧ r.2.mem ((c.tc : Thread Cert.SampleIdeal.nD Cert.SampleIdeal.τ).loc Cert.SampleIdeal.main_v41_1) = v1 c
          ∧ r.2.mem ((c.tc : Thread Cert.SampleIdeal.nD Cert.SampleIdeal.τ).loc Cert.SampleIdeal.main_v41_2) = v2 c
          ∧ r.2.mem ((c.tc : Thread Cert.SampleIdeal.nD Cert.SampleIdeal.τ).loc Cert.SampleIdeal.main_v41_3) = v3 c
          ∧ r.2.mem ((c.tc : Thread Cert.SampleIdeal.nD Cert.SampleIdeal.τ).loc Cert.SampleIdeal.main_v41_4) = v4 c
          ∧ r.2.mem ((c.tc : Thread Cert.SampleIdeal.nD Cert.SampleIdeal.τ).loc Cert.SampleIdeal.main_v41_5) = v5 c
          ∧ r.2.mem ((c.tc : Thread Cert.SampleIdeal.nD Cert.SampleIdeal.τ).loc Cert.SampleIdeal.main_v41_6) = v6 c
          ∧ r.2.mem ((c.tc : Thread Cert.SampleIdeal.nD Cert.SampleIdeal.τ).loc Cert.SampleIdeal.main_v41_7) = v7 c
          ∧ r.2.mem ((c.tc : Thread Cert.SampleIdeal.nD Cert.SampleIdeal.τ).loc Cert.SampleIdeal.main_v41_8) = v8 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v41) = v0 c
          ∧ r.2.mem ((c.tc : Thread Cert.SampleRefIdeal.nD Cert.SampleRefIdeal.τ).loc Cert.SampleRefIdeal.main_v42) = v1 c
          ∧ r.2.mem ((c.tc : Thread Cert.SampleRefIdeal.nD Cert.SampleRefIdeal.τ).loc Cert.SampleRefIdeal.main_v43) = v2 c
          ∧ r.2.mem ((c.tc : Thread Cert.SampleRefIdeal.nD Cert.SampleRefIdeal.τ).loc Cert.SampleRefIdeal.main_v60) = v3 c
          ∧ r.2.mem ((c.tc : Thread Cert.SampleRefIdeal.nD Cert.SampleRefIdeal.τ).loc Cert.SampleRefIdeal.main_v61) = v4 c
          ∧ r.2.mem ((c.tc : Thread Cert.SampleRefIdeal.nD Cert.SampleRefIdeal.τ).loc Cert.SampleRefIdeal.main_v78) = v5 c
          ∧ r.2.mem ((c.tc : Thread Cert.SampleRefIdeal.nD Cert.SampleRefIdeal.τ).loc Cert.SampleRefIdeal.main_v79) = v6 c
          ∧ r.2.mem ((c.tc : Thread Cert.SampleRefIdeal.nD Cert.SampleRefIdeal.τ).loc Cert.SampleRefIdeal.main_v87) = v7 c
          ∧ r.2.mem ((c.tc : Thread Cert.SampleRefIdeal.nD Cert.SampleRefIdeal.τ).loc Cert.SampleRefIdeal.main_v88) = v8 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4))

def preserves_InputB_InputBIdeal : Prop :=
  True

def algebraic_InputBIdeal_InputBRefIdeal [hInputBIdeal : Cert.InputBIdeal.Facts] [hInputBRefIdeal : Cert.InputBRefIdeal.Facts] : Prop :=
  ∀ (m : (ℓ : Loc Cert.InputBIdeal.nD Cert.InputBIdeal.τ Cert.InputBIdeal.sig) → Buf (Elt Ideal) ℓ) (g : Dev Cert.InputBIdeal.nD → PrngReg)
    (m' : (ℓ : Loc Cert.InputBRefIdeal.nD Cert.InputBRefIdeal.τ Cert.InputBRefIdeal.sig) → Buf (Elt Ideal) ℓ) (g' : Dev Cert.InputBRefIdeal.nD → PrngReg), Pre_InputBIdeal m →
    (∀ c : Dev Cert.InputBIdeal.nD,
      m' ((c.tc : Thread Cert.InputBRefIdeal.nD Cert.InputBRefIdeal.τ).loc Cert.InputBRefIdeal.main_arg0) = m ((c.tc : Thread Cert.InputBIdeal.nD Cert.InputBIdeal.τ).loc Cert.InputBIdeal.main_arg0)
      ∧ m' ((c.tc : Thread Cert.InputBRefIdeal.nD Cert.InputBRefIdeal.τ).loc Cert.InputBRefIdeal.main_arg1) = m ((c.tc : Thread Cert.InputBIdeal.nD Cert.InputBIdeal.τ).loc Cert.InputBIdeal.main_arg1)
      ∧ m' ((c.tc : Thread Cert.InputBRefIdeal.nD Cert.InputBRefIdeal.τ).loc Cert.InputBRefIdeal.main_arg2) = m ((c.tc : Thread Cert.InputBIdeal.nD Cert.InputBIdeal.τ).loc Cert.InputBIdeal.main_arg2)) →
    ∃ (v0 : (c : Dev Cert.InputBIdeal.nD) → Buf (Elt Ideal) ((c.tc : Thread Cert.InputBIdeal.nD Cert.InputBIdeal.τ).loc Cert.InputBIdeal.main_v9_0)) (v1 : (c : Dev Cert.InputBIdeal.nD) → Buf (Elt Ideal) ((c.tc : Thread Cert.InputBIdeal.nD Cert.InputBIdeal.τ).loc Cert.InputBIdeal.main_v9_1)),
      θ_run (Cert.InputBIdeal.defs (F := Ideal)) (onTc (τ := Cert.InputBIdeal.τ) (Cert.InputBIdeal.main (F := Ideal))) ⟨m, fun _ => 0, g⟩ (fun r => ∀ c : Dev Cert.InputBIdeal.nD,
          r.2.mem ((c.tc : Thread Cert.InputBIdeal.nD Cert.InputBIdeal.τ).loc Cert.InputBIdeal.main_v9_0) = v0 c
          ∧ r.2.mem ((c.tc : Thread Cert.InputBIdeal.nD Cert.InputBIdeal.τ).loc Cert.InputBIdeal.main_v9_1) = v1 c
          ∧ r.2.mem ((c.tc : Thread Cert.InputBIdeal.nD Cert.InputBIdeal.τ).loc Cert.InputBIdeal.main_arg0) = m ((c.tc : Thread Cert.InputBIdeal.nD Cert.InputBIdeal.τ).loc Cert.InputBIdeal.main_arg0)
          ∧ r.2.mem ((c.tc : Thread Cert.InputBIdeal.nD Cert.InputBIdeal.τ).loc Cert.InputBIdeal.main_arg1) = m ((c.tc : Thread Cert.InputBIdeal.nD Cert.InputBIdeal.τ).loc Cert.InputBIdeal.main_arg1)
          ∧ r.2.mem ((c.tc : Thread Cert.InputBIdeal.nD Cert.InputBIdeal.τ).loc Cert.InputBIdeal.main_arg2) = m ((c.tc : Thread Cert.InputBIdeal.nD Cert.InputBIdeal.τ).loc Cert.InputBIdeal.main_arg2))
      ∧ θ_run (Cert.InputBRefIdeal.defs (F := Ideal)) (onTc (τ := Cert.InputBRefIdeal.τ) (Cert.InputBRefIdeal.main (F := Ideal))) ⟨m', fun _ => 0, g'⟩ (fun r => ∀ c : Dev Cert.InputBRefIdeal.nD,
          r.2.mem ((c.tc : Thread Cert.InputBRefIdeal.nD Cert.InputBRefIdeal.τ).loc Cert.InputBRefIdeal.main_v17) = v0 c
          ∧ r.2.mem ((c.tc : Thread Cert.InputBRefIdeal.nD Cert.InputBRefIdeal.τ).loc Cert.InputBRefIdeal.main_v18) = v1 c
          ∧ r.2.mem ((c.tc : Thread Cert.InputBRefIdeal.nD Cert.InputBRefIdeal.τ).loc Cert.InputBRefIdeal.main_arg0) = m' ((c.tc : Thread Cert.InputBRefIdeal.nD Cert.InputBRefIdeal.τ).loc Cert.InputBRefIdeal.main_arg0)
          ∧ r.2.mem ((c.tc : Thread Cert.InputBRefIdeal.nD Cert.InputBRefIdeal.τ).loc Cert.InputBRefIdeal.main_arg1) = m' ((c.tc : Thread Cert.InputBRefIdeal.nD Cert.InputBRefIdeal.τ).loc Cert.InputBRefIdeal.main_arg1)
          ∧ r.2.mem ((c.tc : Thread Cert.InputBRefIdeal.nD Cert.InputBRefIdeal.τ).loc Cert.InputBRefIdeal.main_arg2) = m' ((c.tc : Thread Cert.InputBRefIdeal.nD Cert.InputBRefIdeal.τ).loc Cert.InputBRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v10_0)) (v1 : (c : Dev Cert.MemoryIdeal.nD) → Buf (Elt Ideal) ((c.tc : Thread Cert.MemoryIdeal.nD Cert.MemoryIdeal.τ).loc Cert.MemoryIdeal.main_v10_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v10_0) = v0 c
          ∧ r.2.mem ((c.tc : Thread Cert.MemoryIdeal.nD Cert.MemoryIdeal.τ).loc Cert.MemoryIdeal.main_v10_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v29) = v0 c
          ∧ r.2.mem ((c.tc : Thread Cert.MemoryRefIdeal.nD Cert.MemoryRefIdeal.τ).loc Cert.MemoryRefIdeal.main_v31) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v41) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_SampleB_SampleBIdeal : Prop :=
  True

def algebraic_SampleBIdeal_SampleBRefIdeal [hSampleBIdeal : Cert.SampleBIdeal.Facts] [hSampleBRefIdeal : Cert.SampleBRefIdeal.Facts] : Prop :=
  ∀ (m : (ℓ : Loc Cert.SampleBIdeal.nD Cert.SampleBIdeal.τ Cert.SampleBIdeal.sig) → Buf (Elt Ideal) ℓ) (g : Dev Cert.SampleBIdeal.nD → PrngReg)
    (m' : (ℓ : Loc Cert.SampleBRefIdeal.nD Cert.SampleBRefIdeal.τ Cert.SampleBRefIdeal.sig) → Buf (Elt Ideal) ℓ) (g' : Dev Cert.SampleBRefIdeal.nD → PrngReg), Pre_SampleBIdeal m →
    (∀ c : Dev Cert.SampleBIdeal.nD,
      m' ((c.tc : Thread Cert.SampleBRefIdeal.nD Cert.SampleBRefIdeal.τ).loc Cert.SampleBRefIdeal.main_arg0) = m ((c.tc : Thread Cert.SampleBIdeal.nD Cert.SampleBIdeal.τ).loc Cert.SampleBIdeal.main_arg0)
      ∧ m' ((c.tc : Thread Cert.SampleBRefIdeal.nD Cert.SampleBRefIdeal.τ).loc Cert.SampleBRefIdeal.main_arg1) = m ((c.tc : Thread Cert.SampleBIdeal.nD Cert.SampleBIdeal.τ).loc Cert.SampleBIdeal.main_arg1)
      ∧ m' ((c.tc : Thread Cert.SampleBRefIdeal.nD Cert.SampleBRefIdeal.τ).loc Cert.SampleBRefIdeal.main_arg2) = m ((c.tc : Thread Cert.SampleBIdeal.nD Cert.SampleBIdeal.τ).loc Cert.SampleBIdeal.main_arg2)) →
    ∃ (v0 : (c : Dev Cert.SampleBIdeal.nD) → Buf (Elt Ideal) ((c.tc : Thread Cert.SampleBIdeal.nD Cert.SampleBIdeal.τ).loc Cert.SampleBIdeal.main_v9_0)) (v1 : (c : Dev Cert.SampleBIdeal.nD) → Buf (Elt Ideal) ((c.tc : Thread Cert.SampleBIdeal.nD Cert.SampleBIdeal.τ).loc Cert.SampleBIdeal.main_v9_1)),
      θ_run (Cert.SampleBIdeal.defs (F := Ideal)) (onTc (τ := Cert.SampleBIdeal.τ) (Cert.SampleBIdeal.main (F := Ideal))) ⟨m, fun _ => 0, g⟩ (fun r => ∀ c : Dev Cert.SampleBIdeal.nD,
          r.2.mem ((c.tc : Thread Cert.SampleBIdeal.nD Cert.SampleBIdeal.τ).loc Cert.SampleBIdeal.main_v9_0) = v0 c
          ∧ r.2.mem ((c.tc : Thread Cert.SampleBIdeal.nD Cert.SampleBIdeal.τ).loc Cert.SampleBIdeal.main_v9_1) = v1 c
          ∧ r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
          ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
          ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2))
      ∧ θ_run (Cert.SampleBRefIdeal.defs (F := Ideal)) (onTc (τ := Cert.SampleBRefIdeal.τ) (Cert.SampleBRefIdeal.main (F := Ideal))) ⟨m', fun _ => 0, g'⟩ (fun r => ∀ c : Dev Cert.SampleBRefIdeal.nD,
          r.2.mem ((c.tc : Thread Cert.SampleBRefIdeal.nD Cert.SampleBRefIdeal.τ).loc Cert.SampleBRefIdeal.main_v17) = v0 c
          ∧ r.2.mem ((c.tc : Thread Cert.SampleBRefIdeal.nD Cert.SampleBRefIdeal.τ).loc Cert.SampleBRefIdeal.main_v18) = v1 c
          ∧ r.2.mem ((c.tc : Thread Cert.SampleBRefIdeal.nD Cert.SampleBRefIdeal.τ).loc Cert.SampleBRefIdeal.main_arg0) = m' ((c.tc : Thread Cert.SampleBRefIdeal.nD Cert.SampleBRefIdeal.τ).loc Cert.SampleBRefIdeal.main_arg0)
          ∧ r.2.mem ((c.tc : Thread Cert.SampleBRefIdeal.nD Cert.SampleBRefIdeal.τ).loc Cert.SampleBRefIdeal.main_arg1) = m' ((c.tc : Thread Cert.SampleBRefIdeal.nD Cert.SampleBRefIdeal.τ).loc Cert.SampleBRefIdeal.main_arg1)
          ∧ r.2.mem ((c.tc : Thread Cert.SampleBRefIdeal.nD Cert.SampleBRefIdeal.τ).loc Cert.SampleBRefIdeal.main_arg2) = m' ((c.tc : Thread Cert.SampleBRefIdeal.nD Cert.SampleBRefIdeal.τ).loc Cert.SampleBRefIdeal.main_arg2))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)) →
    ∃ (v0 : (c : Dev Cert.MemAttnIdeal.nD) → Buf (Elt Ideal) ((c.tc : Thread Cert.MemAttnIdeal.nD Cert.MemAttnIdeal.τ).loc Cert.MemAttnIdeal.main_v1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v1) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v32) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)) →
    ∃ (v0 : (c : Dev Cert.StepIdeal.nD) → Buf (Elt Ideal) ((c.tc : Thread Cert.StepIdeal.nD Cert.StepIdeal.τ).loc Cert.StepIdeal.main_v10_0)) (v1 : (c : Dev Cert.StepIdeal.nD) → Buf (Elt Ideal) ((c.tc : Thread Cert.StepIdeal.nD Cert.StepIdeal.τ).loc Cert.StepIdeal.main_v10_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v10_0) = v0 c
          ∧ r.2.mem ((c.tc : Thread Cert.StepIdeal.nD Cert.StepIdeal.τ).loc Cert.StepIdeal.main_v10_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v62) = v0 c
          ∧ r.2.mem ((c.tc : Thread Cert.StepRefIdeal.nD Cert.StepRefIdeal.τ).loc Cert.StepRefIdeal.main_v24) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10))

def Claim : Prop :=
  ∃ (hKernel : Cert.Kernel.Facts) (hKernelIdeal : Cert.KernelIdeal.Facts) (hReferenceIdeal : Cert.ReferenceIdeal.Facts) (hInput : Cert.Input.Facts) (hInputIdeal : Cert.InputIdeal.Facts) (hInputRefIdeal : Cert.InputRefIdeal.Facts) (hSample : Cert.Sample.Facts) (hSampleIdeal : Cert.SampleIdeal.Facts) (hSampleRefIdeal : Cert.SampleRefIdeal.Facts) (hInputB : Cert.InputB.Facts) (hInputBIdeal : Cert.InputBIdeal.Facts) (hInputBRefIdeal : Cert.InputBRefIdeal.Facts) (hMemory : Cert.Memory.Facts) (hMemoryIdeal : Cert.MemoryIdeal.Facts) (hMemoryRefIdeal : Cert.MemoryRefIdeal.Facts) (hExperts : Cert.Experts.Facts) (hExpertsIdeal : Cert.ExpertsIdeal.Facts) (hExpertsRefIdeal : Cert.ExpertsRefIdeal.Facts) (hSampleB : Cert.SampleB.Facts) (hSampleBIdeal : Cert.SampleBIdeal.Facts) (hSampleBRefIdeal : Cert.SampleBRefIdeal.Facts) (hMemAttn : Cert.MemAttn.Facts) (hMemAttnIdeal : Cert.MemAttnIdeal.Facts) (hMemAttnRefIdeal : Cert.MemAttnRefIdeal.Facts) (hStep : Cert.Step.Facts) (hStepIdeal : Cert.StepIdeal.Facts) (hStepRefIdeal : Cert.StepRefIdeal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Input (hInput := hInput)
    ∧ quiescent_InputIdeal (hInputIdeal := hInputIdeal)
    ∧ quiescent_InputRefIdeal (hInputRefIdeal := hInputRefIdeal)
    ∧ quiescent_Sample (hSample := hSample)
    ∧ quiescent_SampleIdeal (hSampleIdeal := hSampleIdeal)
    ∧ quiescent_SampleRefIdeal (hSampleRefIdeal := hSampleRefIdeal)
    ∧ quiescent_InputB (hInputB := hInputB)
    ∧ quiescent_InputBIdeal (hInputBIdeal := hInputBIdeal)
    ∧ quiescent_InputBRefIdeal (hInputBRefIdeal := hInputBRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_SampleB (hSampleB := hSampleB)
    ∧ quiescent_SampleBIdeal (hSampleBIdeal := hSampleBIdeal)
    ∧ quiescent_SampleBRefIdeal (hSampleBRefIdeal := hSampleBRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Step (hStep := hStep)
    ∧ quiescent_StepIdeal (hStepIdeal := hStepIdeal)
    ∧ quiescent_StepRefIdeal (hStepRefIdeal := hStepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Input_InputIdeal
    ∧ algebraic_InputIdeal_InputRefIdeal (hInputIdeal := hInputIdeal) (hInputRefIdeal := hInputRefIdeal)
    ∧ preserves_Sample_SampleIdeal
    ∧ algebraic_SampleIdeal_SampleRefIdeal (hSampleIdeal := hSampleIdeal) (hSampleRefIdeal := hSampleRefIdeal)
    ∧ preserves_InputB_InputBIdeal
    ∧ algebraic_InputBIdeal_InputBRefIdeal (hInputBIdeal := hInputBIdeal) (hInputBRefIdeal := hInputBRefIdeal)
    ∧ preserves_Memory_MemoryIdeal
    ∧ algebraic_MemoryIdeal_MemoryRefIdeal (hMemoryIdeal := hMemoryIdeal) (hMemoryRefIdeal := hMemoryRefIdeal)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_SampleB_SampleBIdeal
    ∧ algebraic_SampleBIdeal_SampleBRefIdeal (hSampleBIdeal := hSampleBIdeal) (hSampleBRefIdeal := hSampleBRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Step_StepIdeal
    ∧ algebraic_StepIdeal_StepRefIdeal (hStepIdeal := hStepIdeal) (hStepRefIdeal := hStepRefIdeal)
-- ==== Pre_experts_named.lean ====
abbrev S256 : Shape := ⟨1, ![256]⟩
abbrev S128 : Shape := ⟨1, ![128]⟩
abbrev S49152x1024 : Shape := ⟨2, ![49152, 1024]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : IVec S256 32) (main_arg1 : IVec S128 32) (main_arg2 : FVec F S49152x1024 .f32) (main_arg3 : FVec F S2x32x1024x512 .f32) (main_arg4 : FVec F S2x32x1024x512 .f32) (main_arg5 : FVec F S2x32x512x1024 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 1 := constantI S_ 1 1#1
  let main_v2 : IVec S_ 1 := (fun x v => Host.reduce IntOp.andi x v reducesTo_S256_S_d0 h_S_) main_v1 main_c_0
  let main_c_1 : IVec S_ 32 := constantI S_ 32 32#32
  let main_v3 : IVec S256 32 := broadcastInDim S256 ![] bcast_S_S256 main_c_1
  let main_v4 : IVec S256 1 := cmpi .slt main_arg0 main_v3
  let main_c_2 : IVec S_ 1 := constantI S_ 1 1#1
  let main_v5 : IVec S_ 1 := (fun x v => Host.reduce IntOp.andi x v reducesTo_S256_S_d0 h_S_) main_v4 main_c_2
  let main_v6 : IVec S_ 1 := andi main_v2 main_v5
  main_v6
-- ==== Pre_finite.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x256 : S_.BroadcastsInDim S16384x256 (![] : Fin 0 → Fin S16384x256.rank)
  reducesTo_S16384x256_S_d0_1 : S16384x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S1024x32 .f32) (main_arg8 : FVec F S32 .f32) (main_v33 : IVec S_ 1) : IVec S_ 1 :=
  let main_v34 : FVec F S1024x32 .f32 := Host.absf main_arg7
  let main_cst_12 : FVec F S_ .f32 := constant S_ .f32 0x7F800000#32
  let main_v35 : FVec F S1024x32 .f32 := broadcastInDim S1024x32 ![] bcast_S_S1024x32 main_cst_12
  let main_v36 : IVec S1024x32 1 := cmpf .olt main_v34 main_v35
  let main_c_13 : IVec S_ 1 := constantI S_ 1 1#1
  let main_v37 : IVec S_ 1 := (fun x v => Host.reduce IntOp.andi x v reducesTo_S1024x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x32 .f32) (main_arg8 : FVec F S32 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S16384x768 .f32) (main_arg2 : FVec F S16384x256 .f32) (main_arg3 : FVec F S1024x1024 .f32) (main_arg4 : FVec F S1024 .f32) (main_arg5 : FVec F S1024x4 .f32) (main_arg6 : FVec F S4 .f32) (main_arg7 : FVec F S1024x32 .f32) (main_arg8 : FVec F S32 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x1024 : Shape := ⟨2, ![1, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16384x128 : Shape := ⟨2, ![16384, 128]⟩
abbrev S1024x768 : Shape := ⟨2, ![1024, 768]⟩
abbrev S1024x256 : Shape := ⟨2, ![1024, 256]⟩
abbrev S768x1024 : Shape := ⟨2, ![768, 1024]⟩
abbrev S256x1024 : Shape := ⟨2, ![256, 1024]⟩
abbrev S1024x1 : Shape := ⟨2, ![1024, 1]⟩

abbrev nBuf : Space → Nat
  | .hbm => 30
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x256, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S1024x1024, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S16384x1024, .f32⟩
  | .hbm, ⟨28, _⟩ => ⟨S16384x1024, .f32⟩
  | .hbm, ⟨29, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .f32⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1x128, .f32⟩
  | .local _ .vmem, ⟨10, _⟩ => ⟨S1024x128, .bf16⟩
  | .local _ .vmem, ⟨11, _⟩ => ⟨S1x128, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x1x1 : Shape := ⟨3, ![16384, 1, 1]⟩
abbrev S1 : Shape := ⟨1, ![1]⟩
abbrev S1x1x1 : Shape := ⟨3, ![1, 1, 1]⟩
abbrev S16384x32 : Shape := ⟨2, ![16384, 32]⟩
abbrev S1x32 : Shape := ⟨2, ![1, 32]⟩
abbrev S16384x4x8 : Shape := ⟨3, ![16384, 4, 8]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S1x1x128 : Shape := ⟨3, ![1, 1, 128]⟩
abbrev S16384x2x128 : Shape := ⟨3, ![16384, 2, 128]⟩
abbrev S16384x128 : Shape := ⟨2, ![16384, 128]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S16384x768, .f32⟩
  | 2 => ⟨S16384x256, .f32⟩
  | 3 => ⟨S1024x1024, .f32⟩
  | 4 => ⟨S1024, .f32⟩
  | 5 => ⟨S1024x4, .f32⟩
  | 6 => ⟨S4, .f32⟩
  | 7 => ⟨S1024x32, .f32⟩
  | 8 => ⟨S32, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S16384x4, .f32⟩
  | 29 => ⟨S1x4, .f32⟩
  | 30 => ⟨S16384x4, .f32⟩
  | 31 => ⟨S16384x4, .f32⟩
  | 32 => ⟨S16384x1, .f32⟩
  | 33 => ⟨S16384x1, .i32⟩
  | 34 => ⟨S16384, .i32⟩
  | 35 => ⟨S_, .f32⟩
  | 36 => ⟨S16384, .f32⟩
  | 37 => ⟨S_, .f32⟩
  | 38 => ⟨S16384, .f32⟩
  | 39 => ⟨S16384, .f32⟩
  | 40 => ⟨S16384x1, .f32⟩
  | 41 => ⟨S16384x4, .f32⟩
  | 42 => ⟨S16384x4, .f32⟩
  | 43 => ⟨S16384x4, .f32⟩
  | 44 => ⟨S_, .f32⟩
  | 45 => ⟨S16384, .f32⟩
  | 46 => ⟨S16384x1, .f32⟩
  | 47 => ⟨S16384x4, .f32⟩
  | 48 => ⟨S16384x4, .f32⟩
  | 49 => ⟨S16384x1, .i32⟩
  | 50 => ⟨S_, .i32⟩
  | 51 => ⟨S16384x1, .i32⟩
  | 52 => ⟨S16384x1, .i1⟩
  | 53 => ⟨S_, .i32⟩
  | 54 => ⟨S16384x1, .i32⟩
  | 55 => ⟨S16384x1, .i32⟩
  | 56 => ⟨S16384x1, .i32⟩
  | 57 => ⟨S16384x1x1, .i32⟩
  | 58 => ⟨S1, .i32⟩
  | 59 => ⟨S_, .i32⟩
  | 60 => ⟨S16384x1x1, .i32⟩
  | 61 => ⟨S16384x1x1, .i1⟩
  | 62 => ⟨S1x1x1, .i32⟩
  | 63 => ⟨S16384x1x1, .i32⟩
  | 64 => ⟨S16384x1x1, .i1⟩
  | 65 => ⟨S16384x1x1, .i1⟩
  | 66 => ⟨S_, .i1⟩
  | 67 => ⟨S16384x1, .i1⟩
  | 68 => ⟨S16384x1, .f32⟩
  | 69 => ⟨S_, .f32⟩
  | 70 => ⟨S16384x1, .f32⟩
  | 71 => ⟨S16384x1, .f32⟩
  | 72 => ⟨S16384x32, .f32⟩
  | 73 => ⟨S1x32, .f32⟩
  | 74 => ⟨S16384x32, .f32⟩
  | 75 => ⟨S16384x32, .f32⟩
  | 76 => ⟨S16384x4x8, .f32⟩
  | 77 => ⟨S16384x1x1, .i32⟩
  | 78 => ⟨S_, .i32⟩
  | 79 => ⟨S16384x1x1, .i32⟩
  | 80 => ⟨S16384x1x1, .i1⟩
  | 81 => ⟨S_, .i32⟩
  | 82 => ⟨S16384x1x1, .i32⟩
  | 83 => ⟨S16384x1x1, .i32⟩
  | 84 => ⟨S16384x1x1, .i32⟩
  | 85 => ⟨S1, .i32⟩
  | 86 => ⟨S_, .i32⟩
  | 87 => ⟨S16384x1x1, .i32⟩
  | 88 => ⟨S16384x1x1, .i1⟩
  | 89 => ⟨S1x1x1, .i32⟩
  | 90 => ⟨S16384x1x1, .i32⟩
  | 91 => ⟨S16384x1x1, .i1⟩
  | 92 => ⟨S16384x1x1, .i1⟩
  | 93 => ⟨S_, .i1⟩
  | 94 => ⟨S16384x1, .i1⟩
  | 95 => ⟨S16384x1x8, .f32⟩
  | 96 => ⟨S16384x1x8, .i1⟩
  | 97 => ⟨S_, .f32⟩
  | 98 => ⟨S16384x1x8, .f32⟩
  | 99 => ⟨S16384x1x8, .f32⟩
  | 100 => ⟨S16384x8, .f32⟩
  | 101 => ⟨S16384x2, .f32⟩
  | 102 => ⟨S16384x2, .i32⟩
  | 103 => ⟨S_, .f32⟩
  | 104 => ⟨S16384, .f32⟩
  | 105 => ⟨S_, .f32⟩
  | 106 => ⟨S16384, .f32⟩
  | 107 => ⟨S16384, .f32⟩
  | 108 => ⟨S16384x1, .f32⟩
  | 109 => ⟨S16384x2, .f32⟩
  | 110 => ⟨S16384x2, .f32⟩
  | 111 => ⟨S16384x2, .f32⟩
  | 112 => ⟨S_, .f32⟩
  | 113 => ⟨S16384, .f32⟩
  | 114 => ⟨S16384x1, .f32⟩
  | 115 => ⟨S16384x2, .f32⟩
  | 116 => ⟨S16384x2, .f32⟩
  | 117 => ⟨S16384x2, .f32⟩
  | 118 => ⟨S16384x2, .f32⟩
  | 119 => ⟨S16384x1, .i32⟩
  | 120 => ⟨S_, .i32⟩
  | 121 => ⟨S16384x1, .i32⟩
  | 122 => ⟨S16384x1, .i32⟩
  | 123 => ⟨S16384x2, .i32⟩
  | 124 => ⟨S16384x2, .i32⟩
  | 125 => ⟨S16384x2x1, .i32⟩
  | 126 => ⟨S1x1x128, .i32⟩
  | 127 => ⟨S16384x2x128, .i32⟩
  | _ => ⟨S16384x1024, .f32⟩

abbrev hbmTy0_1 (i : Nat) : BufTy := match i % 128 with
  | 0 => ⟨S16384x2x128, .i32⟩
  | 1 => ⟨S16384x2x128, .i1⟩
  | 2 => ⟨S16384x2x128, .f32⟩
  | 3 => ⟨S16384x2x1, .f32⟩
  | 4 => ⟨S16384x2x128, .f32⟩
  | 5 => ⟨S16384x2x128, .f32⟩
  | 6 => ⟨S_, .f32⟩
  | 7 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_values : Ref sig .tc := ⟨.hbm, 32, rfl⟩
abbrev main_indices : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_cst : Ref sig .tc := ⟨.hbm, 69, rfl⟩
abbrev main_call0_v14 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_1 : Ref sig .tc := ⟨.hbm, 85, rfl⟩
abbrev main_call1_c_2 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_c_3 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_cst : Ref sig .tc := ⟨.hbm, 97, rfl⟩
abbrev main_call1_v14 : Ref sig .tc := ⟨.hbm, 98, rfl⟩
abbrev main_v40 : Ref sig .tc := ⟨.hbm, 99, rfl⟩
abbrev main_v41 : Ref sig .tc := ⟨.hbm, 100, rfl⟩
abbrev main_values_5 : Ref sig .tc := ⟨.hbm, 101, rfl⟩
abbrev main_indices_6 : Ref sig .tc := ⟨.hbm, 102, rfl⟩
abbrev main_cst_7 : Ref sig .tc := ⟨.hbm, 103, rfl⟩
abbrev main_v42 : Ref sig .tc := ⟨.hbm, 104, rfl⟩
abbrev main_cst_8 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_9 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_c : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_10 : Ref sig .tc := ⟨.hbm, 134, rfl⟩
abbrev main_v64 : Ref sig .tc := ⟨.hbm, 135, rfl⟩

abbrev nD : Nat := 1
abbrev τ : Topo := Topo.v7x

variable {F : FTy → Type} [FloatOps F]
-- ==== Input.lean ====
abbrev S8x2048x1024 : Shape := ⟨3, ![8, 2048, 1024]⟩
abbrev S2x1024 : Shape := ⟨2, ![2, 1024]⟩
abbrev S1x1024x2212 : Shape := ⟨3, ![1, 1024, 2212]⟩
abbrev S1x64 : Shape := ⟨2, ![1, 64]⟩
abbrev S1x3x64 : Shape := ⟨3, ![1, 3, 64]⟩
abbrev S16384x1024 : Shape := ⟨2, ![16384, 1024]⟩
abbrev S1x1024 : Shape := ⟨2, ![1, 1024]⟩
abbrev S1024 : Shape := ⟨1, ![1024]⟩
abbrev S1024x2212 : Shape := ⟨2, ![1024, 2212]⟩
abbrev S1024x768 : Shape := ⟨2, ![1024, 768]⟩
abbrev S1024x192 : Shape := ⟨2, ![1024, 192]⟩
abbrev S1024x36 : Shape := ⟨2, ![1024, 36]⟩
abbrev S1024x256 : Shape := ⟨2, ![1024, 256]⟩
abbrev S_ : Shape := ⟨0, ![]⟩
abbrev S1024x128 : Shape := ⟨2, ![1024, 128]⟩
abbrev S64 : Shape := ⟨1, ![64]⟩
abbrev S1x1x64 : Shape := ⟨3, ![1, 1, 64]⟩
abbrev S2x64 : Shape := ⟨2, ![2, 64]⟩
abbrev S128 : Shape := ⟨1, ![128]⟩
abbrev S1x128 : Shape := ⟨2, ![1, 128]⟩
abbrev S16384x768 : Shape := ⟨2, ![16384, 768]⟩
abbrev S16384x192 : Shape := ⟨2, ![16384, 192]⟩
abbrev S16384x128 : Shape := ⟨2, ![16384, 128]⟩
abbrev S16384x256 : Shape := ⟨2, ![16384, 256]⟩
abbrev S1024x1024 : Shape := ⟨2, ![1024, 1024]⟩
abbrev S1024x1 : Shape := ⟨2, ![1024, 1]⟩
abbrev S1024x64 : Shape := ⟨2, ![1024, 64]⟩

abbrev nBuf : Space → Nat
  | .hbm => 57
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2212, .f32⟩
  | .hbm, ⟨3, _⟩ => ⟨S1x64, .f32⟩
  | .hbm, ⟨4, _⟩ => ⟨S1x3x64, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1024x2212, .f32⟩
  | .hbm, ⟨9, _⟩ => ⟨S1024x768, .f32⟩
  | .hbm, ⟨10, _⟩ => ⟨S1024x192, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S1024x192, .f32⟩
  | .hbm, ⟨16, _⟩ => ⟨S1024x36, .f32⟩
  | .hbm, ⟨17, _⟩ => ⟨S1024x256, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S64, .f32⟩
  | .hbm, ⟨22, _⟩ => ⟨S1x1x64, .f32⟩
  | .hbm, ⟨23, _⟩ => ⟨S64, .f32⟩
  | .hbm, ⟨24, _⟩ => ⟨S1x1x64, .f32⟩
  | .hbm, ⟨25, _⟩ => ⟨S64, .f32⟩
  | .hbm, ⟨26, _⟩ => ⟨S1x1024, .f32⟩
  | .hbm, ⟨27, _⟩ => ⟨S1024x768, .bf16⟩
  | .hbm, ⟨28, _⟩ => ⟨S1024x192, .bf16⟩
  | .hbm, ⟨29, _⟩ => ⟨S1024x192, .bf16⟩
  | .hbm, ⟨30, _⟩ => ⟨S1024x192, .bf16⟩
  | .hbm, ⟨31, _⟩ => ⟨S1024x192, .bf16⟩
  | .hbm, ⟨32, _⟩ => ⟨S1024x192, .bf16⟩
  | .hbm, ⟨33, _⟩ => ⟨S1024x192, .bf16⟩
  | .hbm, ⟨34, _⟩ => ⟨S1024x128, .bf16⟩
  | .hbm, ⟨35, _⟩ => ⟨S1024x256, .bf16⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S16384x768, .f32⟩
  | .hbm, ⟨49, _⟩ => ⟨S16384x192, .f32⟩
  | .hbm, ⟨50, _⟩ => ⟨S16384x192, .f32⟩
  | .hbm, ⟨51, _⟩ => ⟨S16384x192, .f32⟩
  | .hbm, ⟨52, _⟩ => ⟨S16384x192, .f32⟩
  | .hbm, ⟨53, _⟩ => ⟨S16384x192, .f32⟩
  | .hbm, ⟨54, _⟩ => ⟨S16384x192, .f32⟩
  | .hbm, ⟨55, _⟩ => ⟨S16384x128, .f32⟩
  | .hbm, ⟨56, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x192, .bf16⟩
  | .local _ .vmem, ⟨5, _⟩ => ⟨S1024x192, .bf16⟩
  | .local _ .vmem, ⟨6, _⟩ => ⟨S1024x192, .bf16⟩
  | .local _ .vmem, ⟨7, _⟩ => ⟨S1024x192, .bf16⟩
  | .local _ .vmem, ⟨8, _⟩ => ⟨S1024x192, .bf16⟩
  | .local _ .vmem, ⟨9, _⟩ => ⟨S1024x192, .bf16⟩
  | .local _ .vmem, ⟨10, _⟩ => ⟨S1024x128, .bf16⟩
  | .local _ .vmem, ⟨11, _⟩ => ⟨S1024x256, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1024x768, .f32⟩
  | .local _ .vmem, ⟨16, _⟩ => ⟨S1024x768, .f32⟩
  | .local _ .vmem, ⟨17, _⟩ => ⟨S1024x192, .f32⟩
  | .local _ .vmem, ⟨18, _⟩ => ⟨S1024x192, .f32⟩
  | .local _ .vmem, ⟨19, _⟩ => ⟨S1024x192, .f32⟩
  | .local _ .vmem, ⟨20, _⟩ => ⟨S1024x192, .f32⟩
  | .local _ .vmem, ⟨21, _⟩ => ⟨S1024x192, .f32⟩
  | .local _ .vmem, ⟨22, _⟩ => ⟨S1024x192, .f32⟩
  | .local _ .vmem, ⟨23, _⟩ => ⟨S1024x192, .f32⟩
  | .local _ .vmem, ⟨24, _⟩ => ⟨S1024x192, .f32⟩
  | .local _ .vmem, ⟨25, _⟩ => ⟨S1024x192, .f32⟩
  | .local _ .vmem, ⟨26, _⟩ => ⟨S1024x192, .f32⟩
  | .local _ .vmem, ⟨27, _⟩ => ⟨S1024x192, .f32⟩
  | .local _ .vmem, ⟨28, _⟩ => ⟨S1024x192, .f32⟩
  | .local _ .vmem, ⟨29, _⟩ => ⟨S1024x128, .f32⟩
  | .local _ .vmem, ⟨30, _⟩ => ⟨S1024x128, .f32⟩
  | .local _ .vmem, ⟨31, _⟩ => ⟨S1024x256, .f32⟩
  | .local _ .vmem, ⟨32, _⟩ => ⟨S1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_v41_7 : Ref sig .tc := ⟨.hbm, 55, rfl⟩
abbrev main_v41_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x192 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InputIdeal.lean ====
abbrev S8x2048x1024 : Shape := ⟨3, ![8, 2048, 1024]⟩
abbrev S2x1024 : Shape := ⟨2, ![2, 1024]⟩
abbrev S1x1024x2212 : Shape := ⟨3, ![1, 1024, 2212]⟩
abbrev S1x64 : Shape := ⟨2, ![1, 64]⟩
abbrev S1x3x64 : Shape := ⟨3, ![1, 3, 64]⟩
abbrev S16384x1024 : Shape := ⟨2, ![16384, 1024]⟩
abbrev S1x1024 : Shape := ⟨2, ![1, 1024]⟩
abbrev S1024 : Shape := ⟨1, ![1024]⟩
abbrev S1024x2212 : Shape := ⟨2, ![1024, 2212]⟩
abbrev S1024x768 : Shape := ⟨2, ![1024, 768]⟩
abbrev S1024x192 : Shape := ⟨2, ![1024, 192]⟩
abbrev S1024x36 : Shape := ⟨2, ![1024, 36]⟩
abbrev S1024x256 : Shape := ⟨2, ![1024, 256]⟩
abbrev S_ : Shape := ⟨0, ![]⟩
abbrev S1024x128 : Shape := ⟨2, ![1024, 128]⟩
abbrev S64 : Shape := ⟨1, ![64]⟩
abbrev S1x1x64 : Shape := ⟨3, ![1, 1, 64]⟩
abbrev S2x64 : Shape := ⟨2, ![2, 64]⟩
abbrev S128 : Shape := ⟨1, ![128]⟩
abbrev S1x128 : Shape := ⟨2, ![1, 128]⟩
abbrev S16384x768 : Shape := ⟨2, ![16384, 768]⟩
abbrev S16384x192 : Shape := ⟨2, ![16384, 192]⟩
abbrev S16384x128 : Shape := ⟨2, ![16384, 128]⟩
abbrev S16384x256 : Shape := ⟨2, ![16384, 256]⟩
abbrev S1024x1024 : Shape := ⟨2, ![1024, 1024]⟩
abbrev S1024x1 : Shape := ⟨2, ![1024, 1]⟩
abbrev S1024x64 : Shape := ⟨2, ![1024, 64]⟩

abbrev nBuf : Space → Nat
  | .hbm => 57
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2212, .f32⟩
  | .hbm, ⟨3, _⟩ => ⟨S1x64, .f32⟩
  | .hbm, ⟨4, _⟩ => ⟨S1x3x64, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1024x2212, .f32⟩
  | .hbm, ⟨9, _⟩ => ⟨S1024x768, .f32⟩
  | .hbm, ⟨10, _⟩ => ⟨S1024x192, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S1024x192, .f32⟩
  | .hbm, ⟨16, _⟩ => ⟨S1024x36, .f32⟩
  | .hbm, ⟨17, _⟩ => ⟨S1024x256, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S64, .f32⟩
  | .hbm, ⟨22, _⟩ => ⟨S1x1x64, .f32⟩
  | .hbm, ⟨23, _⟩ => ⟨S64, .f32⟩
  | .hbm, ⟨24, _⟩ => ⟨S1x1x64, .f32⟩
  | .hbm, ⟨25, _⟩ => ⟨S64, .f32⟩
  | .hbm, ⟨26, _⟩ => ⟨S1x1024, .f32⟩
  | .hbm, ⟨27, _⟩ => ⟨S1024x768, .bf16⟩
  | .hbm, ⟨28, _⟩ => ⟨S1024x192, .bf16⟩
  | .hbm, ⟨29, _⟩ => ⟨S1024x192, .bf16⟩
  | .hbm, ⟨30, _⟩ => ⟨S1024x192, .bf16⟩
  | .hbm, ⟨31, _⟩ => ⟨S1024x192, .bf16⟩
  | .hbm, ⟨32, _⟩ => ⟨S1024x192, .bf16⟩
  | .hbm, ⟨33, _⟩ => ⟨S1024x192, .bf16⟩
  | .hbm, ⟨34, _⟩ => ⟨S1024x128, .bf16⟩
  | .hbm, ⟨35, _⟩ => ⟨S1024x256, .bf16⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S16384x768, .f32⟩
  | .hbm, ⟨49, _⟩ => ⟨S16384x192, .f32⟩
  | .hbm, ⟨50, _⟩ => ⟨S16384x192, .f32⟩
  | .hbm, ⟨51, _⟩ => ⟨S16384x192, .f32⟩
  | .hbm, ⟨52, _⟩ => ⟨S16384x192, .f32⟩
  | .hbm, ⟨53, _⟩ => ⟨S16384x192, .f32⟩
  | .hbm, ⟨54, _⟩ => ⟨S16384x192, .f32⟩
  | .hbm, ⟨55, _⟩ => ⟨S16384x128, .f32⟩
  | .hbm, ⟨56, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x192, .bf16⟩
  | .local _ .vmem, ⟨5, _⟩ => ⟨S1024x192, .bf16⟩
  | .local _ .vmem, ⟨6, _⟩ => ⟨S1024x192, .bf16⟩
  | .local _ .vmem, ⟨7, _⟩ => ⟨S1024x192, .bf16⟩
  | .local _ .vmem, ⟨8, _⟩ => ⟨S1024x192, .bf16⟩
  | .local _ .vmem, ⟨9, _⟩ => ⟨S1024x192, .bf16⟩
  | .local _ .vmem, ⟨10, _⟩ => ⟨S1024x128, .bf16⟩
  | .local _ .vmem, ⟨11, _⟩ => ⟨S1024x256, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1024x768, .f32⟩
  | .local _ .vmem, ⟨16, _⟩ => ⟨S1024x768, .f32⟩
  | .local _ .vmem, ⟨17, _⟩ => ⟨S1024x192, .f32⟩
  | .local _ .vmem, ⟨18, _⟩ => ⟨S1024x192, .f32⟩
  | .local _ .vmem, ⟨19, _⟩ => ⟨S1024x192, .f32⟩
  | .local _ .vmem, ⟨20, _⟩ => ⟨S1024x192, .f32⟩
  | .local _ .vmem, ⟨21, _⟩ => ⟨S1024x192, .f32⟩
  | .local _ .vmem, ⟨22, _⟩ => ⟨S1024x192, .f32⟩
  | .local _ .vmem, ⟨23, _⟩ => ⟨S1024x192, .f32⟩
  | .local _ .vmem, ⟨24, _⟩ => ⟨S1024x192, .f32⟩
  | .local _ .vmem, ⟨25, _⟩ => ⟨S1024x192, .f32⟩
  | .local _ .vmem, ⟨26, _⟩ => ⟨S1024x192, .f32⟩
  | .local _ .vmem, ⟨27, _⟩ => ⟨S1024x192, .f32⟩
  | .local _ .vmem, ⟨28, _⟩ => ⟨S1024x192, .f32⟩
  | .local _ .vmem, ⟨29, _⟩ => ⟨S1024x128, .f32⟩
  | .local _ .vmem, ⟨30, _⟩ => ⟨S1024x128, .f32⟩
  | .local _ .vmem, ⟨31, _⟩ => ⟨S1024x256, .f32⟩
  | .local _ .vmem, ⟨32, _⟩ => ⟨S1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_v41_7 : Ref sig .tc := ⟨.hbm, 55, rfl⟩
abbrev main_v41_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x192 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InputRefIdeal.lean ====
abbrev S8x2048x1024 : Shape := ⟨3, ![8, 2048, 1024]⟩
abbrev S2x1024 : Shape := ⟨2, ![2, 1024]⟩
abbrev S1x1024x2212 : Shape := ⟨3, ![1, 1024, 2212]⟩
abbrev S1x64 : Shape := ⟨2, ![1, 64]⟩
abbrev S1x3x64 : Shape := ⟨3, ![1, 3, 64]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2212 : Shape := ⟨2, ![1024, 2212]⟩
abbrev S8x2048x2212 : Shape := ⟨3, ![8, 2048, 2212]⟩
abbrev S8x2048x768 : Shape := ⟨3, ![8, 2048, 768]⟩
abbrev S8x2048x192 : Shape := ⟨3, ![8, 2048, 192]⟩
abbrev S8x2048x36 : Shape := ⟨3, ![8, 2048, 36]⟩
abbrev S8x2048x256 : Shape := ⟨3, ![8, 2048, 256]⟩
abbrev S8x2048x12x64 : Shape := ⟨4, ![8, 2048, 12, 64]⟩
abbrev S64 : Shape := ⟨1, ![64]⟩
abbrev S8x2048x12 : Shape := ⟨3, ![8, 2048, 12]⟩
abbrev S8x2048x12x1 : Shape := ⟨4, ![8, 2048, 12, 1]⟩
abbrev S1x1x1x64 : Shape := ⟨4, ![1, 1, 1, 64]⟩
abbrev S16384x768 : Shape := ⟨2, ![16384, 768]⟩
abbrev S16384x192 : Shape := ⟨2, ![16384, 192]⟩
abbrev S8x2048x3x64 : Shape := ⟨4, ![8, 2048, 3, 64]⟩
abbrev S1x1x64 : Shape := ⟨3, ![1, 1, 64]⟩
abbrev S8x2048x3 : Shape := ⟨3, ![8, 2048, 3]⟩
abbrev S8x2048x3x1 : Shape := ⟨4, ![8, 2048, 3, 1]⟩
abbrev S16384x36 : Shape := ⟨2, ![16384, 36]⟩
abbrev S16384x128 : Shape := ⟨2, ![16384, 128]⟩
abbrev S16384x256 : Shape := ⟨2, ![16384, 256]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2212, .f32⟩
  | .hbm, ⟨3, _⟩ => ⟨S1x64, .f32⟩
  | .hbm, ⟨4, _⟩ => ⟨S1x3x64, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2212, .f32⟩
  | .hbm, ⟨24, _⟩ => ⟨S8x2048x2212, .f32⟩
  | .hbm, ⟨25, _⟩ => ⟨S8x2048x768, .f32⟩
  | .hbm, ⟨26, _⟩ => ⟨S8x2048x192, .f32⟩
  | .hbm, ⟨27, _⟩ => ⟨S8x2048x192, .f32⟩
  | .hbm, ⟨28, _⟩ => ⟨S8x2048x192, .f32⟩
  | .hbm, ⟨29, _⟩ => ⟨S8x2048x192, .f32⟩
  | .hbm, ⟨30, _⟩ => ⟨S8x2048x192, .f32⟩
  | .hbm, ⟨31, _⟩ => ⟨S8x2048x192, .f32⟩
  | .hbm, ⟨32, _⟩ => ⟨S8x2048x36, .f32⟩
  | .hbm, ⟨33, _⟩ => ⟨S8x2048x256, .f32⟩
  | .hbm, ⟨34, _⟩ => ⟨S8x2048x12x64, .f32⟩
  | .hbm, ⟨35, _⟩ => ⟨S64, .f32⟩
  | .hbm, ⟨36, _⟩ => ⟨S8x2048x12x64, .f32⟩
  | .hbm, ⟨37, _⟩ => ⟨S_, .f32⟩
  | .hbm, ⟨38, _⟩ => ⟨S8x2048x12, .f32⟩
  | .hbm, ⟨39, _⟩ => ⟨S8x2048x12x1, .f32⟩
  | .hbm, ⟨40, _⟩ => ⟨S_, .f32⟩
  | .hbm, ⟨41, _⟩ => ⟨S8x2048x12x1, .f32⟩
  | .hbm, ⟨42, _⟩ => ⟨S8x2048x12x1, .f32⟩
  | .hbm, ⟨43, _⟩ => ⟨S_, .f32⟩
  | .hbm, ⟨44, _⟩ => ⟨S8x2048x12x1, .f32⟩
  | .hbm, ⟨45, _⟩ => ⟨S8x2048x12x1, .f32⟩
  | .hbm, ⟨46, _⟩ => ⟨S8x2048x12x1, .f32⟩
  | .hbm, ⟨47, _⟩ => ⟨S8x2048x12x64, .f32⟩
  | .hbm, ⟨48, _⟩ => ⟨S8x2048x12x64, .f32⟩
  | .hbm, ⟨49, _⟩ => ⟨S1x1x1x64, .f32⟩
  | .hbm, ⟨50, _⟩ => ⟨S8x2048x12x64, .f32⟩
  | .hbm, ⟨51, _⟩ => ⟨S8x2048x12x64, .f32⟩
  | .hbm, ⟨52, _⟩ => ⟨S16384x768, .f32⟩
  | .hbm, ⟨53, _⟩ => ⟨S16384x192, .f32⟩
  | .hbm, ⟨54, _⟩ => ⟨S16384x192, .f32⟩
  | .hbm, ⟨55, _⟩ => ⟨S8x2048x3x64, .f32⟩
  | .hbm, ⟨56, _⟩ => ⟨S1x1x64, .f32⟩
  | .hbm, ⟨57, _⟩ => ⟨S64, .f32⟩
  | .hbm, ⟨58, _⟩ => ⟨S8x2048x3x64, .f32⟩
  | .hbm, ⟨59, _⟩ => ⟨S_, .f32⟩
  | .hbm, ⟨60, _⟩ => ⟨S8x2048x3, .f32⟩
  | .hbm, ⟨61, _⟩ => ⟨S8x2048x3x1, .f32⟩
  | .hbm, ⟨62, _⟩ => ⟨S_, .f32⟩
  | .hbm, ⟨63, _⟩ => ⟨S8x2048x3x1, .f32⟩
  | .hbm, ⟨64, _⟩ => ⟨S8x2048x3x1, .f32⟩
  | .hbm, ⟨65, _⟩ => ⟨S_, .f32⟩
  | .hbm, ⟨66, _⟩ => ⟨S8x2048x3x1, .f32⟩
  | .hbm, ⟨67, _⟩ => ⟨S8x2048x3x1, .f32⟩
  | .hbm, ⟨68, _⟩ => ⟨S8x2048x3x1, .f32⟩
  | .hbm, ⟨69, _⟩ => ⟨S8x2048x3x64, .f32⟩
  | .hbm, ⟨70, _⟩ => ⟨S8x2048x3x64, .f32⟩
  | .hbm, ⟨71, _⟩ => ⟨S1x1x1x64, .f32⟩
  | .hbm, ⟨72, _⟩ => ⟨S8x2048x3x64, .f32⟩
  | .hbm, ⟨73, _⟩ => ⟨S8x2048x3x64, .f32⟩
  | .hbm, ⟨74, _⟩ => ⟨S16384x192, .f32⟩
  | .hbm, ⟨75, _⟩ => ⟨S16384x192, .f32⟩
  | .hbm, ⟨76, _⟩ => ⟨S8x2048x3x64, .f32⟩
  | .hbm, ⟨77, _⟩ => ⟨S1x1x64, .f32⟩
  | .hbm, ⟨78, _⟩ => ⟨S64, .f32⟩
  | .hbm, ⟨79, _⟩ => ⟨S8x2048x3x64, .f32⟩
  | .hbm, ⟨80, _⟩ => ⟨S_, .f32⟩
  | .hbm, ⟨81, _⟩ => ⟨S8x2048x3, .f32⟩
  | .hbm, ⟨82, _⟩ => ⟨S8x2048x3x1, .f32⟩
  | .hbm, ⟨83, _⟩ => ⟨S_, .f32⟩
  | .hbm, ⟨84, _⟩ => ⟨S8x2048x3x1, .f32⟩
  | .hbm, ⟨85, _⟩ => ⟨S8x2048x3x1, .f32⟩
  | .hbm, ⟨86, _⟩ => ⟨S_, .f32⟩
  | .hbm, ⟨87, _⟩ => ⟨S8x2048x3x1, .f32⟩
  | .hbm, ⟨88, _⟩ => ⟨S8x2048x3x1, .f32⟩
  | .hbm, ⟨89, _⟩ => ⟨S8x2048x3x1, .f32⟩
  | .hbm, ⟨90, _⟩ => ⟨S8x2048x3x64, .f32⟩
  | .hbm, ⟨91, _⟩ => ⟨S8x2048x3x64, .f32⟩
  | .hbm, ⟨92, _⟩ => ⟨S1x1x1x64, .f32⟩
  | .hbm, ⟨93, _⟩ => ⟨S8x2048x3x64, .f32⟩
  | .hbm, ⟨94, _⟩ => ⟨S8x2048x3x64, .f32⟩
  | .hbm, ⟨95, _⟩ => ⟨S16384x192, .f32⟩
  | .hbm, ⟨96, _⟩ => ⟨S16384x192, .f32⟩
  | .hbm, ⟨97, _⟩ => ⟨S16384x36, .f32⟩
  | .hbm, ⟨98, _⟩ => ⟨S_, .i32⟩
  | .hbm, ⟨99, _⟩ => ⟨S_, .f32⟩
  | .hbm, ⟨100, _⟩ => ⟨S16384x128, .f32⟩
  | .hbm, ⟨101, _⟩ => ⟨S16384x128, .f32⟩
  | .hbm, ⟨102, _⟩ => ⟨S16384x128, .f32⟩
  | .hbm, ⟨103, _⟩ => ⟨S_, .f32⟩
  | .hbm, ⟨104, _⟩ => ⟨S16384x128, .f32⟩
  | .hbm, ⟨105, _⟩ => ⟨S16384x128, .f32⟩
  | .hbm, ⟨106, _⟩ => ⟨S_, .f32⟩
  | .hbm, ⟨107, _⟩ => ⟨S16384x128, .f32⟩
  | .hbm, ⟨108, _⟩ => ⟨S16384x128, .f32⟩
  | .hbm, ⟨109, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c : Ref sig .tc := ⟨.hbm, 98, rfl⟩
abbrev main_call0_v0 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Sample.lean ====
abbrev S32x1x1024 : Shape := ⟨3, ![32, 1, 1024]⟩
abbrev S2x1024 : Shape := ⟨2, ![2, 1024]⟩
abbrev S1x1024x2212 : Shape := ⟨3, ![1, 1024, 2212]⟩
abbrev S1x64 : Shape := ⟨2, ![1, 64]⟩
abbrev S1x3x64 : Shape := ⟨3, ![1, 3, 64]⟩
abbrev S32x1024 : Shape := ⟨2, ![32, 1024]⟩
abbrev S1x1024 : Shape := ⟨2, ![1, 1024]⟩
abbrev S1024 : Shape := ⟨1, ![1024]⟩
abbrev S1024x2212 : Shape := ⟨2, ![1024, 2212]⟩
abbrev S1024x768 : Shape := ⟨2, ![1024, 768]⟩
abbrev S1024x192 : Shape := ⟨2, ![1024, 192]⟩
abbrev S1024x36 : Shape := ⟨2, ![1024, 36]⟩
abbrev S1024x256 : Shape := ⟨2, ![1024, 256]⟩
abbrev S_ : Shape := ⟨0, ![]⟩
abbrev S1024x128 : Shape := ⟨2, ![1024, 128]⟩
abbrev S64 : Shape := ⟨1, ![64]⟩
abbrev S1x1x64 : Shape := ⟨3, ![1, 1, 64]⟩
abbrev S2x64 : Shape := ⟨2, ![2, 64]⟩
abbrev S128 : Shape := ⟨1, ![128]⟩
abbrev S1x128 : Shape := ⟨2, ![1, 128]⟩
abbrev S32x768 : Shape := ⟨2, ![32, 768]⟩
abbrev S32x192 : Shape := ⟨2, ![32, 192]⟩
abbrev S32x128 : Shape := ⟨2, ![32, 128]⟩
abbrev S32x256 : Shape := ⟨2, ![32, 256]⟩
abbrev S32 : Shape := ⟨1, ![32]⟩
abbrev S32x1 : Shape := ⟨2, ![32, 1]⟩
abbrev S32x64 : Shape := ⟨2, ![32, 64]⟩

abbrev nBuf : Space → Nat
  | .hbm => 57
  | .vmem => 23
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2212, .f32⟩
  | .hbm, ⟨3, _⟩ => ⟨S1x64, .f32⟩
  | .hbm, ⟨4, _⟩ => ⟨S1x3x64, .f32⟩
  | .hbm, ⟨5, _⟩ => ⟨S32x1024, .f32⟩
  | .hbm, ⟨6, _⟩ => ⟨S1x1024, .f32⟩
  | .hbm, ⟨7, _⟩ => ⟨S1024, .f32⟩
  | .hbm, ⟨8, _⟩ => ⟨S1024x2212, .f32⟩
  | .hbm, ⟨9, _⟩ => ⟨S1024x768, .f32⟩
  | .hbm, ⟨10, _⟩ => ⟨S1024x192, .f32⟩
  | .hbm, ⟨11, _⟩ => ⟨S1024x192, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S1024x192, .f32⟩
  | .hbm, ⟨16, _⟩ => ⟨S1024x36, .f32⟩
  | .hbm, ⟨17, _⟩ => ⟨S1024x256, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S64, .f32⟩
  | .hbm, ⟨22, _⟩ => ⟨S1x1x64, .f32⟩
  | .hbm, ⟨23, _⟩ => ⟨S64, .f32⟩
  | .hbm, ⟨24, _⟩ => ⟨S1x1x64, .f32⟩
  | .hbm, ⟨25, _⟩ => ⟨S64, .f32⟩
  | .hbm, ⟨26, _⟩ => ⟨S1x1024, .f32⟩
  | .hbm, ⟨27, _⟩ => ⟨S1024x768, .bf16⟩
  | .hbm, ⟨28, _⟩ => ⟨S1024x192, .bf16⟩
  | .hbm, ⟨29, _⟩ => ⟨S1024x192, .bf16⟩
  | .hbm, ⟨30, _⟩ => ⟨S1024x192, .bf16⟩
  | .hbm, ⟨31, _⟩ => ⟨S1024x192, .bf16⟩
  | .hbm, ⟨32, _⟩ => ⟨S1024x192, .bf16⟩
  | .hbm, ⟨33, _⟩ => ⟨S1024x192, .bf16⟩
  | .hbm, ⟨34, _⟩ => ⟨S1024x128, .bf16⟩
  | .hbm, ⟨35, _⟩ => ⟨S1024x256, .bf16⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S32x768, .f32⟩
  | .hbm, ⟨49, _⟩ => ⟨S32x192, .f32⟩
  | .hbm, ⟨50, _⟩ => ⟨S32x192, .f32⟩
  | .hbm, ⟨51, _⟩ => ⟨S32x192, .f32⟩
  | .hbm, ⟨52, _⟩ => ⟨S32x192, .f32⟩
  | .hbm, ⟨53, _⟩ => ⟨S32x192, .f32⟩
  | .hbm, ⟨54, _⟩ => ⟨S32x192, .f32⟩
  | .hbm, ⟨55, _⟩ => ⟨S32x128, .f32⟩
  | .hbm, ⟨56, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x768, .bf16⟩
  | .local _ .vmem, ⟨3, _⟩ => ⟨S1024x192, .bf16⟩
  | .local _ .vmem, ⟨4, _⟩ => ⟨S1024x192, .bf16⟩
  | .local _ .vmem, ⟨5, _⟩ => ⟨S1024x192, .bf16⟩
  | .local _ .vmem, ⟨6, _⟩ => ⟨S1024x192, .bf16⟩
  | .local _ .vmem, ⟨7, _⟩ => ⟨S1024x192, .bf16⟩
  | .local _ .vmem, ⟨8, _⟩ => ⟨S1024x192, .bf16⟩
  | .local _ .vmem, ⟨9, _⟩ => ⟨S1024x128, .bf16⟩
  | .local _ .vmem, ⟨10, _⟩ => ⟨S1024x256, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S32x768, .f32⟩
  | .local _ .vmem, ⟨15, _⟩ => ⟨S32x192, .f32⟩
  | .local _ .vmem, ⟨16, _⟩ => ⟨S32x192, .f32⟩
  | .local _ .vmem, ⟨17, _⟩ => ⟨S32x192, .f32⟩
  | .local _ .vmem, ⟨18, _⟩ => ⟨S32x192, .f32⟩
  | .local _ .vmem, ⟨19, _⟩ => ⟨S32x192, .f32⟩
  | .local _ .vmem, ⟨20, _⟩ => ⟨S32x192, .f32⟩
  | .local _ .vmem, ⟨21, _⟩ => ⟨S32x128, .f32⟩
  | .local _ .vmem, ⟨22, _⟩ => ⟨S32x256, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_v41_7 : Ref sig .tc := ⟨.hbm, 55, rfl⟩
abbrev main_v41_8 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x192 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S32x192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S32x192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S32x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== SampleRefIdeal.lean ====
abbrev S32x1x1024 : Shape := ⟨3, ![32, 1, 1024]⟩
abbrev S2x1024 : Shape := ⟨2, ![2, 1024]⟩
abbrev S1x1024x2212 : Shape := ⟨3, ![1, 1024, 2212]⟩
abbrev S1x64 : Shape := ⟨2, ![1, 64]⟩
abbrev S1x3x64 : Shape := ⟨3, ![1, 3, 64]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2212 : Shape := ⟨2, ![1024, 2212]⟩
abbrev S32x1x2212 : Shape := ⟨3, ![32, 1, 2212]⟩
abbrev S32x1x768 : Shape := ⟨3, ![32, 1, 768]⟩
abbrev S32x1x192 : Shape := ⟨3, ![32, 1, 192]⟩
abbrev S32x1x36 : Shape := ⟨3, ![32, 1, 36]⟩
abbrev S32x1x256 : Shape := ⟨3, ![32, 1, 256]⟩
abbrev S32x1x12x64 : Shape := ⟨4, ![32, 1, 12, 64]⟩
abbrev S64 : Shape := ⟨1, ![64]⟩
abbrev S32x1x12 : Shape := ⟨3, ![32, 1, 12]⟩
abbrev S32x1x12x1 : Shape := ⟨4, ![32, 1, 12, 1]⟩
abbrev S1x1x1x64 : Shape := ⟨4, ![1, 1, 1, 64]⟩
abbrev S32x768 : Shape := ⟨2, ![32, 768]⟩
abbrev S32x192 : Shape := ⟨2, ![32, 192]⟩
abbrev S32x1x3x64 : Shape := ⟨4, ![32, 1, 3, 64]⟩
abbrev S1x1x64 : Shape := ⟨3, ![1, 1, 64]⟩
abbrev S32x1x3 : Shape := ⟨3, ![32, 1, 3]⟩
abbrev S32x1x3x1 : Shape := ⟨4, ![32, 1, 3, 1]⟩
abbrev S32x36 : Shape := ⟨2, ![32, 36]⟩
abbrev S32x128 : Shape := ⟨2, ![32, 128]⟩
abbrev S32x256 : Shape := ⟨2, ![32, 256]⟩

abbrev nBuf : Space → Nat
  | .hbm => 110
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S2x1024, .f32⟩
  | .hbm, ⟨2, _⟩ => ⟨S1x1024x2212, .f32⟩
  | .hbm, ⟨3, _⟩ => ⟨S1x64, .f32⟩
  | .hbm, ⟨4, _⟩ => ⟨S1x3x64, .f32⟩
  | .hbm, ⟨5, _⟩ => ⟨S1x1024, .f32⟩
  | .hbm, ⟨6, _⟩ => ⟨S1024, .f32⟩
  | .hbm, ⟨7, _⟩ => ⟨S32x1x1024, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x1024, .f32⟩
  | .hbm, ⟨19, _⟩ => ⟨S32x1x1024, .f32⟩
  | .hbm, ⟨20, _⟩ => ⟨S1x1x1024, .f32⟩
  | .hbm, ⟨21, _⟩ => ⟨S32x1x1024, .f32⟩
  | .hbm, ⟨22, _⟩ => ⟨S32x1x1024, .f32⟩
  | .hbm, ⟨23, _⟩ => ⟨S1024x2212, .f32⟩
  | .hbm, ⟨24, _⟩ => ⟨S32x1x2212, .f32⟩
  | .hbm, ⟨25, _⟩ => ⟨S32x1x768, .f32⟩
  | .hbm, ⟨26, _⟩ => ⟨S32x1x192, .f32⟩
  | .hbm, ⟨27, _⟩ => ⟨S32x1x192, .f32⟩
  | .hbm, ⟨28, _⟩ => ⟨S32x1x192, .f32⟩
  | .hbm, ⟨29, _⟩ => ⟨S32x1x192, .f32⟩
  | .hbm, ⟨30, _⟩ => ⟨S32x1x192, .f32⟩
  | .hbm, ⟨31, _⟩ => ⟨S32x1x192, .f32⟩
  | .hbm, ⟨32, _⟩ => ⟨S32x1x36, .f32⟩
  | .hbm, ⟨33, _⟩ => ⟨S32x1x256, .f32⟩
  | .hbm, ⟨34, _⟩ => ⟨S32x1x12x64, .f32⟩
  | .hbm, ⟨35, _⟩ => ⟨S64, .f32⟩
  | .hbm, ⟨36, _⟩ => ⟨S32x1x12x64, .f32⟩
  | .hbm, ⟨37, _⟩ => ⟨S_, .f32⟩
  | .hbm, ⟨38, _⟩ => ⟨S32x1x12, .f32⟩
  | .hbm, ⟨39, _⟩ => ⟨S32x1x12x1, .f32⟩
  | .hbm, ⟨40, _⟩ => ⟨S_, .f32⟩
  | .hbm, ⟨41, _⟩ => ⟨S32x1x12x1, .f32⟩
  | .hbm, ⟨42, _⟩ => ⟨S32x1x12x1, .f32⟩
  | .hbm, ⟨43, _⟩ => ⟨S_, .f32⟩
  | .hbm, ⟨44, _⟩ => ⟨S32x1x12x1, .f32⟩
  | .hbm, ⟨45, _⟩ => ⟨S32x1x12x1, .f32⟩
  | .hbm, ⟨46, _⟩ => ⟨S32x1x12x1, .f32⟩
  | .hbm, ⟨47, _⟩ => ⟨S32x1x12x64, .f32⟩
  | .hbm, ⟨48, _⟩ => ⟨S32x1x12x64, .f32⟩
  | .hbm, ⟨49, _⟩ => ⟨S1x1x1x64, .f32⟩
  | .hbm, ⟨50, _⟩ => ⟨S32x1x12x64, .f32⟩
  | .hbm, ⟨51, _⟩ => ⟨S32x1x12x64, .f32⟩
  | .hbm, ⟨52, _⟩ => ⟨S32x768, .f32⟩
  | .hbm, ⟨53, _⟩ => ⟨S32x192, .f32⟩
  | .hbm, ⟨54, _⟩ => ⟨S32x192, .f32⟩
  | .hbm, ⟨55, _⟩ => ⟨S32x1x3x64, .f32⟩
  | .hbm, ⟨56, _⟩ => ⟨S1x1x64, .f32⟩
  | .hbm, ⟨57, _⟩ => ⟨S64, .f32⟩
  | .hbm, ⟨58, _⟩ => ⟨S32x1x3x64, .f32⟩
  | .hbm, ⟨59, _⟩ => ⟨S_, .f32⟩
  | .hbm, ⟨60, _⟩ => ⟨S32x1x3, .f32⟩
  | .hbm, ⟨61, _⟩ => ⟨S32x1x3x1, .f32⟩
  | .hbm, ⟨62, _⟩ => ⟨S_, .f32⟩
  | .hbm, ⟨63, _⟩ => ⟨S32x1x3x1, .f32⟩
  | .hbm, ⟨64, _⟩ => ⟨S32x1x3x1, .f32⟩
  | .hbm, ⟨65, _⟩ => ⟨S_, .f32⟩
  | .hbm, ⟨66, _⟩ => ⟨S32x1x3x1, .f32⟩
  | .hbm, ⟨67, _⟩ => ⟨S32x1x3x1, .f32⟩
  | .hbm, ⟨68, _⟩ => ⟨S32x1x3x1, .f32⟩
  | .hbm, ⟨69, _⟩ => ⟨S32x1x3x64, .f32⟩
  | .hbm, ⟨70, _⟩ => ⟨S32x1x3x64, .f32⟩
  | .hbm, ⟨71, _⟩ => ⟨S1x1x1x64, .f32⟩
  | .hbm, ⟨72, _⟩ => ⟨S32x1x3x64, .f32⟩
  | .hbm, ⟨73, _⟩ => ⟨S32x1x3x64, .f32⟩
  | .hbm, ⟨74, _⟩ => ⟨S32x192, .f32⟩
  | .hbm, ⟨75, _⟩ => ⟨S32x192, .f32⟩
  | .hbm, ⟨76, _⟩ => ⟨S32x1x3x64, .f32⟩
  | .hbm, ⟨77, _⟩ => ⟨S1x1x64, .f32⟩
  | .hbm, ⟨78, _⟩ => ⟨S64, .f32⟩
  | .hbm, ⟨79, _⟩ => ⟨S32x1x3x64, .f32⟩
  | .hbm, ⟨80, _⟩ => ⟨S_, .f32⟩
  | .hbm, ⟨81, _⟩ => ⟨S32x1x3, .f32⟩
  | .hbm, ⟨82, _⟩ => ⟨S32x1x3x1, .f32⟩
  | .hbm, ⟨83, _⟩ => ⟨S_, .f32⟩
  | .hbm, ⟨84, _⟩ => ⟨S32x1x3x1, .f32⟩
  | .hbm, ⟨85, _⟩ => ⟨S32x1x3x1, .f32⟩
  | .hbm, ⟨86, _⟩ => ⟨S_, .f32⟩
  | .hbm, ⟨87, _⟩ => ⟨S32x1x3x1, .f32⟩
  | .hbm, ⟨88, _⟩ => ⟨S32x1x3x1, .f32⟩
  | .hbm, ⟨89, _⟩ => ⟨S32x1x3x1, .f32⟩
  | .hbm, ⟨90, _⟩ => ⟨S32x1x3x64, .f32⟩
  | .hbm, ⟨91, _⟩ => ⟨S32x1x3x64, .f32⟩
  | .hbm, ⟨92, _⟩ => ⟨S1x1x1x64, .f32⟩
  | .hbm, ⟨93, _⟩ => ⟨S32x1x3x64, .f32⟩
  | .hbm, ⟨94, _⟩ => ⟨S32x1x3x64, .f32⟩
  | .hbm, ⟨95, _⟩ => ⟨S32x192, .f32⟩
  | .hbm, ⟨96, _⟩ => ⟨S32x192, .f32⟩
  | .hbm, ⟨97, _⟩ => ⟨S32x36, .f32⟩
  | .hbm, ⟨98, _⟩ => ⟨S_, .i32⟩
  | .hbm, ⟨99, _⟩ => ⟨S_, .f32⟩
  | .hbm, ⟨100, _⟩ => ⟨S32x128, .f32⟩
  | .hbm, ⟨101, _⟩ => ⟨S32x128, .f32⟩
  | .hbm, ⟨102, _⟩ => ⟨S32x128, .f32⟩
  | .hbm, ⟨103, _⟩ => ⟨S_, .f32⟩
  | .hbm, ⟨104, _⟩ => ⟨S32x128, .f32⟩
  | .hbm, ⟨105, _⟩ => ⟨S32x128, .f32⟩
  | .hbm, ⟨106, _⟩ => ⟨S_, .f32⟩
  | .hbm, ⟨107, _⟩ => ⟨S32x128, .f32⟩
  | .hbm, ⟨108, _⟩ => ⟨S32x128, .f32⟩
  | .hbm, ⟨109, _⟩ => ⟨S32x256, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c : Ref sig .tc := ⟨.hbm, 98, rfl⟩
abbrev main_call0_v0 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== InputB.lean ====
abbrev S16384x1024 : Shape := ⟨2, ![16384, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S1024x2816 : Shape := ⟨2, ![1024, 2816]⟩
abbrev S1024x2560 : Shape := ⟨2, ![1024, 2560]⟩
abbrev S1024x256 : Shape := ⟨2, ![1024, 256]⟩
abbrev S16384x2560 : Shape := ⟨2, ![16384, 2560]⟩
abbrev S16384x256 : Shape := ⟨2, ![16384, 256]⟩
abbrev S1024x1024 : Shape := ⟨2, ![1024, 1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S1024x2816, .f32⟩
  | .hbm, ⟨6, _⟩ => ⟨S1024x2560, .f32⟩
  | .hbm, ⟨7, _⟩ => ⟨S1024x2816, .f32⟩
  | .hbm, ⟨8, _⟩ => ⟨S1024x256, .f32⟩
  | .hbm, ⟨9, _⟩ => ⟨S1x1024, .f32⟩
  | .hbm, ⟨10, _⟩ => ⟨S1024x2560, .bf16⟩
  | .hbm, ⟨11, _⟩ => ⟨S1024x256, .bf16⟩
  | .hbm, ⟨12, _⟩ => ⟨S16384x2560, .f32⟩
  | .hbm, ⟨13, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x256, .bf16⟩
  | .local _ .vmem, ⟨5, _⟩ => ⟨S1024x2560, .f32⟩
  | .local _ .vmem, ⟨6, _⟩ => ⟨S1024x2560, .f32⟩
  | .local _ .vmem, ⟨7, _⟩ => ⟨S1024x256, .f32⟩
  | .local _ .vmem, ⟨8, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InputBIdeal.lean ====
abbrev S16384x1024 : Shape := ⟨2, ![16384, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S1024x2816 : Shape := ⟨2, ![1024, 2816]⟩
abbrev S1024x2560 : Shape := ⟨2, ![1024, 2560]⟩
abbrev S1024x256 : Shape := ⟨2, ![1024, 256]⟩
abbrev S16384x2560 : Shape := ⟨2, ![16384, 2560]⟩
abbrev S16384x256 : Shape := ⟨2, ![16384, 256]⟩
abbrev S1024x1024 : Shape := ⟨2, ![1024, 1024]⟩
abbrev S1024x1 : Shape := ⟨2, ![1024, 1]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S1024x2816, .f32⟩
  | .hbm, ⟨6, _⟩ => ⟨S1024x2560, .f32⟩
  | .hbm, ⟨7, _⟩ => ⟨S1024x2816, .f32⟩
  | .hbm, ⟨8, _⟩ => ⟨S1024x256, .f32⟩
  | .hbm, ⟨9, _⟩ => ⟨S1x1024, .f32⟩
  | .hbm, ⟨10, _⟩ => ⟨S1024x2560, .bf16⟩
  | .hbm, ⟨11, _⟩ => ⟨S1024x256, .bf16⟩
  | .hbm, ⟨12, _⟩ => ⟨S16384x2560, .f32⟩
  | .hbm, ⟨13, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x256, .bf16⟩
  | .local _ .vmem, ⟨5, _⟩ => ⟨S1024x2560, .f32⟩
  | .local _ .vmem, ⟨6, _⟩ => ⟨S1024x2560, .f32⟩
  | .local _ .vmem, ⟨7, _⟩ => ⟨S1024x256, .f32⟩
  | .local _ .vmem, ⟨8, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InputBRefIdeal.lean ====
abbrev S16384x1024 : Shape := ⟨2, ![16384, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S16384x2560 : Shape := ⟨2, ![16384, 2560]⟩
abbrev S16384x256 : Shape := ⟨2, ![16384, 256]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2816, .f32⟩
  | .hbm, ⟨22, _⟩ => ⟨S16384x2816, .f32⟩
  | .hbm, ⟨23, _⟩ => ⟨S16384x2560, .f32⟩
  | .hbm, ⟨24, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Memory.lean ====
abbrev S8x256x1024 : Shape := ⟨3, ![8, 256, 1024]⟩
abbrev S1024 : Shape := ⟨1, ![1024]⟩
abbrev S1024x512 : Shape := ⟨2, ![1024, 512]⟩
abbrev S64 : Shape := ⟨1, ![64]⟩
abbrev S2048x1024 : Shape := ⟨2, ![2048, 1024]⟩
abbrev S1024x256 : Shape := ⟨2, ![1024, 256]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2048x256 : Shape := ⟨2, ![2048, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 16
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S2048x1024, .f32⟩
  | .hbm, ⟨5, _⟩ => ⟨S1024x256, .f32⟩
  | .hbm, ⟨6, _⟩ => ⟨S1024x256, .f32⟩
  | .hbm, ⟨7, _⟩ => ⟨S1x1024, .f32⟩
  | .hbm, ⟨8, _⟩ => ⟨S1024x256, .bf16⟩
  | .hbm, ⟨9, _⟩ => ⟨S1024x256, .bf16⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S2048x256, .f32⟩
  | .hbm, ⟨15, _⟩ => ⟨S2048x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1x128, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryRefIdeal.lean ====
abbrev S8x256x1024 : Shape := ⟨3, ![8, 256, 1024]⟩
abbrev S1024 : Shape := ⟨1, ![1024]⟩
abbrev S1024x512 : Shape := ⟨2, ![1024, 512]⟩
abbrev S64 : Shape := ⟨1, ![64]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x256 : Shape := ⟨3, ![8, 256, 256]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S1x1x1x64 : Shape := ⟨4, ![1, 1, 1, 64]⟩
abbrev S2048x256 : Shape := ⟨2, ![2048, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S64, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x256, .f32⟩
  | .hbm, ⟨22, _⟩ => ⟨S8x256x4x64, .f32⟩
  | .hbm, ⟨23, _⟩ => ⟨S8x256x4x64, .f32⟩
  | .hbm, ⟨24, _⟩ => ⟨S_, .f32⟩
  | .hbm, ⟨25, _⟩ => ⟨S8x256x4, .f32⟩
  | .hbm, ⟨26, _⟩ => ⟨S8x256x4x1, .f32⟩
  | .hbm, ⟨27, _⟩ => ⟨S_, .f32⟩
  | .hbm, ⟨28, _⟩ => ⟨S8x256x4x1, .f32⟩
  | .hbm, ⟨29, _⟩ => ⟨S8x256x4x1, .f32⟩
  | .hbm, ⟨30, _⟩ => ⟨S_, .f32⟩
  | .hbm, ⟨31, _⟩ => ⟨S8x256x4x1, .f32⟩
  | .hbm, ⟨32, _⟩ => ⟨S8x256x4x1, .f32⟩
  | .hbm, ⟨33, _⟩ => ⟨S8x256x4x1, .f32⟩
  | .hbm, ⟨34, _⟩ => ⟨S8x256x4x64, .f32⟩
  | .hbm, ⟨35, _⟩ => ⟨S8x256x4x64, .f32⟩
  | .hbm, ⟨36, _⟩ => ⟨S1x1x1x64, .f32⟩
  | .hbm, ⟨37, _⟩ => ⟨S8x256x4x64, .f32⟩
  | .hbm, ⟨38, _⟩ => ⟨S8x256x4x64, .f32⟩
  | .hbm, ⟨39, _⟩ => ⟨S2048x256, .f32⟩
  | .hbm, ⟨40, _⟩ => ⟨S8x256x256, .f32⟩
  | .hbm, ⟨41, _⟩ => ⟨S2048x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Experts.lean ====
abbrev S256 : Shape := ⟨1, ![256]⟩
abbrev S128 : Shape := ⟨1, ![128]⟩
abbrev S49152x1024 : Shape := ⟨2, ![49152, 1024]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 10
  | .smem => 2
  | _ => 0

abbrev bufTy : (tb : Table) → Fin (tcTables nBuf tb) → BufTy
  | .hbm, ⟨0, _⟩ => ⟨S49152x1024, .f32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .smem, ⟨0, _⟩ => ⟨S256, .i32⟩
  | .local _ .smem, ⟨1, _⟩ => ⟨S128, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S256 : Shape := ⟨1, ![256]⟩
abbrev S128 : Shape := ⟨1, ![128]⟩
abbrev S49152x1024 : Shape := ⟨2, ![49152, 1024]⟩
abbrev S2x32x1024x512 : Shape := ⟨4, ![2, 32, 1024, 512]⟩
abbrev S2x32x512x1024 : Shape := ⟨4, ![2, 32, 512, 1024]⟩
abbrev S96 : Shape := ⟨1, ![96]⟩
abbrev S96x512x1024 : Shape := ⟨3, ![96, 512, 1024]⟩
abbrev S1x32x1024x512 : Shape := ⟨4, ![1, 32, 1024, 512]⟩
abbrev S32x1024x512 : Shape := ⟨3, ![32, 1024, 512]⟩
abbrev S_ : Shape := ⟨0, ![]⟩
abbrev S96x1 : Shape := ⟨2, ![96, 1]⟩
abbrev S96x1024x512 : Shape := ⟨3, ![96, 1024, 512]⟩
abbrev S1x32x512x1024 : Shape := ⟨4, ![1, 32, 512, 1024]⟩
abbrev S32x512x1024 : Shape := ⟨3, ![32, 512, 1024]⟩
abbrev S96x512x512 : Shape := ⟨3, ![96, 512, 512]⟩
abbrev S1 : Shape := ⟨1, ![1]⟩
abbrev S96x1x1 : Shape := ⟨3, ![96, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S256, .i32⟩
  | .hbm, ⟨1, _⟩ => ⟨S128, .i32⟩
  | .hbm, ⟨2, _⟩ => ⟨S49152x1024, .f32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S96, .i32⟩
  | .hbm, ⟨7, _⟩ => ⟨S96x512x1024, .f32⟩
  | .hbm, ⟨8, _⟩ => ⟨S1x32x1024x512, .f32⟩
  | .hbm, ⟨9, _⟩ => ⟨S32x1024x512, .f32⟩
  | .hbm, ⟨10, _⟩ => ⟨S_, .i32⟩
  | .hbm, ⟨11, _⟩ => ⟨S96, .i32⟩
  | .hbm, ⟨12, _⟩ => ⟨S96, .i1⟩
  | .hbm, ⟨13, _⟩ => ⟨S_, .i32⟩
  | .hbm, ⟨14, _⟩ => ⟨S96, .i32⟩
  | .hbm, ⟨15, _⟩ => ⟨S96, .i32⟩
  | .hbm, ⟨16, _⟩ => ⟨S96, .i32⟩
  | .hbm, ⟨17, _⟩ => ⟨S96x1, .i32⟩
  | .hbm, ⟨18, _⟩ => ⟨S96x1024x512, .f32⟩
  | .hbm, ⟨19, _⟩ => ⟨S1x32x1024x512, .f32⟩
  | .hbm, ⟨20, _⟩ => ⟨S32x1024x512, .f32⟩
  | .hbm, ⟨21, _⟩ => ⟨S_, .i32⟩
  | .hbm, ⟨22, _⟩ => ⟨S96, .i32⟩
  | .hbm, ⟨23, _⟩ => ⟨S96, .i1⟩
  | .hbm, ⟨24, _⟩ => ⟨S_, .i32⟩
  | .hbm, ⟨25, _⟩ => ⟨S96, .i32⟩
  | .hbm, ⟨26, _⟩ => ⟨S96, .i32⟩
  | .hbm, ⟨27, _⟩ => ⟨S96, .i32⟩
  | .hbm, ⟨28, _⟩ => ⟨S96x1, .i32⟩
  | .hbm, ⟨29, _⟩ => ⟨S96x1024x512, .f32⟩
  | .hbm, ⟨30, _⟩ => ⟨S1x32x512x1024, .f32⟩
  | .hbm, ⟨31, _⟩ => ⟨S32x512x1024, .f32⟩
  | .hbm, ⟨32, _⟩ => ⟨S_, .i32⟩
  | .hbm, ⟨33, _⟩ => ⟨S96, .i32⟩
  | .hbm, ⟨34, _⟩ => ⟨S96, .i1⟩
  | .hbm, ⟨35, _⟩ => ⟨S_, .i32⟩
  | .hbm, ⟨36, _⟩ => ⟨S96, .i32⟩
  | .hbm, ⟨37, _⟩ => ⟨S96, .i32⟩
  | .hbm, ⟨38, _⟩ => ⟨S96, .i32⟩
  | .hbm, ⟨39, _⟩ => ⟨S96x1, .i32⟩
  | .hbm, ⟨40, _⟩ => ⟨S96x512x1024, .f32⟩
  | .hbm, ⟨41, _⟩ => ⟨S96x512x512, .f32⟩
  | .hbm, ⟨42, _⟩ => ⟨S96x512x512, .f32⟩
  | .hbm, ⟨43, _⟩ => ⟨S96x512x512, .f32⟩
  | .hbm, ⟨44, _⟩ => ⟨S_, .f32⟩
  | .hbm, ⟨45, _⟩ => ⟨S96x512x512, .f32⟩
  | .hbm, ⟨46, _⟩ => ⟨S96x512x512, .f32⟩
  | .hbm, ⟨47, _⟩ => ⟨S_, .f32⟩
  | .hbm, ⟨48, _⟩ => ⟨S96x512x512, .f32⟩
  | .hbm, ⟨49, _⟩ => ⟨S96x512x512, .f32⟩
  | .hbm, ⟨50, _⟩ => ⟨S96x512x512, .f32⟩
  | .hbm, ⟨51, _⟩ => ⟨S96x512x512, .f32⟩
  | .hbm, ⟨52, _⟩ => ⟨S96x512x512, .f32⟩
  | .hbm, ⟨53, _⟩ => ⟨S96x512x1024, .f32⟩
  | .hbm, ⟨54, _⟩ => ⟨S96, .i32⟩
  | .hbm, ⟨55, _⟩ => ⟨S1, .i32⟩
  | .hbm, ⟨56, _⟩ => ⟨S_, .i32⟩
  | .hbm, ⟨57, _⟩ => ⟨S96, .i32⟩
  | .hbm, ⟨58, _⟩ => ⟨S96, .i1⟩
  | .hbm, ⟨59, _⟩ => ⟨S96x1x1, .i1⟩
  | .hbm, ⟨60, _⟩ => ⟨S_, .f32⟩
  | .hbm, ⟨61, _⟩ => ⟨S_, .f32⟩
  | .hbm, ⟨62, _⟩ => ⟨S96x512x1024, .i1⟩
  | .hbm, ⟨63, _⟩ => ⟨S96x512x1024, .f32⟩
  | .hbm, ⟨64, _⟩ => ⟨S96x512x1024, .f32⟩
  | .hbm, ⟨65, _⟩ => ⟨S49152x1024, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== SampleB.lean ====
abbrev S32x1024 : Shape := ⟨2, ![32, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S1024x2816 : Shape := ⟨2, ![1024, 2816]⟩
abbrev S1024x2560 : Shape := ⟨2, ![1024, 2560]⟩
abbrev S1024x256 : Shape := ⟨2, ![1024, 256]⟩
abbrev S32x2560 : Shape := ⟨2, ![32, 2560]⟩
abbrev S32x256 : Shape := ⟨2, ![32, 256]⟩
abbrev S32 : Shape := ⟨1, ![32]⟩
abbrev S32x1 : Shape := ⟨2, ![32, 1]⟩

abbrev nBuf : Space → Nat
  | .hbm => 14
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S1024x2816, .f32⟩
  | .hbm, ⟨6, _⟩ => ⟨S1024x2560, .f32⟩
  | .hbm, ⟨7, _⟩ => ⟨S1024x2816, .f32⟩
  | .hbm, ⟨8, _⟩ => ⟨S1024x256, .f32⟩
  | .hbm, ⟨9, _⟩ => ⟨S1x1024, .f32⟩
  | .hbm, ⟨10, _⟩ => ⟨S1024x2560, .bf16⟩
  | .hbm, ⟨11, _⟩ => ⟨S1024x256, .bf16⟩
  | .hbm, ⟨12, _⟩ => ⟨S32x2560, .f32⟩
  | .hbm, ⟨13, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x2560, .bf16⟩
  | .local _ .vmem, ⟨3, _⟩ => ⟨S1024x256, .bf16⟩
  | .local _ .vmem, ⟨4, _⟩ => ⟨S32x2560, .f32⟩
  | .local _ .vmem, ⟨5, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SampleBRefIdeal.lean ====
abbrev S32x1024 : Shape := ⟨2, ![32, 1024]⟩
abbrev S2x1024 : Shape := ⟨2, ![2, 1024]⟩
abbrev S1x1024x2816 : Shape := ⟨3, ![1, 1024, 2816]⟩
abbrev S1x1024 : Shape := ⟨2, ![1, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1024x2816 : Shape := ⟨2, ![1024, 2816]⟩
abbrev S32x2816 : Shape := ⟨2, ![32, 2816]⟩
abbrev S32x2560 : Shape := ⟨2, ![32, 2560]⟩
abbrev S32x256 : Shape := ⟨2, ![32, 256]⟩

abbrev nBuf : Space → Nat
  | .hbm => 25
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024, .f32⟩
  | .hbm, ⟨2, _⟩ => ⟨S1x1024x2816, .f32⟩
  | .hbm, ⟨3, _⟩ => ⟨S1x1024, .f32⟩
  | .hbm, ⟨4, _⟩ => ⟨S1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1024x2816, .f32⟩
  | .hbm, ⟨22, _⟩ => ⟨S32x2816, .f32⟩
  | .hbm, ⟨23, _⟩ => ⟨S32x2560, .f32⟩
  | .hbm, ⟨24, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemAttn.lean ====
abbrev S8x2048x256 : Shape := ⟨3, ![8, 2048, 256]⟩
abbrev S8x256x256 : Shape := ⟨3, ![8, 256, 256]⟩
abbrev S64 : Shape := ⟨1, ![64]⟩
abbrev S1x64 : Shape := ⟨2, ![1, 64]⟩
abbrev S1x1024x256 : Shape := ⟨3, ![1, 1024, 256]⟩
abbrev S1x256x256 : Shape := ⟨3, ![1, 256, 256]⟩
abbrev S1x1024x64 : Shape := ⟨3, ![1, 1024, 64]⟩
abbrev S1024x64 : Shape := ⟨2, ![1024, 64]⟩
abbrev S1024 : Shape := ⟨1, ![1024]⟩
abbrev S1024x1 : Shape := ⟨2, ![1024, 1]⟩
abbrev S1x256x64 : Shape := ⟨3, ![1, 256, 64]⟩
abbrev S256x64 : Shape := ⟨2, ![256, 64]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x256x256, .f32⟩
  | .hbm, ⟨2, _⟩ => ⟨S8x256x256, .f32⟩
  | .hbm, ⟨3, _⟩ => ⟨S64, .f32⟩
  | .hbm, ⟨4, _⟩ => ⟨S1x64, .f32⟩
  | .hbm, ⟨5, _⟩ => ⟨S8x2048x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x64, .f32⟩
  | .local _ .vmem, ⟨7, _⟩ => ⟨S1x1024x256, .f32⟩
  | .local _ .vmem, ⟨8, _⟩ => ⟨S1x1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemAttnRefIdeal.lean ====
abbrev S8x2048x256 : Shape := ⟨3, ![8, 2048, 256]⟩
abbrev S8x256x256 : Shape := ⟨3, ![8, 256, 256]⟩
abbrev S64 : Shape := ⟨1, ![64]⟩
abbrev S8x2048x4x64 : Shape := ⟨4, ![8, 2048, 4, 64]⟩
abbrev S_ : Shape := ⟨0, ![]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S8x256x4x64 : Shape := ⟨4, ![8, 256, 4, 64]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x256x256, .f32⟩
  | .hbm, ⟨2, _⟩ => ⟨S8x256x256, .f32⟩
  | .hbm, ⟨3, _⟩ => ⟨S64, .f32⟩
  | .hbm, ⟨4, _⟩ => ⟨S8x2048x4x64, .f32⟩
  | .hbm, ⟨5, _⟩ => ⟨S8x2048x4x64, .f32⟩
  | .hbm, ⟨6, _⟩ => ⟨S_, .f32⟩
  | .hbm, ⟨7, _⟩ => ⟨S8x2048x4, .f32⟩
  | .hbm, ⟨8, _⟩ => ⟨S8x2048x4x1, .f32⟩
  | .hbm, ⟨9, _⟩ => ⟨S_, .f32⟩
  | .hbm, ⟨10, _⟩ => ⟨S8x2048x4x1, .f32⟩
  | .hbm, ⟨11, _⟩ => ⟨S8x2048x4x1, .f32⟩
  | .hbm, ⟨12, _⟩ => ⟨S_, .f32⟩
  | .hbm, ⟨13, _⟩ => ⟨S8x2048x4x1, .f32⟩
  | .hbm, ⟨14, _⟩ => ⟨S8x2048x4x1, .f32⟩
  | .hbm, ⟨15, _⟩ => ⟨S8x2048x4x1, .f32⟩
  | .hbm, ⟨16, _⟩ => ⟨S8x2048x4x64, .f32⟩
  | .hbm, ⟨17, _⟩ => ⟨S8x2048x4x64, .f32⟩
  | .hbm, ⟨18, _⟩ => ⟨S1x1x1x64, .f32⟩
  | .hbm, ⟨19, _⟩ => ⟨S8x2048x4x64, .f32⟩
  | .hbm, ⟨20, _⟩ => ⟨S8x2048x4x64, .f32⟩
  | .hbm, ⟨21, _⟩ => ⟨S_, .f32⟩
  | .hbm, ⟨22, _⟩ => ⟨S8x2048x4x64, .f32⟩
  | .hbm, ⟨23, _⟩ => ⟨S8x2048x4x64, .f32⟩
  | .hbm, ⟨24, _⟩ => ⟨S8x256x4x64, .f32⟩
  | .hbm, ⟨25, _⟩ => ⟨S8x4x2048x256, .f32⟩
  | .hbm, ⟨26, _⟩ => ⟨S_, .f32⟩
  | .hbm, ⟨27, _⟩ => ⟨S8x4x2048, .f32⟩
  | .hbm, ⟨28, _⟩ => ⟨S_, .f32⟩
  | .hbm, ⟨29, _⟩ => ⟨S8x4x2048, .f32⟩
  | .hbm, ⟨30, _⟩ => ⟨S8x4x2048, .f32⟩
  | .hbm, ⟨31, _⟩ => ⟨S8x4x2048x1, .f32⟩
  | .hbm, ⟨32, _⟩ => ⟨S8x4x2048x256, .f32⟩
  | .hbm, ⟨33, _⟩ => ⟨S8x4x2048x256, .f32⟩
  | .hbm, ⟨34, _⟩ => ⟨S8x4x2048x256, .f32⟩
  | .hbm, ⟨35, _⟩ => ⟨S_, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x256x4x64, .f32⟩
  | .hbm, ⟨41, _⟩ => ⟨S8x4x64x2048, .f32⟩
  | .hbm, ⟨42, _⟩ => ⟨S8x2048x4x64, .f32⟩
  | .hbm, ⟨43, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Step.lean ====
abbrev S32x768 : Shape := ⟨2, ![32, 768]⟩
abbrev S12x64 : Shape := ⟨2, ![12, 64]⟩
abbrev S768 : Shape := ⟨1, ![768]⟩
abbrev S32x12x64x64 : Shape := ⟨4, ![32, 12, 64, 64]⟩
abbrev S32x1x768 : Shape := ⟨3, ![32, 1, 768]⟩
abbrev S1x768 : Shape := ⟨2, ![1, 768]⟩
abbrev S4x1x768 : Shape := ⟨3, ![4, 1, 768]⟩
abbrev S4x12x64x64 : Shape := ⟨4, ![4, 12, 64, 64]⟩
abbrev S64x64 : Shape := ⟨2, ![64, 64]⟩
abbrev S1x1x64 : Shape := ⟨3, ![1, 1, 64]⟩
abbrev S1x64 : Shape := ⟨2, ![1, 64]⟩
abbrev S1x1x64x64 : Shape := ⟨4, ![1, 1, 64, 64]⟩
abbrev S64 : Shape := ⟨1, ![64]⟩
abbrev S64x1 : Shape := ⟨2, ![64, 1]⟩
abbrev S1 : Shape := ⟨1, ![1]⟩
abbrev S1x1 : Shape := ⟨2, ![1, 1]⟩

abbrev nBuf : Space → Nat
  | .hbm => 23
  | .vmem => 23
  | .smem => 0
  | _ => 0

abbrev bufTy : (tb : Table) → Fin (tcTables nBuf tb) → BufTy
  | .hbm, ⟨0, _⟩ => ⟨S32x768, .f32⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S32x768, .f32⟩
  | .hbm, ⟨5, _⟩ => ⟨S32x768, .f32⟩
  | .hbm, ⟨6, _⟩ => ⟨S32x768, .f32⟩
  | .hbm, ⟨7, _⟩ => ⟨S12x64, .f32⟩
  | .hbm, ⟨8, _⟩ => ⟨S768, .f32⟩
  | .hbm, ⟨9, _⟩ => ⟨S768, .f32⟩
  | .hbm, ⟨10, _⟩ => ⟨S32x12x64x64, .f32⟩
  | .hbm, ⟨11, _⟩ => ⟨S32x1x768, .f32⟩
  | .hbm, ⟨12, _⟩ => ⟨S32x1x768, .f32⟩
  | .hbm, ⟨13, _⟩ => ⟨S32x1x768, .f32⟩
  | .hbm, ⟨14, _⟩ => ⟨S32x1x768, .f32⟩
  | .hbm, ⟨15, _⟩ => ⟨S32x1x768, .f32⟩
  | .hbm, ⟨16, _⟩ => ⟨S32x1x768, .f32⟩
  | .hbm, ⟨17, _⟩ => ⟨S32x1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S32x1x768, .f32⟩
  | .hbm, ⟨22, _⟩ => ⟨S32x12x64x64, .f32⟩
  | .local _ .vmem, ⟨0, _⟩ => ⟨S4x1x768, .f32⟩
  | .local _ .vmem, ⟨1, _⟩ => ⟨S4x1x768, .f32⟩
  | .local _ .vmem, ⟨2, _⟩ => ⟨S4x1x768, .f32⟩
  | .local _ .vmem, ⟨3, _⟩ => ⟨S4x1x768, .f32⟩
  | .local _ .vmem, ⟨4, _⟩ => ⟨S4x1x768, .f32⟩
  | .local _ .vmem, ⟨5, _⟩ => ⟨S4x1x768, .f32⟩
  | .local _ .vmem, ⟨6, _⟩ => ⟨S4x1x768, .f32⟩
  | .local _ .vmem, ⟨7, _⟩ => ⟨S4x1x768, .f32⟩
  | .local _ .vmem, ⟨8, _⟩ => ⟨S4x1x768, .f32⟩
  | .local _ .vmem, ⟨9, _⟩ => ⟨S4x1x768, .f32⟩
  | .local _ .vmem, ⟨10, _⟩ => ⟨S4x1x768, .f32⟩
  | .local _ .vmem, ⟨11, _⟩ => ⟨S4x1x768, .f32⟩
  | .local _ .vmem, ⟨12, _⟩ => ⟨S4x1x768, .f32⟩
  | .local _ .vmem, ⟨13, _⟩ => ⟨S4x1x768, .f32⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S4x12x64x64, .f32⟩
  | .local _ .vmem, ⟨18, _⟩ => ⟨S4x12x64x64, .f32⟩
  | .local _ .vmem, ⟨19, _⟩ => ⟨S4x1x768, .f32⟩
  | .local _ .vmem, ⟨20, _⟩ => ⟨S4x1x768, .f32⟩
  | .local _ .vmem, ⟨21, _⟩ => ⟨S4x12x64x64, .f32⟩
  | .local _ .vmem, ⟨22, _⟩ => ⟨S4x12x64x64, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x12x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x12x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== StepRefIdeal.lean ====
abbrev S32x768 : Shape := ⟨2, ![32, 768]⟩
abbrev S12x64 : Shape := ⟨2, ![12, 64]⟩
abbrev S768 : Shape := ⟨1, ![768]⟩
abbrev S32x12x64x64 : Shape := ⟨4, ![32, 12, 64, 64]⟩
abbrev S32x12x64 : Shape := ⟨3, ![32, 12, 64]⟩
abbrev S32x12x1x64 : Shape := ⟨4, ![32, 12, 1, 64]⟩
abbrev S32x12x64x1 : Shape := ⟨4, ![32, 12, 64, 1]⟩
abbrev S_ : Shape := ⟨0, ![]⟩
abbrev S32x12 : Shape := ⟨2, ![32, 12]⟩
abbrev S32x12x1 : Shape := ⟨3, ![32, 12, 1]⟩
abbrev S32x1x768 : Shape := ⟨3, ![32, 1, 768]⟩
abbrev S1x1x768 : Shape := ⟨3, ![1, 1, 768]⟩
abbrev S1x12x64 : Shape := ⟨3, ![1, 12, 64]⟩

abbrev nBuf : Space → Nat
  | .hbm => 80
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S32x768, .f32⟩
  | .hbm, ⟨5, _⟩ => ⟨S32x768, .f32⟩
  | .hbm, ⟨6, _⟩ => ⟨S32x768, .f32⟩
  | .hbm, ⟨7, _⟩ => ⟨S12x64, .f32⟩
  | .hbm, ⟨8, _⟩ => ⟨S768, .f32⟩
  | .hbm, ⟨9, _⟩ => ⟨S768, .f32⟩
  | .hbm, ⟨10, _⟩ => ⟨S32x12x64x64, .f32⟩
  | .hbm, ⟨11, _⟩ => ⟨S32x12x64, .f32⟩
  | .hbm, ⟨12, _⟩ => ⟨S32x12x64, .f32⟩
  | .hbm, ⟨13, _⟩ => ⟨S32x12x64, .f32⟩
  | .hbm, ⟨14, _⟩ => ⟨S32x12x64, .f32⟩
  | .hbm, ⟨15, _⟩ => ⟨S32x12x64, .f32⟩
  | .hbm, ⟨16, _⟩ => ⟨S32x12x64, .f32⟩
  | .hbm, ⟨17, _⟩ => ⟨S32x12x64, .f32⟩
  | .hbm, ⟨18, _⟩ => ⟨S32x12x64, .f32⟩
  | .hbm, ⟨19, _⟩ => ⟨S32x12x64, .f32⟩
  | .hbm, ⟨20, _⟩ => ⟨S32x12x1x64, .f32⟩
  | .hbm, ⟨21, _⟩ => ⟨S32x12x64x64, .f32⟩
  | .hbm, ⟨22, _⟩ => ⟨S32x12x64x64, .f32⟩
  | .hbm, ⟨23, _⟩ => ⟨S32x12x64x1, .f32⟩
  | .hbm, ⟨24, _⟩ => ⟨S32x12x64, .f32⟩
  | .hbm, ⟨25, _⟩ => ⟨S32x12x1x64, .f32⟩
  | .hbm, ⟨26, _⟩ => ⟨S32x12x64x64, .f32⟩
  | .hbm, ⟨27, _⟩ => ⟨S32x12x64x64, .f32⟩
  | .hbm, ⟨28, _⟩ => ⟨S32x12x64x64, .f32⟩
  | .hbm, ⟨29, _⟩ => ⟨S32x12x64x64, .f32⟩
  | .hbm, ⟨30, _⟩ => ⟨S32x12x64x1, .f32⟩
  | .hbm, ⟨31, _⟩ => ⟨S32x12x1x64, .f32⟩
  | .hbm, ⟨32, _⟩ => ⟨S32x12x64x64, .f32⟩
  | .hbm, ⟨33, _⟩ => ⟨S32x12x64x64, .f32⟩
  | .hbm, ⟨34, _⟩ => ⟨S32x12x64x64, .f32⟩
  | .hbm, ⟨35, _⟩ => ⟨S32x12x64x64, .f32⟩
  | .hbm, ⟨36, _⟩ => ⟨S32x12x64, .f32⟩
  | .hbm, ⟨37, _⟩ => ⟨S_, .f32⟩
  | .hbm, ⟨38, _⟩ => ⟨S32x12, .f32⟩
  | .hbm, ⟨39, _⟩ => ⟨S32x12x1, .f32⟩
  | .hbm, ⟨40, _⟩ => ⟨S_, .f32⟩
  | .hbm, ⟨41, _⟩ => ⟨S32x12x1, .f32⟩
  | .hbm, ⟨42, _⟩ => ⟨S32x12x1, .f32⟩
  | .hbm, ⟨43, _⟩ => ⟨S32x12x64, .f32⟩
  | .hbm, ⟨44, _⟩ => ⟨S32x12x64, .f32⟩
  | .hbm, ⟨45, _⟩ => ⟨S32x12x64, .f32⟩
  | .hbm, ⟨46, _⟩ => ⟨S_, .f32⟩
  | .hbm, ⟨47, _⟩ => ⟨S32x12, .f32⟩
  | .hbm, ⟨48, _⟩ => ⟨S32x12x1, .f32⟩
  | .hbm, ⟨49, _⟩ => ⟨S_, .f32⟩
  | .hbm, ⟨50, _⟩ => ⟨S32x12x1, .f32⟩
  | .hbm, ⟨51, _⟩ => ⟨S32x12x1, .f32⟩
  | .hbm, ⟨52, _⟩ => ⟨S32x12x64, .f32⟩
  | .hbm, ⟨53, _⟩ => ⟨S32x12x64, .f32⟩
  | .hbm, ⟨54, _⟩ => ⟨S_, .f32⟩
  | .hbm, ⟨55, _⟩ => ⟨S32x12x1, .f32⟩
  | .hbm, ⟨56, _⟩ => ⟨S32x12x1, .f32⟩
  | .hbm, ⟨57, _⟩ => ⟨S32x12x1, .f32⟩
  | .hbm, ⟨58, _⟩ => ⟨S32x12x64, .f32⟩
  | .hbm, ⟨59, _⟩ => ⟨S32x12x64, .f32⟩
  | .hbm, ⟨60, _⟩ => ⟨S32x1x768, .f32⟩
  | .hbm, ⟨61, _⟩ => ⟨S1x1x768, .f32⟩
  | .hbm, ⟨62, _⟩ => ⟨S32x1x768, .f32⟩
  | .hbm, ⟨63, _⟩ => ⟨S32x1x768, .f32⟩
  | .hbm, ⟨64, _⟩ => ⟨S1x1x768, .f32⟩
  | .hbm, ⟨65, _⟩ => ⟨S32x1x768, .f32⟩
  | .hbm, ⟨66, _⟩ => ⟨S32x1x768, .f32⟩
  | .hbm, ⟨67, _⟩ => ⟨S32x12x64, .f32⟩
  | .hbm, ⟨68, _⟩ => ⟨S1x12x64, .f32⟩
  | .hbm, ⟨69, _⟩ => ⟨S32x12x64, .f32⟩
  | .hbm, ⟨70, _⟩ => ⟨S32x12x64, .f32⟩
  | .hbm, ⟨71, _⟩ => ⟨S_, .f32⟩
  | .hbm, ⟨72, _⟩ => ⟨S32x12, .f32⟩
  | .hbm, ⟨73, _⟩ => ⟨S32x12x1, .f32⟩
  | .hbm, ⟨74, _⟩ => ⟨S32x12x64, .f32⟩
  | .hbm, ⟨75, _⟩ => ⟨S32x12x64, .f32⟩
  | .hbm, ⟨76, _⟩ => ⟨S32x1x768, .f32⟩
  | .hbm, ⟨77, _⟩ => ⟨S32x1x768, .f32⟩
  | .hbm, ⟨78, _⟩ => ⟨S32x1x768, .f32⟩
  | .hbm, ⟨79, _⟩ => ⟨S32x1x768, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Proof.RowMath.lean ====
/- One row of the router, over the extended reals: the greatest logit with the lowest index, the two greatest logits of
   a group, and the two weights. Nothing here mentions a program. -/
module

public import Idealize.ShloMosaic.PureOps.Ideal.Laws
public import Idealize.ShloMosaic.Lib.IdealHost
public import Idealize.ShloMosaic.Lib.SortPrefix
public import Idealize.ShloMosaic.Lib.SortFacts

@[expose] public section

noncomputable section

namespace Cert.Router

open Idealize.ShloMosaic

/-! ## Real entries -/

/-- An extended real that is a real number. -/
def IsReal (x : EReal) : Prop := ∃ r : ℝ, x = (r : EReal)

/-- A real number is one. -/
theorem IsReal.coe (r : ℝ) : IsReal (r : EReal) := ⟨r, rfl⟩

/-- Neither infinity: a real number. -/
theorem IsReal.of_ne {x : EReal} (h1 : x ≠ ⊤) (h2 : x ≠ ⊥) : IsReal x := ⟨x.toReal, (EReal.coe_toReal h1 h2).symm⟩

/-- Sums of two reals are real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- Products of two reals are real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, computed among the reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- Division by a nonzero real, among the reals. -/
theorem div_real (a b : ℝ) (hb : b ≠ 0) : Ideal.div (a : EReal) (b : EReal) = ((a / b : ℝ) : EReal) := by
  rw [Ideal.div_coe hb, ← EReal.coe_mul, mul_one_div]

/-- Normalizing a row of reals: the scale `rsqrt (mean of squares + ε)` is a real, for a positive `ε`. -/
theorem isReal_rsqrt {n : ℕ} (x : Fin n → EReal) (hx : ∀ i, IsReal (x i)) (c ε : ℝ) (hc : 0 < c) (hε : 0 < ε) :
    IsReal (Ideal.rsqrt (Ideal.div (∑ i, x i * x i) (c : EReal) + (ε : EReal))) := by
  choose g hg using hx
  have h1 : (∑ i, x i * x i) = ((∑ i, g i * g i : ℝ) : EReal) := by
    rw [← coe_sum]; exact Finset.sum_congr rfl fun i _ => by rw [hg, EReal.coe_mul]
  have h2 : 0 ≤ ∑ i, g i * g i := Finset.sum_nonneg fun i _ => mul_self_nonneg _
  rw [h1, div_real _ _ hc.ne', ← EReal.coe_add, Ideal.rsqrt_coe]
  have h3 : 0 < (∑ i, g i * g i) / c + ε := by positivity
  rw [if_neg (not_lt.mpr h3.le), if_neg h3.ne']
  exact ⟨_, rfl⟩

/-! ## The first greatest entry -/

/-- `i` is where `f` is greatest, the lowest such place. -/
def FirstMax {n : ℕ} (f : Fin n → EReal) (i : Fin n) : Prop := (∀ j, f j ≤ f i) ∧ ∀ j, f j = f i → i ≤ j

/-- `k` is where `f` is greatest among the places other than `i`, the lowest such place. -/
def SecondMax {n : ℕ} (f : Fin n → EReal) (i k : Fin n) : Prop :=
  k ≠ i ∧ (∀ j, j ≠ i → f j ≤ f k) ∧ ∀ j, j ≠ i → f j = f k → k ≤ j

/-- Among the places of a nonempty set there is a lowest greatest one. -/
theorem exists_first {n : ℕ} (f : Fin n → EReal) (s : Finset (Fin n)) (hs : s.Nonempty) :
    ∃ i ∈ s, (∀ j ∈ s, f j ≤ f i) ∧ ∀ j ∈ s, f j = f i → i ≤ j := by
  classical
  obtain ⟨m, hm, hmax⟩ := s.exists_max_image f hs
  have hne : (s.filter fun j => f j = f m).Nonempty := ⟨m, by simp [hm]⟩
  have hmin := Finset.min'_mem _ hne
  rw [Finset.mem_filter] at hmin
  refine ⟨_, hmin.1, fun j hj => (hmax j hj).trans hmin.2.ge, fun j hj h => Finset.min'_le _ _ ?_⟩
  rw [Finset.mem_filter]
  exact ⟨hj, h.trans hmin.2⟩

/-- A nonempty row has a first greatest entry. -/
theorem exists_firstMax {n : ℕ} (f : Fin (n + 1) → EReal) : ∃ i, FirstMax f i := by
  obtain ⟨i, _, h1, h2⟩ := exists_first f Finset.univ Finset.univ_nonempty
  exact ⟨i, fun j => h1 j (Finset.mem_univ j), fun j => h2 j (Finset.mem_univ j)⟩

/-- A row of two or more entries has a second greatest one. -/
theorem exists_secondMax {n : ℕ} (f : Fin (n + 2) → EReal) (i : Fin (n + 2)) : ∃ k, SecondMax f i k := by
  classical
  have hne : (Finset.univ.filter fun j : Fin (n + 2) => j ≠ i).Nonempty := by
    obtain ⟨j, hj⟩ := exists_ne i
    exact ⟨j, by simp [hj]⟩
  obtain ⟨k, hk, h1, h2⟩ := exists_first f _ hne
  exact ⟨k, by simpa using hk, fun j hj => h1 j (by simp [hj]), fun j hj => h2 j (by simp [hj])⟩

/-! ## Sorting by the greater value keeps ties in index order -/

/-- The strict order the stable sort realizes: greater value first, then lower index. -/
def better {n : ℕ} (f : Fin n → EReal) (a b : Fin n) : Bool := decide (f b < f a ∨ (f a = f b ∧ a < b))

/-- It is a strict total order. -/
theorem better_strict {n : ℕ} (f : Fin n → EReal) : StrictTotalBefore (better f) where
  irrefl k := by simp [better]
  trans a b c hab hbc := by
    simp only [better, decide_eq_true_eq] at *
    rcases hab with h | ⟨h, h'⟩ <;> rcases hbc with g | ⟨g, g'⟩
    · exact Or.inl (g.trans h)
    · exact Or.inl (g ▸ h)
    · exact Or.inl (h ▸ g)
    · exact Or.inr ⟨h.trans g, h'.trans g'⟩
  total a b hne := by
    simp only [better, decide_eq_true_eq]
    rcases lt_trichotomy (f a) (f b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- Inserting an index below all those of a list does not look at the index. -/
theorem insertBefore_better {n : ℕ} (f : Fin n → EReal) (a : Fin n) (l : List (Fin n)) (h : ∀ b ∈ l, a < b) :
    insertBefore (fun k k' => decide (f k' < f k)) a l = insertBefore (better f) a l :=
  insertBefore_congr _ _ _ _ fun b hb => by
    have : ¬ b < a := not_lt.mpr (h b hb).le
    simp [better, this]

/-- On a list in increasing order, the stable sort by the value alone is the sort by the strict order. -/
theorem stableSort_better {n : ℕ} (f : Fin n → EReal) (l : List (Fin n)) (h : l.Pairwise (· < ·)) :
    stableSort (fun k k' => decide (f k' < f k)) l = stableSort (better f) l := by
  induction l with
  | nil => rfl
  | cons a l ih =>
    rw [List.pairwise_cons] at h
    unfold stableSort
    rw [ih h.2]
    exact insertBefore_better f a _ fun b hb => h.1 b ((perm_stableSort _ l).mem_iff.mp hb)

/-- So the positions of the two sorts are the same. -/
theorem sortedFrom_value {n : ℕ} (f : Fin n → EReal) :
    sortedFrom (fun k k' => decide (f k' < f k)) = sortedFrom (better f) := by
  have h : sortPositions n (fun k k' => decide (f k' < f k)) = sortPositions n (better f) :=
    stableSort_better f _ (List.pairwise_lt_finRange n)
  funext k
  unfold sortedFrom
  simp only [List.get_eq_getElem, h]
  rfl

/-- The first sorted place is the first greatest. -/
theorem sortedFrom_first {n : ℕ} (f : Fin n → EReal) (i : Fin n) (h : FirstMax f i) (z : Fin n) (hz : z.val = 0) :
    sortedFrom (fun k k' => decide (f k' < f k)) z = i := by
  rw [sortedFrom_value]
  have hn : 1 ≤ n := by have := i.isLt; omega
  have := (better_strict f).sortedFrom_eq_of_prefix hn (fun _ : Fin 1 => i)
    (fun a b _ => Subsingleton.elim a b) (fun a b hab => absurd hab (by rw [Subsingleton.elim a b]; exact lt_irrefl _))
    (fun _ p hp => by
      have hp' : i ≠ p := hp 0
      simp only [better, decide_eq_false_iff_not, not_or, not_and, not_lt]
      exact ⟨h.1 p, fun e => h.2 p e⟩) 0
  rw [← this]
  congr 1
  exact Fin.ext (by simp [hz])

/-- The second sorted place is the second greatest. -/
theorem sortedFrom_second {n : ℕ} (f : Fin n → EReal) (i k : Fin n) (h : FirstMax f i) (hk : SecondMax f i k)
    (z : Fin n) (hz : z.val = 1) :
    sortedFrom (fun k k' => decide (f k' < f k)) z = k := by
  rw [sortedFrom_value]
  have hn : 2 ≤ n := by have := z.isLt; omega
  have := (better_strict f).sortedFrom_eq_of_prefix hn (![i, k] : Fin 2 → Fin n)
    (by
      intro a b hab
      match a, b with
      | 0, 0 => rfl
      | 1, 1 => rfl
      | 0, 1 => exact absurd hab.symm hk.1
      | 1, 0 => exact absurd hab hk.1)
    (by
      intro a b hab
      match a, b with
      | 0, 0 => exact absurd hab (lt_irrefl _)
      | 1, 1 => exact absurd hab (lt_irrefl _)
      | 1, 0 => exact absurd hab (by decide)
      | 0, 1 =>
        show better f k i = false
        simp only [better, decide_eq_false_iff_not, not_or, not_and, not_lt]
        exact ⟨h.1 k, fun e => h.2 k e⟩)
    (by
      intro a p hp
      have h0 : i ≠ p := hp 0
      match a with
      | 0 =>
        show better f p i = false
        simp only [better, decide_eq_false_iff_not, not_or, not_and, not_lt]
        exact ⟨h.1 p, fun e => h.2 p e⟩
      | 1 =>
        show better f p k = false
        simp only [better, decide_eq_false_iff_not, not_or, not_and, not_lt]
        exact ⟨hk.2.1 p h0.symm, fun e => hk.2.2 p h0.symm e⟩) 1
  rw [show z = (1 : Fin 2).castLE hn from Fin.ext hz, this]
  rfl

/-! ## The greatest entry and its lowest lane, as folds -/

/-- The greatest entry of a row. -/
def rowMax {n : ℕ} (F : Fin n → EReal) : EReal := Finset.univ.fold max ⊥ F

/-- The lowest lane holding the greatest entry, as a number. -/
def rowArg {n : ℕ} (F : Fin n → EReal) : EReal :=
  Finset.univ.fold min ⊤ fun l : Fin n => if F l = rowMax F then ((l.val : ℝ) : EReal) else ((1000000000 : ℝ) : EReal)

/-- The fold of the maximum is the greatest entry. -/
theorem rowMax_eq {n : ℕ} (F : Fin n → EReal) (i : Fin n) (h : ∀ j, F j ≤ F i) : rowMax F = F i := by
  refine le_antisymm ?_ ?_
  · exact (Finset.fold_max_le _).mpr ⟨bot_le, fun j _ => h j⟩
  · exact Finset.le_fold_max _ |>.mpr (Or.inr ⟨i, Finset.mem_univ i, le_rfl⟩)

/-- The fold of the lanes is the first greatest place. -/
theorem rowArg_eq {n : ℕ} (hn : n ≤ 1000000000) (F : Fin n → EReal) (i : Fin n) (h : FirstMax F i) :
    rowArg F = ((i.val : ℝ) : EReal) := by
  unfold rowArg
  rw [rowMax_eq F i h.1]
  refine le_antisymm ?_ ?_
  · exact Finset.fold_min_le _ |>.mpr (Or.inr ⟨i, Finset.mem_univ i, by rw [if_pos rfl]⟩)
  · refine Finset.le_fold_min _ |>.mpr ⟨le_top, fun j _ => ?_⟩
    split_ifs with e
    · have := h.2 j e
      exact_mod_cast this
    · have : i.val ≤ 1000000000 := i.isLt.le.trans hn
      exact_mod_cast this

/-! ## The row of weights as the kernel computes it -/

/-- The weights of one row from the masked coarse logits `A` and the fine logits `B`, on 128 lanes. -/
def kRow (A B : Fin 128 → EReal) (l : Fin 128) : EReal :=
  let g := rowArg A
  let p := Ideal.div 1 (∑ j, Ideal.exp (A j - rowMax A))
  let F : Fin 128 → EReal := fun j =>
    if g * ((8 : ℝ) : EReal) ≤ ((j.val : ℝ) : EReal) ∧ ((j.val : ℝ) : EReal) < (g + 1) * ((8 : ℝ) : EReal) then B j else ⊥
  let F2 : Fin 128 → EReal := fun j => if ((j.val : ℝ) : EReal) = rowArg F then ⊥ else F j
  let e := Ideal.exp (rowMax F2 - rowMax F)
  (if ((l.val : ℝ) : EReal) = rowArg F then Ideal.div p (1 + e) else 0)
    + (if ((l.val : ℝ) : EReal) = rowArg F2 then p * Ideal.div e (1 + e) else 0)

/-- The weights of one row: group `g`, experts `i1` and `i2` of it, at lane `l`. -/
def wRow (a : Fin 4 → ℝ) (f : Fin 32 → ℝ) (g : Fin 4) (i1 i2 : Fin 8) (l : Fin 128) : ℝ :=
  let p := 1 / ∑ j, Real.exp (a j - a g)
  let e := Real.exp (f ⟨g.val * 8 + i2.val, by omega⟩ - f ⟨g.val * 8 + i1.val, by omega⟩)
  (if l.val = g.val * 8 + i1.val then p / (1 + e) else 0) + (if l.val = g.val * 8 + i2.val then p * (e / (1 + e)) else 0)

/-- The fine logits of group `g`. -/
def grpRow (f : Fin 32 → ℝ) (g : Fin 4) (k : Fin 8) : EReal := (f ⟨g.val * 8 + k.val, by omega⟩ : EReal)

/-- The kernel's row of weights, when every logit is real. -/
theorem kRow_eq (A B : Fin 128 → EReal) (a : Fin 4 → ℝ) (f : Fin 32 → ℝ) (g : Fin 4) (i1 i2 : Fin 8)
    (hA : ∀ l : Fin 128, A l = if h : l.val < 4 then (a ⟨l.val, h⟩ : EReal) else ⊥)
    (hB : ∀ (l : Fin 128) (h : l.val < 32), B l = (f ⟨l.val, h⟩ : EReal))
    (hg : FirstMax (fun j => (a j : EReal)) g) (h1 : FirstMax (grpRow f g) i1) (h2 : SecondMax (grpRow f g) i1 i2)
    (l : Fin 128) : kRow A B l = ((wRow a f g i1 i2 l : ℝ) : EReal) := by
  have hgl := g.isLt
  have h1l := i1.isLt
  have h2l := i2.isLt
  -- the coarse row
  have fmA : FirstMax A (⟨g.val, by omega⟩ : Fin 128) := by
    have e : A ⟨g.val, by omega⟩ = (a g : EReal) := by rw [hA, dif_pos hgl]
    refine ⟨fun j => ?_, fun j hj => ?_⟩
    · rw [e, hA]; split_ifs with h
      · exact hg.1 _
      · exact bot_le
    · rw [e, hA] at hj
      split_ifs at hj with h
      · exact hg.2 _ hj
      · exact absurd hj (by simp)
  have mA : rowMax A = (a g : EReal) := by rw [rowMax_eq A _ fmA.1, hA, dif_pos hgl]
  have gA : rowArg A = ((g.val : ℝ) : EReal) := rowArg_eq (by norm_num) A _ fmA
  have sA : (∑ j, Ideal.exp (A j - rowMax A)) = ((∑ j, Real.exp (a j - a g) : ℝ) : EReal) := by
    rw [mA, ← coe_sum]
    have step : ∀ l : Fin 128, Ideal.exp (A l - (a g : EReal))
        = if h : l.val < 4 then ((Real.exp (a ⟨l.val, h⟩ - a g) : ℝ) : EReal) else 0 := by
      intro l
      rw [hA]
      split_ifs with h
      · rw [← EReal.coe_sub, Ideal.exp_coe]
      · simp
    rw [Finset.sum_congr rfl fun l _ => step l]
    rw [← Finset.sum_subset (Finset.subset_univ (Finset.univ.map (Fin.castLEEmb (by norm_num : 4 ≤ 128))))]
    · rw [Finset.sum_map]
      exact Finset.sum_congr rfl fun j _ => by
        have : ((Fin.castLEEmb (by norm_num : 4 ≤ 128)) j).val < 4 := j.isLt
        rw [dif_pos this]; rfl
    · intro x _ hx
      rw [dif_neg]
      intro h
      exact hx (Finset.mem_map.mpr ⟨⟨x.val, h⟩, Finset.mem_univ _, Fin.ext rfl⟩)
  -- the fine row
  have hmask : ∀ j : Fin 128, (((g.val : ℝ) : EReal) * ((8 : ℝ) : EReal) ≤ ((j.val : ℝ) : EReal)
      ∧ ((j.val : ℝ) : EReal) < (((g.val : ℝ) : EReal) + 1) * ((8 : ℝ) : EReal)) ↔ (g.val * 8 ≤ j.val ∧ j.val < g.val * 8 + 8) := by
    intro j
    have e1 : ((g.val : ℝ) : EReal) * ((8 : ℝ) : EReal) = (((g.val * 8 : ℕ) : ℝ) : EReal) := by
      rw [← EReal.coe_mul]; push_cast; rfl
    have e2 : (((g.val : ℝ) : EReal) + 1) * ((8 : ℝ) : EReal) = (((g.val * 8 + 8 : ℕ) : ℝ) : EReal) := by
      rw [← EReal.coe_one, ← EReal.coe_add, ← EReal.coe_mul]; congr 1; push_cast; ring
    rw [e1, e2, EReal.coe_le_coe_iff, EReal.coe_lt_coe_iff, Nat.cast_le, Nat.cast_lt]
  unfold kRow
  simp only [gA, sA, hmask]
  set F : Fin 128 → EReal := fun j => if g.val * 8 ≤ j.val ∧ j.val < g.val * 8 + 8 then B j else ⊥ with hF
  have Fin_eq : ∀ (j : Fin 128) (h : g.val * 8 ≤ j.val ∧ j.val < g.val * 8 + 8),
      F j = grpRow f g ⟨j.val - g.val * 8, by omega⟩ := by
    intro j h
    simp only [hF, if_pos h, grpRow]
    rw [hB j (by omega)]
    congr 2
    exact Fin.ext (by show j.val = g.val * 8 + (j.val - g.val * 8); omega)
  have Fout : ∀ (j : Fin 128), ¬ (g.val * 8 ≤ j.val ∧ j.val < g.val * 8 + 8) → F j = ⊥ := by
    intro j h; simp only [hF, if_neg h]
  have F1 : F ⟨g.val * 8 + i1.val, by omega⟩ = grpRow f g i1 := by
    rw [Fin_eq _ ⟨by simp, by simp⟩]; congr 1; exact Fin.ext (by simp)
  have F2' : F ⟨g.val * 8 + i2.val, by omega⟩ = grpRow f g i2 := by
    rw [Fin_eq _ ⟨by simp, by simp⟩]; congr 1; exact Fin.ext (by simp)
  have fm1 : FirstMax F (⟨g.val * 8 + i1.val, by omega⟩ : Fin 128) := by
    refine ⟨fun j => ?_, fun j hj => ?_⟩
    · rw [F1]
      by_cases h : g.val * 8 ≤ j.val ∧ j.val < g.val * 8 + 8
      · rw [Fin_eq j h]; exact h1.1 _
      · rw [Fout j h]; exact bot_le
    · rw [F1] at hj
      by_cases h : g.val * 8 ≤ j.val ∧ j.val < g.val * 8 + 8
      · rw [Fin_eq j h] at hj
        have := h1.2 _ hj
        rw [Fin.le_def] at this ⊢
        simp only at this ⊢; omega
      · rw [Fout j h] at hj; exact absurd hj (by simp [grpRow])
  have m1 : rowMax F = grpRow f g i1 := by rw [rowMax_eq F _ fm1.1, F1]
  have a1 : rowArg F = (((g.val * 8 + i1.val : ℕ) : ℝ) : EReal) := rowArg_eq (by norm_num) F _ fm1
  have lane : ∀ (j : Fin 128) (k : ℕ), ((j.val : ℝ) : EReal) = ((k : ℝ) : EReal) ↔ j.val = k := by
    intro j k; rw [EReal.coe_eq_coe_iff, Nat.cast_inj]
  simp only [a1, lane]
  set F2 : Fin 128 → EReal := fun j => if j.val = g.val * 8 + i1.val then ⊥ else F j with hF2
  have hne : i2.val ≠ i1.val := fun h => h2.1 (Fin.ext h)
  have F22 : F2 ⟨g.val * 8 + i2.val, by omega⟩ = grpRow f g i2 := by
    simp only [hF2]; rw [if_neg (by omega), F2']
  have fm2 : FirstMax F2 (⟨g.val * 8 + i2.val, by omega⟩ : Fin 128) := by
    refine ⟨fun j => ?_, fun j hj => ?_⟩
    · rw [F22]
      simp only [hF2]
      split_ifs with e
      · exact bot_le
      · by_cases h : g.val * 8 ≤ j.val ∧ j.val < g.val * 8 + 8
        · rw [Fin_eq j h]; exact h2.2.1 _ (fun c => e (by have := congrArg Fin.val c; simp only at this; omega))
        · rw [Fout j h]; exact bot_le
    · rw [F22] at hj
      simp only [hF2] at hj
      split_ifs at hj with e
      · exact absurd hj (by simp [grpRow])
      · by_cases h : g.val * 8 ≤ j.val ∧ j.val < g.val * 8 + 8
        · rw [Fin_eq j h] at hj
          have := h2.2.2 _ (fun c => e (by have := congrArg Fin.val c; simp only at this; omega)) hj
          rw [Fin.le_def] at this ⊢
          simp only at this ⊢; omega
        · rw [Fout j h] at hj; exact absurd hj (by simp [grpRow])
  have m2 : rowMax F2 = grpRow f g i2 := by rw [rowMax_eq F2 _ fm2.1, F22]
  have a2 : rowArg F2 = (((g.val * 8 + i2.val : ℕ) : ℝ) : EReal) := rowArg_eq (by norm_num) F2 _ fm2
  simp only [m1, m2, a2, lane, grpRow]
  rw [← EReal.coe_sub, Ideal.exp_coe, ← EReal.coe_one, ← EReal.coe_add]
  have hS : (∑ j, Real.exp (a j - a g)) ≠ 0 :=
    (Finset.sum_pos (fun j _ => Real.exp_pos _) Finset.univ_nonempty).ne'
  have hE : ∀ x : ℝ, 1 + Real.exp x ≠ 0 := fun x => (by positivity : (0:ℝ) < 1 + Real.exp x).ne'
  rw [div_real _ _ hS, div_real _ _ (hE _), div_real _ _ (hE _), ← EReal.coe_mul, ← EReal.coe_zero]
  unfold wRow
  rw [EReal.coe_add]
  congr 1 <;> split_ifs <;> rfl

end Cert.Router

end
-- ==== Proof.KernelRow.lean ====
/- The router kernel's block payloads at the extended reals, read at one place of the block. -/
module

public import proofs.«01_k».proof.Proof.Gen.KernelIdeal.Frame
public import proofs.«01_k».proof.Proof.RowMath
public import Idealize.ShloMosaic.Lib.Pointwise

@[expose] public section

set_option maxRecDepth 16384

noncomputable section

namespace Cert.KernelIdeal.Row

open Idealize.ShloMosaic Cert.KernelIdeal Cert.KernelIdeal.Gen Cert.Router

/-- The new residual row: the input plus the two parts of the output projection. -/
theorem pay2_apply (v0 : Vec Ideal S1024x1024 .f32) (v1 : Vec Ideal S1024x768 .f32) (v2 : Vec Ideal S768x1024 .bf16)
    (v6 : Vec Ideal S1024x256 .f32) (v7 : Vec Ideal S256x1024 .bf16) (r c : Fin 1024) :
    k0_pay2 v0 v1 v2 v6 v7 (ix2 r c)
      = v0 (ix2 r c) + ((∑ k : Fin 768, v1 (ix2 r k) * v2 (ix2 k c)) + ∑ k : Fin 256, v6 (ix2 r k) * v7 (ix2 k c)) := by
  unfold k0_pay2
  pointwise

/-- The normalized row. -/
theorem pay3_apply (v0 : Vec Ideal S1024x1024 .f32) (v1 : Vec Ideal S1024x768 .f32) (v2 : Vec Ideal S768x1024 .bf16)
    (v6 : Vec Ideal S1024x256 .f32) (v7 : Vec Ideal S256x1024 .bf16) (v14 : Vec Ideal S1x1024 .f32) (r c : Fin 1024) :
    k0_pay3 v0 v1 v2 v6 v7 v14 (ix2 r c)
      = k0_pay2 v0 v1 v2 v6 v7 (ix2 r c) * Ideal.rsqrt (Ideal.div (∑ k : Fin 1024,
          k0_pay2 v0 v1 v2 v6 v7 (ix2 r k) * k0_pay2 v0 v1 v2 v6 v7 (ix2 r k)) (Ideal.ofBits .f32 0x44800000#32)
          + Ideal.ofBits .f32 0x358637BD#32) * v14 (ix2 0 c) := by
  unfold k0_pay3
  pointwise

/-- The lane number, as the kernel makes it from an index word. -/
theorem lane_val (l : Fin 128) : (FloatOps.sitofp (F := Ideal) .f32 (BitVec.ofNat 32 l.val) : EReal) = ((l.val : ℝ) : EReal) := by
  have h : (BitVec.ofNat 32 l.val).toInt = (l.val : ℤ) := by
    have := l.isLt
    rw [BitVec.toInt_eq_toNat_of_lt] <;> rw [BitVec.toNat_ofNat] <;> omega
  show (((BitVec.ofNat 32 l.val).toInt : ℝ) : EReal) = _
  rw [h]; norm_num

/-- The word of 4. -/
theorem word_4 : Ideal.ofBits .f32 0x40800000#32 = ((4 : ℝ) : EReal) := by
  simp [Ideal.ofBits, Ideal.ieee, -EReal.coe_mul]; norm_num

/-- The word of 8. -/
theorem word_8 : Ideal.ofBits .f32 0x41000000#32 = ((8 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- The word of 10⁹. -/
theorem word_1e9 : Ideal.ofBits .f32 0x4E6E6B28#32 = ((1000000000 : ℝ) : EReal) := by
  simp [Ideal.ofBits, Ideal.ieee, -EReal.coe_mul]; norm_num

/-- The word near 10⁻⁶ is a positive real. -/
theorem word_eps : ∃ e : ℝ, 0 < e ∧ Ideal.ofBits .f32 0x358637BD#32 = (e : EReal) := by
  refine ⟨_, ?_, by simp [Ideal.ofBits, Ideal.ieee, -EReal.coe_mul]; rfl⟩
  positivity

/-- The word of minus infinity. -/
theorem word_ninf : Ideal.ofBits .f32 0xFF800000#32 = ⊥ := by simp [Ideal.ofBits, Ideal.ieee]

/-- The word of plus infinity. -/
theorem word_pinf : Ideal.ofBits .f32 0x7F800000#32 = ⊤ := by simp [Ideal.ofBits, Ideal.ieee]

/-- The masked coarse logits of a row. -/
def coarse (h : FVec Ideal S1024x1024 .bf16) (w : Vec Ideal S1024x128 .bf16) (b : Vec Ideal S1x128 .f32) (r : Fin 1024)
    (l : Fin 128) : EReal :=
  if l.val < 4 then (∑ k : Fin 1024, h (ix2 r k) * w (ix2 k l)) + b (ix2 0 l) else ⊥

/-- The fine logits of a row. -/
def fine (h : FVec Ideal S1024x1024 .bf16) (w : Vec Ideal S1024x128 .bf16) (b : Vec Ideal S1x128 .f32) (r : Fin 1024)
    (l : Fin 128) : EReal :=
  (∑ k : Fin 1024, h (ix2 r k) * w (ix2 k l)) + b (ix2 0 l)

/-- The lane index row of the kernel. -/
theorem pay5_apply (l : Fin 128) : (k0_pay5 (F := Ideal)) (ix2 0 l) = ((l.val : ℝ) : EReal) := by
  unfold k0_pay5
  pointwise
  exact lane_val l

/-- The kernel's coarse logits, the lanes past the four groups at minus infinity. -/
theorem pay7_apply (h : FVec Ideal S1024x1024 .bf16) (w : Vec Ideal S1024x128 .bf16) (b : Vec Ideal S1x128 .f32)
    (r : Fin 1024) (l : Fin 128) : k0_pay7 h (k0_pay6 (F := Ideal)) w b (ix2 r l) = coarse h w b r l := by
  unfold k0_pay7 k0_pay6 coarse
  pointwise
  rw [pay5_apply, word_4, word_ninf]
  have : (((l.val : ℝ) : EReal) < ((4 : ℝ) : EReal)) ↔ l.val < 4 := by rw [EReal.coe_lt_coe_iff]; norm_cast
  simp only [this]

/-- Their greatest. -/
theorem pay8_apply (h : FVec Ideal S1024x1024 .bf16) (w : Vec Ideal S1024x128 .bf16) (b : Vec Ideal S1x128 .f32)
    (r : Fin 1024) : k0_pay8 h (k0_pay6 (F := Ideal)) w b (ix2 r 0) = rowMax (coarse h w b r) := by
  unfold k0_pay8 rowMax
  pointwise
  simp only [pay7_apply, word_ninf]

/-- The chosen group's probability. -/
theorem pay9_apply (h : FVec Ideal S1024x1024 .bf16) (w : Vec Ideal S1024x128 .bf16) (b : Vec Ideal S1x128 .f32)
    (r : Fin 1024) : k0_pay9 h (k0_pay6 (F := Ideal)) w b (ix2 r 0)
      = Ideal.div 1 (∑ j, Ideal.exp (coarse h w b r j - rowMax (coarse h w b r))) := by
  unfold k0_pay9
  pointwise
  simp only [pay7_apply, pay8_apply]

/-- The conjunction of two truth words. -/
theorem andi_ofBool (p q : Bool) : IntOp.andi (BitVec.ofBool p) (BitVec.ofBool q) = BitVec.ofBool (p && q) := by
  cases p <;> cases q <;> rfl

/-- A truth word is one when its proposition holds. -/
theorem ofBool_eq_one (p : Bool) : (BitVec.ofBool p = 1#1) ↔ p = true := by cases p <;> decide

/-- The lanes of the chosen group. -/
theorem pay10_apply (h : FVec Ideal S1024x1024 .bf16) (w : Vec Ideal S1024x128 .bf16) (b : Vec Ideal S1x128 .f32)
    (r : Fin 1024) (l : Fin 128) : k0_pay10 h (k0_pay5 (F := Ideal)) (k0_pay6 (F := Ideal)) w b (ix2 r l)
      = BitVec.ofBool (decide (rowArg (coarse h w b r) * ((8 : ℝ) : EReal) ≤ ((l.val : ℝ) : EReal)
          ∧ ((l.val : ℝ) : EReal) < (rowArg (coarse h w b r) + 1) * ((8 : ℝ) : EReal))) := by
  unfold k0_pay10 rowArg
  pointwise
  simp only [pay7_apply, pay8_apply, pay5_apply, word_1e9, word_8, word_pinf]
  rw [andi_ofBool, ← Bool.decide_and]

/-- The fine logits of the chosen group, the other lanes at minus infinity. -/
def inGroup (A B : Fin 128 → EReal) (j : Fin 128) : EReal :=
  if rowArg A * ((8 : ℝ) : EReal) ≤ ((j.val : ℝ) : EReal) ∧ ((j.val : ℝ) : EReal) < (rowArg A + 1) * ((8 : ℝ) : EReal) then B j else ⊥

section
variable (h : FVec Ideal S1024x1024 .bf16) (w : Vec Ideal S1024x128 .bf16) (b : Vec Ideal S1x128 .f32)
  (wf : Vec Ideal S1024x128 .bf16) (bf : Vec Ideal S1x128 .f32) (r : Fin 1024)

/-- The mask of the chosen group and the fine products, as the last part of the body takes them. -/
abbrev maskOf : IVec S1024x128 1 := k0_pay10 h (k0_pay5 (F := Ideal)) (k0_pay6 (F := Ideal)) w b

/-- The fine logits of the chosen group, as the kernel masks them. -/
theorem pay12_apply (l : Fin 128) :
    k0_pay12 (maskOf h w b) (k0_pay11 h wf) bf (ix2 r l) = inGroup (coarse h w b r) (fine h wf bf r) l := by
  unfold k0_pay12 k0_pay11 inGroup fine
  pointwise
  simp only [pay10_apply, word_ninf, Scalar.select]
  exact if_congr ((ofBool_eq_one _).trans decide_eq_true_iff) rfl rfl

/-- Their greatest. -/
theorem pay13_apply :
    k0_pay13 (maskOf h w b) (k0_pay11 h wf) bf (ix2 r 0) = rowMax (inGroup (coarse h w b r) (fine h wf bf r)) := by
  unfold k0_pay13 rowMax
  pointwise
  simp only [pay12_apply, word_ninf]

/-- Its lowest lane. -/
theorem pay14_apply :
    k0_pay14 (k0_pay5 (F := Ideal)) (maskOf h w b) (k0_pay11 h wf) bf (ix2 r 0)
      = rowArg (inGroup (coarse h w b r) (fine h wf bf r)) := by
  unfold k0_pay14 rowArg
  pointwise
  simp only [pay12_apply, pay13_apply, pay5_apply, word_1e9, word_pinf]

/-- The row with the greatest entry taken out. -/
def without (F : Fin 128 → EReal) (j : Fin 128) : EReal := if ((j.val : ℝ) : EReal) = rowArg F then ⊥ else F j

/-- The masked fine logits with the greatest taken out. -/
theorem pay15_apply (l : Fin 128) :
    k0_pay15 (k0_pay5 (F := Ideal)) (maskOf h w b) (k0_pay11 h wf) bf (ix2 r l)
      = without (inGroup (coarse h w b r) (fine h wf bf r)) l := by
  unfold k0_pay15 without
  pointwise
  simp only [pay12_apply, pay14_apply, pay5_apply, word_ninf]

/-- The second greatest. -/
theorem pay16_apply :
    k0_pay16 (k0_pay5 (F := Ideal)) (maskOf h w b) (k0_pay11 h wf) bf (ix2 r 0)
      = rowMax (without (inGroup (coarse h w b r) (fine h wf bf r))) := by
  unfold k0_pay16 rowMax
  pointwise
  simp only [pay15_apply, word_ninf]

/-- The exponential of the difference of the two. -/
theorem pay17_apply :
    k0_pay17 (k0_pay5 (F := Ideal)) (maskOf h w b) (k0_pay11 h wf) bf (ix2 r 0)
      = Ideal.exp (rowMax (without (inGroup (coarse h w b r) (fine h wf bf r)))
          - rowMax (inGroup (coarse h w b r) (fine h wf bf r))) := by
  unfold k0_pay17
  pointwise
  simp only [pay16_apply, pay13_apply]

/-- The row of weights the kernel stores. -/
theorem weights_apply (l : Fin 128) :
    k0_pay1
        (k0_pay19 (k0_pay5 (F := Ideal)) (k0_pay9 h (k0_pay6 (F := Ideal)) w b) (maskOf h w b) (k0_pay11 h wf) bf)
        (k0_pay20 (k0_pay5 (F := Ideal)) (maskOf h w b) (k0_pay11 h wf) bf)
        (k0_pay21 (k0_pay5 (F := Ideal)) (k0_pay9 h (k0_pay6 (F := Ideal)) w b) (maskOf h w b) (k0_pay11 h wf) bf)
        (ix2 r l)
      = kRow (coarse h w b r) (fine h wf bf r) l := by
  unfold k0_pay1 k0_pay19 k0_pay20 k0_pay21 k0_pay18
  pointwise
  simp only [pay5_apply, pay9_apply, pay14_apply, pay15_apply, pay16_apply, pay17_apply, word_1e9, word_pinf,
    ofBool_eq_one, decide_eq_true_eq]
  rfl

end

end Cert.KernelIdeal.Row

end
-- ==== Proof.RowSpec.lean ====
module

public import proofs.«01_k».proof.Proof.RowMath

/-!
  The router's three results, one row at a time, as functions of the row's inputs: the new residual row, the
  normalized row and the two rows of logits.
-/

@[expose] public section

noncomputable section

namespace Cert.Router

open Idealize.ShloMosaic

/-- The new residual row: the input row plus the mixed features and the memory features through the two parts of the
    output projection. -/
def xRow (x : Fin 1024 → EReal) (mix : Fin 768 → EReal) (mem : Fin 256 → EReal) (w : Fin 1024 → Fin 1024 → EReal)
    (c : Fin 1024) : EReal :=
  x c + ((∑ k : Fin 768, mix k * w (Fin.castAdd 256 k) c) + ∑ k : Fin 256, mem k * w (Fin.natAdd 768 k) c)

/-- The normalized row: a row over the root of its mean square, times the gains. -/
def hRow (x : Fin 1024 → EReal) (gain : Fin 1024 → EReal) (c : Fin 1024) : EReal :=
  x c * Ideal.rsqrt (Ideal.div (∑ k : Fin 1024, x k * x k) (Ideal.ofBits .f32 0x44800000#32)
    + Ideal.ofBits .f32 0x358637BD#32) * gain c

/-- A row of logits. -/
def logits {n : Nat} (h : Fin 1024 → EReal) (w : Fin 1024 → Fin n → EReal) (b : Fin n → EReal) (l : Fin n) : EReal :=
  (∑ k : Fin 1024, h k * w k l) + b l

end Cert.Router

end
-- ==== Proof.KernelValue.lean ====
module

public import proofs.«01_k».proof.Proof.Gen.KernelIdeal.Frame
public import proofs.«01_k».proof.Proof.KernelRow
public import proofs.«01_k».proof.Proof.RowSpec
public import Idealize.ShloMosaic.Lib.Pointwise
public import Idealize.ShloMosaic.Lib.KernelVsHost
public import Idealize.ShloMosaic.Lib.Pipeline.Value

/-!
  The arrays the router kernel leaves: row by row, the new residual, the normalized row and the row of weights, each
  as a function of the argument arrays.
-/

@[expose] public section

set_option maxRecDepth 16384

noncomputable section

namespace Cert.KernelIdeal.RefValue

open Idealize.ShloMosaic Idealize.ShloMosaic.TcCoe Idealize.SL.Sem
open Cert.KernelIdeal Cert.KernelIdeal.Gen Cert.Router

variable (m : (ℓ : Loc nD τ sig) → Buf (Elt Ideal) ℓ) (ρ : Dev nD → PrngReg)

/-! ## The arrays the host code prepares -/

/-- The output projection's weight, which only changes its format. -/
theorem V_v0 (c : Dev nD) : V m c main_v0 = (fun i => m ((c : Thread nD τ).loc main_arg3) i) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The gains as a row. -/
theorem V_v1 (c : Dev nD) (k : Fin 1024) : (V m c main_v1 : Vec Ideal S1x1024 .f32) (ix2 0 k)
    = (m ((c : Thread nD τ).loc main_arg4) : Vec Ideal S1024 .f32) (ix1 k) := by
  have : V m c main_v1 = shapeCast S1x1024 (m ((c : Thread nD τ).loc main_arg4) : Vec Ideal S1024 .f32)
      shapeCasts_S1024_S1x1024 := by
    unfold V
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [this]
  pointwise

/-- The coarse weight, padded with columns: its own columns are the argument's. -/
theorem V_v3 (c : Dev nD) (k : Fin 1024) (l : Fin 128) (h : l.val < 4) :
    (V m c main_v3 : Vec Ideal S1024x128 .bf16) (ix2 k l)
      = (m ((c : Thread nD τ).loc main_arg5) : Vec Ideal S1024x4 .f32) (ix2 k ⟨l.val, h⟩) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine (show _ = pad S1024x128 ![0, 0] ![0, 124] ![0, 0]
    (m ((c : Thread nD τ).loc main_arg5) : Vec Ideal S1024x4 .f32) (sitofp .f32 (constantI S_ 32 0#32) : FVec Ideal S_ .f32)
    pads_S1024x4_S1024x128_000_01240 h_S_ (ix2 k l) from rfl).trans ?_
  refine pad_apply_of_inside _ _ _ _ _ _ _ (ix2 k l) (ix2 k ⟨l.val, h⟩) fun a => ?_
  match a with
  | ⟨0, _⟩ => show k.val = 0 + k.val * 1; omega
  | ⟨1, _⟩ => show l.val = 0 + l.val * 1; omega

/-- The coarse offsets, padded. -/
theorem V_v5 (c : Dev nD) (l : Fin 128) (h : l.val < 4) :
    (V m c main_v5 : Vec Ideal S1x128 .f32) (ix2 0 l)
      = (m ((c : Thread nD τ).loc main_arg6) : Vec Ideal S4 .f32) (ix1 ⟨l.val, h⟩) := by
  have hz : V m c main_v5 = shapeCast S1x128 (pad S128 ![0] ![124] ![0]
      (m ((c : Thread nD τ).loc main_arg6) : Vec Ideal S4 .f32) (sitofp .f32 (constantI S_ 32 0#32) : FVec Ideal S_ .f32) pads_S4_S128_01240 h_S_) shapeCasts_S128_S1x128 := by
    unfold V
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [hz]
  have : shapeCast S1x128 (pad S128 ![0] ![124] ![0]
      (m ((c : Thread nD τ).loc main_arg6) : Vec Ideal S4 .f32) (sitofp .f32 (constantI S_ 32 0#32) : FVec Ideal S_ .f32) pads_S4_S128_01240 h_S_) shapeCasts_S128_S1x128 (ix2 0 l)
      = pad S128 ![0] ![124] ![0] (m ((c : Thread nD τ).loc main_arg6) : Vec Ideal S4 .f32) (sitofp .f32 (constantI S_ 32 0#32) : FVec Ideal S_ .f32) pads_S4_S128_01240 h_S_ (ix1 l) := by
    generalize pad S128 ![0] ![124] ![0] (m ((c : Thread nD τ).loc main_arg6) : Vec Ideal S4 .f32) (sitofp .f32 (constantI S_ 32 0#32) : FVec Ideal S_ .f32) pads_S4_S128_01240 h_S_ = q
    pointwise
  rw [this]
  refine pad_apply_of_inside _ _ _ _ _ _ _ (ix1 l) (ix1 ⟨l.val, h⟩) fun a => ?_
  match a with
  | ⟨0, _⟩ => show l.val = 0 + l.val * 1; omega

/-- The fine weight, padded with columns: its own columns are the argument's. -/
theorem V_v7 (c : Dev nD) (k : Fin 1024) (l : Fin 128) (h : l.val < 32) :
    (V m c main_v7 : Vec Ideal S1024x128 .bf16) (ix2 k l)
      = (m ((c : Thread nD τ).loc main_arg7) : Vec Ideal S1024x32 .f32) (ix2 k ⟨l.val, h⟩) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine (show _ = pad S1024x128 ![0, 0] ![0, 96] ![0, 0]
    (m ((c : Thread nD τ).loc main_arg7) : Vec Ideal S1024x32 .f32) (sitofp .f32 (constantI S_ 32 0#32) : FVec Ideal S_ .f32)
    pads_S1024x32_S1024x128_000_0960 h_S_ (ix2 k l) from rfl).trans ?_
  refine pad_apply_of_inside _ _ _ _ _ _ _ (ix2 k l) (ix2 k ⟨l.val, h⟩) fun a => ?_
  match a with
  | ⟨0, _⟩ => show k.val = 0 + k.val * 1; omega
  | ⟨1, _⟩ => show l.val = 0 + l.val * 1; omega

/-- The fine offsets, padded. -/
theorem V_v9 (c : Dev nD) (l : Fin 128) (h : l.val < 32) :
    (V m c main_v9 : Vec Ideal S1x128 .f32) (ix2 0 l)
      = (m ((c : Thread nD τ).loc main_arg8) : Vec Ideal S32 .f32) (ix1 ⟨l.val, h⟩) := by
  have hz : V m c main_v9 = shapeCast S1x128 (pad S128 ![0] ![96] ![0]
      (m ((c : Thread nD τ).loc main_arg8) : Vec Ideal S32 .f32) (sitofp .f32 (constantI S_ 32 0#32) : FVec Ideal S_ .f32) pads_S32_S128_0960 h_S_) shapeCasts_S128_S1x128 := by
    unfold V
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [hz]
  have : shapeCast S1x128 (pad S128 ![0] ![96] ![0]
      (m ((c : Thread nD τ).loc main_arg8) : Vec Ideal S32 .f32) (sitofp .f32 (constantI S_ 32 0#32) : FVec Ideal S_ .f32) pads_S32_S128_0960 h_S_) shapeCasts_S128_S1x128 (ix2 0 l)
      = pad S128 ![0] ![96] ![0] (m ((c : Thread nD τ).loc main_arg8) : Vec Ideal S32 .f32) (sitofp .f32 (constantI S_ 32 0#32) : FVec Ideal S_ .f32) pads_S32_S128_0960 h_S_ (ix1 l) := by
    generalize pad S128 ![0] ![96] ![0] (m ((c : Thread nD τ).loc main_arg8) : Vec Ideal S32 .f32) (sitofp .f32 (constantI S_ 32 0#32) : FVec Ideal S_ .f32) pads_S32_S128_0960 h_S_ = q
    pointwise
  rw [this]
  refine pad_apply_of_inside _ _ _ _ _ _ _ (ix1 l) (ix1 ⟨l.val, h⟩) fun a => ?_
  match a with
  | ⟨0, _⟩ => show l.val = 0 + l.val * 1; omega

/-! ## The blocks the body reads -/

/-- The row of the whole array that row `r` of point `t`'s block is. -/
def rowAt (t : Fin cfg0.N) (r : Fin 1024) : Fin 16384 :=
  ⟨t.val * 1024 + r.val, by have := t.isLt; have : cfg0.N = 16 := N_0; omega⟩

/-- The block of the input rows. -/
theorem blk0 (c : Dev nD) (t : Fin cfg0.N) (r : Fin 1024) (k : Fin 1024) :
    (iblk m c 0 t : Vec Ideal S1024x1024 .f32) (ix2 r k)
      = (m ((c : Thread nD τ).loc main_arg0) : Vec Ideal S16384x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

/-- The block of the mixed features. -/
theorem blk1 (c : Dev nD) (t : Fin cfg0.N) (r : Fin 1024) (k : Fin 768) :
    (iblk m c 1 t : Vec Ideal S1024x768 .f32) (ix2 r k)
      = (m ((c : Thread nD τ).loc main_arg1) : Vec Ideal S16384x768 .f32) (ix2 (rowAt t r) k) := by
  have hi : win0_1.index t 0 = t.val ∧ win0_1.index t 1 = 0 := by
    have h : ∀ t : Fin cfg0.N, win0_1.index t 0 = t.val ∧ win0_1.index t 1 = 0 := by decide +kernel
    exact h t
  unfold iblk
  rw [View.read_apply]
  show V m c main_arg1 _ = _
  rw [V_main_arg1]
  congr 1
  funext a
  apply Fin.ext
  match a with
  | ⟨0, _⟩ => show win0_1.index t 0 * 1024 + 1 * r.val = t.val * 1024 + r.val; rw [hi.1]; omega
  | ⟨1, _⟩ => show win0_1.index t 1 * 768 + 1 * k.val = k.val; rw [hi.2]; omega

/-- The block of the memory features. -/
theorem blk2 (c : Dev nD) (t : Fin cfg0.N) (r : Fin 1024) (k : Fin 256) :
    (iblk m c 2 t : Vec Ideal S1024x256 .f32) (ix2 r k)
      = (m ((c : Thread nD τ).loc main_arg2) : Vec Ideal S16384x256 .f32) (ix2 (rowAt t r) k) := by
  have hi : win0_2.index t 0 = t.val ∧ win0_2.index t 1 = 0 := by
    have h : ∀ t : Fin cfg0.N, win0_2.index t 0 = t.val ∧ win0_2.index t 1 = 0 := by decide +kernel
    exact h t
  unfold iblk
  rw [View.read_apply]
  show V m c main_arg2 _ = _
  rw [V_main_arg2]
  congr 1
  funext a
  apply Fin.ext
  match a with
  | ⟨0, _⟩ => show win0_2.index t 0 * 1024 + 1 * r.val = t.val * 1024 + r.val; rw [hi.1]; omega
  | ⟨1, _⟩ => show win0_2.index t 1 * 256 + 1 * k.val = k.val; rw [hi.2]; omega

/-- The block of the output projection is the whole array. -/
theorem blk3 (c : Dev nD) (t : Fin cfg0.N) : (iblk m c 3 t : Vec Ideal S1024x1024 .bf16) = V m c main_v0 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v0 _ = V m c main_v0 j
  congr 1
  funext a
  apply Fin.ext
  match a with
  | ⟨0, _⟩ => show win0_3.index t 0 * 1024 + 1 * (j 0).val = (j 0).val; rw [hi.1]; omega
  | ⟨1, _⟩ => show win0_3.index t 1 * 1024 + 1 * (j 1).val = (j 1).val; rw [hi.2]; omega

/-- The block of the gains is the whole array. -/
theorem blk4 (c : Dev nD) (t : Fin cfg0.N) : (iblk m c 4 t : Vec Ideal S1x1024 .f32) = V m c main_v1 := by
  have hi : win0_4.index t 0 = 0 ∧ win0_4.index t 1 = 0 := by
    have h : ∀ t : Fin cfg0.N, win0_4.index t 0 = 0 ∧ win0_4.index t 1 = 0 := by decide +kernel
    exact h t
  funext j
  unfold iblk
  rw [View.read_apply]
  show V m c main_v1 _ = V m c main_v1 j
  congr 1
  funext a
  apply Fin.ext
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega

/-- The block of the coarse weight is the whole array. -/
theorem blk5 (c : Dev nD) (t : Fin cfg0.N) : (iblk m c 5 t : Vec Ideal S1024x128 .bf16) = V m c main_v3 := by
  have hi : win0_5.index t 0 = 0 ∧ win0_5.index t 1 = 0 := by
    have h : ∀ t : Fin cfg0.N, win0_5.index t 0 = 0 ∧ win0_5.index t 1 = 0 := by decide +kernel
    exact h t
  funext j
  unfold iblk
  rw [View.read_apply]
  show V m c main_v3 _ = V m c main_v3 j
  congr 1
  funext a
  apply Fin.ext
  match a with
  | ⟨0, _⟩ => show win0_5.index t 0 * 1024 + 1 * (j 0).val = (j 0).val; rw [hi.1]; omega
  | ⟨1, _⟩ => show win0_5.index t 1 * 128 + 1 * (j 1).val = (j 1).val; rw [hi.2]; omega

/-- The block of the coarse offsets is the whole array. -/
theorem blk6 (c : Dev nD) (t : Fin cfg0.N) : (iblk m c 6 t : Vec Ideal S1x128 .f32) = V m c main_v5 := by
  have hi : win0_6.index t 0 = 0 ∧ win0_6.index t 1 = 0 := by
    have h : ∀ t : Fin cfg0.N, win0_6.index t 0 = 0 ∧ win0_6.index t 1 = 0 := by decide +kernel
    exact h t
  funext j
  unfold iblk
  rw [View.read_apply]
  show V m c main_v5 _ = V m c main_v5 j
  congr 1
  funext a
  apply Fin.ext
  match a with
  | ⟨0, _⟩ => show win0_6.index t 0 * 1 + 1 * (j 0).val = (j 0).val; rw [hi.1]; omega
  | ⟨1, _⟩ => show win0_6.index t 1 * 128 + 1 * (j 1).val = (j 1).val; rw [hi.2]; omega

/-- The block of the fine weight is the whole array. -/
theorem blk7 (c : Dev nD) (t : Fin cfg0.N) : (iblk m c 7 t : Vec Ideal S1024x128 .bf16) = V m c main_v7 := by
  have hi : win0_7.index t 0 = 0 ∧ win0_7.index t 1 = 0 := by
    have h : ∀ t : Fin cfg0.N, win0_7.index t 0 = 0 ∧ win0_7.index t 1 = 0 := by decide +kernel
    exact h t
  funext j
  unfold iblk
  rw [View.read_apply]
  show V m c main_v7 _ = V m c main_v7 j
  congr 1
  funext a
  apply Fin.ext
  match a with
  | ⟨0, _⟩ => show win0_7.index t 0 * 1024 + 1 * (j 0).val = (j 0).val; rw [hi.1]; omega
  | ⟨1, _⟩ => show win0_7.index t 1 * 128 + 1 * (j 1).val = (j 1).val; rw [hi.2]; omega

/-- The block of the fine offsets is the whole array. -/
theorem blk8 (c : Dev nD) (t : Fin cfg0.N) : (iblk m c 8 t : Vec Ideal S1x128 .f32) = V m c main_v9 := by
  have hi : win0_8.index t 0 = 0 ∧ win0_8.index t 1 = 0 := by
    have h : ∀ t : Fin cfg0.N, win0_8.index t 0 = 0 ∧ win0_8.index t 1 = 0 := by decide +kernel
    exact h t
  funext j
  unfold iblk
  rw [View.read_apply]
  show V m c main_v9 _ = V m c main_v9 j
  congr 1
  funext a
  apply Fin.ext
  match a with
  | ⟨0, _⟩ => show win0_8.index t 0 * 1 + 1 * (j 0).val = (j 0).val; rw [hi.1]; omega
  | ⟨1, _⟩ => show win0_8.index t 1 * 128 + 1 * (j 1).val = (j 1).val; rw [hi.2]; omega

/-! ## The rows -/

/-- The new residual row `i`, from the argument arrays. -/
def xOf (c : Dev nD) (i : Fin 16384) : Fin 1024 → EReal :=
  xRow (fun k => (m ((c : Thread nD τ).loc main_arg0) : Vec Ideal S16384x1024 .f32) (ix2 i k))
    (fun k => (m ((c : Thread nD τ).loc main_arg1) : Vec Ideal S16384x768 .f32) (ix2 i k))
    (fun k => (m ((c : Thread nD τ).loc main_arg2) : Vec Ideal S16384x256 .f32) (ix2 i k))
    (fun k c' => (m ((c : Thread nD τ).loc main_arg3) : Vec Ideal S1024x1024 .f32) (ix2 k c'))

/-- The normalized row `i`. -/
def hOf (c : Dev nD) (i : Fin 16384) : Fin 1024 → EReal :=
  hRow (xOf m c i) (fun k => (m ((c : Thread nD τ).loc main_arg4) : Vec Ideal S1024 .f32) (ix1 k))

/-- A row of weights, from a normalized row and the padded coarse and fine weights. -/
def wFrom (h : Fin 1024 → EReal) (x5 : Vec Ideal S1024x128 .bf16) (x6 : Vec Ideal S1x128 .f32)
    (x7 : Vec Ideal S1024x128 .bf16) (x8 : Vec Ideal S1x128 .f32) : Fin 128 → EReal :=
  kRow (fun l => if l.val < 4 then logits h (fun k l => x5 (ix2 k l)) (fun l => x6 (ix2 0 l)) l else ⊥)
    (logits h (fun k l => x7 (ix2 k l)) (fun l => x8 (ix2 0 l)))

/-- The row of weights `i`. -/
def wOf (c : Dev nD) (i : Fin 16384) : Fin 128 → EReal :=
  wFrom (hOf m c i) (V m c main_v3) (V m c main_v5) (V m c main_v7) (V m c main_v9)

/-- The three whole arrays. -/
def arr9 (c : Dev nD) : Vec Ideal S16384x1024 .f32 := fun i => xOf m c (i 0) (i 1)
/-- The normalized rows. -/
def arr10 (c : Dev nD) : Vec Ideal S16384x1024 .f32 := fun i => hOf m c (i 0) (i 1)
/-- The rows of weights. -/
def arr11 (c : Dev nD) : Vec Ideal S16384x128 .f32 := fun i => wOf m c (i 0) (i 1)

theorem hz : (![0, 0] : Fin 2 → Nat) = fun _ => 0 := funext fun a => by fin_cases a <;> rfl

section
variable (x0 : Vec Ideal S1024x1024 .f32) (x1 : Vec Ideal S1024x768 .f32) (x2 : Vec Ideal S1024x256 .f32)
  (x3 : Vec Ideal S1024x1024 .bf16) (x4 : Vec Ideal S1x1024 .f32) (x5 : Vec Ideal S1024x128 .bf16) (x6 : Vec Ideal S1x128 .f32)
  (x7 : Vec Ideal S1024x128 .bf16) (x8 : Vec Ideal S1x128 .f32)

/-- The upper part of the output projection, as loaded. -/
theorem ld_upper (k : Fin 768) (c' : Fin 1024) : (View.ld x3 r0_2 : Vec Ideal S768x1024 .bf16) (ix2 k c') = x3 (ix2 (Fin.castAdd 256 k) c') := by
  show x3 _ = _
  congr 1
  funext a
  apply Fin.ext
  match a with
  | ⟨0, _⟩ => show 0 + 1 * k.val = k.val; omega
  | ⟨1, _⟩ => show 0 + 1 * c'.val = c'.val; omega

/-- The lower part. -/
theorem ld_lower (k : Fin 256) (c' : Fin 1024) : (View.ld x3 r0_4 : Vec Ideal S256x1024 .bf16) (ix2 k c') = x3 (ix2 (Fin.natAdd 768 k) c') := by
  show x3 _ = _
  congr 1
  funext a
  apply Fin.ext
  match a with
  | ⟨0, _⟩ => show 768 + 1 * k.val = 768 + k.val; omega
  | ⟨1, _⟩ => show 0 + 1 * c'.val = c'.val; omega

/-- The new residual row of a block. -/
def xBlk (r : Fin 1024) : Fin 1024 → EReal :=
  xRow (fun k => x0 (ix2 r k)) (fun k => x1 (ix2 r k)) (fun k => x2 (ix2 r k)) (fun k c' => x3 (ix2 k c'))

/-- The normalized row of a block. -/
def hBlk (r : Fin 1024) : Fin 1024 → EReal := hRow (xBlk x0 x1 x2 x3 r) (fun k => x4 (ix2 0 k))

/-- The row of weights of a block. -/
def wBlk (r : Fin 1024) : Fin 128 → EReal := wFrom (hBlk x0 x1 x2 x3 x4 r) x5 x6 x7 x8

theorem pay2_blk (r c' : Fin 1024) :
    k0_pay2 x0 x1 (View.ld x3 r0_2) x2 (View.ld x3 r0_4) (ix2 r c') = xBlk x0 x1 x2 x3 r c' := by
  rw [Row.pay2_apply]
  refine congrArg (x0 (ix2 r c') + ·) (congrArg₂ (· + ·) (Finset.sum_congr rfl fun k _ => ?_)
    (Finset.sum_congr rfl fun k _ => ?_))
  · exact congrArg (x1 (ix2 r k) * ·) (ld_upper x3 k c')
  · exact congrArg (x2 (ix2 r k) * ·) (ld_lower x3 k c')

theorem pay3_blk (r c' : Fin 1024) :
    k0_pay3 x0 x1 (View.ld x3 r0_2) x2 (View.ld x3 r0_4) x4 (ix2 r c') = hBlk x0 x1 x2 x3 x4 r c' := by
  rw [Row.pay3_apply]
  simp only [pay2_blk]
  rfl

theorem pay4_blk (r c' : Fin 1024) :
    k0_pay4 x0 x1 (View.ld x3 r0_2) x2 (View.ld x3 r0_4) x4 (ix2 r c') = hBlk x0 x1 x2 x3 x4 r c' := by
  rw [← pay3_blk]
  rfl

/-- What the body leaves in the residual's block. -/
theorem out9_apply (r c' : Fin 1024) : out0_9 x0 x1 x2 x3 x4 x5 x6 x7 x8 (ix2 r c') = xBlk x0 x1 x2 x3 r c' := by
  unfold out0_9
  rw [View.canon_unit_zero hz, View.ld_unit_zero hz, View.ld_unit_zero hz, View.ld_unit_zero hz]
  exact pay2_blk x0 x1 x2 x3 r c'

/-- What the body leaves in the normalized block. -/
theorem out10_apply (r c' : Fin 1024) : out0_10 x0 x1 x2 x3 x4 x5 x6 x7 x8 (ix2 r c') = hBlk x0 x1 x2 x3 x4 r c' := by
  unfold out0_10
  rw [View.canon_unit_zero hz, View.ld_unit_zero hz, View.ld_unit_zero hz, View.ld_unit_zero hz, View.ld_unit_zero hz]
  exact pay3_blk x0 x1 x2 x3 x4 r c'

/-- What the body leaves in the block of weights. -/
theorem out11_apply (r : Fin 1024) (l : Fin 128) :
    out0_11 x0 x1 x2 x3 x4 x5 x6 x7 x8 (ix2 r l) = wBlk x0 x1 x2 x3 x4 x5 x6 x7 x8 r l := by
  unfold out0_11 k0_pay27 k0_pay26 k0_pay25 k0_pay24 k0_pay23 k0_pay22
  rw [View.canon_unit_zero hz, View.ld_unit_zero hz, View.ld_unit_zero hz, View.ld_unit_zero hz, View.ld_unit_zero hz,
    View.ld_unit_zero hz, View.ld_unit_zero hz, View.ld_unit_zero hz, View.ld_unit_zero hz]
  rw [Row.weights_apply]
  unfold wBlk wFrom Row.coarse Row.fine logits
  simp only [pay4_blk]

end

section
variable (c : Dev nD) (t : Fin cfg0.N) (r : Fin 1024)

theorem xBlk_iblk : xBlk (iblk m c 0 t) (iblk m c 1 t) (iblk m c 2 t) (iblk m c 3 t) r = xOf m c (rowAt t r) := by
  unfold xBlk xOf
  congr 1
  · funext k; exact blk0 m c t r k
  · funext k; exact blk1 m c t r k
  · funext k; exact blk2 m c t r k
  · funext k c'; exact congrFun ((blk3 m c t).trans (V_v0 m c)) _

theorem hBlk_iblk : hBlk (iblk m c 0 t) (iblk m c 1 t) (iblk m c 2 t) (iblk m c 3 t) (iblk m c 4 t) r
    = hOf m c (rowAt t r) := by
  unfold hBlk hOf
  rw [xBlk_iblk]
  congr 1
  funext k
  exact (congrFun (blk4 m c t) _).trans (V_v1 m c k)

theorem wBlk_iblk : wBlk (iblk m c 0 t) (iblk m c 1 t) (iblk m c 2 t) (iblk m c 3 t) (iblk m c 4 t) (iblk m c 5 t)
    (iblk m c 6 t) (iblk m c 7 t) (iblk m c 8 t) r = wOf m c (rowAt t r) := by
  unfold wBlk wOf
  rw [hBlk_iblk]
  have e5 := blk5 m c t
  have e6 := blk6 m c t
  have e7 := blk7 m c t
  have e8 := blk8 m c t
  exact congr (congr (congr (congrArg (wFrom (hOf m c (rowAt t r))) e5) e6) e7) e8

end

/-! ## Result 0 -/

theorem idx9 (t : Fin cfg0.N) : win0_9.index t 0 = t.val ∧ win0_9.index t 1 = 0 := by
  have h : ∀ t : Fin cfg0.N, win0_9.index t 0 = t.val ∧ win0_9.index t 1 = 0 := by decide +kernel
  exact h t

/-- What the body leaves at a point, as an entry of the whole array. -/
theorem out9_iblk (c : Dev nD) (t : Fin cfg0.N) (r : Fin 1024) (l : Fin 1024) :
    out0_9 (iblk m c 0 t) (iblk m c 1 t) (iblk m c 2 t) (iblk m c 3 t) (iblk m c 4 t) (iblk m c 5 t) (iblk m c 6 t)
      (iblk m c 7 t) (iblk m c 8 t) (ix2 r l) = arr9 m c (ix2 (rowAt t r) l) := by
  rw [out9_apply, xBlk_iblk]
  rfl

/-- The entry of the whole array that an entry of a point's block is. -/
theorem read_blk9 (G : S16384x1024.Idx → Elt Ideal .f32) (t : Fin cfg0.N) (r : Fin 1024) (l : Fin 1024) :
    ((cfg0.win 9).blk t).view.read (Elt Ideal) G (ix2 r l) = G (ix2 (rowAt t r) l) := by
  rw [View.read_apply]
  show G _ = G _
  congr 1
  funext a
  apply Fin.ext
  match a with
  | ⟨0, _⟩ => show win0_9.index t 0 * 1024 + 1 * r.val = t.val * 1024 + r.val; rw [(idx9 t).1]; omega
  | ⟨1, _⟩ => show win0_9.index t 1 * 1024 + 1 * l.val = l.val; rw [(idx9 t).2]; omega

/-- What a point writes back is its block of the whole array. -/
theorem flushed_eq9 (c : Dev nD) (t : Fin cfg0.N) :
    (dats m 0 c).flushed 9 t = ((cfg0.win 9).blk t).view.read (Elt Ideal) (arr9 m c) := by
  show (cfg0.win 9).cut (grid0.coords t) ((dats m 0 c).after 9 t) = _
  rw [after0_9]
  funext j
  obtain ⟨r, l, rfl⟩ : ∃ (r : Fin 1024) (l : Fin 1024), j = ix2 r l := ⟨j 0, j 1, eq_ix2 j⟩
  exact (out9_iblk m c t r l).trans (read_blk9 (arr9 m c) t r l).symm

/-- The rows of a point's block. -/
theorem mem_blk9 (t : Fin cfg0.N) (i : S16384x1024.Idx) :
    i ∈ ((cfg0.win 9).blk t).view.set ↔ t.val * 1024 ≤ (i 0 : Nat) ∧ (i 0 : Nat) < t.val * 1024 + 1024 := by
  show i ∈ ((View.whole main_v10_0).slice (win0_9.rect t)).set ↔ _
  rw [View.set_slice_whole, Rect.mem_set_unit]
  have h1 : (i 1 : Nat) < 1024 := (i 1).isLt
  have e : win0_9.index t 0 * win0_9.size 0 = t.val * 1024 ∧ win0_9.xsize (grid0.coords t) 0 = 1024
      ∧ win0_9.index t 1 * win0_9.size 1 = 0 ∧ win0_9.xsize (grid0.coords t) 1 = 1024 := by
    have h : ∀ t : Fin cfg0.N, win0_9.index t 0 * win0_9.size 0 = t.val * 1024 ∧ win0_9.xsize (grid0.coords t) 0 = 1024
      ∧ win0_9.index t 1 * win0_9.size 1 = 0 ∧ win0_9.xsize (grid0.coords t) 1 = 1024 := by decide +kernel
    exact h t
  refine ⟨fun h => ?_, fun h a => ?_⟩
  · have : win0_9.index t 0 * win0_9.size 0 ≤ (i 0 : Nat)
        ∧ (i 0 : Nat) < win0_9.index t 0 * win0_9.size 0 + win0_9.xsize (grid0.coords t) 0 := h 0
    rw [e.1, e.2.1] at this; exact this
  · match a with
    | ⟨0, _⟩ =>
      show win0_9.index t 0 * win0_9.size 0 ≤ (i 0 : Nat)
        ∧ (i 0 : Nat) < win0_9.index t 0 * win0_9.size 0 + win0_9.xsize (grid0.coords t) 0
      rw [e.1, e.2.1]; exact h
    | ⟨1, _⟩ =>
      show win0_9.index t 1 * win0_9.size 1 ≤ (i 1 : Nat)
        ∧ (i 1 : Nat) < win0_9.index t 1 * win0_9.size 1 + win0_9.xsize (grid0.coords t) 1
      rw [e.2.2.1, e.2.2.2]; omega

/-- The blocks cover the array. -/
theorem cover9 (i : S16384x1024.Idx) : ∃ t : Fin cfg0.N, (cfg0.win 9).flush t = true ∧ i ∈ ((cfg0.win 9).blk t).view.set := by
  have h0 : (i 0 : Nat) < 16384 := (i 0).isLt
  have hN : cfg0.N = 16 := N_0
  exact ⟨⟨(i 0 : Nat) / 1024, by omega⟩, flush0_9 _, (mem_blk9 _ i).mpr ⟨by show (i 0 : Nat) / 1024 * 1024 ≤ _; omega,
    by show _ < (i 0 : Nat) / 1024 * 1024 + 1024; omega⟩⟩

/-- The array after the run. -/
theorem final9 (c : Dev nD) : (dats m 0 c).arrAt 9 cfg0.N = arr9 m c :=
  (dats m 0 c).arrAt_eq_of_cover 9 (arr9 m c) (fun t _ => flushed_eq9 m c t) cover9

/-! ## Result 1 -/

theorem idx10 (t : Fin cfg0.N) : win0_10.index t 0 = t.val ∧ win0_10.index t 1 = 0 := by
  have h : ∀ t : Fin cfg0.N, win0_10.index t 0 = t.val ∧ win0_10.index t 1 = 0 := by decide +kernel
  exact h t

/-- What the body leaves at a point, as an entry of the whole array. -/
theorem out10_iblk (c : Dev nD) (t : Fin cfg0.N) (r : Fin 1024) (l : Fin 1024) :
    out0_10 (iblk m c 0 t) (iblk m c 1 t) (iblk m c 2 t) (iblk m c 3 t) (iblk m c 4 t) (iblk m c 5 t) (iblk m c 6 t)
      (iblk m c 7 t) (iblk m c 8 t) (ix2 r l) = arr10 m c (ix2 (rowAt t r) l) := by
  rw [out10_apply, hBlk_iblk]
  rfl

/-- The entry of the whole array that an entry of a point's block is. -/
theorem read_blk10 (G : S16384x1024.Idx → Elt Ideal .f32) (t : Fin cfg0.N) (r : Fin 1024) (l : Fin 1024) :
    ((cfg0.win 10).blk t).view.read (Elt Ideal) G (ix2 r l) = G (ix2 (rowAt t r) l) := by
  rw [View.read_apply]
  show G _ = G _
  congr 1
  funext a
  apply Fin.ext
  match a with
  | ⟨0, _⟩ => show win0_10.index t 0 * 1024 + 1 * r.val = t.val * 1024 + r.val; rw [(idx10 t).1]; omega
  | ⟨1, _⟩ => show win0_10.index t 1 * 1024 + 1 * l.val = l.val; rw [(idx10 t).2]; omega

/-- What a point writes back is its block of the whole array. -/
theorem flushed_eq10 (c : Dev nD) (t : Fin cfg0.N) :
    (dats m 0 c).flushed 10 t = ((cfg0.win 10).blk t).view.read (Elt Ideal) (arr10 m c) := by
  show (cfg0.win 10).cut (grid0.coords t) ((dats m 0 c).after 10 t) = _
  rw [after0_10]
  funext j
  obtain ⟨r, l, rfl⟩ : ∃ (r : Fin 1024) (l : Fin 1024), j = ix2 r l := ⟨j 0, j 1, eq_ix2 j⟩
  exact (out10_iblk m c t r l).trans (read_blk10 (arr10 m c) t r l).symm

/-- The rows of a point's block. -/
theorem mem_blk10 (t : Fin cfg0.N) (i : S16384x1024.Idx) :
    i ∈ ((cfg0.win 10).blk t).view.set ↔ t.val * 1024 ≤ (i 0 : Nat) ∧ (i 0 : Nat) < t.val * 1024 + 1024 := by
  show i ∈ ((View.whole main_v10_1).slice (win0_10.rect t)).set ↔ _
  rw [View.set_slice_whole, Rect.mem_set_unit]
  have h1 : (i 1 : Nat) < 1024 := (i 1).isLt
  have e : win0_10.index t 0 * win0_10.size 0 = t.val * 1024 ∧ win0_10.xsize (grid0.coords t) 0 = 1024
      ∧ win0_10.index t 1 * win0_10.size 1 = 0 ∧ win0_10.xsize (grid0.coords t) 1 = 1024 := by
    have h : ∀ t : Fin cfg0.N, win0_10.index t 0 * win0_10.size 0 = t.val * 1024 ∧ win0_10.xsize (grid0.coords t) 0 = 1024
      ∧ win0_10.index t 1 * win0_10.size 1 = 0 ∧ win0_10.xsize (grid0.coords t) 1 = 1024 := by decide +kernel
    exact h t
  refine ⟨fun h => ?_, fun h a => ?_⟩
  · have : win0_10.index t 0 * win0_10.size 0 ≤ (i 0 : Nat)
        ∧ (i 0 : Nat) < win0_10.index t 0 * win0_10.size 0 + win0_10.xsize (grid0.coords t) 0 := h 0
    rw [e.1, e.2.1] at this; exact this
  · match a with
    | ⟨0, _⟩ =>
      show win0_10.index t 0 * win0_10.size 0 ≤ (i 0 : Nat)
        ∧ (i 0 : Nat) < win0_10.index t 0 * win0_10.size 0 + win0_10.xsize (grid0.coords t) 0
      rw [e.1, e.2.1]; exact h
    | ⟨1, _⟩ =>
      show win0_10.index t 1 * win0_10.size 1 ≤ (i 1 : Nat)
        ∧ (i 1 : Nat) < win0_10.index t 1 * win0_10.size 1 + win0_10.xsize (grid0.coords t) 1
      rw [e.2.2.1, e.2.2.2]; omega

/-- The blocks cover the array. -/
theorem cover10 (i : S16384x1024.Idx) : ∃ t : Fin cfg0.N, (cfg0.win 10).flush t = true ∧ i ∈ ((cfg0.win 10).blk t).view.set := by
  have h0 : (i 0 : Nat) < 16384 := (i 0).isLt
  have hN : cfg0.N = 16 := N_0
  exact ⟨⟨(i 0 : Nat) / 1024, by omega⟩, flush0_10 _, (mem_blk10 _ i).mpr ⟨by show (i 0 : Nat) / 1024 * 1024 ≤ _; omega,
    by show _ < (i 0 : Nat) / 1024 * 1024 + 1024; omega⟩⟩

/-- The array after the run. -/
theorem final10 (c : Dev nD) : (dats m 0 c).arrAt 10 cfg0.N = arr10 m c :=
  (dats m 0 c).arrAt_eq_of_cover 10 (arr10 m c) (fun t _ => flushed_eq10 m c t) cover10

/-! ## Result 2 -/

theorem idx11 (t : Fin cfg0.N) : win0_11.index t 0 = t.val ∧ win0_11.index t 1 = 0 := by
  have h : ∀ t : Fin cfg0.N, win0_11.index t 0 = t.val ∧ win0_11.index t 1 = 0 := by decide +kernel
  exact h t

/-- What the body leaves at a point, as an entry of the whole array. -/
theorem out11_iblk (c : Dev nD) (t : Fin cfg0.N) (r : Fin 1024) (l : Fin 128) :
    out0_11 (iblk m c 0 t) (iblk m c 1 t) (iblk m c 2 t) (iblk m c 3 t) (iblk m c 4 t) (iblk m c 5 t) (iblk m c 6 t)
      (iblk m c 7 t) (iblk m c 8 t) (ix2 r l) = arr11 m c (ix2 (rowAt t r) l) := by
  rw [out11_apply, wBlk_iblk]
  rfl

/-- The entry of the whole array that an entry of a point's block is. -/
theorem read_blk11 (G : S16384x128.Idx → Elt Ideal .f32) (t : Fin cfg0.N) (r : Fin 1024) (l : Fin 128) :
    ((cfg0.win 11).blk t).view.read (Elt Ideal) G (ix2 r l) = G (ix2 (rowAt t r) l) := by
  rw [View.read_apply]
  show G _ = G _
  congr 1
  funext a
  apply Fin.ext
  match a with
  | ⟨0, _⟩ => show win0_11.index t 0 * 1024 + 1 * r.val = t.val * 1024 + r.val; rw [(idx11 t).1]; omega
  | ⟨1, _⟩ => show win0_11.index t 1 * 128 + 1 * l.val = l.val; rw [(idx11 t).2]; omega

/-- What a point writes back is its block of the whole array. -/
theorem flushed_eq11 (c : Dev nD) (t : Fin cfg0.N) :
    (dats m 0 c).flushed 11 t = ((cfg0.win 11).blk t).view.read (Elt Ideal) (arr11 m c) := by
  show (cfg0.win 11).cut (grid0.coords t) ((dats m 0 c).after 11 t) = _
  rw [after0_11]
  funext j
  obtain ⟨r, l, rfl⟩ : ∃ (r : Fin 1024) (l : Fin 128), j = ix2 r l := ⟨j 0, j 1, eq_ix2 j⟩
  exact (out11_iblk m c t r l).trans (read_blk11 (arr11 m c) t r l).symm

/-- The rows of a point's block. -/
theorem mem_blk11 (t : Fin cfg0.N) (i : S16384x128.Idx) :
    i ∈ ((cfg0.win 11).blk t).view.set ↔ t.val * 1024 ≤ (i 0 : Nat) ∧ (i 0 : Nat) < t.val * 1024 + 1024 := by
  show i ∈ ((View.whole main_v10_2).slice (win0_11.rect t)).set ↔ _
  rw [View.set_slice_whole, Rect.mem_set_unit]
  have h1 : (i 1 : Nat) < 128 := (i 1).isLt
  have e : win0_11.index t 0 * win0_11.size 0 = t.val * 1024 ∧ win0_11.xsize (grid0.coords t) 0 = 1024
      ∧ win0_11.index t 1 * win0_11.size 1 = 0 ∧ win0_11.xsize (grid0.coords t) 1 = 128 := by
    have h : ∀ t : Fin cfg0.N, win0_11.index t 0 * win0_11.size 0 = t.val * 1024 ∧ win0_11.xsize (grid0.coords t) 0 = 1024
      ∧ win0_11.index t 1 * win0_11.size 1 = 0 ∧ win0_11.xsize (grid0.coords t) 1 = 128 := by decide +kernel
    exact h t
  refine ⟨fun h => ?_, fun h a => ?_⟩
  · have : win0_11.index t 0 * win0_11.size 0 ≤ (i 0 : Nat)
        ∧ (i 0 : Nat) < win0_11.index t 0 * win0_11.size 0 + win0_11.xsize (grid0.coords t) 0 := h 0
    rw [e.1, e.2.1] at this; exact this
  · match a with
    | ⟨0, _⟩ =>
      show win0_11.index t 0 * win0_11.size 0 ≤ (i 0 : Nat)
        ∧ (i 0 : Nat) < win0_11.index t 0 * win0_11.size 0 + win0_11.xsize (grid0.coords t) 0
      rw [e.1, e.2.1]; exact h
    | ⟨1, _⟩ =>
      show win0_11.index t 1 * win0_11.size 1 ≤ (i 1 : Nat)
        ∧ (i 1 : Nat) < win0_11.index t 1 * win0_11.size 1 + win0_11.xsize (grid0.coords t) 1
      rw [e.2.2.1, e.2.2.2]; omega

/-- The blocks cover the array. -/
theorem cover11 (i : S16384x128.Idx) : ∃ t : Fin cfg0.N, (cfg0.win 11).flush t = true ∧ i ∈ ((cfg0.win 11).blk t).view.set := by
  have h0 : (i 0 : Nat) < 16384 := (i 0).isLt
  have hN : cfg0.N = 16 := N_0
  exact ⟨⟨(i 0 : Nat) / 1024, by omega⟩, flush0_11 _, (mem_blk11 _ i).mpr ⟨by show (i 0 : Nat) / 1024 * 1024 ≤ _; omega,
    by show _ < (i 0 : Nat) / 1024 * 1024 + 1024; omega⟩⟩

/-- The array after the run. -/
theorem final11 (c : Dev nD) : (dats m 0 c).arrAt 11 cfg0.N = arr11 m c :=
  (dats m 0 c).arrAt_eq_of_cover 11 (arr11 m c) (fun t _ => flushed_eq11 m c t) cover11

/-- The run: the three result arrays, and the arguments unchanged. -/
theorem run : θ_run defs (onTc (τ := τ) (main (F := Ideal))) ⟨m, fun _ => 0, ρ⟩ fun r => ∀ c : Dev nD,
      r.2.mem ((c.tc : Thread nD τ).loc main_v10_0) = arr9 m c
      ∧ r.2.mem ((c.tc : Thread nD τ).loc main_v10_1) = arr10 m c
      ∧ r.2.mem ((c.tc : Thread nD τ).loc main_v10_2) = arr11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 9).trans (final9 m c), ((h c).1 10).trans (final10 m c),
      ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.RefValue

end
-- ==== Proof.RefOps.lean ====
module

public import proofs.«01_k».proof.Proof.Gen.ReferenceIdeal.Read
public import proofs.«01_k».proof.Proof.RowMath
public import Idealize.ShloMosaic.Lib.Pointwise

/-!
  The reference's operations whose entries depend on their operands' values: the greatest entries of a row, and the
  entries taken along an axis at given places.
-/

@[expose] public section

set_option maxRecDepth 16384

noncomputable section

namespace Cert.Router

open Idealize.ShloMosaic

/-- A place of a row of a matrix, its column replaced. -/
theorem along_row {N n : Nat} (i : Fin N) (z p : Fin n) :
    Shape.Idx.along (s := ⟨2, ![N, n]⟩) (ix2 i z) 1 p = ix2 i p := by
  funext a
  match a with
  | ⟨0, _⟩ => rfl
  | ⟨1, _⟩ => rfl

/-- Where a sort of a row by its greatest entries puts each position. -/
theorem sorted_row {N n : Nat} (x : (⟨2, ![N, n]⟩ : Shape).Idx → Ideal .f32) (i : Fin N) (z : Fin n) :
    sortedFrom (fun p q : Fin n => FloatOps.cmpfTotal (F := Ideal) (φ := .f32) .gt
        (x (Shape.Idx.along (s := ⟨2, ![N, n]⟩) (ix2 i z) 1 p)) (x (Shape.Idx.along (s := ⟨2, ![N, n]⟩) (ix2 i z) 1 q)) == 1#1) z
      = sortedFrom (fun p q : Fin n => decide ((x (ix2 i q) : EReal) < x (ix2 i p))) z := by
  congr 1
  funext p q
  rw [along_row, along_row, Ideal.cmpfTotal_def]
  show (BitVec.ofBool (decide ((x (ix2 i q) : EReal) < x (ix2 i p))) == 1#1) = decide ((x (ix2 i q) : EReal) < x (ix2 i p))
  cases decide ((x (ix2 i q) : EReal) < x (ix2 i p)) <;> rfl

/-- The places of the greatest entries of a row. -/
theorem topK_idx {N n k : Nat} (hk : k ≤ n) (x : (⟨2, ![N, n]⟩ : Shape).Idx → Ideal .f32)
    (h : (⟨2, ![N, n]⟩ : Shape).Slices (fun _ => 0) ⟨2, ![N, k]⟩) (i : Fin N) (z : Fin k) :
    (Host.topK ⟨2, ![N, k]⟩ 1 (FloatOps.cmpfTotal (F := Ideal) (φ := .f32) .gt) x h).2 (ix2 i z)
      = BitVec.ofNat 32 (sortedFrom (fun p q : Fin n => decide ((x (ix2 i q) : EReal) < x (ix2 i p))) (z.castLE hk)).val := by
  rw [← sorted_row]
  have e : (fun a : Fin 2 => (⟨0 + (ix2 i z (a.cast h.1.symm)).val,
      Nat.lt_of_lt_of_le (Nat.add_lt_add_left (ix2 i z _).isLt _) (h.2 a)⟩ : Fin ((⟨2, ![N, n]⟩ : Shape).size a)))
      = ix2 i (z.castLE hk) := by
    funext a
    apply Fin.ext
    match a with
    | ⟨0, _⟩ => show 0 + i.val = i.val; omega
    | ⟨1, _⟩ => show 0 + z.val = z.val; omega
  refine (congrArg (Host.sort2 ⟨2, ![N, n]⟩ 1 (fun l r : Ideal .f32 × BitVec 32 => FloatOps.cmpfTotal .gt l.1 r.1) x
    (fun j => if hd : 1 < 2 then iotaInDim ⟨2, ![N, n]⟩ 32 ⟨1, hd⟩ j else 0#32)).2 e).trans ?_
  rfl

/-- The greatest entries of a row. -/
theorem topK_val {N n k : Nat} (hk : k ≤ n) (x : (⟨2, ![N, n]⟩ : Shape).Idx → Ideal .f32)
    (h : (⟨2, ![N, n]⟩ : Shape).Slices (fun _ => 0) ⟨2, ![N, k]⟩) (i : Fin N) (z : Fin k) :
    (Host.topK ⟨2, ![N, k]⟩ 1 (FloatOps.cmpfTotal (F := Ideal) (φ := .f32) .gt) x h).1 (ix2 i z)
      = x (ix2 i (sortedFrom (fun p q : Fin n => decide ((x (ix2 i q) : EReal) < x (ix2 i p))) (z.castLE hk))) := by
  rw [← sorted_row]
  have e : (fun a : Fin 2 => (⟨0 + (ix2 i z (a.cast h.1.symm)).val,
      Nat.lt_of_lt_of_le (Nat.add_lt_add_left (ix2 i z _).isLt _) (h.2 a)⟩ : Fin ((⟨2, ![N, n]⟩ : Shape).size a)))
      = ix2 i (z.castLE hk) := by
    funext a
    apply Fin.ext
    match a with
    | ⟨0, _⟩ => show 0 + i.val = i.val; omega
    | ⟨1, _⟩ => show 0 + z.val = z.val; omega
  refine (congrArg (Host.sort2 ⟨2, ![N, n]⟩ 1 (fun l r : Ideal .f32 × BitVec 32 => FloatOps.cmpfTotal .gt l.1 r.1) x
    (fun j => if hd : 1 < 2 then iotaInDim ⟨2, ![N, n]⟩ 32 ⟨1, hd⟩ j else 0#32)).1 e).trans ?_
  exact congrArg x (along_row i _ _)

open Cert.ReferenceIdeal Cert.ReferenceIdeal.Gen

/-- A word holding a small number, read as a signed integer and held to the range, is that number. -/
theorem clamp_word (g : Nat) (n : Nat) (hg : g < n) (hn : n ≤ 2 ^ 31) :
    min (BitVec.ofNat 32 g).toInt.toNat (n - 1) = g := by
  rw [BitVec.toInt_eq_toNat_of_lt] <;> rw [BitVec.toNat_ofNat] <;> omega

/-- One entry of each row, taken at the place a column of words holds. -/
theorem take_row (x : Vec Ideal S16384x4 .f32) (ix : IVec S16384x1x1 32) (i : Fin 16384) (g : Fin 4)
    (h : ix (ix3 i 0 0) = BitVec.ofNat 32 g.val) :
    Host.gather gather_S16384x4_S16384x1x1_S16384x1_n_1_0_0_1_2_11 x ix (ix2 i 0) = x (ix2 i g) := by
  unfold Host.gather
  congr 1
  funext a
  apply Fin.ext
  match a with
  | ⟨0, _⟩ =>
    show GatherDims.start _ (ix2 i 0) ix 0 + GatherDims.batchCoord _ (ix2 i 0) 0 + GatherDims.offCoord _ (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin S16384x4.rank) ∈ gather_S16384x4_S16384x1x1_S16384x1_n_1_0_0_1_2_11.operandBatchingDims from List.mem_singleton.mpr rfl)]
    rfl
  | ⟨1, _⟩ =>
    show GatherDims.start _ (ix2 i 0) ix 1 + GatherDims.batchCoord _ (ix2 i 0) 1 + GatherDims.offCoord _ (ix2 i 0) 1 = g.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S16384x4.rank) ∈ gather_S16384x4_S16384x1x1_S16384x1_n_1_0_0_1_2_11.startIndexMap from List.mem_singleton.mpr rfl)]
    refine Eq.trans ?_ (clamp_word g.val 4 g.isLt (by norm_num))
    rw [← h]
    have e : ∀ j : S16384x1x1.Idx, j = ix3 i 0 0 → min (ix j).toInt.toNat 3 = min (ix (ix3 i 0 0)).toInt.toNat (4 - 1) := by
      rintro j rfl; rfl
    apply e
    funext b
    apply Fin.ext
    match b with
    | ⟨0, _⟩ => rfl
    | ⟨1, _⟩ => rfl
    | ⟨2, _⟩ => rfl

/-- One row of each matrix of a stack, taken at the place a column of words holds. -/
theorem take_mat (x : Vec Ideal S16384x4x8 .f32) (ix : IVec S16384x1x1 32) (i : Fin 16384) (g : Fin 4) (q : Fin 8)
    (h : ix (ix3 i 0 0) = BitVec.ofNat 32 g.val) :
    Host.gather gather_S16384x4x8_S16384x1x1_S16384x1x8_2_1_0_0_1_2_118 x ix (ix3 i 0 q) = x (ix3 i g q) := by
  unfold Host.gather
  congr 1
  funext a
  apply Fin.ext
  match a with
  | ⟨0, _⟩ =>
    show GatherDims.start _ (ix3 i 0 q) ix 0 + GatherDims.batchCoord _ (ix3 i 0 q) 0 + GatherDims.offCoord _ (ix3 i 0 q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin S16384x4x8.rank) ∈ gather_S16384x4x8_S16384x1x1_S16384x1x8_2_1_0_0_1_2_118.operandBatchingDims from List.mem_singleton.mpr rfl)]
    rfl
  | ⟨1, _⟩ =>
    show GatherDims.start _ (ix3 i 0 q) ix 1 + GatherDims.batchCoord _ (ix3 i 0 q) 1 + GatherDims.offCoord _ (ix3 i 0 q) 1 = g.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S16384x4x8.rank) ∈ gather_S16384x4x8_S16384x1x1_S16384x1x8_2_1_0_0_1_2_118.startIndexMap from List.mem_singleton.mpr rfl)]
    refine Eq.trans ?_ (clamp_word g.val 4 g.isLt (by norm_num))
    rw [← h]
    have e : ∀ j : S16384x1x1.Idx, j = ix3 i 0 0 → min (ix j).toInt.toNat 3 = min (ix (ix3 i 0 0)).toInt.toNat (4 - 1) := by
      rintro j rfl; rfl
    apply e
    funext b
    apply Fin.ext
    match b with
    | ⟨0, _⟩ => rfl
    | ⟨1, _⟩ => rfl
    | ⟨2, _⟩ => rfl
  | ⟨2, _⟩ =>
    show GatherDims.start _ (ix3 i 0 q) ix 2 + GatherDims.batchCoord _ (ix3 i 0 q) 2 + GatherDims.offCoord _ (ix3 i 0 q) 2 = q.val
    rw [GatherDims.batchCoord_eq_zero _ _ _ (by decide)]
    unfold GatherDims.start GatherDims.offCoord
    rw [dif_neg (show ¬(2 : Fin S16384x4x8.rank) ∈ gather_S16384x4x8_S16384x1x1_S16384x1x8_2_1_0_0_1_2_118.startIndexMap by decide),
      dif_pos (show (2 : Fin S16384x4x8.rank) ∈ gather_S16384x4x8_S16384x1x1_S16384x1x8_2_1_0_0_1_2_118.sKept by decide)]
    show 0 + 0 + q.val = q.val
    omega

end Cert.Router

end
-- ==== Proof.RefRow.lean ====
module

public import proofs.«01_k».proof.Proof.Gen.ReferenceIdeal.Read
public import proofs.«01_k».proof.Proof.RowSpec
public import Idealize.ShloMosaic.Lib.Pointwise

@[expose] public section

set_option maxRecDepth 16384

noncomputable section

namespace Cert.ReferenceIdeal.Row

open Idealize.ShloMosaic Cert.ReferenceIdeal Cert.ReferenceIdeal.Gen Cert.ReferenceIdeal.Read Cert.Router

variable (x0 : Vec Ideal S16384x1024 .f32) (x1 : Vec Ideal S16384x768 .f32) (x2 : Vec Ideal S16384x256 .f32)
  (x3 : Vec Ideal S1024x1024 .f32) (x4 : Vec Ideal S1024 .f32) (x5 : Vec Ideal S1024x4 .f32) (x6 : Vec Ideal S4 .f32)
  (x7 : Vec Ideal S1024x32 .f32) (x8 : Vec Ideal S32 .f32) (i : Fin 16384)

/-- The new residual row of the reference. -/
theorem v2_apply (c : Fin 1024) : val_main_v2 (F := Ideal) x0 x1 x2 x3 (ix2 i c)
    = xRow (fun k => x0 (ix2 i k)) (fun k => x1 (ix2 i k)) (fun k => x2 (ix2 i k)) (fun k c => x3 (ix2 k c)) c := by
  unfold val_main_v2 val_main_v1 val_main_v0 xRow
  pointwise
  rfl

theorem v15_apply (c : Fin 1024) : val_main_v15 (F := Ideal) x0 x1 x2 x3 x4 (ix2 i c)
    = hRow (fun c => val_main_v2 (F := Ideal) x0 x1 x2 x3 (ix2 i c)) (fun k => x4 (ix1 k)) c := by
  unfold val_main_v15 val_main_v14 val_main_v13 val_main_v12 val_main_v11 val_main_v10 val_main_v9 val_main_v8 val_main_v7 val_main_v6 val_main_v5 val_main_v4 val_main_v3 val_main_cst
    val_main_cst_0 val_main_cst_1 hRow
  pointwise

theorem v19_apply (l : Fin 4) : val_main_v19 (F := Ideal) x0 x1 x2 x3 x4 x5 x6 (ix2 i l)
    = logits (fun c => val_main_v15 (F := Ideal) x0 x1 x2 x3 x4 (ix2 i c)) (fun k l => x5 (ix2 k l)) (fun l => x6 (ix1 l)) l := by
  unfold val_main_v19 val_main_v18 val_main_v17 val_main_v16 logits
  pointwise

theorem v37_apply (l : Fin 32) : val_main_v37 (F := Ideal) x0 x1 x2 x3 x4 x7 x8 (ix2 i l)
    = logits (fun c => val_main_v15 (F := Ideal) x0 x1 x2 x3 x4 (ix2 i c)) (fun k l => x7 (ix2 k l)) (fun l => x8 (ix1 l)) l := by
  unfold val_main_v37 val_main_v36 val_main_v35 val_main_v34 logits
  pointwise

end Cert.ReferenceIdeal.Row

end
-- ==== Proof.RefWeights.lean ====
module

public import proofs.«01_k».proof.Proof.RefOps
public import proofs.«01_k».proof.Proof.RefRow
public import Idealize.ShloMosaic.Lib.ReduceAll

/-!
  The reference's row of weights, when its logits are real numbers: the chosen group, its probability, the two
  chosen experts of the group and their weights.
-/

@[expose] public section

set_option maxRecDepth 16384

noncomputable section

namespace Cert.ReferenceIdeal.Row

open Idealize.ShloMosaic Cert.ReferenceIdeal Cert.ReferenceIdeal.Gen Cert.ReferenceIdeal.Read Cert.Router

/-- The greatest of finitely many real numbers is the one at a first maximum. -/
theorem fold_max_first {n : ℕ} (b : Fin n → ℝ) (k : Fin n) (hk : ∀ j, (b j : EReal) ≤ b k) :
    max (⊥ : EReal) (Finset.fold max ⊥ (fun x => (b x : EReal)) Finset.univ) = b k := by
  rw [max_eq_right bot_le]
  apply le_antisymm
  · rw [Finset.fold_max_le]
    exact ⟨bot_le, fun x _ => hk x⟩
  · rw [Finset.le_fold_max]
    exact Or.inr ⟨k, Finset.mem_univ _, le_refl _⟩

/-- A softmax's entry over real numbers is a real number. -/
theorem softmax_real {n : ℕ} (b : Fin n → ℝ) (k j : Fin n) :
    Ideal.div (Ideal.exp ((b j : EReal) - (b k : EReal))) (0 + ∑ x, Ideal.exp ((b x : EReal) - (b k : EReal)))
      = ((Real.exp (b j - b k) / ∑ x, Real.exp (b x - b k) : ℝ) : EReal) := by
  have e : ∀ x, Ideal.exp ((b x : EReal) - (b k : EReal)) = ((Real.exp (b x - b k) : ℝ) : EReal) := fun x => by
    rw [← EReal.coe_sub]; rfl
  simp only [e]
  rw [zero_add, coe_sum]
  have hpos : (0 : ℝ) < ∑ x, Real.exp (b x - b k) :=
    Finset.sum_pos (fun x _ => Real.exp_pos _) ⟨k, Finset.mem_univ _⟩
  rw [Ideal.div_coe (ne_of_gt hpos), ← EReal.coe_mul]
  congr 1
  ring

/-- A one-hot entry. -/
theorem one_hot (p q : ℕ) (hp : p < 4294967296) (hq : q < 4294967296) :
    (FloatOps.uitofp (F := Ideal) .f32 (IntOp.cmpi .eq (BitVec.ofNat 32 p) (BitVec.ofNat 32 q)) : EReal)
      = if q = p then ((1 : ℝ) : EReal) else ((0 : ℝ) : EReal) := by
  have e : (BitVec.ofNat 32 p = BitVec.ofNat 32 q) ↔ q = p := by
    constructor
    · intro h
      have h' := congrArg BitVec.toNat h
      simp only [BitVec.toNat_ofNat] at h'
      omega
    · rintro rfl; rfl
  show (((((IntOp.cmpi .eq (BitVec.ofNat 32 p) (BitVec.ofNat 32 q)).toNat : ℕ) : ℝ)) : EReal) = _
  by_cases h : q = p
  · rw [if_pos h, IntOp.cmpi]
    simp [e.2 h]
  · rw [if_neg h, IntOp.cmpi]
    simp [mt e.1 h]

/-- The word of −∞. -/
theorem cst_bot : Ideal.ofBits .f32 4286578688#32 = ⊥ := by
  rw [Ideal.ofBits]
  decide +kernel

variable (x0 : Vec Ideal S16384x1024 .f32) (x1 : Vec Ideal S16384x768 .f32) (x2 : Vec Ideal S16384x256 .f32)
  (x3 : Vec Ideal S1024x1024 .f32) (x4 : Vec Ideal S1024 .f32) (x5 : Vec Ideal S1024x4 .f32) (x6 : Vec Ideal S4 .f32)
  (x7 : Vec Ideal S1024x32 .f32) (x8 : Vec Ideal S32 .f32) (i : Fin 16384)
  {a : Fin 4 → ℝ} {f : Fin 32 → ℝ} {g : Fin 4} {i1 i2 : Fin 8}
  (ha : ∀ j, val_main_v19 (F := Ideal) x0 x1 x2 x3 x4 x5 x6 (ix2 i j) = (a j : EReal))
  (hf : ∀ j, val_main_v37 (F := Ideal) x0 x1 x2 x3 x4 x7 x8 (ix2 i j) = (f j : EReal))
  (hg : FirstMax (fun j => (a j : EReal)) g) (h1 : FirstMax (grpRow f g) i1) (h2 : SecondMax (grpRow f g) i1 i2)

include ha hg

/-- The chosen group's word. -/
theorem group_word : val_main_indices (F := Ideal) x0 x1 x2 x3 x4 x5 x6 (ix2 i 0) = BitVec.ofNat 32 g.val := by
  unfold val_main_indices
  refine (topK_idx (by norm_num) _ _ i 0).trans ?_
  simp only [ha]
  rw [sortedFrom_first (fun j => (a j : EReal)) g hg _ rfl]

/-- The same word, as an array of rows. -/
theorem v20_word : val_main_v20 (F := Ideal) x0 x1 x2 x3 x4 x5 x6 (ix1 i) = BitVec.ofNat 32 g.val := by
  unfold val_main_v20
  pointwise
  exact group_word x0 x1 x2 x3 x4 x5 x6 i ha hg

/-- The index the group's probability is taken at. -/
theorem call0_v5_word : val_main_call0_v5 (F := Ideal) x0 x1 x2 x3 x4 x5 x6 (ix3 i 0 0) = BitVec.ofNat 32 g.val := by
  unfold val_main_call0_v5 val_main_call0_v4 val_main_call0_v3 val_main_call0_v2 val_main_call0_v1 val_main_call0_v0
    val_main_v32 val_main_call0_c val_main_call0_c_0
  pointwise
  rw [v20_word x0 x1 x2 x3 x4 x5 x6 i ha hg]
  clear hg
  revert g
  decide

/-- The index is within bounds. -/
theorem call0_v12_one : val_main_call0_v12 (F := Ideal) x0 x1 x2 x3 x4 x5 x6 (ix2 i 0) = 1#1 := by
  unfold val_main_call0_v12 val_main_call0_v11 val_main_call0_v10 val_main_call0_v9 val_main_call0_v8 val_main_call0_v7 val_main_call0_v6
    val_main_call0_c_1 val_main_call0_c_2 val_main_call0_c_3
  pointwise
  rw [Finset.univ_unique, Finset.fold_singleton]
  have e : (default : Fin 1) = 0 := rfl
  rw [e, call0_v5_word x0 x1 x2 x3 x4 x5 x6 i ha hg]
  clear hg
  revert g
  decide

/-- The group's probability in the softmax over the groups. -/
theorem v31_real : val_main_v31 (F := Ideal) x0 x1 x2 x3 x4 x5 x6 (ix2 i g) = ((1 / ∑ j, Real.exp (a j - a g) : ℝ) : EReal) := by
  unfold val_main_v31 val_main_v30 val_main_v29 val_main_v28 val_main_v27 val_main_v26 val_main_v25 val_main_v24 val_main_v23 val_main_v22 val_main_v21
    val_main_cst_2 val_main_cst_3 val_main_cst_4
  pointwise
  simp only [ha]
  rw [cst_bot, fold_max_first a g hg.1]
  refine (congrArg _ (zero_add _).symm).trans ((softmax_real a g g).trans ?_)
  rw [sub_self, Real.exp_zero]

/-- The probability that was taken. -/
theorem v33_real : val_main_v33 (F := Ideal) x0 x1 x2 x3 x4 x5 x6 (ix2 i 0) = ((1 / ∑ j, Real.exp (a j - a g) : ℝ) : EReal) := by
  unfold val_main_v33
  pointwise
  rw [call0_v12_one x0 x1 x2 x3 x4 x5 x6 i ha hg]
  unfold val_main_call0_v13
  rw [take_row _ _ i g (call0_v5_word x0 x1 x2 x3 x4 x5 x6 i ha hg), v31_real x0 x1 x2 x3 x4 x5 x6 i ha hg]
  rfl

/-- The index the group's fine logits are taken at. -/
theorem call1_v4_word : val_main_call1_v4 (F := Ideal) x0 x1 x2 x3 x4 x5 x6 (ix3 i 0 0) = BitVec.ofNat 32 g.val := by
  unfold val_main_call1_v4 val_main_call1_v3 val_main_call1_v2 val_main_call1_v1 val_main_call1_v0
    val_main_v39 val_main_call1_c val_main_call1_c_0
  pointwise
  rw [v20_word x0 x1 x2 x3 x4 x5 x6 i ha hg]
  clear hg
  revert g
  decide

/-- The index is within bounds. -/
theorem call1_v11_one : val_main_call1_v11 (F := Ideal) x0 x1 x2 x3 x4 x5 x6 (ix2 i 0) = 1#1 := by
  unfold val_main_call1_v11 val_main_call1_v10 val_main_call1_v9 val_main_call1_v8 val_main_call1_v7 val_main_call1_v6 val_main_call1_v5
    val_main_call1_c_1 val_main_call1_c_2 val_main_call1_c_3
  pointwise
  rw [Finset.univ_unique, Finset.fold_singleton]
  have e : (default : Fin 1) = 0 := rfl
  rw [e, call1_v4_word x0 x1 x2 x3 x4 x5 x6 i ha hg]
  clear hg
  revert g
  decide

include hf

/-- The group's fine logits. -/
theorem v41_real (q : Fin 8) : val_main_v41 (F := Ideal) x0 x1 x2 x3 x4 x5 x6 x7 x8 (ix2 i q) = grpRow f g q := by
  unfold val_main_v41 val_main_v40 val_main_call1_v13
  pointwise
  rw [call1_v11_one x0 x1 x2 x3 x4 x5 x6 i ha hg]
  unfold val_main_call1_v12
  rw [take_mat _ _ i g q (call1_v4_word x0 x1 x2 x3 x4 x5 x6 i ha hg)]
  unfold val_main_v38 grpRow
  pointwise
  exact hf _

include h1 h2

/-- The two greatest of them. -/
theorem top_val (z : Fin 2) : val_main_values_5 (F := Ideal) x0 x1 x2 x3 x4 x5 x6 x7 x8 (ix2 i z) = grpRow f g (if z.val = 0 then i1 else i2) := by
  unfold val_main_values_5
  refine (topK_val (by norm_num) _ _ i z).trans ?_
  simp only [v41_real x0 x1 x2 x3 x4 x5 x6 x7 x8 i ha hf hg]
  match z with
  | 0 => rw [sortedFrom_first (grpRow f g) i1 h1 _ rfl]; rfl
  | 1 => rw [sortedFrom_second (grpRow f g) i1 i2 h1 h2 _ rfl]; rfl

/-- Their places. -/
theorem top_idx (z : Fin 2) : val_main_indices_6 (F := Ideal) x0 x1 x2 x3 x4 x5 x6 x7 x8 (ix2 i z) = BitVec.ofNat 32 (if z.val = 0 then i1 else i2).val := by
  unfold val_main_indices_6
  refine (topK_idx (by norm_num) _ _ i z).trans ?_
  simp only [v41_real x0 x1 x2 x3 x4 x5 x6 x7 x8 i ha hf hg]
  match z with
  | 0 => rw [sortedFrom_first (grpRow f g) i1 h1 _ rfl]; rfl
  | 1 => rw [sortedFrom_second (grpRow f g) i1 i2 h1 h2 _ rfl]; rfl

/-- The two chosen experts' logits. -/
def pair (f : Fin 32 → ℝ) (g : Fin 4) (i1 i2 : Fin 8) (z : Fin 2) : ℝ :=
  f ⟨g.val * 8 + (if z.val = 0 then i1 else i2).val, by have := g.isLt; have := (if z.val = 0 then i1 else i2).isLt; omega⟩

/-- Their differences to the greatest. -/
theorem v47_real (z : Fin 2) : val_main_v47 (F := Ideal) x0 x1 x2 x3 x4 x5 x6 x7 x8 (ix2 i z) = (pair f g i1 i2 z : EReal) - (pair f g i1 i2 0 : EReal) := by
  have hv : ∀ z, val_main_values_5 (F := Ideal) x0 x1 x2 x3 x4 x5 x6 x7 x8 (ix2 i z) = (pair f g i1 i2 z : EReal) :=
    fun z => top_val x0 x1 x2 x3 x4 x5 x6 x7 x8 i ha hf hg h1 h2 z
  have hm : ∀ z, (pair f g i1 i2 z : EReal) ≤ pair f g i1 i2 0 := fun z => by
    match z with
    | 0 => exact le_refl _
    | 1 => exact h1.1 i2
  unfold val_main_v47 val_main_v46 val_main_v45 val_main_v44 val_main_v43 val_main_v42 val_main_cst_7 val_main_cst_8
  generalize val_main_values_5 (F := Ideal) x0 x1 x2 x3 x4 x5 x6 x7 x8 = y at hv
  pointwise
  simp only [hv]
  rw [cst_bot, fold_max_first _ 0 hm]

/-- The two experts' weights. -/
theorem v54_real (z : Fin 2) : val_main_v54 (F := Ideal) x0 x1 x2 x3 x4 x5 x6 x7 x8 (ix2 i z)
    = ((1 / ∑ j, Real.exp (a j - a g) : ℝ) : EReal) *
      ((Real.exp (pair f g i1 i2 z - pair f g i1 i2 0) / ∑ y, Real.exp (pair f g i1 i2 y - pair f g i1 i2 0) : ℝ) : EReal) := by
  have hv := v47_real x0 x1 x2 x3 x4 x5 x6 x7 x8 i ha hf hg h1 h2
  have hp := v33_real x0 x1 x2 x3 x4 x5 x6 i ha hg
  unfold val_main_v54 val_main_v53 val_main_v52 val_main_v51 val_main_v50 val_main_v49 val_main_v48 val_main_cst_9
  generalize val_main_v47 (F := Ideal) x0 x1 x2 x3 x4 x5 x6 x7 x8 = y at hv
  generalize val_main_v33 (F := Ideal) x0 x1 x2 x3 x4 x5 x6 = y' at hp
  pointwise
  simp only [hv, hp]
  rw [← softmax_real, mul_comm]
  simp only [zero_add]

/-- The two experts' numbers. -/
theorem v59_word (z : Fin 2) : val_main_v59 (F := Ideal) x0 x1 x2 x3 x4 x5 x6 x7 x8 (ix2 i z)
    = BitVec.ofNat 32 (g.val * 8 + (if z.val = 0 then i1 else i2).val) := by
  unfold val_main_v59 val_main_v58 val_main_v57 val_main_v56 val_main_v55 val_main_c
  pointwise
  rw [top_idx x0 x1 x2 x3 x4 x5 x6 x7 x8 i ha hf hg h1 h2, v20_word x0 x1 x2 x3 x4 x5 x6 i ha hg]
  generalize (if z.val = 0 then i1 else i2) = q
  clear * -
  revert g q
  decide

/-- The row of weights. -/
theorem v64_real (l : Fin 128) : val_main_v64 (F := Ideal) x0 x1 x2 x3 x4 x5 x6 x7 x8 (ix2 i l) = (wRow a f g i1 i2 l : EReal) := by
  unfold val_main_v64 val_main_v63 val_main_v62 val_main_v61 val_main_v60 val_main_call2_v4 val_main_call2_v3 val_main_call2_v2 val_main_call2_v1 val_main_call2_v0
  unfold val_main_cst_10
  pointwise
  simp only [v59_word x0 x1 x2 x3 x4 x5 x6 x7 x8 i ha hf hg h1 h2, v54_real x0 x1 x2 x3 x4 x5 x6 x7 x8 i ha hf hg h1 h2]
  simp only [Fin.sum_univ_two]
  rw [one_hot _ _ (by have := g.isLt; have := (if (0 : Fin 2).val = 0 then i1 else i2).isLt; omega) (by omega),
    one_hot _ _ (by have := g.isLt; have := (if (1 : Fin 2).val = 0 then i1 else i2).isLt; omega) (by omega)]
  have e0 : (if (0 : Fin 2).val = 0 then i1 else i2) = i1 := rfl
  have e1 : (if (1 : Fin 2).val = 0 then i1 else i2) = i2 := rfl
  have p0 : pair f g i1 i2 0 = f ⟨g.val * 8 + i1.val, by omega⟩ := rfl
  have p1 : pair f g i1 i2 1 = f ⟨g.val * 8 + i2.val, by omega⟩ := rfl
  rw [e0, e1, p0, p1, sub_self, Real.exp_zero]
  unfold wRow
  simp only []
  rw [EReal.coe_add]
  congr 1
  · split_ifs
    · rw [← EReal.coe_mul, ← EReal.coe_mul]; congr 1; ring
    · rw [← EReal.coe_mul, ← EReal.coe_mul]; congr 1; ring
  · split_ifs
    · rw [← EReal.coe_mul, ← EReal.coe_mul]; congr 1; ring
    · rw [← EReal.coe_mul, ← EReal.coe_mul]; congr 1; ring

end Cert.ReferenceIdeal.Row

end
-- ==== Proof.Finite.lean ====
module

public import proofs.«01_k».proof.Proof.RowMath
public import proofs.«01_k».proof.Proof.RowSpec
public import proofs.«01_k».proof.Proof.KernelRow
public import proofs.«01_k».proof.Proof.Gen.Pre_finite
public import Idealize.ShloMosaic.Lib.ReduceAll
public import Idealize.ShloMosaic.Lib.Pointwise

/-!
  What the precondition says: every entry of every argument is a real number. Then so are the rows the router reads.
-/

@[expose] public section

set_option maxRecDepth 16384

noncomputable section

namespace Cert.Router

open Idealize.ShloMosaic Cert.Pre_finite

/-- A number whose absolute value is below plus infinity is real. -/
theorem isReal_of_lt (x : EReal) (h : FloatOps.cmpf (F := Ideal) (φ := .f32) .olt (max x (-x)) (Ideal.ofBits .f32 0x7F800000#32) = 1#1) : IsReal x := by
  rw [Cert.KernelIdeal.Row.word_pinf, Ideal.cmpf_def] at h
  unfold Ideal.cmp at h
  simp only [Cert.KernelIdeal.Row.ofBool_eq_one] at h
  refine IsReal.of_ne ?_ ?_ <;> rintro rfl <;> simp at h

/-- An array all of whose entries pass the test is real. -/
theorem isReal_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu ix0 = 1#1)
    (i : s.Idx) : IsReal (x i) := by
  haveI : Subsingleton S_.Idx := ⟨fun a b => funext fun k => k.elim0⟩
  have h := Host.reduce_andi_all _ _ hr hu ix0 e i
  exact isReal_of_lt _ h

variable (x0 : FVec Ideal S16384x1024 .f32) (x1 : FVec Ideal S16384x768 .f32) (x2 : FVec Ideal S16384x256 .f32)
  (x3 : FVec Ideal S1024x1024 .f32) (x4 : FVec Ideal S1024 .f32) (x5 : FVec Ideal S1024x4 .f32) (x6 : FVec Ideal S4 .f32)
  (x7 : FVec Ideal S1024x32 .f32) (x8 : FVec Ideal S32 .f32)

/-- The precondition, read. -/
theorem finite_read (h : fn (F := Ideal) x0 x1 x2 x3 x4 x5 x6 x7 x8 ix0 = 1#1) :
    (∀ i, IsReal (x0 i)) ∧ (∀ i, IsReal (x1 i)) ∧ (∀ i, IsReal (x2 i)) ∧ (∀ i, IsReal (x3 i)) ∧ (∀ i, IsReal (x4 i)) ∧
      (∀ i, IsReal (x5 i)) ∧ (∀ i, IsReal (x6 i)) ∧ (∀ i, IsReal (x7 i)) ∧ (∀ i, IsReal (x8 i)) := by
  unfold fn fn_part1 fn_part2 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨isReal_of_all x0 _ _ _ h0, isReal_of_all x1 _ _ _ h1, isReal_of_all x2 _ _ _ h2, isReal_of_all x3 _ _ _ h3,
    isReal_of_all x4 _ _ _ h4, isReal_of_all x5 _ _ _ h5, isReal_of_all x6 _ _ _ h6, isReal_of_all x7 _ _ _ h7, isReal_of_all x8 _ _ _ h8⟩

/-- A real row of the layer's new residual. -/
theorem isReal_xRow (x : Fin 1024 → EReal) (mix : Fin 768 → EReal) (mem : Fin 256 → EReal) (w : Fin 1024 → Fin 1024 → EReal)
    (hx : ∀ c, IsReal (x c)) (hmix : ∀ k, IsReal (mix k)) (hmem : ∀ k, IsReal (mem k)) (hw : ∀ k c, IsReal (w k c)) (c : Fin 1024) :
    IsReal (xRow x mix mem w c) := by
  unfold xRow
  exact (hx c).add ((IsReal.sum fun k => (hmix k).mul (hw _ _)).add (IsReal.sum fun k => (hmem k).mul (hw _ _)))

/-- A real row, normalised. -/
theorem isReal_hRow (x gain : Fin 1024 → EReal) (hx : ∀ c, IsReal (x c)) (hg : ∀ c, IsReal (gain c)) (c : Fin 1024) :
    IsReal (hRow x gain c) := by
  unfold hRow
  refine ((hx c).mul ?_).mul (hg c)
  obtain ⟨e, he, h⟩ := Cert.KernelIdeal.Row.word_eps
  rw [h, Cert.KernelIdeal.Row.word_1024]
  exact isReal_rsqrt x hx 1024 e (by norm_num) he

/-- Real logits. -/
theorem isReal_logits {n : ℕ} (h : Fin 1024 → EReal) (w : Fin 1024 → Fin n → EReal) (b : Fin n → EReal) (hh : ∀ k, IsReal (h k))
    (hw : ∀ k l, IsReal (w k l)) (hb : ∀ l, IsReal (b l)) (l : Fin n) : IsReal (logits h w b l) := by
  unfold logits
  exact (IsReal.sum fun k => (hh k).mul (hw _ _)).add (hb l)

end Cert.Router

end
-- ==== Proof.Router.lean ====
module

public import proofs.«01_k».proof.Proof.KernelValue
public import proofs.«01_k».proof.Proof.RefWeights
public import proofs.«01_k».proof.Proof.Finite

/-!
  The kernel's three arrays are the reference's: the residual rows and the normalised rows whatever the arguments are, the
  rows of weights where every argument is a real number.
-/

@[expose] public section

set_option maxRecDepth 16384

noncomputable section

namespace Cert.Router

open Idealize.ShloMosaic Idealize.ShloMosaic.TcCoe Idealize.SL.Sem
open Cert.KernelIdeal Cert.KernelIdeal.Gen Cert.KernelIdeal.RefValue Cert.ReferenceIdeal.Read Cert.ReferenceIdeal.Row

variable (m : (ℓ : Loc nD τ sig) → Buf (Elt Ideal) ℓ) (c : Dev nD)

/-- The kernel's nine arguments. -/
abbrev A0 : Vec Ideal S16384x1024 .f32 := m ((c : Thread nD τ).loc main_arg0)
/-- The mixed features. -/
abbrev A1 : Vec Ideal S16384x768 .f32 := m ((c : Thread nD τ).loc main_arg1)
/-- The memory features. -/
abbrev A2 : Vec Ideal S16384x256 .f32 := m ((c : Thread nD τ).loc main_arg2)
/-- The output projection. -/
abbrev A3 : Vec Ideal S1024x1024 .f32 := m ((c : Thread nD τ).loc main_arg3)
/-- The gains. -/
abbrev A4 : Vec Ideal S1024 .f32 := m ((c : Thread nD τ).loc main_arg4)
/-- The coarse weights. -/
abbrev A5 : Vec Ideal S1024x4 .f32 := m ((c : Thread nD τ).loc main_arg5)
/-- The coarse bias. -/
abbrev A6 : Vec Ideal S4 .f32 := m ((c : Thread nD τ).loc main_arg6)
/-- The fine weights. -/
abbrev A7 : Vec Ideal S1024x32 .f32 := m ((c : Thread nD τ).loc main_arg7)
/-- The fine bias. -/
abbrev A8 : Vec Ideal S32 .f32 := m ((c : Thread nD τ).loc main_arg8)

/-- The residual rows. -/
theorem xOf_eq (i : Fin 16384) : xOf m c i = fun c' => val_main_v2 (F := Ideal) (A0 m c) (A1 m c) (A2 m c) (A3 m c) (ix2 i c') :=
  funext fun c' => (v2_apply (A0 m c) (A1 m c) (A2 m c) (A3 m c) i c').symm

/-- The normalised rows. -/
theorem hOf_eq (i : Fin 16384) :
    hOf m c i = fun c' => val_main_v15 (F := Ideal) (A0 m c) (A1 m c) (A2 m c) (A3 m c) (A4 m c) (ix2 i c') := by
  funext c'
  rw [v15_apply, ← xOf_eq]
  rfl

/-- The array of residual rows. -/
theorem arr9_eq : arr9 m c = val_main_v2 (F := Ideal) (A0 m c) (A1 m c) (A2 m c) (A3 m c) := by
  funext j
  obtain ⟨r, l, rfl⟩ : ∃ (r : Fin 16384) (l : Fin 1024), j = ix2 r l := ⟨j 0, j 1, eq_ix2 j⟩
  exact congrFun (xOf_eq m c r) l

/-- The array of normalised rows. -/
theorem arr10_eq : arr10 m c = val_main_v15 (F := Ideal) (A0 m c) (A1 m c) (A2 m c) (A3 m c) (A4 m c) := by
  funext j
  obtain ⟨r, l, rfl⟩ : ∃ (r : Fin 16384) (l : Fin 1024), j = ix2 r l := ⟨j 0, j 1, eq_ix2 j⟩
  exact congrFun (hOf_eq m c r) l

/-- The padded coarse logits of the kernel are the reference's in the first four lanes. -/
theorem coarse_eq (h : Fin 1024 → EReal) (l : Fin 128) (hl : l.val < 4) :
    logits h (fun k l => (V m c main_v3 : Vec Ideal S1024x128 .bf16) (ix2 k l)) (fun l => (V m c main_v5 : Vec Ideal S1x128 .f32) (ix2 0 l)) l
      = logits h (fun k l => A5 m c (ix2 k l)) (fun l => A6 m c (ix1 l)) ⟨l.val, hl⟩ := by
  unfold logits
  exact congr (congrArg _ (Finset.sum_congr rfl fun k _ => congrArg (h k * ·) (V_v3 m c k l hl))) (V_v5 m c l hl)

/-- The padded fine logits of the kernel are the reference's in the first thirty-two lanes. -/
theorem fine_eq (h : Fin 1024 → EReal) (l : Fin 128) (hl : l.val < 32) :
    logits h (fun k l => (V m c main_v7 : Vec Ideal S1024x128 .bf16) (ix2 k l)) (fun l => (V m c main_v9 : Vec Ideal S1x128 .f32) (ix2 0 l)) l
      = logits h (fun k l => A7 m c (ix2 k l)) (fun l => A8 m c (ix1 l)) ⟨l.val, hl⟩ := by
  unfold logits
  exact congr (congrArg _ (Finset.sum_congr rfl fun k _ => congrArg (h k * ·) (V_v7 m c k l hl))) (V_v9 m c l hl)

/-- The array of weights, when the arguments are real. -/
theorem arr11_eq (hp : Cert.Pre_finite.fn (F := Ideal) (A0 m c) (A1 m c) (A2 m c) (A3 m c) (A4 m c) (A5 m c) (A6 m c) (A7 m c) (A8 m c) ix0 = 1#1) :
    arr11 m c = val_main_v64 (F := Ideal) (A0 m c) (A1 m c) (A2 m c) (A3 m c) (A4 m c) (A5 m c) (A6 m c) (A7 m c) (A8 m c) := by
  obtain ⟨r0, r1, r2, r3, r4, r5, r6, r7, r8⟩ := finite_read _ _ _ _ _ _ _ _ _ hp
  funext j
  obtain ⟨i, l, rfl⟩ : ∃ (r : Fin 16384) (l : Fin 128), j = ix2 r l := ⟨j 0, j 1, eq_ix2 j⟩
  have hx : ∀ k, IsReal (xOf m c i k) := isReal_xRow _ _ _ _ (fun k => r0 _) (fun k => r1 _) (fun k => r2 _) (fun k c' => r3 _)
  have hh : ∀ k, IsReal (hOf m c i k) := isReal_hRow _ _ hx fun k => r4 _
  have ea : ∀ j, val_main_v19 (F := Ideal) (A0 m c) (A1 m c) (A2 m c) (A3 m c) (A4 m c) (A5 m c) (A6 m c) (ix2 i j)
      = logits (hOf m c i) (fun k l => A5 m c (ix2 k l)) (fun l => A6 m c (ix1 l)) j := fun j => by
    rw [v19_apply, ← hOf_eq]
  have ef : ∀ j, val_main_v37 (F := Ideal) (A0 m c) (A1 m c) (A2 m c) (A3 m c) (A4 m c) (A7 m c) (A8 m c) (ix2 i j)
      = logits (hOf m c i) (fun k l => A7 m c (ix2 k l)) (fun l => A8 m c (ix1 l)) j := fun j => by
    rw [v37_apply, ← hOf_eq]
  have la : ∀ j, IsReal (logits (hOf m c i) (fun k l => A5 m c (ix2 k l)) (fun l => A6 m c (ix1 l)) j) :=
    isReal_logits _ _ _ hh (fun k l => r5 _) fun l => r6 _
  have lf : ∀ j, IsReal (logits (hOf m c i) (fun k l => A7 m c (ix2 k l)) (fun l => A8 m c (ix1 l)) j) :=
    isReal_logits _ _ _ hh (fun k l => r7 _) fun l => r8 _
  choose a ha using la
  choose f hf using lf
  obtain ⟨g, hg⟩ := exists_firstMax (fun j => (a j : EReal))
  obtain ⟨i1, h1⟩ := exists_firstMax (grpRow f g)
  obtain ⟨i2, h2⟩ := exists_secondMax (grpRow f g) i1
  refine Eq.trans ?_ (v64_real (A0 m c) (A1 m c) (A2 m c) (A3 m c) (A4 m c) (A5 m c) (A6 m c) (A7 m c) (A8 m c) i
    (fun j => (ea j).trans (ha j)) (fun j => (ef j).trans (hf j)) hg h1 h2 l).symm
  refine kRow_eq _ _ a f g i1 i2 (fun l => ?_) (fun l hl => ?_) hg h1 h2 l
  · by_cases hl : l.val < 4
    · rw [if_pos hl, dif_pos hl]
      exact (coarse_eq m c _ l hl).trans (ha _)
    · rw [if_neg hl, dif_neg hl]
  · exact (fine_eq m c _ l hl).trans (hf _)

end Cert.Router

end
-- ==== Proof.ProjSpec.lean ====
module

public import proofs.«01_k».proof.Proof.RowSpec
public import Idealize.ShloMosaic.Lib.Pointwise

/-!
  The rows of the projections: a normalized row times a weight, the heads of such a row each over the root of its own
  mean square, and the gates of the row.
-/

@[expose] public section

noncomputable section

namespace Cert.Router

open Idealize.ShloMosaic

/-- A row times a weight. -/
def projRow {n : Nat} (h : Fin 1024 → EReal) (w : Fin 1024 → Fin n → EReal) (l : Fin n) : EReal :=
  ∑ k : Fin 1024, h k * w k l

/-- A head over the root of its mean square, times the gains. -/
def headNorm (z : Fin 64 → EReal) (gain : Fin 64 → EReal) (d : Fin 64) : EReal :=
  z d * Ideal.rsqrt (Ideal.div (∑ k : Fin 64, z k * z k) (Ideal.ofBits .f32 0x42800000#32) + Ideal.ofBits .f32 0x358637BD#32)
    * gain d

/-- The place in its head of a place in a row of heads. -/
def inHead {n : Nat} (l : Fin n) : Fin 64 := ⟨l.val % 64, Nat.mod_lt _ (by decide)⟩

/-- The head, in a row of heads, that holds a place. -/
def headOf {n : Nat} (hn : n % 64 = 0) (z : Fin n → EReal) (l : Fin n) : Fin 64 → EReal :=
  fun d => z ⟨l.val / 64 * 64 + d.val, by omega⟩

/-- A row of heads, each over the root of its mean square. -/
def headRow {n : Nat} (hn : n % 64 = 0) (z : Fin n → EReal) (gain : Fin 64 → EReal) (l : Fin n) : EReal :=
  headNorm (headOf hn z l) gain (inHead l)

/-- Two heads side by side, each over the root of its mean square: each sum runs over both heads, the other one's
    squares put to zero, and is multiplied with 1/64. -/
def tileNorm (z : Fin 128 → EReal) (gain : Fin 128 → EReal) (l : Fin 128) : EReal :=
  z l * Ideal.rsqrt ((if l.val < 64 then ∑ k : Fin 128, (if k.val < 64 then z k * z k else 0)
      else ∑ k : Fin 128, (if k.val < 64 then 0 else z k * z k)) * Ideal.ofBits .f32 0x3C800000#32
    + Ideal.ofBits .f32 0x358637BD#32) * gain l

/-- The word that says whether a lane belongs to the first of two heads. -/
def lowWord (l : Fin 128) : BitVec 1 := IntOp.cmpi .slt (BitVec.ofNat 32 l.val) 64#32

theorem lowWord_eq (l : Fin 128) : lowWord l = if l.val < 64 then 1#1 else 0#1 := by
  have h : ∀ l : Fin 128, lowWord l = if l.val < 64 then 1#1 else 0#1 := by decide +kernel
  exact h l

/-- A choice by that word. -/
theorem select_low (l : Fin 128) (a b : EReal) : Scalar.select (lowWord l) a b = if l.val < 64 then a else b := by
  rw [lowWord_eq]
  by_cases h : l.val < 64
  · rw [if_pos h, if_pos h]; rfl
  · rw [if_neg h, if_neg h]; rfl

/-- Two heads side by side, the lanes chosen by words. -/
def tileWords (z : Fin 128 → EReal) (gain : Fin 128 → EReal) (l : Fin 128) : EReal :=
  z l * Ideal.rsqrt (Scalar.select (lowWord l) (∑ k : Fin 128, Scalar.select (lowWord k) (z k * z k) 0)
      (∑ k : Fin 128, Scalar.select (lowWord k) 0 (z k * z k)) * Ideal.ofBits .f32 0x3C800000#32
    + Ideal.ofBits .f32 0x358637BD#32) * gain l

theorem tileWords_eq (z : Fin 128 → EReal) (gain : Fin 128 → EReal) (l : Fin 128) : tileWords z gain l = tileNorm z gain l := by
  unfold tileWords tileNorm
  simp only [select_low]

/-- The word of 64. -/
theorem word_64 : Ideal.ofBits .f32 0x42800000#32 = ((64 : ℝ) : EReal) := by
  simp [Ideal.ofBits, Ideal.ieee, -EReal.coe_mul]; norm_num

/-- The word of 1/64. -/
theorem word_inv64 : Ideal.ofBits .f32 0x3C800000#32 = (((1 : ℝ) / 64 : ℝ) : EReal) := by
  simp [Ideal.ofBits, Ideal.ieee, -EReal.coe_mul]; norm_num

/-- Multiplying with 1/64 is dividing by 64. -/
theorem mul_inv64 (x : EReal) : x * Ideal.ofBits .f32 0x3C800000#32 = Ideal.div x (Ideal.ofBits .f32 0x42800000#32) := by
  rw [word_64, word_inv64, Ideal.div_coe (by norm_num)]

/-- The sum over two heads with the second put to zero. -/
theorem sum_low (f : Fin 128 → EReal) : (∑ k : Fin 128, (if k.val < 64 then f k else 0)) = ∑ d : Fin 64, f ⟨d.val, by omega⟩ := by
  refine (Fin.sum_univ_add (a := 64) (b := 64) (fun k : Fin (64 + 64) => if k.val < 64 then f k else 0)).trans ?_
  refine (congrArg₂ (· + ·) (Finset.sum_congr rfl fun d _ => if_pos d.isLt)
    (Finset.sum_eq_zero fun d _ => if_neg (by show ¬ 64 + d.val < 64; omega))).trans (add_zero _)

/-- The sum over two heads with the first put to zero. -/
theorem sum_high (f : Fin 128 → EReal) : (∑ k : Fin 128, (if k.val < 64 then 0 else f k)) = ∑ d : Fin 64, f ⟨64 + d.val, by omega⟩ := by
  refine (Fin.sum_univ_add (a := 64) (b := 64) (fun k : Fin (64 + 64) => if k.val < 64 then 0 else f k)).trans ?_
  refine (congrArg₂ (· + ·) (Finset.sum_eq_zero fun d _ => if_pos d.isLt)
    (Finset.sum_congr rfl fun d _ => if_neg (by show ¬ 64 + d.val < 64; omega))).trans (zero_add _)

/-- Two heads side by side are a row of two heads. -/
theorem tileNorm_eq (z : Fin 128 → EReal) (g2 : Fin 128 → EReal) (gain : Fin 64 → EReal) (hg : ∀ l, g2 l = gain (inHead l)) (l : Fin 128) :
    tileNorm z g2 l = headRow (by decide) z gain l := by
  unfold tileNorm headRow headNorm
  rw [mul_inv64, hg, sum_low fun k => z k * z k, sum_high fun k => z k * z k]
  have e : headOf (by decide : 128 % 64 = 0) z l (inHead l) = z l := congrArg z (Fin.ext (by show l.val / 64 * 64 + l.val % 64 = l.val; omega))
  rw [e]
  by_cases h : l.val < 64
  · have : headOf (by decide : 128 % 64 = 0) z l = fun d => z ⟨d.val, by omega⟩ :=
      funext fun d => congrArg z (Fin.ext (by show l.val / 64 * 64 + d.val = d.val; omega))
    rw [if_pos h, this]
  · have : headOf (by decide : 128 % 64 = 0) z l = fun d => z ⟨64 + d.val, by omega⟩ :=
      funext fun d => congrArg z (Fin.ext (by show l.val / 64 * 64 + d.val = 64 + d.val; omega))
    rw [if_neg h, this]

/-- A row of heads read through a part of it that starts and ends at heads. -/
theorem headRow_sub {n p : Nat} (hn : n % 64 = 0) (hp : p % 64 = 0) (o : Nat) (ho : o % 64 = 0) (hop : o + p ≤ n)
    (z : Fin n → EReal) (gain : Fin 64 → EReal) (l : Fin p) :
    headRow hp (fun k : Fin p => z ⟨o + k.val, by omega⟩) gain l = headRow hn z gain ⟨o + l.val, by omega⟩ := by
  unfold headRow
  congr 1
  · funext d
    exact congrArg z (Fin.ext (by show o + (l.val / 64 * 64 + d.val) = (o + l.val) / 64 * 64 + d.val; omega))
  · exact Fin.ext (by show l.val % 64 = (o + l.val) % 64; omega)

/-- One head over the root of its mean square, the sum multiplied with 1/64, is a row of one head. -/
theorem halfNorm_eq (z gain : Fin 64 → EReal) (l : Fin 64) :
    z l * Ideal.rsqrt ((∑ k : Fin 64, z k * z k) * Ideal.ofBits .f32 0x3C800000#32 + Ideal.ofBits .f32 0x358637BD#32) * gain l
      = headRow (by decide : 64 % 64 = 0) z gain l := by
  unfold headRow headNorm
  rw [mul_inv64]
  have e : headOf (by decide : 64 % 64 = 0) z l = z :=
    funext fun d => congrArg z (Fin.ext (by show l.val / 64 * 64 + d.val = d.val; omega))
  have e1 : inHead l = l := Fin.ext (by show l.val % 64 = l.val; omega)
  rw [e, e1]

/-- The gates of a row: 36 of the 128 places hold a gate, the others the gate of zero. -/
def gateRow (z : Fin 36 → EReal) (l : Fin 128) : EReal := Ideal.logistic (if h : l.val < 36 then z ⟨l.val, h⟩ else 0)

/-- The word of one. -/
theorem word_one : Ideal.ofBits .f32 0x3F800000#32 = 1 := by
  simp [Ideal.ofBits, Ideal.ieee, -EReal.coe_mul]; norm_num

/-- One over one plus the exponential of the negative is the gate. -/
theorem logistic_words (x : EReal) : Ideal.div (Ideal.ofBits .f32 0x3F800000#32) (Ideal.ofBits .f32 0x3F800000#32 + Ideal.exp (-x))
    = Ideal.logistic x := by
  rw [word_one]; rfl

end Cert.Router

end
-- ==== Proof.InputRows.lean ====
module

public import proofs.«01_k».proof.Proof.Gen.InputIdeal.Frame
public import proofs.«01_k».proof.Proof.ProjSpec
public import Idealize.ShloMosaic.Lib.Pointwise
public import Idealize.ShloMosaic.Lib.Pipeline.ValueKit

/-!
  What a block of the rows of the prompt becomes in the input projection of the attention layer: products with the column ranges of the
  weight, the heads of the queries and keys normalized, the gates through the logistic function.
-/

@[expose] public section

set_option maxRecDepth 16384

noncomputable section

namespace Cert.InputIdeal.Rows

open Idealize.ShloMosaic Idealize.ShloMosaic.TcCoe Idealize.SL.Sem
open Cert.InputIdeal Cert.InputIdeal.Gen Cert.Router

section
variable (v0 : Vec Ideal S1024x1024 .f32) (v1 : Vec Ideal S1x1024 .f32)

/-- The normalized rows of a block. -/
theorem pay1_apply (r : Fin 1024) (c : Fin 1024) :
    k0_pay1 v0 v1 (ix2 r c) = hRow (fun k => v0 (ix2 r k)) (fun k => v1 (ix2 0 k)) c := by
  unfold k0_pay1 hRow
  pointwise

/-- The product of the queries. -/
theorem pay2_apply (w : Vec Ideal S1024x768 .bf16) (r : Fin 1024) (l : Fin 768) :
    k0_pay2 v0 v1 w (ix2 r l) = projRow (hRow (fun k => v0 (ix2 r k)) (fun k => v1 (ix2 0 k))) (fun k l => w (ix2 k l)) l := by
  have h := pay1_apply v0 v1 r
  unfold k0_pay2 projRow
  generalize k0_pay1 v0 v1 = y at h
  pointwise
  simp only [h]

/-- The product of the compressed keys. -/
theorem pay27_apply (w : Vec Ideal S1024x192 .bf16) (r : Fin 1024) (l : Fin 192) :
    k0_pay27 (k0_pay1 v0 v1) w (ix2 r l) = projRow (hRow (fun k => v0 (ix2 r k)) (fun k => v1 (ix2 0 k))) (fun k l => w (ix2 k l)) l := by
  have h := pay1_apply v0 v1 r
  unfold k0_pay27 projRow
  generalize k0_pay1 v0 v1 = y at h
  pointwise
  simp only [h]

/-- The product of the compressed values. -/
theorem pay28_apply (w : Vec Ideal S1024x192 .bf16) (r : Fin 1024) (l : Fin 192) :
    k0_pay28 (k0_pay1 v0 v1) w (ix2 r l) = projRow (hRow (fun k => v0 (ix2 r k)) (fun k => v1 (ix2 0 k))) (fun k l => w (ix2 k l)) l := by
  have h := pay1_apply v0 v1 r
  unfold k0_pay28 projRow
  generalize k0_pay1 v0 v1 = y at h
  pointwise
  simp only [h]

/-- The product of the selected keys. -/
theorem pay29_apply (w : Vec Ideal S1024x192 .bf16) (r : Fin 1024) (l : Fin 192) :
    k0_pay29 (k0_pay1 v0 v1) w (ix2 r l) = projRow (hRow (fun k => v0 (ix2 r k)) (fun k => v1 (ix2 0 k))) (fun k l => w (ix2 k l)) l := by
  have h := pay1_apply v0 v1 r
  unfold k0_pay29 projRow
  generalize k0_pay1 v0 v1 = y at h
  pointwise
  simp only [h]

/-- The product of the selected values. -/
theorem pay34_apply (w : Vec Ideal S1024x192 .bf16) (r : Fin 1024) (l : Fin 192) :
    k0_pay34 (k0_pay1 v0 v1) w (ix2 r l) = projRow (hRow (fun k => v0 (ix2 r k)) (fun k => v1 (ix2 0 k))) (fun k l => w (ix2 k l)) l := by
  have h := pay1_apply v0 v1 r
  unfold k0_pay34 projRow
  generalize k0_pay1 v0 v1 = y at h
  pointwise
  simp only [h]

/-- The product of the window keys. -/
theorem pay35_apply (w : Vec Ideal S1024x192 .bf16) (r : Fin 1024) (l : Fin 192) :
    k0_pay35 (k0_pay1 v0 v1) w (ix2 r l) = projRow (hRow (fun k => v0 (ix2 r k)) (fun k => v1 (ix2 0 k))) (fun k l => w (ix2 k l)) l := by
  have h := pay1_apply v0 v1 r
  unfold k0_pay35 projRow
  generalize k0_pay1 v0 v1 = y at h
  pointwise
  simp only [h]

/-- The product of the window values. -/
theorem pay41_apply (w : Vec Ideal S1024x192 .bf16) (r : Fin 1024) (l : Fin 192) :
    k0_pay41 (k0_pay1 v0 v1) w (ix2 r l) = projRow (hRow (fun k => v0 (ix2 r k)) (fun k => v1 (ix2 0 k))) (fun k l => w (ix2 k l)) l := by
  have h := pay1_apply v0 v1 r
  unfold k0_pay41 projRow
  generalize k0_pay1 v0 v1 = y at h
  pointwise
  simp only [h]

/-- The product of the memory queries. -/
theorem pay43_apply (w : Vec Ideal S1024x256 .bf16) (r : Fin 1024) (l : Fin 256) :
    k0_pay43 (k0_pay1 v0 v1) w (ix2 r l) = projRow (hRow (fun k => v0 (ix2 r k)) (fun k => v1 (ix2 0 k))) (fun k l => w (ix2 k l)) l := by
  have h := pay1_apply v0 v1 r
  unfold k0_pay43 projRow
  generalize k0_pay1 v0 v1 = y at h
  pointwise
  simp only [h]

/-- The gates. -/
theorem pay42_apply (w : Vec Ideal S1024x128 .bf16) (r : Fin 1024) (l : Fin 128) :
    k0_pay42 (k0_pay1 v0 v1) w (ix2 r l) = Ideal.logistic (projRow (hRow (fun k => v0 (ix2 r k)) (fun k => v1 (ix2 0 k))) (fun k l => w (ix2 k l)) l) := by
  have h := pay1_apply v0 v1 r
  unfold k0_pay42 projRow
  generalize k0_pay1 v0 v1 = y at h
  pointwise
  simp only [h]
  all_goals rfl

end

/-! ## Two heads side by side -/

/-- The queries' gains as the body reads them. -/
theorem pay3_apply (g : Vec Ideal S1x128 .f32) (l : Fin 128) : k0_pay3 g (ix2 0 l) = g (ix2 0 l) := by
  unfold k0_pay3
  pointwise

/-- The selected keys' gains as the body reads them. -/
theorem pay30_apply (g : Vec Ideal S1x128 .f32) (l : Fin 128) : k0_pay30 g (ix2 0 l) = g (ix2 0 l) := by
  unfold k0_pay30
  pointwise

/-- The window keys' gains as the body reads them. -/
theorem pay36_apply (g : Vec Ideal S1x128 .f32) (l : Fin 128) : k0_pay36 g (ix2 0 l) = g (ix2 0 l) := by
  unfold k0_pay36
  pointwise

/-- Two heads of a row, at the columns from 0 on. -/
theorem tile0 (v0 : Vec Ideal S1024x1024 .f32) (v1 : Vec Ideal S1x1024 .f32) (w : Vec Ideal S1024x768 .bf16) (g : FVec Ideal S1x128 .f32) (r : Fin 1024) (l : Fin 128) :
    k0_pay10 g (k0_pay5 v0 v1 w) (k0_pay7 v0 v1 w) k0_pay8 (k0_pay9 v0 v1 w) (ix2 r l) = tileNorm (fun k => k0_pay2 v0 v1 w (ix2 r ⟨0 + k.val, by omega⟩)) (fun k => g (ix2 0 k)) l := by
  rw [← tileWords_eq]
  unfold k0_pay10 k0_pay9 k0_pay8 k0_pay7 k0_pay6 k0_pay5 k0_pay4 tileWords lowWord
  generalize k0_pay2 v0 v1 w = z
  pointwise

/-- Two heads of a row, at the columns from 128 on. -/
theorem tile1 (z : FVec Ideal S1024x768 .f32) (g : FVec Ideal S1x128 .f32) (r : Fin 1024) (l : Fin 128) :
    k0_pay11 z g k0_pay4 (ix2 r l) = tileNorm (fun k => z (ix2 r ⟨128 + k.val, by omega⟩)) (fun k => g (ix2 0 k)) l := by
  rw [← tileWords_eq]
  unfold k0_pay11 k0_pay4 tileWords lowWord
  pointwise

/-- Two heads of a row, at the columns from 256 on. -/
theorem tile2 (z : FVec Ideal S1024x768 .f32) (g : FVec Ideal S1x128 .f32) (r : Fin 1024) (l : Fin 128) :
    k0_pay14 g k0_pay4 (k0_pay12 z) (k0_pay13 z) (FloatOps.ofBits FTy.f32 0#32) (ix2 r l) = tileNorm (fun k => z (ix2 r ⟨256 + k.val, by omega⟩)) (fun k => g (ix2 0 k)) l := by
  rw [← tileWords_eq]
  unfold k0_pay14 k0_pay13 k0_pay12 k0_pay4 tileWords lowWord
  pointwise

/-- Two heads of a row, at the columns from 384 on. -/
theorem tile3 (z : FVec Ideal S1024x768 .f32) (g : FVec Ideal S1x128 .f32) (r : Fin 1024) (l : Fin 128) :
    k0_pay20 g (k0_pay15 z) (k0_pay17 k0_pay4) (k0_pay18 z k0_pay4) (k0_pay19 z k0_pay4) (ix2 r l) = tileNorm (fun k => z (ix2 r ⟨384 + k.val, by omega⟩)) (fun k => g (ix2 0 k)) l := by
  rw [← tileWords_eq]
  unfold k0_pay20 k0_pay19 k0_pay18 k0_pay17 k0_pay16 k0_pay15 k0_pay4 tileWords lowWord
  pointwise

/-- Two heads of a row, at the columns from 512 on. -/
theorem tile4 (z : FVec Ideal S1024x768 .f32) (g : FVec Ideal S1x128 .f32) (r : Fin 1024) (l : Fin 128) :
    k0_pay21 z g k0_pay4 (ix2 r l) = tileNorm (fun k => z (ix2 r ⟨512 + k.val, by omega⟩)) (fun k => g (ix2 0 k)) l := by
  rw [← tileWords_eq]
  unfold k0_pay21 k0_pay4 tileWords lowWord
  pointwise

/-- Two heads of a row, at the columns from 640 on. -/
theorem tile5 (z : FVec Ideal S1024x768 .f32) (g : FVec Ideal S1x128 .f32) (r : Fin 1024) (l : Fin 128) :
    k0_pay26 g k0_pay4 (k0_pay22 z) (k0_pay23 z) (k0_pay24 k0_pay4) k0_pay25 (ix2 r l) = tileNorm (fun k => z (ix2 r ⟨640 + k.val, by omega⟩)) (fun k => g (ix2 0 k)) l := by
  rw [← tileWords_eq]
  unfold k0_pay26 k0_pay25 k0_pay24 k0_pay23 k0_pay22 k0_pay4 tileWords lowWord
  pointwise

/-- Two heads of a row, at the columns from 0 on. -/
theorem tile_s (z : FVec Ideal S1024x192 .f32) (g : Vec Ideal S1x128 .f32) (r : Fin 1024) (l : Fin 128) :
    k0_pay31 z g (ix2 r l) = tileNorm (fun k => z (ix2 r ⟨0 + k.val, by omega⟩)) (fun k => k0_pay30 g (ix2 0 k)) l := by
  rw [← tileWords_eq]
  unfold k0_pay31 tileWords lowWord
  generalize k0_pay30 g = y
  pointwise

/-- Two heads of a row, at the columns from 0 on. -/
theorem tile_w (h : FVec Ideal S1024x1024 .bf16) (w : Vec Ideal S1024x192 .bf16) (g : FVec Ideal S1x128 .f32) (r : Fin 1024) (l : Fin 128) :
    k0_pay39 g (k0_pay37 h w) (k0_pay38 h w) (FloatOps.ofBits FTy.f32 897988541#32) (ix2 r l) = tileNorm (fun k => k0_pay35 h w (ix2 r ⟨0 + k.val, by omega⟩)) (fun k => g (ix2 0 k)) l := by
  rw [← tileWords_eq]
  unfold k0_pay39 k0_pay38 k0_pay37 tileWords lowWord
  generalize k0_pay35 h w = z
  pointwise

/-- The last head of a row of three. -/
theorem half_s (z : FVec Ideal S1024x192 .f32) (g : FVec Ideal S1x128 .f32) (r : Fin 1024) (l : Fin 64) :
    k0_pay33 g (k0_pay32 z) (ix2 r l) = headRow (by decide : 64 % 64 = 0) (fun k : Fin 64 => z (ix2 r ⟨128 + k.val, by omega⟩)) (fun k => g (ix2 0 ⟨k.val, by omega⟩)) l := by
  rw [← halfNorm_eq]
  unfold k0_pay33 k0_pay32
  pointwise
  all_goals rfl

/-- The last head of a row of three. -/
theorem half_w (z : FVec Ideal S1024x192 .f32) (g : FVec Ideal S1x128 .f32) (r : Fin 1024) (l : Fin 64) :
    k0_pay40 z g (ix2 r l) = headRow (by decide : 64 % 64 = 0) (fun k : Fin 64 => z (ix2 r ⟨128 + k.val, by omega⟩)) (fun k => g (ix2 0 ⟨k.val, by omega⟩)) l := by
  rw [← halfNorm_eq]
  unfold k0_pay40
  pointwise
  all_goals rfl

/-! ## What a grid point leaves -/

variable (m : (ℓ : Loc nD τ sig) → Buf (Elt Ideal) ℓ)

/-- The queries of a point's rows. -/
theorem out14_apply (c : Dev nD) (t : Fin cfg0.N) (gain : Fin 64 → EReal)
    (hg : ∀ l : Fin 128, (iblk m c 11 t : Vec Ideal S1x128 .f32) (ix2 0 l) = gain (inHead l)) (y : Fin 768 → EReal) (r : Fin 1024)
    (hy : ∀ l, k0_pay2 (iblk m c 0 t) (iblk m c 1 t) (iblk m c 2 t) (ix2 r l) = y l) (l : Fin 768) :
    (outsAt0 m c t).1 (ix2 r l) = headRow (by decide : 768 % 64 = 0) y gain l := by
  have hg3 : ∀ l : Fin 128, k0_pay3 (F := Ideal) (iblk m c 11 t) (ix2 0 l) = gain (inHead l) := fun l => (pay3_apply _ l).trans (hg l)
  unfold outsAt0
  frame_out
  canon_tiles x h
  · obtain ⟨r', l', rfl⟩ : ∃ (r' : Fin 1024) (l' : Fin 128), x = ix2 r' l' := ⟨x 0, x 1, eq_ix2 x⟩
    obtain rfl : r = r' := Fin.ext h0
    refine (tile5 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 640 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile4 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 512 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile3 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 384 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile2 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 256 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile1 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 128 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile0 (iblk m c 0 t) (iblk m c 1 t) (iblk m c 2 t) (k0_pay3 (iblk m c 11 t)) r l').trans ((tileNorm_eq _ _ gain hg3 l').trans ?_)
    simp only [hy]
    refine (headRow_sub (by decide : 768 % 64 = 0) (by decide) 0 (by decide) (by decide) y gain l').trans ?_
    exact congrArg _ (Fin.ext ((Nat.zero_add _).trans h1.symm))

/-- The selected keys of a point's rows. -/
theorem out17_apply (c : Dev nD) (t : Fin cfg0.N) (gain : Fin 64 → EReal)
    (hg : ∀ l : Fin 128, (iblk m c 12 t : Vec Ideal S1x128 .f32) (ix2 0 l) = gain (inHead l)) (y : Fin 192 → EReal) (r : Fin 1024)
    (hy : ∀ l, k0_pay29 (k0_pay1 (iblk m c 0 t) (iblk m c 1 t)) (iblk m c 5 t) (ix2 r l) = y l) (l : Fin 192) :
    (outsAt0 m c t).2.2.2.1 (ix2 r l) = headRow (by decide : 192 % 64 = 0) y gain l := by
  have hg3 : ∀ l : Fin 128, k0_pay30 (F := Ideal) (iblk m c 12 t) (ix2 0 l) = gain (inHead l) := fun l => (pay30_apply _ l).trans (hg l)
  have hg4 : (fun k : Fin 64 => k0_pay30 (F := Ideal) (iblk m c 12 t) (ix2 0 ⟨k.val, by omega⟩)) = gain := by
    funext k
    exact (hg3 _).trans (congrArg gain (Fin.ext (by show k.val % 64 = k.val; omega)))
  unfold outsAt0
  frame_out
  canon_tiles x h using (View.cover_of_tiledBy _ ![1024, 64] (by sl_kernel_rfl) _)
  · obtain ⟨r', l', rfl⟩ : ∃ (r' : Fin 1024) (l' : Fin 64), x = ix2 r' l' := ⟨x 0, x 1, eq_ix2 x⟩
    obtain rfl : r = r' := Fin.ext h0
    refine (half_s (k0_pay29 (k0_pay1 (iblk m c 0 t) (iblk m c 1 t)) (iblk m c 5 t)) (k0_pay30 (iblk m c 12 t)) r l').trans ?_
    rw [hg4]
    simp only [hy]
    refine (headRow_sub (by decide : 192 % 64 = 0) (by decide) 128 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile_s (k0_pay29 (k0_pay1 (iblk m c 0 t) (iblk m c 1 t)) (iblk m c 5 t)) (iblk m c 12 t) r l').trans ((tileNorm_eq _ _ gain hg3 l').trans ?_)
    simp only [hy]
    refine (headRow_sub (by decide : 192 % 64 = 0) (by decide) 0 (by decide) (by decide) y gain l').trans ?_
    exact congrArg _ (Fin.ext ((Nat.zero_add _).trans h1.symm))

/-- The window keys of a point's rows. -/
theorem out19_apply (c : Dev nD) (t : Fin cfg0.N) (gain : Fin 64 → EReal)
    (hg : ∀ l : Fin 128, (iblk m c 13 t : Vec Ideal S1x128 .f32) (ix2 0 l) = gain (inHead l)) (y : Fin 192 → EReal) (r : Fin 1024)
    (hy : ∀ l, k0_pay35 (k0_pay1 (iblk m c 0 t) (iblk m c 1 t)) (iblk m c 7 t) (ix2 r l) = y l) (l : Fin 192) :
    (outsAt0 m c t).2.2.2.2.2.1 (ix2 r l) = headRow (by decide : 192 % 64 = 0) y gain l := by
  have hg3 : ∀ l : Fin 128, k0_pay36 (F := Ideal) (iblk m c 13 t) (ix2 0 l) = gain (inHead l) := fun l => (pay36_apply _ l).trans (hg l)
  have hg4 : (fun k : Fin 64 => k0_pay36 (F := Ideal) (iblk m c 13 t) (ix2 0 ⟨k.val, by omega⟩)) = gain := by
    funext k
    exact (hg3 _).trans (congrArg gain (Fin.ext (by show k.val % 64 = k.val; omega)))
  unfold outsAt0
  frame_out
  canon_tiles x h using (View.cover_of_tiledBy _ ![1024, 64] (by sl_kernel_rfl) _)
  · obtain ⟨r', l', rfl⟩ : ∃ (r' : Fin 1024) (l' : Fin 64), x = ix2 r' l' := ⟨x 0, x 1, eq_ix2 x⟩
    obtain rfl : r = r' := Fin.ext h0
    refine (half_w (k0_pay35 (k0_pay1 (iblk m c 0 t) (iblk m c 1 t)) (iblk m c 7 t)) (k0_pay36 (iblk m c 13 t)) r l').trans ?_
    rw [hg4]
    simp only [hy]
    refine (headRow_sub (by decide : 192 % 64 = 0) (by decide) 128 (by decide) (by decide) y gain l').trans ?_
    exact congrArg _ (Fin.ext h1.symm)
  · obtain ⟨r', l', rfl⟩ : ∃ (r' : Fin 1024) (l' : Fin 128), x = ix2 r' l' := ⟨x 0, x 1, eq_ix2 x⟩
    obtain rfl : r = r' := Fin.ext h0
    refine (tile_w (k0_pay1 (iblk m c 0 t) (iblk m c 1 t)) (iblk m c 7 t) (k0_pay36 (iblk m c 13 t)) r l').trans ((tileNorm_eq _ _ gain hg3 l').trans ?_)
    simp only [hy]
    refine (headRow_sub (by decide : 192 % 64 = 0) (by decide) 0 (by decide) (by decide) y gain l').trans ?_
    exact congrArg _ (Fin.ext ((Nat.zero_add _).trans h1.symm))

/-- The compressed keys of a point's rows. -/
theorem out15_apply (c : Dev nD) (t : Fin cfg0.N) (r : Fin 1024) (l : Fin 192) :
    (outsAt0 m c t).2.1 (ix2 r l) = k0_pay27 (F := Ideal) (k0_pay1 (iblk m c 0 t) (iblk m c 1 t)) (iblk m c 3 t) (ix2 r l) := by
  unfold outsAt0
  frame_out

/-- The compressed values of a point's rows. -/
theorem out16_apply (c : Dev nD) (t : Fin cfg0.N) (r : Fin 1024) (l : Fin 192) :
    (outsAt0 m c t).2.2.1 (ix2 r l) = k0_pay28 (F := Ideal) (k0_pay1 (iblk m c 0 t) (iblk m c 1 t)) (iblk m c 4 t) (ix2 r l) := by
  unfold outsAt0
  frame_out

/-- The selected values of a point's rows. -/
theorem out18_apply (c : Dev nD) (t : Fin cfg0.N) (r : Fin 1024) (l : Fin 192) :
    (outsAt0 m c t).2.2.2.2.1 (ix2 r l) = k0_pay34 (F := Ideal) (k0_pay1 (iblk m c 0 t) (iblk m c 1 t)) (iblk m c 6 t) (ix2 r l) := by
  unfold outsAt0
  frame_out

/-- The window values of a point's rows. -/
theorem out20_apply (c : Dev nD) (t : Fin cfg0.N) (r : Fin 1024) (l : Fin 192) :
    (outsAt0 m c t).2.2.2.2.2.2.1 (ix2 r l) = k0_pay41 (F := Ideal) (k0_pay1 (iblk m c 0 t) (iblk m c 1 t)) (iblk m c 8 t) (ix2 r l) := by
  unfold outsAt0
  frame_out

/-- The gates of a point's rows. -/
theorem out21_apply (c : Dev nD) (t : Fin cfg0.N) (r : Fin 1024) (l : Fin 128) :
    (outsAt0 m c t).2.2.2.2.2.2.2.1 (ix2 r l) = k0_pay42 (F := Ideal) (k0_pay1 (iblk m c 0 t) (iblk m c 1 t)) (iblk m c 9 t) (ix2 r l) := by
  unfold outsAt0
  frame_out

/-- The memory queries of a point's rows. -/
theorem out22_apply (c : Dev nD) (t : Fin cfg0.N) (r : Fin 1024) (l : Fin 256) :
    (outsAt0 m c t).2.2.2.2.2.2.2.2 (ix2 r l) = k0_pay43 (F := Ideal) (k0_pay1 (iblk m c 0 t) (iblk m c 1 t)) (iblk m c 10 t) (ix2 r l) := by
  unfold outsAt0
  frame_out

end Cert.InputIdeal.Rows

end
-- ==== Proof.InputRef.lean ====
module

public import proofs.«01_k».proof.Proof.Gen.InputRefIdeal.Read
public import proofs.«01_k».proof.Proof.ProjSpec
public import Idealize.ShloMosaic.Lib.Pointwise
public import Idealize.ShloMosaic.Lib.KernelVsHost

/-!
  The reference of the input projection on the rows of the prompt, read row by row.
-/

@[expose] public section

set_option maxRecDepth 16384

noncomputable section

namespace Cert.InputRefIdeal.Rows

open Idealize.ShloMosaic Idealize.ShloMosaic.TcCoe Idealize.SL.Sem
open Cert.InputRefIdeal Cert.InputRefIdeal.Read Cert.Router

/-- The sequence of a row. -/
def bOf (i : Fin 16384) : Fin 8 := ⟨i.val / 2048, by omega⟩
/-- The place of a row in its sequence. -/
def sOf (i : Fin 16384) : Fin 2048 := ⟨i.val % 2048, by omega⟩

variable (x0 : Vec Ideal S8x2048x1024 .f32) (x1 : Vec Ideal S2x1024 .f32) (x2 : Vec Ideal S1x1024x2212 .f32) (x3 : Vec Ideal S1x64 .f32)
  (x4 : Vec Ideal S1x3x64 .f32)

/-- The normalized rows. -/
theorem ref_h (b : Fin 8) (s : Fin 2048) (k : Fin 1024) : val_main_v14 (F := Ideal) x0 x1 (ix3 b s k) = (hRow (fun k => x0 (ix3 b s k)) (fun k => x1 (ix2 0 k))) k := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 hRow
  pointwise

/-- The product with the whole weight. -/
theorem ref_p (b : Fin 8) (s : Fin 2048) (l : Fin 2212) : val_main_v16 (F := Ideal) x0 x1 x2 (ix3 b s l)
    = projRow (hRow (fun k => x0 (ix3 b s k)) (fun k => x1 (ix2 0 k))) (fun k l => x2 (ix3 0 k l)) l := by
  have h := ref_h x0 x1 b s
  unfold val_main_v16 val_main_v15 projRow
  generalize val_main_v14 (F := Ideal) x0 x1 = y at h
  pointwise
  simp only [h]

/-- The columns from 0 on. -/
theorem ref_v17 (b : Fin 8) (s : Fin 2048) (l : Fin 768) : val_main_v17 (F := Ideal) x0 x1 x2 (ix3 b s l)
    = projRow (hRow (fun k => x0 (ix3 b s k)) (fun k => x1 (ix2 0 k))) (fun k l => x2 (ix3 0 k ⟨l.val, by omega⟩)) l := by
  have h := ref_p x0 x1 x2 b s
  unfold val_main_v17
  generalize val_main_v16 (F := Ideal) x0 x1 x2 = y at h
  pointwise
  exact (h _).trans rfl

/-- The columns from 768 on. -/
theorem ref_v18 (b : Fin 8) (s : Fin 2048) (l : Fin 192) : val_main_v18 (F := Ideal) x0 x1 x2 (ix3 b s l)
    = projRow (hRow (fun k => x0 (ix3 b s k)) (fun k => x1 (ix2 0 k))) (fun k l => x2 (ix3 0 k ⟨768 + l.val, by omega⟩)) l := by
  have h := ref_p x0 x1 x2 b s
  unfold val_main_v18
  generalize val_main_v16 (F := Ideal) x0 x1 x2 = y at h
  pointwise
  exact (h _).trans rfl

/-- The columns from 960 on. -/
theorem ref_v19 (b : Fin 8) (s : Fin 2048) (l : Fin 192) : val_main_v19 (F := Ideal) x0 x1 x2 (ix3 b s l)
    = projRow (hRow (fun k => x0 (ix3 b s k)) (fun k => x1 (ix2 0 k))) (fun k l => x2 (ix3 0 k ⟨960 + l.val, by omega⟩)) l := by
  have h := ref_p x0 x1 x2 b s
  unfold val_main_v19
  generalize val_main_v16 (F := Ideal) x0 x1 x2 = y at h
  pointwise
  exact (h _).trans rfl

/-- The columns from 1152 on. -/
theorem ref_v20 (b : Fin 8) (s : Fin 2048) (l : Fin 192) : val_main_v20 (F := Ideal) x0 x1 x2 (ix3 b s l)
    = projRow (hRow (fun k => x0 (ix3 b s k)) (fun k => x1 (ix2 0 k))) (fun k l => x2 (ix3 0 k ⟨1152 + l.val, by omega⟩)) l := by
  have h := ref_p x0 x1 x2 b s
  unfold val_main_v20
  generalize val_main_v16 (F := Ideal) x0 x1 x2 = y at h
  pointwise
  exact (h _).trans rfl

/-- The columns from 1344 on. -/
theorem ref_v21 (b : Fin 8) (s : Fin 2048) (l : Fin 192) : val_main_v21 (F := Ideal) x0 x1 x2 (ix3 b s l)
    = projRow (hRow (fun k => x0 (ix3 b s k)) (fun k => x1 (ix2 0 k))) (fun k l => x2 (ix3 0 k ⟨1344 + l.val, by omega⟩)) l := by
  have h := ref_p x0 x1 x2 b s
  unfold val_main_v21
  generalize val_main_v16 (F := Ideal) x0 x1 x2 = y at h
  pointwise
  exact (h _).trans rfl

/-- The columns from 1536 on. -/
theorem ref_v22 (b : Fin 8) (s : Fin 2048) (l : Fin 192) : val_main_v22 (F := Ideal) x0 x1 x2 (ix3 b s l)
    = projRow (hRow (fun k => x0 (ix3 b s k)) (fun k => x1 (ix2 0 k))) (fun k l => x2 (ix3 0 k ⟨1536 + l.val, by omega⟩)) l := by
  have h := ref_p x0 x1 x2 b s
  unfold val_main_v22
  generalize val_main_v16 (F := Ideal) x0 x1 x2 = y at h
  pointwise
  exact (h _).trans rfl

/-- The columns from 1728 on. -/
theorem ref_v23 (b : Fin 8) (s : Fin 2048) (l : Fin 192) : val_main_v23 (F := Ideal) x0 x1 x2 (ix3 b s l)
    = projRow (hRow (fun k => x0 (ix3 b s k)) (fun k => x1 (ix2 0 k))) (fun k l => x2 (ix3 0 k ⟨1728 + l.val, by omega⟩)) l := by
  have h := ref_p x0 x1 x2 b s
  unfold val_main_v23
  generalize val_main_v16 (F := Ideal) x0 x1 x2 = y at h
  pointwise
  exact (h _).trans rfl

/-- The columns from 1920 on. -/
theorem ref_v24 (b : Fin 8) (s : Fin 2048) (l : Fin 36) : val_main_v24 (F := Ideal) x0 x1 x2 (ix3 b s l)
    = projRow (hRow (fun k => x0 (ix3 b s k)) (fun k => x1 (ix2 0 k))) (fun k l => x2 (ix3 0 k ⟨1920 + l.val, by omega⟩)) l := by
  have h := ref_p x0 x1 x2 b s
  unfold val_main_v24
  generalize val_main_v16 (F := Ideal) x0 x1 x2 = y at h
  pointwise
  exact (h _).trans rfl

/-- The columns from 1956 on. -/
theorem ref_v25 (b : Fin 8) (s : Fin 2048) (l : Fin 256) : val_main_v25 (F := Ideal) x0 x1 x2 (ix3 b s l)
    = projRow (hRow (fun k => x0 (ix3 b s k)) (fun k => x1 (ix2 0 k))) (fun k l => x2 (ix3 0 k ⟨1956 + l.val, by omega⟩)) l := by
  have h := ref_p x0 x1 x2 b s
  unfold val_main_v25
  generalize val_main_v16 (F := Ideal) x0 x1 x2 = y at h
  pointwise
  exact (h _).trans rfl

/-- The heads of the queries. -/
theorem ref_v26 (b : Fin 8) (s : Fin 2048) (h : Fin 12) (d : Fin 64) : val_main_v26 (F := Ideal) x0 x1 x2 (ix4 b s h d)
    = val_main_v17 (F := Ideal) x0 x1 x2 (ix3 b s ⟨h.val * 64 + d.val, by omega⟩) := by
  unfold val_main_v26
  exact shapeCast_apply _ _ _ _ (by
    rewrite [Shape.rowMajor_val_three, Shape.rowMajor_val_four]
    show (b.val * 2048 + s.val) * 768 + (h.val * 64 + d.val) = ((b.val * 2048 + s.val) * 12 + h.val) * 64 + d.val
    omega)

/-- The normalized heads of the queries. -/
theorem ref_v40 (b : Fin 8) (s : Fin 2048) (h : Fin 12) (d : Fin 64) : val_main_v40 (F := Ideal) x0 x1 x2 x3 (ix4 b s h d)
    = headNorm (fun d => val_main_v26 (F := Ideal) x0 x1 x2 (ix4 b s h d)) (fun d => x3 (ix2 0 d)) d := by
  unfold val_main_v40 val_main_v39 val_main_v38 val_main_v37 val_main_v36 val_main_v35 val_main_v34 val_main_v33 val_main_v32 val_main_v31 val_main_v30 val_main_v29 val_main_v28 val_main_v27 val_main_cst_2 val_main_cst_3 val_main_cst_4 headNorm
  generalize val_main_v26 (F := Ideal) x0 x1 x2 = y
  pointwise

/-- The queries. -/
theorem ref_v41 (i : Fin 16384) (l : Fin 768) : val_main_v41 (F := Ideal) x0 x1 x2 x3 (ix2 i l)
    = headRow (by decide : 768 % 64 = 0) (projRow (hRow (fun k => x0 (ix3 (bOf i) (sOf i) k)) (fun k => x1 (ix2 0 k))) (fun k l => x2 (ix3 0 k ⟨l.val, by omega⟩))) (fun d => x3 (ix2 0 d)) l := by
  unfold val_main_v41
  refine (shapeCast_apply _ _ (ix2 i l) (ix4 (bOf i) (sOf i) ⟨l.val / 64, by omega⟩ (inHead l)) (by
    rewrite [Shape.rowMajor_val_four, Shape.rowMajor_val_two]
    show ((i.val / 2048 * 2048 + i.val % 2048) * 12 + l.val / 64) * 64 + l.val % 64 = i.val * 768 + l.val
    omega)).trans ?_
  rw [ref_v40]
  simp only [ref_v26, ref_v17]
  rfl

/-- The heads of the selected keys. -/
theorem ref_v44 (b : Fin 8) (s : Fin 2048) (h : Fin 3) (d : Fin 64) : val_main_v44 (F := Ideal) x0 x1 x2 (ix4 b s h d)
    = val_main_v20 (F := Ideal) x0 x1 x2 (ix3 b s ⟨h.val * 64 + d.val, by omega⟩) := by
  unfold val_main_v44
  exact shapeCast_apply _ _ _ _ (by
    rewrite [Shape.rowMajor_val_three, Shape.rowMajor_val_four]
    show (b.val * 2048 + s.val) * 192 + (h.val * 64 + d.val) = ((b.val * 2048 + s.val) * 3 + h.val) * 64 + d.val
    omega)

/-- The normalized heads of the selected keys. -/
theorem ref_v59 (b : Fin 8) (s : Fin 2048) (h : Fin 3) (d : Fin 64) : val_main_v59 (F := Ideal) x0 x1 x2 x4 (ix4 b s h d)
    = headNorm (fun d => val_main_v44 (F := Ideal) x0 x1 x2 (ix4 b s h d)) (fun d => x4 (ix3 0 1 d)) d := by
  unfold val_main_v59 val_main_v58 val_main_v57 val_main_v56 val_main_v55 val_main_v54 val_main_v53 val_main_v52 val_main_v51 val_main_v50 val_main_v49 val_main_v48 val_main_v47 val_main_v46 val_main_v45 val_main_cst_5 val_main_cst_6 val_main_cst_7 headNorm
  generalize val_main_v44 (F := Ideal) x0 x1 x2 = y
  pointwise

/-- The selected keys. -/
theorem ref_v60 (i : Fin 16384) (l : Fin 192) : val_main_v60 (F := Ideal) x0 x1 x2 x4 (ix2 i l)
    = headRow (by decide : 192 % 64 = 0) (projRow (hRow (fun k => x0 (ix3 (bOf i) (sOf i) k)) (fun k => x1 (ix2 0 k))) (fun k l => x2 (ix3 0 k ⟨1152 + l.val, by omega⟩))) (fun d => x4 (ix3 0 1 d)) l := by
  unfold val_main_v60
  refine (shapeCast_apply _ _ (ix2 i l) (ix4 (bOf i) (sOf i) ⟨l.val / 64, by omega⟩ (inHead l)) (by
    rewrite [Shape.rowMajor_val_four, Shape.rowMajor_val_two]
    show ((i.val / 2048 * 2048 + i.val % 2048) * 3 + l.val / 64) * 64 + l.val % 64 = i.val * 192 + l.val
    omega)).trans ?_
  rw [ref_v59]
  simp only [ref_v44, ref_v20]
  rfl

/-- The heads of the window keys. -/
theorem ref_v62 (b : Fin 8) (s : Fin 2048) (h : Fin 3) (d : Fin 64) : val_main_v62 (F := Ideal) x0 x1 x2 (ix4 b s h d)
    = val_main_v22 (F := Ideal) x0 x1 x2 (ix3 b s ⟨h.val * 64 + d.val, by omega⟩) := by
  unfold val_main_v62
  exact shapeCast_apply _ _ _ _ (by
    rewrite [Shape.rowMajor_val_three, Shape.rowMajor_val_four]
    show (b.val * 2048 + s.val) * 192 + (h.val * 64 + d.val) = ((b.val * 2048 + s.val) * 3 + h.val) * 64 + d.val
    omega)

/-- The normalized heads of the window keys. -/
theorem ref_v77 (b : Fin 8) (s : Fin 2048) (h : Fin 3) (d : Fin 64) : val_main_v77 (F := Ideal) x0 x1 x2 x4 (ix4 b s h d)
    = headNorm (fun d => val_main_v62 (F := Ideal) x0 x1 x2 (ix4 b s h d)) (fun d => x4 (ix3 0 2 d)) d := by
  unfold val_main_v77 val_main_v76 val_main_v75 val_main_v74 val_main_v73 val_main_v72 val_main_v71 val_main_v70 val_main_v69 val_main_v68 val_main_v67 val_main_v66 val_main_v65 val_main_v64 val_main_v63 val_main_cst_8 val_main_cst_9 val_main_cst_10 headNorm
  generalize val_main_v62 (F := Ideal) x0 x1 x2 = y
  pointwise

/-- The window keys. -/
theorem ref_v78 (i : Fin 16384) (l : Fin 192) : val_main_v78 (F := Ideal) x0 x1 x2 x4 (ix2 i l)
    = headRow (by decide : 192 % 64 = 0) (projRow (hRow (fun k => x0 (ix3 (bOf i) (sOf i) k)) (fun k => x1 (ix2 0 k))) (fun k l => x2 (ix3 0 k ⟨1536 + l.val, by omega⟩))) (fun d => x4 (ix3 0 2 d)) l := by
  unfold val_main_v78
  refine (shapeCast_apply _ _ (ix2 i l) (ix4 (bOf i) (sOf i) ⟨l.val / 64, by omega⟩ (inHead l)) (by
    rewrite [Shape.rowMajor_val_four, Shape.rowMajor_val_two]
    show ((i.val / 2048 * 2048 + i.val % 2048) * 3 + l.val / 64) * 64 + l.val % 64 = i.val * 192 + l.val
    omega)).trans ?_
  rw [ref_v77]
  simp only [ref_v62, ref_v22]
  rfl

/-- The compressed keys. -/
theorem ref_v42 (i : Fin 16384) (l : Fin 192) : val_main_v42 (F := Ideal) x0 x1 x2 (ix2 i l)
    = projRow (hRow (fun k => x0 (ix3 (bOf i) (sOf i) k)) (fun k => x1 (ix2 0 k))) (fun k l => x2 (ix3 0 k ⟨768 + l.val, by omega⟩)) l := by
  unfold val_main_v42
  refine (shapeCast_apply _ _ (ix2 i l) (ix3 (bOf i) (sOf i) l) (by
    rewrite [Shape.rowMajor_val_three, Shape.rowMajor_val_two]
    show (i.val / 2048 * 2048 + i.val % 2048) * 192 + l.val = i.val * 192 + l.val
    omega)).trans ?_
  exact ref_v18 x0 x1 x2 (bOf i) (sOf i) l

/-- The compressed values. -/
theorem ref_v43 (i : Fin 16384) (l : Fin 192) : val_main_v43 (F := Ideal) x0 x1 x2 (ix2 i l)
    = projRow (hRow (fun k => x0 (ix3 (bOf i) (sOf i) k)) (fun k => x1 (ix2 0 k))) (fun k l => x2 (ix3 0 k ⟨960 + l.val, by omega⟩)) l := by
  unfold val_main_v43
  refine (shapeCast_apply _ _ (ix2 i l) (ix3 (bOf i) (sOf i) l) (by
    rewrite [Shape.rowMajor_val_three, Shape.rowMajor_val_two]
    show (i.val / 2048 * 2048 + i.val % 2048) * 192 + l.val = i.val * 192 + l.val
    omega)).trans ?_
  exact ref_v19 x0 x1 x2 (bOf i) (sOf i) l

/-- The selected values. -/
theorem ref_v61 (i : Fin 16384) (l : Fin 192) : val_main_v61 (F := Ideal) x0 x1 x2 (ix2 i l)
    = projRow (hRow (fun k => x0 (ix3 (bOf i) (sOf i) k)) (fun k => x1 (ix2 0 k))) (fun k l => x2 (ix3 0 k ⟨1344 + l.val, by omega⟩)) l := by
  unfold val_main_v61
  refine (shapeCast_apply _ _ (ix2 i l) (ix3 (bOf i) (sOf i) l) (by
    rewrite [Shape.rowMajor_val_three, Shape.rowMajor_val_two]
    show (i.val / 2048 * 2048 + i.val % 2048) * 192 + l.val = i.val * 192 + l.val
    omega)).trans ?_
  exact ref_v21 x0 x1 x2 (bOf i) (sOf i) l

/-- The window values. -/
theorem ref_v79 (i : Fin 16384) (l : Fin 192) : val_main_v79 (F := Ideal) x0 x1 x2 (ix2 i l)
    = projRow (hRow (fun k => x0 (ix3 (bOf i) (sOf i) k)) (fun k => x1 (ix2 0 k))) (fun k l => x2 (ix3 0 k ⟨1728 + l.val, by omega⟩)) l := by
  unfold val_main_v79
  refine (shapeCast_apply _ _ (ix2 i l) (ix3 (bOf i) (sOf i) l) (by
    rewrite [Shape.rowMajor_val_three, Shape.rowMajor_val_two]
    show (i.val / 2048 * 2048 + i.val % 2048) * 192 + l.val = i.val * 192 + l.val
    omega)).trans ?_
  exact ref_v23 x0 x1 x2 (bOf i) (sOf i) l

/-- The gates before the logistic function. -/
theorem ref_v80 (i : Fin 16384) (l : Fin 36) : val_main_v80 (F := Ideal) x0 x1 x2 (ix2 i l)
    = projRow (hRow (fun k => x0 (ix3 (bOf i) (sOf i) k)) (fun k => x1 (ix2 0 k))) (fun k l => x2 (ix3 0 k ⟨1920 + l.val, by omega⟩)) l := by
  unfold val_main_v80
  refine (shapeCast_apply _ _ (ix2 i l) (ix3 (bOf i) (sOf i) l) (by
    rewrite [Shape.rowMajor_val_three, Shape.rowMajor_val_two]
    show (i.val / 2048 * 2048 + i.val % 2048) * 36 + l.val = i.val * 36 + l.val
    omega)).trans ?_
  exact ref_v24 x0 x1 x2 (bOf i) (sOf i) l

/-- The memory queries. -/
theorem ref_v88 (i : Fin 16384) (l : Fin 256) : val_main_v88 (F := Ideal) x0 x1 x2 (ix2 i l)
    = projRow (hRow (fun k => x0 (ix3 (bOf i) (sOf i) k)) (fun k => x1 (ix2 0 k))) (fun k l => x2 (ix3 0 k ⟨1956 + l.val, by omega⟩)) l := by
  unfold val_main_v88
  refine (shapeCast_apply _ _ (ix2 i l) (ix3 (bOf i) (sOf i) l) (by
    rewrite [Shape.rowMajor_val_three, Shape.rowMajor_val_two]
    show (i.val / 2048 * 2048 + i.val % 2048) * 256 + l.val = i.val * 256 + l.val
    omega)).trans ?_
  exact ref_v25 x0 x1 x2 (bOf i) (sOf i) l

/-- The gates before the logistic function, zeros behind them. -/
theorem ref_v81 (i : Fin 16384) (l : Fin 128) : val_main_v81 (F := Ideal) x0 x1 x2 (ix2 i l)
    = if h : l.val < 36 then projRow (hRow (fun k => x0 (ix3 (bOf i) (sOf i) k)) (fun k => x1 (ix2 0 k))) (fun k l => x2 (ix3 0 k ⟨1920 + l.val, by omega⟩)) (⟨l.val, h⟩ : Fin 36) else 0 := by
  unfold val_main_v81
  by_cases h : l.val < 36
  · rw [dif_pos h, ← ref_v80]
    refine pad_apply_of_inside _ _ _ _ _ _ _ (ix2 i l) (ix2 i ⟨l.val, h⟩) fun a => ?_
    match a with
    | ⟨0, _⟩ => show i.val = 0 + i.val * 1; omega
    | ⟨1, _⟩ => show l.val = 0 + l.val * 1; omega
  · rw [dif_neg h]
    refine (pad_apply_of_not_inside _ _ _ _ _ _ _ (ix2 i l) 1 (fun hh => h ?_)).trans ?_
    · have h2 : (l.val - 0) / 1 < 36 := hh.2.2
      omega
    · unfold val_main_call0_v0 val_main_c
      show ((((0#32 : BitVec 32).toInt : ℝ)) : EReal) = 0
      simp

/-- The gates. -/
theorem ref_v87 (i : Fin 16384) (l : Fin 128) : val_main_v87 (F := Ideal) x0 x1 x2 (ix2 i l)
    = gateRow (projRow (hRow (fun k => x0 (ix3 (bOf i) (sOf i) k)) (fun k => x1 (ix2 0 k))) (fun k l => x2 (ix3 0 k ⟨1920 + l.val, by omega⟩))) l := by
  unfold gateRow
  rw [← ref_v81, ← logistic_words]
  unfold val_main_v87 val_main_v86 val_main_v85 val_main_v84 val_main_v83 val_main_v82 val_main_cst_11 val_main_cst_12
  generalize val_main_v81 (F := Ideal) x0 x1 x2 = y
  pointwise
  all_goals rfl

end Cert.InputRefIdeal.Rows

end
-- ==== Proof.InputValue.lean ====
module

public import proofs.«01_k».proof.Defs
public import proofs.«01_k».proof.Proof.Gen.InputIdeal.Value
public import proofs.«01_k».proof.Proof.InputRows
public import proofs.«01_k».proof.Proof.InputRef
public import Idealize.ShloMosaic.Lib.Pointwise
public import Idealize.ShloMosaic.Lib.KernelVsHost
public import Idealize.ShloMosaic.Lib.Pipeline.Value
public import Idealize.ShloMosaic.Lib.Pipeline.ValueKit

/-!
  The arrays the input projection of the attention layer leaves on the rows of the prompt: they are the arrays of the reference.
-/

@[expose] public section

set_option maxRecDepth 16384

noncomputable section

namespace Cert.InputIdeal.Rows

open Idealize.ShloMosaic Idealize.ShloMosaic.TcCoe Idealize.SL.Sem
open Cert.InputIdeal Cert.InputIdeal.Gen Cert.Router
open Cert.InputRefIdeal.Rows (bOf sOf)

variable (m : (ℓ : Loc nD τ sig) → Buf (Elt Ideal) ℓ) (ρ : Dev nD → PrngReg)

/-- The input rows. -/
abbrev A0 (c : Dev nD) : Vec Ideal S8x2048x1024 .f32 := m ((c : Thread nD τ).loc main_arg0)
/-- The gains of the two layers. -/
abbrev A1 (c : Dev nD) : Vec Ideal S2x1024 .f32 := m ((c : Thread nD τ).loc main_arg1)
/-- The weight. -/
abbrev A2 (c : Dev nD) : Vec Ideal S1x1024x2212 .f32 := m ((c : Thread nD τ).loc main_arg2)
/-- The queries' gains. -/
abbrev A3 (c : Dev nD) : Vec Ideal S1x64 .f32 := m ((c : Thread nD τ).loc main_arg3)
/-- The keys' gains. -/
abbrev A4 (c : Dev nD) : Vec Ideal S1x3x64 .f32 := m ((c : Thread nD τ).loc main_arg4)

/-! ## The arrays the host code prepares -/

/-- The rows of all sequences, one below the other. -/
theorem V_v0 (c : Dev nD) (i : Fin 16384) (k : Fin 1024) : (V m c main_v0 : Vec Ideal S16384x1024 .f32) (ix2 i k)
    = A0 m c (ix3 (bOf i) (sOf i) k) := by
  have h : V m c main_v0 = shapeCast S16384x1024 (A0 m c) shapeCasts_S8x2048x1024_S16384x1024 := by
    unfold V
    simp only [hostOps0, hostOps0_1, hostOps0_2, List.flatten_cons, List.flatten_nil, List.append_nil, List.cons_append, List.nil_append]
    after_results
    rfl
  rw [h]
  exact shapeCast_apply _ _ _ _ (by
    rewrite [Shape.rowMajor_val_three, Shape.rowMajor_val_two]
    show (i.val / 2048 * 2048 + i.val % 2048) * 1024 + k.val = i.val * 1024 + k.val
    omega)

/-- The first layer's gains as a row. -/
theorem V_v19 (c : Dev nD) (k : Fin 1024) : (V m c main_v19 : Vec Ideal S1x1024 .f32) (ix2 0 k) = A1 m c (ix2 0 k) := by
  have h : V m c main_v19 = shapeCast S1x1024 (shapeCast S1024 (extractStridedSlice S1x1024 ![0, 0] (A1 m c) slices_S2x1024_S1x1024_0_0)
      shapeCasts_S1x1024_S1024) shapeCasts_S1024_S1x1024 := by
    unfold V
    simp only [hostOps0, hostOps0_1, hostOps0_2, List.flatten_cons, List.flatten_nil, List.append_nil, List.cons_append, List.nil_append]
    after_results
    rfl
  rw [h]
  pointwise
  all_goals rfl

/-- The weight's columns from 0 on. -/
theorem V_v20 (c : Dev nD) (k : Fin 1024) (l : Fin 768) :
    (V m c main_v20 : Vec Ideal S1024x768 .bf16) (ix2 k l) = A2 m c (ix3 0 k ⟨l.val, by omega⟩) := by
  have h : V m c main_v20 = fun i => (extractStridedSlice S1024x768 ![0, 0] (shapeCast S1024x2212 (A2 m c)
      shapeCasts_S1x1024x2212_S1024x2212) slices_S1024x2212_S1024x768_0_0 : Vec Ideal S1024x768 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 768 on. -/
theorem V_v21 (c : Dev nD) (k : Fin 1024) (l : Fin 192) :
    (V m c main_v21 : Vec Ideal S1024x192 .bf16) (ix2 k l) = A2 m c (ix3 0 k ⟨768 + l.val, by omega⟩) := by
  have h : V m c main_v21 = fun i => (extractStridedSlice S1024x192 ![0, 768] (shapeCast S1024x2212 (A2 m c)
      shapeCasts_S1x1024x2212_S1024x2212) slices_S1024x2212_S1024x192_0_768 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 960 on. -/
theorem V_v22 (c : Dev nD) (k : Fin 1024) (l : Fin 192) :
    (V m c main_v22 : Vec Ideal S1024x192 .bf16) (ix2 k l) = A2 m c (ix3 0 k ⟨960 + l.val, by omega⟩) := by
  have h : V m c main_v22 = fun i => (extractStridedSlice S1024x192 ![0, 960] (shapeCast S1024x2212 (A2 m c)
      shapeCasts_S1x1024x2212_S1024x2212) slices_S1024x2212_S1024x192_0_960 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1152 on. -/
theorem V_v23 (c : Dev nD) (k : Fin 1024) (l : Fin 192) :
    (V m c main_v23 : Vec Ideal S1024x192 .bf16) (ix2 k l) = A2 m c (ix3 0 k ⟨1152 + l.val, by omega⟩) := by
  have h : V m c main_v23 = fun i => (extractStridedSlice S1024x192 ![0, 1152] (shapeCast S1024x2212 (A2 m c)
      shapeCasts_S1x1024x2212_S1024x2212) slices_S1024x2212_S1024x192_0_1152 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1344 on. -/
theorem V_v24 (c : Dev nD) (k : Fin 1024) (l : Fin 192) :
    (V m c main_v24 : Vec Ideal S1024x192 .bf16) (ix2 k l) = A2 m c (ix3 0 k ⟨1344 + l.val, by omega⟩) := by
  have h : V m c main_v24 = fun i => (extractStridedSlice S1024x192 ![0, 1344] (shapeCast S1024x2212 (A2 m c)
      shapeCasts_S1x1024x2212_S1024x2212) slices_S1024x2212_S1024x192_0_1344 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1536 on. -/
theorem V_v25 (c : Dev nD) (k : Fin 1024) (l : Fin 192) :
    (V m c main_v25 : Vec Ideal S1024x192 .bf16) (ix2 k l) = A2 m c (ix3 0 k ⟨1536 + l.val, by omega⟩) := by
  have h : V m c main_v25 = fun i => (extractStridedSlice S1024x192 ![0, 1536] (shapeCast S1024x2212 (A2 m c)
      shapeCasts_S1x1024x2212_S1024x2212) slices_S1024x2212_S1024x192_0_1536 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1728 on. -/
theorem V_v26 (c : Dev nD) (k : Fin 1024) (l : Fin 192) :
    (V m c main_v26 : Vec Ideal S1024x192 .bf16) (ix2 k l) = A2 m c (ix3 0 k ⟨1728 + l.val, by omega⟩) := by
  have h : V m c main_v26 = fun i => (extractStridedSlice S1024x192 ![0, 1728] (shapeCast S1024x2212 (A2 m c)
      shapeCasts_S1x1024x2212_S1024x2212) slices_S1024x2212_S1024x192_0_1728 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1956 on. -/
theorem V_v28 (c : Dev nD) (k : Fin 1024) (l : Fin 256) :
    (V m c main_v28 : Vec Ideal S1024x256 .bf16) (ix2 k l) = A2 m c (ix3 0 k ⟨1956 + l.val, by omega⟩) := by
  have h : V m c main_v28 = fun i => (extractStridedSlice S1024x256 ![0, 1956] (shapeCast S1024x2212 (A2 m c)
      shapeCasts_S1x1024x2212_S1024x2212) slices_S1024x2212_S1024x256_0_1956 : Vec Ideal S1024x256 .f32) i := by
    unfold V
    simp only [hostOps0, hostOps0_1, hostOps0_2, List.flatten_cons, List.flatten_nil, List.append_nil, List.cons_append, List.nil_append]
    after_results
    rfl
  rw [h]
  pointwise
  all_goals rfl

/-- The gates' columns of the weight, zeros behind them. -/
theorem V_v27 (c : Dev nD) (k : Fin 1024) (l : Fin 128) :
    (V m c main_v27 : Vec Ideal S1024x128 .bf16) (ix2 k l) = if h : l.val < 36 then A2 m c (ix3 0 k ⟨1920 + l.val, by omega⟩) else 0 := by
  have e : V m c main_v27 = fun i => (pad S1024x128 ![0, 0] ![0, 92] ![0, 0] (extractStridedSlice S1024x36 ![0, 1920] (shapeCast S1024x2212 (A2 m c)
      shapeCasts_S1x1024x2212_S1024x2212) slices_S1024x2212_S1024x36_0_1920 : Vec Ideal S1024x36 .f32)
      (sitofp .f32 (constantI S_ 32 0#32) : FVec Ideal S_ .f32) pads_S1024x36_S1024x128_000_0920 h_S_ : Vec Ideal S1024x128 .f32) i := by
    unfold V
    simp only [hostOps0, hostOps0_1, hostOps0_2, List.flatten_cons, List.flatten_nil, List.append_nil, List.cons_append, List.nil_append]
    after_results
    rfl
  rw [e]
  show pad _ _ _ _ _ _ _ _ (ix2 k l) = _
  by_cases h : l.val < 36
  · rw [dif_pos h]
    refine (pad_apply_of_inside _ _ _ _ _ _ _ (ix2 k l) (ix2 k ⟨l.val, h⟩) fun a => ?_).trans ?_
    · match a with
      | ⟨0, _⟩ => show k.val = 0 + k.val * 1; omega
      | ⟨1, _⟩ => show l.val = 0 + l.val * 1; omega
    · pointwise
      all_goals rfl
  · rw [dif_neg h]
    refine (pad_apply_of_not_inside _ _ _ _ _ _ _ (ix2 k l) 1 (fun hh => h ?_)).trans ?_
    · have h2 : (l.val - 0) / 1 < 36 := hh.2.2
      omega
    · show ((((0#32 : BitVec 32).toInt : ℝ)) : EReal) = 0
      simp

/-- The queries' gains, twice side by side. -/
theorem V_v32 (c : Dev nD) (l : Fin 128) : (V m c main_v32 : Vec Ideal S1x128 .f32) (ix2 0 l) = A3 m c (ix2 0 (inHead l)) := by
  have h : V m c main_v32 = shapeCast S1x128 (shapeCast S128 (broadcastInDim S2x64 ![0, 1] bcast_S1x64_S2x64_0_1
      (shapeCast S1x64 (shapeCast S64 (A3 m c) shapeCasts_S1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-- The selected keys' gains, twice side by side. -/
theorem V_v36 (c : Dev nD) (l : Fin 128) : (V m c main_v36 : Vec Ideal S1x128 .f32) (ix2 0 l) = A4 m c (ix3 0 1 (inHead l)) := by
  have h : V m c main_v36 = shapeCast S1x128 (shapeCast S128 (broadcastInDim S2x64 ![0, 1] bcast_S1x64_S2x64_0_1
      (shapeCast S1x64 (shapeCast S64 (extractStridedSlice S1x1x64 ![0, 1, 0] (A4 m c) slices_S1x3x64_S1x1x64_0_1_0) shapeCasts_S1x1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-- The window keys' gains, twice side by side. -/
theorem V_v40 (c : Dev nD) (l : Fin 128) : (V m c main_v40 : Vec Ideal S1x128 .f32) (ix2 0 l) = A4 m c (ix3 0 2 (inHead l)) := by
  have h : V m c main_v40 = shapeCast S1x128 (shapeCast S128 (broadcastInDim S2x64 ![0, 1] bcast_S1x64_S2x64_0_1
      (shapeCast S1x64 (shapeCast S64 (extractStridedSlice S1x1x64 ![0, 2, 0] (A4 m c) slices_S1x3x64_S1x1x64_0_2_0) shapeCasts_S1x1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-! ## The arrays the call leaves -/

/-- The queries. -/
def arr14 (c : Dev nD) : Vec Ideal S16384x768 .f32 :=
  Cert.InputRefIdeal.Read.val_main_v41 (F := Ideal) (A0 m c) (A1 m c) (A2 m c) (A3 m c)

/-- The compressed keys. -/
def arr15 (c : Dev nD) : Vec Ideal S16384x192 .f32 :=
  Cert.InputRefIdeal.Read.val_main_v42 (F := Ideal) (A0 m c) (A1 m c) (A2 m c)

/-- The compressed values. -/
def arr16 (c : Dev nD) : Vec Ideal S16384x192 .f32 :=
  Cert.InputRefIdeal.Read.val_main_v43 (F := Ideal) (A0 m c) (A1 m c) (A2 m c)

/-- The selected keys. -/
def arr17 (c : Dev nD) : Vec Ideal S16384x192 .f32 :=
  Cert.InputRefIdeal.Read.val_main_v60 (F := Ideal) (A0 m c) (A1 m c) (A2 m c) (A4 m c)

/-- The selected values. -/
def arr18 (c : Dev nD) : Vec Ideal S16384x192 .f32 :=
  Cert.InputRefIdeal.Read.val_main_v61 (F := Ideal) (A0 m c) (A1 m c) (A2 m c)

/-- The window keys. -/
def arr19 (c : Dev nD) : Vec Ideal S16384x192 .f32 :=
  Cert.InputRefIdeal.Read.val_main_v78 (F := Ideal) (A0 m c) (A1 m c) (A2 m c) (A4 m c)

/-- The window values. -/
def arr20 (c : Dev nD) : Vec Ideal S16384x192 .f32 :=
  Cert.InputRefIdeal.Read.val_main_v79 (F := Ideal) (A0 m c) (A1 m c) (A2 m c)

/-- The gates. -/
def arr21 (c : Dev nD) : Vec Ideal S16384x128 .f32 :=
  Cert.InputRefIdeal.Read.val_main_v87 (F := Ideal) (A0 m c) (A1 m c) (A2 m c)

/-- The memory queries. -/
def arr22 (c : Dev nD) : Vec Ideal S16384x256 .f32 :=
  Cert.InputRefIdeal.Read.val_main_v88 (F := Ideal) (A0 m c) (A1 m c) (A2 m c)

/-! ## The blocks the body reads -/

/-- The row of the whole array that row `r` of point `t`'s block is. -/
def rowAt (t : Fin cfg0.N) (r : Fin 1024) : Fin 16384 :=
  ⟨t.val * 1024 + r.val, by have := t.isLt; have : cfg0.N = 16 := N_0; omega⟩

/-- The block of the input rows. -/
theorem blk0 (c : Dev nD) (t : Fin cfg0.N) (r : Fin 1024) (k : Fin 1024) :
    (iblk m c 0 t : Vec Ideal S1024x1024 .f32) (ix2 r k) = (V m c main_v0 : Vec Ideal S16384x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_v0 _ = V m c main_v0 _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

/-- The block of the gains is the whole row. -/
theorem blk1 (c : Dev nD) (t : Fin cfg0.N) : (iblk m c 1 t : Vec Ideal S1x1024 .f32) = V m c main_v19 := by
  have hi : win0_1.index t 0 = 0 ∧ win0_1.index t 1 = 0 := by
    have h : ∀ t : Fin cfg0.N, win0_1.index t 0 = 0 ∧ win0_1.index t 1 = 0 := by decide +kernel
    exact h t
  funext j
  unfold iblk
  rw [View.read_apply]
  show V m c main_v19 _ = V m c main_v19 j
  congr 1
  funext a
  apply Fin.ext
  match a with
  | ⟨0, _⟩ => show win0_1.index t 0 * 1 + 1 * (j 0 : Nat) = (j 0 : Nat); rw [hi.1]; omega
  | ⟨1, _⟩ => show win0_1.index t 1 * 1024 + 1 * (j 1 : Nat) = (j 1 : Nat); rw [hi.2]; omega

/-- The block of the queries' weight is the whole array. -/
theorem blk2 (c : Dev nD) (t : Fin cfg0.N) : (iblk m c 2 t : Vec Ideal S1024x768 .bf16) = V m c main_v20 := by
  have hi : win0_2.index t 0 = 0 ∧ win0_2.index t 1 = 0 := by
    have h : ∀ t : Fin cfg0.N, win0_2.index t 0 = 0 ∧ win0_2.index t 1 = 0 := by decide +kernel
    exact h t
  funext j
  unfold iblk
  rw [View.read_apply]
  show V m c main_v20 _ = V m c main_v20 j
  congr 1
  funext a
  apply Fin.ext
  match a with
  | ⟨0, _⟩ => show win0_2.index t 0 * 1024 + 1 * (j 0 : Nat) = (j 0 : Nat); rw [hi.1]; omega
  | ⟨1, _⟩ => show win0_2.index t 1 * 768 + 1 * (j 1 : Nat) = (j 1 : Nat); rw [hi.2]; omega

/-- The block of the weight's columns from 768 on is the whole array. -/
theorem blk3 (c : Dev nD) (t : Fin cfg0.N) : (iblk m c 3 t : Vec Ideal S1024x192 .bf16) = V m c main_v21 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v21 _ = V m c main_v21 j
  congr 1
  funext a
  apply Fin.ext
  match a with
  | ⟨0, _⟩ => show win0_3.index t 0 * 1024 + 1 * (j 0 : Nat) = (j 0 : Nat); rw [hi.1]; omega
  | ⟨1, _⟩ => show win0_3.index t 1 * 192 + 1 * (j 1 : Nat) = (j 1 : Nat); rw [hi.2]; omega

/-- The block of the weight's columns from 960 on is the whole array. -/
theorem blk4 (c : Dev nD) (t : Fin cfg0.N) : (iblk m c 4 t : Vec Ideal S1024x192 .bf16) = V m c main_v22 := by
  have hi : win0_4.index t 0 = 0 ∧ win0_4.index t 1 = 0 := by
    have h : ∀ t : Fin cfg0.N, win0_4.index t 0 = 0 ∧ win0_4.index t 1 = 0 := by decide +kernel
    exact h t
  funext j
  unfold iblk
  rw [View.read_apply]
  show V m c main_v22 _ = V m c main_v22 j
  congr 1
  funext a
  apply Fin.ext
  match a with
  | ⟨0, _⟩ => show win0_4.index t 0 * 1024 + 1 * (j 0 : Nat) = (j 0 : Nat); rw [hi.1]; omega
  | ⟨1, _⟩ => show win0_4.index t 1 * 192 + 1 * (j 1 : Nat) = (j 1 : Nat); rw [hi.2]; omega

/-- The block of the weight's columns from 1152 on is the whole array. -/
theorem blk5 (c : Dev nD) (t : Fin cfg0.N) : (iblk m c 5 t : Vec Ideal S1024x192 .bf16) = V m c main_v23 := by
  have hi : win0_5.index t 0 = 0 ∧ win0_5.index t 1 = 0 := by
    have h : ∀ t : Fin cfg0.N, win0_5.index t 0 = 0 ∧ win0_5.index t 1 = 0 := by decide +kernel
    exact h t
  funext j
  unfold iblk
  rw [View.read_apply]
  show V m c main_v23 _ = V m c main_v23 j
  congr 1
  funext a
  apply Fin.ext
  match a with
  | ⟨0, _⟩ => show win0_5.index t 0 * 1024 + 1 * (j 0 : Nat) = (j 0 : Nat); rw [hi.1]; omega
  | ⟨1, _⟩ => show win0_5.index t 1 * 192 + 1 * (j 1 : Nat) = (j 1 : Nat); rw [hi.2]; omega

/-- The block of the weight's columns from 1344 on is the whole array. -/
theorem blk6 (c : Dev nD) (t : Fin cfg0.N) : (iblk m c 6 t : Vec Ideal S1024x192 .bf16) = V m c main_v24 := by
  have hi : win0_6.index t 0 = 0 ∧ win0_6.index t 1 = 0 := by
    have h : ∀ t : Fin cfg0.N, win0_6.index t 0 = 0 ∧ win0_6.index t 1 = 0 := by decide +kernel
    exact h t
  funext j
  unfold iblk
  rw [View.read_apply]
  show V m c main_v24 _ = V m c main_v24 j
  congr 1
  funext a
  apply Fin.ext
  match a with
  | ⟨0, _⟩ => show win0_6.index t 0 * 1024 + 1 * (j 0 : Nat) = (j 0 : Nat); rw [hi.1]; omega
  | ⟨1, _⟩ => show win0_6.index t 1 * 192 + 1 * (j 1 : Nat) = (j 1 : Nat); rw [hi.2]; omega

/-- The block of the weight's columns from 1536 on is the whole array. -/
theorem blk7 (c : Dev nD) (t : Fin cfg0.N) : (iblk m c 7 t : Vec Ideal S1024x192 .bf16) = V m c main_v25 := by
  have hi : win0_7.index t 0 = 0 ∧ win0_7.index t 1 = 0 := by
    have h : ∀ t : Fin cfg0.N, win0_7.index t 0 = 0 ∧ win0_7.index t 1 = 0 := by decide +kernel
    exact h t
  funext j
  unfold iblk
  rw [View.read_apply]
  show V m c main_v25 _ = V m c main_v25 j
  congr 1
  funext a
  apply Fin.ext
  match a with
  | ⟨0, _⟩ => show win0_7.index t 0 * 1024 + 1 * (j 0 : Nat) = (j 0 : Nat); rw [hi.1]; omega
  | ⟨1, _⟩ => show win0_7.index t 1 * 192 + 1 * (j 1 : Nat) = (j 1 : Nat); rw [hi.2]; omega

/-- The block of the weight's columns from 1728 on is the whole array. -/
theorem blk8 (c : Dev nD) (t : Fin cfg0.N) : (iblk m c 8 t : Vec Ideal S1024x192 .bf16) = V m c main_v26 := by
  have hi : win0_8.index t 0 = 0 ∧ win0_8.index t 1 = 0 := by
    have h : ∀ t : Fin cfg0.N, win0_8.index t 0 = 0 ∧ win0_8.index t 1 = 0 := by decide +kernel
    exact h t
  funext j
  unfold iblk
  rw [View.read_apply]
  show V m c main_v26 _ = V m c main_v26 j
  congr 1
  funext a
  apply Fin.ext
  match a with
  | ⟨0, _⟩ => show win0_8.index t 0 * 1024 + 1 * (j 0 : Nat) = (j 0 : Nat); rw [hi.1]; omega
  | ⟨1, _⟩ => show win0_8.index t 1 * 192 + 1 * (j 1 : Nat) = (j 1 : Nat); rw [hi.2]; omega

/-- The block of the gates' weight is the whole array. -/
theorem blk9 (c : Dev nD) (t : Fin cfg0.N) : (iblk m c 9 t : Vec Ideal S1024x128 .bf16) = V m c main_v27 := by
  have hi : win0_9.index t 0 = 0 ∧ win0_9.index t 1 = 0 := by
    have h : ∀ t : Fin cfg0.N, win0_9.index t 0 = 0 ∧ win0_9.index t 1 = 0 := by decide +kernel
    exact h t
  funext j
  unfold iblk
  rw [View.read_apply]
  show V m c main_v27 _ = V m c main_v27 j
  congr 1
  funext a
  apply Fin.ext
  match a with
  | ⟨0, _⟩ => show win0_9.index t 0 * 1024 + 1 * (j 0 : Nat) = (j 0 : Nat); rw [hi.1]; omega
  | ⟨1, _⟩ => show win0_9.index t 1 * 128 + 1 * (j 1 : Nat) = (j 1 : Nat); rw [hi.2]; omega

/-- The block of the memory queries' weight is the whole array. -/
theorem blk10 (c : Dev nD) (t : Fin cfg0.N) : (iblk m c 10 t : Vec Ideal S1024x256 .bf16) = V m c main_v28 := by
  have hi : win0_10.index t 0 = 0 ∧ win0_10.index t 1 = 0 := by
    have h : ∀ t : Fin cfg0.N, win0_10.index t 0 = 0 ∧ win0_10.index t 1 = 0 := by decide +kernel
    exact h t
  funext j
  unfold iblk
  rw [View.read_apply]
  show V m c main_v28 _ = V m c main_v28 j
  congr 1
  funext a
  apply Fin.ext
  match a with
  | ⟨0, _⟩ => show win0_10.index t 0 * 1024 + 1 * (j 0 : Nat) = (j 0 : Nat); rw [hi.1]; omega
  | ⟨1, _⟩ => show win0_10.index t 1 * 256 + 1 * (j 1 : Nat) = (j 1 : Nat); rw [hi.2]; omega

/-- The block of the queries' gains is the whole row. -/
theorem blk11 (c : Dev nD) (t : Fin cfg0.N) : (iblk m c 11 t : Vec Ideal S1x128 .f32) = V m c main_v32 := by
  have hi : win0_11.index t 0 = 0 ∧ win0_11.index t 1 = 0 := by
    have h : ∀ t : Fin cfg0.N, win0_11.index t 0 = 0 ∧ win0_11.index t 1 = 0 := by decide +kernel
    exact h t
  funext j
  unfold iblk
  rw [View.read_apply]
  show V m c main_v32 _ = V m c main_v32 j
  congr 1
  funext a
  apply Fin.ext
  match a with
  | ⟨0, _⟩ => show win0_11.index t 0 * 1 + 1 * (j 0 : Nat) = (j 0 : Nat); rw [hi.1]; omega
  | ⟨1, _⟩ => show win0_11.index t 1 * 128 + 1 * (j 1 : Nat) = (j 1 : Nat); rw [hi.2]; omega

/-- The block of the selected keys' gains is the whole row. -/
theorem blk12 (c : Dev nD) (t : Fin cfg0.N) : (iblk m c 12 t : Vec Ideal S1x128 .f32) = V m c main_v36 := by
  have hi : win0_12.index t 0 = 0 ∧ win0_12.index t 1 = 0 := by
    have h : ∀ t : Fin cfg0.N, win0_12.index t 0 = 0 ∧ win0_12.index t 1 = 0 := by decide +kernel
    exact h t
  funext j
  unfold iblk
  rw [View.read_apply]
  show V m c main_v36 _ = V m c main_v36 j
  congr 1
  funext a
  apply Fin.ext
  match a with
  | ⟨0, _⟩ => show win0_12.index t 0 * 1 + 1 * (j 0 : Nat) = (j 0 : Nat); rw [hi.1]; omega
  | ⟨1, _⟩ => show win0_12.index t 1 * 128 + 1 * (j 1 : Nat) = (j 1 : Nat); rw [hi.2]; omega

/-- The block of the window keys' gains is the whole row. -/
theorem blk13 (c : Dev nD) (t : Fin cfg0.N) : (iblk m c 13 t : Vec Ideal S1x128 .f32) = V m c main_v40 := by
  have hi : win0_13.index t 0 = 0 ∧ win0_13.index t 1 = 0 := by
    have h : ∀ t : Fin cfg0.N, win0_13.index t 0 = 0 ∧ win0_13.index t 1 = 0 := by decide +kernel
    exact h t
  funext j
  unfold iblk
  rw [View.read_apply]
  show V m c main_v40 _ = V m c main_v40 j
  congr 1
  funext a
  apply Fin.ext
  match a with
  | ⟨0, _⟩ => show win0_13.index t 0 * 1 + 1 * (j 0 : Nat) = (j 0 : Nat); rw [hi.1]; omega
  | ⟨1, _⟩ => show win0_13.index t 1 * 128 + 1 * (j 1 : Nat) = (j 1 : Nat); rw [hi.2]; omega

/-- A normalized row of a point's block. -/
theorem h_iblk (c : Dev nD) (t : Fin cfg0.N) (r : Fin 1024) :
    hRow (fun k => (iblk m c 0 t : Vec Ideal S1024x1024 .f32) (ix2 r k)) (fun k => (iblk m c 1 t : Vec Ideal S1x1024 .f32) (ix2 0 k))
      = (hRow (fun k => A0 m c (ix3 (bOf (rowAt t r)) (sOf (rowAt t r)) k)) (fun k => A1 m c (ix2 0 k))) := by
  congr 1
  · funext k; exact (blk0 m c t r k).trans (V_v0 m c _ k)
  · funext k; exact (congrFun (blk1 m c t) _).trans (V_v19 m c k)

/-! ## What a point leaves, from the arguments -/

theorem out14_iblk (c : Dev nD) (t : Fin cfg0.N) (r : Fin 1024) (l : Fin 768) :
    (outsAt0 m c t).1 (ix2 r l) = arr14 m c (ix2 (rowAt t r) l) := by
  unfold arr14
  rw [Cert.InputRefIdeal.Rows.ref_v41]
  refine out14_apply m c t (fun d => A3 m c (ix2 0 d)) (fun l => (congrFun (blk11 m c t) _).trans (V_v32 m c l)) _ r (fun l => ?_) l
  rw [pay2_apply, h_iblk]
  refine congrArg (fun w => projRow _ w l) ?_
  funext k l
  exact (congrFun (blk2 m c t) _).trans (V_v20 m c k l)

theorem out17_iblk (c : Dev nD) (t : Fin cfg0.N) (r : Fin 1024) (l : Fin 192) :
    (outsAt0 m c t).2.2.2.1 (ix2 r l) = arr17 m c (ix2 (rowAt t r) l) := by
  unfold arr17
  rw [Cert.InputRefIdeal.Rows.ref_v60]
  refine out17_apply m c t (fun d => A4 m c (ix3 0 1 d)) (fun l => (congrFun (blk12 m c t) _).trans (V_v36 m c l)) _ r (fun l => ?_) l
  rw [pay29_apply, h_iblk]
  refine congrArg (fun w => projRow _ w l) ?_
  funext k l
  exact (congrFun (blk5 m c t) _).trans (V_v23 m c k l)

theorem out19_iblk (c : Dev nD) (t : Fin cfg0.N) (r : Fin 1024) (l : Fin 192) :
    (outsAt0 m c t).2.2.2.2.2.1 (ix2 r l) = arr19 m c (ix2 (rowAt t r) l) := by
  unfold arr19
  rw [Cert.InputRefIdeal.Rows.ref_v78]
  refine out19_apply m c t (fun d => A4 m c (ix3 0 2 d)) (fun l => (congrFun (blk13 m c t) _).trans (V_v40 m c l)) _ r (fun l => ?_) l
  rw [pay35_apply, h_iblk]
  refine congrArg (fun w => projRow _ w l) ?_
  funext k l
  exact (congrFun (blk7 m c t) _).trans (V_v25 m c k l)

theorem out15_iblk (c : Dev nD) (t : Fin cfg0.N) (r : Fin 1024) (l : Fin 192) :
    (outsAt0 m c t).2.1 (ix2 r l) = arr15 m c (ix2 (rowAt t r) l) := by
  unfold arr15
  rw [Cert.InputRefIdeal.Rows.ref_v42]
  refine (out15_apply m c t r l).trans ?_
  rw [pay27_apply, h_iblk]
  refine congrArg (fun w => projRow _ w l) ?_
  funext k l
  exact (congrFun (blk3 m c t) _).trans (V_v21 m c k l)

theorem out16_iblk (c : Dev nD) (t : Fin cfg0.N) (r : Fin 1024) (l : Fin 192) :
    (outsAt0 m c t).2.2.1 (ix2 r l) = arr16 m c (ix2 (rowAt t r) l) := by
  unfold arr16
  rw [Cert.InputRefIdeal.Rows.ref_v43]
  refine (out16_apply m c t r l).trans ?_
  rw [pay28_apply, h_iblk]
  refine congrArg (fun w => projRow _ w l) ?_
  funext k l
  exact (congrFun (blk4 m c t) _).trans (V_v22 m c k l)

theorem out18_iblk (c : Dev nD) (t : Fin cfg0.N) (r : Fin 1024) (l : Fin 192) :
    (outsAt0 m c t).2.2.2.2.1 (ix2 r l) = arr18 m c (ix2 (rowAt t r) l) := by
  unfold arr18
  rw [Cert.InputRefIdeal.Rows.ref_v61]
  refine (out18_apply m c t r l).trans ?_
  rw [pay34_apply, h_iblk]
  refine congrArg (fun w => projRow _ w l) ?_
  funext k l
  exact (congrFun (blk6 m c t) _).trans (V_v24 m c k l)

theorem out20_iblk (c : Dev nD) (t : Fin cfg0.N) (r : Fin 1024) (l : Fin 192) :
    (outsAt0 m c t).2.2.2.2.2.2.1 (ix2 r l) = arr20 m c (ix2 (rowAt t r) l) := by
  unfold arr20
  rw [Cert.InputRefIdeal.Rows.ref_v79]
  refine (out20_apply m c t r l).trans ?_
  rw [pay41_apply, h_iblk]
  refine congrArg (fun w => projRow _ w l) ?_
  funext k l
  exact (congrFun (blk8 m c t) _).trans (V_v26 m c k l)

theorem out22_iblk (c : Dev nD) (t : Fin cfg0.N) (r : Fin 1024) (l : Fin 256) :
    (outsAt0 m c t).2.2.2.2.2.2.2.2 (ix2 r l) = arr22 m c (ix2 (rowAt t r) l) := by
  unfold arr22
  rw [Cert.InputRefIdeal.Rows.ref_v88]
  refine (out22_apply m c t r l).trans ?_
  rw [pay43_apply, h_iblk]
  refine congrArg (fun w => projRow _ w l) ?_
  funext k l
  exact (congrFun (blk10 m c t) _).trans (V_v28 m c k l)

theorem out21_iblk (c : Dev nD) (t : Fin cfg0.N) (r : Fin 1024) (l : Fin 128) :
    (outsAt0 m c t).2.2.2.2.2.2.2.1 (ix2 r l) = arr21 m c (ix2 (rowAt t r) l) := by
  unfold arr21
  rw [Cert.InputRefIdeal.Rows.ref_v87]
  refine (out21_apply m c t r l).trans ?_
  rw [pay42_apply, h_iblk]
  refine congrArg Ideal.logistic ?_
  have hw : ∀ k : Fin 1024, (iblk m c 9 t : Vec Ideal S1024x128 .bf16) (ix2 k l)
      = if h : l.val < 36 then A2 m c (ix3 0 k ⟨1920 + l.val, by omega⟩) else 0 := fun k =>
    (congrFun (blk9 m c t) _).trans (V_v27 m c k l)
  by_cases h : l.val < 36
  · rw [dif_pos h]
    exact Finset.sum_congr rfl fun k _ => congrArg₂ (· * ·) rfl ((hw k).trans (dif_pos h))
  · rw [dif_neg h]
    refine Finset.sum_eq_zero fun k _ => ?_
    exact (congrArg _ ((hw k).trans (dif_neg h))).trans (mul_zero _)

/-! ## The queries -/

theorem idx14 (t : Fin cfg0.N) : win0_14.index t 0 = t.val ∧ win0_14.index t 1 = 0 := by
  have h : ∀ t : Fin cfg0.N, win0_14.index t 0 = t.val ∧ win0_14.index t 1 = 0 := by decide +kernel
  exact h t

/-- The entry of a whole array that an entry of a point's block is. -/
theorem read_blk14 (G : S16384x768.Idx → Elt Ideal .f32) (t : Fin cfg0.N) (r : Fin 1024) (l : Fin 768) :
    ((cfg0.win 14).blk t).view.read (Elt Ideal) G (ix2 r l) = G (ix2 (rowAt t r) l) := by
  rw [View.read_apply]
  show G _ = G _
  congr 1
  funext a
  apply Fin.ext
  match a with
  | ⟨0, _⟩ => show win0_14.index t 0 * 1024 + 1 * r.val = t.val * 1024 + r.val; rw [(idx14 t).1]; omega
  | ⟨1, _⟩ => show win0_14.index t 1 * 768 + 1 * l.val = l.val; rw [(idx14 t).2]; omega

/-- What a point writes back is its block of the whole array. -/
theorem flushed_eq14 (c : Dev nD) (t : Fin cfg0.N) :
    (dats m 0 c).flushed 14 t = ((cfg0.win 14).blk t).view.read (Elt Ideal) (arr14 m c) := by
  show (cfg0.win 14).cut (grid0.coords t) ((dats m 0 c).after 14 t) = _
  rw [after0_14]
  funext j
  obtain ⟨r, l, rfl⟩ : ∃ (r : Fin 1024) (l : Fin 768), j = ix2 r l := ⟨j 0, j 1, eq_ix2 j⟩
  exact (out14_iblk m c t r l).trans (read_blk14 (arr14 m c) t r l).symm

/-- The rows of a point's block. -/
theorem mem_blk14 (t : Fin cfg0.N) (i : S16384x768.Idx) :
    i ∈ ((cfg0.win 14).blk t).view.set ↔ t.val * 1024 ≤ (i 0 : Nat) ∧ (i 0 : Nat) < t.val * 1024 + 1024 := by
  show i ∈ ((View.whole main_v41_0).slice (win0_14.rect t)).set ↔ _
  rw [View.set_slice_whole, Rect.mem_set_unit]
  have h1 : (i 1 : Nat) < 768 := (i 1).isLt
  have e : win0_14.index t 0 * win0_14.size 0 = t.val * 1024 ∧ win0_14.xsize (grid0.coords t) 0 = 1024
      ∧ win0_14.index t 1 * win0_14.size 1 = 0 ∧ win0_14.xsize (grid0.coords t) 1 = 768 := by
    have h : ∀ t : Fin cfg0.N, win0_14.index t 0 * win0_14.size 0 = t.val * 1024 ∧ win0_14.xsize (grid0.coords t) 0 = 1024
      ∧ win0_14.index t 1 * win0_14.size 1 = 0 ∧ win0_14.xsize (grid0.coords t) 1 = 768 := by decide +kernel
    exact h t
  refine ⟨fun h => ?_, fun h a => ?_⟩
  · have : win0_14.index t 0 * win0_14.size 0 ≤ (i 0 : Nat)
        ∧ (i 0 : Nat) < win0_14.index t 0 * win0_14.size 0 + win0_14.xsize (grid0.coords t) 0 := h 0
    rw [e.1, e.2.1] at this; exact this
  · match a with
    | ⟨0, _⟩ =>
      show win0_14.index t 0 * win0_14.size 0 ≤ (i 0 : Nat)
        ∧ (i 0 : Nat) < win0_14.index t 0 * win0_14.size 0 + win0_14.xsize (grid0.coords t) 0
      rw [e.1, e.2.1]; exact h
    | ⟨1, _⟩ =>
      show win0_14.index t 1 * win0_14.size 1 ≤ (i 1 : Nat)
        ∧ (i 1 : Nat) < win0_14.index t 1 * win0_14.size 1 + win0_14.xsize (grid0.coords t) 1
      rw [e.2.2.1, e.2.2.2]; omega

/-- The blocks cover the array. -/
theorem cover14 (i : S16384x768.Idx) : ∃ t : Fin cfg0.N, (cfg0.win 14).flush t = true ∧ i ∈ ((cfg0.win 14).blk t).view.set := by
  have h0 : (i 0 : Nat) < 16384 := (i 0).isLt
  have hN : cfg0.N = 16 := N_0
  exact ⟨⟨(i 0 : Nat) / 1024, by omega⟩, flush0_14 _, (mem_blk14 _ i).mpr ⟨by show (i 0 : Nat) / 1024 * 1024 ≤ _; omega,
    by show _ < (i 0 : Nat) / 1024 * 1024 + 1024; omega⟩⟩

/-- The array after the run. -/
theorem final14 (c : Dev nD) : (dats m 0 c).arrAt 14 cfg0.N = arr14 m c :=
  (dats m 0 c).arrAt_eq_of_cover 14 (arr14 m c) (fun t _ => flushed_eq14 m c t) cover14

/-! ## The compressed keys -/

theorem idx15 (t : Fin cfg0.N) : win0_15.index t 0 = t.val ∧ win0_15.index t 1 = 0 := by
  have h : ∀ t : Fin cfg0.N, win0_15.index t 0 = t.val ∧ win0_15.index t 1 = 0 := by decide +kernel
  exact h t

/-- The entry of a whole array that an entry of a point's block is. -/
theorem read_blk15 (G : S16384x192.Idx → Elt Ideal .f32) (t : Fin cfg0.N) (r : Fin 1024) (l : Fin 192) :
    ((cfg0.win 15).blk t).view.read (Elt Ideal) G (ix2 r l) = G (ix2 (rowAt t r) l) := by
  rw [View.read_apply]
  show G _ = G _
  congr 1
  funext a
  apply Fin.ext
  match a with
  | ⟨0, _⟩ => show win0_15.index t 0 * 1024 + 1 * r.val = t.val * 1024 + r.val; rw [(idx15 t).1]; omega
  | ⟨1, _⟩ => show win0_15.index t 1 * 192 + 1 * l.val = l.val; rw [(idx15 t).2]; omega

/-- What a point writes back is its block of the whole array. -/
theorem flushed_eq15 (c : Dev nD) (t : Fin cfg0.N) :
    (dats m 0 c).flushed 15 t = ((cfg0.win 15).blk t).view.read (Elt Ideal) (arr15 m c) := by
  show (cfg0.win 15).cut (grid0.coords t) ((dats m 0 c).after 15 t) = _
  rw [after0_15]
  funext j
  obtain ⟨r, l, rfl⟩ : ∃ (r : Fin 1024) (l : Fin 192), j = ix2 r l := ⟨j 0, j 1, eq_ix2 j⟩
  exact (out15_iblk m c t r l).trans (read_blk15 (arr15 m c) t r l).symm

/-- The rows of a point's block. -/
theorem mem_blk15 (t : Fin cfg0.N) (i : S16384x192.Idx) :
    i ∈ ((cfg0.win 15).blk t).view.set ↔ t.val * 1024 ≤ (i 0 : Nat) ∧ (i 0 : Nat) < t.val * 1024 + 1024 := by
  show i ∈ ((View.whole main_v41_1).slice (win0_15.rect t)).set ↔ _
  rw [View.set_slice_whole, Rect.mem_set_unit]
  have h1 : (i 1 : Nat) < 192 := (i 1).isLt
  have e : win0_15.index t 0 * win0_15.size 0 = t.val * 1024 ∧ win0_15.xsize (grid0.coords t) 0 = 1024
      ∧ win0_15.index t 1 * win0_15.size 1 = 0 ∧ win0_15.xsize (grid0.coords t) 1 = 192 := by
    have h : ∀ t : Fin cfg0.N, win0_15.index t 0 * win0_15.size 0 = t.val * 1024 ∧ win0_15.xsize (grid0.coords t) 0 = 1024
      ∧ win0_15.index t 1 * win0_15.size 1 = 0 ∧ win0_15.xsize (grid0.coords t) 1 = 192 := by decide +kernel
    exact h t
  refine ⟨fun h => ?_, fun h a => ?_⟩
  · have : win0_15.index t 0 * win0_15.size 0 ≤ (i 0 : Nat)
        ∧ (i 0 : Nat) < win0_15.index t 0 * win0_15.size 0 + win0_15.xsize (grid0.coords t) 0 := h 0
    rw [e.1, e.2.1] at this; exact this
  · match a with
    | ⟨0, _⟩ =>
      show win0_15.index t 0 * win0_15.size 0 ≤ (i 0 : Nat)
        ∧ (i 0 : Nat) < win0_15.index t 0 * win0_15.size 0 + win0_15.xsize (grid0.coords t) 0
      rw [e.1, e.2.1]; exact h
    | ⟨1, _⟩ =>
      show win0_15.index t 1 * win0_15.size 1 ≤ (i 1 : Nat)
        ∧ (i 1 : Nat) < win0_15.index t 1 * win0_15.size 1 + win0_15.xsize (grid0.coords t) 1
      rw [e.2.2.1, e.2.2.2]; omega

/-- The blocks cover the array. -/
theorem cover15 (i : S16384x192.Idx) : ∃ t : Fin cfg0.N, (cfg0.win 15).flush t = true ∧ i ∈ ((cfg0.win 15).blk t).view.set := by
  have h0 : (i 0 : Nat) < 16384 := (i 0).isLt
  have hN : cfg0.N = 16 := N_0
  exact ⟨⟨(i 0 : Nat) / 1024, by omega⟩, flush0_15 _, (mem_blk15 _ i).mpr ⟨by show (i 0 : Nat) / 1024 * 1024 ≤ _; omega,
    by show _ < (i 0 : Nat) / 1024 * 1024 + 1024; omega⟩⟩

/-- The array after the run. -/
theorem final15 (c : Dev nD) : (dats m 0 c).arrAt 15 cfg0.N = arr15 m c :=
  (dats m 0 c).arrAt_eq_of_cover 15 (arr15 m c) (fun t _ => flushed_eq15 m c t) cover15

/-! ## The compressed values -/

theorem idx16 (t : Fin cfg0.N) : win0_16.index t 0 = t.val ∧ win0_16.index t 1 = 0 := by
  have h : ∀ t : Fin cfg0.N, win0_16.index t 0 = t.val ∧ win0_16.index t 1 = 0 := by decide +kernel
  exact h t

/-- The entry of a whole array that an entry of a point's block is. -/
theorem read_blk16 (G : S16384x192.Idx → Elt Ideal .f32) (t : Fin cfg0.N) (r : Fin 1024) (l : Fin 192) :
    ((cfg0.win 16).blk t).view.read (Elt Ideal) G (ix2 r l) = G (ix2 (rowAt t r) l) := by
  rw [View.read_apply]
  show G _ = G _
  congr 1
  funext a
  apply Fin.ext
  match a with
  | ⟨0, _⟩ => show win0_16.index t 0 * 1024 + 1 * r.val = t.val * 1024 + r.val; rw [(idx16 t).1]; omega
  | ⟨1, _⟩ => show win0_16.index t 1 * 192 + 1 * l.val = l.val; rw [(idx16 t).2]; omega

/-- What a point writes back is its block of the whole array. -/
theorem flushed_eq16 (c : Dev nD) (t : Fin cfg0.N) :
    (dats m 0 c).flushed 16 t = ((cfg0.win 16).blk t).view.read (Elt Ideal) (arr16 m c) := by
  show (cfg0.win 16).cut (grid0.coords t) ((dats m 0 c).after 16 t) = _
  rw [after0_16]
  funext j
  obtain ⟨r, l, rfl⟩ : ∃ (r : Fin 1024) (l : Fin 192), j = ix2 r l := ⟨j 0, j 1, eq_ix2 j⟩
  exact (out16_iblk m c t r l).trans (read_blk16 (arr16 m c) t r l).symm

/-- The rows of a point's block. -/
theorem mem_blk16 (t : Fin cfg0.N) (i : S16384x192.Idx) :
    i ∈ ((cfg0.win 16).blk t).view.set ↔ t.val * 1024 ≤ (i 0 : Nat) ∧ (i 0 : Nat) < t.val * 1024 + 1024 := by
  show i ∈ ((View.whole main_v41_2).slice (win0_16.rect t)).set ↔ _
  rw [View.set_slice_whole, Rect.mem_set_unit]
  have h1 : (i 1 : Nat) < 192 := (i 1).isLt
  have e : win0_16.index t 0 * win0_16.size 0 = t.val * 1024 ∧ win0_16.xsize (grid0.coords t) 0 = 1024
      ∧ win0_16.index t 1 * win0_16.size 1 = 0 ∧ win0_16.xsize (grid0.coords t) 1 = 192 := by
    have h : ∀ t : Fin cfg0.N, win0_16.index t 0 * win0_16.size 0 = t.val * 1024 ∧ win0_16.xsize (grid0.coords t) 0 = 1024
      ∧ win0_16.index t 1 * win0_16.size 1 = 0 ∧ win0_16.xsize (grid0.coords t) 1 = 192 := by decide +kernel
    exact h t
  refine ⟨fun h => ?_, fun h a => ?_⟩
  · have : win0_16.index t 0 * win0_16.size 0 ≤ (i 0 : Nat)
        ∧ (i 0 : Nat) < win0_16.index t 0 * win0_16.size 0 + win0_16.xsize (grid0.coords t) 0 := h 0
    rw [e.1, e.2.1] at this; exact this
  · match a with
    | ⟨0, _⟩ =>
      show win0_16.index t 0 * win0_16.size 0 ≤ (i 0 : Nat)
        ∧ (i 0 : Nat) < win0_16.index t 0 * win0_16.size 0 + win0_16.xsize (grid0.coords t) 0
      rw [e.1, e.2.1]; exact h
    | ⟨1, _⟩ =>
      show win0_16.index t 1 * win0_16.size 1 ≤ (i 1 : Nat)
        ∧ (i 1 : Nat) < win0_16.index t 1 * win0_16.size 1 + win0_16.xsize (grid0.coords t) 1
      rw [e.2.2.1, e.2.2.2]; omega

/-- The blocks cover the array. -/
theorem cover16 (i : S16384x192.Idx) : ∃ t : Fin cfg0.N, (cfg0.win 16).flush t = true ∧ i ∈ ((cfg0.win 16).blk t).view.set := by
  have h0 : (i 0 : Nat) < 16384 := (i 0).isLt
  have hN : cfg0.N = 16 := N_0
  exact ⟨⟨(i 0 : Nat) / 1024, by omega⟩, flush0_16 _, (mem_blk16 _ i).mpr ⟨by show (i 0 : Nat) / 1024 * 1024 ≤ _; omega,
    by show _ < (i 0 : Nat) / 1024 * 1024 + 1024; omega⟩⟩

/-- The array after the run. -/
theorem final16 (c : Dev nD) : (dats m 0 c).arrAt 16 cfg0.N = arr16 m c :=
  (dats m 0 c).arrAt_eq_of_cover 16 (arr16 m c) (fun t _ => flushed_eq16 m c t) cover16

/-! ## The selected keys -/

theorem idx17 (t : Fin cfg0.N) : win0_17.index t 0 = t.val ∧ win0_17.index t 1 = 0 := by
  have h : ∀ t : Fin cfg0.N, win0_17.index t 0 = t.val ∧ win0_17.index t 1 = 0 := by decide +kernel
  exact h t

/-- The entry of a whole array that an entry of a point's block is. -/
theorem read_blk17 (G : S16384x192.Idx → Elt Ideal .f32) (t : Fin cfg0.N) (r : Fin 1024) (l : Fin 192) :
    ((cfg0.win 17).blk t).view.read (Elt Ideal) G (ix2 r l) = G (ix2 (rowAt t r) l) := by
  rw [View.read_apply]
  show G _ = G _
  congr 1
  funext a
  apply Fin.ext
  match a with
  | ⟨0, _⟩ => show win0_17.index t 0 * 1024 + 1 * r.val = t.val * 1024 + r.val; rw [(idx17 t).1]; omega
  | ⟨1, _⟩ => show win0_17.index t 1 * 192 + 1 * l.val = l.val; rw [(idx17 t).2]; omega

/-- What a point writes back is its block of the whole array. -/
theorem flushed_eq17 (c : Dev nD) (t : Fin cfg0.N) :
    (dats m 0 c).flushed 17 t = ((cfg0.win 17).blk t).view.read (Elt Ideal) (arr17 m c) := by
  show (cfg0.win 17).cut (grid0.coords t) ((dats m 0 c).after 17 t) = _
  rw [after0_17]
  funext j
  obtain ⟨r, l, rfl⟩ : ∃ (r : Fin 1024) (l : Fin 192), j = ix2 r l := ⟨j 0, j 1, eq_ix2 j⟩
  exact (out17_iblk m c t r l).trans (read_blk17 (arr17 m c) t r l).symm

/-- The rows of a point's block. -/
theorem mem_blk17 (t : Fin cfg0.N) (i : S16384x192.Idx) :
    i ∈ ((cfg0.win 17).blk t).view.set ↔ t.val * 1024 ≤ (i 0 : Nat) ∧ (i 0 : Nat) < t.val * 1024 + 1024 := by
  show i ∈ ((View.whole main_v41_3).slice (win0_17.rect t)).set ↔ _
  rw [View.set_slice_whole, Rect.mem_set_unit]
  have h1 : (i 1 : Nat) < 192 := (i 1).isLt
  have e : win0_17.index t 0 * win0_17.size 0 = t.val * 1024 ∧ win0_17.xsize (grid0.coords t) 0 = 1024
      ∧ win0_17.index t 1 * win0_17.size 1 = 0 ∧ win0_17.xsize (grid0.coords t) 1 = 192 := by
    have h : ∀ t : Fin cfg0.N, win0_17.index t 0 * win0_17.size 0 = t.val * 1024 ∧ win0_17.xsize (grid0.coords t) 0 = 1024
      ∧ win0_17.index t 1 * win0_17.size 1 = 0 ∧ win0_17.xsize (grid0.coords t) 1 = 192 := by decide +kernel
    exact h t
  refine ⟨fun h => ?_, fun h a => ?_⟩
  · have : win0_17.index t 0 * win0_17.size 0 ≤ (i 0 : Nat)
        ∧ (i 0 : Nat) < win0_17.index t 0 * win0_17.size 0 + win0_17.xsize (grid0.coords t) 0 := h 0
    rw [e.1, e.2.1] at this; exact this
  · match a with
    | ⟨0, _⟩ =>
      show win0_17.index t 0 * win0_17.size 0 ≤ (i 0 : Nat)
        ∧ (i 0 : Nat) < win0_17.index t 0 * win0_17.size 0 + win0_17.xsize (grid0.coords t) 0
      rw [e.1, e.2.1]; exact h
    | ⟨1, _⟩ =>
      show win0_17.index t 1 * win0_17.size 1 ≤ (i 1 : Nat)
        ∧ (i 1 : Nat) < win0_17.index t 1 * win0_17.size 1 + win0_17.xsize (grid0.coords t) 1
      rw [e.2.2.1, e.2.2.2]; omega

/-- The blocks cover the array. -/
theorem cover17 (i : S16384x192.Idx) : ∃ t : Fin cfg0.N, (cfg0.win 17).flush t = true ∧ i ∈ ((cfg0.win 17).blk t).view.set := by
  have h0 : (i 0 : Nat) < 16384 := (i 0).isLt
  have hN : cfg0.N = 16 := N_0
  exact ⟨⟨(i 0 : Nat) / 1024, by omega⟩, flush0_17 _, (mem_blk17 _ i).mpr ⟨by show (i 0 : Nat) / 1024 * 1024 ≤ _; omega,
    by show _ < (i 0 : Nat) / 1024 * 1024 + 1024; omega⟩⟩

/-- The array after the run. -/
theorem final17 (c : Dev nD) : (dats m 0 c).arrAt 17 cfg0.N = arr17 m c :=
  (dats m 0 c).arrAt_eq_of_cover 17 (arr17 m c) (fun t _ => flushed_eq17 m c t) cover17

/-! ## The selected values -/

theorem idx18 (t : Fin cfg0.N) : win0_18.index t 0 = t.val ∧ win0_18.index t 1 = 0 := by
  have h : ∀ t : Fin cfg0.N, win0_18.index t 0 = t.val ∧ win0_18.index t 1 = 0 := by decide +kernel
  exact h t

/-- The entry of a whole array that an entry of a point's block is. -/
theorem read_blk18 (G : S16384x192.Idx → Elt Ideal .f32) (t : Fin cfg0.N) (r : Fin 1024) (l : Fin 192) :
    ((cfg0.win 18).blk t).view.read (Elt Ideal) G (ix2 r l) = G (ix2 (rowAt t r) l) := by
  rw [View.read_apply]
  show G _ = G _
  congr 1
  funext a
  apply Fin.ext
  match a with
  | ⟨0, _⟩ => show win0_18.index t 0 * 1024 + 1 * r.val = t.val * 1024 + r.val; rw [(idx18 t).1]; omega
  | ⟨1, _⟩ => show win0_18.index t 1 * 192 + 1 * l.val = l.val; rw [(idx18 t).2]; omega

/-- What a point writes back is its block of the whole array. -/
theorem flushed_eq18 (c : Dev nD) (t : Fin cfg0.N) :
    (dats m 0 c).flushed 18 t = ((cfg0.win 18).blk t).view.read (Elt Ideal) (arr18 m c) := by
  show (cfg0.win 18).cut (grid0.coords t) ((dats m 0 c).after 18 t) = _
  rw [after0_18]
  funext j
  obtain ⟨r, l, rfl⟩ : ∃ (r : Fin 1024) (l : Fin 192), j = ix2 r l := ⟨j 0, j 1, eq_ix2 j⟩
  exact (out18_iblk m c t r l).trans (read_blk18 (arr18 m c) t r l).symm

/-- The rows of a point's block. -/
theorem mem_blk18 (t : Fin cfg0.N) (i : S16384x192.Idx) :
    i ∈ ((cfg0.win 18).blk t).view.set ↔ t.val * 1024 ≤ (i 0 : Nat) ∧ (i 0 : Nat) < t.val * 1024 + 1024 := by
  show i ∈ ((View.whole main_v41_4).slice (win0_18.rect t)).set ↔ _
  rw [View.set_slice_whole, Rect.mem_set_unit]
  have h1 : (i 1 : Nat) < 192 := (i 1).isLt
  have e : win0_18.index t 0 * win0_18.size 0 = t.val * 1024 ∧ win0_18.xsize (grid0.coords t) 0 = 1024
      ∧ win0_18.index t 1 * win0_18.size 1 = 0 ∧ win0_18.xsize (grid0.coords t) 1 = 192 := by
    have h : ∀ t : Fin cfg0.N, win0_18.index t 0 * win0_18.size 0 = t.val * 1024 ∧ win0_18.xsize (grid0.coords t) 0 = 1024
      ∧ win0_18.index t 1 * win0_18.size 1 = 0 ∧ win0_18.xsize (grid0.coords t) 1 = 192 := by decide +kernel
    exact h t
  refine ⟨fun h => ?_, fun h a => ?_⟩
  · have : win0_18.index t 0 * win0_18.size 0 ≤ (i 0 : Nat)
        ∧ (i 0 : Nat) < win0_18.index t 0 * win0_18.size 0 + win0_18.xsize (grid0.coords t) 0 := h 0
    rw [e.1, e.2.1] at this; exact this
  · match a with
    | ⟨0, _⟩ =>
      show win0_18.index t 0 * win0_18.size 0 ≤ (i 0 : Nat)
        ∧ (i 0 : Nat) < win0_18.index t 0 * win0_18.size 0 + win0_18.xsize (grid0.coords t) 0
      rw [e.1, e.2.1]; exact h
    | ⟨1, _⟩ =>
      show win0_18.index t 1 * win0_18.size 1 ≤ (i 1 : Nat)
        ∧ (i 1 : Nat) < win0_18.index t 1 * win0_18.size 1 + win0_18.xsize (grid0.coords t) 1
      rw [e.2.2.1, e.2.2.2]; omega

/-- The blocks cover the array. -/
theorem cover18 (i : S16384x192.Idx) : ∃ t : Fin cfg0.N, (cfg0.win 18).flush t = true ∧ i ∈ ((cfg0.win 18).blk t).view.set := by
  have h0 : (i 0 : Nat) < 16384 := (i 0).isLt
  have hN : cfg0.N = 16 := N_0
  exact ⟨⟨(i 0 : Nat) / 1024, by omega⟩, flush0_18 _, (mem_blk18 _ i).mpr ⟨by show (i 0 : Nat) / 1024 * 1024 ≤ _; omega,
    by show _ < (i 0 : Nat) / 1024 * 1024 + 1024; omega⟩⟩

/-- The array after the run. -/
theorem final18 (c : Dev nD) : (dats m 0 c).arrAt 18 cfg0.N = arr18 m c :=
  (dats m 0 c).arrAt_eq_of_cover 18 (arr18 m c) (fun t _ => flushed_eq18 m c t) cover18

/-! ## The window keys -/

theorem idx19 (t : Fin cfg0.N) : win0_19.index t 0 = t.val ∧ win0_19.index t 1 = 0 := by
  have h : ∀ t : Fin cfg0.N, win0_19.index t 0 = t.val ∧ win0_19.index t 1 = 0 := by decide +kernel
  exact h t

/-- The entry of a whole array that an entry of a point's block is. -/
theorem read_blk19 (G : S16384x192.Idx → Elt Ideal .f32) (t : Fin cfg0.N) (r : Fin 1024) (l : Fin 192) :
    ((cfg0.win 19).blk t).view.read (Elt Ideal) G (ix2 r l) = G (ix2 (rowAt t r) l) := by
  rw [View.read_apply]
  show G _ = G _
  congr 1
  funext a
  apply Fin.ext
  match a with
  | ⟨0, _⟩ => show win0_19.index t 0 * 1024 + 1 * r.val = t.val * 1024 + r.val; rw [(idx19 t).1]; omega
  | ⟨1, _⟩ => show win0_19.index t 1 * 192 + 1 * l.val = l.val; rw [(idx19 t).2]; omega

/-- What a point writes back is its block of the whole array. -/
theorem flushed_eq19 (c : Dev nD) (t : Fin cfg0.N) :
    (dats m 0 c).flushed 19 t = ((cfg0.win 19).blk t).view.read (Elt Ideal) (arr19 m c) := by
  show (cfg0.win 19).cut (grid0.coords t) ((dats m 0 c).after 19 t) = _
  rw [after0_19]
  funext j
  obtain ⟨r, l, rfl⟩ : ∃ (r : Fin 1024) (l : Fin 192), j = ix2 r l := ⟨j 0, j 1, eq_ix2 j⟩
  exact (out19_iblk m c t r l).trans (read_blk19 (arr19 m c) t r l).symm

/-- The rows of a point's block. -/
theorem mem_blk19 (t : Fin cfg0.N) (i : S16384x192.Idx) :
    i ∈ ((cfg0.win 19).blk t).view.set ↔ t.val * 1024 ≤ (i 0 : Nat) ∧ (i 0 : Nat) < t.val * 1024 + 1024 := by
  show i ∈ ((View.whole main_v41_5).slice (win0_19.rect t)).set ↔ _
  rw [View.set_slice_whole, Rect.mem_set_unit]
  have h1 : (i 1 : Nat) < 192 := (i 1).isLt
  have e : win0_19.index t 0 * win0_19.size 0 = t.val * 1024 ∧ win0_19.xsize (grid0.coords t) 0 = 1024
      ∧ win0_19.index t 1 * win0_19.size 1 = 0 ∧ win0_19.xsize (grid0.coords t) 1 = 192 := by
    have h : ∀ t : Fin cfg0.N, win0_19.index t 0 * win0_19.size 0 = t.val * 1024 ∧ win0_19.xsize (grid0.coords t) 0 = 1024
      ∧ win0_19.index t 1 * win0_19.size 1 = 0 ∧ win0_19.xsize (grid0.coords t) 1 = 192 := by decide +kernel
    exact h t
  refine ⟨fun h => ?_, fun h a => ?_⟩
  · have : win0_19.index t 0 * win0_19.size 0 ≤ (i 0 : Nat)
        ∧ (i 0 : Nat) < win0_19.index t 0 * win0_19.size 0 + win0_19.xsize (grid0.coords t) 0 := h 0
    rw [e.1, e.2.1] at this; exact this
  · match a with
    | ⟨0, _⟩ =>
      show win0_19.index t 0 * win0_19.size 0 ≤ (i 0 : Nat)
        ∧ (i 0 : Nat) < win0_19.index t 0 * win0_19.size 0 + win0_19.xsize (grid0.coords t) 0
      rw [e.1, e.2.1]; exact h
    | ⟨1, _⟩ =>
      show win0_19.index t 1 * win0_19.size 1 ≤ (i 1 : Nat)
        ∧ (i 1 : Nat) < win0_19.index t 1 * win0_19.size 1 + win0_19.xsize (grid0.coords t) 1
      rw [e.2.2.1, e.2.2.2]; omega

/-- The blocks cover the array. -/
theorem cover19 (i : S16384x192.Idx) : ∃ t : Fin cfg0.N, (cfg0.win 19).flush t = true ∧ i ∈ ((cfg0.win 19).blk t).view.set := by
  have h0 : (i 0 : Nat) < 16384 := (i 0).isLt
  have hN : cfg0.N = 16 := N_0
  exact ⟨⟨(i 0 : Nat) / 1024, by omega⟩, flush0_19 _, (mem_blk19 _ i).mpr ⟨by show (i 0 : Nat) / 1024 * 1024 ≤ _; omega,
    by show _ < (i 0 : Nat) / 1024 * 1024 + 1024; omega⟩⟩

/-- The array after the run. -/
theorem final19 (c : Dev nD) : (dats m 0 c).arrAt 19 cfg0.N = arr19 m c :=
  (dats m 0 c).arrAt_eq_of_cover 19 (arr19 m c) (fun t _ => flushed_eq19 m c t) cover19

/-! ## The window values -/

theorem idx20 (t : Fin cfg0.N) : win0_20.index t 0 = t.val ∧ win0_20.index t 1 = 0 := by
  have h : ∀ t : Fin cfg0.N, win0_20.index t 0 = t.val ∧ win0_20.index t 1 = 0 := by decide +kernel
  exact h t

/-- The entry of a whole array that an entry of a point's block is. -/
theorem read_blk20 (G : S16384x192.Idx → Elt Ideal .f32) (t : Fin cfg0.N) (r : Fin 1024) (l : Fin 192) :
    ((cfg0.win 20).blk t).view.read (Elt Ideal) G (ix2 r l) = G (ix2 (rowAt t r) l) := by
  rw [View.read_apply]
  show G _ = G _
  congr 1
  funext a
  apply Fin.ext
  match a with
  | ⟨0, _⟩ => show win0_20.index t 0 * 1024 + 1 * r.val = t.val * 1024 + r.val; rw [(idx20 t).1]; omega
  | ⟨1, _⟩ => show win0_20.index t 1 * 192 + 1 * l.val = l.val; rw [(idx20 t).2]; omega

/-- What a point writes back is its block of the whole array. -/
theorem flushed_eq20 (c : Dev nD) (t : Fin cfg0.N) :
    (dats m 0 c).flushed 20 t = ((cfg0.win 20).blk t).view.read (Elt Ideal) (arr20 m c) := by
  show (cfg0.win 20).cut (grid0.coords t) ((dats m 0 c).after 20 t) = _
  rw [after0_20]
  funext j
  obtain ⟨r, l, rfl⟩ : ∃ (r : Fin 1024) (l : Fin 192), j = ix2 r l := ⟨j 0, j 1, eq_ix2 j⟩
  exact (out20_iblk m c t r l).trans (read_blk20 (arr20 m c) t r l).symm

/-- The rows of a point's block. -/
theorem mem_blk20 (t : Fin cfg0.N) (i : S16384x192.Idx) :
    i ∈ ((cfg0.win 20).blk t).view.set ↔ t.val * 1024 ≤ (i 0 : Nat) ∧ (i 0 : Nat) < t.val * 1024 + 1024 := by
  show i ∈ ((View.whole main_v41_6).slice (win0_20.rect t)).set ↔ _
  rw [View.set_slice_whole, Rect.mem_set_unit]
  have h1 : (i 1 : Nat) < 192 := (i 1).isLt
  have e : win0_20.index t 0 * win0_20.size 0 = t.val * 1024 ∧ win0_20.xsize (grid0.coords t) 0 = 1024
      ∧ win0_20.index t 1 * win0_20.size 1 = 0 ∧ win0_20.xsize (grid0.coords t) 1 = 192 := by
    have h : ∀ t : Fin cfg0.N, win0_20.index t 0 * win0_20.size 0 = t.val * 1024 ∧ win0_20.xsize (grid0.coords t) 0 = 1024
      ∧ win0_20.index t 1 * win0_20.size 1 = 0 ∧ win0_20.xsize (grid0.coords t) 1 = 192 := by decide +kernel
    exact h t
  refine ⟨fun h => ?_, fun h a => ?_⟩
  · have : win0_20.index t 0 * win0_20.size 0 ≤ (i 0 : Nat)
        ∧ (i 0 : Nat) < win0_20.index t 0 * win0_20.size 0 + win0_20.xsize (grid0.coords t) 0 := h 0
    rw [e.1, e.2.1] at this; exact this
  · match a with
    | ⟨0, _⟩ =>
      show win0_20.index t 0 * win0_20.size 0 ≤ (i 0 : Nat)
        ∧ (i 0 : Nat) < win0_20.index t 0 * win0_20.size 0 + win0_20.xsize (grid0.coords t) 0
      rw [e.1, e.2.1]; exact h
    | ⟨1, _⟩ =>
      show win0_20.index t 1 * win0_20.size 1 ≤ (i 1 : Nat)
        ∧ (i 1 : Nat) < win0_20.index t 1 * win0_20.size 1 + win0_20.xsize (grid0.coords t) 1
      rw [e.2.2.1, e.2.2.2]; omega

/-- The blocks cover the array. -/
theorem cover20 (i : S16384x192.Idx) : ∃ t : Fin cfg0.N, (cfg0.win 20).flush t = true ∧ i ∈ ((cfg0.win 20).blk t).view.set := by
  have h0 : (i 0 : Nat) < 16384 := (i 0).isLt
  have hN : cfg0.N = 16 := N_0
  exact ⟨⟨(i 0 : Nat) / 1024, by omega⟩, flush0_20 _, (mem_blk20 _ i).mpr ⟨by show (i 0 : Nat) / 1024 * 1024 ≤ _; omega,
    by show _ < (i 0 : Nat) / 1024 * 1024 + 1024; omega⟩⟩

/-- The array after the run. -/
theorem final20 (c : Dev nD) : (dats m 0 c).arrAt 20 cfg0.N = arr20 m c :=
  (dats m 0 c).arrAt_eq_of_cover 20 (arr20 m c) (fun t _ => flushed_eq20 m c t) cover20

/-! ## The gates -/

theorem idx21 (t : Fin cfg0.N) : win0_21.index t 0 = t.val ∧ win0_21.index t 1 = 0 := by
  have h : ∀ t : Fin cfg0.N, win0_21.index t 0 = t.val ∧ win0_21.index t 1 = 0 := by decide +kernel
  exact h t

/-- The entry of a whole array that an entry of a point's block is. -/
theorem read_blk21 (G : S16384x128.Idx → Elt Ideal .f32) (t : Fin cfg0.N) (r : Fin 1024) (l : Fin 128) :
    ((cfg0.win 21).blk t).view.read (Elt Ideal) G (ix2 r l) = G (ix2 (rowAt t r) l) := by
  rw [View.read_apply]
  show G _ = G _
  congr 1
  funext a
  apply Fin.ext
  match a with
  | ⟨0, _⟩ => show win0_21.index t 0 * 1024 + 1 * r.val = t.val * 1024 + r.val; rw [(idx21 t).1]; omega
  | ⟨1, _⟩ => show win0_21.index t 1 * 128 + 1 * l.val = l.val; rw [(idx21 t).2]; omega

/-- What a point writes back is its block of the whole array. -/
theorem flushed_eq21 (c : Dev nD) (t : Fin cfg0.N) :
    (dats m 0 c).flushed 21 t = ((cfg0.win 21).blk t).view.read (Elt Ideal) (arr21 m c) := by
  show (cfg0.win 21).cut (grid0.coords t) ((dats m 0 c).after 21 t) = _
  rw [after0_21]
  funext j
  obtain ⟨r, l, rfl⟩ : ∃ (r : Fin 1024) (l : Fin 128), j = ix2 r l := ⟨j 0, j 1, eq_ix2 j⟩
  exact (out21_iblk m c t r l).trans (read_blk21 (arr21 m c) t r l).symm

/-- The rows of a point's block. -/
theorem mem_blk21 (t : Fin cfg0.N) (i : S16384x128.Idx) :
    i ∈ ((cfg0.win 21).blk t).view.set ↔ t.val * 1024 ≤ (i 0 : Nat) ∧ (i 0 : Nat) < t.val * 1024 + 1024 := by
  show i ∈ ((View.whole main_v41_7).slice (win0_21.rect t)).set ↔ _
  rw [View.set_slice_whole, Rect.mem_set_unit]
  have h1 : (i 1 : Nat) < 128 := (i 1).isLt
  have e : win0_21.index t 0 * win0_21.size 0 = t.val * 1024 ∧ win0_21.xsize (grid0.coords t) 0 = 1024
      ∧ win0_21.index t 1 * win0_21.size 1 = 0 ∧ win0_21.xsize (grid0.coords t) 1 = 128 := by
    have h : ∀ t : Fin cfg0.N, win0_21.index t 0 * win0_21.size 0 = t.val * 1024 ∧ win0_21.xsize (grid0.coords t) 0 = 1024
      ∧ win0_21.index t 1 * win0_21.size 1 = 0 ∧ win0_21.xsize (grid0.coords t) 1 = 128 := by decide +kernel
    exact h t
  refine ⟨fun h => ?_, fun h a => ?_⟩
  · have : win0_21.index t 0 * win0_21.size 0 ≤ (i 0 : Nat)
        ∧ (i 0 : Nat) < win0_21.index t 0 * win0_21.size 0 + win0_21.xsize (grid0.coords t) 0 := h 0
    rw [e.1, e.2.1] at this; exact this
  · match a with
    | ⟨0, _⟩ =>
      show win0_21.index t 0 * win0_21.size 0 ≤ (i 0 : Nat)
        ∧ (i 0 : Nat) < win0_21.index t 0 * win0_21.size 0 + win0_21.xsize (grid0.coords t) 0
      rw [e.1, e.2.1]; exact h
    | ⟨1, _⟩ =>
      show win0_21.index t 1 * win0_21.size 1 ≤ (i 1 : Nat)
        ∧ (i 1 : Nat) < win0_21.index t 1 * win0_21.size 1 + win0_21.xsize (grid0.coords t) 1
      rw [e.2.2.1, e.2.2.2]; omega

/-- The blocks cover the array. -/
theorem cover21 (i : S16384x128.Idx) : ∃ t : Fin cfg0.N, (cfg0.win 21).flush t = true ∧ i ∈ ((cfg0.win 21).blk t).view.set := by
  have h0 : (i 0 : Nat) < 16384 := (i 0).isLt
  have hN : cfg0.N = 16 := N_0
  exact ⟨⟨(i 0 : Nat) / 1024, by omega⟩, flush0_21 _, (mem_blk21 _ i).mpr ⟨by show (i 0 : Nat) / 1024 * 1024 ≤ _; omega,
    by show _ < (i 0 : Nat) / 1024 * 1024 + 1024; omega⟩⟩

/-- The array after the run. -/
theorem final21 (c : Dev nD) : (dats m 0 c).arrAt 21 cfg0.N = arr21 m c :=
  (dats m 0 c).arrAt_eq_of_cover 21 (arr21 m c) (fun t _ => flushed_eq21 m c t) cover21

/-! ## The memory queries -/

theorem idx22 (t : Fin cfg0.N) : win0_22.index t 0 = t.val ∧ win0_22.index t 1 = 0 := by
  have h : ∀ t : Fin cfg0.N, win0_22.index t 0 = t.val ∧ win0_22.index t 1 = 0 := by decide +kernel
  exact h t

/-- The entry of a whole array that an entry of a point's block is. -/
theorem read_blk22 (G : S16384x256.Idx → Elt Ideal .f32) (t : Fin cfg0.N) (r : Fin 1024) (l : Fin 256) :
    ((cfg0.win 22).blk t).view.read (Elt Ideal) G (ix2 r l) = G (ix2 (rowAt t r) l) := by
  rw [View.read_apply]
  show G _ = G _
  congr 1
  funext a
  apply Fin.ext
  match a with
  | ⟨0, _⟩ => show win0_22.index t 0 * 1024 + 1 * r.val = t.val * 1024 + r.val; rw [(idx22 t).1]; omega
  | ⟨1, _⟩ => show win0_22.index t 1 * 256 + 1 * l.val = l.val; rw [(idx22 t).2]; omega

/-- What a point writes back is its block of the whole array. -/
theorem flushed_eq22 (c : Dev nD) (t : Fin cfg0.N) :
    (dats m 0 c).flushed 22 t = ((cfg0.win 22).blk t).view.read (Elt Ideal) (arr22 m c) := by
  show (cfg0.win 22).cut (grid0.coords t) ((dats m 0 c).after 22 t) = _
  rw [after0_22]
  funext j
  obtain ⟨r, l, rfl⟩ : ∃ (r : Fin 1024) (l : Fin 256), j = ix2 r l := ⟨j 0, j 1, eq_ix2 j⟩
  exact (out22_iblk m c t r l).trans (read_blk22 (arr22 m c) t r l).symm

/-- The rows of a point's block. -/
theorem mem_blk22 (t : Fin cfg0.N) (i : S16384x256.Idx) :
    i ∈ ((cfg0.win 22).blk t).view.set ↔ t.val * 1024 ≤ (i 0 : Nat) ∧ (i 0 : Nat) < t.val * 1024 + 1024 := by
  show i ∈ ((View.whole main_v41_8).slice (win0_22.rect t)).set ↔ _
  rw [View.set_slice_whole, Rect.mem_set_unit]
  have h1 : (i 1 : Nat) < 256 := (i 1).isLt
  have e : win0_22.index t 0 * win0_22.size 0 = t.val * 1024 ∧ win0_22.xsize (grid0.coords t) 0 = 1024
      ∧ win0_22.index t 1 * win0_22.size 1 = 0 ∧ win0_22.xsize (grid0.coords t) 1 = 256 := by
    have h : ∀ t : Fin cfg0.N, win0_22.index t 0 * win0_22.size 0 = t.val * 1024 ∧ win0_22.xsize (grid0.coords t) 0 = 1024
      ∧ win0_22.index t 1 * win0_22.size 1 = 0 ∧ win0_22.xsize (grid0.coords t) 1 = 256 := by decide +kernel
    exact h t
  refine ⟨fun h => ?_, fun h a => ?_⟩
  · have : win0_22.index t 0 * win0_22.size 0 ≤ (i 0 : Nat)
        ∧ (i 0 : Nat) < win0_22.index t 0 * win0_22.size 0 + win0_22.xsize (grid0.coords t) 0 := h 0
    rw [e.1, e.2.1] at this; exact this
  · match a with
    | ⟨0, _⟩ =>
      show win0_22.index t 0 * win0_22.size 0 ≤ (i 0 : Nat)
        ∧ (i 0 : Nat) < win0_22.index t 0 * win0_22.size 0 + win0_22.xsize (grid0.coords t) 0
      rw [e.1, e.2.1]; exact h
    | ⟨1, _⟩ =>
      show win0_22.index t 1 * win0_22.size 1 ≤ (i 1 : Nat)
        ∧ (i 1 : Nat) < win0_22.index t 1 * win0_22.size 1 + win0_22.xsize (grid0.coords t) 1
      rw [e.2.2.1, e.2.2.2]; omega

/-- The blocks cover the array. -/
theorem cover22 (i : S16384x256.Idx) : ∃ t : Fin cfg0.N, (cfg0.win 22).flush t = true ∧ i ∈ ((cfg0.win 22).blk t).view.set := by
  have h0 : (i 0 : Nat) < 16384 := (i 0).isLt
  have hN : cfg0.N = 16 := N_0
  exact ⟨⟨(i 0 : Nat) / 1024, by omega⟩, flush0_22 _, (mem_blk22 _ i).mpr ⟨by show (i 0 : Nat) / 1024 * 1024 ≤ _; omega,
    by show _ < (i 0 : Nat) / 1024 * 1024 + 1024; omega⟩⟩

/-- The array after the run. -/
theorem final22 (c : Dev nD) : (dats m 0 c).arrAt 22 cfg0.N = arr22 m c :=
  (dats m 0 c).arrAt_eq_of_cover 22 (arr22 m c) (fun t _ => flushed_eq22 m c t) cover22

set_option maxHeartbeats 4000000 in
/-- From memories that agree on the arguments, the kernel's nine arrays are the reference's. -/
theorem algebraic : Cert.algebraic_InputIdeal_InputRefIdeal := by
  intro m g m' g' _ hargs
  refine ⟨arr14 m, arr15 m, arr16 m, arr17 m, arr18 m, arr19 m, arr20 m, arr21 m, arr22 m, (θ_run defs _ _).mono (fun r h c => ?_) (Value.run_blocks m g), ?_⟩
  · obtain ⟨h14, h15, h16, h17, h18, h19, h20, h21, h22, hrest⟩ := h c
    exact ⟨h14.trans (final14 m c), h15.trans (final15 m c), h16.trans (final16 m c), h17.trans (final17 m c), h18.trans (final18 m c), h19.trans (final19 m c), h20.trans (final20 m c), h21.trans (final21 m c), h22.trans (final22 m c), hrest⟩
  refine (θ_run Cert.InputRefIdeal.defs _ _).mono (fun r h c => ?_) (Cert.InputRefIdeal.Value.run m' g')
  obtain ⟨e14, e15, e16, e17, e18, e19, e20, e21, e22, hrest⟩ := h c
  obtain ⟨a0, a1, a2, a3, a4⟩ := hargs c
  refine ⟨e14.trans ?_, e15.trans ?_, e16.trans ?_, e17.trans ?_, e18.trans ?_, e19.trans ?_, e20.trans ?_, e21.trans ?_, e22.trans ?_, hrest⟩
  · exact (Cert.InputRefIdeal.Read.val_main_v41_eq _ _).trans (congr (congr (congr (congrArg _ a0) a1) a2) a3)
  · exact (Cert.InputRefIdeal.Read.val_main_v42_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)
  · exact (Cert.InputRefIdeal.Read.val_main_v43_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)
  · exact (Cert.InputRefIdeal.Read.val_main_v60_eq _ _).trans (congr (congr (congr (congrArg _ a0) a1) a2) a4)
  · exact (Cert.InputRefIdeal.Read.val_main_v61_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)
  · exact (Cert.InputRefIdeal.Read.val_main_v78_eq _ _).trans (congr (congr (congr (congrArg _ a0) a1) a2) a4)
  · exact (Cert.InputRefIdeal.Read.val_main_v79_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)
  · exact (Cert.InputRefIdeal.Read.val_main_v87_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)
  · exact (Cert.InputRefIdeal.Read.val_main_v88_eq (m' ((c.tc : Thread Cert.InputRefIdeal.nD Cert.InputRefIdeal.τ).loc Cert.InputRefIdeal.main_arg0)) (m' ((c.tc : Thread Cert.InputRefIdeal.nD Cert.InputRefIdeal.τ).loc Cert.InputRefIdeal.main_arg1)) (m' ((c.tc : Thread Cert.InputRefIdeal.nD Cert.InputRefIdeal.τ).loc Cert.InputRefIdeal.main_arg2))).trans (congr (congr (congrArg _ a0) a1) a2)

end Cert.InputIdeal.Rows

end
-- ==== Proof.SampleRows.lean ====
module

public import proofs.«01_k».proof.Proof.Gen.SampleIdeal.Frame
public import proofs.«01_k».proof.Proof.ProjSpec
public import Idealize.ShloMosaic.Lib.Pointwise
public import Idealize.ShloMosaic.Lib.Pipeline.ValueKit

/-!
  What a block of the rows of the sample becomes in the input projection of the attention layer: products with the column ranges of the
  weight, the heads of the queries and keys normalized, the gates through the logistic function.
-/

@[expose] public section

set_option maxRecDepth 16384

noncomputable section

namespace Cert.SampleIdeal.Rows

open Idealize.ShloMosaic Idealize.ShloMosaic.TcCoe Idealize.SL.Sem
open Cert.SampleIdeal Cert.SampleIdeal.Gen Cert.Router

section
variable (v0 : Vec Ideal S32x1024 .f32) (v1 : Vec Ideal S1x1024 .f32)

/-- The normalized rows of a block. -/
theorem pay1_apply (r : Fin 32) (c : Fin 1024) :
    k0_pay1 v0 v1 (ix2 r c) = hRow (fun k => v0 (ix2 r k)) (fun k => v1 (ix2 0 k)) c := by
  unfold k0_pay1 hRow
  pointwise

/-- The product of the queries. -/
theorem pay2_apply (w : Vec Ideal S1024x768 .bf16) (r : Fin 32) (l : Fin 768) :
    k0_pay2 v0 v1 w (ix2 r l) = projRow (hRow (fun k => v0 (ix2 r k)) (fun k => v1 (ix2 0 k))) (fun k l => w (ix2 k l)) l := by
  have h := pay1_apply v0 v1 r
  unfold k0_pay2 projRow
  generalize k0_pay1 v0 v1 = y at h
  pointwise
  simp only [h]

/-- The product of the compressed keys. -/
theorem pay27_apply (w : Vec Ideal S1024x192 .bf16) (r : Fin 32) (l : Fin 192) :
    k0_pay27 (k0_pay1 v0 v1) w (ix2 r l) = projRow (hRow (fun k => v0 (ix2 r k)) (fun k => v1 (ix2 0 k))) (fun k l => w (ix2 k l)) l := by
  have h := pay1_apply v0 v1 r
  unfold k0_pay27 projRow
  generalize k0_pay1 v0 v1 = y at h
  pointwise
  simp only [h]

/-- The product of the compressed values. -/
theorem pay28_apply (w : Vec Ideal S1024x192 .bf16) (r : Fin 32) (l : Fin 192) :
    k0_pay28 (k0_pay1 v0 v1) w (ix2 r l) = projRow (hRow (fun k => v0 (ix2 r k)) (fun k => v1 (ix2 0 k))) (fun k l => w (ix2 k l)) l := by
  have h := pay1_apply v0 v1 r
  unfold k0_pay28 projRow
  generalize k0_pay1 v0 v1 = y at h
  pointwise
  simp only [h]

/-- The product of the selected keys. -/
theorem pay29_apply (w : Vec Ideal S1024x192 .bf16) (r : Fin 32) (l : Fin 192) :
    k0_pay29 (k0_pay1 v0 v1) w (ix2 r l) = projRow (hRow (fun k => v0 (ix2 r k)) (fun k => v1 (ix2 0 k))) (fun k l => w (ix2 k l)) l := by
  have h := pay1_apply v0 v1 r
  unfold k0_pay29 projRow
  generalize k0_pay1 v0 v1 = y at h
  pointwise
  simp only [h]

/-- The product of the selected values. -/
theorem pay34_apply (w : Vec Ideal S1024x192 .bf16) (r : Fin 32) (l : Fin 192) :
    k0_pay34 (k0_pay1 v0 v1) w (ix2 r l) = projRow (hRow (fun k => v0 (ix2 r k)) (fun k => v1 (ix2 0 k))) (fun k l => w (ix2 k l)) l := by
  have h := pay1_apply v0 v1 r
  unfold k0_pay34 projRow
  generalize k0_pay1 v0 v1 = y at h
  pointwise
  simp only [h]

/-- The product of the window keys. -/
theorem pay35_apply (w : Vec Ideal S1024x192 .bf16) (r : Fin 32) (l : Fin 192) :
    k0_pay35 (k0_pay1 v0 v1) w (ix2 r l) = projRow (hRow (fun k => v0 (ix2 r k)) (fun k => v1 (ix2 0 k))) (fun k l => w (ix2 k l)) l := by
  have h := pay1_apply v0 v1 r
  unfold k0_pay35 projRow
  generalize k0_pay1 v0 v1 = y at h
  pointwise
  simp only [h]

/-- The product of the window values. -/
theorem pay41_apply (w : Vec Ideal S1024x192 .bf16) (r : Fin 32) (l : Fin 192) :
    k0_pay41 (k0_pay1 v0 v1) w (ix2 r l) = projRow (hRow (fun k => v0 (ix2 r k)) (fun k => v1 (ix2 0 k))) (fun k l => w (ix2 k l)) l := by
  have h := pay1_apply v0 v1 r
  unfold k0_pay41 projRow
  generalize k0_pay1 v0 v1 = y at h
  pointwise
  simp only [h]

/-- The product of the memory queries. -/
theorem pay43_apply (w : Vec Ideal S1024x256 .bf16) (r : Fin 32) (l : Fin 256) :
    k0_pay43 (k0_pay1 v0 v1) w (ix2 r l) = projRow (hRow (fun k => v0 (ix2 r k)) (fun k => v1 (ix2 0 k))) (fun k l => w (ix2 k l)) l := by
  have h := pay1_apply v0 v1 r
  unfold k0_pay43 projRow
  generalize k0_pay1 v0 v1 = y at h
  pointwise
  simp only [h]

/-- The gates. -/
theorem pay42_apply (w : Vec Ideal S1024x128 .bf16) (r : Fin 32) (l : Fin 128) :
    k0_pay42 (k0_pay1 v0 v1) w (ix2 r l) = Ideal.logistic (projRow (hRow (fun k => v0 (ix2 r k)) (fun k => v1 (ix2 0 k))) (fun k l => w (ix2 k l)) l) := by
  have h := pay1_apply v0 v1 r
  unfold k0_pay42 projRow
  generalize k0_pay1 v0 v1 = y at h
  pointwise
  simp only [h]
  all_goals rfl

end

/-! ## Two heads side by side -/

/-- The queries' gains as the body reads them. -/
theorem pay3_apply (g : Vec Ideal S1x128 .f32) (l : Fin 128) : k0_pay3 g (ix2 0 l) = g (ix2 0 l) := by
  unfold k0_pay3
  pointwise

/-- The selected keys' gains as the body reads them. -/
theorem pay30_apply (g : Vec Ideal S1x128 .f32) (l : Fin 128) : k0_pay30 g (ix2 0 l) = g (ix2 0 l) := by
  unfold k0_pay30
  pointwise

/-- The window keys' gains as the body reads them. -/
theorem pay36_apply (g : Vec Ideal S1x128 .f32) (l : Fin 128) : k0_pay36 g (ix2 0 l) = g (ix2 0 l) := by
  unfold k0_pay36
  pointwise

/-- Two heads of a row, at the columns from 0 on. -/
theorem tile0 (v0 : Vec Ideal S32x1024 .f32) (v1 : Vec Ideal S1x1024 .f32) (w : Vec Ideal S1024x768 .bf16) (g : FVec Ideal S1x128 .f32) (r : Fin 32) (l : Fin 128) :
    k0_pay10 g (k0_pay5 v0 v1 w) (k0_pay7 v0 v1 w) k0_pay8 (k0_pay9 v0 v1 w) (ix2 r l) = tileNorm (fun k => k0_pay2 v0 v1 w (ix2 r ⟨0 + k.val, by omega⟩)) (fun k => g (ix2 0 k)) l := by
  rw [← tileWords_eq]
  unfold k0_pay10 k0_pay9 k0_pay8 k0_pay7 k0_pay6 k0_pay5 k0_pay4 tileWords lowWord
  generalize k0_pay2 v0 v1 w = z
  pointwise

/-- Two heads of a row, at the columns from 128 on. -/
theorem tile1 (z : FVec Ideal S32x768 .f32) (g : FVec Ideal S1x128 .f32) (r : Fin 32) (l : Fin 128) :
    k0_pay11 z g k0_pay4 (ix2 r l) = tileNorm (fun k => z (ix2 r ⟨128 + k.val, by omega⟩)) (fun k => g (ix2 0 k)) l := by
  rw [← tileWords_eq]
  unfold k0_pay11 k0_pay4 tileWords lowWord
  pointwise

/-- Two heads of a row, at the columns from 256 on. -/
theorem tile2 (z : FVec Ideal S32x768 .f32) (g : FVec Ideal S1x128 .f32) (r : Fin 32) (l : Fin 128) :
    k0_pay14 g k0_pay4 (k0_pay12 z) (k0_pay13 z) (FloatOps.ofBits FTy.f32 0#32) (ix2 r l) = tileNorm (fun k => z (ix2 r ⟨256 + k.val, by omega⟩)) (fun k => g (ix2 0 k)) l := by
  rw [← tileWords_eq]
  unfold k0_pay14 k0_pay13 k0_pay12 k0_pay4 tileWords lowWord
  pointwise

/-- Two heads of a row, at the columns from 384 on. -/
theorem tile3 (z : FVec Ideal S32x768 .f32) (g : FVec Ideal S1x128 .f32) (r : Fin 32) (l : Fin 128) :
    k0_pay20 g (k0_pay15 z) (k0_pay17 k0_pay4) (k0_pay18 z k0_pay4) (k0_pay19 z k0_pay4) (ix2 r l) = tileNorm (fun k => z (ix2 r ⟨384 + k.val, by omega⟩)) (fun k => g (ix2 0 k)) l := by
  rw [← tileWords_eq]
  unfold k0_pay20 k0_pay19 k0_pay18 k0_pay17 k0_pay16 k0_pay15 k0_pay4 tileWords lowWord
  pointwise

/-- Two heads of a row, at the columns from 512 on. -/
theorem tile4 (z : FVec Ideal S32x768 .f32) (g : FVec Ideal S1x128 .f32) (r : Fin 32) (l : Fin 128) :
    k0_pay21 z g k0_pay4 (ix2 r l) = tileNorm (fun k => z (ix2 r ⟨512 + k.val, by omega⟩)) (fun k => g (ix2 0 k)) l := by
  rw [← tileWords_eq]
  unfold k0_pay21 k0_pay4 tileWords lowWord
  pointwise

/-- Two heads of a row, at the columns from 640 on. -/
theorem tile5 (z : FVec Ideal S32x768 .f32) (g : FVec Ideal S1x128 .f32) (r : Fin 32) (l : Fin 128) :
    k0_pay26 g k0_pay4 (k0_pay22 z) (k0_pay23 z) (k0_pay24 k0_pay4) k0_pay25 (ix2 r l) = tileNorm (fun k => z (ix2 r ⟨640 + k.val, by omega⟩)) (fun k => g (ix2 0 k)) l := by
  rw [← tileWords_eq]
  unfold k0_pay26 k0_pay25 k0_pay24 k0_pay23 k0_pay22 k0_pay4 tileWords lowWord
  pointwise

/-- Two heads of a row, at the columns from 0 on. -/
theorem tile_s (z : FVec Ideal S32x192 .f32) (g : Vec Ideal S1x128 .f32) (r : Fin 32) (l : Fin 128) :
    k0_pay31 z g (ix2 r l) = tileNorm (fun k => z (ix2 r ⟨0 + k.val, by omega⟩)) (fun k => k0_pay30 g (ix2 0 k)) l := by
  rw [← tileWords_eq]
  unfold k0_pay31 tileWords lowWord
  generalize k0_pay30 g = y
  pointwise

/-- Two heads of a row, at the columns from 0 on. -/
theorem tile_w (h : FVec Ideal S32x1024 .bf16) (w : Vec Ideal S1024x192 .bf16) (g : FVec Ideal S1x128 .f32) (r : Fin 32) (l : Fin 128) :
    k0_pay39 g (k0_pay37 h w) (k0_pay38 h w) (FloatOps.ofBits FTy.f32 897988541#32) (ix2 r l) = tileNorm (fun k => k0_pay35 h w (ix2 r ⟨0 + k.val, by omega⟩)) (fun k => g (ix2 0 k)) l := by
  rw [← tileWords_eq]
  unfold k0_pay39 k0_pay38 k0_pay37 tileWords lowWord
  generalize k0_pay35 h w = z
  pointwise

/-- The last head of a row of three. -/
theorem half_s (z : FVec Ideal S32x192 .f32) (g : FVec Ideal S1x128 .f32) (r : Fin 32) (l : Fin 64) :
    k0_pay33 g (k0_pay32 z) (ix2 r l) = headRow (by decide : 64 % 64 = 0) (fun k : Fin 64 => z (ix2 r ⟨128 + k.val, by omega⟩)) (fun k => g (ix2 0 ⟨k.val, by omega⟩)) l := by
  rw [← halfNorm_eq]
  unfold k0_pay33 k0_pay32
  pointwise
  all_goals rfl

/-- The last head of a row of three. -/
theorem half_w (z : FVec Ideal S32x192 .f32) (g : FVec Ideal S1x128 .f32) (r : Fin 32) (l : Fin 64) :
    k0_pay40 z g (ix2 r l) = headRow (by decide : 64 % 64 = 0) (fun k : Fin 64 => z (ix2 r ⟨128 + k.val, by omega⟩)) (fun k => g (ix2 0 ⟨k.val, by omega⟩)) l := by
  rw [← halfNorm_eq]
  unfold k0_pay40
  pointwise
  all_goals rfl

/-! ## What a grid point leaves -/

variable (m : (ℓ : Loc nD τ sig) → Buf (Elt Ideal) ℓ)

/-- The queries of a point's rows. -/
theorem out14_apply (c : Dev nD) (t : Fin cfg0.N) (gain : Fin 64 → EReal)
    (hg : ∀ l : Fin 128, (iblk m c 11 t : Vec Ideal S1x128 .f32) (ix2 0 l) = gain (inHead l)) (y : Fin 768 → EReal) (r : Fin 32)
    (hy : ∀ l, k0_pay2 (iblk m c 0 t) (iblk m c 1 t) (iblk m c 2 t) (ix2 r l) = y l) (l : Fin 768) :
    (outsAt0 m c t).1 (ix2 r l) = headRow (by decide : 768 % 64 = 0) y gain l := by
  have hg3 : ∀ l : Fin 128, k0_pay3 (F := Ideal) (iblk m c 11 t) (ix2 0 l) = gain (inHead l) := fun l => (pay3_apply _ l).trans (hg l)
  unfold outsAt0
  frame_out
  canon_tiles x h
  · obtain ⟨r', l', rfl⟩ : ∃ (r' : Fin 32) (l' : Fin 128), x = ix2 r' l' := ⟨x 0, x 1, eq_ix2 x⟩
    obtain rfl : r = r' := Fin.ext h0
    refine (tile5 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 640 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile4 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 512 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile3 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 384 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile2 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 256 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile1 (k0_pay2 (iblk m c 0 t) (iblk m c 1 t) (iblk m c 2 t)) (k0_pay3 (iblk m c 11 t)) r l').trans ((tileNorm_eq _ _ gain hg3 l').trans ?_)
    simp only [hy]
    refine (headRow_sub (by decide : 768 % 64 = 0) (by decide) 128 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile0 (iblk m c 0 t) (iblk m c 1 t) (iblk m c 2 t) (k0_pay3 (iblk m c 11 t)) r l').trans ((tileNorm_eq _ _ gain hg3 l').trans ?_)
    simp only [hy]
    refine (headRow_sub (by decide : 768 % 64 = 0) (by decide) 0 (by decide) (by decide) y gain l').trans ?_
    exact congrArg _ (Fin.ext ((Nat.zero_add _).trans h1.symm))

/-- The selected keys of a point's rows. -/
theorem out17_apply (c : Dev nD) (t : Fin cfg0.N) (gain : Fin 64 → EReal)
    (hg : ∀ l : Fin 128, (iblk m c 12 t : Vec Ideal S1x128 .f32) (ix2 0 l) = gain (inHead l)) (y : Fin 192 → EReal) (r : Fin 32)
    (hy : ∀ l, k0_pay29 (k0_pay1 (iblk m c 0 t) (iblk m c 1 t)) (iblk m c 5 t) (ix2 r l) = y l) (l : Fin 192) :
    (outsAt0 m c t).2.2.2.1 (ix2 r l) = headRow (by decide : 192 % 64 = 0) y gain l := by
  have hg3 : ∀ l : Fin 128, k0_pay30 (F := Ideal) (iblk m c 12 t) (ix2 0 l) = gain (inHead l) := fun l => (pay30_apply _ l).trans (hg l)
  have hg4 : (fun k : Fin 64 => k0_pay30 (F := Ideal) (iblk m c 12 t) (ix2 0 ⟨k.val, by omega⟩)) = gain := by
    funext k
    exact (hg3 _).trans (congrArg gain (Fin.ext (by show k.val % 64 = k.val; omega)))
  unfold outsAt0
  frame_out
  canon_tiles x h using (View.cover_of_tiledBy _ ![32, 64] (by sl_kernel_rfl) _)
  · obtain ⟨r', l', rfl⟩ : ∃ (r' : Fin 32) (l' : Fin 64), x = ix2 r' l' := ⟨x 0, x 1, eq_ix2 x⟩
    obtain rfl : r = r' := Fin.ext h0
    refine (half_s (k0_pay29 (k0_pay1 (iblk m c 0 t) (iblk m c 1 t)) (iblk m c 5 t)) (k0_pay30 (iblk m c 12 t)) r l').trans ?_
    rw [hg4]
    simp only [hy]
    refine (headRow_sub (by decide : 192 % 64 = 0) (by decide) 128 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile_s (k0_pay29 (k0_pay1 (iblk m c 0 t) (iblk m c 1 t)) (iblk m c 5 t)) (iblk m c 12 t) r l').trans ((tileNorm_eq _ _ gain hg3 l').trans ?_)
    simp only [hy]
    refine (headRow_sub (by decide : 192 % 64 = 0) (by decide) 0 (by decide) (by decide) y gain l').trans ?_
    exact congrArg _ (Fin.ext ((Nat.zero_add _).trans h1.symm))

/-- The window keys of a point's rows. -/
theorem out19_apply (c : Dev nD) (t : Fin cfg0.N) (gain : Fin 64 → EReal)
    (hg : ∀ l : Fin 128, (iblk m c 13 t : Vec Ideal S1x128 .f32) (ix2 0 l) = gain (inHead l)) (y : Fin 192 → EReal) (r : Fin 32)
    (hy : ∀ l, k0_pay35 (k0_pay1 (iblk m c 0 t) (iblk m c 1 t)) (iblk m c 7 t) (ix2 r l) = y l) (l : Fin 192) :
    (outsAt0 m c t).2.2.2.2.2.1 (ix2 r l) = headRow (by decide : 192 % 64 = 0) y gain l := by
  have hg3 : ∀ l : Fin 128, k0_pay36 (F := Ideal) (iblk m c 13 t) (ix2 0 l) = gain (inHead l) := fun l => (pay36_apply _ l).trans (hg l)
  have hg4 : (fun k : Fin 64 => k0_pay36 (F := Ideal) (iblk m c 13 t) (ix2 0 ⟨k.val, by omega⟩)) = gain := by
    funext k
    exact (hg3 _).trans (congrArg gain (Fin.ext (by show k.val % 64 = k.val; omega)))
  unfold outsAt0
  frame_out
  canon_tiles x h using (View.cover_of_tiledBy _ ![32, 64] (by sl_kernel_rfl) _)
  · obtain ⟨r', l', rfl⟩ : ∃ (r' : Fin 32) (l' : Fin 64), x = ix2 r' l' := ⟨x 0, x 1, eq_ix2 x⟩
    obtain rfl : r = r' := Fin.ext h0
    refine (half_w (k0_pay35 (k0_pay1 (iblk m c 0 t) (iblk m c 1 t)) (iblk m c 7 t)) (k0_pay36 (iblk m c 13 t)) r l').trans ?_
    rw [hg4]
    simp only [hy]
    refine (headRow_sub (by decide : 192 % 64 = 0) (by decide) 128 (by decide) (by decide) y gain l').trans ?_
    exact congrArg _ (Fin.ext h1.symm)
  · obtain ⟨r', l', rfl⟩ : ∃ (r' : Fin 32) (l' : Fin 128), x = ix2 r' l' := ⟨x 0, x 1, eq_ix2 x⟩
    obtain rfl : r = r' := Fin.ext h0
    refine (tile_w (k0_pay1 (iblk m c 0 t) (iblk m c 1 t)) (iblk m c 7 t) (k0_pay36 (iblk m c 13 t)) r l').trans ((tileNorm_eq _ _ gain hg3 l').trans ?_)
    simp only [hy]
    refine (headRow_sub (by decide : 192 % 64 = 0) (by decide) 0 (by decide) (by decide) y gain l').trans ?_
    exact congrArg _ (Fin.ext ((Nat.zero_add _).trans h1.symm))

/-- The compressed keys of a point's rows. -/
theorem out15_apply (c : Dev nD) (t : Fin cfg0.N) (r : Fin 32) (l : Fin 192) :
    (outsAt0 m c t).2.1 (ix2 r l) = k0_pay27 (F := Ideal) (k0_pay1 (iblk m c 0 t) (iblk m c 1 t)) (iblk m c 3 t) (ix2 r l) := by
  unfold outsAt0
  frame_out

/-- The compressed values of a point's rows. -/
theorem out16_apply (c : Dev nD) (t : Fin cfg0.N) (r : Fin 32) (l : Fin 192) :
    (outsAt0 m c t).2.2.1 (ix2 r l) = k0_pay28 (F := Ideal) (k0_pay1 (iblk m c 0 t) (iblk m c 1 t)) (iblk m c 4 t) (ix2 r l) := by
  unfold outsAt0
  frame_out

/-- The selected values of a point's rows. -/
theorem out18_apply (c : Dev nD) (t : Fin cfg0.N) (r : Fin 32) (l : Fin 192) :
    (outsAt0 m c t).2.2.2.2.1 (ix2 r l) = k0_pay34 (F := Ideal) (k0_pay1 (iblk m c 0 t) (iblk m c 1 t)) (iblk m c 6 t) (ix2 r l) := by
  unfold outsAt0
  frame_out

/-- The window values of a point's rows. -/
theorem out20_apply (c : Dev nD) (t : Fin cfg0.N) (r : Fin 32) (l : Fin 192) :
    (outsAt0 m c t).2.2.2.2.2.2.1 (ix2 r l) = k0_pay41 (F := Ideal) (k0_pay1 (iblk m c 0 t) (iblk m c 1 t)) (iblk m c 8 t) (ix2 r l) := by
  unfold outsAt0
  frame_out

/-- The gates of a point's rows. -/
theorem out21_apply (c : Dev nD) (t : Fin cfg0.N) (r : Fin 32) (l : Fin 128) :
    (outsAt0 m c t).2.2.2.2.2.2.2.1 (ix2 r l) = k0_pay42 (F := Ideal) (k0_pay1 (iblk m c 0 t) (iblk m c 1 t)) (iblk m c 9 t) (ix2 r l) := by
  unfold outsAt0
  frame_out

/-- The memory queries of a point's rows. -/
theorem out22_apply (c : Dev nD) (t : Fin cfg0.N) (r : Fin 32) (l : Fin 256) :
    (outsAt0 m c t).2.2.2.2.2.2.2.2 (ix2 r l) = k0_pay43 (F := Ideal) (k0_pay1 (iblk m c 0 t) (iblk m c 1 t)) (iblk m c 10 t) (ix2 r l) := by
  unfold outsAt0
  frame_out

end Cert.SampleIdeal.Rows

end
-- ==== Proof.SampleRef.lean ====
module

public import proofs.«01_k».proof.Proof.Gen.SampleRefIdeal.Read
public import proofs.«01_k».proof.Proof.ProjSpec
public import Idealize.ShloMosaic.Lib.Pointwise
public import Idealize.ShloMosaic.Lib.KernelVsHost

/-!
  The reference of the input projection on the rows of the sample, read row by row.
-/

@[expose] public section

set_option maxRecDepth 16384

noncomputable section

namespace Cert.SampleRefIdeal.Rows

open Idealize.ShloMosaic Idealize.ShloMosaic.TcCoe Idealize.SL.Sem
open Cert.SampleRefIdeal Cert.SampleRefIdeal.Read Cert.Router

/-- The sequence of a row. -/
def bOf (i : Fin 32) : Fin 32 := ⟨i.val / 1, by omega⟩
/-- The place of a row in its sequence. -/
def sOf (i : Fin 32) : Fin 1 := ⟨i.val % 1, by omega⟩

variable (x0 : Vec Ideal S32x1x1024 .f32) (x1 : Vec Ideal S2x1024 .f32) (x2 : Vec Ideal S1x1024x2212 .f32) (x3 : Vec Ideal S1x64 .f32)
  (x4 : Vec Ideal S1x3x64 .f32)

/-- The normalized rows. -/
theorem ref_h (b : Fin 32) (s : Fin 1) (k : Fin 1024) : val_main_v14 (F := Ideal) x0 x1 (ix3 b s k) = (hRow (fun k => x0 (ix3 b s k)) (fun k => x1 (ix2 0 k))) k := by
  obtain rfl : s = 0 := Subsingleton.elim _ _
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 hRow
  pointwise

/-- The product with the whole weight. -/
theorem ref_p (b : Fin 32) (s : Fin 1) (l : Fin 2212) : val_main_v16 (F := Ideal) x0 x1 x2 (ix3 b s l)
    = projRow (hRow (fun k => x0 (ix3 b s k)) (fun k => x1 (ix2 0 k))) (fun k l => x2 (ix3 0 k l)) l := by
  have h := ref_h x0 x1 b s
  unfold val_main_v16 val_main_v15 projRow
  generalize val_main_v14 (F := Ideal) x0 x1 = y at h
  pointwise
  simp only [h]

/-- The columns from 0 on. -/
theorem ref_v17 (b : Fin 32) (s : Fin 1) (l : Fin 768) : val_main_v17 (F := Ideal) x0 x1 x2 (ix3 b s l)
    = projRow (hRow (fun k => x0 (ix3 b s k)) (fun k => x1 (ix2 0 k))) (fun k l => x2 (ix3 0 k ⟨l.val, by omega⟩)) l := by
  obtain rfl : s = 0 := Subsingleton.elim _ _
  have h := ref_p x0 x1 x2 b 0
  unfold val_main_v17
  generalize val_main_v16 (F := Ideal) x0 x1 x2 = y at h
  pointwise
  exact (h _).trans rfl

/-- The columns from 768 on. -/
theorem ref_v18 (b : Fin 32) (s : Fin 1) (l : Fin 192) : val_main_v18 (F := Ideal) x0 x1 x2 (ix3 b s l)
    = projRow (hRow (fun k => x0 (ix3 b s k)) (fun k => x1 (ix2 0 k))) (fun k l => x2 (ix3 0 k ⟨768 + l.val, by omega⟩)) l := by
  obtain rfl : s = 0 := Subsingleton.elim _ _
  have h := ref_p x0 x1 x2 b 0
  unfold val_main_v18
  generalize val_main_v16 (F := Ideal) x0 x1 x2 = y at h
  pointwise
  exact (h _).trans rfl

/-- The columns from 960 on. -/
theorem ref_v19 (b : Fin 32) (s : Fin 1) (l : Fin 192) : val_main_v19 (F := Ideal) x0 x1 x2 (ix3 b s l)
    = projRow (hRow (fun k => x0 (ix3 b s k)) (fun k => x1 (ix2 0 k))) (fun k l => x2 (ix3 0 k ⟨960 + l.val, by omega⟩)) l := by
  obtain rfl : s = 0 := Subsingleton.elim _ _
  have h := ref_p x0 x1 x2 b 0
  unfold val_main_v19
  generalize val_main_v16 (F := Ideal) x0 x1 x2 = y at h
  pointwise
  exact (h _).trans rfl

/-- The columns from 1152 on. -/
theorem ref_v20 (b : Fin 32) (s : Fin 1) (l : Fin 192) : val_main_v20 (F := Ideal) x0 x1 x2 (ix3 b s l)
    = projRow (hRow (fun k => x0 (ix3 b s k)) (fun k => x1 (ix2 0 k))) (fun k l => x2 (ix3 0 k ⟨1152 + l.val, by omega⟩)) l := by
  obtain rfl : s = 0 := Subsingleton.elim _ _
  have h := ref_p x0 x1 x2 b 0
  unfold val_main_v20
  generalize val_main_v16 (F := Ideal) x0 x1 x2 = y at h
  pointwise
  exact (h _).trans rfl

/-- The columns from 1344 on. -/
theorem ref_v21 (b : Fin 32) (s : Fin 1) (l : Fin 192) : val_main_v21 (F := Ideal) x0 x1 x2 (ix3 b s l)
    = projRow (hRow (fun k => x0 (ix3 b s k)) (fun k => x1 (ix2 0 k))) (fun k l => x2 (ix3 0 k ⟨1344 + l.val, by omega⟩)) l := by
  obtain rfl : s = 0 := Subsingleton.elim _ _
  have h := ref_p x0 x1 x2 b 0
  unfold val_main_v21
  generalize val_main_v16 (F := Ideal) x0 x1 x2 = y at h
  pointwise
  exact (h _).trans rfl

/-- The columns from 1536 on. -/
theorem ref_v22 (b : Fin 32) (s : Fin 1) (l : Fin 192) : val_main_v22 (F := Ideal) x0 x1 x2 (ix3 b s l)
    = projRow (hRow (fun k => x0 (ix3 b s k)) (fun k => x1 (ix2 0 k))) (fun k l => x2 (ix3 0 k ⟨1536 + l.val, by omega⟩)) l := by
  obtain rfl : s = 0 := Subsingleton.elim _ _
  have h := ref_p x0 x1 x2 b 0
  unfold val_main_v22
  generalize val_main_v16 (F := Ideal) x0 x1 x2 = y at h
  pointwise
  exact (h _).trans rfl

/-- The columns from 1728 on. -/
theorem ref_v23 (b : Fin 32) (s : Fin 1) (l : Fin 192) : val_main_v23 (F := Ideal) x0 x1 x2 (ix3 b s l)
    = projRow (hRow (fun k => x0 (ix3 b s k)) (fun k => x1 (ix2 0 k))) (fun k l => x2 (ix3 0 k ⟨1728 + l.val, by omega⟩)) l := by
  obtain rfl : s = 0 := Subsingleton.elim _ _
  have h := ref_p x0 x1 x2 b 0
  unfold val_main_v23
  generalize val_main_v16 (F := Ideal) x0 x1 x2 = y at h
  pointwise
  exact (h _).trans rfl

/-- The columns from 1920 on. -/
theorem ref_v24 (b : Fin 32) (s : Fin 1) (l : Fin 36) : val_main_v24 (F := Ideal) x0 x1 x2 (ix3 b s l)
    = projRow (hRow (fun k => x0 (ix3 b s k)) (fun k => x1 (ix2 0 k))) (fun k l => x2 (ix3 0 k ⟨1920 + l.val, by omega⟩)) l := by
  obtain rfl : s = 0 := Subsingleton.elim _ _
  have h := ref_p x0 x1 x2 b 0
  unfold val_main_v24
  generalize val_main_v16 (F := Ideal) x0 x1 x2 = y at h
  pointwise
  exact (h _).trans rfl

/-- The columns from 1956 on. -/
theorem ref_v25 (b : Fin 32) (s : Fin 1) (l : Fin 256) : val_main_v25 (F := Ideal) x0 x1 x2 (ix3 b s l)
    = projRow (hRow (fun k => x0 (ix3 b s k)) (fun k => x1 (ix2 0 k))) (fun k l => x2 (ix3 0 k ⟨1956 + l.val, by omega⟩)) l := by
  obtain rfl : s = 0 := Subsingleton.elim _ _
  have h := ref_p x0 x1 x2 b 0
  unfold val_main_v25
  generalize val_main_v16 (F := Ideal) x0 x1 x2 = y at h
  pointwise
  exact (h _).trans rfl

/-- The heads of the queries. -/
theorem ref_v26 (b : Fin 32) (s : Fin 1) (h : Fin 12) (d : Fin 64) : val_main_v26 (F := Ideal) x0 x1 x2 (ix4 b s h d)
    = val_main_v17 (F := Ideal) x0 x1 x2 (ix3 b s ⟨h.val * 64 + d.val, by omega⟩) := by
  unfold val_main_v26
  exact shapeCast_apply _ _ _ _ (by
    rewrite [Shape.rowMajor_val_three, Shape.rowMajor_val_four]
    show (b.val * 1 + s.val) * 768 + (h.val * 64 + d.val) = ((b.val * 1 + s.val) * 12 + h.val) * 64 + d.val
    omega)

/-- The normalized heads of the queries. -/
theorem ref_v40 (b : Fin 32) (s : Fin 1) (h : Fin 12) (d : Fin 64) : val_main_v40 (F := Ideal) x0 x1 x2 x3 (ix4 b s h d)
    = headNorm (fun d => val_main_v26 (F := Ideal) x0 x1 x2 (ix4 b s h d)) (fun d => x3 (ix2 0 d)) d := by
  obtain rfl : s = 0 := Subsingleton.elim _ _
  unfold val_main_v40 val_main_v39 val_main_v38 val_main_v37 val_main_v36 val_main_v35 val_main_v34 val_main_v33 val_main_v32 val_main_v31 val_main_v30 val_main_v29 val_main_v28 val_main_v27 val_main_cst_2 val_main_cst_3 val_main_cst_4 headNorm
  generalize val_main_v26 (F := Ideal) x0 x1 x2 = y
  pointwise

/-- The queries. -/
theorem ref_v41 (i : Fin 32) (l : Fin 768) : val_main_v41 (F := Ideal) x0 x1 x2 x3 (ix2 i l)
    = headRow (by decide : 768 % 64 = 0) (projRow (hRow (fun k => x0 (ix3 (bOf i) (sOf i) k)) (fun k => x1 (ix2 0 k))) (fun k l => x2 (ix3 0 k ⟨l.val, by omega⟩))) (fun d => x3 (ix2 0 d)) l := by
  unfold val_main_v41
  refine (shapeCast_apply _ _ (ix2 i l) (ix4 (bOf i) (sOf i) ⟨l.val / 64, by omega⟩ (inHead l)) (by
    rewrite [Shape.rowMajor_val_four, Shape.rowMajor_val_two]
    show ((i.val / 1 * 1 + i.val % 1) * 12 + l.val / 64) * 64 + l.val % 64 = i.val * 768 + l.val
    omega)).trans ?_
  rw [ref_v40]
  simp only [ref_v26, ref_v17]
  rfl

/-- The heads of the selected keys. -/
theorem ref_v44 (b : Fin 32) (s : Fin 1) (h : Fin 3) (d : Fin 64) : val_main_v44 (F := Ideal) x0 x1 x2 (ix4 b s h d)
    = val_main_v20 (F := Ideal) x0 x1 x2 (ix3 b s ⟨h.val * 64 + d.val, by omega⟩) := by
  unfold val_main_v44
  exact shapeCast_apply _ _ _ _ (by
    rewrite [Shape.rowMajor_val_three, Shape.rowMajor_val_four]
    show (b.val * 1 + s.val) * 192 + (h.val * 64 + d.val) = ((b.val * 1 + s.val) * 3 + h.val) * 64 + d.val
    omega)

/-- The normalized heads of the selected keys. -/
theorem ref_v59 (b : Fin 32) (s : Fin 1) (h : Fin 3) (d : Fin 64) : val_main_v59 (F := Ideal) x0 x1 x2 x4 (ix4 b s h d)
    = headNorm (fun d => val_main_v44 (F := Ideal) x0 x1 x2 (ix4 b s h d)) (fun d => x4 (ix3 0 1 d)) d := by
  obtain rfl : s = 0 := Subsingleton.elim _ _
  unfold val_main_v59 val_main_v58 val_main_v57 val_main_v56 val_main_v55 val_main_v54 val_main_v53 val_main_v52 val_main_v51 val_main_v50 val_main_v49 val_main_v48 val_main_v47 val_main_v46 val_main_v45 val_main_cst_5 val_main_cst_6 val_main_cst_7 headNorm
  generalize val_main_v44 (F := Ideal) x0 x1 x2 = y
  pointwise

/-- The selected keys. -/
theorem ref_v60 (i : Fin 32) (l : Fin 192) : val_main_v60 (F := Ideal) x0 x1 x2 x4 (ix2 i l)
    = headRow (by decide : 192 % 64 = 0) (projRow (hRow (fun k => x0 (ix3 (bOf i) (sOf i) k)) (fun k => x1 (ix2 0 k))) (fun k l => x2 (ix3 0 k ⟨1152 + l.val, by omega⟩))) (fun d => x4 (ix3 0 1 d)) l := by
  unfold val_main_v60
  refine (shapeCast_apply _ _ (ix2 i l) (ix4 (bOf i) (sOf i) ⟨l.val / 64, by omega⟩ (inHead l)) (by
    rewrite [Shape.rowMajor_val_four, Shape.rowMajor_val_two]
    show ((i.val / 1 * 1 + i.val % 1) * 3 + l.val / 64) * 64 + l.val % 64 = i.val * 192 + l.val
    omega)).trans ?_
  rw [ref_v59]
  simp only [ref_v44, ref_v20]
  rfl

/-- The heads of the window keys. -/
theorem ref_v62 (b : Fin 32) (s : Fin 1) (h : Fin 3) (d : Fin 64) : val_main_v62 (F := Ideal) x0 x1 x2 (ix4 b s h d)
    = val_main_v22 (F := Ideal) x0 x1 x2 (ix3 b s ⟨h.val * 64 + d.val, by omega⟩) := by
  unfold val_main_v62
  exact shapeCast_apply _ _ _ _ (by
    rewrite [Shape.rowMajor_val_three, Shape.rowMajor_val_four]
    show (b.val * 1 + s.val) * 192 + (h.val * 64 + d.val) = ((b.val * 1 + s.val) * 3 + h.val) * 64 + d.val
    omega)

/-- The normalized heads of the window keys. -/
theorem ref_v77 (b : Fin 32) (s : Fin 1) (h : Fin 3) (d : Fin 64) : val_main_v77 (F := Ideal) x0 x1 x2 x4 (ix4 b s h d)
    = headNorm (fun d => val_main_v62 (F := Ideal) x0 x1 x2 (ix4 b s h d)) (fun d => x4 (ix3 0 2 d)) d := by
  obtain rfl : s = 0 := Subsingleton.elim _ _
  unfold val_main_v77 val_main_v76 val_main_v75 val_main_v74 val_main_v73 val_main_v72 val_main_v71 val_main_v70 val_main_v69 val_main_v68 val_main_v67 val_main_v66 val_main_v65 val_main_v64 val_main_v63 val_main_cst_8 val_main_cst_9 val_main_cst_10 headNorm
  generalize val_main_v62 (F := Ideal) x0 x1 x2 = y
  pointwise

/-- The window keys. -/
theorem ref_v78 (i : Fin 32) (l : Fin 192) : val_main_v78 (F := Ideal) x0 x1 x2 x4 (ix2 i l)
    = headRow (by decide : 192 % 64 = 0) (projRow (hRow (fun k => x0 (ix3 (bOf i) (sOf i) k)) (fun k => x1 (ix2 0 k))) (fun k l => x2 (ix3 0 k ⟨1536 + l.val, by omega⟩))) (fun d => x4 (ix3 0 2 d)) l := by
  unfold val_main_v78
  refine (shapeCast_apply _ _ (ix2 i l) (ix4 (bOf i) (sOf i) ⟨l.val / 64, by omega⟩ (inHead l)) (by
    rewrite [Shape.rowMajor_val_four, Shape.rowMajor_val_two]
    show ((i.val / 1 * 1 + i.val % 1) * 3 + l.val / 64) * 64 + l.val % 64 = i.val * 192 + l.val
    omega)).trans ?_
  rw [ref_v77]
  simp only [ref_v62, ref_v22]
  rfl

/-- The compressed keys. -/
theorem ref_v42 (i : Fin 32) (l : Fin 192) : val_main_v42 (F := Ideal) x0 x1 x2 (ix2 i l)
    = projRow (hRow (fun k => x0 (ix3 (bOf i) (sOf i) k)) (fun k => x1 (ix2 0 k))) (fun k l => x2 (ix3 0 k ⟨768 + l.val, by omega⟩)) l := by
  unfold val_main_v42
  refine (shapeCast_apply _ _ (ix2 i l) (ix3 (bOf i) (sOf i) l) (by
    rewrite [Shape.rowMajor_val_three, Shape.rowMajor_val_two]
    show (i.val / 1 * 1 + i.val % 1) * 192 + l.val = i.val * 192 + l.val
    omega)).trans ?_
  exact ref_v18 x0 x1 x2 (bOf i) (sOf i) l

/-- The compressed values. -/
theorem ref_v43 (i : Fin 32) (l : Fin 192) : val_main_v43 (F := Ideal) x0 x1 x2 (ix2 i l)
    = projRow (hRow (fun k => x0 (ix3 (bOf i) (sOf i) k)) (fun k => x1 (ix2 0 k))) (fun k l => x2 (ix3 0 k ⟨960 + l.val, by omega⟩)) l := by
  unfold val_main_v43
  refine (shapeCast_apply _ _ (ix2 i l) (ix3 (bOf i) (sOf i) l) (by
    rewrite [Shape.rowMajor_val_three, Shape.rowMajor_val_two]
    show (i.val / 1 * 1 + i.val % 1) * 192 + l.val = i.val * 192 + l.val
    omega)).trans ?_
  exact ref_v19 x0 x1 x2 (bOf i) (sOf i) l

/-- The selected values. -/
theorem ref_v61 (i : Fin 32) (l : Fin 192) : val_main_v61 (F := Ideal) x0 x1 x2 (ix2 i l)
    = projRow (hRow (fun k => x0 (ix3 (bOf i) (sOf i) k)) (fun k => x1 (ix2 0 k))) (fun k l => x2 (ix3 0 k ⟨1344 + l.val, by omega⟩)) l := by
  unfold val_main_v61
  refine (shapeCast_apply _ _ (ix2 i l) (ix3 (bOf i) (sOf i) l) (by
    rewrite [Shape.rowMajor_val_three, Shape.rowMajor_val_two]
    show (i.val / 1 * 1 + i.val % 1) * 192 + l.val = i.val * 192 + l.val
    omega)).trans ?_
  exact ref_v21 x0 x1 x2 (bOf i) (sOf i) l

/-- The window values. -/
theorem ref_v79 (i : Fin 32) (l : Fin 192) : val_main_v79 (F := Ideal) x0 x1 x2 (ix2 i l)
    = projRow (hRow (fun k => x0 (ix3 (bOf i) (sOf i) k)) (fun k => x1 (ix2 0 k))) (fun k l => x2 (ix3 0 k ⟨1728 + l.val, by omega⟩)) l := by
  unfold val_main_v79
  refine (shapeCast_apply _ _ (ix2 i l) (ix3 (bOf i) (sOf i) l) (by
    rewrite [Shape.rowMajor_val_three, Shape.rowMajor_val_two]
    show (i.val / 1 * 1 + i.val % 1) * 192 + l.val = i.val * 192 + l.val
    omega)).trans ?_
  exact ref_v23 x0 x1 x2 (bOf i) (sOf i) l

/-- The gates before the logistic function. -/
theorem ref_v80 (i : Fin 32) (l : Fin 36) : val_main_v80 (F := Ideal) x0 x1 x2 (ix2 i l)
    = projRow (hRow (fun k => x0 (ix3 (bOf i) (sOf i) k)) (fun k => x1 (ix2 0 k))) (fun k l => x2 (ix3 0 k ⟨1920 + l.val, by omega⟩)) l := by
  unfold val_main_v80
  refine (shapeCast_apply _ _ (ix2 i l) (ix3 (bOf i) (sOf i) l) (by
    rewrite [Shape.rowMajor_val_three, Shape.rowMajor_val_two]
    show (i.val / 1 * 1 + i.val % 1) * 36 + l.val = i.val * 36 + l.val
    omega)).trans ?_
  exact ref_v24 x0 x1 x2 (bOf i) (sOf i) l

/-- The memory queries. -/
theorem ref_v88 (i : Fin 32) (l : Fin 256) : val_main_v88 (F := Ideal) x0 x1 x2 (ix2 i l)
    = projRow (hRow (fun k => x0 (ix3 (bOf i) (sOf i) k)) (fun k => x1 (ix2 0 k))) (fun k l => x2 (ix3 0 k ⟨1956 + l.val, by omega⟩)) l := by
  unfold val_main_v88
  refine (shapeCast_apply _ _ (ix2 i l) (ix3 (bOf i) (sOf i) l) (by
    rewrite [Shape.rowMajor_val_three, Shape.rowMajor_val_two]
    show (i.val / 1 * 1 + i.val % 1) * 256 + l.val = i.val * 256 + l.val
    omega)).trans ?_
  exact ref_v25 x0 x1 x2 (bOf i) (sOf i) l

/-- The gates before the logistic function, zeros behind them. -/
theorem ref_v81 (i : Fin 32) (l : Fin 128) : val_main_v81 (F := Ideal) x0 x1 x2 (ix2 i l)
    = if h : l.val < 36 then projRow (hRow (fun k => x0 (ix3 (bOf i) (sOf i) k)) (fun k => x1 (ix2 0 k))) (fun k l => x2 (ix3 0 k ⟨1920 + l.val, by omega⟩)) (⟨l.val, h⟩ : Fin 36) else 0 := by
  unfold val_main_v81
  by_cases h : l.val < 36
  · rw [dif_pos h, ← ref_v80]
    refine pad_apply_of_inside _ _ _ _ _ _ _ (ix2 i l) (ix2 i ⟨l.val, h⟩) fun a => ?_
    match a with
    | ⟨0, _⟩ => show i.val = 0 + i.val * 1; omega
    | ⟨1, _⟩ => show l.val = 0 + l.val * 1; omega
  · rw [dif_neg h]
    refine (pad_apply_of_not_inside _ _ _ _ _ _ _ (ix2 i l) 1 (fun hh => h ?_)).trans ?_
    · have h2 : (l.val - 0) / 1 < 36 := hh.2.2
      omega
    · unfold val_main_call0_v0 val_main_c
      show ((((0#32 : BitVec 32).toInt : ℝ)) : EReal) = 0
      simp

/-- The gates. -/
theorem ref_v87 (i : Fin 32) (l : Fin 128) : val_main_v87 (F := Ideal) x0 x1 x2 (ix2 i l)
    = gateRow (projRow (hRow (fun k => x0 (ix3 (bOf i) (sOf i) k)) (fun k => x1 (ix2 0 k))) (fun k l => x2 (ix3 0 k ⟨1920 + l.val, by omega⟩))) l := by
  unfold gateRow
  rw [← ref_v81, ← logistic_words]
  unfold val_main_v87 val_main_v86 val_main_v85 val_main_v84 val_main_v83 val_main_v82 val_main_cst_11 val_main_cst_12
  generalize val_main_v81 (F := Ideal) x0 x1 x2 = y
  pointwise
  all_goals rfl

end Cert.SampleRefIdeal.Rows

end
-- ==== Proof.SampleValue.lean ====
module

public import proofs.«01_k».proof.Defs
public import proofs.«01_k».proof.Proof.Gen.SampleIdeal.Value
public import proofs.«01_k».proof.Proof.SampleRows
public import proofs.«01_k».proof.Proof.SampleRef
public import Idealize.ShloMosaic.Lib.Pointwise
public import Idealize.ShloMosaic.Lib.KernelVsHost
public import Idealize.ShloMosaic.Lib.Pipeline.Value
public import Idealize.ShloMosaic.Lib.Pipeline.ValueKit

/-!
  The arrays the input projection of the attention layer leaves on the rows of the sample: they are the arrays of the reference.
-/

@[expose] public section

set_option maxRecDepth 16384

noncomputable section

namespace Cert.SampleIdeal.Rows

open Idealize.ShloMosaic Idealize.ShloMosaic.TcCoe Idealize.SL.Sem
open Cert.SampleIdeal Cert.SampleIdeal.Gen Cert.Router
open Cert.SampleRefIdeal.Rows (bOf sOf)

variable (m : (ℓ : Loc nD τ sig) → Buf (Elt Ideal) ℓ) (ρ : Dev nD → PrngReg)

/-- The input rows. -/
abbrev A0 (c : Dev nD) : Vec Ideal S32x1x1024 .f32 := m ((c : Thread nD τ).loc main_arg0)
/-- The gains of the two layers. -/
abbrev A1 (c : Dev nD) : Vec Ideal S2x1024 .f32 := m ((c : Thread nD τ).loc main_arg1)
/-- The weight. -/
abbrev A2 (c : Dev nD) : Vec Ideal S1x1024x2212 .f32 := m ((c : Thread nD τ).loc main_arg2)
/-- The queries' gains. -/
abbrev A3 (c : Dev nD) : Vec Ideal S1x64 .f32 := m ((c : Thread nD τ).loc main_arg3)
/-- The keys' gains. -/
abbrev A4 (c : Dev nD) : Vec Ideal S1x3x64 .f32 := m ((c : Thread nD τ).loc main_arg4)

/-! ## The arrays the host code prepares -/

/-- The rows of all sequences, one below the other. -/
theorem V_v0 (c : Dev nD) (i : Fin 32) (k : Fin 1024) : (V m c main_v0 : Vec Ideal S32x1024 .f32) (ix2 i k)
    = A0 m c (ix3 (bOf i) (sOf i) k) := by
  have h : V m c main_v0 = shapeCast S32x1024 (A0 m c) shapeCasts_S32x1x1024_S32x1024 := by
    unfold V
    simp only [hostOps0, hostOps0_1, hostOps0_2, List.flatten_cons, List.flatten_nil, List.append_nil, List.cons_append, List.nil_append]
    after_results
    rfl
  rw [h]
  exact shapeCast_apply _ _ _ _ (by
    rewrite [Shape.rowMajor_val_three, Shape.rowMajor_val_two]
    show (i.val / 1 * 1 + i.val % 1) * 1024 + k.val = i.val * 1024 + k.val
    omega)

/-- The first layer's gains as a row. -/
theorem V_v19 (c : Dev nD) (k : Fin 1024) : (V m c main_v19 : Vec Ideal S1x1024 .f32) (ix2 0 k) = A1 m c (ix2 0 k) := by
  have h : V m c main_v19 = shapeCast S1x1024 (shapeCast S1024 (extractStridedSlice S1x1024 ![0, 0] (A1 m c) slices_S2x1024_S1x1024_0_0)
      shapeCasts_S1x1024_S1024) shapeCasts_S1024_S1x1024 := by
    unfold V
    simp only [hostOps0, hostOps0_1, hostOps0_2, List.flatten_cons, List.flatten_nil, List.append_nil, List.cons_append, List.nil_append]
    after_results
    rfl
  rw [h]
  pointwise
  all_goals rfl

/-- The weight's columns from 0 on. -/
theorem V_v20 (c : Dev nD) (k : Fin 1024) (l : Fin 768) :
    (V m c main_v20 : Vec Ideal S1024x768 .bf16) (ix2 k l) = A2 m c (ix3 0 k ⟨l.val, by omega⟩) := by
  have h : V m c main_v20 = fun i => (extractStridedSlice S1024x768 ![0, 0] (shapeCast S1024x2212 (A2 m c)
      shapeCasts_S1x1024x2212_S1024x2212) slices_S1024x2212_S1024x768_0_0 : Vec Ideal S1024x768 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 768 on. -/
theorem V_v21 (c : Dev nD) (k : Fin 1024) (l : Fin 192) :
    (V m c main_v21 : Vec Ideal S1024x192 .bf16) (ix2 k l) = A2 m c (ix3 0 k ⟨768 + l.val, by omega⟩) := by
  have h : V m c main_v21 = fun i => (extractStridedSlice S1024x192 ![0, 768] (shapeCast S1024x2212 (A2 m c)
      shapeCasts_S1x1024x2212_S1024x2212) slices_S1024x2212_S1024x192_0_768 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 960 on. -/
theorem V_v22 (c : Dev nD) (k : Fin 1024) (l : Fin 192) :
    (V m c main_v22 : Vec Ideal S1024x192 .bf16) (ix2 k l) = A2 m c (ix3 0 k ⟨960 + l.val, by omega⟩) := by
  have h : V m c main_v22 = fun i => (extractStridedSlice S1024x192 ![0, 960] (shapeCast S1024x2212 (A2 m c)
      shapeCasts_S1x1024x2212_S1024x2212) slices_S1024x2212_S1024x192_0_960 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1152 on. -/
theorem V_v23 (c : Dev nD) (k : Fin 1024) (l : Fin 192) :
    (V m c main_v23 : Vec Ideal S1024x192 .bf16) (ix2 k l) = A2 m c (ix3 0 k ⟨1152 + l.val, by omega⟩) := by
  have h : V m c main_v23 = fun i => (extractStridedSlice S1024x192 ![0, 1152] (shapeCast S1024x2212 (A2 m c)
      shapeCasts_S1x1024x2212_S1024x2212) slices_S1024x2212_S1024x192_0_1152 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1344 on. -/
theorem V_v24 (c : Dev nD) (k : Fin 1024) (l : Fin 192) :
    (V m c main_v24 : Vec Ideal S1024x192 .bf16) (ix2 k l) = A2 m c (ix3 0 k ⟨1344 + l.val, by omega⟩) := by
  have h : V m c main_v24 = fun i => (extractStridedSlice S1024x192 ![0, 1344] (shapeCast S1024x2212 (A2 m c)
      shapeCasts_S1x1024x2212_S1024x2212) slices_S1024x2212_S1024x192_0_1344 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1536 on. -/
theorem V_v25 (c : Dev nD) (k : Fin 1024) (l : Fin 192) :
    (V m c main_v25 : Vec Ideal S1024x192 .bf16) (ix2 k l) = A2 m c (ix3 0 k ⟨1536 + l.val, by omega⟩) := by
  have h : V m c main_v25 = fun i => (extractStridedSlice S1024x192 ![0, 1536] (shapeCast S1024x2212 (A2 m c)
      shapeCasts_S1x1024x2212_S1024x2212) slices_S1024x2212_S1024x192_0_1536 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1728 on. -/
theorem V_v26 (c : Dev nD) (k : Fin 1024) (l : Fin 192) :
    (V m c main_v26 : Vec Ideal S1024x192 .bf16) (ix2 k l) = A2 m c (ix3 0 k ⟨1728 + l.val, by omega⟩) := by
  have h : V m c main_v26 = fun i => (extractStridedSlice S1024x192 ![0, 1728] (shapeCast S1024x2212 (A2 m c)
      shapeCasts_S1x1024x2212_S1024x2212) slices_S1024x2212_S1024x192_0_1728 : Vec Ideal S1024x192 .f32) i := by
    unfold V
    simp only [hostOps0, hostOps0_1, hostOps0_2, List.flatten_cons, List.flatten_nil, List.append_nil, List.cons_append, List.nil_append]
    after_results
    rfl
  rw [h]
  pointwise
  all_goals rfl

/-- The weight's columns from 1956 on. -/
theorem V_v28 (c : Dev nD) (k : Fin 1024) (l : Fin 256) :
    (V m c main_v28 : Vec Ideal S1024x256 .bf16) (ix2 k l) = A2 m c (ix3 0 k ⟨1956 + l.val, by omega⟩) := by
  have h : V m c main_v28 = fun i => (extractStridedSlice S1024x256 ![0, 1956] (shapeCast S1024x2212 (A2 m c)
      shapeCasts_S1x1024x2212_S1024x2212) slices_S1024x2212_S1024x256_0_1956 : Vec Ideal S1024x256 .f32) i := by
    unfold V
    simp only [hostOps0, hostOps0_1, hostOps0_2, List.flatten_cons, List.flatten_nil, List.append_nil, List.cons_append, List.nil_append]
    after_results
    rfl
  rw [h]
  pointwise
  all_goals rfl

/-- The gates' columns of the weight, zeros behind them. -/
theorem V_v27 (c : Dev nD) (k : Fin 1024) (l : Fin 128) :
    (V m c main_v27 : Vec Ideal S1024x128 .bf16) (ix2 k l) = if h : l.val < 36 then A2 m c (ix3 0 k ⟨1920 + l.val, by omega⟩) else 0 := by
  have e : V m c main_v27 = fun i => (pad S1024x128 ![0, 0] ![0, 92] ![0, 0] (extractStridedSlice S1024x36 ![0, 1920] (shapeCast S1024x2212 (A2 m c)
      shapeCasts_S1x1024x2212_S1024x2212) slices_S1024x2212_S1024x36_0_1920 : Vec Ideal S1024x36 .f32)
      (sitofp .f32 (constantI S_ 32 0#32) : FVec Ideal S_ .f32) pads_S1024x36_S1024x128_000_0920 h_S_ : Vec Ideal S1024x128 .f32) i := by
    unfold V
    simp only [hostOps0, hostOps0_1, hostOps0_2, List.flatten_cons, List.flatten_nil, List.append_nil, List.cons_append, List.nil_append]
    after_results
    rfl
  rw [e]
  show pad _ _ _ _ _ _ _ _ (ix2 k l) = _
  by_cases h : l.val < 36
  · rw [dif_pos h]
    refine (pad_apply_of_inside _ _ _ _ _ _ _ (ix2 k l) (ix2 k ⟨l.val, h⟩) fun a => ?_).trans ?_
    · match a with
      | ⟨0, _⟩ => show k.val = 0 + k.val * 1; omega
      | ⟨1, _⟩ => show l.val = 0 + l.val * 1; omega
    · pointwise
      all_goals rfl
  · rw [dif_neg h]
    refine (pad_apply_of_not_inside _ _ _ _ _ _ _ (ix2 k l) 1 (fun hh => h ?_)).trans ?_
    · have h2 : (l.val - 0) / 1 < 36 := hh.2.2
      omega
    · show ((((0#32 : BitVec 32).toInt : ℝ)) : EReal) = 0
      simp

/-- The queries' gains, twice side by side. -/
theorem V_v32 (c : Dev nD) (l : Fin 128) : (V m c main_v32 : Vec Ideal S1x128 .f32) (ix2 0 l) = A3 m c (ix2 0 (inHead l)) := by
  have h : V m c main_v32 = shapeCast S1x128 (shapeCast S128 (broadcastInDim S2x64 ![0, 1] bcast_S1x64_S2x64_0_1
      (shapeCast S1x64 (shapeCast S64 (A3 m c) shapeCasts_S1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-- The selected keys' gains, twice side by side. -/
theorem V_v36 (c : Dev nD) (l : Fin 128) : (V m c main_v36 : Vec Ideal S1x128 .f32) (ix2 0 l) = A4 m c (ix3 0 1 (inHead l)) := by
  have h : V m c main_v36 = shapeCast S1x128 (shapeCast S128 (broadcastInDim S2x64 ![0, 1] bcast_S1x64_S2x64_0_1
      (shapeCast S1x64 (shapeCast S64 (extractStridedSlice S1x1x64 ![0, 1, 0] (A4 m c) slices_S1x3x64_S1x1x64_0_1_0) shapeCasts_S1x1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-- The window keys' gains, twice side by side. -/
theorem V_v40 (c : Dev nD) (l : Fin 128) : (V m c main_v40 : Vec Ideal S1x128 .f32) (ix2 0 l) = A4 m c (ix3 0 2 (inHead l)) := by
  have h : V m c main_v40 = shapeCast S1x128 (shapeCast S128 (broadcastInDim S2x64 ![0, 1] bcast_S1x64_S2x64_0_1
      (shapeCast S1x64 (shapeCast S64 (extractStridedSlice S1x1x64 ![0, 2, 0] (A4 m c) slices_S1x3x64_S1x1x64_0_2_0) shapeCasts_S1x1x64_S64) shapeCasts_S64_S1x64)) shapeCasts_S2x64_S128) shapeCasts_S128_S1x128 := by
    unfold V
    simp only [hostOps0, hostOps0_1, hostOps0_2, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise
  all_goals rfl

/-! ## The arrays the call leaves -/

/-- The queries. -/
def arr14 (c : Dev nD) : Vec Ideal S32x768 .f32 :=
  Cert.SampleRefIdeal.Read.val_main_v41 (F := Ideal) (A0 m c) (A1 m c) (A2 m c) (A3 m c)

/-- The compressed keys. -/
def arr15 (c : Dev nD) : Vec Ideal S32x192 .f32 :=
  Cert.SampleRefIdeal.Read.val_main_v42 (F := Ideal) (A0 m c) (A1 m c) (A2 m c)

/-- The compressed values. -/
def arr16 (c : Dev nD) : Vec Ideal S32x192 .f32 :=
  Cert.SampleRefIdeal.Read.val_main_v43 (F := Ideal) (A0 m c) (A1 m c) (A2 m c)

/-- The selected keys. -/
def arr17 (c : Dev nD) : Vec Ideal S32x192 .f32 :=
  Cert.SampleRefIdeal.Read.val_main_v60 (F := Ideal) (A0 m c) (A1 m c) (A2 m c) (A4 m c)

/-- The selected values. -/
def arr18 (c : Dev nD) : Vec Ideal S32x192 .f32 :=
  Cert.SampleRefIdeal.Read.val_main_v61 (F := Ideal) (A0 m c) (A1 m c) (A2 m c)

/-- The window keys. -/
def arr19 (c : Dev nD) : Vec Ideal S32x192 .f32 :=
  Cert.SampleRefIdeal.Read.val_main_v78 (F := Ideal) (A0 m c) (A1 m c) (A2 m c) (A4 m c)

/-- The window values. -/
def arr20 (c : Dev nD) : Vec Ideal S32x192 .f32 :=
  Cert.SampleRefIdeal.Read.val_main_v79 (F := Ideal) (A0 m c) (A1 m c) (A2 m c)

/-- The gates. -/
def arr21 (c : Dev nD) : Vec Ideal S32x128 .f32 :=
  Cert.SampleRefIdeal.Read.val_main_v87 (F := Ideal) (A0 m c) (A1 m c) (A2 m c)

/-- The memory queries. -/
def arr22 (c : Dev nD) : Vec Ideal S32x256 .f32 :=
  Cert.SampleRefIdeal.Read.val_main_v88 (F := Ideal) (A0 m c) (A1 m c) (A2 m c)

/-! ## The blocks the body reads -/

/-- The row of the whole array that row `r` of point `t`'s block is. -/
def rowAt (t : Fin cfg0.N) (r : Fin 32) : Fin 32 :=
  ⟨t.val * 32 + r.val, by have := t.isLt; have : cfg0.N = 1 := N_0; omega⟩

/-- The block of the input rows. -/
theorem blk0 (c : Dev nD) (t : Fin cfg0.N) (r : Fin 32) (k : Fin 1024) :
    (iblk m c 0 t : Vec Ideal S32x1024 .f32) (ix2 r k) = (V m c main_v0 : Vec Ideal S32x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_v0 _ = V m c main_v0 _
  congr 1
  funext a
  apply Fin.ext
  match a with
  | ⟨0, _⟩ => show win0_0.index t 0 * 32 + 1 * r.val = t.val * 32 + r.val; rw [hi.1]; omega
  | ⟨1, _⟩ => show win0_0.index t 1 * 1024 + 1 * k.val = k.val; rw [hi.2]; omega

/-- The block of the gains is the whole row. -/
theorem blk1 (c : Dev nD) (t : Fin cfg0.N) : (iblk m c 1 t : Vec Ideal S1x1024 .f32) = V m c main_v19 := by
  have hi : win0_1.index t 0 = 0 ∧ win0_1.index t 1 = 0 := by
    have h : ∀ t : Fin cfg0.N, win0_1.index t 0 = 0 ∧ win0_1.index t 1 = 0 := by decide +kernel
    exact h t
  funext j
  unfold iblk
  rw [View.read_apply]
  show V m c main_v19 _ = V m c main_v19 j
  congr 1
  funext a
  apply Fin.ext
  match a with
  | ⟨0, _⟩ => show win0_1.index t 0 * 1 + 1 * (j 0 : Nat) = (j 0 : Nat); rw [hi.1]; omega
  | ⟨1, _⟩ => show win0_1.index t 1 * 1024 + 1 * (j 1 : Nat) = (j 1 : Nat); rw [hi.2]; omega

/-- The block of the queries' weight is the whole array. -/
theorem blk2 (c : Dev nD) (t : Fin cfg0.N) : (iblk m c 2 t : Vec Ideal S1024x768 .bf16) = V m c main_v20 := by
  have hi : win0_2.index t 0 = 0 ∧ win0_2.index t 1 = 0 := by
    have h : ∀ t : Fin cfg0.N, win0_2.index t 0 = 0 ∧ win0_2.index t 1 = 0 := by decide +kernel
    exact h t
  funext j
  unfold iblk
  rw [View.read_apply]
  show V m c main_v20 _ = V m c main_v20 j
  congr 1
  funext a
  apply Fin.ext
  match a with
  | ⟨0, _⟩ => show win0_2.index t 0 * 1024 + 1 * (j 0 : Nat) = (j 0 : Nat); rw [hi.1]; omega
  | ⟨1, _⟩ => show win0_2.index t 1 * 768 + 1 * (j 1 : Nat) = (j 1 : Nat); rw [hi.2]; omega

/-- The block of the weight's columns from 768 on is the whole array. -/
theorem blk3 (c : Dev nD) (t : Fin cfg0.N) : (iblk m c 3 t : Vec Ideal S1024x192 .bf16) = V m c main_v21 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v21 _ = V m c main_v21 j
  congr 1
  funext a
  apply Fin.ext
  match a with
  | ⟨0, _⟩ => show win0_3.index t 0 * 1024 + 1 * (j 0 : Nat) = (j 0 : Nat); rw [hi.1]; omega
  | ⟨1, _⟩ => show win0_3.index t 1 * 192 + 1 * (j 1 : Nat) = (j 1 : Nat); rw [hi.2]; omega

/-- The block of the weight's columns from 960 on is the whole array. -/
theorem blk4 (c : Dev nD) (t : Fin cfg0.N) : (iblk m c 4 t : Vec Ideal S1024x192 .bf16) = V m c main_v22 := by
  have hi : win0_4.index t 0 = 0 ∧ win0_4.index t 1 = 0 := by
    have h : ∀ t : Fin cfg0.N, win0_4.index t 0 = 0 ∧ win0_4.index t 1 = 0 := by decide +kernel
    exact h t
  funext j
  unfold iblk
  rw [View.read_apply]
  show V m c main_v22 _ = V m c main_v22 j
  congr 1
  funext a
  apply Fin.ext
  match a with
  | ⟨0, _⟩ => show win0_4.index t 0 * 1024 + 1 * (j 0 : Nat) = (j 0 : Nat); rw [hi.1]; omega
  | ⟨1, _⟩ => show win0_4.index t 1 * 192 + 1 * (j 1 : Nat) = (j 1 : Nat); rw [hi.2]; omega

/-- The block of the weight's columns from 1152 on is the whole array. -/
theorem blk5 (c : Dev nD) (t : Fin cfg0.N) : (iblk m c 5 t : Vec Ideal S1024x192 .bf16) = V m c main_v23 := by
  have hi : win0_5.index t 0 = 0 ∧ win0_5.index t 1 = 0 := by
    have h : ∀ t : Fin cfg0.N, win0_5.index t 0 = 0 ∧ win0_5.index t 1 = 0 := by decide +kernel
    exact h t
  funext j
  unfold iblk
  rw [View.read_apply]
  show V m c main_v23 _ = V m c main_v23 j
  congr 1
  funext a
  apply Fin.ext
  match a with
  | ⟨0, _⟩ => show win0_5.index t 0 * 1024 + 1 * (j 0 : Nat) = (j 0 : Nat); rw [hi.1]; omega
  | ⟨1, _⟩ => show win0_5.index t 1 * 192 + 1 * (j 1 : Nat) = (j 1 : Nat); rw [hi.2]; omega

/-- The block of the weight's columns from 1344 on is the whole array. -/
theorem blk6 (c : Dev nD) (t : Fin cfg0.N) : (iblk m c 6 t : Vec Ideal S1024x192 .bf16) = V m c main_v24 := by
  have hi : win0_6.index t 0 = 0 ∧ win0_6.index t 1 = 0 := by
    have h : ∀ t : Fin cfg0.N, win0_6.index t 0 = 0 ∧ win0_6.index t 1 = 0 := by decide +kernel
    exact h t
  funext j
  unfold iblk
  rw [View.read_apply]
  show V m c main_v24 _ = V m c main_v24 j
  congr 1
  funext a
  apply Fin.ext
  match a with
  | ⟨0, _⟩ => show win0_6.index t 0 * 1024 + 1 * (j 0 : Nat) = (j 0 : Nat); rw [hi.1]; omega
  | ⟨1, _⟩ => show win0_6.index t 1 * 192 + 1 * (j 1 : Nat) = (j 1 : Nat); rw [hi.2]; omega

/-- The block of the weight's columns from 1536 on is the whole array. -/
theorem blk7 (c : Dev nD) (t : Fin cfg0.N) : (iblk m c 7 t : Vec Ideal S1024x192 .bf16) = V m c main_v25 := by
  have hi : win0_7.index t 0 = 0 ∧ win0_7.index t 1 = 0 := by
    have h : ∀ t : Fin cfg0.N, win0_7.index t 0 = 0 ∧ win0_7.index t 1 = 0 := by decide +kernel
    exact h t
  funext j
  unfold iblk
  rw [View.read_apply]
  show V m c main_v25 _ = V m c main_v25 j
  congr 1
  funext a
  apply Fin.ext
  match a with
  | ⟨0, _⟩ => show win0_7.index t 0 * 1024 + 1 * (j 0 : Nat) = (j 0 : Nat); rw [hi.1]; omega
  | ⟨1, _⟩ => show win0_7.index t 1 * 192 + 1 * (j 1 : Nat) = (j 1 : Nat); rw [hi.2]; omega

/-- The block of the weight's columns from 1728 on is the whole array. -/
theorem blk8 (c : Dev nD) (t : Fin cfg0.N) : (iblk m c 8 t : Vec Ideal S1024x192 .bf16) = V m c main_v26 := by
  have hi : win0_8.index t 0 = 0 ∧ win0_8.index t 1 = 0 := by
    have h : ∀ t : Fin cfg0.N, win0_8.index t 0 = 0 ∧ win0_8.index t 1 = 0 := by decide +kernel
    exact h t
  funext j
  unfold iblk
  rw [View.read_apply]
  show V m c main_v26 _ = V m c main_v26 j
  congr 1
  funext a
  apply Fin.ext
  match a with
  | ⟨0, _⟩ => show win0_8.index t 0 * 1024 + 1 * (j 0 : Nat) = (j 0 : Nat); rw [hi.1]; omega
  | ⟨1, _⟩ => show win0_8.index t 1 * 192 + 1 * (j 1 : Nat) = (j 1 : Nat); rw [hi.2]; omega

/-- The block of the gates' weight is the whole array. -/
theorem blk9 (c : Dev nD) (t : Fin cfg0.N) : (iblk m c 9 t : Vec Ideal S1024x128 .bf16) = V m c main_v27 := by
  have hi : win0_9.index t 0 = 0 ∧ win0_9.index t 1 = 0 := by
    have h : ∀ t : Fin cfg0.N, win0_9.index t 0 = 0 ∧ win0_9.index t 1 = 0 := by decide +kernel
    exact h t
  funext j
  unfold iblk
  rw [View.read_apply]
  show V m c main_v27 _ = V m c main_v27 j
  congr 1
  funext a
  apply Fin.ext
  match a with
  | ⟨0, _⟩ => show win0_9.index t 0 * 1024 + 1 * (j 0 : Nat) = (j 0 : Nat); rw [hi.1]; omega
  | ⟨1, _⟩ => show win0_9.index t 1 * 128 + 1 * (j 1 : Nat) = (j 1 : Nat); rw [hi.2]; omega

/-- The block of the memory queries' weight is the whole array. -/
theorem blk10 (c : Dev nD) (t : Fin cfg0.N) : (iblk m c 10 t : Vec Ideal S1024x256 .bf16) = V m c main_v28 := by
  have hi : win0_10.index t 0 = 0 ∧ win0_10.index t 1 = 0 := by
    have h : ∀ t : Fin cfg0.N, win0_10.index t 0 = 0 ∧ win0_10.index t 1 = 0 := by decide +kernel
    exact h t
  funext j
  unfold iblk
  rw [View.read_apply]
  show V m c main_v28 _ = V m c main_v28 j
  congr 1
  funext a
  apply Fin.ext
  match a with
  | ⟨0, _⟩ => show win0_10.index t 0 * 1024 + 1 * (j 0 : Nat) = (j 0 : Nat); rw [hi.1]; omega
  | ⟨1, _⟩ => show win0_10.index t 1 * 256 + 1 * (j 1 : Nat) = (j 1 : Nat); rw [hi.2]; omega

/-- The block of the queries' gains is the whole row. -/
theorem blk11 (c : Dev nD) (t : Fin cfg0.N) : (iblk m c 11 t : Vec Ideal S1x128 .f32) = V m c main_v32 := by
  have hi : win0_11.index t 0 = 0 ∧ win0_11.index t 1 = 0 := by
    have h : ∀ t : Fin cfg0.N, win0_11.index t 0 = 0 ∧ win0_11.index t 1 = 0 := by decide +kernel
    exact h t
  funext j
  unfold iblk
  rw [View.read_apply]
  show V m c main_v32 _ = V m c main_v32 j
  congr 1
  funext a
  apply Fin.ext
  match a with
  | ⟨0, _⟩ => show win0_11.index t 0 * 1 + 1 * (j 0 : Nat) = (j 0 : Nat); rw [hi.1]; omega
  | ⟨1, _⟩ => show win0_11.index t 1 * 128 + 1 * (j 1 : Nat) = (j 1 : Nat); rw [hi.2]; omega

/-- The block of the selected keys' gains is the whole row. -/
theorem blk12 (c : Dev nD) (t : Fin cfg0.N) : (iblk m c 12 t : Vec Ideal S1x128 .f32) = V m c main_v36 := by
  have hi : win0_12.index t 0 = 0 ∧ win0_12.index t 1 = 0 := by
    have h : ∀ t : Fin cfg0.N, win0_12.index t 0 = 0 ∧ win0_12.index t 1 = 0 := by decide +kernel
    exact h t
  funext j
  unfold iblk
  rw [View.read_apply]
  show V m c main_v36 _ = V m c main_v36 j
  congr 1
  funext a
  apply Fin.ext
  match a with
  | ⟨0, _⟩ => show win0_12.index t 0 * 1 + 1 * (j 0 : Nat) = (j 0 : Nat); rw [hi.1]; omega
  | ⟨1, _⟩ => show win0_12.index t 1 * 128 + 1 * (j 1 : Nat) = (j 1 : Nat); rw [hi.2]; omega

/-- The block of the window keys' gains is the whole row. -/
theorem blk13 (c : Dev nD) (t : Fin cfg0.N) : (iblk m c 13 t : Vec Ideal S1x128 .f32) = V m c main_v40 := by
  have hi : win0_13.index t 0 = 0 ∧ win0_13.index t 1 = 0 := by
    have h : ∀ t : Fin cfg0.N, win0_13.index t 0 = 0 ∧ win0_13.index t 1 = 0 := by decide +kernel
    exact h t
  funext j
  unfold iblk
  rw [View.read_apply]
  show V m c main_v40 _ = V m c main_v40 j
  congr 1
  funext a
  apply Fin.ext
  match a with
  | ⟨0, _⟩ => show win0_13.index t 0 * 1 + 1 * (j 0 : Nat) = (j 0 : Nat); rw [hi.1]; omega
  | ⟨1, _⟩ => show win0_13.index t 1 * 128 + 1 * (j 1 : Nat) = (j 1 : Nat); rw [hi.2]; omega

/-- A normalized row of a point's block. -/
theorem h_iblk (c : Dev nD) (t : Fin cfg0.N) (r : Fin 32) :
    hRow (fun k => (iblk m c 0 t : Vec Ideal S32x1024 .f32) (ix2 r k)) (fun k => (iblk m c 1 t : Vec Ideal S1x1024 .f32) (ix2 0 k))
      = (hRow (fun k => A0 m c (ix3 (bOf (rowAt t r)) (sOf (rowAt t r)) k)) (fun k => A1 m c (ix2 0 k))) := by
  congr 1
  · funext k; exact (blk0 m c t r k).trans (V_v0 m c _ k)
  · funext k; exact (congrFun (blk1 m c t) _).trans (V_v19 m c k)

/-! ## What a point leaves, from the arguments -/

theorem out14_iblk (c : Dev nD) (t : Fin cfg0.N) (r : Fin 32) (l : Fin 768) :
    (outsAt0 m c t).1 (ix2 r l) = arr14 m c (ix2 (rowAt t r) l) := by
  unfold arr14
  rw [Cert.SampleRefIdeal.Rows.ref_v41]
  refine out14_apply m c t (fun d => A3 m c (ix2 0 d)) (fun l => (congrFun (blk11 m c t) _).trans (V_v32 m c l)) _ r (fun l => ?_) l
  rw [pay2_apply, h_iblk]
  refine congrArg (fun w => projRow _ w l) ?_
  funext k l
  exact (congrFun (blk2 m c t) _).trans (V_v20 m c k l)

theorem out17_iblk (c : Dev nD) (t : Fin cfg0.N) (r : Fin 32) (l : Fin 192) :
    (outsAt0 m c t).2.2.2.1 (ix2 r l) = arr17 m c (ix2 (rowAt t r) l) := by
  unfold arr17
  rw [Cert.SampleRefIdeal.Rows.ref_v60]
  refine out17_apply m c t (fun d => A4 m c (ix3 0 1 d)) (fun l => (congrFun (blk12 m c t) _).trans (V_v36 m c l)) _ r (fun l => ?_) l
  rw [pay29_apply, h_iblk]
  refine congrArg (fun w => projRow _ w l) ?_
  funext k l
  exact (congrFun (blk5 m c t) _).trans (V_v23 m c k l)

theorem out19_iblk (c : Dev nD) (t : Fin cfg0.N) (r : Fin 32) (l : Fin 192) :
    (outsAt0 m c t).2.2.2.2.2.1 (ix2 r l) = arr19 m c (ix2 (rowAt t r) l) := by
  unfold arr19
  rw [Cert.SampleRefIdeal.Rows.ref_v78]
  refine out19_apply m c t (fun d => A4 m c (ix3 0 2 d)) (fun l => (congrFun (blk13 m c t) _).trans (V_v40 m c l)) _ r (fun l => ?_) l
  rw [pay35_apply, h_iblk]
  refine congrArg (fun w => projRow _ w l) ?_
  funext k l
  exact (congrFun (blk7 m c t) _).trans (V_v25 m c k l)

theorem out15_iblk (c : Dev nD) (t : Fin cfg0.N) (r : Fin 32) (l : Fin 192) :
    (outsAt0 m c t).2.1 (ix2 r l) = arr15 m c (ix2 (rowAt t r) l) := by
  unfold arr15
  rw [Cert.SampleRefIdeal.Rows.ref_v42]
  refine (out15_apply m c t r l).trans ?_
  rw [pay27_apply, h_iblk]
  refine congrArg (fun w => projRow _ w l) ?_
  funext k l
  exact (congrFun (blk3 m c t) _).trans (V_v21 m c k l)

theorem out16_iblk (c : Dev nD) (t : Fin cfg0.N) (r : Fin 32) (l : Fin 192) :
    (outsAt0 m c t).2.2.1 (ix2 r l) = arr16 m c (ix2 (rowAt t r) l) := by
  unfold arr16
  rw [Cert.SampleRefIdeal.Rows.ref_v43]
  refine (out16_apply m c t r l).trans ?_
  rw [pay28_apply, h_iblk]
  refine congrArg (fun w => projRow _ w l) ?_
  funext k l
  exact (congrFun (blk4 m c t) _).trans (V_v22 m c k l)

theorem out18_iblk (c : Dev nD) (t : Fin cfg0.N) (r : Fin 32) (l : Fin 192) :
    (outsAt0 m c t).2.2.2.2.1 (ix2 r l) = arr18 m c (ix2 (rowAt t r) l) := by
  unfold arr18
  rw [Cert.SampleRefIdeal.Rows.ref_v61]
  refine (out18_apply m c t r l).trans ?_
  rw [pay34_apply, h_iblk]
  refine congrArg (fun w => projRow _ w l) ?_
  funext k l
  exact (congrFun (blk6 m c t) _).trans (V_v24 m c k l)

theorem out20_iblk (c : Dev nD) (t : Fin cfg0.N) (r : Fin 32) (l : Fin 192) :
    (outsAt0 m c t).2.2.2.2.2.2.1 (ix2 r l) = arr20 m c (ix2 (rowAt t r) l) := by
  unfold arr20
  rw [Cert.SampleRefIdeal.Rows.ref_v79]
  refine (out20_apply m c t r l).trans ?_
  rw [pay41_apply, h_iblk]
  refine congrArg (fun w => projRow _ w l) ?_
  funext k l
  exact (congrFun (blk8 m c t) _).trans (V_v26 m c k l)

theorem out22_iblk (c : Dev nD) (t : Fin cfg0.N) (r : Fin 32) (l : Fin 256) :
    (outsAt0 m c t).2.2.2.2.2.2.2.2 (ix2 r l) = arr22 m c (ix2 (rowAt t r) l) := by
  unfold arr22
  rw [Cert.SampleRefIdeal.Rows.ref_v88]
  refine (out22_apply m c t r l).trans ?_
  rw [pay43_apply, h_iblk]
  refine congrArg (fun w => projRow _ w l) ?_
  funext k l
  exact (congrFun (blk10 m c t) _).trans (V_v28 m c k l)

theorem out21_iblk (c : Dev nD) (t : Fin cfg0.N) (r : Fin 32) (l : Fin 128) :
    (outsAt0 m c t).2.2.2.2.2.2.2.1 (ix2 r l) = arr21 m c (ix2 (rowAt t r) l) := by
  unfold arr21
  rw [Cert.SampleRefIdeal.Rows.ref_v87]
  refine (out21_apply m c t r l).trans ?_
  rw [pay42_apply, h_iblk]
  refine congrArg Ideal.logistic ?_
  have hw : ∀ k : Fin 1024, (iblk m c 9 t : Vec Ideal S1024x128 .bf16) (ix2 k l)
      = if h : l.val < 36 then A2 m c (ix3 0 k ⟨1920 + l.val, by omega⟩) else 0 := fun k =>
    (congrFun (blk9 m c t) _).trans (V_v27 m c k l)
  by_cases h : l.val < 36
  · rw [dif_pos h]
    exact Finset.sum_congr rfl fun k _ => congrArg₂ (· * ·) rfl ((hw k).trans (dif_pos h))
  · rw [dif_neg h]
    refine Finset.sum_eq_zero fun k _ => ?_
    exact (congrArg _ ((hw k).trans (dif_neg h))).trans (mul_zero _)

/-! ## The queries -/

theorem idx14 (t : Fin cfg0.N) : win0_14.index t 0 = t.val ∧ win0_14.index t 1 = 0 := by
  have h : ∀ t : Fin cfg0.N, win0_14.index t 0 = t.val ∧ win0_14.index t 1 = 0 := by decide +kernel
  exact h t

/-- The entry of a whole array that an entry of a point's block is. -/
theorem read_blk14 (G : S32x768.Idx → Elt Ideal .f32) (t : Fin cfg0.N) (r : Fin 32) (l : Fin 768) :
    ((cfg0.win 14).blk t).view.read (Elt Ideal) G (ix2 r l) = G (ix2 (rowAt t r) l) := by
  rw [View.read_apply]
  show G _ = G _
  congr 1
  funext a
  apply Fin.ext
  match a with
  | ⟨0, _⟩ => show win0_14.index t 0 * 32 + 1 * r.val = t.val * 32 + r.val; rw [(idx14 t).1]; omega
  | ⟨1, _⟩ => show win0_14.index t 1 * 768 + 1 * l.val = l.val; rw [(idx14 t).2]; omega

/-- What a point writes back is its block of the whole array. -/
theorem flushed_eq14 (c : Dev nD) (t : Fin cfg0.N) :
    (dats m 0 c).flushed 14 t = ((cfg0.win 14).blk t).view.read (Elt Ideal) (arr14 m c) := by
  show (cfg0.win 14).cut (grid0.coords t) ((dats m 0 c).after 14 t) = _
  rw [after0_14]
  funext j
  obtain ⟨r, l, rfl⟩ : ∃ (r : Fin 32) (l : Fin 768), j = ix2 r l := ⟨j 0, j 1, eq_ix2 j⟩
  exact (out14_iblk m c t r l).trans (read_blk14 (arr14 m c) t r l).symm

/-- The rows of a point's block. -/
theorem mem_blk14 (t : Fin cfg0.N) (i : S32x768.Idx) :
    i ∈ ((cfg0.win 14).blk t).view.set ↔ t.val * 32 ≤ (i 0 : Nat) ∧ (i 0 : Nat) < t.val * 32 + 32 := by
  show i ∈ ((View.whole main_v41_0).slice (win0_14.rect t)).set ↔ _
  rw [View.set_slice_whole, Rect.mem_set_unit]
  have h1 : (i 1 : Nat) < 768 := (i 1).isLt
  have e : win0_14.index t 0 * win0_14.size 0 = t.val * 32 ∧ win0_14.xsize (grid0.coords t) 0 = 32
      ∧ win0_14.index t 1 * win0_14.size 1 = 0 ∧ win0_14.xsize (grid0.coords t) 1 = 768 := by
    have h : ∀ t : Fin cfg0.N, win0_14.index t 0 * win0_14.size 0 = t.val * 32 ∧ win0_14.xsize (grid0.coords t) 0 = 32
      ∧ win0_14.index t 1 * win0_14.size 1 = 0 ∧ win0_14.xsize (grid0.coords t) 1 = 768 := by decide +kernel
    exact h t
  refine ⟨fun h => ?_, fun h a => ?_⟩
  · have : win0_14.index t 0 * win0_14.size 0 ≤ (i 0 : Nat)
        ∧ (i 0 : Nat) < win0_14.index t 0 * win0_14.size 0 + win0_14.xsize (grid0.coords t) 0 := h 0
    rw [e.1, e.2.1] at this; exact this
  · match a with
    | ⟨0, _⟩ =>
      show win0_14.index t 0 * win0_14.size 0 ≤ (i 0 : Nat)
        ∧ (i 0 : Nat) < win0_14.index t 0 * win0_14.size 0 + win0_14.xsize (grid0.coords t) 0
      rw [e.1, e.2.1]; exact h
    | ⟨1, _⟩ =>
      show win0_14.index t 1 * win0_14.size 1 ≤ (i 1 : Nat)
        ∧ (i 1 : Nat) < win0_14.index t 1 * win0_14.size 1 + win0_14.xsize (grid0.coords t) 1
      rw [e.2.2.1, e.2.2.2]; omega

/-- The blocks cover the array. -/
theorem cover14 (i : S32x768.Idx) : ∃ t : Fin cfg0.N, (cfg0.win 14).flush t = true ∧ i ∈ ((cfg0.win 14).blk t).view.set := by
  have h0 : (i 0 : Nat) < 32 := (i 0).isLt
  have hN : cfg0.N = 1 := N_0
  exact ⟨⟨(i 0 : Nat) / 32, by omega⟩, flush0_14 _, (mem_blk14 _ i).mpr ⟨by show (i 0 : Nat) / 32 * 32 ≤ _; omega,
    by show _ < (i 0 : Nat) / 32 * 32 + 32; omega⟩⟩

/-- The array after the run. -/
theorem final14 (c : Dev nD) : (dats m 0 c).arrAt 14 cfg0.N = arr14 m c :=
  (dats m 0 c).arrAt_eq_of_cover 14 (arr14 m c) (fun t _ => flushed_eq14 m c t) cover14

/-! ## The compressed keys -/

theorem idx15 (t : Fin cfg0.N) : win0_15.index t 0 = t.val ∧ win0_15.index t 1 = 0 := by
  have h : ∀ t : Fin cfg0.N, win0_15.index t 0 = t.val ∧ win0_15.index t 1 = 0 := by decide +kernel
  exact h t

/-- The entry of a whole array that an entry of a point's block is. -/
theorem read_blk15 (G : S32x192.Idx → Elt Ideal .f32) (t : Fin cfg0.N) (r : Fin 32) (l : Fin 192) :
    ((cfg0.win 15).blk t).view.read (Elt Ideal) G (ix2 r l) = G (ix2 (rowAt t r) l) := by
  rw [View.read_apply]
  show G _ = G _
  congr 1
  funext a
  apply Fin.ext
  match a with
  | ⟨0, _⟩ => show win0_15.index t 0 * 32 + 1 * r.val = t.val * 32 + r.val; rw [(idx15 t).1]; omega
  | ⟨1, _⟩ => show win0_15.index t 1 * 192 + 1 * l.val = l.val; rw [(idx15 t).2]; omega

/-- What a point writes back is its block of the whole array. -/
theorem flushed_eq15 (c : Dev nD) (t : Fin cfg0.N) :
    (dats m 0 c).flushed 15 t = ((cfg0.win 15).blk t).view.read (Elt Ideal) (arr15 m c) := by
  show (cfg0.win 15).cut (grid0.coords t) ((dats m 0 c).after 15 t) = _
  rw [after0_15]
  funext j
  obtain ⟨r, l, rfl⟩ : ∃ (r : Fin 32) (l : Fin 192), j = ix2 r l := ⟨j 0, j 1, eq_ix2 j⟩
  exact (out15_iblk m c t r l).trans (read_blk15 (arr15 m c) t r l).symm

/-- The rows of a point's block. -/
theorem mem_blk15 (t : Fin cfg0.N) (i : S32x192.Idx) :
    i ∈ ((cfg0.win 15).blk t).view.set ↔ t.val * 32 ≤ (i 0 : Nat) ∧ (i 0 : Nat) < t.val * 32 + 32 := by
  show i ∈ ((View.whole main_v41_1).slice (win0_15.rect t)).set ↔ _
  rw [View.set_slice_whole, Rect.mem_set_unit]
  have h1 : (i 1 : Nat) < 192 := (i 1).isLt
  have e : win0_15.index t 0 * win0_15.size 0 = t.val * 32 ∧ win0_15.xsize (grid0.coords t) 0 = 32
      ∧ win0_15.index t 1 * win0_15.size 1 = 0 ∧ win0_15.xsize (grid0.coords t) 1 = 192 := by
    have h : ∀ t : Fin cfg0.N, win0_15.index t 0 * win0_15.size 0 = t.val * 32 ∧ win0_15.xsize (grid0.coords t) 0 = 32
      ∧ win0_15.index t 1 * win0_15.size 1 = 0 ∧ win0_15.xsize (grid0.coords t) 1 = 192 := by decide +kernel
    exact h t
  refine ⟨fun h => ?_, fun h a => ?_⟩
  · have : win0_15.index t 0 * win0_15.size 0 ≤ (i 0 : Nat)
        ∧ (i 0 : Nat) < win0_15.index t 0 * win0_15.size 0 + win0_15.xsize (grid0.coords t) 0 := h 0
    rw [e.1, e.2.1] at this; exact this
  · match a with
    | ⟨0, _⟩ =>
      show win0_15.index t 0 * win0_15.size 0 ≤ (i 0 : Nat)
        ∧ (i 0 : Nat) < win0_15.index t 0 * win0_15.size 0 + win0_15.xsize (grid0.coords t) 0
      rw [e.1, e.2.1]; exact h
    | ⟨1, _⟩ =>
      show win0_15.index t 1 * win0_15.size 1 ≤ (i 1 : Nat)
        ∧ (i 1 : Nat) < win0_15.index t 1 * win0_15.size 1 + win0_15.xsize (grid0.coords t) 1
      rw [e.2.2.1, e.2.2.2]; omega

/-- The blocks cover the array. -/
theorem cover15 (i : S32x192.Idx) : ∃ t : Fin cfg0.N, (cfg0.win 15).flush t = true ∧ i ∈ ((cfg0.win 15).blk t).view.set := by
  have h0 : (i 0 : Nat) < 32 := (i 0).isLt
  have hN : cfg0.N = 1 := N_0
  exact ⟨⟨(i 0 : Nat) / 32, by omega⟩, flush0_15 _, (mem_blk15 _ i).mpr ⟨by show (i 0 : Nat) / 32 * 32 ≤ _; omega,
    by show _ < (i 0 : Nat) / 32 * 32 + 32; omega⟩⟩

/-- The array after the run. -/
theorem final15 (c : Dev nD) : (dats m 0 c).arrAt 15 cfg0.N = arr15 m c :=
  (dats m 0 c).arrAt_eq_of_cover 15 (arr15 m c) (fun t _ => flushed_eq15 m c t) cover15

/-! ## The compressed values -/

theorem idx16 (t : Fin cfg0.N) : win0_16.index t 0 = t.val ∧ win0_16.index t 1 = 0 := by
  have h : ∀ t : Fin cfg0.N, win0_16.index t 0 = t.val ∧ win0_16.index t 1 = 0 := by decide +kernel
  exact h t

/-- The entry of a whole array that an entry of a point's block is. -/
theorem read_blk16 (G : S32x192.Idx → Elt Ideal .f32) (t : Fin cfg0.N) (r : Fin 32) (l : Fin 192) :
    ((cfg0.win 16).blk t).view.read (Elt Ideal) G (ix2 r l) = G (ix2 (rowAt t r) l) := by
  rw [View.read_apply]
  show G _ = G _
  congr 1
  funext a
  apply Fin.ext
  match a with
  | ⟨0, _⟩ => show win0_16.index t 0 * 32 + 1 * r.val = t.val * 32 + r.val; rw [(idx16 t).1]; omega
  | ⟨1, _⟩ => show win0_16.index t 1 * 192 + 1 * l.val = l.val; rw [(idx16 t).2]; omega

/-- What a point writes back is its block of the whole array. -/
theorem flushed_eq16 (c : Dev nD) (t : Fin cfg0.N) :
    (dats m 0 c).flushed 16 t = ((cfg0.win 16).blk t).view.read (Elt Ideal) (arr16 m c) := by
  show (cfg0.win 16).cut (grid0.coords t) ((dats m 0 c).after 16 t) = _
  rw [after0_16]
  funext j
  obtain ⟨r, l, rfl⟩ : ∃ (r : Fin 32) (l : Fin 192), j = ix2 r l := ⟨j 0, j 1, eq_ix2 j⟩
  exact (out16_iblk m c t r l).trans (read_blk16 (arr16 m c) t r l).symm

/-- The rows of a point's block. -/
theorem mem_blk16 (t : Fin cfg0.N) (i : S32x192.Idx) :
    i ∈ ((cfg0.win 16).blk t).view.set ↔ t.val * 32 ≤ (i 0 : Nat) ∧ (i 0 : Nat) < t.val * 32 + 32 := by
  show i ∈ ((View.whole main_v41_2).slice (win0_16.rect t)).set ↔ _
  rw [View.set_slice_whole, Rect.mem_set_unit]
  have h1 : (i 1 : Nat) < 192 := (i 1).isLt
  have e : win0_16.index t 0 * win0_16.size 0 = t.val * 32 ∧ win0_16.xsize (grid0.coords t) 0 = 32
      ∧ win0_16.index t 1 * win0_16.size 1 = 0 ∧ win0_16.xsize (grid0.coords t) 1 = 192 := by
    have h : ∀ t : Fin cfg0.N, win0_16.index t 0 * win0_16.size 0 = t.val * 32 ∧ win0_16.xsize (grid0.coords t) 0 = 32
      ∧ win0_16.index t 1 * win0_16.size 1 = 0 ∧ win0_16.xsize (grid0.coords t) 1 = 192 := by decide +kernel
    exact h t
  refine ⟨fun h => ?_, fun h a => ?_⟩
  · have : win0_16.index t 0 * win0_16.size 0 ≤ (i 0 : Nat)
        ∧ (i 0 : Nat) < win0_16.index t 0 * win0_16.size 0 + win0_16.xsize (grid0.coords t) 0 := h 0
    rw [e.1, e.2.1] at this; exact this
  · match a with
    | ⟨0, _⟩ =>
      show win0_16.index t 0 * win0_16.size 0 ≤ (i 0 : Nat)
        ∧ (i 0 : Nat) < win0_16.index t 0 * win0_16.size 0 + win0_16.xsize (grid0.coords t) 0
      rw [e.1, e.2.1]; exact h
    | ⟨1, _⟩ =>
      show win0_16.index t 1 * win0_16.size 1 ≤ (i 1 : Nat)
        ∧ (i 1 : Nat) < win0_16.index t 1 * win0_16.size 1 + win0_16.xsize (grid0.coords t) 1
      rw [e.2.2.1, e.2.2.2]; omega

/-- The blocks cover the array. -/
theorem cover16 (i : S32x192.Idx) : ∃ t : Fin cfg0.N, (cfg0.win 16).flush t = true ∧ i ∈ ((cfg0.win 16).blk t).view.set := by
  have h0 : (i 0 : Nat) < 32 := (i 0).isLt
  have hN : cfg0.N = 1 := N_0
  exact ⟨⟨(i 0 : Nat) / 32, by omega⟩, flush0_16 _, (mem_blk16 _ i).mpr ⟨by show (i 0 : Nat) / 32 * 32 ≤ _; omega,
    by show _ < (i 0 : Nat) / 32 * 32 + 32; omega⟩⟩

/-- The array after the run. -/
theorem final16 (c : Dev nD) : (dats m 0 c).arrAt 16 cfg0.N = arr16 m c :=
  (dats m 0 c).arrAt_eq_of_cover 16 (arr16 m c) (fun t _ => flushed_eq16 m c t) cover16

/-! ## The selected keys -/

theorem idx17 (t : Fin cfg0.N) : win0_17.index t 0 = t.val ∧ win0_17.index t 1 = 0 := by
  have h : ∀ t : Fin cfg0.N, win0_17.index t 0 = t.val ∧ win0_17.index t 1 = 0 := by decide +kernel
  exact h t

/-- The entry of a whole array that an entry of a point's block is. -/
theorem read_blk17 (G : S32x192.Idx → Elt Ideal .f32) (t : Fin cfg0.N) (r : Fin 32) (l : Fin 192) :
    ((cfg0.win 17).blk t).view.read (Elt Ideal) G (ix2 r l) = G (ix2 (rowAt t r) l) := by
  rw [View.read_apply]
  show G _ = G _
  congr 1
  funext a
  apply Fin.ext
  match a with
  | ⟨0, _⟩ => show win0_17.index t 0 * 32 + 1 * r.val = t.val * 32 + r.val; rw [(idx17 t).1]; omega
  | ⟨1, _⟩ => show win0_17.index t 1 * 192 + 1 * l.val = l.val; rw [(idx17 t).2]; omega

/-- What a point writes back is its block of the whole array. -/
theorem flushed_eq17 (c : Dev nD) (t : Fin cfg0.N) :
    (dats m 0 c).flushed 17 t = ((cfg0.win 17).blk t).view.read (Elt Ideal) (arr17 m c) := by
  show (cfg0.win 17).cut (grid0.coords t) ((dats m 0 c).after 17 t) = _
  rw [after0_17]
  funext j
  obtain ⟨r, l, rfl⟩ : ∃ (r : Fin 32) (l : Fin 192), j = ix2 r l := ⟨j 0, j 1, eq_ix2 j⟩
  exact (out17_iblk m c t r l).trans (read_blk17 (arr17 m c) t r l).symm

/-- The rows of a point's block. -/
theorem mem_blk17 (t : Fin cfg0.N) (i : S32x192.Idx) :
    i ∈ ((cfg0.win 17).blk t).view.set ↔ t.val * 32 ≤ (i 0 : Nat) ∧ (i 0 : Nat) < t.val * 32 + 32 := by
  show i ∈ ((View.whole main_v41_3).slice (win0_17.rect t)).set ↔ _
  rw [View.set_slice_whole, Rect.mem_set_unit]
  have h1 : (i 1 : Nat) < 192 := (i 1).isLt
  have e : win0_17.index t 0 * win0_17.size 0 = t.val * 32 ∧ win0_17.xsize (grid0.coords t) 0 = 32
      ∧ win0_17.index t 1 * win0_17.size 1 = 0 ∧ win0_17.xsize (grid0.coords t) 1 = 192 := by
    have h : ∀ t : Fin cfg0.N, win0_17.index t 0 * win0_17.size 0 = t.val * 32 ∧ win0_17.xsize (grid0.coords t) 0 = 32
      ∧ win0_17.index t 1 * win0_17.size 1 = 0 ∧ win0_17.xsize (grid0.coords t) 1 = 192 := by decide +kernel
    exact h t
  refine ⟨fun h => ?_, fun h a => ?_⟩
  · have : win0_17.index t 0 * win0_17.size 0 ≤ (i 0 : Nat)
        ∧ (i 0 : Nat) < win0_17.index t 0 * win0_17.size 0 + win0_17.xsize (grid0.coords t) 0 := h 0
    rw [e.1, e.2.1] at this; exact this
  · match a with
    | ⟨0, _⟩ =>
      show win0_17.index t 0 * win0_17.size 0 ≤ (i 0 : Nat)
        ∧ (i 0 : Nat) < win0_17.index t 0 * win0_17.size 0 + win0_17.xsize (grid0.coords t) 0
      rw [e.1, e.2.1]; exact h
    | ⟨1, _⟩ =>
      show win0_17.index t 1 * win0_17.size 1 ≤ (i 1 : Nat)
        ∧ (i 1 : Nat) < win0_17.index t 1 * win0_17.size 1 + win0_17.xsize (grid0.coords t) 1
      rw [e.2.2.1, e.2.2.2]; omega

/-- The blocks cover the array. -/
theorem cover17 (i : S32x192.Idx) : ∃ t : Fin cfg0.N, (cfg0.win 17).flush t = true ∧ i ∈ ((cfg0.win 17).blk t).view.set := by
  have h0 : (i 0 : Nat) < 32 := (i 0).isLt
  have hN : cfg0.N = 1 := N_0
  exact ⟨⟨(i 0 : Nat) / 32, by omega⟩, flush0_17 _, (mem_blk17 _ i).mpr ⟨by show (i 0 : Nat) / 32 * 32 ≤ _; omega,
    by show _ < (i 0 : Nat) / 32 * 32 + 32; omega⟩⟩

/-- The array after the run. -/
theorem final17 (c : Dev nD) : (dats m 0 c).arrAt 17 cfg0.N = arr17 m c :=
  (dats m 0 c).arrAt_eq_of_cover 17 (arr17 m c) (fun t _ => flushed_eq17 m c t) cover17

/-! ## The selected values -/

theorem idx18 (t : Fin cfg0.N) : win0_18.index t 0 = t.val ∧ win0_18.index t 1 = 0 := by
  have h : ∀ t : Fin cfg0.N, win0_18.index t 0 = t.val ∧ win0_18.index t 1 = 0 := by decide +kernel
  exact h t

/-- The entry of a whole array that an entry of a point's block is. -/
theorem read_blk18 (G : S32x192.Idx → Elt Ideal .f32) (t : Fin cfg0.N) (r : Fin 32) (l : Fin 192) :
    ((cfg0.win 18).blk t).view.read (Elt Ideal) G (ix2 r l) = G (ix2 (rowAt t r) l) := by
  rw [View.read_apply]
  show G _ = G _
  congr 1
  funext a
  apply Fin.ext
  match a with
  | ⟨0, _⟩ => show win0_18.index t 0 * 32 + 1 * r.val = t.val * 32 + r.val; rw [(idx18 t).1]; omega
  | ⟨1, _⟩ => show win0_18.index t 1 * 192 + 1 * l.val = l.val; rw [(idx18 t).2]; omega

/-- What a point writes back is its block of the whole array. -/
theorem flushed_eq18 (c : Dev nD) (t : Fin cfg0.N) :
    (dats m 0 c).flushed 18 t = ((cfg0.win 18).blk t).view.read (Elt Ideal) (arr18 m c) := by
  show (cfg0.win 18).cut (grid0.coords t) ((dats m 0 c).after 18 t) = _
  rw [after0_18]
  funext j
  obtain ⟨r, l, rfl⟩ : ∃ (r : Fin 32) (l : Fin 192), j = ix2 r l := ⟨j 0, j 1, eq_ix2 j⟩
  exact (out18_iblk m c t r l).trans (read_blk18 (arr18 m c) t r l).symm

/-- The rows of a point's block. -/
theorem mem_blk18 (t : Fin cfg0.N) (i : S32x192.Idx) :
    i ∈ ((cfg0.win 18).blk t).view.set ↔ t.val * 32 ≤ (i 0 : Nat) ∧ (i 0 : Nat) < t.val * 32 + 32 := by
  show i ∈ ((View.whole main_v41_4).slice (win0_18.rect t)).set ↔ _
  rw [View.set_slice_whole, Rect.mem_set_unit]
  have h1 : (i 1 : Nat) < 192 := (i 1).isLt
  have e : win0_18.index t 0 * win0_18.size 0 = t.val * 32 ∧ win0_18.xsize (grid0.coords t) 0 = 32
      ∧ win0_18.index t 1 * win0_18.size 1 = 0 ∧ win0_18.xsize (grid0.coords t) 1 = 192 := by
    have h : ∀ t : Fin cfg0.N, win0_18.index t 0 * win0_18.size 0 = t.val * 32 ∧ win0_18.xsize (grid0.coords t) 0 = 32
      ∧ win0_18.index t 1 * win0_18.size 1 = 0 ∧ win0_18.xsize (grid0.coords t) 1 = 192 := by decide +kernel
    exact h t
  refine ⟨fun h => ?_, fun h a => ?_⟩
  · have : win0_18.index t 0 * win0_18.size 0 ≤ (i 0 : Nat)
        ∧ (i 0 : Nat) < win0_18.index t 0 * win0_18.size 0 + win0_18.xsize (grid0.coords t) 0 := h 0
    rw [e.1, e.2.1] at this; exact this
  · match a with
    | ⟨0, _⟩ =>
      show win0_18.index t 0 * win0_18.size 0 ≤ (i 0 : Nat)
        ∧ (i 0 : Nat) < win0_18.index t 0 * win0_18.size 0 + win0_18.xsize (grid0.coords t) 0
      rw [e.1, e.2.1]; exact h
    | ⟨1, _⟩ =>
      show win0_18.index t 1 * win0_18.size 1 ≤ (i 1 : Nat)
        ∧ (i 1 : Nat) < win0_18.index t 1 * win0_18.size 1 + win0_18.xsize (grid0.coords t) 1
      rw [e.2.2.1, e.2.2.2]; omega

/-- The blocks cover the array. -/
theorem cover18 (i : S32x192.Idx) : ∃ t : Fin cfg0.N, (cfg0.win 18).flush t = true ∧ i ∈ ((cfg0.win 18).blk t).view.set := by
  have h0 : (i 0 : Nat) < 32 := (i 0).isLt
  have hN : cfg0.N = 1 := N_0
  exact ⟨⟨(i 0 : Nat) / 32, by omega⟩, flush0_18 _, (mem_blk18 _ i).mpr ⟨by show (i 0 : Nat) / 32 * 32 ≤ _; omega,
    by show _ < (i 0 : Nat) / 32 * 32 + 32; omega⟩⟩

/-- The array after the run. -/
theorem final18 (c : Dev nD) : (dats m 0 c).arrAt 18 cfg0.N = arr18 m c :=
  (dats m 0 c).arrAt_eq_of_cover 18 (arr18 m c) (fun t _ => flushed_eq18 m c t) cover18

/-! ## The window keys -/

theorem idx19 (t : Fin cfg0.N) : win0_19.index t 0 = t.val ∧ win0_19.index t 1 = 0 := by
  have h : ∀ t : Fin cfg0.N, win0_19.index t 0 = t.val ∧ win0_19.index t 1 = 0 := by decide +kernel
  exact h t

/-- The entry of a whole array that an entry of a point's block is. -/
theorem read_blk19 (G : S32x192.Idx → Elt Ideal .f32) (t : Fin cfg0.N) (r : Fin 32) (l : Fin 192) :
    ((cfg0.win 19).blk t).view.read (Elt Ideal) G (ix2 r l) = G (ix2 (rowAt t r) l) := by
  rw [View.read_apply]
  show G _ = G _
  congr 1
  funext a
  apply Fin.ext
  match a with
  | ⟨0, _⟩ => show win0_19.index t 0 * 32 + 1 * r.val = t.val * 32 + r.val; rw [(idx19 t).1]; omega
  | ⟨1, _⟩ => show win0_19.index t 1 * 192 + 1 * l.val = l.val; rw [(idx19 t).2]; omega

/-- What a point writes back is its block of the whole array. -/
theorem flushed_eq19 (c : Dev nD) (t : Fin cfg0.N) :
    (dats m 0 c).flushed 19 t = ((cfg0.win 19).blk t).view.read (Elt Ideal) (arr19 m c) := by
  show (cfg0.win 19).cut (grid0.coords t) ((dats m 0 c).after 19 t) = _
  rw [after0_19]
  funext j
  obtain ⟨r, l, rfl⟩ : ∃ (r : Fin 32) (l : Fin 192), j = ix2 r l := ⟨j 0, j 1, eq_ix2 j⟩
  exact (out19_iblk m c t r l).trans (read_blk19 (arr19 m c) t r l).symm

/-- The rows of a point's block. -/
theorem mem_blk19 (t : Fin cfg0.N) (i : S32x192.Idx) :
    i ∈ ((cfg0.win 19).blk t).view.set ↔ t.val * 32 ≤ (i 0 : Nat) ∧ (i 0 : Nat) < t.val * 32 + 32 := by
  show i ∈ ((View.whole main_v41_5).slice (win0_19.rect t)).set ↔ _
  rw [View.set_slice_whole, Rect.mem_set_unit]
  have h1 : (i 1 : Nat) < 192 := (i 1).isLt
  have e : win0_19.index t 0 * win0_19.size 0 = t.val * 32 ∧ win0_19.xsize (grid0.coords t) 0 = 32
      ∧ win0_19.index t 1 * win0_19.size 1 = 0 ∧ win0_19.xsize (grid0.coords t) 1 = 192 := by
    have h : ∀ t : Fin cfg0.N, win0_19.index t 0 * win0_19.size 0 = t.val * 32 ∧ win0_19.xsize (grid0.coords t) 0 = 32
      ∧ win0_19.index t 1 * win0_19.size 1 = 0 ∧ win0_19.xsize (grid0.coords t) 1 = 192 := by decide +kernel
    exact h t
  refine ⟨fun h => ?_, fun h a => ?_⟩
  · have : win0_19.index t 0 * win0_19.size 0 ≤ (i 0 : Nat)
        ∧ (i 0 : Nat) < win0_19.index t 0 * win0_19.size 0 + win0_19.xsize (grid0.coords t) 0 := h 0
    rw [e.1, e.2.1] at this; exact this
  · match a with
    | ⟨0, _⟩ =>
      show win0_19.index t 0 * win0_19.size 0 ≤ (i 0 : Nat)
        ∧ (i 0 : Nat) < win0_19.index t 0 * win0_19.size 0 + win0_19.xsize (grid0.coords t) 0
      rw [e.1, e.2.1]; exact h
    | ⟨1, _⟩ =>
      show win0_19.index t 1 * win0_19.size 1 ≤ (i 1 : Nat)
        ∧ (i 1 : Nat) < win0_19.index t 1 * win0_19.size 1 + win0_19.xsize (grid0.coords t) 1
      rw [e.2.2.1, e.2.2.2]; omega

/-- The blocks cover the array. -/
theorem cover19 (i : S32x192.Idx) : ∃ t : Fin cfg0.N, (cfg0.win 19).flush t = true ∧ i ∈ ((cfg0.win 19).blk t).view.set := by
  have h0 : (i 0 : Nat) < 32 := (i 0).isLt
  have hN : cfg0.N = 1 := N_0
  exact ⟨⟨(i 0 : Nat) / 32, by omega⟩, flush0_19 _, (mem_blk19 _ i).mpr ⟨by show (i 0 : Nat) / 32 * 32 ≤ _; omega,
    by show _ < (i 0 : Nat) / 32 * 32 + 32; omega⟩⟩

/-- The array after the run. -/
theorem final19 (c : Dev nD) : (dats m 0 c).arrAt 19 cfg0.N = arr19 m c :=
  (dats m 0 c).arrAt_eq_of_cover 19 (arr19 m c) (fun t _ => flushed_eq19 m c t) cover19

/-! ## The window values -/

theorem idx20 (t : Fin cfg0.N) : win0_20.index t 0 = t.val ∧ win0_20.index t 1 = 0 := by
  have h : ∀ t : Fin cfg0.N, win0_20.index t 0 = t.val ∧ win0_20.index t 1 = 0 := by decide +kernel
  exact h t

/-- The entry of a whole array that an entry of a point's block is. -/
theorem read_blk20 (G : S32x192.Idx → Elt Ideal .f32) (t : Fin cfg0.N) (r : Fin 32) (l : Fin 192) :
    ((cfg0.win 20).blk t).view.read (Elt Ideal) G (ix2 r l) = G (ix2 (rowAt t r) l) := by
  rw [View.read_apply]
  show G _ = G _
  congr 1
  funext a
  apply Fin.ext
  match a with
  | ⟨0, _⟩ => show win0_20.index t 0 * 32 + 1 * r.val = t.val * 32 + r.val; rw [(idx20 t).1]; omega
  | ⟨1, _⟩ => show win0_20.index t 1 * 192 + 1 * l.val = l.val; rw [(idx20 t).2]; omega

/-- What a point writes back is its block of the whole array. -/
theorem flushed_eq20 (c : Dev nD) (t : Fin cfg0.N) :
    (dats m 0 c).flushed 20 t = ((cfg0.win 20).blk t).view.read (Elt Ideal) (arr20 m c) := by
  show (cfg0.win 20).cut (grid0.coords t) ((dats m 0 c).after 20 t) = _
  rw [after0_20]
  funext j
  obtain ⟨r, l, rfl⟩ : ∃ (r : Fin 32) (l : Fin 192), j = ix2 r l := ⟨j 0, j 1, eq_ix2 j⟩
  exact (out20_iblk m c t r l).trans (read_blk20 (arr20 m c) t r l).symm

/-- The rows of a point's block. -/
theorem mem_blk20 (t : Fin cfg0.N) (i : S32x192.Idx) :
    i ∈ ((cfg0.win 20).blk t).view.set ↔ t.val * 32 ≤ (i 0 : Nat) ∧ (i 0 : Nat) < t.val * 32 + 32 := by
  show i ∈ ((View.whole main_v41_6).slice (win0_20.rect t)).set ↔ _
  rw [View.set_slice_whole, Rect.mem_set_unit]
  have h1 : (i 1 : Nat) < 192 := (i 1).isLt
  have e : win0_20.index t 0 * win0_20.size 0 = t.val * 32 ∧ win0_20.xsize (grid0.coords t) 0 = 32
      ∧ win0_20.index t 1 * win0_20.size 1 = 0 ∧ win0_20.xsize (grid0.coords t) 1 = 192 := by
    have h : ∀ t : Fin cfg0.N, win0_20.index t 0 * win0_20.size 0 = t.val * 32 ∧ win0_20.xsize (grid0.coords t) 0 = 32
      ∧ win0_20.index t 1 * win0_20.size 1 = 0 ∧ win0_20.xsize (grid0.coords t) 1 = 192 := by decide +kernel
    exact h t
  refine ⟨fun h => ?_, fun h a => ?_⟩
  · have : win0_20.index t 0 * win0_20.size 0 ≤ (i 0 : Nat)
        ∧ (i 0 : Nat) < win0_20.index t 0 * win0_20.size 0 + win0_20.xsize (grid0.coords t) 0 := h 0
    rw [e.1, e.2.1] at this; exact this
  · match a with
    | ⟨0, _⟩ =>
      show win0_20.index t 0 * win0_20.size 0 ≤ (i 0 : Nat)
        ∧ (i 0 : Nat) < win0_20.index t 0 * win0_20.size 0 + win0_20.xsize (grid0.coords t) 0
      rw [e.1, e.2.1]; exact h
    | ⟨1, _⟩ =>
      show win0_20.index t 1 * win0_20.size 1 ≤ (i 1 : Nat)
        ∧ (i 1 : Nat) < win0_20.index t 1 * win0_20.size 1 + win0_20.xsize (grid0.coords t) 1
      rw [e.2.2.1, e.2.2.2]; omega

/-- The blocks cover the array. -/
theorem cover20 (i : S32x192.Idx) : ∃ t : Fin cfg0.N, (cfg0.win 20).flush t = true ∧ i ∈ ((cfg0.win 20).blk t).view.set := by
  have h0 : (i 0 : Nat) < 32 := (i 0).isLt
  have hN : cfg0.N = 1 := N_0
  exact ⟨⟨(i 0 : Nat) / 32, by omega⟩, flush0_20 _, (mem_blk20 _ i).mpr ⟨by show (i 0 : Nat) / 32 * 32 ≤ _; omega,
    by show _ < (i 0 : Nat) / 32 * 32 + 32; omega⟩⟩

/-- The array after the run. -/
theorem final20 (c : Dev nD) : (dats m 0 c).arrAt 20 cfg0.N = arr20 m c :=
  (dats m 0 c).arrAt_eq_of_cover 20 (arr20 m c) (fun t _ => flushed_eq20 m c t) cover20

/-! ## The gates -/

theorem idx21 (t : Fin cfg0.N) : win0_21.index t 0 = t.val ∧ win0_21.index t 1 = 0 := by
  have h : ∀ t : Fin cfg0.N, win0_21.index t 0 = t.val ∧ win0_21.index t 1 = 0 := by decide +kernel
  exact h t

/-- The entry of a whole array that an entry of a point's block is. -/
theorem read_blk21 (G : S32x128.Idx → Elt Ideal .f32) (t : Fin cfg0.N) (r : Fin 32) (l : Fin 128) :
    ((cfg0.win 21).blk t).view.read (Elt Ideal) G (ix2 r l) = G (ix2 (rowAt t r) l) := by
  rw [View.read_apply]
  show G _ = G _
  congr 1
  funext a
  apply Fin.ext
  match a with
  | ⟨0, _⟩ => show win0_21.index t 0 * 32 + 1 * r.val = t.val * 32 + r.val; rw [(idx21 t).1]; omega
  | ⟨1, _⟩ => show win0_21.index t 1 * 128 + 1 * l.val = l.val; rw [(idx21 t).2]; omega

/-- What a point writes back is its block of the whole array. -/
theorem flushed_eq21 (c : Dev nD) (t : Fin cfg0.N) :
    (dats m 0 c).flushed 21 t = ((cfg0.win 21).blk t).view.read (Elt Ideal) (arr21 m c) := by
  show (cfg0.win 21).cut (grid0.coords t) ((dats m 0 c).after 21 t) = _
  rw [after0_21]
  funext j
  obtain ⟨r, l, rfl⟩ : ∃ (r : Fin 32) (l : Fin 128), j = ix2 r l := ⟨j 0, j 1, eq_ix2 j⟩
  exact (out21_iblk m c t r l).trans (read_blk21 (arr21 m c) t r l).symm

/-- The rows of a point's block. -/
theorem mem_blk21 (t : Fin cfg0.N) (i : S32x128.Idx) :
    i ∈ ((cfg0.win 21).blk t).view.set ↔ t.val * 32 ≤ (i 0 : Nat) ∧ (i 0 : Nat) < t.val * 32 + 32 := by
  show i ∈ ((View.whole main_v41_7).slice (win0_21.rect t)).set ↔ _
  rw [View.set_slice_whole, Rect.mem_set_unit]
  have h1 : (i 1 : Nat) < 128 := (i 1).isLt
  have e : win0_21.index t 0 * win0_21.size 0 = t.val * 32 ∧ win0_21.xsize (grid0.coords t) 0 = 32
      ∧ win0_21.index t 1 * win0_21.size 1 = 0 ∧ win0_21.xsize (grid0.coords t) 1 = 128 := by
    have h : ∀ t : Fin cfg0.N, win0_21.index t 0 * win0_21.size 0 = t.val * 32 ∧ win0_21.xsize (grid0.coords t) 0 = 32
      ∧ win0_21.index t 1 * win0_21.size 1 = 0 ∧ win0_21.xsize (grid0.coords t) 1 = 128 := by decide +kernel
    exact h t
  refine ⟨fun h => ?_, fun h a => ?_⟩
  · have : win0_21.index t 0 * win0_21.size 0 ≤ (i 0 : Nat)
        ∧ (i 0 : Nat) < win0_21.index t 0 * win0_21.size 0 + win0_21.xsize (grid0.coords t) 0 := h 0
    rw [e.1, e.2.1] at this; exact this
  · match a with
    | ⟨0, _⟩ =>
      show win0_21.index t 0 * win0_21.size 0 ≤ (i 0 : Nat)
        ∧ (i 0 : Nat) < win0_21.index t 0 * win0_21.size 0 + win0_21.xsize (grid0.coords t) 0
      rw [e.1, e.2.1]; exact h
    | ⟨1, _⟩ =>
      show win0_21.index t 1 * win0_21.size 1 ≤ (i 1 : Nat)
        ∧ (i 1 : Nat) < win0_21.index t 1 * win0_21.size 1 + win0_21.xsize (grid0.coords t) 1
      rw [e.2.2.1, e.2.2.2]; omega

/-- The blocks cover the array. -/
theorem cover21 (i : S32x128.Idx) : ∃ t : Fin cfg0.N, (cfg0.win 21).flush t = true ∧ i ∈ ((cfg0.win 21).blk t).view.set := by
  have h0 : (i 0 : Nat) < 32 := (i 0).isLt
  have hN : cfg0.N = 1 := N_0
  exact ⟨⟨(i 0 : Nat) / 32, by omega⟩, flush0_21 _, (mem_blk21 _ i).mpr ⟨by show (i 0 : Nat) / 32 * 32 ≤ _; omega,
    by show _ < (i 0 : Nat) / 32 * 32 + 32; omega⟩⟩

/-- The array after the run. -/
theorem final21 (c : Dev nD) : (dats m 0 c).arrAt 21 cfg0.N = arr21 m c :=
  (dats m 0 c).arrAt_eq_of_cover 21 (arr21 m c) (fun t _ => flushed_eq21 m c t) cover21

/-! ## The memory queries -/

theorem idx22 (t : Fin cfg0.N) : win0_22.index t 0 = t.val ∧ win0_22.index t 1 = 0 := by
  have h : ∀ t : Fin cfg0.N, win0_22.index t 0 = t.val ∧ win0_22.index t 1 = 0 := by decide +kernel
  exact h t

/-- The entry of a whole array that an entry of a point's block is. -/
theorem read_blk22 (G : S32x256.Idx → Elt Ideal .f32) (t : Fin cfg0.N) (r : Fin 32) (l : Fin 256) :
    ((cfg0.win 22).blk t).view.read (Elt Ideal) G (ix2 r l) = G (ix2 (rowAt t r) l) := by
  rw [View.read_apply]
  show G _ = G _
  congr 1
  funext a
  apply Fin.ext
  match a with
  | ⟨0, _⟩ => show win0_22.index t 0 * 32 + 1 * r.val = t.val * 32 + r.val; rw [(idx22 t).1]; omega
  | ⟨1, _⟩ => show win0_22.index t 1 * 256 + 1 * l.val = l.val; rw [(idx22 t).2]; omega

/-- What a point writes back is its block of the whole array. -/
theorem flushed_eq22 (c : Dev nD) (t : Fin cfg0.N) :
    (dats m 0 c).flushed 22 t = ((cfg0.win 22).blk t).view.read (Elt Ideal) (arr22 m c) := by
  show (cfg0.win 22).cut (grid0.coords t) ((dats m 0 c).after 22 t) = _
  rw [after0_22]
  funext j
  obtain ⟨r, l, rfl⟩ : ∃ (r : Fin 32) (l : Fin 256), j = ix2 r l := ⟨j 0, j 1, eq_ix2 j⟩
  exact (out22_iblk m c t r l).trans (read_blk22 (arr22 m c) t r l).symm

/-- The rows of a point's block. -/
theorem mem_blk22 (t : Fin cfg0.N) (i : S32x256.Idx) :
    i ∈ ((cfg0.win 22).blk t).view.set ↔ t.val * 32 ≤ (i 0 : Nat) ∧ (i 0 : Nat) < t.val * 32 + 32 := by
  show i ∈ ((View.whole main_v41_8).slice (win0_22.rect t)).set ↔ _
  rw [View.set_slice_whole, Rect.mem_set_unit]
  have h1 : (i 1 : Nat) < 256 := (i 1).isLt
  have e : win0_22.index t 0 * win0_22.size 0 = t.val * 32 ∧ win0_22.xsize (grid0.coords t) 0 = 32
      ∧ win0_22.index t 1 * win0_22.size 1 = 0 ∧ win0_22.xsize (grid0.coords t) 1 = 256 := by
    have h : ∀ t : Fin cfg0.N, win0_22.index t 0 * win0_22.size 0 = t.val * 32 ∧ win0_22.xsize (grid0.coords t) 0 = 32
      ∧ win0_22.index t 1 * win0_22.size 1 = 0 ∧ win0_22.xsize (grid0.coords t) 1 = 256 := by decide +kernel
    exact h t
  refine ⟨fun h => ?_, fun h a => ?_⟩
  · have : win0_22.index t 0 * win0_22.size 0 ≤ (i 0 : Nat)
        ∧ (i 0 : Nat) < win0_22.index t 0 * win0_22.size 0 + win0_22.xsize (grid0.coords t) 0 := h 0
    rw [e.1, e.2.1] at this; exact this
  · match a with
    | ⟨0, _⟩ =>
      show win0_22.index t 0 * win0_22.size 0 ≤ (i 0 : Nat)
        ∧ (i 0 : Nat) < win0_22.index t 0 * win0_22.size 0 + win0_22.xsize (grid0.coords t) 0
      rw [e.1, e.2.1]; exact h
    | ⟨1, _⟩ =>
      show win0_22.index t 1 * win0_22.size 1 ≤ (i 1 : Nat)
        ∧ (i 1 : Nat) < win0_22.index t 1 * win0_22.size 1 + win0_22.xsize (grid0.coords t) 1
      rw [e.2.2.1, e.2.2.2]; omega

/-- The blocks cover the array. -/
theorem cover22 (i : S32x256.Idx) : ∃ t : Fin cfg0.N, (cfg0.win 22).flush t = true ∧ i ∈ ((cfg0.win 22).blk t).view.set := by
  have h0 : (i 0 : Nat) < 32 := (i 0).isLt
  have hN : cfg0.N = 1 := N_0
  exact ⟨⟨(i 0 : Nat) / 32, by omega⟩, flush0_22 _, (mem_blk22 _ i).mpr ⟨by show (i 0 : Nat) / 32 * 32 ≤ _; omega,
    by show _ < (i 0 : Nat) / 32 * 32 + 32; omega⟩⟩

/-- The array after the run. -/
theorem final22 (c : Dev nD) : (dats m 0 c).arrAt 22 cfg0.N = arr22 m c :=
  (dats m 0 c).arrAt_eq_of_cover 22 (arr22 m c) (fun t _ => flushed_eq22 m c t) cover22

set_option maxHeartbeats 4000000 in
/-- From memories that agree on the arguments, the kernel's nine arrays are the reference's. -/
theorem algebraic : Cert.algebraic_SampleIdeal_SampleRefIdeal := by
  intro m g m' g' _ hargs
  refine ⟨arr14 m, arr15 m, arr16 m, arr17 m, arr18 m, arr19 m, arr20 m, arr21 m, arr22 m, (θ_run defs _ _).mono (fun r h c => ?_) (Value.run_blocks m g), ?_⟩
  · obtain ⟨h14, h15, h16, h17, h18, h19, h20, h21, h22, hrest⟩ := h c
    exact ⟨h14.trans (final14 m c), h15.trans (final15 m c), h16.trans (final16 m c), h17.trans (final17 m c), h18.trans (final18 m c), h19.trans (final19 m c), h20.trans (final20 m c), h21.trans (final21 m c), h22.trans (final22 m c), hrest⟩
  refine (θ_run Cert.SampleRefIdeal.defs _ _).mono (fun r h c => ?_) (Cert.SampleRefIdeal.Value.run m' g')
  obtain ⟨e14, e15, e16, e17, e18, e19, e20, e21, e22, hrest⟩ := h c
  obtain ⟨a0, a1, a2, a3, a4⟩ := hargs c
  refine ⟨e14.trans ?_, e15.trans ?_, e16.trans ?_, e17.trans ?_, e18.trans ?_, e19.trans ?_, e20.trans ?_, e21.trans ?_, e22.trans ?_, hrest⟩
  · exact (Cert.SampleRefIdeal.Read.val_main_v41_eq _ _).trans (congr (congr (congr (congrArg _ a0) a1) a2) a3)
  · exact (Cert.SampleRefIdeal.Read.val_main_v42_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)
  · exact (Cert.SampleRefIdeal.Read.val_main_v43_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)
  · exact (Cert.SampleRefIdeal.Read.val_main_v60_eq _ _).trans (congr (congr (congr (congrArg _ a0) a1) a2) a4)
  · exact (Cert.SampleRefIdeal.Read.val_main_v61_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)
  · exact (Cert.SampleRefIdeal.Read.val_main_v78_eq _ _).trans (congr (congr (congr (congrArg _ a0) a1) a2) a4)
  · exact (Cert.SampleRefIdeal.Read.val_main_v79_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)
  · exact (Cert.SampleRefIdeal.Read.val_main_v87_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)
  · exact (Cert.SampleRefIdeal.Read.val_main_v88_eq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2))).trans (congr (congr (congrArg _ a0) a1) a2)

end Cert.SampleIdeal.Rows

end
-- ==== Proof.InputBValue.lean ====
module

public import proofs.«01_k».proof.Proof.Gen.InputBIdeal.Value
public import proofs.«01_k».proof.Proof.Gen.InputBRefIdeal.Read
public import proofs.«01_k».proof.Defs
public import proofs.«01_k».proof.Proof.ProjSpec
public import Idealize.ShloMosaic.Lib.Pointwise
public import Idealize.ShloMosaic.Lib.KernelVsHost
public import Idealize.ShloMosaic.Lib.Pipeline.Value

/-!
  The arrays the input projection of the recurrent layer leaves: row by row, the normalized row times the two column
  ranges of the weight. They are the arrays of the reference.
-/

@[expose] public section

set_option maxRecDepth 16384

noncomputable section

namespace Cert.InputBIdeal.Rows

open Idealize.ShloMosaic Idealize.ShloMosaic.TcCoe Idealize.SL.Sem
open Cert.InputBIdeal Cert.InputBIdeal.Gen Cert.Router

variable (m : (ℓ : Loc nD τ sig) → Buf (Elt Ideal) ℓ) (ρ : Dev nD → PrngReg)

/-- The input rows. -/
abbrev A0 (c : Dev nD) : Vec Ideal S16384x1024 .f32 := m ((c : Thread nD τ).loc main_arg0)
/-- The gains of the two layers. -/
abbrev A1 (c : Dev nD) : Vec Ideal S2x1024 .f32 := m ((c : Thread nD τ).loc main_arg1)
/-- The weight. -/
abbrev A2 (c : Dev nD) : Vec Ideal S1x1024x2816 .f32 := m ((c : Thread nD τ).loc main_arg2)

/-! ## What a block of rows becomes -/

section
variable (v0 : Vec Ideal S1024x1024 .f32) (v1 : Vec Ideal S1x1024 .f32)

/-- The normalized rows of a block. -/
theorem pay1_apply (r c : Fin 1024) : k0_pay1 v0 v1 (ix2 r c) = hRow (fun k => v0 (ix2 r k)) (fun k => v1 (ix2 0 k)) c := by
  unfold k0_pay1 hRow
  pointwise

/-- The first product. -/
theorem pay2_apply (w : Vec Ideal S1024x2560 .bf16) (r : Fin 1024) (l : Fin 2560) :
    k0_pay2 v0 v1 w (ix2 r l) = projRow (hRow (fun k => v0 (ix2 r k)) (fun k => v1 (ix2 0 k))) (fun k l => w (ix2 k l)) l := by
  have h := pay1_apply v0 v1 r
  unfold k0_pay2 projRow
  generalize k0_pay1 v0 v1 = y at h
  pointwise
  simp only [h]

/-- The second product. -/
theorem pay3_apply (w : Vec Ideal S1024x256 .bf16) (r : Fin 1024) (l : Fin 256) :
    k0_pay3 v0 v1 w (ix2 r l) = projRow (hRow (fun k => v0 (ix2 r k)) (fun k => v1 (ix2 0 k))) (fun k l => w (ix2 k l)) l := by
  have h := pay1_apply v0 v1 r
  unfold k0_pay3 projRow
  generalize k0_pay1 v0 v1 = y at h
  pointwise
  simp only [h]

end

/-! ## The arrays the host code prepares -/

/-- The second layer's gains as a row. -/
theorem V_v6 (c : Dev nD) (k : Fin 1024) : (V m c main_v6 : Vec Ideal S1x1024 .f32) (ix2 0 k) = A1 m c (ix2 1 k) := by
  have h : V m c main_v6 = shapeCast S1x1024 (shapeCast S1024 (extractStridedSlice S1x1024 ![1, 0] (A1 m c) slices_S2x1024_S1x1024_1_0)
      shapeCasts_S1x1024_S1024) shapeCasts_S1024_S1x1024 := by
    unfold V
    simp only [hostOps0, List.flatten_cons, List.flatten_nil, List.append_nil, List.cons_append, List.nil_append]
    after_results
    rfl
  rw [h]
  pointwise
  all_goals rfl

/-- The weight's first columns. -/
theorem V_v7 (c : Dev nD) (k : Fin 1024) (l : Fin 2560) :
    (V m c main_v7 : Vec Ideal S1024x2560 .bf16) (ix2 k l) = A2 m c (ix3 0 k (Fin.castAdd 256 l)) := by
  have h : V m c main_v7 = fun i => (extractStridedSlice S1024x2560 ![0, 0] (shapeCast S1024x2816 (A2 m c)
      shapeCasts_S1x1024x2816_S1024x2816) slices_S1024x2816_S1024x2560_0_0 : Vec Ideal S1024x2560 .f32) i := by
    unfold V
    simp only [hostOps0, List.flatten_cons, List.flatten_nil, List.append_nil, List.cons_append, List.nil_append]
    after_results
    rfl
  rw [h]
  pointwise
  all_goals rfl

/-- The weight's last columns. -/
theorem V_v8 (c : Dev nD) (k : Fin 1024) (l : Fin 256) :
    (V m c main_v8 : Vec Ideal S1024x256 .bf16) (ix2 k l) = A2 m c (ix3 0 k (Fin.natAdd 2560 l)) := by
  have h : V m c main_v8 = fun i => (extractStridedSlice S1024x256 ![0, 2560] (shapeCast S1024x2816 (A2 m c)
      shapeCasts_S1x1024x2816_S1024x2816) slices_S1024x2816_S1024x256_0_2560 : Vec Ideal S1024x256 .f32) i := by
    unfold V
    simp only [hostOps0, List.flatten_cons, List.flatten_nil, List.append_nil, List.cons_append, List.nil_append]
    after_results
    rfl
  rw [h]
  pointwise
  rfl

/-! ## The reference's rows -/

section
variable (x0 : Vec Ideal S16384x1024 .f32) (x1 : Vec Ideal S2x1024 .f32) (x2 : Vec Ideal S1x1024x2816 .f32) (i : Fin 16384)
open Cert.InputBRefIdeal.Read

/-- The reference's normalized rows. -/
theorem ref_h (k : Fin 1024) : val_main_v14 (F := Ideal) x0 x1 (ix2 i k) = hRow (fun k => x0 (ix2 i k)) (fun k => x1 (ix2 1 k)) k := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1 hRow
  pointwise

/-- The reference's products. -/
theorem ref_p (l : Fin 2816) : val_main_v16 (F := Ideal) x0 x1 x2 (ix2 i l)
    = projRow (hRow (fun k => x0 (ix2 i k)) (fun k => x1 (ix2 1 k))) (fun k l => x2 (ix3 0 k l)) l := by
  have h := ref_h x0 x1 i
  unfold val_main_v16 val_main_v15 projRow
  generalize val_main_v14 (F := Ideal) x0 x1 = y at h
  pointwise
  simp only [h]

/-- The reference's first result. -/
theorem ref_v17 (l : Fin 2560) : val_main_v17 (F := Ideal) x0 x1 x2 (ix2 i l)
    = projRow (hRow (fun k => x0 (ix2 i k)) (fun k => x1 (ix2 1 k))) (fun k l => x2 (ix3 0 k l)) (Fin.castAdd 256 l) := by
  rw [← ref_p]
  unfold val_main_v17
  generalize val_main_v16 (F := Ideal) x0 x1 x2 = y
  pointwise
  rfl

/-- The reference's second result. -/
theorem ref_v18 (l : Fin 256) : val_main_v18 (F := Ideal) x0 x1 x2 (ix2 i l)
    = projRow (hRow (fun k => x0 (ix2 i k)) (fun k => x1 (ix2 1 k))) (fun k l => x2 (ix3 0 k l)) (Fin.natAdd 2560 l) := by
  rw [← ref_p]
  unfold val_main_v18
  generalize val_main_v16 (F := Ideal) x0 x1 x2 = y
  pointwise
  rfl

end

/-- The first array. -/
def arr4 (c : Dev nD) : Vec Ideal S16384x2560 .f32 := Cert.InputBRefIdeal.Read.val_main_v17 (F := Ideal) (A0 m c) (A1 m c) (A2 m c)
/-- The second array. -/
def arr5 (c : Dev nD) : Vec Ideal S16384x256 .f32 := Cert.InputBRefIdeal.Read.val_main_v18 (F := Ideal) (A0 m c) (A1 m c) (A2 m c)

/-! ## The blocks the body reads -/

/-- The row of the whole array that row `r` of point `t`'s block is. -/
def rowAt (t : Fin cfg0.N) (r : Fin 1024) : Fin 16384 :=
  ⟨t.val * 1024 + r.val, by have := t.isLt; have : cfg0.N = 16 := N_0; omega⟩

/-- The block of the input rows. -/
theorem blk0 (c : Dev nD) (t : Fin cfg0.N) (r : Fin 1024) (k : Fin 1024) :
    (iblk m c 0 t : Vec Ideal S1024x1024 .f32) (ix2 r k) = (V m c main_arg0 : Vec Ideal S16384x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_arg0 _ = V m c main_arg0 _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2]; omega

/-- The block of the gains is the whole row. -/
theorem blk1 (c : Dev nD) (t : Fin cfg0.N) : (iblk m c 1 t : Vec Ideal S1x1024 .f32) = V m c main_v6 := by
  have hi : win0_1.index t 0 = 0 ∧ win0_1.index t 1 = 0 := by
    have h : ∀ t : Fin cfg0.N, win0_1.index t 0 = 0 ∧ win0_1.index t 1 = 0 := by decide +kernel
    exact h t
  funext j
  unfold iblk
  rw [View.read_apply]
  show V m c main_v6 _ = V m c main_v6 j
  congr 1
  funext a
  apply Fin.ext
  match a with
  | ⟨0, _⟩ => show win0_1.index t 0 * 1 + 1 * (j 0 : Nat) = (j 0 : Nat); rw [hi.1]; omega
  | ⟨1, _⟩ => show win0_1.index t 1 * 1024 + 1 * (j 1 : Nat) = (j 1 : Nat); rw [hi.2]; omega

/-- The block of the weight's first columns is the whole array. -/
theorem blk2 (c : Dev nD) (t : Fin cfg0.N) : (iblk m c 2 t : Vec Ideal S1024x2560 .bf16) = V m c main_v7 := by
  have hi : win0_2.index t 0 = 0 ∧ win0_2.index t 1 = 0 := by
    have h : ∀ t : Fin cfg0.N, win0_2.index t 0 = 0 ∧ win0_2.index t 1 = 0 := by decide +kernel
    exact h t
  funext j
  unfold iblk
  rw [View.read_apply]
  show V m c main_v7 _ = V m c main_v7 j
  congr 1
  funext a
  apply Fin.ext
  match a with
  | ⟨0, _⟩ => show win0_2.index t 0 * 1024 + 1 * (j 0 : Nat) = (j 0 : Nat); rw [hi.1]; omega
  | ⟨1, _⟩ => show win0_2.index t 1 * 2560 + 1 * (j 1 : Nat) = (j 1 : Nat); rw [hi.2]; omega

/-- The block of the weight's last columns is the whole array. -/
theorem blk3 (c : Dev nD) (t : Fin cfg0.N) : (iblk m c 3 t : Vec Ideal S1024x256 .bf16) = V m c main_v8 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v8 _ = V m c main_v8 j
  congr 1
  funext a
  apply Fin.ext
  match a with
  | ⟨0, _⟩ => show win0_3.index t 0 * 1024 + 1 * (j 0 : Nat) = (j 0 : Nat); rw [hi.1]; omega
  | ⟨1, _⟩ => show win0_3.index t 1 * 256 + 1 * (j 1 : Nat) = (j 1 : Nat); rw [hi.2]; omega

/-- A normalized row of a point's block. -/
theorem h_iblk (c : Dev nD) (t : Fin cfg0.N) (r : Fin 1024) :
    hRow (fun k => (iblk m c 0 t : Vec Ideal S1024x1024 .f32) (ix2 r k)) (fun k => (iblk m c 1 t : Vec Ideal S1x1024 .f32) (ix2 0 k))
      = hRow (fun k => A0 m c (ix2 (rowAt t r) k)) (fun k => A1 m c (ix2 1 k)) := by
  congr 1
  · funext k; exact (blk0 m c t r k).trans (congrFun (V_main_arg0 m c) _)
  · funext k; exact (congrFun (blk1 m c t) _).trans (V_v6 m c k)

theorem hz : ![0, 0] = fun _ : Fin 2 => 0 := by funext a; match a with | ⟨0, _⟩ => rfl | ⟨1, _⟩ => rfl

/-- What the body leaves at a point of the first array. -/
theorem out4_iblk (c : Dev nD) (t : Fin cfg0.N) (r : Fin 1024) (l : Fin 2560) :
    out0_4 (iblk m c 0 t) (iblk m c 1 t) (iblk m c 2 t) (iblk m c 3 t) (ix2 r l) = arr4 m c (ix2 (rowAt t r) l) := by
  unfold out0_4 arr4
  rw [View.canon_unit_zero hz, View.ld_unit_zero hz, View.ld_unit_zero hz, View.ld_unit_zero hz, pay2_apply, ref_v17, h_iblk]
  refine Finset.sum_congr rfl fun k _ => congrArg₂ (· * ·) rfl ?_
  exact (congrFun (blk2 m c t) _).trans (V_v7 m c k l)

/-- What the body leaves at a point of the second array. -/
theorem out5_iblk (c : Dev nD) (t : Fin cfg0.N) (r : Fin 1024) (l : Fin 256) :
    out0_5 (iblk m c 0 t) (iblk m c 1 t) (iblk m c 2 t) (iblk m c 3 t) (ix2 r l) = arr5 m c (ix2 (rowAt t r) l) := by
  unfold out0_5 arr5
  rw [View.canon_unit_zero hz, View.ld_unit_zero hz, View.ld_unit_zero hz, View.ld_unit_zero hz, pay3_apply, ref_v18, h_iblk]
  refine Finset.sum_congr rfl fun k _ => congrArg₂ (· * ·) rfl ?_
  exact (congrFun (blk3 m c t) _).trans (V_v8 m c k l)

/-! ## The first array -/

theorem idx4 (t : Fin cfg0.N) : win0_4.index t 0 = t.val ∧ win0_4.index t 1 = 0 := by
  have h : ∀ t : Fin cfg0.N, win0_4.index t 0 = t.val ∧ win0_4.index t 1 = 0 := by decide +kernel
  exact h t

/-- The entry of a whole array that an entry of a point's block is. -/
theorem read_blk4 (G : S16384x2560.Idx → Elt Ideal .f32) (t : Fin cfg0.N) (r : Fin 1024) (l : Fin 2560) :
    ((cfg0.win 4).blk t).view.read (Elt Ideal) G (ix2 r l) = G (ix2 (rowAt t r) l) := by
  rw [View.read_apply]
  show G _ = G _
  congr 1
  funext a
  apply Fin.ext
  match a with
  | ⟨0, _⟩ => show win0_4.index t 0 * 1024 + 1 * r.val = t.val * 1024 + r.val; rw [(idx4 t).1]; omega
  | ⟨1, _⟩ => show win0_4.index t 1 * 2560 + 1 * l.val = l.val; rw [(idx4 t).2]; omega

/-- What a point writes back is its block of the whole array. -/
theorem flushed_eq4 (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  funext j
  obtain ⟨r, l, rfl⟩ : ∃ (r : Fin 1024) (l : Fin 2560), j = ix2 r l := ⟨j 0, j 1, eq_ix2 j⟩
  exact (out4_iblk m c t r l).trans (read_blk4 (arr4 m c) t r l).symm

/-- The rows of a point's block. -/
theorem mem_blk4 (t : Fin cfg0.N) (i : S16384x2560.Idx) :
    i ∈ ((cfg0.win 4).blk t).view.set ↔ t.val * 1024 ≤ (i 0 : Nat) ∧ (i 0 : Nat) < t.val * 1024 + 1024 := by
  show i ∈ ((View.whole main_v9_0).slice (win0_4.rect t)).set ↔ _
  rw [View.set_slice_whole, Rect.mem_set_unit]
  have h1 : (i 1 : Nat) < 2560 := (i 1).isLt
  have e : win0_4.index t 0 * win0_4.size 0 = t.val * 1024 ∧ win0_4.xsize (grid0.coords t) 0 = 1024
      ∧ win0_4.index t 1 * win0_4.size 1 = 0 ∧ win0_4.xsize (grid0.coords t) 1 = 2560 := by
    have h : ∀ t : Fin cfg0.N, win0_4.index t 0 * win0_4.size 0 = t.val * 1024 ∧ win0_4.xsize (grid0.coords t) 0 = 1024
      ∧ win0_4.index t 1 * win0_4.size 1 = 0 ∧ win0_4.xsize (grid0.coords t) 1 = 2560 := by decide +kernel
    exact h t
  refine ⟨fun h => ?_, fun h a => ?_⟩
  · have : win0_4.index t 0 * win0_4.size 0 ≤ (i 0 : Nat)
        ∧ (i 0 : Nat) < win0_4.index t 0 * win0_4.size 0 + win0_4.xsize (grid0.coords t) 0 := h 0
    rw [e.1, e.2.1] at this; exact this
  · match a with
    | ⟨0, _⟩ =>
      show win0_4.index t 0 * win0_4.size 0 ≤ (i 0 : Nat)
        ∧ (i 0 : Nat) < win0_4.index t 0 * win0_4.size 0 + win0_4.xsize (grid0.coords t) 0
      rw [e.1, e.2.1]; exact h
    | ⟨1, _⟩ =>
      show win0_4.index t 1 * win0_4.size 1 ≤ (i 1 : Nat)
        ∧ (i 1 : Nat) < win0_4.index t 1 * win0_4.size 1 + win0_4.xsize (grid0.coords t) 1
      rw [e.2.2.1, e.2.2.2]; omega

/-- The blocks cover the array. -/
theorem cover4 (i : S16384x2560.Idx) : ∃ t : Fin cfg0.N, (cfg0.win 4).flush t = true ∧ i ∈ ((cfg0.win 4).blk t).view.set := by
  have h0 : (i 0 : Nat) < 16384 := (i 0).isLt
  have hN : cfg0.N = 16 := N_0
  exact ⟨⟨(i 0 : Nat) / 1024, by omega⟩, flush0_4 _, (mem_blk4 _ i).mpr ⟨by show (i 0 : Nat) / 1024 * 1024 ≤ _; omega,
    by show _ < (i 0 : Nat) / 1024 * 1024 + 1024; omega⟩⟩

/-- The array after the run. -/
theorem final4 (c : Dev nD) : (dats m 0 c).arrAt 4 cfg0.N = arr4 m c :=
  (dats m 0 c).arrAt_eq_of_cover 4 (arr4 m c) (fun t _ => flushed_eq4 m c t) cover4

/-! ## The second array -/

theorem idx5 (t : Fin cfg0.N) : win0_5.index t 0 = t.val ∧ win0_5.index t 1 = 0 := by
  have h : ∀ t : Fin cfg0.N, win0_5.index t 0 = t.val ∧ win0_5.index t 1 = 0 := by decide +kernel
  exact h t

/-- The entry of a whole array that an entry of a point's block is. -/
theorem read_blk5 (G : S16384x256.Idx → Elt Ideal .f32) (t : Fin cfg0.N) (r : Fin 1024) (l : Fin 256) :
    ((cfg0.win 5).blk t).view.read (Elt Ideal) G (ix2 r l) = G (ix2 (rowAt t r) l) := by
  rw [View.read_apply]
  show G _ = G _
  congr 1
  funext a
  apply Fin.ext
  match a with
  | ⟨0, _⟩ => show win0_5.index t 0 * 1024 + 1 * r.val = t.val * 1024 + r.val; rw [(idx5 t).1]; omega
  | ⟨1, _⟩ => show win0_5.index t 1 * 256 + 1 * l.val = l.val; rw [(idx5 t).2]; omega

/-- What a point writes back is its block of the whole array. -/
theorem flushed_eq5 (c : Dev nD) (t : Fin cfg0.N) :
    (dats m 0 c).flushed 5 t = ((cfg0.win 5).blk t).view.read (Elt Ideal) (arr5 m c) := by
  show (cfg0.win 5).cut (grid0.coords t) ((dats m 0 c).after 5 t) = _
  rw [after0_5]
  funext j
  obtain ⟨r, l, rfl⟩ : ∃ (r : Fin 1024) (l : Fin 256), j = ix2 r l := ⟨j 0, j 1, eq_ix2 j⟩
  exact (out5_iblk m c t r l).trans (read_blk5 (arr5 m c) t r l).symm

/-- The rows of a point's block. -/
theorem mem_blk5 (t : Fin cfg0.N) (i : S16384x256.Idx) :
    i ∈ ((cfg0.win 5).blk t).view.set ↔ t.val * 1024 ≤ (i 0 : Nat) ∧ (i 0 : Nat) < t.val * 1024 + 1024 := by
  show i ∈ ((View.whole main_v9_1).slice (win0_5.rect t)).set ↔ _
  rw [View.set_slice_whole, Rect.mem_set_unit]
  have h1 : (i 1 : Nat) < 256 := (i 1).isLt
  have e : win0_5.index t 0 * win0_5.size 0 = t.val * 1024 ∧ win0_5.xsize (grid0.coords t) 0 = 1024
      ∧ win0_5.index t 1 * win0_5.size 1 = 0 ∧ win0_5.xsize (grid0.coords t) 1 = 256 := by
    have h : ∀ t : Fin cfg0.N, win0_5.index t 0 * win0_5.size 0 = t.val * 1024 ∧ win0_5.xsize (grid0.coords t) 0 = 1024
      ∧ win0_5.index t 1 * win0_5.size 1 = 0 ∧ win0_5.xsize (grid0.coords t) 1 = 256 := by decide +kernel
    exact h t
  refine ⟨fun h => ?_, fun h a => ?_⟩
  · have : win0_5.index t 0 * win0_5.size 0 ≤ (i 0 : Nat)
        ∧ (i 0 : Nat) < win0_5.index t 0 * win0_5.size 0 + win0_5.xsize (grid0.coords t) 0 := h 0
    rw [e.1, e.2.1] at this; exact this
  · match a with
    | ⟨0, _⟩ =>
      show win0_5.index t 0 * win0_5.size 0 ≤ (i 0 : Nat)
        ∧ (i 0 : Nat) < win0_5.index t 0 * win0_5.size 0 + win0_5.xsize (grid0.coords t) 0
      rw [e.1, e.2.1]; exact h
    | ⟨1, _⟩ =>
      show win0_5.index t 1 * win0_5.size 1 ≤ (i 1 : Nat)
        ∧ (i 1 : Nat) < win0_5.index t 1 * win0_5.size 1 + win0_5.xsize (grid0.coords t) 1
      rw [e.2.2.1, e.2.2.2]; omega

/-- The blocks cover the array. -/
theorem cover5 (i : S16384x256.Idx) : ∃ t : Fin cfg0.N, (cfg0.win 5).flush t = true ∧ i ∈ ((cfg0.win 5).blk t).view.set := by
  have h0 : (i 0 : Nat) < 16384 := (i 0).isLt
  have hN : cfg0.N = 16 := N_0
  exact ⟨⟨(i 0 : Nat) / 1024, by omega⟩, flush0_5 _, (mem_blk5 _ i).mpr ⟨by show (i 0 : Nat) / 1024 * 1024 ≤ _; omega,
    by show _ < (i 0 : Nat) / 1024 * 1024 + 1024; omega⟩⟩

/-- The array after the run. -/
theorem final5 (c : Dev nD) : (dats m 0 c).arrAt 5 cfg0.N = arr5 m c :=
  (dats m 0 c).arrAt_eq_of_cover 5 (arr5 m c) (fun t _ => flushed_eq5 m c t) cover5

/-- From memories that agree on the arguments, the kernel's two arrays are the reference's. -/
theorem algebraic : Cert.algebraic_InputBIdeal_InputBRefIdeal := by
  intro m g m' g' _ hargs
  refine ⟨arr4 m, arr5 m, (θ_run defs _ _).mono (fun r h c => ?_) (Value.run_blocks m g), ?_⟩
  · obtain ⟨h4, h5, hrest⟩ := h c
    exact ⟨h4.trans (final4 m c), h5.trans (final5 m c), hrest⟩
  refine (θ_run Cert.InputBRefIdeal.defs _ _).mono (fun r h c => ?_) (Cert.InputBRefIdeal.Value.run m' g')
  obtain ⟨e0, e1, hrest⟩ := h c
  obtain ⟨a0, a1, a2⟩ := hargs c
  refine ⟨e0.trans ?_, e1.trans ?_, hrest⟩
  · exact (Cert.InputBRefIdeal.Read.val_main_v17_eq _ _ _).trans (congr (congr (congrArg _ a0) a1) a2)
  · exact (Cert.InputBRefIdeal.Read.val_main_v18_eq _ _ _).trans (congr (congr (congrArg _ a0) a1) a2)

end Cert.InputBIdeal.Rows

end
-- ==== Proof.SampleBValue.lean ====
module

public import proofs.«01_k».proof.Proof.Gen.SampleBIdeal.Value
public import proofs.«01_k».proof.Proof.Gen.SampleBRefIdeal.Read
public import proofs.«01_k».proof.Defs
public import proofs.«01_k».proof.Proof.ProjSpec
public import Idealize.ShloMosaic.Lib.Pointwise
public import Idealize.ShloMosaic.Lib.KernelVsHost
public import Idealize.ShloMosaic.Lib.Pipeline.Value

/-!
  The arrays the input projection of the recurrent layer leaves on the sample: row by row, the normalized row times the two column
  ranges of the weight. They are the arrays of the reference.
-/

@[expose] public section

set_option maxRecDepth 16384

noncomputable section

namespace Cert.SampleBIdeal.Rows

open Idealize.ShloMosaic Idealize.ShloMosaic.TcCoe Idealize.SL.Sem
open Cert.SampleBIdeal Cert.SampleBIdeal.Gen Cert.Router

variable (m : (ℓ : Loc nD τ sig) → Buf (Elt Ideal) ℓ) (ρ : Dev nD → PrngReg)

/-- The input rows. -/
abbrev A0 (c : Dev nD) : Vec Ideal S32x1024 .f32 := m ((c : Thread nD τ).loc main_arg0)
/-- The gains of the two layers. -/
abbrev A1 (c : Dev nD) : Vec Ideal S2x1024 .f32 := m ((c : Thread nD τ).loc main_arg1)
/-- The weight. -/
abbrev A2 (c : Dev nD) : Vec Ideal S1x1024x2816 .f32 := m ((c : Thread nD τ).loc main_arg2)

/-! ## What a block of rows becomes -/

section
variable (v0 : Vec Ideal S32x1024 .f32) (v1 : Vec Ideal S1x1024 .f32)

/-- The normalized rows of a block. -/
theorem pay1_apply (r : Fin 32) (c : Fin 1024) : k0_pay1 v0 v1 (ix2 r c) = hRow (fun k => v0 (ix2 r k)) (fun k => v1 (ix2 0 k)) c := by
  unfold k0_pay1 hRow
  pointwise

/-- The first product. -/
theorem pay2_apply (w : Vec Ideal S1024x2560 .bf16) (r : Fin 32) (l : Fin 2560) :
    k0_pay2 v0 v1 w (ix2 r l) = projRow (hRow (fun k => v0 (ix2 r k)) (fun k => v1 (ix2 0 k))) (fun k l => w (ix2 k l)) l := by
  have h := pay1_apply v0 v1 r
  unfold k0_pay2 projRow
  generalize k0_pay1 v0 v1 = y at h
  pointwise
  simp only [h]

/-- The second product. -/
theorem pay3_apply (w : Vec Ideal S1024x256 .bf16) (r : Fin 32) (l : Fin 256) :
    k0_pay3 v0 v1 w (ix2 r l) = projRow (hRow (fun k => v0 (ix2 r k)) (fun k => v1 (ix2 0 k))) (fun k l => w (ix2 k l)) l := by
  have h := pay1_apply v0 v1 r
  unfold k0_pay3 projRow
  generalize k0_pay1 v0 v1 = y at h
  pointwise
  simp only [h]

end

/-! ## The arrays the host code prepares -/

/-- The second layer's gains as a row. -/
theorem V_v6 (c : Dev nD) (k : Fin 1024) : (V m c main_v6 : Vec Ideal S1x1024 .f32) (ix2 0 k) = A1 m c (ix2 1 k) := by
  have h : V m c main_v6 = shapeCast S1x1024 (shapeCast S1024 (extractStridedSlice S1x1024 ![1, 0] (A1 m c) slices_S2x1024_S1x1024_1_0)
      shapeCasts_S1x1024_S1024) shapeCasts_S1024_S1x1024 := by
    unfold V
    simp only [hostOps0, List.flatten_cons, List.flatten_nil, List.append_nil, List.cons_append, List.nil_append]
    after_results
    rfl
  rw [h]
  pointwise
  all_goals rfl

/-- The weight's first columns. -/
theorem V_v7 (c : Dev nD) (k : Fin 1024) (l : Fin 2560) :
    (V m c main_v7 : Vec Ideal S1024x2560 .bf16) (ix2 k l) = A2 m c (ix3 0 k (Fin.castAdd 256 l)) := by
  have h : V m c main_v7 = fun i => (extractStridedSlice S1024x2560 ![0, 0] (shapeCast S1024x2816 (A2 m c)
      shapeCasts_S1x1024x2816_S1024x2816) slices_S1024x2816_S1024x2560_0_0 : Vec Ideal S1024x2560 .f32) i := by
    unfold V
    simp only [hostOps0, List.flatten_cons, List.flatten_nil, List.append_nil, List.cons_append, List.nil_append]
    after_results
    rfl
  rw [h]
  pointwise
  all_goals rfl

/-- The weight's last columns. -/
theorem V_v8 (c : Dev nD) (k : Fin 1024) (l : Fin 256) :
    (V m c main_v8 : Vec Ideal S1024x256 .bf16) (ix2 k l) = A2 m c (ix3 0 k (Fin.natAdd 2560 l)) := by
  have h : V m c main_v8 = fun i => (extractStridedSlice S1024x256 ![0, 2560] (shapeCast S1024x2816 (A2 m c)
      shapeCasts_S1x1024x2816_S1024x2816) slices_S1024x2816_S1024x256_0_2560 : Vec Ideal S1024x256 .f32) i := by
    unfold V
    simp only [hostOps0, List.flatten_cons, List.flatten_nil, List.append_nil, List.cons_append, List.nil_append]
    after_results
    rfl
  rw [h]
  pointwise
  rfl

/-! ## The reference's rows -/

section
variable (x0 : Vec Ideal S32x1024 .f32) (x1 : Vec Ideal S2x1024 .f32) (x2 : Vec Ideal S1x1024x2816 .f32) (i : Fin 32)
open Cert.SampleBRefIdeal.Read

/-- The reference's normalized rows. -/
theorem ref_h (k : Fin 1024) : val_main_v14 (F := Ideal) x0 x1 (ix2 i k) = hRow (fun k => x0 (ix2 i k)) (fun k => x1 (ix2 1 k)) k := by
  unfold val_main_v14 val_main_v13 val_main_v12 val_main_v11 val_main_v10 val_main_v9 val_main_v8 val_main_v7 val_main_v6 val_main_v5
    val_main_v4 val_main_v3 val_main_v2 val_main_v1 val_main_v0 val_main_cst val_main_cst_0 val_main_cst_1 hRow
  pointwise

/-- The reference's products. -/
theorem ref_p (l : Fin 2816) : val_main_v16 (F := Ideal) x0 x1 x2 (ix2 i l)
    = projRow (hRow (fun k => x0 (ix2 i k)) (fun k => x1 (ix2 1 k))) (fun k l => x2 (ix3 0 k l)) l := by
  have h := ref_h x0 x1 i
  unfold val_main_v16 val_main_v15 projRow
  generalize val_main_v14 (F := Ideal) x0 x1 = y at h
  pointwise
  simp only [h]

/-- The reference's first result. -/
theorem ref_v17 (l : Fin 2560) : val_main_v17 (F := Ideal) x0 x1 x2 (ix2 i l)
    = projRow (hRow (fun k => x0 (ix2 i k)) (fun k => x1 (ix2 1 k))) (fun k l => x2 (ix3 0 k l)) (Fin.castAdd 256 l) := by
  rw [← ref_p]
  unfold val_main_v17
  generalize val_main_v16 (F := Ideal) x0 x1 x2 = y
  pointwise
  rfl

/-- The reference's second result. -/
theorem ref_v18 (l : Fin 256) : val_main_v18 (F := Ideal) x0 x1 x2 (ix2 i l)
    = projRow (hRow (fun k => x0 (ix2 i k)) (fun k => x1 (ix2 1 k))) (fun k l => x2 (ix3 0 k l)) (Fin.natAdd 2560 l) := by
  rw [← ref_p]
  unfold val_main_v18
  generalize val_main_v16 (F := Ideal) x0 x1 x2 = y
  pointwise
  rfl

end

/-- The first array. -/
def arr4 (c : Dev nD) : Vec Ideal S32x2560 .f32 := Cert.SampleBRefIdeal.Read.val_main_v17 (F := Ideal) (A0 m c) (A1 m c) (A2 m c)
/-- The second array. -/
def arr5 (c : Dev nD) : Vec Ideal S32x256 .f32 := Cert.SampleBRefIdeal.Read.val_main_v18 (F := Ideal) (A0 m c) (A1 m c) (A2 m c)

/-! ## The blocks the body reads -/

/-- The row of the whole array that row `r` of point `t`'s block is. -/
def rowAt (t : Fin cfg0.N) (r : Fin 32) : Fin 32 :=
  ⟨t.val * 32 + r.val, by have := t.isLt; have : cfg0.N = 1 := N_0; omega⟩

/-- The block of the input rows. -/
theorem blk0 (c : Dev nD) (t : Fin cfg0.N) (r : Fin 32) (k : Fin 1024) :
    (iblk m c 0 t : Vec Ideal S32x1024 .f32) (ix2 r k) = (V m c main_arg0 : Vec Ideal S32x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_arg0 _ = V m c main_arg0 _
  congr 1
  funext a
  apply Fin.ext
  match a with
  | ⟨0, _⟩ => show win0_0.index t 0 * 32 + 1 * r.val = t.val * 32 + r.val; rw [hi.1]; omega
  | ⟨1, _⟩ => show win0_0.index t 1 * 1024 + 1 * k.val = k.val; rw [hi.2]; omega

/-- The block of the gains is the whole row. -/
theorem blk1 (c : Dev nD) (t : Fin cfg0.N) : (iblk m c 1 t : Vec Ideal S1x1024 .f32) = V m c main_v6 := by
  have hi : win0_1.index t 0 = 0 ∧ win0_1.index t 1 = 0 := by
    have h : ∀ t : Fin cfg0.N, win0_1.index t 0 = 0 ∧ win0_1.index t 1 = 0 := by decide +kernel
    exact h t
  funext j
  unfold iblk
  rw [View.read_apply]
  show V m c main_v6 _ = V m c main_v6 j
  congr 1
  funext a
  apply Fin.ext
  match a with
  | ⟨0, _⟩ => show win0_1.index t 0 * 1 + 1 * (j 0 : Nat) = (j 0 : Nat); rw [hi.1]; omega
  | ⟨1, _⟩ => show win0_1.index t 1 * 1024 + 1 * (j 1 : Nat) = (j 1 : Nat); rw [hi.2]; omega

/-- The block of the weight's first columns is the whole array. -/
theorem blk2 (c : Dev nD) (t : Fin cfg0.N) : (iblk m c 2 t : Vec Ideal S1024x2560 .bf16) = V m c main_v7 := by
  have hi : win0_2.index t 0 = 0 ∧ win0_2.index t 1 = 0 := by
    have h : ∀ t : Fin cfg0.N, win0_2.index t 0 = 0 ∧ win0_2.index t 1 = 0 := by decide +kernel
    exact h t
  funext j
  unfold iblk
  rw [View.read_apply]
  show V m c main_v7 _ = V m c main_v7 j
  congr 1
  funext a
  apply Fin.ext
  match a with
  | ⟨0, _⟩ => show win0_2.index t 0 * 1024 + 1 * (j 0 : Nat) = (j 0 : Nat); rw [hi.1]; omega
  | ⟨1, _⟩ => show win0_2.index t 1 * 2560 + 1 * (j 1 : Nat) = (j 1 : Nat); rw [hi.2]; omega

/-- The block of the weight's last columns is the whole array. -/
theorem blk3 (c : Dev nD) (t : Fin cfg0.N) : (iblk m c 3 t : Vec Ideal S1024x256 .bf16) = V m c main_v8 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v8 _ = V m c main_v8 j
  congr 1
  funext a
  apply Fin.ext
  match a with
  | ⟨0, _⟩ => show win0_3.index t 0 * 1024 + 1 * (j 0 : Nat) = (j 0 : Nat); rw [hi.1]; omega
  | ⟨1, _⟩ => show win0_3.index t 1 * 256 + 1 * (j 1 : Nat) = (j 1 : Nat); rw [hi.2]; omega

/-- A normalized row of a point's block. -/
theorem h_iblk (c : Dev nD) (t : Fin cfg0.N) (r : Fin 32) :
    hRow (fun k => (iblk m c 0 t : Vec Ideal S32x1024 .f32) (ix2 r k)) (fun k => (iblk m c 1 t : Vec Ideal S1x1024 .f32) (ix2 0 k))
      = hRow (fun k => A0 m c (ix2 (rowAt t r) k)) (fun k => A1 m c (ix2 1 k)) := by
  congr 1
  · funext k; exact (blk0 m c t r k).trans (congrFun (V_main_arg0 m c) _)
  · funext k; exact (congrFun (blk1 m c t) _).trans (V_v6 m c k)

/-- The offsets of a whole block. -/
theorem hz : ![0, 0] = fun _ : Fin 2 => 0 := by funext a; match a with | ⟨0, _⟩ => rfl | ⟨1, _⟩ => rfl

/-- What the body leaves at a point of the first array. -/
theorem out4_iblk (c : Dev nD) (t : Fin cfg0.N) (r : Fin 32) (l : Fin 2560) :
    out0_4 (iblk m c 0 t) (iblk m c 1 t) (iblk m c 2 t) (iblk m c 3 t) (ix2 r l) = arr4 m c (ix2 (rowAt t r) l) := by
  unfold out0_4 arr4
  rw [View.canon_unit_zero hz, View.ld_unit_zero hz, View.ld_unit_zero hz, View.ld_unit_zero hz, pay2_apply, ref_v17, h_iblk]
  refine Finset.sum_congr rfl fun k _ => congrArg₂ (· * ·) rfl ?_
  exact (congrFun (blk2 m c t) _).trans (V_v7 m c k l)

/-- What the body leaves at a point of the second array. -/
theorem out5_iblk (c : Dev nD) (t : Fin cfg0.N) (r : Fin 32) (l : Fin 256) :
    out0_5 (iblk m c 0 t) (iblk m c 1 t) (iblk m c 2 t) (iblk m c 3 t) (ix2 r l) = arr5 m c (ix2 (rowAt t r) l) := by
  unfold out0_5 arr5
  rw [View.canon_unit_zero hz, View.ld_unit_zero hz, View.ld_unit_zero hz, View.ld_unit_zero hz, pay3_apply, ref_v18, h_iblk]
  refine Finset.sum_congr rfl fun k _ => congrArg₂ (· * ·) rfl ?_
  exact (congrFun (blk3 m c t) _).trans (V_v8 m c k l)

/-! ## The first array -/

/-- The block of the first array a point writes. -/
theorem idx4 (t : Fin cfg0.N) : win0_4.index t 0 = t.val ∧ win0_4.index t 1 = 0 := by
  have h : ∀ t : Fin cfg0.N, win0_4.index t 0 = t.val ∧ win0_4.index t 1 = 0 := by decide +kernel
  exact h t

/-- The entry of a whole array that an entry of a point's block is. -/
theorem read_blk4 (G : S32x2560.Idx → Elt Ideal .f32) (t : Fin cfg0.N) (r : Fin 32) (l : Fin 2560) :
    ((cfg0.win 4).blk t).view.read (Elt Ideal) G (ix2 r l) = G (ix2 (rowAt t r) l) := by
  rw [View.read_apply]
  show G _ = G _
  congr 1
  funext a
  apply Fin.ext
  match a with
  | ⟨0, _⟩ => show win0_4.index t 0 * 32 + 1 * r.val = t.val * 32 + r.val; rw [(idx4 t).1]; omega
  | ⟨1, _⟩ => show win0_4.index t 1 * 2560 + 1 * l.val = l.val; rw [(idx4 t).2]; omega

/-- What a point writes back is its block of the whole array. -/
theorem flushed_eq4 (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  funext j
  obtain ⟨r, l, rfl⟩ : ∃ (r : Fin 32) (l : Fin 2560), j = ix2 r l := ⟨j 0, j 1, eq_ix2 j⟩
  exact (out4_iblk m c t r l).trans (read_blk4 (arr4 m c) t r l).symm

/-- The rows of a point's block. -/
theorem mem_blk4 (t : Fin cfg0.N) (i : S32x2560.Idx) :
    i ∈ ((cfg0.win 4).blk t).view.set ↔ t.val * 32 ≤ (i 0 : Nat) ∧ (i 0 : Nat) < t.val * 32 + 32 := by
  show i ∈ ((View.whole main_v9_0).slice (win0_4.rect t)).set ↔ _
  rw [View.set_slice_whole, Rect.mem_set_unit]
  have h1 : (i 1 : Nat) < 2560 := (i 1).isLt
  have e : win0_4.index t 0 * win0_4.size 0 = t.val * 32 ∧ win0_4.xsize (grid0.coords t) 0 = 32
      ∧ win0_4.index t 1 * win0_4.size 1 = 0 ∧ win0_4.xsize (grid0.coords t) 1 = 2560 := by
    have h : ∀ t : Fin cfg0.N, win0_4.index t 0 * win0_4.size 0 = t.val * 32 ∧ win0_4.xsize (grid0.coords t) 0 = 32
      ∧ win0_4.index t 1 * win0_4.size 1 = 0 ∧ win0_4.xsize (grid0.coords t) 1 = 2560 := by decide +kernel
    exact h t
  refine ⟨fun h => ?_, fun h a => ?_⟩
  · have : win0_4.index t 0 * win0_4.size 0 ≤ (i 0 : Nat)
        ∧ (i 0 : Nat) < win0_4.index t 0 * win0_4.size 0 + win0_4.xsize (grid0.coords t) 0 := h 0
    rw [e.1, e.2.1] at this; exact this
  · match a with
    | ⟨0, _⟩ =>
      show win0_4.index t 0 * win0_4.size 0 ≤ (i 0 : Nat)
        ∧ (i 0 : Nat) < win0_4.index t 0 * win0_4.size 0 + win0_4.xsize (grid0.coords t) 0
      rw [e.1, e.2.1]; exact h
    | ⟨1, _⟩ =>
      show win0_4.index t 1 * win0_4.size 1 ≤ (i 1 : Nat)
        ∧ (i 1 : Nat) < win0_4.index t 1 * win0_4.size 1 + win0_4.xsize (grid0.coords t) 1
      rw [e.2.2.1, e.2.2.2]; omega

/-- The blocks cover the array. -/
theorem cover4 (i : S32x2560.Idx) : ∃ t : Fin cfg0.N, (cfg0.win 4).flush t = true ∧ i ∈ ((cfg0.win 4).blk t).view.set := by
  have h0 : (i 0 : Nat) < 32 := (i 0).isLt
  have hN : cfg0.N = 1 := N_0
  exact ⟨⟨(i 0 : Nat) / 32, by omega⟩, flush0_4 _, (mem_blk4 _ i).mpr ⟨by show (i 0 : Nat) / 32 * 32 ≤ _; omega,
    by show _ < (i 0 : Nat) / 32 * 32 + 32; omega⟩⟩

/-- The array after the run. -/
theorem final4 (c : Dev nD) : (dats m 0 c).arrAt 4 cfg0.N = arr4 m c :=
  (dats m 0 c).arrAt_eq_of_cover 4 (arr4 m c) (fun t _ => flushed_eq4 m c t) cover4

/-! ## The second array -/

/-- The block of the second array a point writes. -/
theorem idx5 (t : Fin cfg0.N) : win0_5.index t 0 = t.val ∧ win0_5.index t 1 = 0 := by
  have h : ∀ t : Fin cfg0.N, win0_5.index t 0 = t.val ∧ win0_5.index t 1 = 0 := by decide +kernel
  exact h t

/-- The entry of a whole array that an entry of a point's block is. -/
theorem read_blk5 (G : S32x256.Idx → Elt Ideal .f32) (t : Fin cfg0.N) (r : Fin 32) (l : Fin 256) :
    ((cfg0.win 5).blk t).view.read (Elt Ideal) G (ix2 r l) = G (ix2 (rowAt t r) l) := by
  rw [View.read_apply]
  show G _ = G _
  congr 1
  funext a
  apply Fin.ext
  match a with
  | ⟨0, _⟩ => show win0_5.index t 0 * 32 + 1 * r.val = t.val * 32 + r.val; rw [(idx5 t).1]; omega
  | ⟨1, _⟩ => show win0_5.index t 1 * 256 + 1 * l.val = l.val; rw [(idx5 t).2]; omega

/-- What a point writes back is its block of the whole array. -/
theorem flushed_eq5 (c : Dev nD) (t : Fin cfg0.N) :
    (dats m 0 c).flushed 5 t = ((cfg0.win 5).blk t).view.read (Elt Ideal) (arr5 m c) := by
  show (cfg0.win 5).cut (grid0.coords t) ((dats m 0 c).after 5 t) = _
  rw [after0_5]
  funext j
  obtain ⟨r, l, rfl⟩ : ∃ (r : Fin 32) (l : Fin 256), j = ix2 r l := ⟨j 0, j 1, eq_ix2 j⟩
  exact (out5_iblk m c t r l).trans (read_blk5 (arr5 m c) t r l).symm

/-- The rows of a point's block. -/
theorem mem_blk5 (t : Fin cfg0.N) (i : S32x256.Idx) :
    i ∈ ((cfg0.win 5).blk t).view.set ↔ t.val * 32 ≤ (i 0 : Nat) ∧ (i 0 : Nat) < t.val * 32 + 32 := by
  show i ∈ ((View.whole main_v9_1).slice (win0_5.rect t)).set ↔ _
  rw [View.set_slice_whole, Rect.mem_set_unit]
  have h1 : (i 1 : Nat) < 256 := (i 1).isLt
  have e : win0_5.index t 0 * win0_5.size 0 = t.val * 32 ∧ win0_5.xsize (grid0.coords t) 0 = 32
      ∧ win0_5.index t 1 * win0_5.size 1 = 0 ∧ win0_5.xsize (grid0.coords t) 1 = 256 := by
    have h : ∀ t : Fin cfg0.N, win0_5.index t 0 * win0_5.size 0 = t.val * 32 ∧ win0_5.xsize (grid0.coords t) 0 = 32
      ∧ win0_5.index t 1 * win0_5.size 1 = 0 ∧ win0_5.xsize (grid0.coords t) 1 = 256 := by decide +kernel
    exact h t
  refine ⟨fun h => ?_, fun h a => ?_⟩
  · have : win0_5.index t 0 * win0_5.size 0 ≤ (i 0 : Nat)
        ∧ (i 0 : Nat) < win0_5.index t 0 * win0_5.size 0 + win0_5.xsize (grid0.coords t) 0 := h 0
    rw [e.1, e.2.1] at this; exact this
  · match a with
    | ⟨0, _⟩ =>
      show win0_5.index t 0 * win0_5.size 0 ≤ (i 0 : Nat)
        ∧ (i 0 : Nat) < win0_5.index t 0 * win0_5.size 0 + win0_5.xsize (grid0.coords t) 0
      rw [e.1, e.2.1]; exact h
    | ⟨1, _⟩ =>
      show win0_5.index t 1 * win0_5.size 1 ≤ (i 1 : Nat)
        ∧ (i 1 : Nat) < win0_5.index t 1 * win0_5.size 1 + win0_5.xsize (grid0.coords t) 1
      rw [e.2.2.1, e.2.2.2]; omega

/-- The blocks cover the array. -/
theorem cover5 (i : S32x256.Idx) : ∃ t : Fin cfg0.N, (cfg0.win 5).flush t = true ∧ i ∈ ((cfg0.win 5).blk t).view.set := by
  have h0 : (i 0 : Nat) < 32 := (i 0).isLt
  have hN : cfg0.N = 1 := N_0
  exact ⟨⟨(i 0 : Nat) / 32, by omega⟩, flush0_5 _, (mem_blk5 _ i).mpr ⟨by show (i 0 : Nat) / 32 * 32 ≤ _; omega,
    by show _ < (i 0 : Nat) / 32 * 32 + 32; omega⟩⟩

/-- The array after the run. -/
theorem final5 (c : Dev nD) : (dats m 0 c).arrAt 5 cfg0.N = arr5 m c :=
  (dats m 0 c).arrAt_eq_of_cover 5 (arr5 m c) (fun t _ => flushed_eq5 m c t) cover5

/-- From memories that agree on the arguments, the kernel's two arrays are the reference's. -/
theorem algebraic : Cert.algebraic_SampleBIdeal_SampleBRefIdeal := by
  intro m g m' g' _ hargs
  refine ⟨arr4 m, arr5 m, (θ_run defs _ _).mono (fun r h c => ?_) (Value.run_blocks m g), ?_⟩
  · obtain ⟨h4, h5, hrest⟩ := h c
    exact ⟨h4.trans (final4 m c), h5.trans (final5 m c), hrest⟩
  refine (θ_run Cert.SampleBRefIdeal.defs _ _).mono (fun r h c => ?_) (Cert.SampleBRefIdeal.Value.run m' g')
  obtain ⟨e0, e1, hrest⟩ := h c
  obtain ⟨a0, a1, a2⟩ := hargs c
  refine ⟨e0.trans ?_, e1.trans ?_, hrest⟩
  · exact (Cert.SampleBRefIdeal.Read.val_main_v17_eq _ _ _).trans (congr (congr (congrArg _ a0) a1) a2)
  · exact (Cert.SampleBRefIdeal.Read.val_main_v18_eq _ _ _).trans (congr (congr (congrArg _ a0) a1) a2)

end Cert.SampleBIdeal.Rows

end
-- ==== Proof.MemoryValue.lean ====
module

public import proofs.«01_k».proof.Defs
public import proofs.«01_k».proof.Proof.Gen.MemoryIdeal.Value
public import proofs.«01_k».proof.Proof.Gen.MemoryRefIdeal.Read
public import proofs.«01_k».proof.Proof.ProjSpec
public import Idealize.ShloMosaic.Lib.Pointwise
public import Idealize.ShloMosaic.Lib.KernelVsHost
public import Idealize.ShloMosaic.Lib.Pipeline.Value
public import Idealize.ShloMosaic.Lib.Pipeline.ValueKit

/-!
  The arrays the memory projection leaves: row by row, the keys, whose heads are normalized, and the values. They are the
  arrays of the reference.
-/

@[expose] public section

set_option maxRecDepth 16384

noncomputable section

namespace Cert.MemoryIdeal.Rows

open Idealize.ShloMosaic Idealize.ShloMosaic.TcCoe Idealize.SL.Sem
open Cert.MemoryIdeal Cert.MemoryIdeal.Gen Cert.Router

variable (m : (ℓ : Loc nD τ sig) → Buf (Elt Ideal) ℓ) (ρ : Dev nD → PrngReg)

/-- The memory rows. -/
abbrev A0 (c : Dev nD) : Vec Ideal S8x256x1024 .f32 := m ((c : Thread nD τ).loc main_arg0)
/-- The gains of the rows. -/
abbrev A1 (c : Dev nD) : Vec Ideal S1024 .f32 := m ((c : Thread nD τ).loc main_arg1)
/-- The weight. -/
abbrev A2 (c : Dev nD) : Vec Ideal S1024x512 .f32 := m ((c : Thread nD τ).loc main_arg2)
/-- The gains of a head. -/
abbrev A3 (c : Dev nD) : Vec Ideal S64 .f32 := m ((c : Thread nD τ).loc main_arg3)

/-! ## What a block of rows becomes -/

section
variable (v0 : Vec Ideal S256x1024 .f32) (v1 : Vec Ideal S1x1024 .f32)

/-- The normalized rows of a block. -/
theorem pay2_apply (r : Fin 256) (c : Fin 1024) :
    k0_pay2 v0 v1 (ix2 r c) = hRow (fun k => v0 (ix2 r k)) (fun k => v1 (ix2 0 k)) c := by
  unfold k0_pay2 hRow
  pointwise

/-- The product of the keys. -/
theorem pay3_apply (w : Vec Ideal S1024x256 .bf16) (r : Fin 256) (l : Fin 256) :
    k0_pay3 v0 v1 w (ix2 r l) = projRow (hRow (fun k => v0 (ix2 r k)) (fun k => v1 (ix2 0 k))) (fun k l => w (ix2 k l)) l := by
  have h := pay2_apply v0 v1 r
  unfold k0_pay3 projRow
  generalize k0_pay2 v0 v1 = y at h
  pointwise
  simp only [h]

/-- The product of the values. -/
theorem pay1_apply (w : Vec Ideal S1024x256 .bf16) (r : Fin 256) (l : Fin 256) :
    k0_pay1 (k0_pay2 v0 v1) w (ix2 r l)
      = projRow (hRow (fun k => v0 (ix2 r k)) (fun k => v1 (ix2 0 k))) (fun k l => w (ix2 k l)) l := by
  have h := pay2_apply v0 v1 r
  unfold k0_pay1 projRow
  generalize k0_pay2 v0 v1 = y at h
  pointwise
  simp only [h]

/-- The first two heads of the keys. -/
theorem pay11_apply (w : Vec Ideal S1024x256 .bf16) (g : FVec Ideal S1x128 .f32) (r : Fin 256) (l : Fin 128) :
    k0_pay11 g (k0_pay6 v0 v1 w) (k0_pay8 v0 v1 w) k0_pay9 (k0_pay10 v0 v1 w) (ix2 r l)
      = tileNorm (fun k => k0_pay3 v0 v1 w (ix2 r ⟨0 + k.val, by omega⟩)) (fun k => g (ix2 0 k)) l := by
  rw [← tileWords_eq]
  unfold k0_pay11 k0_pay10 k0_pay9 k0_pay8 k0_pay7 k0_pay6 k0_pay5 tileWords lowWord
  generalize k0_pay3 v0 v1 w = z
  pointwise

/-- The last two heads of the keys. -/
theorem pay12_apply (z : FVec Ideal S256x256 .f32) (g : FVec Ideal S1x128 .f32) (r : Fin 256) (l : Fin 128) :
    k0_pay12 z g k0_pay5 (ix2 r l) = tileNorm (fun k => z (ix2 r ⟨128 + k.val, by omega⟩)) (fun k => g (ix2 0 k)) l := by
  rw [← tileWords_eq]
  unfold k0_pay12 k0_pay5 tileWords lowWord
  pointwise

end

theorem hz : ![0, 0] = fun _ : Fin 2 => 0 := by funext a; match a with | ⟨0, _⟩ => rfl | ⟨1, _⟩ => rfl

section
variable (x0 : Vec Ideal S256x1024 .f32) (x1 : Vec Ideal S1x1024 .f32) (x2 x3 : Vec Ideal S1024x256 .bf16)
  (x4 : Vec Ideal S1x128 .f32)

/-- What the body leaves in the block of the keys. -/
theorem out5_apply (gain : Fin 64 → EReal) (hg : ∀ l : Fin 128, x4 (ix2 0 l) = gain (inHead l)) (r l : Fin 256) :
    out0_5 x0 x1 x2 x3 x4 (ix2 r l) = headRow (by decide : 256 % 64 = 0)
      (projRow (hRow (fun k => x0 (ix2 r k)) (fun k => x1 (ix2 0 k))) (fun k l => x2 (ix2 k l))) gain l := by
  unfold out0_5 k0_pay13
  rw [View.ld_unit_zero hz, View.ld_unit_zero hz, View.ld_unit_zero hz, View.ld_unit_zero hz]
  have hg4 : ∀ l : Fin 128, k0_pay4 x4 (ix2 0 l) = gain (inHead l) := fun l => by
    rw [← hg l]; unfold k0_pay4; pointwise
  canon_tiles x h
  · obtain ⟨r', l', rfl⟩ : ∃ (r' : Fin 256) (l' : Fin 128), x = ix2 r' l' := ⟨x 0, x 1, eq_ix2 x⟩
    obtain rfl : r = r' := Fin.ext h0
    refine (pay12_apply (k0_pay3 x0 x1 x2) (k0_pay4 x4) r l').trans ((tileNorm_eq _ _ gain hg4 l').trans ?_)
    simp only [pay3_apply]
    refine (headRow_sub (by decide : 256 % 64 = 0) (by decide) 128 (by decide) (by decide) _ gain l').trans ?_
    exact congrArg _ (Fin.ext h1.symm)
  · obtain ⟨r', l', rfl⟩ : ∃ (r' : Fin 256) (l' : Fin 128), x = ix2 r' l' := ⟨x 0, x 1, eq_ix2 x⟩
    obtain rfl : r = r' := Fin.ext h0
    refine (pay11_apply x0 x1 x2 (k0_pay4 x4) r l').trans ((tileNorm_eq _ _ gain hg4 l').trans ?_)
    simp only [pay3_apply]
    refine (headRow_sub (by decide : 256 % 64 = 0) (by decide) 0 (by decide) (by decide) _ gain l').trans ?_
    exact congrArg _ (Fin.ext ((Nat.zero_add _).trans h1.symm))

/-- What the body leaves in the block of the values. -/
theorem out6_apply (r l : Fin 256) : out0_6 x0 x1 x2 x3 x4 (ix2 r l)
    = projRow (hRow (fun k => x0 (ix2 r k)) (fun k => x1 (ix2 0 k))) (fun k l => x3 (ix2 k l)) l := by
  unfold out0_6
  rw [View.canon_unit_zero hz, View.ld_unit_zero hz, View.ld_unit_zero hz, View.ld_unit_zero hz, pay1_apply]

end

/-! ## The arrays the host code prepares -/

/-- The memory rows of all sequences, one below the other. -/
theorem V_v0 (c : Dev nD) (i : Fin 2048) (k : Fin 1024) : (V m c main_v0 : Vec Ideal S2048x1024 .f32) (ix2 i k)
    = A0 m c (ix3 ⟨i.val / 256, by omega⟩ ⟨i.val % 256, by omega⟩ k) := by
  have h : V m c main_v0 = shapeCast S2048x1024 (A0 m c) shapeCasts_S8x256x1024_S2048x1024 := by
    unfold V
    simp only [hostOps0, List.flatten_cons, List.flatten_nil, List.append_nil, List.cons_append, List.nil_append]
    after_results
    rfl
  rw [h]
  exact shapeCast_apply _ _ _ _ (by
    rewrite [Shape.rowMajor_val_three, Shape.rowMajor_val_two]
    show (i.val / 256 * 256 + i.val % 256) * 1024 + k.val = i.val * 1024 + k.val
    omega)

/-- The gains as a row. -/
theorem V_v3 (c : Dev nD) (k : Fin 1024) : (V m c main_v3 : Vec Ideal S1x1024 .f32) (ix2 0 k) = A1 m c (ix1 k) := by
  have h : V m c main_v3 = shapeCast S1x1024 (A1 m c) shapeCasts_S1024_S1x1024 := by
    unfold V
    simp only [hostOps0, List.flatten_cons, List.flatten_nil, List.append_nil, List.cons_append, List.nil_append]
    after_results
    rfl
  rw [h]
  pointwise

/-- The weight of the keys. -/
theorem V_v4 (c : Dev nD) (k : Fin 1024) (l : Fin 256) :
    (V m c main_v4 : Vec Ideal S1024x256 .bf16) (ix2 k l) = A2 m c (ix2 k ⟨l.val, by omega⟩) := by
  have h : V m c main_v4 = fun i => (extractStridedSlice S1024x256 ![0, 0] (A2 m c) slices_S1024x512_S1024x256_0_0 : Vec Ideal S1024x256 .f32) i := by
    unfold V
    simp only [hostOps0, List.flatten_cons, List.flatten_nil, List.append_nil, List.cons_append, List.nil_append]
    after_results
    rfl
  rw [h]
  pointwise

/-- The weight of the values. -/
theorem V_v5 (c : Dev nD) (k : Fin 1024) (l : Fin 256) :
    (V m c main_v5 : Vec Ideal S1024x256 .bf16) (ix2 k l) = A2 m c (ix2 k ⟨256 + l.val, by omega⟩) := by
  have h : V m c main_v5 = fun i => (extractStridedSlice S1024x256 ![0, 256] (A2 m c) slices_S1024x512_S1024x256_0_256 : Vec Ideal S1024x256 .f32) i := by
    unfold V
    simp only [hostOps0, List.flatten_cons, List.flatten_nil, List.append_nil, List.cons_append, List.nil_append]
    after_results
    rfl
  rw [h]
  pointwise

/-- The gains of a head, twice. -/
theorem V_v9 (c : Dev nD) (l : Fin 128) : (V m c main_v9 : Vec Ideal S1x128 .f32) (ix2 0 l) = A3 m c (ix1 (inHead l)) := by
  have h : V m c main_v9 = shapeCast S1x128 (shapeCast S128 (broadcastInDim S2x64 ![0, 1] bcast_S1x64_S2x64_0_1
      (shapeCast S1x64 (A3 m c) shapeCasts_S64_S1x64)) shapeCasts_S2x64_S128) shapeCasts_S128_S1x128 := by
    unfold V
    simp only [hostOps0, List.flatten_cons, List.flatten_nil, List.append_nil, List.cons_append, List.nil_append]
    after_results
    rfl
  rw [h]
  refine (shapeCast_apply _ _ (ix2 0 l) (ix1 l) (by
    rewrite [Shape.rowMajor_val_one, Shape.rowMajor_val_two]; show l.val = 0 * 128 + l.val; omega)).trans ?_
  refine (shapeCast_apply _ _ (ix1 l) (ix2 ⟨l.val / 64, by omega⟩ (inHead l)) (by
    rewrite [Shape.rowMajor_val_two, Shape.rowMajor_val_one]; show l.val / 64 * 64 + l.val % 64 = l.val; omega)).trans ?_
  pointwise

/-! ## The reference's rows -/

section
variable (x0 : Vec Ideal S8x256x1024 .f32) (x1 : Vec Ideal S1024 .f32) (x2 : Vec Ideal S1024x512 .f32) (x3 : Vec Ideal S64 .f32)
open Cert.MemoryRefIdeal.Read

/-- The reference's normalized rows. -/
theorem ref_h (b : Fin 8) (s : Fin 256) (k : Fin 1024) :
    val_main_v12 (F := Ideal) x0 x1 (ix3 b s k) = hRow (fun k => x0 (ix3 b s k)) (fun k => x1 (ix1 k)) k := by
  unfold val_main_v12 val_main_v11 val_main_v10 val_main_v9 val_main_v8 val_main_v7 val_main_v6 val_main_v5
    val_main_v4 val_main_v3 val_main_v2 val_main_v1 val_main_v0 val_main_cst val_main_cst_0 val_main_cst_1 hRow
  pointwise

/-- The reference's products. -/
theorem ref_p (b : Fin 8) (s : Fin 256) (l : Fin 512) : val_main_v13 (F := Ideal) x0 x1 x2 (ix3 b s l)
    = projRow (hRow (fun k => x0 (ix3 b s k)) (fun k => x1 (ix1 k))) (fun k l => x2 (ix2 k l)) l := by
  have h := ref_h x0 x1 b s
  unfold val_main_v13 projRow
  generalize val_main_v12 (F := Ideal) x0 x1 = y at h
  pointwise
  simp only [h]

/-- The reference's heads. -/
theorem ref_z (b : Fin 8) (s : Fin 256) (hd : Fin 4) (d : Fin 64) : val_main_v15 (F := Ideal) x0 x1 x2 (ix4 b s hd d)
    = val_main_v13 (F := Ideal) x0 x1 x2 (ix3 b s ⟨hd.val * 64 + d.val, by omega⟩) := by
  rw [val_main_v15_apply, val_main_v14_apply]
  congr 1
  funext a
  apply Fin.ext
  match a with
  | ⟨0, _⟩ => show (((b.val * 256 + s.val) * 4 + hd.val) * 64 + d.val) / 65536 = b.val; omega
  | ⟨1, _⟩ => show (((b.val * 256 + s.val) * 4 + hd.val) * 64 + d.val) / 256 % 256 = s.val; omega
  | ⟨2, _⟩ => show (((b.val * 256 + s.val) * 4 + hd.val) * 64 + d.val) % 256 = hd.val * 64 + d.val; omega

/-- The reference's normalized heads. -/
theorem ref_n (b : Fin 8) (s : Fin 256) (hd : Fin 4) (d : Fin 64) : val_main_v28 (F := Ideal) x0 x1 x2 x3 (ix4 b s hd d)
    = headNorm (fun d => val_main_v15 (F := Ideal) x0 x1 x2 (ix4 b s hd d)) (fun d => x3 (ix1 d)) d := by
  unfold val_main_v28 val_main_v27 val_main_v26 val_main_v25 val_main_v24 val_main_v23 val_main_v22 val_main_v21 val_main_v20
    val_main_v19 val_main_v18 val_main_v17 val_main_v16 val_main_cst_2 val_main_cst_3 val_main_cst_4 headNorm
  generalize val_main_v15 (F := Ideal) x0 x1 x2 = y
  pointwise

/-- The reference's keys. -/
theorem ref_v29 (i : Fin 2048) (l : Fin 256) : val_main_v29 (F := Ideal) x0 x1 x2 x3 (ix2 i l)
    = headRow (by decide : 256 % 64 = 0) (projRow (hRow (fun k => x0 (ix3 ⟨i.val / 256, by omega⟩ ⟨i.val % 256, by omega⟩ k)) (fun k => x1 (ix1 k)))
      (fun k l => x2 (ix2 k ⟨l.val, by omega⟩))) (fun d => x3 (ix1 d)) l := by
  rw [val_main_v29_apply]
  have e : idx_main_v29 (ix2 i l) = ix4 ⟨i.val / 256, by omega⟩ ⟨i.val % 256, by omega⟩ ⟨l.val / 64, by omega⟩ (inHead l) := by
    funext a
    apply Fin.ext
    match a with
    | ⟨0, _⟩ => show (i.val * 256 + l.val) / 65536 = i.val / 256; omega
    | ⟨1, _⟩ => show (i.val * 256 + l.val) / 256 % 256 = i.val % 256; omega
    | ⟨2, _⟩ => show (i.val * 256 + l.val) / 64 % 4 = l.val / 64; omega
    | ⟨3, _⟩ => show (i.val * 256 + l.val) % 64 = l.val % 64; omega
  rw [e, ref_n]
  simp only [ref_z, ref_p]
  rfl

/-- The reference's values. -/
theorem ref_v31 (i : Fin 2048) (l : Fin 256) : val_main_v31 (F := Ideal) x0 x1 x2 (ix2 i l)
    = projRow (hRow (fun k => x0 (ix3 ⟨i.val / 256, by omega⟩ ⟨i.val % 256, by omega⟩ k)) (fun k => x1 (ix1 k)))
      (fun k l => x2 (ix2 k ⟨256 + l.val, by omega⟩)) l := by
  rw [val_main_v31_apply, val_main_v30_apply]
  have e : idx_main_v30 (idx_main_v31 (ix2 i l)) = ix3 ⟨i.val / 256, by omega⟩ ⟨i.val % 256, by omega⟩ ⟨256 + l.val, by omega⟩ := by
    funext a
    apply Fin.ext
    match a with
    | ⟨0, _⟩ => show (i.val * 256 + l.val) / 65536 = i.val / 256; omega
    | ⟨1, _⟩ => show (i.val * 256 + l.val) / 256 % 256 = i.val % 256; omega
    | ⟨2, _⟩ => show 256 + (i.val * 256 + l.val) % 256 = 256 + l.val; omega
  rw [e, ref_p]
  rfl

end

/-- The keys. -/
def arr5 (c : Dev nD) : Vec Ideal S2048x256 .f32 := Cert.MemoryRefIdeal.Read.val_main_v29 (F := Ideal) (A0 m c) (A1 m c) (A2 m c) (A3 m c)
/-- The values. -/
def arr6 (c : Dev nD) : Vec Ideal S2048x256 .f32 := Cert.MemoryRefIdeal.Read.val_main_v31 (F := Ideal) (A0 m c) (A1 m c) (A2 m c)

/-! ## The blocks the body reads -/

/-- The row of the whole array that row `r` of point `t`'s block is. -/
def rowAt (t : Fin cfg0.N) (r : Fin 256) : Fin 2048 :=
  ⟨t.val * 256 + r.val, by have := t.isLt; have : cfg0.N = 8 := N_0; omega⟩

/-- The block of the input rows. -/
theorem blk0 (c : Dev nD) (t : Fin cfg0.N) (r : Fin 256) (k : Fin 1024) :
    (iblk m c 0 t : Vec Ideal S256x1024 .f32) (ix2 r k) = (V m c main_v0 : Vec Ideal S2048x1024 .f32) (ix2 (rowAt t r) k) := by
  have hi : win0_0.index t 0 = t.val ∧ win0_0.index t 1 = 0 := by
    have h : ∀ t : Fin cfg0.N, win0_0.index t 0 = t.val ∧ win0_0.index t 1 = 0 := by decide +kernel
    exact h t
  unfold iblk
  rw [View.read_apply]
  show V m c main_v0 _ = V m c main_v0 _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

/-- The block of the gains is the whole row. -/
theorem blk1 (c : Dev nD) (t : Fin cfg0.N) : (iblk m c 1 t : Vec Ideal S1x1024 .f32) = V m c main_v3 := by
  have hi : win0_1.index t 0 = 0 ∧ win0_1.index t 1 = 0 := by
    have h : ∀ t : Fin cfg0.N, win0_1.index t 0 = 0 ∧ win0_1.index t 1 = 0 := by decide +kernel
    exact h t
  funext j
  unfold iblk
  rw [View.read_apply]
  show V m c main_v3 _ = V m c main_v3 j
  congr 1
  funext a
  apply Fin.ext
  match a with
  | ⟨0, _⟩ => show win0_1.index t 0 * 1 + 1 * (j 0 : Nat) = (j 0 : Nat); rw [hi.1]; omega
  | ⟨1, _⟩ => show win0_1.index t 1 * 1024 + 1 * (j 1 : Nat) = (j 1 : Nat); rw [hi.2]; omega

/-- The block of the keys' weight is the whole array. -/
theorem blk2 (c : Dev nD) (t : Fin cfg0.N) : (iblk m c 2 t : Vec Ideal S1024x256 .bf16) = V m c main_v4 := by
  have hi : win0_2.index t 0 = 0 ∧ win0_2.index t 1 = 0 := by
    have h : ∀ t : Fin cfg0.N, win0_2.index t 0 = 0 ∧ win0_2.index t 1 = 0 := by decide +kernel
    exact h t
  funext j
  unfold iblk
  rw [View.read_apply]
  show V m c main_v4 _ = V m c main_v4 j
  congr 1
  funext a
  apply Fin.ext
  match a with
  | ⟨0, _⟩ => show win0_2.index t 0 * 1024 + 1 * (j 0 : Nat) = (j 0 : Nat); rw [hi.1]; omega
  | ⟨1, _⟩ => show win0_2.index t 1 * 256 + 1 * (j 1 : Nat) = (j 1 : Nat); rw [hi.2]; omega

/-- The block of the values' weight is the whole array. -/
theorem blk3 (c : Dev nD) (t : Fin cfg0.N) : (iblk m c 3 t : Vec Ideal S1024x256 .bf16) = V m c main_v5 := by
  have hi : win0_3.index t 0 = 0 ∧ win0_3.index t 1 = 0 := by
    have h : ∀ t : Fin cfg0.N, win0_3.index t 0 = 0 ∧ win0_3.index t 1 = 0 := by decide +kernel
    exact h t
  funext j
  unfold iblk
  rw [View.read_apply]
  show V m c main_v5 _ = V m c main_v5 j
  congr 1
  funext a
  apply Fin.ext
  match a with
  | ⟨0, _⟩ => show win0_3.index t 0 * 1024 + 1 * (j 0 : Nat) = (j 0 : Nat); rw [hi.1]; omega
  | ⟨1, _⟩ => show win0_3.index t 1 * 256 + 1 * (j 1 : Nat) = (j 1 : Nat); rw [hi.2]; omega

/-- The block of the head's gains is the whole row. -/
theorem blk4 (c : Dev nD) (t : Fin cfg0.N) : (iblk m c 4 t : Vec Ideal S1x128 .f32) = V m c main_v9 := by
  have hi : win0_4.index t 0 = 0 ∧ win0_4.index t 1 = 0 := by
    have h : ∀ t : Fin cfg0.N, win0_4.index t 0 = 0 ∧ win0_4.index t 1 = 0 := by decide +kernel
    exact h t
  funext j
  unfold iblk
  rw [View.read_apply]
  show V m c main_v9 _ = V m c main_v9 j
  congr 1
  funext a
  apply Fin.ext
  match a with
  | ⟨0, _⟩ => show win0_4.index t 0 * 1 + 1 * (j 0 : Nat) = (j 0 : Nat); rw [hi.1]; omega
  | ⟨1, _⟩ => show win0_4.index t 1 * 128 + 1 * (j 1 : Nat) = (j 1 : Nat); rw [hi.2]; omega

/-- A normalized row of a point's block. -/
theorem h_iblk (c : Dev nD) (t : Fin cfg0.N) (r : Fin 256) :
    hRow (fun k => (iblk m c 0 t : Vec Ideal S256x1024 .f32) (ix2 r k)) (fun k => (iblk m c 1 t : Vec Ideal S1x1024 .f32) (ix2 0 k))
      = hRow (fun k => A0 m c (ix3 ⟨(rowAt t r).val / 256, by omega⟩ ⟨(rowAt t r).val % 256, by omega⟩ k)) (fun k => A1 m c (ix1 k)) := by
  congr 1
  · funext k; exact (blk0 m c t r k).trans (V_v0 m c _ k)
  · funext k; exact (congrFun (blk1 m c t) _).trans (V_v3 m c k)

/-- What the body leaves at a point of the keys. -/
theorem out5_iblk (c : Dev nD) (t : Fin cfg0.N) (r : Fin 256) (l : Fin 256) :
    out0_5 (iblk m c 0 t) (iblk m c 1 t) (iblk m c 2 t) (iblk m c 3 t) (iblk m c 4 t) (ix2 r l) = arr5 m c (ix2 (rowAt t r) l) := by
  unfold arr5
  refine (out5_apply _ _ _ _ _ (fun d => A3 m c (ix1 d)) (fun l => (congrFun (blk4 m c t) _).trans (V_v9 m c l)) r l).trans ?_
  rw [ref_v29, h_iblk]
  refine congrArg (fun w => headRow _ (projRow _ w) _ l) ?_
  funext k l
  exact (congrFun (blk2 m c t) _).trans (V_v4 m c k l)

/-- What the body leaves at a point of the values. -/
theorem out6_iblk (c : Dev nD) (t : Fin cfg0.N) (r : Fin 256) (l : Fin 256) :
    out0_6 (iblk m c 0 t) (iblk m c 1 t) (iblk m c 2 t) (iblk m c 3 t) (iblk m c 4 t) (ix2 r l) = arr6 m c (ix2 (rowAt t r) l) := by
  unfold arr6
  rw [out6_apply, ref_v31, h_iblk]
  refine congrArg (fun w => projRow _ w l) ?_
  funext k l
  exact (congrFun (blk3 m c t) _).trans (V_v5 m c k l)

/-! ## The keys -/

theorem idx5 (t : Fin cfg0.N) : win0_5.index t 0 = t.val ∧ win0_5.index t 1 = 0 := by
  have h : ∀ t : Fin cfg0.N, win0_5.index t 0 = t.val ∧ win0_5.index t 1 = 0 := by decide +kernel
  exact h t

/-- The entry of a whole array that an entry of a point's block is. -/
theorem read_blk5 (G : S2048x256.Idx → Elt Ideal .f32) (t : Fin cfg0.N) (r : Fin 256) (l : Fin 256) :
    ((cfg0.win 5).blk t).view.read (Elt Ideal) G (ix2 r l) = G (ix2 (rowAt t r) l) := by
  rw [View.read_apply]
  show G _ = G _
  congr 1
  funext a
  apply Fin.ext
  match a with
  | ⟨0, _⟩ => show win0_5.index t 0 * 256 + 1 * r.val = t.val * 256 + r.val; rw [(idx5 t).1]; omega
  | ⟨1, _⟩ => show win0_5.index t 1 * 256 + 1 * l.val = l.val; rw [(idx5 t).2]; omega

/-- What a point writes back is its block of the whole array. -/
theorem flushed_eq5 (c : Dev nD) (t : Fin cfg0.N) :
    (dats m 0 c).flushed 5 t = ((cfg0.win 5).blk t).view.read (Elt Ideal) (arr5 m c) := by
  show (cfg0.win 5).cut (grid0.coords t) ((dats m 0 c).after 5 t) = _
  rw [after0_5]
  funext j
  obtain ⟨r, l, rfl⟩ : ∃ (r : Fin 256) (l : Fin 256), j = ix2 r l := ⟨j 0, j 1, eq_ix2 j⟩
  exact (out5_iblk m c t r l).trans (read_blk5 (arr5 m c) t r l).symm

/-- The rows of a point's block. -/
theorem mem_blk5 (t : Fin cfg0.N) (i : S2048x256.Idx) :
    i ∈ ((cfg0.win 5).blk t).view.set ↔ t.val * 256 ≤ (i 0 : Nat) ∧ (i 0 : Nat) < t.val * 256 + 256 := by
  show i ∈ ((View.whole main_v10_0).slice (win0_5.rect t)).set ↔ _
  rw [View.set_slice_whole, Rect.mem_set_unit]
  have h1 : (i 1 : Nat) < 256 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 256 := by
    have h : ∀ t : Fin cfg0.N, win0_5.index t 0 * win0_5.size 0 = t.val * 256 ∧ win0_5.xsize (grid0.coords t) 0 = 256
      ∧ win0_5.index t 1 * win0_5.size 1 = 0 ∧ win0_5.xsize (grid0.coords t) 1 = 256 := by decide +kernel
    exact h t
  refine ⟨fun h => ?_, fun h a => ?_⟩
  · have : win0_5.index t 0 * win0_5.size 0 ≤ (i 0 : Nat)
        ∧ (i 0 : Nat) < win0_5.index t 0 * win0_5.size 0 + win0_5.xsize (grid0.coords t) 0 := h 0
    rw [e.1, e.2.1] at this; exact this
  · match a with
    | ⟨0, _⟩ =>
      show win0_5.index t 0 * win0_5.size 0 ≤ (i 0 : Nat)
        ∧ (i 0 : Nat) < win0_5.index t 0 * win0_5.size 0 + win0_5.xsize (grid0.coords t) 0
      rw [e.1, e.2.1]; exact h
    | ⟨1, _⟩ =>
      show win0_5.index t 1 * win0_5.size 1 ≤ (i 1 : Nat)
        ∧ (i 1 : Nat) < win0_5.index t 1 * win0_5.size 1 + win0_5.xsize (grid0.coords t) 1
      rw [e.2.2.1, e.2.2.2]; omega

/-- The blocks cover the array. -/
theorem cover5 (i : S2048x256.Idx) : ∃ t : Fin cfg0.N, (cfg0.win 5).flush t = true ∧ i ∈ ((cfg0.win 5).blk t).view.set := by
  have h0 : (i 0 : Nat) < 2048 := (i 0).isLt
  have hN : cfg0.N = 8 := N_0
  exact ⟨⟨(i 0 : Nat) / 256, by omega⟩, flush0_5 _, (mem_blk5 _ i).mpr ⟨by show (i 0 : Nat) / 256 * 256 ≤ _; omega,
    by show _ < (i 0 : Nat) / 256 * 256 + 256; omega⟩⟩

/-- The array after the run. -/
theorem final5 (c : Dev nD) : (dats m 0 c).arrAt 5 cfg0.N = arr5 m c :=
  (dats m 0 c).arrAt_eq_of_cover 5 (arr5 m c) (fun t _ => flushed_eq5 m c t) cover5

/-! ## The values -/

theorem idx6 (t : Fin cfg0.N) : win0_6.index t 0 = t.val ∧ win0_6.index t 1 = 0 := by
  have h : ∀ t : Fin cfg0.N, win0_6.index t 0 = t.val ∧ win0_6.index t 1 = 0 := by decide +kernel
  exact h t

/-- The entry of a whole array that an entry of a point's block is. -/
theorem read_blk6 (G : S2048x256.Idx → Elt Ideal .f32) (t : Fin cfg0.N) (r : Fin 256) (l : Fin 256) :
    ((cfg0.win 6).blk t).view.read (Elt Ideal) G (ix2 r l) = G (ix2 (rowAt t r) l) := by
  rw [View.read_apply]
  show G _ = G _
  congr 1
  funext a
  apply Fin.ext
  match a with
  | ⟨0, _⟩ => show win0_6.index t 0 * 256 + 1 * r.val = t.val * 256 + r.val; rw [(idx6 t).1]; omega
  | ⟨1, _⟩ => show win0_6.index t 1 * 256 + 1 * l.val = l.val; rw [(idx6 t).2]; omega

/-- What a point writes back is its block of the whole array. -/
theorem flushed_eq6 (c : Dev nD) (t : Fin cfg0.N) :
    (dats m 0 c).flushed 6 t = ((cfg0.win 6).blk t).view.read (Elt Ideal) (arr6 m c) := by
  show (cfg0.win 6).cut (grid0.coords t) ((dats m 0 c).after 6 t) = _
  rw [after0_6]
  funext j
  obtain ⟨r, l, rfl⟩ : ∃ (r : Fin 256) (l : Fin 256), j = ix2 r l := ⟨j 0, j 1, eq_ix2 j⟩
  exact (out6_iblk m c t r l).trans (read_blk6 (arr6 m c) t r l).symm

/-- The rows of a point's block. -/
theorem mem_blk6 (t : Fin cfg0.N) (i : S2048x256.Idx) :
    i ∈ ((cfg0.win 6).blk t).view.set ↔ t.val * 256 ≤ (i 0 : Nat) ∧ (i 0 : Nat) < t.val * 256 + 256 := by
  show i ∈ ((View.whole main_v10_1).slice (win0_6.rect t)).set ↔ _
  rw [View.set_slice_whole, Rect.mem_set_unit]
  have h1 : (i 1 : Nat) < 256 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 256 := by
    have h : ∀ t : Fin cfg0.N, win0_6.index t 0 * win0_6.size 0 = t.val * 256 ∧ win0_6.xsize (grid0.coords t) 0 = 256
      ∧ win0_6.index t 1 * win0_6.size 1 = 0 ∧ win0_6.xsize (grid0.coords t) 1 = 256 := by decide +kernel
    exact h t
  refine ⟨fun h => ?_, fun h a => ?_⟩
  · have : win0_6.index t 0 * win0_6.size 0 ≤ (i 0 : Nat)
        ∧ (i 0 : Nat) < win0_6.index t 0 * win0_6.size 0 + win0_6.xsize (grid0.coords t) 0 := h 0
    rw [e.1, e.2.1] at this; exact this
  · match a with
    | ⟨0, _⟩ =>
      show win0_6.index t 0 * win0_6.size 0 ≤ (i 0 : Nat)
        ∧ (i 0 : Nat) < win0_6.index t 0 * win0_6.size 0 + win0_6.xsize (grid0.coords t) 0
      rw [e.1, e.2.1]; exact h
    | ⟨1, _⟩ =>
      show win0_6.index t 1 * win0_6.size 1 ≤ (i 1 : Nat)
        ∧ (i 1 : Nat) < win0_6.index t 1 * win0_6.size 1 + win0_6.xsize (grid0.coords t) 1
      rw [e.2.2.1, e.2.2.2]; omega

/-- The blocks cover the array. -/
theorem cover6 (i : S2048x256.Idx) : ∃ t : Fin cfg0.N, (cfg0.win 6).flush t = true ∧ i ∈ ((cfg0.win 6).blk t).view.set := by
  have h0 : (i 0 : Nat) < 2048 := (i 0).isLt
  have hN : cfg0.N = 8 := N_0
  exact ⟨⟨(i 0 : Nat) / 256, by omega⟩, flush0_6 _, (mem_blk6 _ i).mpr ⟨by show (i 0 : Nat) / 256 * 256 ≤ _; omega,
    by show _ < (i 0 : Nat) / 256 * 256 + 256; omega⟩⟩

/-- The array after the run. -/
theorem final6 (c : Dev nD) : (dats m 0 c).arrAt 6 cfg0.N = arr6 m c :=
  (dats m 0 c).arrAt_eq_of_cover 6 (arr6 m c) (fun t _ => flushed_eq6 m c t) cover6

/-- From memories that agree on the arguments, the kernel's two arrays are the reference's. -/
theorem algebraic : Cert.algebraic_MemoryIdeal_MemoryRefIdeal := by
  intro m g m' g' _ hargs
  refine ⟨arr5 m, arr6 m, (θ_run defs _ _).mono (fun r h c => ?_) (Value.run_blocks m g), ?_⟩
  · obtain ⟨h5, h6, hrest⟩ := h c
    exact ⟨h5.trans (final5 m c), h6.trans (final6 m c), hrest⟩
  refine (θ_run Cert.MemoryRefIdeal.defs _ _).mono (fun r h c => ?_) (Cert.MemoryRefIdeal.Value.run m' g')
  obtain ⟨e0, e1, hrest⟩ := h c
  obtain ⟨a0, a1, a2, a3⟩ := hargs c
  refine ⟨e0.trans ?_, e1.trans ?_, hrest⟩
  · exact (Cert.MemoryRefIdeal.Read.val_main_v29_eq _ _ _ _).trans (congr (congr (congr (congrArg _ a0) a1) a2) a3)
  · exact (Cert.MemoryRefIdeal.Read.val_main_v31_eq _ _ _).trans (congr (congr (congrArg _ a0) a1) a2)

end Cert.MemoryIdeal.Rows

end
-- ==== Proof.MemAttnValue.lean ====
module

public import proofs.«01_k».proof.Proof.Gen.MemAttnIdeal.Value
public import proofs.«01_k».proof.Proof.Gen.MemAttnRefIdeal.Read
public import proofs.«01_k».proof.Defs
public import proofs.«01_k».proof.Proof.ProjSpec
public import Idealize.ShloMosaic.Lib.Pointwise
public import Idealize.ShloMosaic.Lib.KernelVsHost
public import Idealize.ShloMosaic.Lib.Pipeline.Value
public import Idealize.ShloMosaic.Lib.Pipeline.ValueKit

/-!
  The array the memory attention leaves: for each row and head, the normalized query against the 256 keys of its batch,
  the softmax of these scores, and the sum of the values weighted with it. It is the array of the reference.
-/

@[expose] public section

set_option maxRecDepth 16384

noncomputable section

namespace Cert.MemAttnIdeal.Rows

open Idealize.ShloMosaic Idealize.ShloMosaic.TcCoe Idealize.SL.Sem
open Cert.MemAttnIdeal Cert.MemAttnIdeal.Gen Cert.Router

variable (m : (ℓ : Loc nD τ sig) → Buf (Elt Ideal) ℓ) (ρ : Dev nD → PrngReg)

/-- The queries. -/
abbrev A0 (c : Dev nD) : Vec Ideal S8x2048x256 .f32 := m ((c : Thread nD τ).loc main_arg0)
/-- The keys. -/
abbrev A1 (c : Dev nD) : Vec Ideal S8x256x256 .f32 := m ((c : Thread nD τ).loc main_arg1)
/-- The values. -/
abbrev A2 (c : Dev nD) : Vec Ideal S8x256x256 .f32 := m ((c : Thread nD τ).loc main_arg2)
/-- The gains of the queries. -/
abbrev A3 (c : Dev nD) : Vec Ideal S64 .f32 := m ((c : Thread nD τ).loc main_arg3)

/-! ## One head of one row -/

/-- The scores of a query against the keys: the query over the root of its mean square, times the gains, times 1/8. -/
def scores (q gain : Fin 64 → EReal) (K : Fin 256 → Fin 64 → EReal) (j : Fin 256) : EReal :=
  ∑ d : Fin 64, headNorm q gain d * Ideal.ofBits .f32 0x3E000000#32 * K j d

/-- The word of −∞. -/
theorem word_bot : Ideal.ofBits .f32 4286578688#32 = ⊥ := by
  rw [Ideal.ofBits]
  decide +kernel

/-- The softmax of a row. -/
def softRow (s : Fin 256 → EReal) (j : Fin 256) : EReal :=
  Ideal.div (Ideal.exp (s j - rowMax s)) (∑ k : Fin 256, Ideal.exp (s k - rowMax s))

/-- The sum of the values weighted with the softmax of the scores. -/
def attend (q gain : Fin 64 → EReal) (K V : Fin 256 → Fin 64 → EReal) (d : Fin 64) : EReal :=
  ∑ j : Fin 256, softRow (scores q gain K) j * V j d

/-! ## What a head of a block becomes -/

section
variable (q : Vec Ideal S1x1024x64 .f32) (g : Vec Ideal S1x64 .f32) (k v : Vec Ideal S1x256x64 .f32) (r : Fin 1024)

/-- The softmax of the last head's scores. -/
theorem pay10_apply (j : Fin 256) : k0_pay10 q g k (ix2 r j)
    = softRow (scores (fun d => q (ix3 0 r d)) (fun d => g (ix2 0 d)) (fun j d => k (ix3 0 j d))) j := by
  unfold k0_pay10 softRow rowMax scores headNorm
  pointwise
  simp only [word_bot]

/-- The softmax of the third head's scores. -/
theorem pay7_apply (j : Fin 256) : k0_pay7 q g k (ix2 r j)
    = softRow (scores (fun d => q (ix3 0 r d)) (fun d => g (ix2 0 d)) (fun j d => k (ix3 0 j d))) j := by
  unfold k0_pay7 softRow rowMax scores headNorm
  pointwise
  simp only [word_bot]

/-- The softmax of the second head's scores. -/
theorem pay4_apply (j : Fin 256) : k0_pay4 q g k (ix2 r j)
    = softRow (scores (fun d => q (ix3 0 r d)) (fun d => g (ix2 0 d)) (fun j d => k (ix3 0 j d))) j := by
  unfold k0_pay4 softRow rowMax scores headNorm
  pointwise
  simp only [word_bot]

/-- What the first head becomes. -/
theorem head0 (d : Fin 64) : k0_pay3 (k0_pay2 q g k v) (ix3 0 r d)
    = attend (fun d => q (ix3 0 r d)) (fun d => g (ix2 0 d)) (fun j d => k (ix3 0 j d)) (fun j d => v (ix3 0 j d)) d := by
  unfold k0_pay3 k0_pay2 attend softRow rowMax scores headNorm
  pointwise
  simp only [word_bot]

/-- What the second head becomes. -/
theorem head1 (d : Fin 64) : k0_pay6 (k0_pay4 q g k) (k0_pay5 v) (constant S1024x64 .f32 0x00000000#32) (ix3 0 r d)
    = attend (fun d => q (ix3 0 r d)) (fun d => g (ix2 0 d)) (fun j d => k (ix3 0 j d)) (fun j d => v (ix3 0 j d)) d := by
  have h := pay4_apply q g k r
  unfold k0_pay6 k0_pay5 attend
  generalize k0_pay4 q g k = y at h
  pointwise
  simp only [h]

/-- What the third head becomes. -/
theorem head2 (d : Fin 64) : k0_pay9 (k0_pay7 q g k) (k0_pay8 v) (ix3 0 r d)
    = attend (fun d => q (ix3 0 r d)) (fun d => g (ix2 0 d)) (fun j d => k (ix3 0 j d)) (fun j d => v (ix3 0 j d)) d := by
  have h := pay7_apply q g k r
  unfold k0_pay9 k0_pay8 attend
  generalize k0_pay7 q g k = y at h
  pointwise
  simp only [h]

/-- What the last head becomes. -/
theorem head3 (d : Fin 64) : k0_pay1 (k0_pay10 q g k) v (ix3 0 r d)
    = attend (fun d => q (ix3 0 r d)) (fun d => g (ix2 0 d)) (fun j d => k (ix3 0 j d)) (fun j d => v (ix3 0 j d)) d := by
  have h := pay10_apply q g k r
  unfold k0_pay1 attend
  generalize k0_pay10 q g k = y at h
  pointwise
  simp only [h]

end

/-! ## The reference's heads -/

section
open Cert.MemAttnRefIdeal Cert.MemAttnRefIdeal.Gen Cert.MemAttnRefIdeal.Read
variable (x0 : Vec Ideal S8x2048x256 .f32) (x1 x2 : Vec Ideal S8x256x256 .f32) (x3 : Vec Ideal S64 .f32)
  (b : Fin 8) (h : Fin 4) (i : Fin 2048)

/-- The place in a row of heads of a place in a head. -/
def lane (h : Fin 4) (d : Fin 64) : Fin 256 := ⟨h.val * 64 + d.val, by omega⟩

/-- A row of four heads, cut into its heads. -/
theorem cut_q (d : Fin 64) : val_main_v0 (F := Ideal) x0 (ix4 b i h d) = x0 (ix3 b i (lane h d)) := by
  unfold val_main_v0
  exact shapeCast_apply _ _ _ _ (by
    rewrite [Shape.rowMajor_val_four, Shape.rowMajor_val_three]
    show (b.val * 2048 + i.val) * 256 + (h.val * 64 + d.val) = ((b.val * 2048 + i.val) * 4 + h.val) * 64 + d.val
    omega)

/-- A row of keys, cut into its heads. -/
theorem cut_k (j : Fin 256) (d : Fin 64) : val_main_v16 (F := Ideal) x1 (ix4 b j h d) = x1 (ix3 b j (lane h d)) := by
  unfold val_main_v16
  exact shapeCast_apply _ _ _ _ (by
    rewrite [Shape.rowMajor_val_four, Shape.rowMajor_val_three]
    show (b.val * 256 + j.val) * 256 + (h.val * 64 + d.val) = ((b.val * 256 + j.val) * 4 + h.val) * 64 + d.val
    omega)

/-- A row of values, cut into its heads. -/
theorem cut_v (j : Fin 256) (d : Fin 64) : val_main_v29 (F := Ideal) x2 (ix4 b j h d) = x2 (ix3 b j (lane h d)) := by
  unfold val_main_v29
  exact shapeCast_apply _ _ _ _ (by
    rewrite [Shape.rowMajor_val_four, Shape.rowMajor_val_three]
    show (b.val * 256 + j.val) * 256 + (h.val * 64 + d.val) = ((b.val * 256 + j.val) * 4 + h.val) * 64 + d.val
    omega)

/-- The reference's queries. -/
theorem ref_q (d : Fin 64) : val_main_v15 (F := Ideal) x0 x3 (ix4 b i h d)
    = headNorm (fun d => x0 (ix3 b i (lane h d))) (fun d => x3 (ix1 d)) d * Ideal.ofBits .f32 0x3E000000#32 := by
  have e := cut_q x0 b h i
  unfold val_main_v15 val_main_v14 val_main_v13 val_main_v12 val_main_v11 val_main_v10 val_main_v9 val_main_v8 val_main_v7
    val_main_v6 val_main_v5 val_main_v4 val_main_v3 val_main_v2 val_main_v1 val_main_cst val_main_cst_0 val_main_cst_1 val_main_cst_2
    headNorm
  generalize val_main_v0 (F := Ideal) x0 = y at e
  pointwise
  simp only [e]

/-- The reference's scores. -/
theorem ref_s (j : Fin 256) : val_main_v17 (F := Ideal) x0 x1 x3 (ix4 b h i j)
    = scores (fun d => x0 (ix3 b i (lane h d))) (fun d => x3 (ix1 d)) (fun j d => x1 (ix3 b j (lane h d))) j := by
  have eq := ref_q x0 x3 b h i
  have ek := cut_k x1 b h j
  unfold val_main_v17 scores
  generalize val_main_v15 (F := Ideal) x0 x3 = y at eq
  generalize val_main_v16 (F := Ideal) x1 = z at ek
  pointwise
  simp only [eq, ek]

/-- The greatest score of a row. -/
theorem ref_m : val_main_v20 (F := Ideal) x0 x1 x3 (ix3 b h i) = rowMax fun j => val_main_v17 (F := Ideal) x0 x1 x3 (ix4 b h i j) := by
  rw [val_main_v20_apply]
  refine (congrArg₂ max (word_bot : val_main_v19 (F := Ideal) (ix3 b h i) = ⊥) rfl).trans ((max_eq_right bot_le).trans ?_)
  unfold val_main_v18 rowMax
  generalize val_main_v17 (F := Ideal) x0 x1 x3 = y
  have hr : S8x4x2048x256.Reduces [3] S8x4x2048 := by decide
  refine (Host.reduce_eq_fold_single (FloatOps.maximumf (F := Ideal) (φ := .f32)) y _ reducesTo_S8x4x2048x256_S8x4x2048_d3 hr h_S_ (ix3 b h i)).trans ?_
  have hf : (y ∘ hr.lift (ix3 b h i)) = fun j : Fin 256 => y (ix4 b h i j) := funext fun j => congrArg y (by
    funext a
    apply Fin.ext
    match a with
    | ⟨0, _⟩ => rfl
    | ⟨1, _⟩ => rfl
    | ⟨2, _⟩ => rfl
    | ⟨3, _⟩ => rfl)
  refine (congrArg (fun f => Finset.fold max (val_main_cst_3 (F := Ideal) (Shape.Idx.first h_S_)) f (Finset.univ : Finset (Fin 256))) hf).trans ?_
  exact congrArg (fun z : EReal => Finset.fold max z (fun j : Fin 256 => y (ix4 b h i j)) Finset.univ) (word_bot : val_main_cst_3 (F := Ideal) (Shape.Idx.first h_S_) = ⊥)

/-- The exponentials of a row. -/
theorem ref_e (j : Fin 256) : val_main_v24 (F := Ideal) x0 x1 x3 (ix4 b h i j)
    = Ideal.exp (val_main_v17 (F := Ideal) x0 x1 x3 (ix4 b h i j) - rowMax fun j => val_main_v17 (F := Ideal) x0 x1 x3 (ix4 b h i j)) := by
  rw [← ref_m, val_main_v24_apply, val_main_v23_apply, val_main_v22_apply, val_main_v21_apply]
  have e : idx_main_v21 (idx_main_v22 (ix4 b h i j)) = ix3 b h i := by
    funext a
    match a with
    | ⟨0, _⟩ => rfl
    | ⟨1, _⟩ => rfl
    | ⟨2, _⟩ => rfl
  rw [e]
  rfl

/-- The reference's softmax. -/
theorem ref_p (j : Fin 256) : val_main_v28 (F := Ideal) x0 x1 x3 (ix4 b h i j)
    = softRow (scores (fun d => x0 (ix3 b i (lane h d))) (fun d => x3 (ix1 d)) (fun j d => x1 (ix3 b j (lane h d)))) j := by
  have es : (fun j => val_main_v17 (F := Ideal) x0 x1 x3 (ix4 b h i j)) = scores (fun d => x0 (ix3 b i (lane h d))) (fun d => x3 (ix1 d)) (fun j d => x1 (ix3 b j (lane h d))) :=
    funext fun j => ref_s x0 x1 x3 b h i j
  rw [← es, val_main_v28_apply, val_main_v27_apply, val_main_v26_apply, val_main_v25_apply, ref_e]
  have e : ∀ k, idx_main_v25 (idx_main_v26 (idx_main_v27 (ix4 b h i j))) k = ix4 b h i k := fun k => by
    funext a
    match a with
    | ⟨0, _⟩ => rfl
    | ⟨1, _⟩ => rfl
    | ⟨2, _⟩ => rfl
    | ⟨3, _⟩ => rfl
  simp only [e, ref_e]
  have hz : (val_main_cst_5 (F := Ideal)) (Shape.Idx.first h_S_) = (0 : EReal) := Ideal.ofBits_zero_f32
  rw [hz, zero_add]
  rfl

/-- The reference's heads. -/
theorem ref_o (d : Fin 64) : val_main_v31 (F := Ideal) x0 x1 x2 x3 (ix4 b i h d)
    = attend (fun d => x0 (ix3 b i (lane h d))) (fun d => x3 (ix1 d)) (fun j d => x1 (ix3 b j (lane h d)))
      (fun j d => x2 (ix3 b j (lane h d))) d := by
  have ep := ref_p x0 x1 x3 b h i
  have ev := cut_v x2 b h
  unfold val_main_v31 val_main_v30 attend
  generalize val_main_v28 (F := Ideal) x0 x1 x3 = y at ep
  generalize val_main_v29 (F := Ideal) x2 = z at ev
  pointwise
  simp only [ep, ev]
  exact Finset.sum_congr rfl fun j _ => mul_comm _ _

/-- The reference's rows. -/
theorem ref_v32 (d : Fin 64) : val_main_v32 (F := Ideal) x0 x1 x2 x3 (ix3 b i (lane h d))
    = attend (fun d => x0 (ix3 b i (lane h d))) (fun d => x3 (ix1 d)) (fun j d => x1 (ix3 b j (lane h d)))
      (fun j d => x2 (ix3 b j (lane h d))) d := by
  rw [← ref_o]
  unfold val_main_v32
  exact shapeCast_apply _ _ _ _ (by
    rewrite [Shape.rowMajor_val_four, Shape.rowMajor_val_three]
    show ((b.val * 2048 + i.val) * 4 + h.val) * 64 + d.val = (b.val * 2048 + i.val) * 256 + (h.val * 64 + d.val)
    omega)

end

/-! ## The blocks the body reads -/

/-- The batch of a point. -/
def bAt (t : Fin cfg0.N) : Fin 8 := ⟨t.val / 2, by have := t.isLt; have : cfg0.N = 16 := N_0; omega⟩
/-- The row of the batch that row `r` of point `t`'s block is. -/
def rAt (t : Fin cfg0.N) (r : Fin 1024) : Fin 2048 := ⟨t.val % 2 * 1024 + r.val, by omega⟩

/-- The gains as a row. -/
theorem V_v0 (c : Dev nD) (d : Fin 64) : (V m c main_v0 : Vec Ideal S1x64 .f32) (ix2 0 d) = A3 m c (ix1 d) := by
  have h : V m c main_v0 = shapeCast S1x64 (A3 m c) shapeCasts_S64_S1x64 := by
    unfold V
    simp only [hostOps0, List.flatten_cons, List.flatten_nil, List.append_nil, List.cons_append, List.nil_append]
    after_results
    rfl
  rw [h]
  pointwise
  all_goals rfl

/-- The block of the queries. -/
theorem blk0 (c : Dev nD) (t : Fin cfg0.N) (r : Fin 1024) (l : Fin 256) :
    (iblk m c 0 t : Vec Ideal S1x1024x256 .f32) (ix3 0 r l) = A0 m c (ix3 (bAt t) (rAt t r) l) := by
  have hi : win0_0.index t 0 = t.val / 2 ∧ win0_0.index t 1 = t.val % 2 ∧ win0_0.index t 2 = 0 := by
    have h : ∀ t : Fin cfg0.N, win0_0.index t 0 = t.val / 2 ∧ win0_0.index t 1 = t.val % 2 ∧ win0_0.index t 2 = 0 := by decide +kernel
    exact h t
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1 + 1 * 0 = t.val / 2; rw [hi.1]; omega
  | ⟨1, _⟩ => show win0_0.index t 1 * 1024 + 1 * r.val = t.val % 2 * 1024 + r.val; rw [hi.2.1]; omega
  | ⟨2, _⟩ => show win0_0.index t 2 * 256 + 1 * l.val = l.val; rw [hi.2.2]; omega

/-- The block of the keys. -/
theorem blk1 (c : Dev nD) (t : Fin cfg0.N) (j l : Fin 256) :
    (iblk m c 1 t : Vec Ideal S1x256x256 .f32) (ix3 0 j l) = A1 m c (ix3 (bAt t) j l) := by
  have hi : win0_1.index t 0 = t.val / 2 ∧ win0_1.index t 1 = 0 ∧ win0_1.index t 2 = 0 := by
    have h : ∀ t : Fin cfg0.N, win0_1.index t 0 = t.val / 2 ∧ win0_1.index t 1 = 0 ∧ win0_1.index t 2 = 0 := by decide +kernel
    exact h t
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 1 + 1 * 0 = t.val / 2; rw [hi.1]; omega
  | ⟨1, _⟩ => show win0_1.index t 1 * 256 + 1 * j.val = j.val; rw [hi.2.1]; omega
  | ⟨2, _⟩ => show win0_1.index t 2 * 256 + 1 * l.val = l.val; rw [hi.2.2]; omega

/-- The block of the values. -/
theorem blk2 (c : Dev nD) (t : Fin cfg0.N) (j l : Fin 256) :
    (iblk m c 2 t : Vec Ideal S1x256x256 .f32) (ix3 0 j l) = A2 m c (ix3 (bAt t) j l) := by
  have hi : win0_2.index t 0 = t.val / 2 ∧ win0_2.index t 1 = 0 ∧ win0_2.index t 2 = 0 := by
    have h : ∀ t : Fin cfg0.N, win0_2.index t 0 = t.val / 2 ∧ win0_2.index t 1 = 0 ∧ win0_2.index t 2 = 0 := by decide +kernel
    exact h t
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 1 + 1 * 0 = t.val / 2; rw [hi.1]; omega
  | ⟨1, _⟩ => show win0_2.index t 1 * 256 + 1 * j.val = j.val; rw [hi.2.1]; omega
  | ⟨2, _⟩ => show win0_2.index t 2 * 256 + 1 * l.val = l.val; rw [hi.2.2]; omega

/-- The block of the gains is the whole row. -/
theorem blk3 (c : Dev nD) (t : Fin cfg0.N) (d : Fin 64) : (iblk m c 3 t : Vec Ideal S1x64 .f32) (ix2 0 d) = A3 m c (ix1 d) := by
  have hi : win0_3.index t 0 = 0 ∧ win0_3.index t 1 = 0 := by
    have h : ∀ t : Fin cfg0.N, win0_3.index t 0 = 0 ∧ win0_3.index t 1 = 0 := by decide +kernel
    exact h t
  refine Eq.trans ?_ (V_v0 m c d)
  unfold iblk
  rw [View.read_apply]
  show V m c main_v0 _ = V m c main_v0 _
  congr 1
  funext a
  apply Fin.ext
  match a with
  | ⟨0, _⟩ => show win0_3.index t 0 * 1 + 1 * 0 = 0; rw [hi.1]
  | ⟨1, _⟩ => show win0_3.index t 1 * 64 + 1 * d.val = d.val; rw [hi.2]; omega

/-! ## What a point leaves -/

/-- The array. -/
def arr4 (c : Dev nD) : Vec Ideal S8x2048x256 .f32 :=
  Cert.MemAttnRefIdeal.Read.val_main_v32 (F := Ideal) (A0 m c) (A1 m c) (A2 m c) (A3 m c)

/-- A head of a block, read at its place in the arrays, is the array's. -/
theorem head_arr (c : Dev nD) (t : Fin cfg0.N) (r : Fin 1024) (h : Fin 4) (q : Vec Ideal S1x1024x64 .f32) (g : Vec Ideal S1x64 .f32)
    (k v : Vec Ideal S1x256x64 .f32) (y : EReal) (d : Fin 64)
    (hq : ∀ d, q (ix3 0 r d) = (iblk m c 0 t : Vec Ideal S1x1024x256 .f32) (ix3 0 r (lane h d)))
    (hg : ∀ d, g (ix2 0 d) = (iblk m c 3 t : Vec Ideal S1x64 .f32) (ix2 0 d))
    (hk : ∀ j d, k (ix3 0 j d) = (iblk m c 1 t : Vec Ideal S1x256x256 .f32) (ix3 0 j (lane h d)))
    (hv : ∀ j d, v (ix3 0 j d) = (iblk m c 2 t : Vec Ideal S1x256x256 .f32) (ix3 0 j (lane h d)))
    (hy : y = attend (fun d => q (ix3 0 r d)) (fun d => g (ix2 0 d)) (fun j d => k (ix3 0 j d)) (fun j d => v (ix3 0 j d)) d) :
    y = arr4 m c (ix3 (bAt t) (rAt t r) (lane h d)) := by
  rw [hy]
  unfold arr4
  rw [ref_v32]
  simp only [hq, hg, hk, hv, blk0, blk1, blk2, blk3]

/-- What the body leaves at a point. -/
theorem out4_iblk (c : Dev nD) (t : Fin cfg0.N) (r : Fin 1024) (l : Fin 256) :
    out0_4 (iblk m c 0 t) (iblk m c 1 t) (iblk m c 2 t) (iblk m c 3 t) (ix3 0 r l) = arr4 m c (ix3 (bAt t) (rAt t r) l) := by
  unfold out0_4
  canon_tiles x h
  · obtain ⟨z, r', d, rfl⟩ : ∃ (z : Fin 1) (r' : Fin 1024) (d : Fin 64), x = ix3 z r' d := ⟨x 0, x 1, x 2, eq_ix3 x⟩
    obtain rfl : z = 0 := Subsingleton.elim _ _
    obtain rfl : r = r' := Fin.ext h1
    obtain rfl : l = lane 3 d := Fin.ext (h2)
    refine head_arr m c t r 3 _ _ _ _ _ d ?_ ?_ ?_ ?_ (head3 _ _ _ _ r d)
    · exact fun d => View.ld_unit_apply_of _ _ _ _ _ _ fun a => match a with
        | ⟨0, _⟩ => rfl
        | ⟨1, _⟩ => (Nat.zero_add _).symm
        | ⟨2, _⟩ => rfl
    · exact fun d => View.ld_unit_apply_of _ _ _ _ _ _ fun a => match a with
        | ⟨0, _⟩ => rfl
        | ⟨1, _⟩ => (Nat.zero_add _).symm
    · exact fun j d => View.ld_unit_apply_of _ _ _ _ _ _ fun a => match a with
        | ⟨0, _⟩ => rfl
        | ⟨1, _⟩ => (Nat.zero_add _).symm
        | ⟨2, _⟩ => rfl
    · exact fun j d => View.ld_unit_apply_of _ _ _ _ _ _ fun a => match a with
        | ⟨0, _⟩ => rfl
        | ⟨1, _⟩ => (Nat.zero_add _).symm
        | ⟨2, _⟩ => rfl
  · obtain ⟨z, r', d, rfl⟩ : ∃ (z : Fin 1) (r' : Fin 1024) (d : Fin 64), x = ix3 z r' d := ⟨x 0, x 1, x 2, eq_ix3 x⟩
    obtain rfl : z = 0 := Subsingleton.elim _ _
    obtain rfl : r = r' := Fin.ext h1
    obtain rfl : l = lane 2 d := Fin.ext (h2)
    refine head_arr m c t r 2 _ _ _ _ _ d ?_ ?_ ?_ ?_ (head2 _ _ _ _ r d)
    · exact fun d => View.ld_unit_apply_of _ _ _ _ _ _ fun a => match a with
        | ⟨0, _⟩ => rfl
        | ⟨1, _⟩ => (Nat.zero_add _).symm
        | ⟨2, _⟩ => rfl
    · exact fun d => View.ld_unit_apply_of _ _ _ _ _ _ fun a => match a with
        | ⟨0, _⟩ => rfl
        | ⟨1, _⟩ => (Nat.zero_add _).symm
    · exact fun j d => View.ld_unit_apply_of _ _ _ _ _ _ fun a => match a with
        | ⟨0, _⟩ => rfl
        | ⟨1, _⟩ => (Nat.zero_add _).symm
        | ⟨2, _⟩ => rfl
    · exact fun j d => View.ld_unit_apply_of _ _ _ _ _ _ fun a => match a with
        | ⟨0, _⟩ => rfl
        | ⟨1, _⟩ => (Nat.zero_add _).symm
        | ⟨2, _⟩ => rfl
  · obtain ⟨z, r', d, rfl⟩ : ∃ (z : Fin 1) (r' : Fin 1024) (d : Fin 64), x = ix3 z r' d := ⟨x 0, x 1, x 2, eq_ix3 x⟩
    obtain rfl : z = 0 := Subsingleton.elim _ _
    obtain rfl : r = r' := Fin.ext h1
    obtain rfl : l = lane 1 d := Fin.ext (h2)
    refine head_arr m c t r 1 _ _ _ _ _ d ?_ ?_ ?_ ?_ (head1 _ _ _ _ r d)
    · exact fun d => View.ld_unit_apply_of _ _ _ _ _ _ fun a => match a with
        | ⟨0, _⟩ => rfl
        | ⟨1, _⟩ => (Nat.zero_add _).symm
        | ⟨2, _⟩ => rfl
    · exact fun d => View.ld_unit_apply_of _ _ _ _ _ _ fun a => match a with
        | ⟨0, _⟩ => rfl
        | ⟨1, _⟩ => (Nat.zero_add _).symm
    · exact fun j d => View.ld_unit_apply_of _ _ _ _ _ _ fun a => match a with
        | ⟨0, _⟩ => rfl
        | ⟨1, _⟩ => (Nat.zero_add _).symm
        | ⟨2, _⟩ => rfl
    · exact fun j d => View.ld_unit_apply_of _ _ _ _ _ _ fun a => match a with
        | ⟨0, _⟩ => rfl
        | ⟨1, _⟩ => (Nat.zero_add _).symm
        | ⟨2, _⟩ => rfl
  · obtain ⟨z, r', d, rfl⟩ : ∃ (z : Fin 1) (r' : Fin 1024) (d : Fin 64), x = ix3 z r' d := ⟨x 0, x 1, x 2, eq_ix3 x⟩
    obtain rfl : z = 0 := Subsingleton.elim _ _
    obtain rfl : r = r' := Fin.ext h1
    obtain rfl : l = lane 0 d := Fin.ext (h2.trans (Nat.zero_add _).symm)
    refine head_arr m c t r 0 _ _ _ _ _ d ?_ ?_ ?_ ?_ (head0 _ _ _ _ r d)
    · exact fun d => View.ld_unit_apply_of _ _ _ _ _ _ fun a => match a with
        | ⟨0, _⟩ => rfl
        | ⟨1, _⟩ => (Nat.zero_add _).symm
        | ⟨2, _⟩ => rfl
    · exact fun d => View.ld_unit_apply_of _ _ _ _ _ _ fun a => match a with
        | ⟨0, _⟩ => rfl
        | ⟨1, _⟩ => (Nat.zero_add _).symm
    · exact fun j d => View.ld_unit_apply_of _ _ _ _ _ _ fun a => match a with
        | ⟨0, _⟩ => rfl
        | ⟨1, _⟩ => (Nat.zero_add _).symm
        | ⟨2, _⟩ => rfl
    · exact fun j d => View.ld_unit_apply_of _ _ _ _ _ _ fun a => match a with
        | ⟨0, _⟩ => rfl
        | ⟨1, _⟩ => (Nat.zero_add _).symm
        | ⟨2, _⟩ => rfl

/-! ## The array -/

/-- The place of a point's block. -/
theorem idx4 (t : Fin cfg0.N) : win0_4.index t 0 = t.val / 2 ∧ win0_4.index t 1 = t.val % 2 ∧ win0_4.index t 2 = 0 := by
  have h : ∀ t : Fin cfg0.N, win0_4.index t 0 = t.val / 2 ∧ win0_4.index t 1 = t.val % 2 ∧ win0_4.index t 2 = 0 := by decide +kernel
  exact h t

/-- The entry of the whole array that an entry of a point's block is. -/
theorem read_blk4 (G : S8x2048x256.Idx → Elt Ideal .f32) (t : Fin cfg0.N) (r : Fin 1024) (l : Fin 256) :
    ((cfg0.win 4).blk t).view.read (Elt Ideal) G (ix3 0 r l) = G (ix3 (bAt t) (rAt t r) l) := by
  rw [View.read_apply]
  show G _ = G _
  congr 1
  funext a
  apply Fin.ext
  match a with
  | ⟨0, _⟩ => show win0_4.index t 0 * 1 + 1 * 0 = t.val / 2; rw [(idx4 t).1]; omega
  | ⟨1, _⟩ => show win0_4.index t 1 * 1024 + 1 * r.val = t.val % 2 * 1024 + r.val; rw [(idx4 t).2.1]; omega
  | ⟨2, _⟩ => show win0_4.index t 2 * 256 + 1 * l.val = l.val; rw [(idx4 t).2.2]; omega

/-- What a point writes back is its block of the whole array. -/
theorem flushed_eq4 (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  funext j
  obtain ⟨r, l, rfl⟩ : ∃ (r : Fin 1024) (l : Fin 256), j = ix3 0 r l := ⟨j 1, j 2, by
    funext a
    match a with
    | ⟨0, _⟩ => exact Subsingleton.elim (α := Fin 1) _ _
    | ⟨1, _⟩ => rfl
    | ⟨2, _⟩ => rfl⟩
  exact (out4_iblk m c t r l).trans (read_blk4 (arr4 m c) t r l).symm

/-- The rows of a point's block. -/
theorem mem_blk4 (t : Fin cfg0.N) (i : S8x2048x256.Idx) :
    i ∈ ((cfg0.win 4).blk t).view.set ↔ (i 0 : Nat) = t.val / 2 ∧ t.val % 2 * 1024 ≤ (i 1 : Nat) ∧ (i 1 : Nat) < t.val % 2 * 1024 + 1024 := by
  show i ∈ ((View.whole main_v1).slice (win0_4.rect t)).set ↔ _
  rw [View.set_slice_whole, Rect.mem_set_unit]
  have h2 : (i 2 : Nat) < 256 := (i 2).isLt
  have e : win0_4.index t 0 * win0_4.size 0 = t.val / 2 ∧ win0_4.xsize (grid0.coords t) 0 = 1
      ∧ win0_4.index t 1 * win0_4.size 1 = t.val % 2 * 1024 ∧ win0_4.xsize (grid0.coords t) 1 = 1024
      ∧ win0_4.index t 2 * win0_4.size 2 = 0 ∧ win0_4.xsize (grid0.coords t) 2 = 256 := by
    have h : ∀ t : Fin cfg0.N, win0_4.index t 0 * win0_4.size 0 = t.val / 2 ∧ win0_4.xsize (grid0.coords t) 0 = 1
      ∧ win0_4.index t 1 * win0_4.size 1 = t.val % 2 * 1024 ∧ win0_4.xsize (grid0.coords t) 1 = 1024
      ∧ win0_4.index t 2 * win0_4.size 2 = 0 ∧ win0_4.xsize (grid0.coords t) 2 = 256 := by decide +kernel
    exact h t
  refine ⟨fun h => ?_, fun h a => ?_⟩
  · have g0 : win0_4.index t 0 * win0_4.size 0 ≤ (i 0 : Nat)
        ∧ (i 0 : Nat) < win0_4.index t 0 * win0_4.size 0 + win0_4.xsize (grid0.coords t) 0 := h 0
    have g1 : win0_4.index t 1 * win0_4.size 1 ≤ (i 1 : Nat)
        ∧ (i 1 : Nat) < win0_4.index t 1 * win0_4.size 1 + win0_4.xsize (grid0.coords t) 1 := h 1
    rw [e.1, e.2.1] at g0
    rw [e.2.2.1, e.2.2.2.1] at g1
    exact ⟨Nat.le_antisymm (Nat.le_of_lt_succ g0.2) g0.1, g1⟩
  · match a with
    | ⟨0, _⟩ =>
      show win0_4.index t 0 * win0_4.size 0 ≤ (i 0 : Nat)
        ∧ (i 0 : Nat) < win0_4.index t 0 * win0_4.size 0 + win0_4.xsize (grid0.coords t) 0
      rw [e.1, e.2.1]; exact ⟨h.1.ge, Nat.lt_succ_of_le h.1.le⟩
    | ⟨1, _⟩ =>
      show win0_4.index t 1 * win0_4.size 1 ≤ (i 1 : Nat)
        ∧ (i 1 : Nat) < win0_4.index t 1 * win0_4.size 1 + win0_4.xsize (grid0.coords t) 1
      rw [e.2.2.1, e.2.2.2.1]; exact h.2
    | ⟨2, _⟩ =>
      show win0_4.index t 2 * win0_4.size 2 ≤ (i 2 : Nat)
        ∧ (i 2 : Nat) < win0_4.index t 2 * win0_4.size 2 + win0_4.xsize (grid0.coords t) 2
      rw [e.2.2.2.2.1, e.2.2.2.2.2]; omega

/-- The blocks cover the array. -/
theorem cover4 (i : S8x2048x256.Idx) : ∃ t : Fin cfg0.N, (cfg0.win 4).flush t = true ∧ i ∈ ((cfg0.win 4).blk t).view.set := by
  have h0 : (i 0 : Nat) < 8 := (i 0).isLt
  have h1 : (i 1 : Nat) < 2048 := (i 1).isLt
  have hN : cfg0.N = 16 := N_0
  exact ⟨⟨(i 0 : Nat) * 2 + (i 1 : Nat) / 1024, by omega⟩, flush0_4 _, (mem_blk4 _ i).mpr
    ⟨by show (i 0 : Nat) = ((i 0 : Nat) * 2 + (i 1 : Nat) / 1024) / 2; omega,
      by show ((i 0 : Nat) * 2 + (i 1 : Nat) / 1024) % 2 * 1024 ≤ _; omega,
      by show _ < ((i 0 : Nat) * 2 + (i 1 : Nat) / 1024) % 2 * 1024 + 1024; omega⟩⟩

/-- The array after the run. -/
theorem final4 (c : Dev nD) : (dats m 0 c).arrAt 4 cfg0.N = arr4 m c :=
  (dats m 0 c).arrAt_eq_of_cover 4 (arr4 m c) (fun t _ => flushed_eq4 m c t) cover4

/-- From memories that agree on the arguments, the kernel's array is the reference's. -/
theorem algebraic : Cert.algebraic_MemAttnIdeal_MemAttnRefIdeal := by
  intro m g m' g' _ hargs
  refine ⟨arr4 m, (θ_run defs _ _).mono (fun r h c => ?_) (Value.run_blocks m g), ?_⟩
  · obtain ⟨h4, hrest⟩ := h c
    exact ⟨h4.trans (final4 m c), hrest⟩
  refine (θ_run Cert.MemAttnRefIdeal.defs _ _).mono (fun r h c => ?_) (Cert.MemAttnRefIdeal.Value.run m' g')
  obtain ⟨e0, hrest⟩ := h c
  obtain ⟨a0, a1, a2, a3⟩ := hargs c
  refine ⟨e0.trans ?_, hrest⟩
  exact (Cert.MemAttnRefIdeal.Read.val_main_v32_eq _ _).trans (congr (congr (congr (congrArg _ a0) a1) a2) a3)

end Cert.MemAttnIdeal.Rows

end
-- ==== Proof.StepRef.lean ====
module

public import proofs.«01_k».proof.Proof.Gen.StepRefIdeal.Read
public import proofs.«01_k».proof.Proof.ProjSpec
public import Idealize.ShloMosaic.Lib.Pointwise
public import Idealize.ShloMosaic.Lib.KernelVsHost

/-!
  One step of the recurrence, head by head: the new state and the row of outputs, and that the reference's two arrays hold
  them.
-/

@[expose] public section

set_option maxRecDepth 16384

noncomputable section

namespace Cert.StepRule

open Idealize.ShloMosaic Idealize.ShloMosaic.TcCoe Idealize.SL.Sem

/-- The new state of a head: the old one decayed, its product with the removal key written back at the key, the value written at
    the key. -/
def newState (S : Fin 64 → Fin 64 → EReal) (ld k v kk a : Fin 64 → EReal) (i j : Fin 64) : EReal :=
  S i j * Ideal.exp (ld j) + (∑ l : Fin 64, S i l * -(kk l)) * (kk j * a j) + v i * k j

/-- The state read with the receptance. -/
def readOut (S : Fin 64 → Fin 64 → EReal) (r : Fin 64 → EReal) (i : Fin 64) : EReal := ∑ j : Fin 64, S i j * r j

/-- The mean of 64 numbers. -/
def mean64 (y : Fin 64 → EReal) : EReal := Ideal.div (∑ j : Fin 64, y j) (Ideal.ofBits .f32 0x42800000#32)

/-- The head's output: what was read, normalized, with its gain and shift, and the bonus, all of it gated. -/
def finish (y r k v g rk lnw lnb : Fin 64 → EReal) (j : Fin 64) : EReal :=
  ((y j - mean64 y) * Ideal.rsqrt (mean64 (fun i => (y i - mean64 y) * (y i - mean64 y)) + Ideal.ofBits .f32 0x3A27C5AC#32) * lnw j + lnb j
    + (∑ i : Fin 64, r i * k i * rk i) * v j) * g j

/-- The place in a row of heads of a place in a head. -/
def lane (h : Fin 12) (d : Fin 64) : Fin 768 := ⟨h.val * 64 + d.val, by omega⟩

section
open Cert.StepRefIdeal Cert.StepRefIdeal.Gen Cert.StepRefIdeal.Read
variable (x0 x1 x2 x3 x4 x5 x6 : Vec Ideal S32x768 .f32) (x7 : Vec Ideal S12x64 .f32) (x8 x9 : Vec Ideal S768 .f32)
  (x10 : Vec Ideal S32x12x64x64 .f32) (b : Fin 32) (h : Fin 12)

/-- The row of batch `b`, cut at head `h`. -/
abbrev at_ (x : Vec Ideal S32x768 .f32) (b : Fin 32) (h : Fin 12) (d : Fin 64) : EReal := x (ix2 b (lane h d))

/-- A row of heads, cut into its heads. -/
theorem cut (x : Vec Ideal S32x768 .f32) (d : Fin 64) :
    shapeCast S32x12x64 x shapeCasts_S32x768_S32x12x64 (ix3 b h d) = at_ x b h d :=
  shapeCast_apply _ _ _ _ (by
    rewrite [Shape.rowMajor_val_three, Shape.rowMajor_val_two]
    show b.val * 768 + (h.val * 64 + d.val) = (b.val * 12 + h.val) * 64 + d.val
    omega)

/-- Heads laid out as a row. -/
theorem uncut (x : Vec Ideal S32x12x64 .f32) (d : Fin 64) :
    shapeCast S32x1x768 x shapeCasts_S32x12x64_S32x1x768 (ix3 b 0 (lane h d)) = x (ix3 b h d) :=
  shapeCast_apply _ _ _ _ (by
    rewrite [Shape.rowMajor_val_three, Shape.rowMajor_val_three]
    show (b.val * 12 + h.val) * 64 + d.val = (b.val * 1 + 0) * 768 + (h.val * 64 + d.val)
    omega)

/-- A row with an axis of one put in. -/
theorem rows (x : Vec Ideal S32x768 .f32) (l : Fin 768) :
    shapeCast S32x1x768 x shapeCasts_S32x768_S32x1x768 (ix3 b 0 l) = x (ix2 b l) :=
  shapeCast_apply _ _ _ _ (by
    rewrite [Shape.rowMajor_val_three, Shape.rowMajor_val_two]
    show b.val * 768 + l.val = (b.val * 1 + 0) * 768 + l.val
    omega)

/-- The reference's new state. -/
theorem ref_state (i j : Fin 64) : val_main_v24 (F := Ideal) x1 x2 x3 x4 x5 x10 (ix4 b h i j)
    = newState (fun i j => x10 (ix4 b h i j)) (at_ x1 b h) (at_ x2 b h) (at_ x3 b h) (at_ x4 b h) (at_ x5 b h) i j := by
  have e1 : ∀ d, val_main_v5 (F := Ideal) x1 (ix3 b h d) = at_ x1 b h d := cut b h x1
  have e2 : ∀ d, val_main_v1 (F := Ideal) x2 (ix3 b h d) = at_ x2 b h d := cut b h x2
  have e3 : ∀ d, val_main_v2 (F := Ideal) x3 (ix3 b h d) = at_ x3 b h d := cut b h x3
  have e4 : ∀ d, val_main_v3 (F := Ideal) x4 (ix3 b h d) = at_ x4 b h d := cut b h x4
  have e5 : ∀ d, val_main_v4 (F := Ideal) x5 (ix3 b h d) = at_ x5 b h d := cut b h x5
  unfold val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6
    newState
  generalize val_main_v5 (F := Ideal) x1 = y1 at e1
  generalize val_main_v1 (F := Ideal) x2 = y2 at e2
  generalize val_main_v2 (F := Ideal) x3 = y3 at e3
  generalize val_main_v3 (F := Ideal) x4 = y4 at e4
  generalize val_main_v4 (F := Ideal) x5 = y5 at e5
  pointwise
  simp only [e1, e2, e3, e4, e5]

/-- What the reference reads from the new state. -/
theorem ref_read (i : Fin 64) : val_main_v25 (F := Ideal) x0 x1 x2 x3 x4 x5 x10 (ix3 b h i)
    = readOut (newState (fun i j => x10 (ix4 b h i j)) (at_ x1 b h) (at_ x2 b h) (at_ x3 b h) (at_ x4 b h) (at_ x5 b h)) (at_ x0 b h) i := by
  have e0 : ∀ d, val_main_v0 (F := Ideal) x0 (ix3 b h d) = at_ x0 b h d := cut b h x0
  have es := ref_state x1 x2 x3 x4 x5 x10 b h
  unfold val_main_v25 readOut
  generalize val_main_v0 (F := Ideal) x0 = y0 at e0
  generalize val_main_v24 (F := Ideal) x1 x2 x3 x4 x5 x10 = z at es
  pointwise
  simp only [e0, es]

/-- The reference's normalized heads. -/
theorem ref_norm (y : Fin 64 → EReal) (hy : ∀ i, val_main_v25 (F := Ideal) x0 x1 x2 x3 x4 x5 x10 (ix3 b h i) = y i) (j : Fin 64) :
    val_main_v43 (F := Ideal) x0 x1 x2 x3 x4 x5 x10 (ix3 b h j)
    = (y j - mean64 y) * Ideal.rsqrt (mean64 (fun i => (y i - mean64 y) * (y i - mean64 y)) + Ideal.ofBits .f32 0x3A27C5AC#32) := by
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26
    val_main_cst val_main_cst_0 val_main_cst_1 val_main_cst_2 val_main_cst_3 mean64
  generalize val_main_v25 (F := Ideal) x0 x1 x2 x3 x4 x5 x10 = z at hy
  pointwise
  simp only [hy]

/-- The reference's bonus. -/
theorem ref_bonus (j : Fin 64) : val_main_v58 (F := Ideal) x0 x2 x3 x7 (ix3 b h j)
    = (∑ i : Fin 64, at_ x0 b h i * at_ x2 b h i * x7 (ix2 h i)) * at_ x3 b h j := by
  have e0 : ∀ d, val_main_v0 (F := Ideal) x0 (ix3 b h d) = at_ x0 b h d := cut b h x0
  have e2 : ∀ d, val_main_v1 (F := Ideal) x2 (ix3 b h d) = at_ x2 b h d := cut b h x2
  have e3 : ∀ d, val_main_v2 (F := Ideal) x3 (ix3 b h d) = at_ x3 b h d := cut b h x3
  unfold val_main_v58 val_main_v57 val_main_v56 val_main_v55 val_main_v54 val_main_v53 val_main_v52 val_main_v51 val_main_cst_4
  generalize val_main_v0 (F := Ideal) x0 = y0 at e0
  generalize val_main_v1 (F := Ideal) x2 = y2 at e2
  generalize val_main_v2 (F := Ideal) x3 = y3 at e3
  pointwise
  simp only [e0, e2, e3]

/-- The reference's row of outputs. -/
theorem ref_out (j : Fin 64) : val_main_v62 (F := Ideal) x0 x1 x2 x3 x4 x5 x6 x7 x8 x9 x10 (ix3 b 0 (lane h j))
    = finish (readOut (newState (fun i j => x10 (ix4 b h i j)) (at_ x1 b h) (at_ x2 b h) (at_ x3 b h) (at_ x4 b h) (at_ x5 b h)) (at_ x0 b h))
      (at_ x0 b h) (at_ x2 b h) (at_ x3 b h) (at_ x6 b h) (fun d => x7 (ix2 h d)) (fun d => x8 (ix1 (lane h d))) (fun d => x9 (ix1 (lane h d))) j := by
  have en : val_main_v44 (F := Ideal) x0 x1 x2 x3 x4 x5 x10 (ix3 b 0 (lane h j)) = _ :=
    (uncut b h _ j).trans (ref_norm x0 x1 x2 x3 x4 x5 x10 b h _ (ref_read x0 x1 x2 x3 x4 x5 x10 b h) j)
  have eb : val_main_v59 (F := Ideal) x0 x2 x3 x7 (ix3 b 0 (lane h j)) = _ := (uncut b h _ j).trans (ref_bonus x0 x2 x3 x7 b h j)
  have eg : val_main_v61 (F := Ideal) x6 (ix3 b 0 (lane h j)) = x6 (ix2 b (lane h j)) := rows b x6 _
  unfold val_main_v62 val_main_v60 val_main_v50 val_main_v49 val_main_v48 val_main_v47 val_main_v46 val_main_v45 finish
  generalize val_main_v44 (F := Ideal) x0 x1 x2 x3 x4 x5 x10 = z1 at en
  generalize val_main_v59 (F := Ideal) x0 x2 x3 x7 = z2 at eb
  generalize val_main_v61 (F := Ideal) x6 = z3 at eg
  pointwise
  rw [en, eb, eg]

end

end Cert.StepRule

end
-- ==== Proof.StepHead.lean ====
module

public import proofs.«01_k».proof.Proof.Gen.StepIdeal.Skeleton
public import proofs.«01_k».proof.Proof.StepRef
public import Idealize.ShloMosaic.Lib.Pointwise
public import Idealize.ShloMosaic.Lib.KernelVsHost

/-!
  One head of one row of the kernel's step: the new state and the output it computes, entry by entry.
-/

@[expose] public section

set_option maxRecDepth 16384

noncomputable section

namespace Cert.StepIdeal.Rows

open Idealize.ShloMosaic Idealize.ShloMosaic.TcCoe Idealize.SL.Sem
open Cert.StepIdeal Cert.StepIdeal.Gen Cert.StepRule

/-- The new state of a head, as the kernel computes it. -/
def stateV (ld k v kk a : Vec Ideal S1x1x64 .f32) (s : Vec Ideal S1x1x64x64 .f32) : FVec Ideal S64x64 .f32 :=
  k0_pay455 (k0_pay51 k) (k0_pay147 kk) (k0_pay195 a) (k0_pay243 ld) (k0_pay291 s)
    (k0_pay341 (k0_pay339 (k0_pay291 s)) (k0_pay340 (k0_pay147 kk))) (k0_pay407 k0_pay2 (k0_pay99 v))

/-- What is read from a state with the receptance, as a row. -/
def readV (r : Vec Ideal S1x1x64 .f32) (s : FVec Ideal S64x64 .f32) : FVec Ideal S1x64 .f32 :=
  k0_pay638 k0_pay2 (k0_pay586 (k0_pay3 r) s)

/-- The output of a head, from what was read. -/
def finishV (y : FVec Ideal S1x64 .f32) (r k v g : Vec Ideal S1x1x64 .f32) (rk lnw lnb : Vec Ideal S1x64 .f32) : FVec Ideal S1x1x64 .f32 :=
  k0_pay1 (k0_pay890 (k0_pay3 r) (k0_pay51 k) (k0_pay99 v) y g rk lnw lnb)

/-- The word that says whether two numbers are the same, as a number. -/
theorem eye_word (i j : Fin 64) :
    FloatOps.sitofp (F := Ideal) .f32 (BitVec.setWidth 32 (IntOp.cmpi .eq (BitVec.ofNat 32 i.val) (BitVec.ofNat 32 j.val)))
      = if i = j then (1 : EReal) else 0 := by
  have h : ∀ i j : Fin 64, (BitVec.setWidth 32 (IntOp.cmpi .eq (BitVec.ofNat 32 i.val) (BitVec.ofNat 32 j.val))).toInt
      = if i = j then 1 else 0 := by decide +kernel
  show (((BitVec.setWidth 32 (IntOp.cmpi .eq (BitVec.ofNat 32 i.val) (BitVec.ofNat 32 j.val))).toInt : ℝ) : EReal) = _
  rw [h i j]
  split
  · simp
  · simp

/-- The matrix with ones on its diagonal. -/
theorem eye_apply (i j : Fin 64) : (k0_pay2 (F := Ideal)) (ix2 i j) = if i = j then (1 : EReal) else 0 := by
  unfold k0_pay2
  pointwise
  exact eye_word i j

/-- A column of the values: the row, its entries picked by the diagonal. -/
theorem col_apply (v : Vec Ideal S1x1x64 .f32) (i : Fin 64) : k0_pay407 (F := Ideal) k0_pay2 (k0_pay99 v) (ix2 i 0) = v (ix3 0 0 i) := by
  have e := eye_apply
  unfold k0_pay407 k0_pay99
  generalize (k0_pay2 (F := Ideal)) = y at e
  pointwise
  simp only [e]
  simp

/-- The new state, entry by entry. -/
theorem stateV_apply (ld k v kk a : Vec Ideal S1x1x64 .f32) (s : Vec Ideal S1x1x64x64 .f32) (i j : Fin 64) :
    stateV ld k v kk a s (ix2 i j)
    = newState (fun i j => s (ix4 0 0 i j)) (fun d => ld (ix3 0 0 d)) (fun d => k (ix3 0 0 d)) (fun d => v (ix3 0 0 d))
      (fun d => kk (ix3 0 0 d)) (fun d => a (ix3 0 0 d)) i j := by
  have e := col_apply v
  unfold stateV newState
  generalize k0_pay407 (F := Ideal) k0_pay2 (k0_pay99 v) = y at e
  unfold k0_pay455 k0_pay51 k0_pay147 k0_pay195 k0_pay243 k0_pay291 k0_pay341 k0_pay339 k0_pay340
  pointwise
  simp only [e]
  simp only [zero_sub]

/-- The tile of the new state. -/
theorem tileV_apply (z : FVec Ideal S64x64 .f32) (i j : Fin 64) : k0_pay639 z (ix4 0 0 i j) = z (ix2 i j) := by
  unfold k0_pay639
  pointwise

/-- What is read, entry by entry. -/
theorem readV_apply (r : Vec Ideal S1x1x64 .f32) (s : FVec Ideal S64x64 .f32) (i : Fin 64) :
    readV r s (ix2 0 i) = readOut (fun i j => s (ix2 i j)) (fun d => r (ix3 0 0 d)) i := by
  have e := eye_apply
  unfold readV readOut k0_pay638 k0_pay586 k0_pay3
  generalize (k0_pay2 (F := Ideal)) = y at e
  pointwise
  simp only [e]
  simp

/-- The output, entry by entry. -/
theorem finishV_apply (y : FVec Ideal S1x64 .f32) (r k v g : Vec Ideal S1x1x64 .f32) (rk lnw lnb : Vec Ideal S1x64 .f32) (j : Fin 64) :
    finishV y r k v g rk lnw lnb (ix3 0 0 j)
    = finish (fun d => y (ix2 0 d)) (fun d => r (ix3 0 0 d)) (fun d => k (ix3 0 0 d)) (fun d => v (ix3 0 0 d)) (fun d => g (ix3 0 0 d))
      (fun d => rk (ix2 0 d)) (fun d => lnw (ix2 0 d)) (fun d => lnb (ix2 0 d)) j := by
  unfold finishV finish mean64 k0_pay1 k0_pay890 k0_pay3 k0_pay51 k0_pay99
  pointwise

end Cert.StepIdeal.Rows

end
-- ==== Proof.StepTiles.lean ====
module

public import proofs.«01_k».proof.Proof.StepHead
public import Idealize.ShloMosaic.Lib.Pipeline.Value
public import Idealize.ShloMosaic.Lib.Pipeline.ValueKit

/-!
  The tiles of a block: one for each row and head. What a tile holds, at an entry of the block, from the block's rows.
-/

@[expose] public section

set_option maxRecDepth 16384

noncomputable section

namespace Cert.StepIdeal.Rows

open Idealize.ShloMosaic Idealize.ShloMosaic.TcCoe Idealize.SL.Sem
open Cert.StepIdeal Cert.StepIdeal.Gen Cert.StepRule

variable (x0 x1 x2 x3 x4 x5 x6 : Vec Ideal S4x1x768 .f32) (x7 x8 x9 : Vec Ideal S1x768 .f32) (x10 : Vec Ideal S4x12x64x64 .f32)

/-- The new state of row `q` and head `h` of a block. -/
def newS (q : Fin 4) (h : Fin 12) : Fin 64 → Fin 64 → EReal :=
  newState (fun i j => x10 (ix4 q h i j)) (fun d => x1 (ix3 q 0 (lane h d))) (fun d => x2 (ix3 q 0 (lane h d)))
    (fun d => x3 (ix3 q 0 (lane h d))) (fun d => x4 (ix3 q 0 (lane h d))) (fun d => x5 (ix3 q 0 (lane h d)))

/-- The output of row `q` and head `h` of a block. -/
def outS (q : Fin 4) (h : Fin 12) : Fin 64 → EReal :=
  finish (readOut (newS x1 x2 x3 x4 x5 x10 q h) (fun d => x0 (ix3 q 0 (lane h d)))) (fun d => x0 (ix3 q 0 (lane h d)))
    (fun d => x2 (ix3 q 0 (lane h d))) (fun d => x3 (ix3 q 0 (lane h d))) (fun d => x6 (ix3 q 0 (lane h d)))
    (fun d => x7 (ix2 0 (lane h d))) (fun d => x8 (ix2 0 (lane h d))) (fun d => x9 (ix2 0 (lane h d)))

section
variable (q : Fin 4) (h : Fin 12)
  (p : ∀ a, (![q.val, 0, h.val * 64] : Fin 3 → Nat) a + S1x1x64.size a ≤ S4x1x768.size a)
  (p2 : ∀ a, (![0, h.val * 64] : Fin 2 → Nat) a + S1x64.size a ≤ S1x768.size a)
  (p4 : ∀ a, (![q.val, h.val, 0, 0] : Fin 4 → Nat) a + S1x1x64x64.size a ≤ S4x12x64x64.size a)

/-- A head of a row of a block. -/
def headOf (x : Vec Ideal S4x1x768 .f32) : Vec Ideal S1x1x64 .f32 :=
  View.ld x (Rect.unit (s := S4x1x768) ![q.val, 0, h.val * 64] S1x1x64.size p)
/-- A head of a row of weights. -/
def headW (x : Vec Ideal S1x768 .f32) : Vec Ideal S1x64 .f32 :=
  View.ld x (Rect.unit (s := S1x768) ![0, h.val * 64] S1x64.size p2)
/-- A head's state in a block. -/
def headS (x : Vec Ideal S4x12x64x64 .f32) : Vec Ideal S1x1x64x64 .f32 :=
  View.ld x (Rect.unit (s := S4x12x64x64) ![q.val, h.val, 0, 0] S1x1x64x64.size p4)

/-- An entry of a head of a row. -/
theorem headOf_apply (x : Vec Ideal S4x1x768 .f32) (d : Fin 64) : headOf q h p x (ix3 0 0 d) = x (ix3 q 0 (lane h d)) :=
  View.ld_unit_apply_of _ _ _ _ _ _ fun a => match a with
    | ⟨0, _⟩ => rfl
    | ⟨1, _⟩ => rfl
    | ⟨2, _⟩ => rfl

/-- An entry of a head of a row of weights. -/
theorem headW_apply (x : Vec Ideal S1x768 .f32) (d : Fin 64) : headW h p2 x (ix2 0 d) = x (ix2 0 (lane h d)) :=
  View.ld_unit_apply_of _ _ _ _ _ _ fun a => match a with
    | ⟨0, _⟩ => rfl
    | ⟨1, _⟩ => rfl

/-- An entry of a head's state. -/
theorem headS_apply (x : Vec Ideal S4x12x64x64 .f32) (i j : Fin 64) : headS q h p4 x (ix4 0 0 i j) = x (ix4 q h i j) :=
  View.ld_unit_apply_of _ _ _ _ _ _ fun a => match a with
    | ⟨0, _⟩ => rfl
    | ⟨1, _⟩ => rfl
    | ⟨2, _⟩ => (Nat.zero_add _).symm
    | ⟨3, _⟩ => (Nat.zero_add _).symm

/-- The new state of a head of a block. -/
def stateOf : FVec Ideal S64x64 .f32 :=
  stateV (headOf q h p x1) (headOf q h p x2) (headOf q h p x3) (headOf q h p x4) (headOf q h p x5) (headS q h p4 x10)

/-- Its entries. -/
theorem stateOf_apply (i j : Fin 64) : stateOf x1 x2 x3 x4 x5 x10 q h p p4 (ix2 i j) = newS x1 x2 x3 x4 x5 x10 q h i j := by
  unfold stateOf newS
  rw [stateV_apply]
  simp only [headOf_apply, headS_apply]

/-- The tile of a head's new state, where it holds an entry of the block. -/
theorem state_tile (y : S4x12x64x64.Idx) : View.TileAt (Val := Elt Ideal) (e := .f32) y ![q.val, h.val, 0, 0] S1x1x64x64.size
    (k0_pay639 (stateOf x1 x2 x3 x4 x5 x10 q h p p4) : Vec Ideal S1x1x64x64 .f32) (newS x1 x2 x3 x4 x5 x10 (y 0) (y 1) (y 2) (y 3)) := by
  intro x hx
  obtain ⟨z, z', i, j, rfl⟩ : ∃ (z z' : Fin 1) (i j : Fin 64), x = ix4 z z' i j := ⟨x 0, x 1, x 2, x 3, eq_ix4 x⟩
  obtain rfl : z = 0 := Subsingleton.elim _ _
  obtain rfl : z' = 0 := Subsingleton.elim _ _
  have e0 : y 0 = q := Fin.ext (hx 0)
  have e1 : y 1 = h := Fin.ext (hx 1)
  have e2 : y 2 = i := Fin.ext ((hx 2).trans (Nat.zero_add _))
  have e3 : y 3 = j := Fin.ext ((hx 3).trans (Nat.zero_add _))
  rw [e0, e1, e2, e3]
  exact (tileV_apply _ i j).trans (stateOf_apply x1 x2 x3 x4 x5 x10 q h p p4 i j)

/-- The head and the place in it of a place in a row. -/
def headAt (l : Fin 768) : Fin 12 := ⟨l.val / 64, by omega⟩
/-- The place in its head. -/
def placeAt (l : Fin 768) : Fin 64 := ⟨l.val % 64, by omega⟩

/-- The tile of a head's output, where it holds an entry of the block. -/
theorem out_tile (y : S4x1x768.Idx) : View.TileAt (Val := Elt Ideal) (e := .f32) y ![q.val, 0, h.val * 64] S1x1x64.size
    (finishV (readV (headOf q h p x0) (stateOf x1 x2 x3 x4 x5 x10 q h p p4)) (headOf q h p x0) (headOf q h p x2) (headOf q h p x3)
      (headOf q h p x6) (headW h p2 x7) (headW h p2 x8) (headW h p2 x9) : Vec Ideal S1x1x64 .f32)
    (outS x0 x1 x2 x3 x4 x5 x6 x7 x8 x9 x10 (y 0) (headAt (y 2)) (placeAt (y 2))) := by
  intro x hx
  obtain ⟨z, z', d, rfl⟩ : ∃ (z z' : Fin 1) (d : Fin 64), x = ix3 z z' d := ⟨x 0, x 1, x 2, eq_ix3 x⟩
  obtain rfl : z = 0 := Subsingleton.elim _ _
  obtain rfl : z' = 0 := Subsingleton.elim _ _
  have h2 : (y 2 : Nat) = h.val * 64 + d.val := hx 2
  have e0 : y 0 = q := Fin.ext (hx 0)
  have e1 : headAt (y 2) = h := Fin.ext (by show (y 2 : Nat) / 64 = h.val; omega)
  have e2 : placeAt (y 2) = d := Fin.ext (by show (y 2 : Nat) % 64 = d.val; omega)
  rw [e0, e1, e2]
  refine (finishV_apply _ _ _ _ _ _ _ _ d).trans ?_
  unfold outS
  simp only [readV_apply, headOf_apply, headW_apply, stateOf_apply]

end

end Cert.StepIdeal.Rows

end
-- ==== Proof.StepStates.lean ====
module

public import proofs.«01_k».proof.Proof.StepTiles
public import proofs.«01_k».proof.Proof.Gen.StepIdeal.Frame

/-!
  The 48 tiles of the block of states, each the new state of its row and head.
-/

@[expose] public section

set_option maxRecDepth 16384

noncomputable section

namespace Cert.StepIdeal.Rows

open Idealize.ShloMosaic Idealize.ShloMosaic.TcCoe Idealize.SL.Sem
open Cert.StepIdeal Cert.StepIdeal.Gen Cert.StepRule

variable (x0 x1 x2 x3 x4 x5 x6 : Vec Ideal S4x1x768 .f32) (x7 x8 x9 : Vec Ideal S1x768 .f32) (x10 : Vec Ideal S4x12x64x64 .f32)

/-- The tile of row 0 and head 0. -/
theorem s0 (y : S4x12x64x64.Idx) : View.TileAt (Val := Elt Ideal) (e := .f32) y ![0, 0, 0, 0] S1x1x64x64.size
    (k0_pay639 (k0_pay1132 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 0 inb_S4x1x768_S1x1x64_0_0_0 inb_S4x12x64x64_S1x1x64x64_0_0_0_0 y

/-- The tile of row 0 and head 1. -/
theorem s1 (y : S4x12x64x64.Idx) : View.TileAt (Val := Elt Ideal) (e := .f32) y ![0, 1, 0, 0] S1x1x64x64.size
    (k0_pay648 (k0_pay1133 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 1 inb_S4x1x768_S1x1x64_0_0_64 inb_S4x12x64x64_S1x1x64x64_0_1_0_0 y

/-- The tile of row 0 and head 2. -/
theorem s2 (y : S4x12x64x64.Idx) : View.TileAt (Val := Elt Ideal) (e := .f32) y ![0, 2, 0, 0] S1x1x64x64.size
    (k0_pay656 (k0_pay1134 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 2 inb_S4x1x768_S1x1x64_0_0_128 inb_S4x12x64x64_S1x1x64x64_0_2_0_0 y

/-- The tile of row 0 and head 3. -/
theorem s3 (y : S4x12x64x64.Idx) : View.TileAt (Val := Elt Ideal) (e := .f32) y ![0, 3, 0, 0] S1x1x64x64.size
    (k0_pay664 (k0_pay1135 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 3 inb_S4x1x768_S1x1x64_0_0_192 inb_S4x12x64x64_S1x1x64x64_0_3_0_0 y

/-- The tile of row 0 and head 4. -/
theorem s4 (y : S4x12x64x64.Idx) : View.TileAt (Val := Elt Ideal) (e := .f32) y ![0, 4, 0, 0] S1x1x64x64.size
    (k0_pay669 (k0_pay1136 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 4 inb_S4x1x768_S1x1x64_0_0_256 inb_S4x12x64x64_S1x1x64x64_0_4_0_0 y

/-- The tile of row 0 and head 5. -/
theorem s5 (y : S4x12x64x64.Idx) : View.TileAt (Val := Elt Ideal) (e := .f32) y ![0, 5, 0, 0] S1x1x64x64.size
    (k0_pay673 (k0_pay1137 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 5 inb_S4x1x768_S1x1x64_0_0_320 inb_S4x12x64x64_S1x1x64x64_0_5_0_0 y

/-- The tile of row 0 and head 6. -/
theorem s6 (y : S4x12x64x64.Idx) : View.TileAt (Val := Elt Ideal) (e := .f32) y ![0, 6, 0, 0] S1x1x64x64.size
    (k0_pay675 (k0_pay1138 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 6 inb_S4x1x768_S1x1x64_0_0_384 inb_S4x12x64x64_S1x1x64x64_0_6_0_0 y

/-- The tile of row 0 and head 7. -/
theorem s7 (y : S4x12x64x64.Idx) : View.TileAt (Val := Elt Ideal) (e := .f32) y ![0, 7, 0, 0] S1x1x64x64.size
    (k0_pay677 (k0_pay1139 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 7 inb_S4x1x768_S1x1x64_0_0_448 inb_S4x12x64x64_S1x1x64x64_0_7_0_0 y

/-- The tile of row 0 and head 8. -/
theorem s8 (y : S4x12x64x64.Idx) : View.TileAt (Val := Elt Ideal) (e := .f32) y ![0, 8, 0, 0] S1x1x64x64.size
    (k0_pay680 (k0_pay1140 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 8 inb_S4x1x768_S1x1x64_0_0_512 inb_S4x12x64x64_S1x1x64x64_0_8_0_0 y

/-- The tile of row 0 and head 9. -/
theorem s9 (y : S4x12x64x64.Idx) : View.TileAt (Val := Elt Ideal) (e := .f32) y ![0, 9, 0, 0] S1x1x64x64.size
    (k0_pay685 (k0_pay1141 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 9 inb_S4x1x768_S1x1x64_0_0_576 inb_S4x12x64x64_S1x1x64x64_0_9_0_0 y

/-- The tile of row 0 and head 10. -/
theorem s10 (y : S4x12x64x64.Idx) : View.TileAt (Val := Elt Ideal) (e := .f32) y ![0, 10, 0, 0] S1x1x64x64.size
    (k0_pay692 (k0_pay1142 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 10 inb_S4x1x768_S1x1x64_0_0_640 inb_S4x12x64x64_S1x1x64x64_0_10_0_0 y

/-- The tile of row 0 and head 11. -/
theorem s11 (y : S4x12x64x64.Idx) : View.TileAt (Val := Elt Ideal) (e := .f32) y ![0, 11, 0, 0] S1x1x64x64.size
    (k0_pay701 (k0_pay1143 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 0 11 inb_S4x1x768_S1x1x64_0_0_704 inb_S4x12x64x64_S1x1x64x64_0_11_0_0 y

/-- The tile of row 1 and head 0. -/
theorem s12 (y : S4x12x64x64.Idx) : View.TileAt (Val := Elt Ideal) (e := .f32) y ![1, 0, 0, 0] S1x1x64x64.size
    (k0_pay709 (k0_pay1144 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 0 inb_S4x1x768_S1x1x64_1_0_0 inb_S4x12x64x64_S1x1x64x64_1_0_0_0 y

/-- The tile of row 1 and head 1. -/
theorem s13 (y : S4x12x64x64.Idx) : View.TileAt (Val := Elt Ideal) (e := .f32) y ![1, 1, 0, 0] S1x1x64x64.size
    (k0_pay717 (k0_pay1145 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 1 inb_S4x1x768_S1x1x64_1_0_64 inb_S4x12x64x64_S1x1x64x64_1_1_0_0 y

/-- The tile of row 1 and head 2. -/
theorem s14 (y : S4x12x64x64.Idx) : View.TileAt (Val := Elt Ideal) (e := .f32) y ![1, 2, 0, 0] S1x1x64x64.size
    (k0_pay722 (k0_pay1146 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 2 inb_S4x1x768_S1x1x64_1_0_128 inb_S4x12x64x64_S1x1x64x64_1_2_0_0 y

/-- The tile of row 1 and head 3. -/
theorem s15 (y : S4x12x64x64.Idx) : View.TileAt (Val := Elt Ideal) (e := .f32) y ![1, 3, 0, 0] S1x1x64x64.size
    (k0_pay726 (k0_pay1147 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 3 inb_S4x1x768_S1x1x64_1_0_192 inb_S4x12x64x64_S1x1x64x64_1_3_0_0 y

/-- The tile of row 1 and head 4. -/
theorem s16 (y : S4x12x64x64.Idx) : View.TileAt (Val := Elt Ideal) (e := .f32) y ![1, 4, 0, 0] S1x1x64x64.size
    (k0_pay728 (k0_pay1148 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 4 inb_S4x1x768_S1x1x64_1_0_256 inb_S4x12x64x64_S1x1x64x64_1_4_0_0 y

/-- The tile of row 1 and head 5. -/
theorem s17 (y : S4x12x64x64.Idx) : View.TileAt (Val := Elt Ideal) (e := .f32) y ![1, 5, 0, 0] S1x1x64x64.size
    (k0_pay730 (k0_pay1149 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 5 inb_S4x1x768_S1x1x64_1_0_320 inb_S4x12x64x64_S1x1x64x64_1_5_0_0 y

/-- The tile of row 1 and head 6. -/
theorem s18 (y : S4x12x64x64.Idx) : View.TileAt (Val := Elt Ideal) (e := .f32) y ![1, 6, 0, 0] S1x1x64x64.size
    (k0_pay733 (k0_pay1150 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 6 inb_S4x1x768_S1x1x64_1_0_384 inb_S4x12x64x64_S1x1x64x64_1_6_0_0 y

/-- The tile of row 1 and head 7. -/
theorem s19 (y : S4x12x64x64.Idx) : View.TileAt (Val := Elt Ideal) (e := .f32) y ![1, 7, 0, 0] S1x1x64x64.size
    (k0_pay738 (k0_pay1151 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 7 inb_S4x1x768_S1x1x64_1_0_448 inb_S4x12x64x64_S1x1x64x64_1_7_0_0 y

/-- The tile of row 1 and head 8. -/
theorem s20 (y : S4x12x64x64.Idx) : View.TileAt (Val := Elt Ideal) (e := .f32) y ![1, 8, 0, 0] S1x1x64x64.size
    (k0_pay745 (k0_pay1152 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 8 inb_S4x1x768_S1x1x64_1_0_512 inb_S4x12x64x64_S1x1x64x64_1_8_0_0 y

/-- The tile of row 1 and head 9. -/
theorem s21 (y : S4x12x64x64.Idx) : View.TileAt (Val := Elt Ideal) (e := .f32) y ![1, 9, 0, 0] S1x1x64x64.size
    (k0_pay754 (k0_pay1153 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 9 inb_S4x1x768_S1x1x64_1_0_576 inb_S4x12x64x64_S1x1x64x64_1_9_0_0 y

/-- The tile of row 1 and head 10. -/
theorem s22 (y : S4x12x64x64.Idx) : View.TileAt (Val := Elt Ideal) (e := .f32) y ![1, 10, 0, 0] S1x1x64x64.size
    (k0_pay762 (k0_pay1154 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 10 inb_S4x1x768_S1x1x64_1_0_640 inb_S4x12x64x64_S1x1x64x64_1_10_0_0 y

/-- The tile of row 1 and head 11. -/
theorem s23 (y : S4x12x64x64.Idx) : View.TileAt (Val := Elt Ideal) (e := .f32) y ![1, 11, 0, 0] S1x1x64x64.size
    (k0_pay770 (k0_pay1155 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 1 11 inb_S4x1x768_S1x1x64_1_0_704 inb_S4x12x64x64_S1x1x64x64_1_11_0_0 y

/-- The tile of row 2 and head 0. -/
theorem s24 (y : S4x12x64x64.Idx) : View.TileAt (Val := Elt Ideal) (e := .f32) y ![2, 0, 0, 0] S1x1x64x64.size
    (k0_pay775 (k0_pay1156 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 0 inb_S4x1x768_S1x1x64_2_0_0 inb_S4x12x64x64_S1x1x64x64_2_0_0_0 y

/-- The tile of row 2 and head 1. -/
theorem s25 (y : S4x12x64x64.Idx) : View.TileAt (Val := Elt Ideal) (e := .f32) y ![2, 1, 0, 0] S1x1x64x64.size
    (k0_pay779 (k0_pay1157 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 1 inb_S4x1x768_S1x1x64_2_0_64 inb_S4x12x64x64_S1x1x64x64_2_1_0_0 y

/-- The tile of row 2 and head 2. -/
theorem s26 (y : S4x12x64x64.Idx) : View.TileAt (Val := Elt Ideal) (e := .f32) y ![2, 2, 0, 0] S1x1x64x64.size
    (k0_pay781 (k0_pay1158 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 2 inb_S4x1x768_S1x1x64_2_0_128 inb_S4x12x64x64_S1x1x64x64_2_2_0_0 y

/-- The tile of row 2 and head 3. -/
theorem s27 (y : S4x12x64x64.Idx) : View.TileAt (Val := Elt Ideal) (e := .f32) y ![2, 3, 0, 0] S1x1x64x64.size
    (k0_pay783 (k0_pay1159 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 3 inb_S4x1x768_S1x1x64_2_0_192 inb_S4x12x64x64_S1x1x64x64_2_3_0_0 y

/-- The tile of row 2 and head 4. -/
theorem s28 (y : S4x12x64x64.Idx) : View.TileAt (Val := Elt Ideal) (e := .f32) y ![2, 4, 0, 0] S1x1x64x64.size
    (k0_pay786 (k0_pay1160 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 4 inb_S4x1x768_S1x1x64_2_0_256 inb_S4x12x64x64_S1x1x64x64_2_4_0_0 y

/-- The tile of row 2 and head 5. -/
theorem s29 (y : S4x12x64x64.Idx) : View.TileAt (Val := Elt Ideal) (e := .f32) y ![2, 5, 0, 0] S1x1x64x64.size
    (k0_pay791 (k0_pay1161 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 5 inb_S4x1x768_S1x1x64_2_0_320 inb_S4x12x64x64_S1x1x64x64_2_5_0_0 y

/-- The tile of row 2 and head 6. -/
theorem s30 (y : S4x12x64x64.Idx) : View.TileAt (Val := Elt Ideal) (e := .f32) y ![2, 6, 0, 0] S1x1x64x64.size
    (k0_pay798 (k0_pay1162 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 6 inb_S4x1x768_S1x1x64_2_0_384 inb_S4x12x64x64_S1x1x64x64_2_6_0_0 y

/-- The tile of row 2 and head 7. -/
theorem s31 (y : S4x12x64x64.Idx) : View.TileAt (Val := Elt Ideal) (e := .f32) y ![2, 7, 0, 0] S1x1x64x64.size
    (k0_pay807 (k0_pay1163 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 7 inb_S4x1x768_S1x1x64_2_0_448 inb_S4x12x64x64_S1x1x64x64_2_7_0_0 y

/-- The tile of row 2 and head 8. -/
theorem s32 (y : S4x12x64x64.Idx) : View.TileAt (Val := Elt Ideal) (e := .f32) y ![2, 8, 0, 0] S1x1x64x64.size
    (k0_pay815 (k0_pay1164 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 8 inb_S4x1x768_S1x1x64_2_0_512 inb_S4x12x64x64_S1x1x64x64_2_8_0_0 y

/-- The tile of row 2 and head 9. -/
theorem s33 (y : S4x12x64x64.Idx) : View.TileAt (Val := Elt Ideal) (e := .f32) y ![2, 9, 0, 0] S1x1x64x64.size
    (k0_pay823 (k0_pay1165 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 9 inb_S4x1x768_S1x1x64_2_0_576 inb_S4x12x64x64_S1x1x64x64_2_9_0_0 y

/-- The tile of row 2 and head 10. -/
theorem s34 (y : S4x12x64x64.Idx) : View.TileAt (Val := Elt Ideal) (e := .f32) y ![2, 10, 0, 0] S1x1x64x64.size
    (k0_pay828 (k0_pay1166 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 10 inb_S4x1x768_S1x1x64_2_0_640 inb_S4x12x64x64_S1x1x64x64_2_10_0_0 y

/-- The tile of row 2 and head 11. -/
theorem s35 (y : S4x12x64x64.Idx) : View.TileAt (Val := Elt Ideal) (e := .f32) y ![2, 11, 0, 0] S1x1x64x64.size
    (k0_pay832 (k0_pay1167 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 2 11 inb_S4x1x768_S1x1x64_2_0_704 inb_S4x12x64x64_S1x1x64x64_2_11_0_0 y

/-- The tile of row 3 and head 0. -/
theorem s36 (y : S4x12x64x64.Idx) : View.TileAt (Val := Elt Ideal) (e := .f32) y ![3, 0, 0, 0] S1x1x64x64.size
    (k0_pay834 (k0_pay1168 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 0 inb_S4x1x768_S1x1x64_3_0_0 inb_S4x12x64x64_S1x1x64x64_3_0_0_0 y

/-- The tile of row 3 and head 1. -/
theorem s37 (y : S4x12x64x64.Idx) : View.TileAt (Val := Elt Ideal) (e := .f32) y ![3, 1, 0, 0] S1x1x64x64.size
    (k0_pay836 (k0_pay1169 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 1 inb_S4x1x768_S1x1x64_3_0_64 inb_S4x12x64x64_S1x1x64x64_3_1_0_0 y

/-- The tile of row 3 and head 2. -/
theorem s38 (y : S4x12x64x64.Idx) : View.TileAt (Val := Elt Ideal) (e := .f32) y ![3, 2, 0, 0] S1x1x64x64.size
    (k0_pay839 (k0_pay1170 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 2 inb_S4x1x768_S1x1x64_3_0_128 inb_S4x12x64x64_S1x1x64x64_3_2_0_0 y

/-- The tile of row 3 and head 3. -/
theorem s39 (y : S4x12x64x64.Idx) : View.TileAt (Val := Elt Ideal) (e := .f32) y ![3, 3, 0, 0] S1x1x64x64.size
    (k0_pay844 (k0_pay1171 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 3 inb_S4x1x768_S1x1x64_3_0_192 inb_S4x12x64x64_S1x1x64x64_3_3_0_0 y

/-- The tile of row 3 and head 4. -/
theorem s40 (y : S4x12x64x64.Idx) : View.TileAt (Val := Elt Ideal) (e := .f32) y ![3, 4, 0, 0] S1x1x64x64.size
    (k0_pay851 (k0_pay1172 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 4 inb_S4x1x768_S1x1x64_3_0_256 inb_S4x12x64x64_S1x1x64x64_3_4_0_0 y

/-- The tile of row 3 and head 5. -/
theorem s41 (y : S4x12x64x64.Idx) : View.TileAt (Val := Elt Ideal) (e := .f32) y ![3, 5, 0, 0] S1x1x64x64.size
    (k0_pay860 (k0_pay1173 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 5 inb_S4x1x768_S1x1x64_3_0_320 inb_S4x12x64x64_S1x1x64x64_3_5_0_0 y

/-- The tile of row 3 and head 6. -/
theorem s42 (y : S4x12x64x64.Idx) : View.TileAt (Val := Elt Ideal) (e := .f32) y ![3, 6, 0, 0] S1x1x64x64.size
    (k0_pay868 (k0_pay1174 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 6 inb_S4x1x768_S1x1x64_3_0_384 inb_S4x12x64x64_S1x1x64x64_3_6_0_0 y

/-- The tile of row 3 and head 7. -/
theorem s43 (y : S4x12x64x64.Idx) : View.TileAt (Val := Elt Ideal) (e := .f32) y ![3, 7, 0, 0] S1x1x64x64.size
    (k0_pay876 (k0_pay1175 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 7 inb_S4x1x768_S1x1x64_3_0_448 inb_S4x12x64x64_S1x1x64x64_3_7_0_0 y

/-- The tile of row 3 and head 8. -/
theorem s44 (y : S4x12x64x64.Idx) : View.TileAt (Val := Elt Ideal) (e := .f32) y ![3, 8, 0, 0] S1x1x64x64.size
    (k0_pay881 (k0_pay1176 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 8 inb_S4x1x768_S1x1x64_3_0_512 inb_S4x12x64x64_S1x1x64x64_3_8_0_0 y

/-- The tile of row 3 and head 9. -/
theorem s45 (y : S4x12x64x64.Idx) : View.TileAt (Val := Elt Ideal) (e := .f32) y ![3, 9, 0, 0] S1x1x64x64.size
    (k0_pay885 (k0_pay1177 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 9 inb_S4x1x768_S1x1x64_3_0_576 inb_S4x12x64x64_S1x1x64x64_3_9_0_0 y

/-- The tile of row 3 and head 10. -/
theorem s46 (y : S4x12x64x64.Idx) : View.TileAt (Val := Elt Ideal) (e := .f32) y ![3, 10, 0, 0] S1x1x64x64.size
    (k0_pay887 (k0_pay1178 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 10 inb_S4x1x768_S1x1x64_3_0_640 inb_S4x12x64x64_S1x1x64x64_3_10_0_0 y

/-- The tile of row 3 and head 11. -/
theorem s47 (y : S4x12x64x64.Idx) : View.TileAt (Val := Elt Ideal) (e := .f32) y ![3, 11, 0, 0] S1x1x64x64.size
    (k0_pay889 (k0_pay1179 x0 x1 x2 x3 x4 x5 x6 x7 x8 x9 x10) : Vec Ideal S1x1x64x64 .f32)
    (newS x1 x2 x3 x4 x5 x10 (y 0) (y 1) (y 2) (y 3)) :=
  state_tile x1 x2 x3 x4 x5 x10 3 11 inb_S4x1x768_S1x1x64_3_0_704 inb_S4x12x64x64_S1x1x64x64_3_11_0_0 y

/-- The block of states. -/
theorem out12_apply (y : S4x12x64x64.Idx) : out0_12 x0 x1 x2 x3 x4 x5 x6 x7 x8 x9 x10 y = newS x1 x2 x3 x4 x5 x10 (y 0) (y 1) (y 2) (y 3) := by
  unfold out0_12
  refine View.canon_eq_of_allAt _ y _ (View.cover_of_tiled_head _ _ _ rfl y) ?_
  refine View.allAt_cons_unit _ _ _ _ _ (s47 x0 x1 x2 x3 x4 x5 x6 x7 x8 x9 x10 y) ?_
  refine View.allAt_cons_unit _ _ _ _ _ (s46 x0 x1 x2 x3 x4 x5 x6 x7 x8 x9 x10 y) ?_
  refine View.allAt_cons_unit _ _ _ _ _ (s45 x0 x1 x2 x3 x4 x5 x6 x7 x8 x9 x10 y) ?_
  refine View.allAt_cons_unit _ _ _ _ _ (s44 x0 x1 x2 x3 x4 x5 x6 x7 x8 x9 x10 y) ?_
  refine View.allAt_cons_unit _ _ _ _ _ (s43 x0 x1 x2 x3 x4 x5 x6 x7 x8 x9 x10 y) ?_
  refine View.allAt_cons_unit _ _ _ _ _ (s42 x0 x1 x2 x3 x4 x5 x6 x7 x8 x9 x10 y) ?_
  refine View.allAt_cons_unit _ _ _ _ _ (s41 x0 x1 x2 x3 x4 x5 x6 x7 x8 x9 x10 y) ?_
  refine View.allAt_cons_unit _ _ _ _ _ (s40 x0 x1 x2 x3 x4 x5 x6 x7 x8 x9 x10 y) ?_
  refine View.allAt_cons_unit _ _ _ _ _ (s39 x0 x1 x2 x3 x4 x5 x6 x7 x8 x9 x10 y) ?_
  refine View.allAt_cons_unit _ _ _ _ _ (s38 x0 x1 x2 x3 x4 x5 x6 x7 x8 x9 x10 y) ?_
  refine View.allAt_cons_unit _ _ _ _ _ (s37 x0 x1 x2 x3 x4 x5 x6 x7 x8 x9 x10 y) ?_
  refine View.allAt_cons_unit _ _ _ _ _ (s36 x0 x1 x2 x3 x4 x5 x6 x7 x8 x9 x10 y) ?_
  refine View.allAt_cons_unit _ _ _ _ _ (s35 x0 x1 x2 x3 x4 x5 x6 x7 x8 x9 x10 y) ?_
  refine View.allAt_cons_unit _ _ _ _ _ (s34 x0 x1 x2 x3 x4 x5 x6 x7 x8 x9 x10 y) ?_
  refine View.allAt_cons_unit _ _ _ _ _ (s33 x0 x1 x2 x3 x4 x5 x6 x7 x8 x9 x10 y) ?_
  refine View.allAt_cons_unit _ _ _ _ _ (s32 x0 x1 x2 x3 x4 x5 x6 x7 x8 x9 x10 y) ?_
  refine View.allAt_cons_unit _ _ _ _ _ (s31 x0 x1 x2 x3 x4 x5 x6 x7 x8 x9 x10 y) ?_
  refine View.allAt_cons_unit _ _ _ _ _ (s30 x0 x1 x2 x3 x4 x5 x6 x7 x8 x9 x10 y) ?_
  refine View.allAt_cons_unit _ _ _ _ _ (s29 x0 x1 x2 x3 x4 x5 x6 x7 x8 x9 x10 y) ?_
  refine View.allAt_cons_unit _ _ _ _ _ (s28 x0 x1 x2 x3 x4 x5 x6 x7 x8 x9 x10 y) ?_
  refine View.allAt_cons_unit _ _ _ _ _ (s27 x0 x1 x2 x3 x4 x5 x6 x7 x8 x9 x10 y) ?_
  refine View.allAt_cons_unit _ _ _ _ _ (s26 x0 x1 x2 x3 x4 x5 x6 x7 x8 x9 x10 y) ?_
  refine View.allAt_cons_unit _ _ _ _ _ (s25 x0 x1 x2 x3 x4 x5 x6 x7 x8 x9 x10 y) ?_
  refine View.allAt_cons_unit _ _ _ _ _ (s24 x0 x1 x2 x3 x4 x5 x6 x7 x8 x9 x10 y) ?_
  refine View.allAt_cons_unit _ _ _ _ _ (s23 x0 x1 x2 x3 x4 x5 x6 x7 x8 x9 x10 y) ?_
  refine View.allAt_cons_unit _ _ _ _ _ (s22 x0 x1 x2 x3 x4 x5 x6 x7 x8 x9 x10 y) ?_
  refine View.allAt_cons_unit _ _ _ _ _ (s21 x0 x1 x2 x3 x4 x5 x6 x7 x8 x9 x10 y) ?_
  refine View.allAt_cons_unit _ _ _ _ _ (s20 x0 x1 x2 x3 x4 x5 x6 x7 x8 x9 x10 y) ?_
  refine View.allAt_cons_unit _ _ _ _ _ (s19 x0 x1 x2 x3 x4 x5 x6 x7 x8 x9 x10 y) ?_
  refine View.allAt_cons_unit _ _ _ _ _ (s18 x0 x1 x2 x3 x4 x5 x6 x7 x8 x9 x10 y) ?_
  refine View.allAt_cons_unit _ _ _ _ _ (s17 x0 x1 x2 x3 x4 x5 x6 x7 x8 x9 x10 y) ?_
  refine View.allAt_cons_unit _ _ _ _ _ (s16 x0 x1 x2 x3 x4 x5 x6 x7 x8 x9 x10 y) ?_
  refine View.allAt_cons_unit _ _ _ _ _ (s15 x0 x1 x2 x3 x4 x5 x6 x7 x8 x9 x10 y) ?_
  refine View.allAt_cons_unit _ _ _ _ _ (s14 x0 x1 x2 x3 x4 x5 x6 x7 x8 x9 x10 y) ?_
  refine View.allAt_cons_unit _ _ _ _ _ (s13 x0 x1 x2 x3 x4 x5 x6 x7 x8 x9 x10 y) ?_
  refine View.allAt_cons_unit _ _ _ _ _ (s12 x0 x1 x2 x3 x4 x5 x6 x7 x8 x9 x10 y) ?_
  refine View.allAt_cons_unit _ _ _ _ _ (s11 x0 x1 x2 x3 x4 x5 x6 x7 x8 x9 x10 y) ?_
  refine View.allAt_cons_unit _ _ _ _ _ (s10 x0 x1 x2 x3 x4 x5 x6 x7 x8 x9 x10 y) ?_
  refine View.allAt_cons_unit _ _ _ _ _ (s9 x0 x1 x2 x3 x4 x5 x6 x7 x8 x9 x10 y) ?_
  refine View.allAt_cons_unit _ _ _ _ _ (s8 x0 x1 x2 x3 x4 x5 x6 x7 x8 x9 x10 y) ?_
  refine View.allAt_cons_unit _ _ _ _ _ (s7 x0 x1 x2 x3 x4 x5 x6 x7 x8 x9 x10 y) ?_
  refine View.allAt_cons_unit _ _ _ _ _ (s6 x0 x1 x2 x3 x4 x5 x6 x7 x8 x9 x10 y) ?_
  refine View.allAt_cons_unit _ _ _ _ _ (s5 x0 x1 x2 x3 x4 x5 x6 x7 x8 x9 x10 y) ?_
  refine View.allAt_cons_unit _ _ _ _ _ (s4 x0 x1 x2 x3 x4 x5 x6 x7 x8 x9 x10 y) ?_
  refine View.allAt_cons_unit _ _ _ _ _ (s3 x0 x1 x2 x3 x4 x5 x6 x7 x8 x9 x10 y) ?_
  refine View.allAt_cons_unit _ _ _ _ _ (s2 x0 x1 x2 x3 x4 x5 x6 x7 x8 x9 x10 y) ?_
  refine View.allAt_cons_unit _ _ _ _ _ (s1 x0 x1 x2 x3 x4 x5 x6 x7 x8 x9 x10 y) ?_
  refine View.allAt_cons_unit _ _ _ _ _ (s0 x0 x1 x2 x3 x4 x5 x6 x7 x8 x9 x10 y) ?_
  exact View.allAt_nil _ _

end Cert.StepIdeal.Rows

end
-- ==== Proof.StepOuts.lean ====
module

public import proofs.«01_k».proof.Proof.StepTiles
public import proofs.«01_k».proof.Proof.Gen.StepIdeal.Frame

/-!
  The 48 tiles of the block of outputs, each the output of its row and head.
-/

@[expose] public section

set_option maxRecDepth 16384

noncomputable section

namespace Cert.StepIdeal.Rows

open Idealize.ShloMosaic Idealize.ShloMosaic.TcCoe Idealize.SL.Sem
open Cert.StepIdeal Cert.StepIdeal.Gen Cert.StepRule

variable (x0 x1 x2 x3 x4 x5 x6 : Vec Ideal S4x1x768 .f32) (x7 x8 x9 : Vec Ideal S1x768 .f32) (x10 : Vec Ideal S4x12x64x64 .f32)

/-- The tile of row 0 and head 0. -/
theorem o0 (y : S4x1x768.Idx) : View.TileAt (Val := Elt Ideal) (e := .f32) y ![0, 0, 0] S1x1x64.size
    (k0_pay647 (k0_pay892 x0 x1 x2 x3 x4 x5 x6 x7 x8 x9 x10) (k0_pay940 x0 x1 x2 x3 x4 x5 x6 x7 x8 x9 x10) (k0_pay988 x0 x1 x2 x3 x4 x5 x6 x7 x8 x9 x10) (k0_pay640 (View.ld x6 r0_0)) (k0_pay641 (View.ld x7 r0_96)) (k0_pay642 (View.ld x8 r0_96)) (k0_pay643 (View.ld x9 r0_96)) (k0_pay645 (k0_pay1180 x0 x1 x2 x3 x4 x5 x6 x7 x8 x9 x10)) (k0_pay646 (k0_pay1180 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 0 inb_S4x1x768_S1x1x64_0_0_0 inb_S1x768_S1x64_0_0 inb_S4x12x64x64_S1x1x64x64_0_0_0_0 y

/-- The tile of row 0 and head 1. -/
theorem o1 (y : S4x1x768.Idx) : View.TileAt (Val := Elt Ideal) (e := .f32) y ![0, 0, 64] S1x1x64.size
    (k0_pay655 (k0_pay893 x0 x1 x2 x3 x4 x5 x6 x7 x8 x9 x10) (k0_pay941 x0 x1 x2 x3 x4 x5 x6 x7 x8 x9 x10) (k0_pay989 x0 x1 x2 x3 x4 x5 x6 x7 x8 x9 x10) (k0_pay1181 x0 x1 x2 x3 x4 x5 x6 x7 x8 x9 x10) (k0_pay649 (View.ld x6 r0_1)) (k0_pay650 (View.ld x7 r0_97)) (k0_pay651 (View.ld x8 r0_97)) (k0_pay652 (View.ld x9 r0_97)) (k0_pay653 (k0_pay1181 x0 x1 x2 x3 x4 x5 x6 x7 x8 x9 x10)) (k0_pay654 (k0_pay1181 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 1 inb_S4x1x768_S1x1x64_0_0_64 inb_S1x768_S1x64_0_64 inb_S4x12x64x64_S1x1x64x64_0_1_0_0 y

/-- The tile of row 0 and head 2. -/
theorem o2 (y : S4x1x768.Idx) : View.TileAt (Val := Elt Ideal) (e := .f32) y ![0, 0, 128] S1x1x64.size
    (k0_pay663 (k0_pay894 x0 x1 x2 x3 x4 x5 x6 x7 x8 x9 x10) (k0_pay942 x0 x1 x2 x3 x4 x5 x6 x7 x8 x9 x10) (k0_pay990 x0 x1 x2 x3 x4 x5 x6 x7 x8 x9 x10) (k0_pay1182 x0 x1 x2 x3 x4 x5 x6 x7 x8 x9 x10) (k0_pay657 (View.ld x6 r0_2)) (k0_pay658 (View.ld x7 r0_98)) (k0_pay659 (View.ld x8 r0_98)) (k0_pay660 (View.ld x9 r0_98)) (k0_pay661 (k0_pay1182 x0 x1 x2 x3 x4 x5 x6 x7 x8 x9 x10)) k0_pay662 : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 2 inb_S4x1x768_S1x1x64_0_0_128 inb_S1x768_S1x64_0_128 inb_S4x12x64x64_S1x1x64x64_0_2_0_0 y

/-- The tile of row 0 and head 3. -/
theorem o3 (y : S4x1x768.Idx) : View.TileAt (Val := Elt Ideal) (e := .f32) y ![0, 0, 192] S1x1x64.size
    (k0_pay668 (k0_pay895 x0 x1 x2 x3 x4 x5 x6 x7 x8 x9 x10) (k0_pay943 x0 x1 x2 x3 x4 x5 x6 x7 x8 x9 x10) (k0_pay991 x0 x1 x2 x3 x4 x5 x6 x7 x8 x9 x10) (k0_pay590 (k0_pay891 x0 x1 x2 x3 x4 x5 x6 x7 x8 x9 x10) (k0_pay536 (k0_pay895 x0 x1 x2 x3 x4 x5 x6 x7 x8 x9 x10) (k0_pay1135 x0 x1 x2 x3 x4 x5 x6 x7 x8 x9 x10))) (k0_pay665 (View.ld x6 r0_3)) (k0_pay666 (View.ld x7 r0_99)) (k0_pay667 (View.ld x8 r0_99)) (View.ld x9 r0_99) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 3 inb_S4x1x768_S1x1x64_0_0_192 inb_S1x768_S1x64_0_192 inb_S4x12x64x64_S1x1x64x64_0_3_0_0 y

/-- The tile of row 0 and head 4. -/
theorem o4 (y : S4x1x768.Idx) : View.TileAt (Val := Elt Ideal) (e := .f32) y ![0, 0, 256] S1x1x64.size
    (k0_pay672 (k0_pay896 x0 x1 x2 x3 x4 x5 x6 x7 x8 x9 x10) (k0_pay944 x0 x1 x2 x3 x4 x5 x6 x7 x8 x9 x10) (k0_pay992 x0 x1 x2 x3 x4 x5 x6 x7 x8 x9 x10) (k0_pay591 (k0_pay891 x0 x1 x2 x3 x4 x5 x6 x7 x8 x9 x10) (k0_pay537 (k0_pay896 x0 x1 x2 x3 x4 x5 x6 x7 x8 x9 x10) (k0_pay1136 x0 x1 x2 x3 x4 x5 x6 x7 x8 x9 x10))) (k0_pay670 (View.ld x6 r0_4)) (k0_pay671 (View.ld x7 r0_100)) (View.ld x8 r0_100) (View.ld x9 r0_100) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 4 inb_S4x1x768_S1x1x64_0_0_256 inb_S1x768_S1x64_0_256 inb_S4x12x64x64_S1x1x64x64_0_4_0_0 y

/-- The tile of row 0 and head 5. -/
theorem o5 (y : S4x1x768.Idx) : View.TileAt (Val := Elt Ideal) (e := .f32) y ![0, 0, 320] S1x1x64.size
    (k0_pay674 (k0_pay897 x0 x1 x2 x3 x4 x5 x6 x7 x8 x9 x10) (k0_pay945 x0 x1 x2 x3 x4 x5 x6 x7 x8 x9 x10) (k0_pay993 x0 x1 x2 x3 x4 x5 x6 x7 x8 x9 x10) (k0_pay592 (k0_pay891 x0 x1 x2 x3 x4 x5 x6 x7 x8 x9 x10) (k0_pay538 (k0_pay897 x0 x1 x2 x3 x4 x5 x6 x7 x8 x9 x10) (k0_pay1137 x0 x1 x2 x3 x4 x5 x6 x7 x8 x9 x10))) (View.ld x6 r0_5) (View.ld x7 r0_101) (View.ld x8 r0_101) (View.ld x9 r0_101) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 5 inb_S4x1x768_S1x1x64_0_0_320 inb_S1x768_S1x64_0_320 inb_S4x12x64x64_S1x1x64x64_0_5_0_0 y

/-- The tile of row 0 and head 6. -/
theorem o6 (y : S4x1x768.Idx) : View.TileAt (Val := Elt Ideal) (e := .f32) y ![0, 0, 384] S1x1x64.size
    (k0_pay676 (k0_pay898 x0 x1 x2 x3 x4 x5 x6 x7 x8 x9 x10) (k0_pay946 x0 x1 x2 x3 x4 x5 x6 x7 x8 x9 x10) (k0_pay994 x0 x1 x2 x3 x4 x5 x6 x7 x8 x9 x10) (k0_pay593 (k0_pay891 x0 x1 x2 x3 x4 x5 x6 x7 x8 x9 x10) (k0_pay539 (k0_pay898 x0 x1 x2 x3 x4 x5 x6 x7 x8 x9 x10) (k0_pay1138 x0 x1 x2 x3 x4 x5 x6 x7 x8 x9 x10))) (View.ld x6 r0_6) (View.ld x7 r0_102) (View.ld x8 r0_102) (View.ld x9 r0_102) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 6 inb_S4x1x768_S1x1x64_0_0_384 inb_S1x768_S1x64_0_384 inb_S4x12x64x64_S1x1x64x64_0_6_0_0 y

/-- The tile of row 0 and head 7. -/
theorem o7 (y : S4x1x768.Idx) : View.TileAt (Val := Elt Ideal) (e := .f32) y ![0, 0, 448] S1x1x64.size
    (k0_pay679 (k0_pay678 (k0_pay899 x0 x1 x2 x3 x4 x5 x6 x7 x8 x9 x10) (k0_pay947 x0 x1 x2 x3 x4 x5 x6 x7 x8 x9 x10) (k0_pay995 x0 x1 x2 x3 x4 x5 x6 x7 x8 x9 x10) (k0_pay594 (k0_pay891 x0 x1 x2 x3 x4 x5 x6 x7 x8 x9 x10) (k0_pay540 (k0_pay899 x0 x1 x2 x3 x4 x5 x6 x7 x8 x9 x10) (k0_pay1139 x0 x1 x2 x3 x4 x5 x6 x7 x8 x9 x10))) (View.ld x6 r0_7) (View.ld x7 r0_103) (View.ld x8 r0_103) (View.ld x9 r0_103)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 7 inb_S4x1x768_S1x1x64_0_0_448 inb_S1x768_S1x64_0_448 inb_S4x12x64x64_S1x1x64x64_0_7_0_0 y

/-- The tile of row 0 and head 8. -/
theorem o8 (y : S4x1x768.Idx) : View.TileAt (Val := Elt Ideal) (e := .f32) y ![0, 0, 512] S1x1x64.size
    (k0_pay684 (k0_pay996 x0 x1 x2 x3 x4 x5 x6 x7 x8 x9 x10) (k0_pay681 (View.ld x6 r0_8)) (k0_pay682 (k0_pay596 (k0_pay595 (k0_pay891 x0 x1 x2 x3 x4 x5 x6 x7 x8 x9 x10) (k0_pay541 (k0_pay900 x0 x1 x2 x3 x4 x5 x6 x7 x8 x9 x10) (k0_pay1140 x0 x1 x2 x3 x4 x5 x6 x7 x8 x9 x10)))) (View.ld x8 r0_104) (View.ld x9 r0_104)) (k0_pay683 (k0_pay900 x0 x1 x2 x3 x4 x5 x6 x7 x8 x9 x10) (k0_pay948 x0 x1 x2 x3 x4 x5 x6 x7 x8 x9 x10) (View.ld x7 r0_104)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 8 inb_S4x1x768_S1x1x64_0_0_512 inb_S1x768_S1x64_0_512 inb_S4x12x64x64_S1x1x64x64_0_8_0_0 y

/-- The tile of row 0 and head 9. -/
theorem o9 (y : S4x1x768.Idx) : View.TileAt (Val := Elt Ideal) (e := .f32) y ![0, 0, 576] S1x1x64.size
    (k0_pay691 (k0_pay901 x0 x1 x2 x3 x4 x5 x6 x7 x8 x9 x10) (k0_pay949 x0 x1 x2 x3 x4 x5 x6 x7 x8 x9 x10) (k0_pay997 x0 x1 x2 x3 x4 x5 x6 x7 x8 x9 x10) (k0_pay686 (View.ld x6 r0_9)) (k0_pay687 (View.ld x7 r0_105)) (k0_pay688 (View.ld x8 r0_105)) (k0_pay689 (View.ld x9 r0_105)) (k0_pay690 (k0_pay597 (k0_pay891 x0 x1 x2 x3 x4 x5 x6 x7 x8 x9 x10) (k0_pay542 (k0_pay901 x0 x1 x2 x3 x4 x5 x6 x7 x8 x9 x10) (k0_pay1141 x0 x1 x2 x3 x4 x5 x6 x7 x8 x9 x10)))) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 9 inb_S4x1x768_S1x1x64_0_0_576 inb_S1x768_S1x64_0_576 inb_S4x12x64x64_S1x1x64x64_0_9_0_0 y

/-- The tile of row 0 and head 10. -/
theorem o10 (y : S4x1x768.Idx) : View.TileAt (Val := Elt Ideal) (e := .f32) y ![0, 0, 640] S1x1x64.size
    (k0_pay700 (k0_pay902 x0 x1 x2 x3 x4 x5 x6 x7 x8 x9 x10) (k0_pay950 x0 x1 x2 x3 x4 x5 x6 x7 x8 x9 x10) (k0_pay998 x0 x1 x2 x3 x4 x5 x6 x7 x8 x9 x10) (k0_pay693 (View.ld x6 r0_10)) (k0_pay694 (View.ld x7 r0_106)) (k0_pay695 (View.ld x8 r0_106)) (k0_pay696 (View.ld x9 r0_106)) (k0_pay698 (k0_pay1183 x0 x1 x2 x3 x4 x5 x6 x7 x8 x9 x10)) (k0_pay699 (k0_pay1183 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 10 inb_S4x1x768_S1x1x64_0_0_640 inb_S1x768_S1x64_0_640 inb_S4x12x64x64_S1x1x64x64_0_10_0_0 y

/-- The tile of row 0 and head 11. -/
theorem o11 (y : S4x1x768.Idx) : View.TileAt (Val := Elt Ideal) (e := .f32) y ![0, 0, 704] S1x1x64.size
    (k0_pay708 (k0_pay903 x0 x1 x2 x3 x4 x5 x6 x7 x8 x9 x10) (k0_pay951 x0 x1 x2 x3 x4 x5 x6 x7 x8 x9 x10) (k0_pay999 x0 x1 x2 x3 x4 x5 x6 x7 x8 x9 x10) (k0_pay1184 x0 x1 x2 x3 x4 x5 x6 x7 x8 x9 x10) (k0_pay702 (View.ld x6 r0_11)) (k0_pay703 (View.ld x7 r0_107)) (k0_pay704 (View.ld x8 r0_107)) (k0_pay705 (View.ld x9 r0_107)) (k0_pay706 (k0_pay1184 x0 x1 x2 x3 x4 x5 x6 x7 x8 x9 x10)) (k0_pay707 (k0_pay1184 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 0 11 inb_S4x1x768_S1x1x64_0_0_704 inb_S1x768_S1x64_0_704 inb_S4x12x64x64_S1x1x64x64_0_11_0_0 y

/-- The tile of row 1 and head 0. -/
theorem o12 (y : S4x1x768.Idx) : View.TileAt (Val := Elt Ideal) (e := .f32) y ![1, 0, 0] S1x1x64.size
    (k0_pay716 (k0_pay904 x0 x1 x2 x3 x4 x5 x6 x7 x8 x9 x10) (k0_pay952 x0 x1 x2 x3 x4 x5 x6 x7 x8 x9 x10) (k0_pay1000 x0 x1 x2 x3 x4 x5 x6 x7 x8 x9 x10) (k0_pay1185 x0 x1 x2 x3 x4 x5 x6 x7 x8 x9 x10) (k0_pay710 (View.ld x6 r0_12)) (k0_pay711 (View.ld x7 r0_96)) (k0_pay712 (View.ld x8 r0_96)) (k0_pay713 (View.ld x9 r0_96)) (k0_pay714 (k0_pay1185 x0 x1 x2 x3 x4 x5 x6 x7 x8 x9 x10)) k0_pay715 : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 0 inb_S4x1x768_S1x1x64_1_0_0 inb_S1x768_S1x64_0_0 inb_S4x12x64x64_S1x1x64x64_1_0_0_0 y

/-- The tile of row 1 and head 1. -/
theorem o13 (y : S4x1x768.Idx) : View.TileAt (Val := Elt Ideal) (e := .f32) y ![1, 0, 64] S1x1x64.size
    (k0_pay721 (k0_pay905 x0 x1 x2 x3 x4 x5 x6 x7 x8 x9 x10) (k0_pay953 x0 x1 x2 x3 x4 x5 x6 x7 x8 x9 x10) (k0_pay1001 x0 x1 x2 x3 x4 x5 x6 x7 x8 x9 x10) (k0_pay601 (k0_pay891 x0 x1 x2 x3 x4 x5 x6 x7 x8 x9 x10) (k0_pay547 (k0_pay905 x0 x1 x2 x3 x4 x5 x6 x7 x8 x9 x10) (k0_pay1145 x0 x1 x2 x3 x4 x5 x6 x7 x8 x9 x10))) (k0_pay718 (View.ld x6 r0_13)) (k0_pay719 (View.ld x7 r0_97)) (k0_pay720 (View.ld x8 r0_97)) (View.ld x9 r0_97) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 1 inb_S4x1x768_S1x1x64_1_0_64 inb_S1x768_S1x64_0_64 inb_S4x12x64x64_S1x1x64x64_1_1_0_0 y

/-- The tile of row 1 and head 2. -/
theorem o14 (y : S4x1x768.Idx) : View.TileAt (Val := Elt Ideal) (e := .f32) y ![1, 0, 128] S1x1x64.size
    (k0_pay725 (k0_pay906 x0 x1 x2 x3 x4 x5 x6 x7 x8 x9 x10) (k0_pay954 x0 x1 x2 x3 x4 x5 x6 x7 x8 x9 x10) (k0_pay1002 x0 x1 x2 x3 x4 x5 x6 x7 x8 x9 x10) (k0_pay602 (k0_pay891 x0 x1 x2 x3 x4 x5 x6 x7 x8 x9 x10) (k0_pay548 (k0_pay906 x0 x1 x2 x3 x4 x5 x6 x7 x8 x9 x10) (k0_pay1146 x0 x1 x2 x3 x4 x5 x6 x7 x8 x9 x10))) (k0_pay723 (View.ld x6 r0_14)) (k0_pay724 (View.ld x7 r0_98)) (View.ld x8 r0_98) (View.ld x9 r0_98) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 2 inb_S4x1x768_S1x1x64_1_0_128 inb_S1x768_S1x64_0_128 inb_S4x12x64x64_S1x1x64x64_1_2_0_0 y

/-- The tile of row 1 and head 3. -/
theorem o15 (y : S4x1x768.Idx) : View.TileAt (Val := Elt Ideal) (e := .f32) y ![1, 0, 192] S1x1x64.size
    (k0_pay727 (k0_pay907 x0 x1 x2 x3 x4 x5 x6 x7 x8 x9 x10) (k0_pay955 x0 x1 x2 x3 x4 x5 x6 x7 x8 x9 x10) (k0_pay1003 x0 x1 x2 x3 x4 x5 x6 x7 x8 x9 x10) (k0_pay603 (k0_pay891 x0 x1 x2 x3 x4 x5 x6 x7 x8 x9 x10) (k0_pay549 (k0_pay907 x0 x1 x2 x3 x4 x5 x6 x7 x8 x9 x10) (k0_pay1147 x0 x1 x2 x3 x4 x5 x6 x7 x8 x9 x10))) (View.ld x6 r0_15) (View.ld x7 r0_99) (View.ld x8 r0_99) (View.ld x9 r0_99) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 3 inb_S4x1x768_S1x1x64_1_0_192 inb_S1x768_S1x64_0_192 inb_S4x12x64x64_S1x1x64x64_1_3_0_0 y

/-- The tile of row 1 and head 4. -/
theorem o16 (y : S4x1x768.Idx) : View.TileAt (Val := Elt Ideal) (e := .f32) y ![1, 0, 256] S1x1x64.size
    (k0_pay729 (k0_pay908 x0 x1 x2 x3 x4 x5 x6 x7 x8 x9 x10) (k0_pay956 x0 x1 x2 x3 x4 x5 x6 x7 x8 x9 x10) (k0_pay1004 x0 x1 x2 x3 x4 x5 x6 x7 x8 x9 x10) (k0_pay604 (k0_pay891 x0 x1 x2 x3 x4 x5 x6 x7 x8 x9 x10) (k0_pay550 (k0_pay908 x0 x1 x2 x3 x4 x5 x6 x7 x8 x9 x10) (k0_pay1148 x0 x1 x2 x3 x4 x5 x6 x7 x8 x9 x10))) (View.ld x6 r0_16) (View.ld x7 r0_100) (View.ld x8 r0_100) (View.ld x9 r0_100) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 4 inb_S4x1x768_S1x1x64_1_0_256 inb_S1x768_S1x64_0_256 inb_S4x12x64x64_S1x1x64x64_1_4_0_0 y

/-- The tile of row 1 and head 5. -/
theorem o17 (y : S4x1x768.Idx) : View.TileAt (Val := Elt Ideal) (e := .f32) y ![1, 0, 320] S1x1x64.size
    (k0_pay732 (k0_pay731 (k0_pay909 x0 x1 x2 x3 x4 x5 x6 x7 x8 x9 x10) (k0_pay957 x0 x1 x2 x3 x4 x5 x6 x7 x8 x9 x10) (k0_pay1005 x0 x1 x2 x3 x4 x5 x6 x7 x8 x9 x10) (k0_pay605 (k0_pay891 x0 x1 x2 x3 x4 x5 x6 x7 x8 x9 x10) (k0_pay551 (k0_pay909 x0 x1 x2 x3 x4 x5 x6 x7 x8 x9 x10) (k0_pay1149 x0 x1 x2 x3 x4 x5 x6 x7 x8 x9 x10))) (View.ld x6 r0_17) (View.ld x7 r0_101) (View.ld x8 r0_101) (View.ld x9 r0_101)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 5 inb_S4x1x768_S1x1x64_1_0_320 inb_S1x768_S1x64_0_320 inb_S4x12x64x64_S1x1x64x64_1_5_0_0 y

/-- The tile of row 1 and head 6. -/
theorem o18 (y : S4x1x768.Idx) : View.TileAt (Val := Elt Ideal) (e := .f32) y ![1, 0, 384] S1x1x64.size
    (k0_pay737 (k0_pay1006 x0 x1 x2 x3 x4 x5 x6 x7 x8 x9 x10) (k0_pay734 (View.ld x6 r0_18)) (k0_pay735 (k0_pay606 (k0_pay891 x0 x1 x2 x3 x4 x5 x6 x7 x8 x9 x10) (k0_pay552 (k0_pay910 x0 x1 x2 x3 x4 x5 x6 x7 x8 x9 x10) (k0_pay1150 x0 x1 x2 x3 x4 x5 x6 x7 x8 x9 x10))) (View.ld x8 r0_102) (View.ld x9 r0_102)) (k0_pay736 (k0_pay910 x0 x1 x2 x3 x4 x5 x6 x7 x8 x9 x10) (k0_pay958 x0 x1 x2 x3 x4 x5 x6 x7 x8 x9 x10) (View.ld x7 r0_102)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 6 inb_S4x1x768_S1x1x64_1_0_384 inb_S1x768_S1x64_0_384 inb_S4x12x64x64_S1x1x64x64_1_6_0_0 y

/-- The tile of row 1 and head 7. -/
theorem o19 (y : S4x1x768.Idx) : View.TileAt (Val := Elt Ideal) (e := .f32) y ![1, 0, 448] S1x1x64.size
    (k0_pay744 (k0_pay911 x0 x1 x2 x3 x4 x5 x6 x7 x8 x9 x10) (k0_pay959 x0 x1 x2 x3 x4 x5 x6 x7 x8 x9 x10) (k0_pay1007 x0 x1 x2 x3 x4 x5 x6 x7 x8 x9 x10) (k0_pay739 (View.ld x6 r0_19)) (k0_pay740 (View.ld x7 r0_103)) (k0_pay741 (View.ld x8 r0_103)) (k0_pay742 (View.ld x9 r0_103)) (k0_pay743 (k0_pay607 (k0_pay891 x0 x1 x2 x3 x4 x5 x6 x7 x8 x9 x10) (k0_pay555 (k0_pay553 (k0_pay1151 x0 x1 x2 x3 x4 x5 x6 x7 x8 x9 x10)) (k0_pay554 (k0_pay911 x0 x1 x2 x3 x4 x5 x6 x7 x8 x9 x10))))) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 7 inb_S4x1x768_S1x1x64_1_0_448 inb_S1x768_S1x64_0_448 inb_S4x12x64x64_S1x1x64x64_1_7_0_0 y

/-- The tile of row 1 and head 8. -/
theorem o20 (y : S4x1x768.Idx) : View.TileAt (Val := Elt Ideal) (e := .f32) y ![1, 0, 512] S1x1x64.size
    (k0_pay753 (k0_pay912 x0 x1 x2 x3 x4 x5 x6 x7 x8 x9 x10) (k0_pay960 x0 x1 x2 x3 x4 x5 x6 x7 x8 x9 x10) (k0_pay1008 x0 x1 x2 x3 x4 x5 x6 x7 x8 x9 x10) (k0_pay746 (View.ld x6 r0_20)) (k0_pay747 (View.ld x7 r0_104)) (k0_pay748 (View.ld x8 r0_104)) (k0_pay749 (View.ld x9 r0_104)) (k0_pay751 (k0_pay1186 x0 x1 x2 x3 x4 x5 x6 x7 x8 x9 x10)) (k0_pay752 (k0_pay1186 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 8 inb_S4x1x768_S1x1x64_1_0_512 inb_S1x768_S1x64_0_512 inb_S4x12x64x64_S1x1x64x64_1_8_0_0 y

/-- The tile of row 1 and head 9. -/
theorem o21 (y : S4x1x768.Idx) : View.TileAt (Val := Elt Ideal) (e := .f32) y ![1, 0, 576] S1x1x64.size
    (k0_pay761 (k0_pay913 x0 x1 x2 x3 x4 x5 x6 x7 x8 x9 x10) (k0_pay961 x0 x1 x2 x3 x4 x5 x6 x7 x8 x9 x10) (k0_pay1009 x0 x1 x2 x3 x4 x5 x6 x7 x8 x9 x10) (k0_pay1187 x0 x1 x2 x3 x4 x5 x6 x7 x8 x9 x10) (k0_pay755 (View.ld x6 r0_21)) (k0_pay756 (View.ld x7 r0_105)) (k0_pay757 (View.ld x8 r0_105)) (k0_pay758 (View.ld x9 r0_105)) (k0_pay759 (k0_pay1187 x0 x1 x2 x3 x4 x5 x6 x7 x8 x9 x10)) (k0_pay760 (k0_pay1187 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 9 inb_S4x1x768_S1x1x64_1_0_576 inb_S1x768_S1x64_0_576 inb_S4x12x64x64_S1x1x64x64_1_9_0_0 y

/-- The tile of row 1 and head 10. -/
theorem o22 (y : S4x1x768.Idx) : View.TileAt (Val := Elt Ideal) (e := .f32) y ![1, 0, 640] S1x1x64.size
    (k0_pay769 (k0_pay914 x0 x1 x2 x3 x4 x5 x6 x7 x8 x9 x10) (k0_pay962 x0 x1 x2 x3 x4 x5 x6 x7 x8 x9 x10) (k0_pay1010 x0 x1 x2 x3 x4 x5 x6 x7 x8 x9 x10) (k0_pay1188 x0 x1 x2 x3 x4 x5 x6 x7 x8 x9 x10) (k0_pay763 (View.ld x6 r0_22)) (k0_pay764 (View.ld x7 r0_106)) (k0_pay765 (View.ld x8 r0_106)) (k0_pay766 (View.ld x9 r0_106)) (k0_pay767 (k0_pay1188 x0 x1 x2 x3 x4 x5 x6 x7 x8 x9 x10)) k0_pay768 : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 10 inb_S4x1x768_S1x1x64_1_0_640 inb_S1x768_S1x64_0_640 inb_S4x12x64x64_S1x1x64x64_1_10_0_0 y

/-- The tile of row 1 and head 11. -/
theorem o23 (y : S4x1x768.Idx) : View.TileAt (Val := Elt Ideal) (e := .f32) y ![1, 0, 704] S1x1x64.size
    (k0_pay774 (k0_pay915 x0 x1 x2 x3 x4 x5 x6 x7 x8 x9 x10) (k0_pay963 x0 x1 x2 x3 x4 x5 x6 x7 x8 x9 x10) (k0_pay1011 x0 x1 x2 x3 x4 x5 x6 x7 x8 x9 x10) (k0_pay612 (k0_pay891 x0 x1 x2 x3 x4 x5 x6 x7 x8 x9 x10) (k0_pay559 (k0_pay915 x0 x1 x2 x3 x4 x5 x6 x7 x8 x9 x10) (k0_pay1155 x0 x1 x2 x3 x4 x5 x6 x7 x8 x9 x10))) (k0_pay771 (View.ld x6 r0_23)) (k0_pay772 (View.ld x7 r0_107)) (k0_pay773 (View.ld x8 r0_107)) (View.ld x9 r0_107) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 1 11 inb_S4x1x768_S1x1x64_1_0_704 inb_S1x768_S1x64_0_704 inb_S4x12x64x64_S1x1x64x64_1_11_0_0 y

/-- The tile of row 2 and head 0. -/
theorem o24 (y : S4x1x768.Idx) : View.TileAt (Val := Elt Ideal) (e := .f32) y ![2, 0, 0] S1x1x64.size
    (k0_pay778 (k0_pay916 x0 x1 x2 x3 x4 x5 x6 x7 x8 x9 x10) (k0_pay964 x0 x1 x2 x3 x4 x5 x6 x7 x8 x9 x10) (k0_pay1012 x0 x1 x2 x3 x4 x5 x6 x7 x8 x9 x10) (k0_pay613 (k0_pay891 x0 x1 x2 x3 x4 x5 x6 x7 x8 x9 x10) (k0_pay560 (k0_pay916 x0 x1 x2 x3 x4 x5 x6 x7 x8 x9 x10) (k0_pay1156 x0 x1 x2 x3 x4 x5 x6 x7 x8 x9 x10))) (k0_pay776 (View.ld x6 r0_24)) (k0_pay777 (View.ld x7 r0_96)) (View.ld x8 r0_96) (View.ld x9 r0_96) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 0 inb_S4x1x768_S1x1x64_2_0_0 inb_S1x768_S1x64_0_0 inb_S4x12x64x64_S1x1x64x64_2_0_0_0 y

/-- The tile of row 2 and head 1. -/
theorem o25 (y : S4x1x768.Idx) : View.TileAt (Val := Elt Ideal) (e := .f32) y ![2, 0, 64] S1x1x64.size
    (k0_pay780 (k0_pay917 x0 x1 x2 x3 x4 x5 x6 x7 x8 x9 x10) (k0_pay965 x0 x1 x2 x3 x4 x5 x6 x7 x8 x9 x10) (k0_pay1013 x0 x1 x2 x3 x4 x5 x6 x7 x8 x9 x10) (k0_pay614 (k0_pay891 x0 x1 x2 x3 x4 x5 x6 x7 x8 x9 x10) (k0_pay561 (k0_pay917 x0 x1 x2 x3 x4 x5 x6 x7 x8 x9 x10) (k0_pay1157 x0 x1 x2 x3 x4 x5 x6 x7 x8 x9 x10))) (View.ld x6 r0_25) (View.ld x7 r0_97) (View.ld x8 r0_97) (View.ld x9 r0_97) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 1 inb_S4x1x768_S1x1x64_2_0_64 inb_S1x768_S1x64_0_64 inb_S4x12x64x64_S1x1x64x64_2_1_0_0 y

/-- The tile of row 2 and head 2. -/
theorem o26 (y : S4x1x768.Idx) : View.TileAt (Val := Elt Ideal) (e := .f32) y ![2, 0, 128] S1x1x64.size
    (k0_pay782 (k0_pay918 x0 x1 x2 x3 x4 x5 x6 x7 x8 x9 x10) (k0_pay966 x0 x1 x2 x3 x4 x5 x6 x7 x8 x9 x10) (k0_pay1014 x0 x1 x2 x3 x4 x5 x6 x7 x8 x9 x10) (k0_pay615 (k0_pay891 x0 x1 x2 x3 x4 x5 x6 x7 x8 x9 x10) (k0_pay562 (k0_pay918 x0 x1 x2 x3 x4 x5 x6 x7 x8 x9 x10) (k0_pay1158 x0 x1 x2 x3 x4 x5 x6 x7 x8 x9 x10))) (View.ld x6 r0_26) (View.ld x7 r0_98) (View.ld x8 r0_98) (View.ld x9 r0_98) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 2 inb_S4x1x768_S1x1x64_2_0_128 inb_S1x768_S1x64_0_128 inb_S4x12x64x64_S1x1x64x64_2_2_0_0 y

/-- The tile of row 2 and head 3. -/
theorem o27 (y : S4x1x768.Idx) : View.TileAt (Val := Elt Ideal) (e := .f32) y ![2, 0, 192] S1x1x64.size
    (k0_pay785 (k0_pay784 (k0_pay919 x0 x1 x2 x3 x4 x5 x6 x7 x8 x9 x10) (k0_pay967 x0 x1 x2 x3 x4 x5 x6 x7 x8 x9 x10) (k0_pay1015 x0 x1 x2 x3 x4 x5 x6 x7 x8 x9 x10) (k0_pay616 (k0_pay891 x0 x1 x2 x3 x4 x5 x6 x7 x8 x9 x10) (k0_pay563 (k0_pay919 x0 x1 x2 x3 x4 x5 x6 x7 x8 x9 x10) (k0_pay1159 x0 x1 x2 x3 x4 x5 x6 x7 x8 x9 x10))) (View.ld x6 r0_27) (View.ld x7 r0_99) (View.ld x8 r0_99) (View.ld x9 r0_99)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 3 inb_S4x1x768_S1x1x64_2_0_192 inb_S1x768_S1x64_0_192 inb_S4x12x64x64_S1x1x64x64_2_3_0_0 y

/-- The tile of row 2 and head 4. -/
theorem o28 (y : S4x1x768.Idx) : View.TileAt (Val := Elt Ideal) (e := .f32) y ![2, 0, 256] S1x1x64.size
    (k0_pay790 (k0_pay1016 x0 x1 x2 x3 x4 x5 x6 x7 x8 x9 x10) (k0_pay787 (View.ld x6 r0_28)) (k0_pay788 (k0_pay617 (k0_pay891 x0 x1 x2 x3 x4 x5 x6 x7 x8 x9 x10) (k0_pay564 (k0_pay920 x0 x1 x2 x3 x4 x5 x6 x7 x8 x9 x10) (k0_pay1160 x0 x1 x2 x3 x4 x5 x6 x7 x8 x9 x10))) (View.ld x8 r0_100) (View.ld x9 r0_100)) (k0_pay789 (k0_pay920 x0 x1 x2 x3 x4 x5 x6 x7 x8 x9 x10) (k0_pay968 x0 x1 x2 x3 x4 x5 x6 x7 x8 x9 x10) (View.ld x7 r0_100)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 4 inb_S4x1x768_S1x1x64_2_0_256 inb_S1x768_S1x64_0_256 inb_S4x12x64x64_S1x1x64x64_2_4_0_0 y

/-- The tile of row 2 and head 5. -/
theorem o29 (y : S4x1x768.Idx) : View.TileAt (Val := Elt Ideal) (e := .f32) y ![2, 0, 320] S1x1x64.size
    (k0_pay797 (k0_pay921 x0 x1 x2 x3 x4 x5 x6 x7 x8 x9 x10) (k0_pay969 x0 x1 x2 x3 x4 x5 x6 x7 x8 x9 x10) (k0_pay1017 x0 x1 x2 x3 x4 x5 x6 x7 x8 x9 x10) (k0_pay792 (View.ld x6 r0_29)) (k0_pay793 (View.ld x7 r0_101)) (k0_pay794 (View.ld x8 r0_101)) (k0_pay795 (View.ld x9 r0_101)) (k0_pay796 (k0_pay618 (k0_pay891 x0 x1 x2 x3 x4 x5 x6 x7 x8 x9 x10) (k0_pay565 (k0_pay921 x0 x1 x2 x3 x4 x5 x6 x7 x8 x9 x10) (k0_pay1161 x0 x1 x2 x3 x4 x5 x6 x7 x8 x9 x10)))) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 5 inb_S4x1x768_S1x1x64_2_0_320 inb_S1x768_S1x64_0_320 inb_S4x12x64x64_S1x1x64x64_2_5_0_0 y

/-- The tile of row 2 and head 6. -/
theorem o30 (y : S4x1x768.Idx) : View.TileAt (Val := Elt Ideal) (e := .f32) y ![2, 0, 384] S1x1x64.size
    (k0_pay806 (k0_pay922 x0 x1 x2 x3 x4 x5 x6 x7 x8 x9 x10) (k0_pay970 x0 x1 x2 x3 x4 x5 x6 x7 x8 x9 x10) (k0_pay1018 x0 x1 x2 x3 x4 x5 x6 x7 x8 x9 x10) (k0_pay799 (View.ld x6 r0_30)) (k0_pay800 (View.ld x7 r0_102)) (k0_pay801 (View.ld x8 r0_102)) (k0_pay802 (View.ld x9 r0_102)) (k0_pay804 (k0_pay1189 x0 x1 x2 x3 x4 x5 x6 x7 x8 x9 x10)) (k0_pay805 (k0_pay1189 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 6 inb_S4x1x768_S1x1x64_2_0_384 inb_S1x768_S1x64_0_384 inb_S4x12x64x64_S1x1x64x64_2_6_0_0 y

/-- The tile of row 2 and head 7. -/
theorem o31 (y : S4x1x768.Idx) : View.TileAt (Val := Elt Ideal) (e := .f32) y ![2, 0, 448] S1x1x64.size
    (k0_pay814 (k0_pay923 x0 x1 x2 x3 x4 x5 x6 x7 x8 x9 x10) (k0_pay971 x0 x1 x2 x3 x4 x5 x6 x7 x8 x9 x10) (k0_pay1019 x0 x1 x2 x3 x4 x5 x6 x7 x8 x9 x10) (k0_pay1190 x0 x1 x2 x3 x4 x5 x6 x7 x8 x9 x10) (k0_pay808 (View.ld x6 r0_31)) (k0_pay809 (View.ld x7 r0_103)) (k0_pay810 (View.ld x8 r0_103)) (k0_pay811 (View.ld x9 r0_103)) (k0_pay812 (k0_pay1190 x0 x1 x2 x3 x4 x5 x6 x7 x8 x9 x10)) (k0_pay813 (k0_pay1190 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 7 inb_S4x1x768_S1x1x64_2_0_448 inb_S1x768_S1x64_0_448 inb_S4x12x64x64_S1x1x64x64_2_7_0_0 y

/-- The tile of row 2 and head 8. -/
theorem o32 (y : S4x1x768.Idx) : View.TileAt (Val := Elt Ideal) (e := .f32) y ![2, 0, 512] S1x1x64.size
    (k0_pay822 (k0_pay924 x0 x1 x2 x3 x4 x5 x6 x7 x8 x9 x10) (k0_pay972 x0 x1 x2 x3 x4 x5 x6 x7 x8 x9 x10) (k0_pay1020 x0 x1 x2 x3 x4 x5 x6 x7 x8 x9 x10) (k0_pay1191 x0 x1 x2 x3 x4 x5 x6 x7 x8 x9 x10) (k0_pay816 (View.ld x6 r0_32)) (k0_pay817 (View.ld x7 r0_104)) (k0_pay818 (View.ld x8 r0_104)) (k0_pay819 (View.ld x9 r0_104)) (k0_pay820 (k0_pay1191 x0 x1 x2 x3 x4 x5 x6 x7 x8 x9 x10)) k0_pay821 : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 8 inb_S4x1x768_S1x1x64_2_0_512 inb_S1x768_S1x64_0_512 inb_S4x12x64x64_S1x1x64x64_2_8_0_0 y

/-- The tile of row 2 and head 9. -/
theorem o33 (y : S4x1x768.Idx) : View.TileAt (Val := Elt Ideal) (e := .f32) y ![2, 0, 576] S1x1x64.size
    (k0_pay827 (k0_pay925 x0 x1 x2 x3 x4 x5 x6 x7 x8 x9 x10) (k0_pay973 x0 x1 x2 x3 x4 x5 x6 x7 x8 x9 x10) (k0_pay1021 x0 x1 x2 x3 x4 x5 x6 x7 x8 x9 x10) (k0_pay623 (k0_pay891 x0 x1 x2 x3 x4 x5 x6 x7 x8 x9 x10) (k0_pay570 (k0_pay925 x0 x1 x2 x3 x4 x5 x6 x7 x8 x9 x10) (k0_pay1165 x0 x1 x2 x3 x4 x5 x6 x7 x8 x9 x10))) (k0_pay824 (View.ld x6 r0_33)) (k0_pay825 (View.ld x7 r0_105)) (k0_pay826 (View.ld x8 r0_105)) (View.ld x9 r0_105) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 9 inb_S4x1x768_S1x1x64_2_0_576 inb_S1x768_S1x64_0_576 inb_S4x12x64x64_S1x1x64x64_2_9_0_0 y

/-- The tile of row 2 and head 10. -/
theorem o34 (y : S4x1x768.Idx) : View.TileAt (Val := Elt Ideal) (e := .f32) y ![2, 0, 640] S1x1x64.size
    (k0_pay831 (k0_pay926 x0 x1 x2 x3 x4 x5 x6 x7 x8 x9 x10) (k0_pay974 x0 x1 x2 x3 x4 x5 x6 x7 x8 x9 x10) (k0_pay1022 x0 x1 x2 x3 x4 x5 x6 x7 x8 x9 x10) (k0_pay624 (k0_pay891 x0 x1 x2 x3 x4 x5 x6 x7 x8 x9 x10) (k0_pay571 (k0_pay926 x0 x1 x2 x3 x4 x5 x6 x7 x8 x9 x10) (k0_pay1166 x0 x1 x2 x3 x4 x5 x6 x7 x8 x9 x10))) (k0_pay829 (View.ld x6 r0_34)) (k0_pay830 (View.ld x7 r0_106)) (View.ld x8 r0_106) (View.ld x9 r0_106) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 10 inb_S4x1x768_S1x1x64_2_0_640 inb_S1x768_S1x64_0_640 inb_S4x12x64x64_S1x1x64x64_2_10_0_0 y

/-- The tile of row 2 and head 11. -/
theorem o35 (y : S4x1x768.Idx) : View.TileAt (Val := Elt Ideal) (e := .f32) y ![2, 0, 704] S1x1x64.size
    (k0_pay833 (k0_pay927 x0 x1 x2 x3 x4 x5 x6 x7 x8 x9 x10) (k0_pay975 x0 x1 x2 x3 x4 x5 x6 x7 x8 x9 x10) (k0_pay1023 x0 x1 x2 x3 x4 x5 x6 x7 x8 x9 x10) (k0_pay625 (k0_pay891 x0 x1 x2 x3 x4 x5 x6 x7 x8 x9 x10) (k0_pay572 (k0_pay927 x0 x1 x2 x3 x4 x5 x6 x7 x8 x9 x10) (k0_pay1167 x0 x1 x2 x3 x4 x5 x6 x7 x8 x9 x10))) (View.ld x6 r0_35) (View.ld x7 r0_107) (View.ld x8 r0_107) (View.ld x9 r0_107) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 2 11 inb_S4x1x768_S1x1x64_2_0_704 inb_S1x768_S1x64_0_704 inb_S4x12x64x64_S1x1x64x64_2_11_0_0 y

/-- The tile of row 3 and head 0. -/
theorem o36 (y : S4x1x768.Idx) : View.TileAt (Val := Elt Ideal) (e := .f32) y ![3, 0, 0] S1x1x64.size
    (k0_pay835 (k0_pay928 x0 x1 x2 x3 x4 x5 x6 x7 x8 x9 x10) (k0_pay976 x0 x1 x2 x3 x4 x5 x6 x7 x8 x9 x10) (k0_pay1024 x0 x1 x2 x3 x4 x5 x6 x7 x8 x9 x10) (k0_pay626 (k0_pay891 x0 x1 x2 x3 x4 x5 x6 x7 x8 x9 x10) (k0_pay573 (k0_pay928 x0 x1 x2 x3 x4 x5 x6 x7 x8 x9 x10) (k0_pay1168 x0 x1 x2 x3 x4 x5 x6 x7 x8 x9 x10))) (View.ld x6 r0_36) (View.ld x7 r0_96) (View.ld x8 r0_96) (View.ld x9 r0_96) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 0 inb_S4x1x768_S1x1x64_3_0_0 inb_S1x768_S1x64_0_0 inb_S4x12x64x64_S1x1x64x64_3_0_0_0 y

/-- The tile of row 3 and head 1. -/
theorem o37 (y : S4x1x768.Idx) : View.TileAt (Val := Elt Ideal) (e := .f32) y ![3, 0, 64] S1x1x64.size
    (k0_pay838 (k0_pay837 (k0_pay929 x0 x1 x2 x3 x4 x5 x6 x7 x8 x9 x10) (k0_pay977 x0 x1 x2 x3 x4 x5 x6 x7 x8 x9 x10) (k0_pay1025 x0 x1 x2 x3 x4 x5 x6 x7 x8 x9 x10) (k0_pay627 (k0_pay891 x0 x1 x2 x3 x4 x5 x6 x7 x8 x9 x10) (k0_pay574 (k0_pay929 x0 x1 x2 x3 x4 x5 x6 x7 x8 x9 x10) (k0_pay1169 x0 x1 x2 x3 x4 x5 x6 x7 x8 x9 x10))) (View.ld x6 r0_37) (View.ld x7 r0_97) (View.ld x8 r0_97) (View.ld x9 r0_97)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 1 inb_S4x1x768_S1x1x64_3_0_64 inb_S1x768_S1x64_0_64 inb_S4x12x64x64_S1x1x64x64_3_1_0_0 y

/-- The tile of row 3 and head 2. -/
theorem o38 (y : S4x1x768.Idx) : View.TileAt (Val := Elt Ideal) (e := .f32) y ![3, 0, 128] S1x1x64.size
    (k0_pay843 (k0_pay1026 x0 x1 x2 x3 x4 x5 x6 x7 x8 x9 x10) (k0_pay840 (View.ld x6 r0_38)) (k0_pay841 (k0_pay628 (k0_pay891 x0 x1 x2 x3 x4 x5 x6 x7 x8 x9 x10) (k0_pay575 (k0_pay930 x0 x1 x2 x3 x4 x5 x6 x7 x8 x9 x10) (k0_pay1170 x0 x1 x2 x3 x4 x5 x6 x7 x8 x9 x10))) (View.ld x8 r0_98) (View.ld x9 r0_98)) (k0_pay842 (k0_pay930 x0 x1 x2 x3 x4 x5 x6 x7 x8 x9 x10) (k0_pay978 x0 x1 x2 x3 x4 x5 x6 x7 x8 x9 x10) (View.ld x7 r0_98)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 2 inb_S4x1x768_S1x1x64_3_0_128 inb_S1x768_S1x64_0_128 inb_S4x12x64x64_S1x1x64x64_3_2_0_0 y

/-- The tile of row 3 and head 3. -/
theorem o39 (y : S4x1x768.Idx) : View.TileAt (Val := Elt Ideal) (e := .f32) y ![3, 0, 192] S1x1x64.size
    (k0_pay850 (k0_pay931 x0 x1 x2 x3 x4 x5 x6 x7 x8 x9 x10) (k0_pay979 x0 x1 x2 x3 x4 x5 x6 x7 x8 x9 x10) (k0_pay1027 x0 x1 x2 x3 x4 x5 x6 x7 x8 x9 x10) (k0_pay845 (View.ld x6 r0_39)) (k0_pay846 (View.ld x7 r0_99)) (k0_pay847 (View.ld x8 r0_99)) (k0_pay848 (View.ld x9 r0_99)) (k0_pay849 (k0_pay629 (k0_pay891 x0 x1 x2 x3 x4 x5 x6 x7 x8 x9 x10) (k0_pay578 (k0_pay576 (k0_pay1171 x0 x1 x2 x3 x4 x5 x6 x7 x8 x9 x10)) (k0_pay577 (k0_pay931 x0 x1 x2 x3 x4 x5 x6 x7 x8 x9 x10))))) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 3 inb_S4x1x768_S1x1x64_3_0_192 inb_S1x768_S1x64_0_192 inb_S4x12x64x64_S1x1x64x64_3_3_0_0 y

/-- The tile of row 3 and head 4. -/
theorem o40 (y : S4x1x768.Idx) : View.TileAt (Val := Elt Ideal) (e := .f32) y ![3, 0, 256] S1x1x64.size
    (k0_pay859 (k0_pay932 x0 x1 x2 x3 x4 x5 x6 x7 x8 x9 x10) (k0_pay980 x0 x1 x2 x3 x4 x5 x6 x7 x8 x9 x10) (k0_pay1028 x0 x1 x2 x3 x4 x5 x6 x7 x8 x9 x10) (k0_pay852 (View.ld x6 r0_40)) (k0_pay853 (View.ld x7 r0_100)) (k0_pay854 (View.ld x8 r0_100)) (k0_pay855 (View.ld x9 r0_100)) (k0_pay857 (k0_pay1192 x0 x1 x2 x3 x4 x5 x6 x7 x8 x9 x10)) (k0_pay858 (k0_pay1192 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 4 inb_S4x1x768_S1x1x64_3_0_256 inb_S1x768_S1x64_0_256 inb_S4x12x64x64_S1x1x64x64_3_4_0_0 y

/-- The tile of row 3 and head 5. -/
theorem o41 (y : S4x1x768.Idx) : View.TileAt (Val := Elt Ideal) (e := .f32) y ![3, 0, 320] S1x1x64.size
    (k0_pay867 (k0_pay933 x0 x1 x2 x3 x4 x5 x6 x7 x8 x9 x10) (k0_pay981 x0 x1 x2 x3 x4 x5 x6 x7 x8 x9 x10) (k0_pay1029 x0 x1 x2 x3 x4 x5 x6 x7 x8 x9 x10) (k0_pay1193 x0 x1 x2 x3 x4 x5 x6 x7 x8 x9 x10) (k0_pay861 (View.ld x6 r0_41)) (k0_pay862 (View.ld x7 r0_101)) (k0_pay863 (View.ld x8 r0_101)) (k0_pay864 (View.ld x9 r0_101)) (k0_pay865 (k0_pay1193 x0 x1 x2 x3 x4 x5 x6 x7 x8 x9 x10)) (k0_pay866 (k0_pay1193 x0 x1 x2 x3 x4 x5 x6 x7 x8 x9 x10)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 5 inb_S4x1x768_S1x1x64_3_0_320 inb_S1x768_S1x64_0_320 inb_S4x12x64x64_S1x1x64x64_3_5_0_0 y

/-- The tile of row 3 and head 6. -/
theorem o42 (y : S4x1x768.Idx) : View.TileAt (Val := Elt Ideal) (e := .f32) y ![3, 0, 384] S1x1x64.size
    (k0_pay875 (k0_pay934 x0 x1 x2 x3 x4 x5 x6 x7 x8 x9 x10) (k0_pay982 x0 x1 x2 x3 x4 x5 x6 x7 x8 x9 x10) (k0_pay1030 x0 x1 x2 x3 x4 x5 x6 x7 x8 x9 x10) (k0_pay1194 x0 x1 x2 x3 x4 x5 x6 x7 x8 x9 x10) (k0_pay869 (View.ld x6 r0_42)) (k0_pay870 (View.ld x7 r0_102)) (k0_pay871 (View.ld x8 r0_102)) (k0_pay872 (View.ld x9 r0_102)) (k0_pay873 (k0_pay1194 x0 x1 x2 x3 x4 x5 x6 x7 x8 x9 x10)) k0_pay874 : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 6 inb_S4x1x768_S1x1x64_3_0_384 inb_S1x768_S1x64_0_384 inb_S4x12x64x64_S1x1x64x64_3_6_0_0 y

/-- The tile of row 3 and head 7. -/
theorem o43 (y : S4x1x768.Idx) : View.TileAt (Val := Elt Ideal) (e := .f32) y ![3, 0, 448] S1x1x64.size
    (k0_pay880 (k0_pay935 x0 x1 x2 x3 x4 x5 x6 x7 x8 x9 x10) (k0_pay983 x0 x1 x2 x3 x4 x5 x6 x7 x8 x9 x10) (k0_pay1031 x0 x1 x2 x3 x4 x5 x6 x7 x8 x9 x10) (k0_pay633 (k0_pay891 x0 x1 x2 x3 x4 x5 x6 x7 x8 x9 x10) (k0_pay582 (k0_pay935 x0 x1 x2 x3 x4 x5 x6 x7 x8 x9 x10) (k0_pay1175 x0 x1 x2 x3 x4 x5 x6 x7 x8 x9 x10))) (k0_pay877 (View.ld x6 r0_43)) (k0_pay878 (View.ld x7 r0_103)) (k0_pay879 (View.ld x8 r0_103)) (View.ld x9 r0_103) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 7 inb_S4x1x768_S1x1x64_3_0_448 inb_S1x768_S1x64_0_448 inb_S4x12x64x64_S1x1x64x64_3_7_0_0 y

/-- The tile of row 3 and head 8. -/
theorem o44 (y : S4x1x768.Idx) : View.TileAt (Val := Elt Ideal) (e := .f32) y ![3, 0, 512] S1x1x64.size
    (k0_pay884 (k0_pay936 x0 x1 x2 x3 x4 x5 x6 x7 x8 x9 x10) (k0_pay984 x0 x1 x2 x3 x4 x5 x6 x7 x8 x9 x10) (k0_pay1032 x0 x1 x2 x3 x4 x5 x6 x7 x8 x9 x10) (k0_pay635 (k0_pay634 (k0_pay891 x0 x1 x2 x3 x4 x5 x6 x7 x8 x9 x10) (k0_pay583 (k0_pay936 x0 x1 x2 x3 x4 x5 x6 x7 x8 x9 x10) (k0_pay1176 x0 x1 x2 x3 x4 x5 x6 x7 x8 x9 x10)))) (k0_pay882 (View.ld x6 r0_44)) (k0_pay883 (View.ld x7 r0_104)) (View.ld x8 r0_104) (View.ld x9 r0_104) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 8 inb_S4x1x768_S1x1x64_3_0_512 inb_S1x768_S1x64_0_512 inb_S4x12x64x64_S1x1x64x64_3_8_0_0 y

/-- The tile of row 3 and head 9. -/
theorem o45 (y : S4x1x768.Idx) : View.TileAt (Val := Elt Ideal) (e := .f32) y ![3, 0, 576] S1x1x64.size
    (k0_pay886 (k0_pay937 x0 x1 x2 x3 x4 x5 x6 x7 x8 x9 x10) (k0_pay985 x0 x1 x2 x3 x4 x5 x6 x7 x8 x9 x10) (k0_pay1033 x0 x1 x2 x3 x4 x5 x6 x7 x8 x9 x10) (k0_pay636 (k0_pay891 x0 x1 x2 x3 x4 x5 x6 x7 x8 x9 x10) (k0_pay584 (k0_pay937 x0 x1 x2 x3 x4 x5 x6 x7 x8 x9 x10) (k0_pay1177 x0 x1 x2 x3 x4 x5 x6 x7 x8 x9 x10))) (View.ld x6 r0_45) (View.ld x7 r0_105) (View.ld x8 r0_105) (View.ld x9 r0_105) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 9 inb_S4x1x768_S1x1x64_3_0_576 inb_S1x768_S1x64_0_576 inb_S4x12x64x64_S1x1x64x64_3_9_0_0 y

/-- The tile of row 3 and head 10. -/
theorem o46 (y : S4x1x768.Idx) : View.TileAt (Val := Elt Ideal) (e := .f32) y ![3, 0, 640] S1x1x64.size
    (k0_pay888 (k0_pay938 x0 x1 x2 x3 x4 x5 x6 x7 x8 x9 x10) (k0_pay986 x0 x1 x2 x3 x4 x5 x6 x7 x8 x9 x10) (k0_pay1034 x0 x1 x2 x3 x4 x5 x6 x7 x8 x9 x10) (k0_pay637 (k0_pay891 x0 x1 x2 x3 x4 x5 x6 x7 x8 x9 x10) (k0_pay585 (k0_pay938 x0 x1 x2 x3 x4 x5 x6 x7 x8 x9 x10) (k0_pay1178 x0 x1 x2 x3 x4 x5 x6 x7 x8 x9 x10))) (View.ld x6 r0_46) (View.ld x7 r0_106) (View.ld x8 r0_106) (View.ld x9 r0_106) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 10 inb_S4x1x768_S1x1x64_3_0_640 inb_S1x768_S1x64_0_640 inb_S4x12x64x64_S1x1x64x64_3_10_0_0 y

/-- The tile of row 3 and head 11. -/
theorem o47 (y : S4x1x768.Idx) : View.TileAt (Val := Elt Ideal) (e := .f32) y ![3, 0, 704] S1x1x64.size
    (k0_pay1 (k0_pay890 (k0_pay939 x0 x1 x2 x3 x4 x5 x6 x7 x8 x9 x10) (k0_pay987 x0 x1 x2 x3 x4 x5 x6 x7 x8 x9 x10) (k0_pay1035 x0 x1 x2 x3 x4 x5 x6 x7 x8 x9 x10) (k0_pay638 (k0_pay891 x0 x1 x2 x3 x4 x5 x6 x7 x8 x9 x10) (k0_pay586 (k0_pay939 x0 x1 x2 x3 x4 x5 x6 x7 x8 x9 x10) (k0_pay1179 x0 x1 x2 x3 x4 x5 x6 x7 x8 x9 x10))) (View.ld x6 r0_47) (View.ld x7 r0_107) (View.ld x8 r0_107) (View.ld x9 r0_107)) : Vec Ideal S1x1x64 .f32)
    (outS x0 x1 x2 x3 x4 x5 x6 x7 x8 x9 x10 (y 0) (headAt (y 2)) (placeAt (y 2))) :=
  out_tile x0 x1 x2 x3 x4 x5 x6 x7 x8 x9 x10 3 11 inb_S4x1x768_S1x1x64_3_0_704 inb_S1x768_S1x64_0_704 inb_S4x12x64x64_S1x1x64x64_3_11_0_0 y

/-- The block of outputs. -/
theorem out11_apply (y : S4x1x768.Idx) : out0_11 x0 x1 x2 x3 x4 x5 x6 x7 x8 x9 x10 y = outS x0 x1 x2 x3 x4 x5 x6 x7 x8 x9 x10 (y 0) (headAt (y 2)) (placeAt (y 2)) := by
  unfold out0_11
  refine View.canon_eq_of_allAt _ y _ (View.cover_of_tiled_head _ _ _ rfl y) ?_
  refine View.allAt_cons_unit _ _ _ _ _ (o47 x0 x1 x2 x3 x4 x5 x6 x7 x8 x9 x10 y) ?_
  refine View.allAt_cons_unit _ _ _ _ _ (o46 x0 x1 x2 x3 x4 x5 x6 x7 x8 x9 x10 y) ?_
  refine View.allAt_cons_unit _ _ _ _ _ (o45 x0 x1 x2 x3 x4 x5 x6 x7 x8 x9 x10 y) ?_
  refine View.allAt_cons_unit _ _ _ _ _ (o44 x0 x1 x2 x3 x4 x5 x6 x7 x8 x9 x10 y) ?_
  refine View.allAt_cons_unit _ _ _ _ _ (o43 x0 x1 x2 x3 x4 x5 x6 x7 x8 x9 x10 y) ?_
  refine View.allAt_cons_unit _ _ _ _ _ (o42 x0 x1 x2 x3 x4 x5 x6 x7 x8 x9 x10 y) ?_
  refine View.allAt_cons_unit _ _ _ _ _ (o41 x0 x1 x2 x3 x4 x5 x6 x7 x8 x9 x10 y) ?_
  refine View.allAt_cons_unit _ _ _ _ _ (o40 x0 x1 x2 x3 x4 x5 x6 x7 x8 x9 x10 y) ?_
  refine View.allAt_cons_unit _ _ _ _ _ (o39 x0 x1 x2 x3 x4 x5 x6 x7 x8 x9 x10 y) ?_
  refine View.allAt_cons_unit _ _ _ _ _ (o38 x0 x1 x2 x3 x4 x5 x6 x7 x8 x9 x10 y) ?_
  refine View.allAt_cons_unit _ _ _ _ _ (o37 x0 x1 x2 x3 x4 x5 x6 x7 x8 x9 x10 y) ?_
  refine View.allAt_cons_unit _ _ _ _ _ (o36 x0 x1 x2 x3 x4 x5 x6 x7 x8 x9 x10 y) ?_
  refine View.allAt_cons_unit _ _ _ _ _ (o35 x0 x1 x2 x3 x4 x5 x6 x7 x8 x9 x10 y) ?_
  refine View.allAt_cons_unit _ _ _ _ _ (o34 x0 x1 x2 x3 x4 x5 x6 x7 x8 x9 x10 y) ?_
  refine View.allAt_cons_unit _ _ _ _ _ (o33 x0 x1 x2 x3 x4 x5 x6 x7 x8 x9 x10 y) ?_
  refine View.allAt_cons_unit _ _ _ _ _ (o32 x0 x1 x2 x3 x4 x5 x6 x7 x8 x9 x10 y) ?_
  refine View.allAt_cons_unit _ _ _ _ _ (o31 x0 x1 x2 x3 x4 x5 x6 x7 x8 x9 x10 y) ?_
  refine View.allAt_cons_unit _ _ _ _ _ (o30 x0 x1 x2 x3 x4 x5 x6 x7 x8 x9 x10 y) ?_
  refine View.allAt_cons_unit _ _ _ _ _ (o29 x0 x1 x2 x3 x4 x5 x6 x7 x8 x9 x10 y) ?_
  refine View.allAt_cons_unit _ _ _ _ _ (o28 x0 x1 x2 x3 x4 x5 x6 x7 x8 x9 x10 y) ?_
  refine View.allAt_cons_unit _ _ _ _ _ (o27 x0 x1 x2 x3 x4 x5 x6 x7 x8 x9 x10 y) ?_
  refine View.allAt_cons_unit _ _ _ _ _ (o26 x0 x1 x2 x3 x4 x5 x6 x7 x8 x9 x10 y) ?_
  refine View.allAt_cons_unit _ _ _ _ _ (o25 x0 x1 x2 x3 x4 x5 x6 x7 x8 x9 x10 y) ?_
  refine View.allAt_cons_unit _ _ _ _ _ (o24 x0 x1 x2 x3 x4 x5 x6 x7 x8 x9 x10 y) ?_
  refine View.allAt_cons_unit _ _ _ _ _ (o23 x0 x1 x2 x3 x4 x5 x6 x7 x8 x9 x10 y) ?_
  refine View.allAt_cons_unit _ _ _ _ _ (o22 x0 x1 x2 x3 x4 x5 x6 x7 x8 x9 x10 y) ?_
  refine View.allAt_cons_unit _ _ _ _ _ (o21 x0 x1 x2 x3 x4 x5 x6 x7 x8 x9 x10 y) ?_
  refine View.allAt_cons_unit _ _ _ _ _ (o20 x0 x1 x2 x3 x4 x5 x6 x7 x8 x9 x10 y) ?_
  refine View.allAt_cons_unit _ _ _ _ _ (o19 x0 x1 x2 x3 x4 x5 x6 x7 x8 x9 x10 y) ?_
  refine View.allAt_cons_unit _ _ _ _ _ (o18 x0 x1 x2 x3 x4 x5 x6 x7 x8 x9 x10 y) ?_
  refine View.allAt_cons_unit _ _ _ _ _ (o17 x0 x1 x2 x3 x4 x5 x6 x7 x8 x9 x10 y) ?_
  refine View.allAt_cons_unit _ _ _ _ _ (o16 x0 x1 x2 x3 x4 x5 x6 x7 x8 x9 x10 y) ?_
  refine View.allAt_cons_unit _ _ _ _ _ (o15 x0 x1 x2 x3 x4 x5 x6 x7 x8 x9 x10 y) ?_
  refine View.allAt_cons_unit _ _ _ _ _ (o14 x0 x1 x2 x3 x4 x5 x6 x7 x8 x9 x10 y) ?_
  refine View.allAt_cons_unit _ _ _ _ _ (o13 x0 x1 x2 x3 x4 x5 x6 x7 x8 x9 x10 y) ?_
  refine View.allAt_cons_unit _ _ _ _ _ (o12 x0 x1 x2 x3 x4 x5 x6 x7 x8 x9 x10 y) ?_
  refine View.allAt_cons_unit _ _ _ _ _ (o11 x0 x1 x2 x3 x4 x5 x6 x7 x8 x9 x10 y) ?_
  refine View.allAt_cons_unit _ _ _ _ _ (o10 x0 x1 x2 x3 x4 x5 x6 x7 x8 x9 x10 y) ?_
  refine View.allAt_cons_unit _ _ _ _ _ (o9 x0 x1 x2 x3 x4 x5 x6 x7 x8 x9 x10 y) ?_
  refine View.allAt_cons_unit _ _ _ _ _ (o8 x0 x1 x2 x3 x4 x5 x6 x7 x8 x9 x10 y) ?_
  refine View.allAt_cons_unit _ _ _ _ _ (o7 x0 x1 x2 x3 x4 x5 x6 x7 x8 x9 x10 y) ?_
  refine View.allAt_cons_unit _ _ _ _ _ (o6 x0 x1 x2 x3 x4 x5 x6 x7 x8 x9 x10 y) ?_
  refine View.allAt_cons_unit _ _ _ _ _ (o5 x0 x1 x2 x3 x4 x5 x6 x7 x8 x9 x10 y) ?_
  refine View.allAt_cons_unit _ _ _ _ _ (o4 x0 x1 x2 x3 x4 x5 x6 x7 x8 x9 x10 y) ?_
  refine View.allAt_cons_unit _ _ _ _ _ (o3 x0 x1 x2 x3 x4 x5 x6 x7 x8 x9 x10 y) ?_
  refine View.allAt_cons_unit _ _ _ _ _ (o2 x0 x1 x2 x3 x4 x5 x6 x7 x8 x9 x10 y) ?_
  refine View.allAt_cons_unit _ _ _ _ _ (o1 x0 x1 x2 x3 x4 x5 x6 x7 x8 x9 x10 y) ?_
  refine View.allAt_cons_unit _ _ _ _ _ (o0 x0 x1 x2 x3 x4 x5 x6 x7 x8 x9 x10 y) ?_
  exact View.allAt_nil _ _

end Cert.StepIdeal.Rows

end
-- ==== Proof.StepValue.lean ====
module

public import proofs.«01_k».proof.Proof.Gen.StepIdeal.Value
public import proofs.«01_k».proof.Proof.Gen.StepRefIdeal.Read
public import proofs.«01_k».proof.Defs
public import proofs.«01_k».proof.Proof.StepStates
public import proofs.«01_k».proof.Proof.StepOuts
public import Idealize.ShloMosaic.Lib.Pointwise
public import Idealize.ShloMosaic.Lib.KernelVsHost
public import Idealize.ShloMosaic.Lib.Pipeline.Value
public import Idealize.ShloMosaic.Lib.Pipeline.ValueKit

/-!
  The two arrays one step of the recurrence leaves on the sample: the outputs and the new states. They are the arrays of the
  reference.
-/

@[expose] public section

set_option maxRecDepth 16384

noncomputable section

namespace Cert.StepIdeal.Rows

open Idealize.ShloMosaic Idealize.ShloMosaic.TcCoe Idealize.SL.Sem
open Cert.StepIdeal Cert.StepIdeal.Gen Cert.StepRule

variable (m : (ℓ : Loc nD τ sig) → Buf (Elt Ideal) ℓ) (ρ : Dev nD → PrngReg)

/-- The receptance. -/
abbrev A0 (c : Dev nD) : Vec Ideal S32x768 .f32 := m ((c : Thread nD τ).loc main_arg0)
/-- The logarithms of the decay. -/
abbrev A1 (c : Dev nD) : Vec Ideal S32x768 .f32 := m ((c : Thread nD τ).loc main_arg1)
/-- The keys. -/
abbrev A2 (c : Dev nD) : Vec Ideal S32x768 .f32 := m ((c : Thread nD τ).loc main_arg2)
/-- The values. -/
abbrev A3 (c : Dev nD) : Vec Ideal S32x768 .f32 := m ((c : Thread nD τ).loc main_arg3)
/-- The removal keys. -/
abbrev A4 (c : Dev nD) : Vec Ideal S32x768 .f32 := m ((c : Thread nD τ).loc main_arg4)
/-- The learning rates. -/
abbrev A5 (c : Dev nD) : Vec Ideal S32x768 .f32 := m ((c : Thread nD τ).loc main_arg5)
/-- The gates. -/
abbrev A6 (c : Dev nD) : Vec Ideal S32x768 .f32 := m ((c : Thread nD τ).loc main_arg6)
/-- The bonus' weights. -/
abbrev A7 (c : Dev nD) : Vec Ideal S12x64 .f32 := m ((c : Thread nD τ).loc main_arg7)
/-- The gains. -/
abbrev A8 (c : Dev nD) : Vec Ideal S768 .f32 := m ((c : Thread nD τ).loc main_arg8)
/-- The shifts. -/
abbrev A9 (c : Dev nD) : Vec Ideal S768 .f32 := m ((c : Thread nD τ).loc main_arg9)
/-- The states. -/
abbrev A10 (c : Dev nD) : Vec Ideal S32x12x64x64 .f32 := m ((c : Thread nD τ).loc main_arg10)

/-! ## The blocks the body reads -/

/-- The row of the batch that row `q` of point `t`'s block is. -/
def rowAt (t : Fin cfg0.N) (q : Fin 4) : Fin 32 := ⟨t.val * 4 + q.val, by have := t.isLt; have : cfg0.N = 8 := N_0; omega⟩

/-- Argument 0 with an axis of one put in. -/
theorem V_v0 (c : Dev nD) (b : Fin 32) (l : Fin 768) : (V m c main_v0 : Vec Ideal S32x1x768 .f32) (ix3 b 0 l) = A0 m c (ix2 b l) := by
  have h : V m c main_v0 = shapeCast S32x1x768 (A0 m c) shapeCasts_S32x768_S32x1x768 := by
    unfold V
    simp only [hostOps0, List.flatten_cons, List.flatten_nil, List.append_nil, List.cons_append, List.nil_append]
    after_results
    rfl
  rw [h]
  exact rows b _ l

/-- Argument 1 with an axis of one put in. -/
theorem V_v1 (c : Dev nD) (b : Fin 32) (l : Fin 768) : (V m c main_v1 : Vec Ideal S32x1x768 .f32) (ix3 b 0 l) = A1 m c (ix2 b l) := by
  have h : V m c main_v1 = shapeCast S32x1x768 (A1 m c) shapeCasts_S32x768_S32x1x768 := by
    unfold V
    simp only [hostOps0, List.flatten_cons, List.flatten_nil, List.append_nil, List.cons_append, List.nil_append]
    after_results
    rfl
  rw [h]
  exact rows b _ l

/-- Argument 2 with an axis of one put in. -/
theorem V_v2 (c : Dev nD) (b : Fin 32) (l : Fin 768) : (V m c main_v2 : Vec Ideal S32x1x768 .f32) (ix3 b 0 l) = A2 m c (ix2 b l) := by
  have h : V m c main_v2 = shapeCast S32x1x768 (A2 m c) shapeCasts_S32x768_S32x1x768 := by
    unfold V
    simp only [hostOps0, List.flatten_cons, List.flatten_nil, List.append_nil, List.cons_append, List.nil_append]
    after_results
    rfl
  rw [h]
  exact rows b _ l

/-- Argument 3 with an axis of one put in. -/
theorem V_v3 (c : Dev nD) (b : Fin 32) (l : Fin 768) : (V m c main_v3 : Vec Ideal S32x1x768 .f32) (ix3 b 0 l) = A3 m c (ix2 b l) := by
  have h : V m c main_v3 = shapeCast S32x1x768 (A3 m c) shapeCasts_S32x768_S32x1x768 := by
    unfold V
    simp only [hostOps0, List.flatten_cons, List.flatten_nil, List.append_nil, List.cons_append, List.nil_append]
    after_results
    rfl
  rw [h]
  exact rows b _ l

/-- Argument 4 with an axis of one put in. -/
theorem V_v4 (c : Dev nD) (b : Fin 32) (l : Fin 768) : (V m c main_v4 : Vec Ideal S32x1x768 .f32) (ix3 b 0 l) = A4 m c (ix2 b l) := by
  have h : V m c main_v4 = shapeCast S32x1x768 (A4 m c) shapeCasts_S32x768_S32x1x768 := by
    unfold V
    simp only [hostOps0, List.flatten_cons, List.flatten_nil, List.append_nil, List.cons_append, List.nil_append]
    after_results
    rfl
  rw [h]
  exact rows b _ l

/-- Argument 5 with an axis of one put in. -/
theorem V_v5 (c : Dev nD) (b : Fin 32) (l : Fin 768) : (V m c main_v5 : Vec Ideal S32x1x768 .f32) (ix3 b 0 l) = A5 m c (ix2 b l) := by
  have h : V m c main_v5 = shapeCast S32x1x768 (A5 m c) shapeCasts_S32x768_S32x1x768 := by
    unfold V
    simp only [hostOps0, List.flatten_cons, List.flatten_nil, List.append_nil, List.cons_append, List.nil_append]
    after_results
    rfl
  rw [h]
  exact rows b _ l

/-- Argument 6 with an axis of one put in. -/
theorem V_v6 (c : Dev nD) (b : Fin 32) (l : Fin 768) : (V m c main_v6 : Vec Ideal S32x1x768 .f32) (ix3 b 0 l) = A6 m c (ix2 b l) := by
  have h : V m c main_v6 = shapeCast S32x1x768 (A6 m c) shapeCasts_S32x768_S32x1x768 := by
    unfold V
    simp only [hostOps0, List.flatten_cons, List.flatten_nil, List.append_nil, List.cons_append, List.nil_append]
    after_results
    rfl
  rw [h]
  exact rows b _ l

/-- The bonus' weights as a row. -/
theorem V_v7 (c : Dev nD) (h : Fin 12) (d : Fin 64) : (V m c main_v7 : Vec Ideal S1x768 .f32) (ix2 0 (lane h d)) = A7 m c (ix2 h d) := by
  have e : V m c main_v7 = shapeCast S1x768 (A7 m c) shapeCasts_S12x64_S1x768 := by
    unfold V
    simp only [hostOps0, List.flatten_cons, List.flatten_nil, List.append_nil, List.cons_append, List.nil_append]
    after_results
    rfl
  rw [e]
  exact shapeCast_apply _ _ _ _ (by
    rewrite [Shape.rowMajor_val_two, Shape.rowMajor_val_two]
    show h.val * 64 + d.val = 0 * 768 + (h.val * 64 + d.val)
    omega)

/-- Argument 8 as a row. -/
theorem V_v8 (c : Dev nD) (l : Fin 768) : (V m c main_v8 : Vec Ideal S1x768 .f32) (ix2 0 l) = A8 m c (ix1 l) := by
  have e : V m c main_v8 = shapeCast S1x768 (A8 m c) shapeCasts_S768_S1x768 := by
    unfold V
    simp only [hostOps0, List.flatten_cons, List.flatten_nil, List.append_nil, List.cons_append, List.nil_append]
    after_results
    rfl
  rw [e]
  pointwise
  all_goals rfl

/-- Argument 9 as a row. -/
theorem V_v9 (c : Dev nD) (l : Fin 768) : (V m c main_v9 : Vec Ideal S1x768 .f32) (ix2 0 l) = A9 m c (ix1 l) := by
  have e : V m c main_v9 = shapeCast S1x768 (A9 m c) shapeCasts_S768_S1x768 := by
    unfold V
    simp only [hostOps0, List.flatten_cons, List.flatten_nil, List.append_nil, List.cons_append, List.nil_append]
    after_results
    rfl
  rw [e]
  pointwise
  all_goals rfl

/-- The block of argument 0. -/
theorem blk0 (c : Dev nD) (t : Fin cfg0.N) (q : Fin 4) (l : Fin 768) :
    (iblk m c 0 t : Vec Ideal S4x1x768 .f32) (ix3 q 0 l) = A0 m c (ix2 (rowAt t q) l) := by
  have hi : win0_0.index t 0 = t.val ∧ win0_0.index t 1 = 0 ∧ win0_0.index t 2 = 0 := by
    have h : ∀ t : Fin cfg0.N, win0_0.index t 0 = t.val ∧ win0_0.index t 1 = 0 ∧ win0_0.index t 2 = 0 := by decide +kernel
    exact h t
  refine Eq.trans ?_ (V_v0 m c _ _)
  unfold iblk
  rw [View.read_apply]
  show V m c main_v0 _ = V m c main_v0 _
  congr 1
  funext a
  apply Fin.ext
  match a with
  | ⟨0, _⟩ => show win0_0.index t 0 * 4 + 1 * q.val = t.val * 4 + q.val; rw [hi.1] <;> omega
  | ⟨1, _⟩ => show win0_0.index t 1 * 1 + 1 * 0 = 0; rw [hi.2.1] <;> omega
  | ⟨2, _⟩ => show win0_0.index t 2 * 768 + 1 * l.val = l.val; rw [hi.2.2] <;> omega

/-- The block of argument 1. -/
theorem blk1 (c : Dev nD) (t : Fin cfg0.N) (q : Fin 4) (l : Fin 768) :
    (iblk m c 1 t : Vec Ideal S4x1x768 .f32) (ix3 q 0 l) = A1 m c (ix2 (rowAt t q) l) := by
  have hi : win0_1.index t 0 = t.val ∧ win0_1.index t 1 = 0 ∧ win0_1.index t 2 = 0 := by
    have h : ∀ t : Fin cfg0.N, win0_1.index t 0 = t.val ∧ win0_1.index t 1 = 0 ∧ win0_1.index t 2 = 0 := by decide +kernel
    exact h t
  refine Eq.trans ?_ (V_v1 m c _ _)
  unfold iblk
  rw [View.read_apply]
  show V m c main_v1 _ = V m c main_v1 _
  congr 1
  funext a
  apply Fin.ext
  match a with
  | ⟨0, _⟩ => show win0_1.index t 0 * 4 + 1 * q.val = t.val * 4 + q.val; rw [hi.1] <;> omega
  | ⟨1, _⟩ => show win0_1.index t 1 * 1 + 1 * 0 = 0; rw [hi.2.1] <;> omega
  | ⟨2, _⟩ => show win0_1.index t 2 * 768 + 1 * l.val = l.val; rw [hi.2.2] <;> omega

/-- The block of argument 2. -/
theorem blk2 (c : Dev nD) (t : Fin cfg0.N) (q : Fin 4) (l : Fin 768) :
    (iblk m c 2 t : Vec Ideal S4x1x768 .f32) (ix3 q 0 l) = A2 m c (ix2 (rowAt t q) l) := by
  have hi : win0_2.index t 0 = t.val ∧ win0_2.index t 1 = 0 ∧ win0_2.index t 2 = 0 := by
    have h : ∀ t : Fin cfg0.N, win0_2.index t 0 = t.val ∧ win0_2.index t 1 = 0 ∧ win0_2.index t 2 = 0 := by decide +kernel
    exact h t
  refine Eq.trans ?_ (V_v2 m c _ _)
  unfold iblk
  rw [View.read_apply]
  show V m c main_v2 _ = V m c main_v2 _
  congr 1
  funext a
  apply Fin.ext
  match a with
  | ⟨0, _⟩ => show win0_2.index t 0 * 4 + 1 * q.val = t.val * 4 + q.val; rw [hi.1] <;> omega
  | ⟨1, _⟩ => show win0_2.index t 1 * 1 + 1 * 0 = 0; rw [hi.2.1] <;> omega
  | ⟨2, _⟩ => show win0_2.index t 2 * 768 + 1 * l.val = l.val; rw [hi.2.2] <;> omega

/-- The block of argument 3. -/
theorem blk3 (c : Dev nD) (t : Fin cfg0.N) (q : Fin 4) (l : Fin 768) :
    (iblk m c 3 t : Vec Ideal S4x1x768 .f32) (ix3 q 0 l) = A3 m c (ix2 (rowAt t q) l) := by
  have hi : win0_3.index t 0 = t.val ∧ win0_3.index t 1 = 0 ∧ win0_3.index t 2 = 0 := by
    have h : ∀ t : Fin cfg0.N, win0_3.index t 0 = t.val ∧ win0_3.index t 1 = 0 ∧ win0_3.index t 2 = 0 := by decide +kernel
    exact h t
  refine Eq.trans ?_ (V_v3 m c _ _)
  unfold iblk
  rw [View.read_apply]
  show V m c main_v3 _ = V m c main_v3 _
  congr 1
  funext a
  apply Fin.ext
  match a with
  | ⟨0, _⟩ => show win0_3.index t 0 * 4 + 1 * q.val = t.val * 4 + q.val; rw [hi.1] <;> omega
  | ⟨1, _⟩ => show win0_3.index t 1 * 1 + 1 * 0 = 0; rw [hi.2.1] <;> omega
  | ⟨2, _⟩ => show win0_3.index t 2 * 768 + 1 * l.val = l.val; rw [hi.2.2] <;> omega

/-- The block of argument 4. -/
theorem blk4 (c : Dev nD) (t : Fin cfg0.N) (q : Fin 4) (l : Fin 768) :
    (iblk m c 4 t : Vec Ideal S4x1x768 .f32) (ix3 q 0 l) = A4 m c (ix2 (rowAt t q) l) := by
  have hi : win0_4.index t 0 = t.val ∧ win0_4.index t 1 = 0 ∧ win0_4.index t 2 = 0 := by
    have h : ∀ t : Fin cfg0.N, win0_4.index t 0 = t.val ∧ win0_4.index t 1 = 0 ∧ win0_4.index t 2 = 0 := by decide +kernel
    exact h t
  refine Eq.trans ?_ (V_v4 m c _ _)
  unfold iblk
  rw [View.read_apply]
  show V m c main_v4 _ = V m c main_v4 _
  congr 1
  funext a
  apply Fin.ext
  match a with
  | ⟨0, _⟩ => show win0_4.index t 0 * 4 + 1 * q.val = t.val * 4 + q.val; rw [hi.1] <;> omega
  | ⟨1, _⟩ => show win0_4.index t 1 * 1 + 1 * 0 = 0; rw [hi.2.1] <;> omega
  | ⟨2, _⟩ => show win0_4.index t 2 * 768 + 1 * l.val = l.val; rw [hi.2.2] <;> omega

/-- The block of argument 5. -/
theorem blk5 (c : Dev nD) (t : Fin cfg0.N) (q : Fin 4) (l : Fin 768) :
    (iblk m c 5 t : Vec Ideal S4x1x768 .f32) (ix3 q 0 l) = A5 m c (ix2 (rowAt t q) l) := by
  have hi : win0_5.index t 0 = t.val ∧ win0_5.index t 1 = 0 ∧ win0_5.index t 2 = 0 := by
    have h : ∀ t : Fin cfg0.N, win0_5.index t 0 = t.val ∧ win0_5.index t 1 = 0 ∧ win0_5.index t 2 = 0 := by decide +kernel
    exact h t
  refine Eq.trans ?_ (V_v5 m c _ _)
  unfold iblk
  rw [View.read_apply]
  show V m c main_v5 _ = V m c main_v5 _
  congr 1
  funext a
  apply Fin.ext
  match a with
  | ⟨0, _⟩ => show win0_5.index t 0 * 4 + 1 * q.val = t.val * 4 + q.val; rw [hi.1] <;> omega
  | ⟨1, _⟩ => show win0_5.index t 1 * 1 + 1 * 0 = 0; rw [hi.2.1] <;> omega
  | ⟨2, _⟩ => show win0_5.index t 2 * 768 + 1 * l.val = l.val; rw [hi.2.2] <;> omega

/-- The block of argument 6. -/
theorem blk6 (c : Dev nD) (t : Fin cfg0.N) (q : Fin 4) (l : Fin 768) :
    (iblk m c 6 t : Vec Ideal S4x1x768 .f32) (ix3 q 0 l) = A6 m c (ix2 (rowAt t q) l) := by
  have hi : win0_6.index t 0 = t.val ∧ win0_6.index t 1 = 0 ∧ win0_6.index t 2 = 0 := by
    have h : ∀ t : Fin cfg0.N, win0_6.index t 0 = t.val ∧ win0_6.index t 1 = 0 ∧ win0_6.index t 2 = 0 := by decide +kernel
    exact h t
  refine Eq.trans ?_ (V_v6 m c _ _)
  unfold iblk
  rw [View.read_apply]
  show V m c main_v6 _ = V m c main_v6 _
  congr 1
  funext a
  apply Fin.ext
  match a with
  | ⟨0, _⟩ => show win0_6.index t 0 * 4 + 1 * q.val = t.val * 4 + q.val; rw [hi.1] <;> omega
  | ⟨1, _⟩ => show win0_6.index t 1 * 1 + 1 * 0 = 0; rw [hi.2.1] <;> omega
  | ⟨2, _⟩ => show win0_6.index t 2 * 768 + 1 * l.val = l.val; rw [hi.2.2] <;> omega

/-- The block of the bonus' weights is the whole row. -/
theorem blk7 (c : Dev nD) (t : Fin cfg0.N) (h : Fin 12) (d : Fin 64) :
    (iblk m c 7 t : Vec Ideal S1x768 .f32) (ix2 0 (lane h d)) = A7 m c (ix2 h d) := by
  have hi : win0_7.index t 0 = 0 ∧ win0_7.index t 1 = 0 := by
    have h : ∀ t : Fin cfg0.N, win0_7.index t 0 = 0 ∧ win0_7.index t 1 = 0 := by decide +kernel
    exact h t
  refine Eq.trans ?_ (V_v7 m c h d)
  unfold iblk
  rw [View.read_apply]
  show V m c main_v7 _ = V m c main_v7 _
  congr 1
  funext a
  apply Fin.ext
  match a with
  | ⟨0, _⟩ => show win0_7.index t 0 * 1 + 1 * 0 = 0; rw [hi.1] <;> omega
  | ⟨1, _⟩ => show win0_7.index t 1 * 768 + 1 * (lane h d).val = (lane h d).val; rw [hi.2] <;> omega

/-- The block of argument 8 is the whole row. -/
theorem blk8 (c : Dev nD) (t : Fin cfg0.N) (l : Fin 768) : (iblk m c 8 t : Vec Ideal S1x768 .f32) (ix2 0 l) = A8 m c (ix1 l) := by
  have hi : win0_8.index t 0 = 0 ∧ win0_8.index t 1 = 0 := by
    have h : ∀ t : Fin cfg0.N, win0_8.index t 0 = 0 ∧ win0_8.index t 1 = 0 := by decide +kernel
    exact h t
  refine Eq.trans ?_ (V_v8 m c l)
  unfold iblk
  rw [View.read_apply]
  show V m c main_v8 _ = V m c main_v8 _
  congr 1
  funext a
  apply Fin.ext
  match a with
  | ⟨0, _⟩ => show win0_8.index t 0 * 1 + 1 * 0 = 0; rw [hi.1] <;> omega
  | ⟨1, _⟩ => show win0_8.index t 1 * 768 + 1 * l.val = l.val; rw [hi.2] <;> omega

/-- The block of argument 9 is the whole row. -/
theorem blk9 (c : Dev nD) (t : Fin cfg0.N) (l : Fin 768) : (iblk m c 9 t : Vec Ideal S1x768 .f32) (ix2 0 l) = A9 m c (ix1 l) := by
  have hi : win0_9.index t 0 = 0 ∧ win0_9.index t 1 = 0 := by
    have h : ∀ t : Fin cfg0.N, win0_9.index t 0 = 0 ∧ win0_9.index t 1 = 0 := by decide +kernel
    exact h t
  refine Eq.trans ?_ (V_v9 m c l)
  unfold iblk
  rw [View.read_apply]
  show V m c main_v9 _ = V m c main_v9 _
  congr 1
  funext a
  apply Fin.ext
  match a with
  | ⟨0, _⟩ => show win0_9.index t 0 * 1 + 1 * 0 = 0; rw [hi.1] <;> omega
  | ⟨1, _⟩ => show win0_9.index t 1 * 768 + 1 * l.val = l.val; rw [hi.2] <;> omega

/-- The block of the states. -/
theorem blk10 (c : Dev nD) (t : Fin cfg0.N) (q : Fin 4) (h : Fin 12) (i j : Fin 64) :
    (iblk m c 10 t : Vec Ideal S4x12x64x64 .f32) (ix4 q h i j) = A10 m c (ix4 (rowAt t q) h i j) := by
  have hi : win0_10.index t 0 = t.val ∧ win0_10.index t 1 = 0 ∧ win0_10.index t 2 = 0 ∧ win0_10.index t 3 = 0 := by
    have h : ∀ t : Fin cfg0.N, win0_10.index t 0 = t.val ∧ win0_10.index t 1 = 0 ∧ win0_10.index t 2 = 0 ∧ win0_10.index t 3 = 0 := by decide +kernel
    exact h t
  refine Eq.trans ?_ (congrFun (V_main_arg10 m c) _)
  unfold iblk
  rw [View.read_apply]
  show V m c main_arg10 _ = V m c main_arg10 _
  congr 1
  funext a
  apply Fin.ext
  match a with
  | ⟨0, _⟩ => show win0_10.index t 0 * 4 + 1 * q.val = t.val * 4 + q.val; rw [hi.1] <;> omega
  | ⟨1, _⟩ => show win0_10.index t 1 * 12 + 1 * h.val = h.val; rw [hi.2.1] <;> omega
  | ⟨2, _⟩ => show win0_10.index t 2 * 64 + 1 * i.val = i.val; rw [hi.2.2.1] <;> omega
  | ⟨3, _⟩ => show win0_10.index t 3 * 64 + 1 * j.val = j.val; rw [hi.2.2.2] <;> omega

/-! ## What a point leaves -/

/-- The array of outputs. -/
def arr11 (c : Dev nD) : Vec Ideal S32x1x768 .f32 :=
  Cert.StepRefIdeal.Read.val_main_v62 (F := Ideal) (A0 m c) (A1 m c) (A2 m c) (A3 m c) (A4 m c) (A5 m c) (A6 m c) (A7 m c) (A8 m c) (A9 m c) (A10 m c)

/-- The array of states. -/
def arr12 (c : Dev nD) : Vec Ideal S32x12x64x64 .f32 :=
  Cert.StepRefIdeal.Read.val_main_v24 (F := Ideal) (A1 m c) (A2 m c) (A3 m c) (A4 m c) (A5 m c) (A10 m c)

/-- The new state of a head of a point's block, from the arrays. -/
theorem newS_iblk (c : Dev nD) (t : Fin cfg0.N) (q : Fin 4) (h : Fin 12) :
    newS (iblk m c 1 t) (iblk m c 2 t) (iblk m c 3 t) (iblk m c 4 t) (iblk m c 5 t) (iblk m c 10 t) q h
    = newState (fun i j => A10 m c (ix4 (rowAt t q) h i j)) (at_ (A1 m c) (rowAt t q) h) (at_ (A2 m c) (rowAt t q) h)
      (at_ (A3 m c) (rowAt t q) h) (at_ (A4 m c) (rowAt t q) h) (at_ (A5 m c) (rowAt t q) h) := by
  unfold newS
  simp only [blk1, blk2, blk3, blk4, blk5, blk10]

/-- The states a point leaves. -/
theorem out12_iblk (c : Dev nD) (t : Fin cfg0.N) (q : Fin 4) (h : Fin 12) (i j : Fin 64) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 q h i j)
    = arr12 m c (ix4 (rowAt t q) h i j) := by
  refine (out12_apply _ _ _ _ _ _ _ _ _ _ _ _).trans ?_
  refine (congrFun (congrFun (newS_iblk m c t q h) i) j).trans ?_
  unfold arr12
  exact (ref_state _ _ _ _ _ _ _ _ _ _).symm

/-- The outputs a point leaves. -/
theorem out11_iblk (c : Dev nD) (t : Fin cfg0.N) (q : Fin 4) (l : Fin 768) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 q 0 l)
    = arr11 m c (ix3 (rowAt t q) 0 l) := by
  refine (out11_apply _ _ _ _ _ _ _ _ _ _ _ _).trans ?_
  have hl : l = lane (headAt l) (placeAt l) := Fin.ext (by show l.val = l.val / 64 * 64 + l.val % 64; omega)
  refine Eq.trans ?_ (congrArg (fun l => arr11 m c (ix3 (rowAt t q) 0 l)) hl.symm)
  unfold arr11
  refine Eq.trans ?_ (ref_out _ _ _ _ _ _ _ _ _ _ _ _ _ _).symm
  show outS _ _ _ _ _ _ _ _ _ _ _ q (headAt l) (placeAt l) = _
  unfold outS
  rw [newS_iblk]
  simp only [blk0, blk2, blk3, blk6, blk7, blk8, blk9]

/-! ## The arrays -/

/-- The place of a point's block. -/
theorem idx11 (t : Fin cfg0.N) : win0_11.index t 0 = t.val ∧ win0_11.index t 1 = 0 ∧ win0_11.index t 2 = 0 := by
  have h : ∀ t : Fin cfg0.N, win0_11.index t 0 = t.val ∧ win0_11.index t 1 = 0 ∧ win0_11.index t 2 = 0 := by decide +kernel
  exact h t

/-- The entry of the whole array that an entry of a point's block is. -/
theorem read_blk11 (G : S32x1x768.Idx → Elt Ideal .f32) (t : Fin cfg0.N) (q : Fin 4) (l : Fin 768) :
    ((cfg0.win 11).blk t).view.read (Elt Ideal) G (ix3 q 0 l) = G (ix3 (rowAt t q) 0 l) := by
  rw [View.read_apply]
  show G _ = G _
  congr 1
  funext a
  apply Fin.ext
  match a with
  | ⟨0, _⟩ => show win0_11.index t 0 * 4 + 1 * q.val = t.val * 4 + q.val; rw [(idx11 t).1] <;> omega
  | ⟨1, _⟩ => show win0_11.index t 1 * 1 + 1 * 0 = 0; rw [(idx11 t).2.1] <;> omega
  | ⟨2, _⟩ => show win0_11.index t 2 * 768 + 1 * l.val = l.val; rw [(idx11 t).2.2] <;> omega

/-- What a point writes back is its block of the whole array. -/
theorem flushed_eq11 (c : Dev nD) (t : Fin cfg0.N) :
    (dats m 0 c).flushed 11 t = ((cfg0.win 11).blk t).view.read (Elt Ideal) (arr11 m c) := by
  show (cfg0.win 11).cut (grid0.coords t) ((dats m 0 c).after 11 t) = _
  rw [after0_11]
  funext y
  obtain ⟨q, l, rfl⟩ : ∃ (q : Fin 4) (l : Fin 768), y = ix3 q 0 l := ⟨y 0, y 2, by
    funext a
    match a with
    | ⟨0, _⟩ => rfl
    | ⟨1, _⟩ => exact Subsingleton.elim (α := Fin 1) _ _
    | ⟨2, _⟩ => rfl⟩
  exact (out11_iblk m c t q l).trans (read_blk11 (arr11 m c) t q l).symm

/-- The rows of a point's block. -/
theorem mem_blk11 (t : Fin cfg0.N) (i : S32x1x768.Idx) :
    i ∈ ((cfg0.win 11).blk t).view.set ↔ t.val * 4 ≤ (i 0 : Nat) ∧ (i 0 : Nat) < t.val * 4 + 4 := by
  show i ∈ ((View.whole main_v10_0).slice (win0_11.rect t)).set ↔ _
  rw [View.set_slice_whole, Rect.mem_set_unit]
  have h1 : (i 1 : Nat) < 1 := (i 1).isLt
  have h2 : (i 2 : Nat) < 768 := (i 2).isLt
  have e : win0_11.index t 0 * win0_11.size 0 = t.val * 4 ∧ win0_11.xsize (grid0.coords t) 0 = 4 ∧ win0_11.index t 1 * win0_11.size 1 = 0 ∧ win0_11.xsize (grid0.coords t) 1 = 1 ∧ win0_11.index t 2 * win0_11.size 2 = 0 ∧ win0_11.xsize (grid0.coords t) 2 = 768 := by
    have h : ∀ t : Fin cfg0.N, win0_11.index t 0 * win0_11.size 0 = t.val * 4 ∧ win0_11.xsize (grid0.coords t) 0 = 4 ∧ win0_11.index t 1 * win0_11.size 1 = 0 ∧ win0_11.xsize (grid0.coords t) 1 = 1 ∧ win0_11.index t 2 * win0_11.size 2 = 0 ∧ win0_11.xsize (grid0.coords t) 2 = 768 := by decide +kernel
    exact h t
  refine ⟨fun h => ?_, fun h a => ?_⟩
  · have g0 : win0_11.index t 0 * win0_11.size 0 ≤ (i 0 : Nat)
        ∧ (i 0 : Nat) < win0_11.index t 0 * win0_11.size 0 + win0_11.xsize (grid0.coords t) 0 := h 0
    rw [e.1, e.2.1] at g0
    exact g0
  · match a with
    | ⟨0, _⟩ =>
      show win0_11.index t 0 * win0_11.size 0 ≤ (i 0 : Nat)
        ∧ (i 0 : Nat) < win0_11.index t 0 * win0_11.size 0 + win0_11.xsize (grid0.coords t) 0
      rw [e.1, e.2.1]; exact h
    | ⟨1, _⟩ =>
      show win0_11.index t 1 * win0_11.size 1 ≤ (i 1 : Nat)
        ∧ (i 1 : Nat) < win0_11.index t 1 * win0_11.size 1 + win0_11.xsize (grid0.coords t) 1
      rw [e.2.2.1, e.2.2.2.1]; omega
    | ⟨2, _⟩ =>
      show win0_11.index t 2 * win0_11.size 2 ≤ (i 2 : Nat)
        ∧ (i 2 : Nat) < win0_11.index t 2 * win0_11.size 2 + win0_11.xsize (grid0.coords t) 2
      rw [e.2.2.2.2.1, e.2.2.2.2.2]; omega

/-- The blocks cover the array. -/
theorem cover11 (i : S32x1x768.Idx) : ∃ t : Fin cfg0.N, (cfg0.win 11).flush t = true ∧ i ∈ ((cfg0.win 11).blk t).view.set := by
  have h0 : (i 0 : Nat) < 32 := (i 0).isLt
  have hN : cfg0.N = 8 := N_0
  exact ⟨⟨(i 0 : Nat) / 4, by omega⟩, flush0_11 _, (mem_blk11 _ i).mpr
    ⟨by show (i 0 : Nat) / 4 * 4 ≤ _; omega, by show _ < (i 0 : Nat) / 4 * 4 + 4; omega⟩⟩

/-- The array after the run. -/
theorem final11 (c : Dev nD) : (dats m 0 c).arrAt 11 cfg0.N = arr11 m c :=
  (dats m 0 c).arrAt_eq_of_cover 11 (arr11 m c) (fun t _ => flushed_eq11 m c t) cover11

/-- The place of a point's block. -/
theorem idx12 (t : Fin cfg0.N) : win0_12.index t 0 = t.val ∧ win0_12.index t 1 = 0 ∧ win0_12.index t 2 = 0 ∧ win0_12.index t 3 = 0 := by
  have h : ∀ t : Fin cfg0.N, win0_12.index t 0 = t.val ∧ win0_12.index t 1 = 0 ∧ win0_12.index t 2 = 0 ∧ win0_12.index t 3 = 0 := by decide +kernel
  exact h t

/-- The entry of the whole array that an entry of a point's block is. -/
theorem read_blk12 (G : S32x12x64x64.Idx → Elt Ideal .f32) (t : Fin cfg0.N) (q : Fin 4) (h : Fin 12) (i j : Fin 64) :
    ((cfg0.win 12).blk t).view.read (Elt Ideal) G (ix4 q h i j) = G (ix4 (rowAt t q) h i j) := by
  rw [View.read_apply]
  show G _ = G _
  congr 1
  funext a
  apply Fin.ext
  match a with
  | ⟨0, _⟩ => show win0_12.index t 0 * 4 + 1 * q.val = t.val * 4 + q.val; rw [(idx12 t).1] <;> omega
  | ⟨1, _⟩ => show win0_12.index t 1 * 12 + 1 * h.val = h.val; rw [(idx12 t).2.1] <;> omega
  | ⟨2, _⟩ => show win0_12.index t 2 * 64 + 1 * i.val = i.val; rw [(idx12 t).2.2.1] <;> omega
  | ⟨3, _⟩ => show win0_12.index t 3 * 64 + 1 * j.val = j.val; rw [(idx12 t).2.2.2] <;> omega

/-- What a point writes back is its block of the whole array. -/
theorem flushed_eq12 (c : Dev nD) (t : Fin cfg0.N) :
    (dats m 0 c).flushed 12 t = ((cfg0.win 12).blk t).view.read (Elt Ideal) (arr12 m c) := by
  show (cfg0.win 12).cut (grid0.coords t) ((dats m 0 c).after 12 t) = _
  rw [after0_12]
  funext y
  obtain ⟨q, h, i, j, rfl⟩ : ∃ (q : Fin 4) (h : Fin 12) (i j : Fin 64), y = ix4 q h i j := ⟨y 0, y 1, y 2, y 3, by
    funext a
    match a with
    | ⟨0, _⟩ => rfl
    | ⟨1, _⟩ => rfl
    | ⟨2, _⟩ => rfl
    | ⟨3, _⟩ => rfl⟩
  exact (out12_iblk m c t q h i j).trans (read_blk12 (arr12 m c) t q h i j).symm

/-- The rows of a point's block. -/
theorem mem_blk12 (t : Fin cfg0.N) (i : S32x12x64x64.Idx) :
    i ∈ ((cfg0.win 12).blk t).view.set ↔ t.val * 4 ≤ (i 0 : Nat) ∧ (i 0 : Nat) < t.val * 4 + 4 := by
  show i ∈ ((View.whole main_v10_1).slice (win0_12.rect t)).set ↔ _
  rw [View.set_slice_whole, Rect.mem_set_unit]
  have h1 : (i 1 : Nat) < 12 := (i 1).isLt
  have h2 : (i 2 : Nat) < 64 := (i 2).isLt
  have h3 : (i 3 : Nat) < 64 := (i 3).isLt
  have e : win0_12.index t 0 * win0_12.size 0 = t.val * 4 ∧ win0_12.xsize (grid0.coords t) 0 = 4 ∧ win0_12.index t 1 * win0_12.size 1 = 0 ∧ win0_12.xsize (grid0.coords t) 1 = 12 ∧ win0_12.index t 2 * win0_12.size 2 = 0 ∧ win0_12.xsize (grid0.coords t) 2 = 64 ∧ win0_12.index t 3 * win0_12.size 3 = 0 ∧ win0_12.xsize (grid0.coords t) 3 = 64 := by
    have h : ∀ t : Fin cfg0.N, win0_12.index t 0 * win0_12.size 0 = t.val * 4 ∧ win0_12.xsize (grid0.coords t) 0 = 4 ∧ win0_12.index t 1 * win0_12.size 1 = 0 ∧ win0_12.xsize (grid0.coords t) 1 = 12 ∧ win0_12.index t 2 * win0_12.size 2 = 0 ∧ win0_12.xsize (grid0.coords t) 2 = 64 ∧ win0_12.index t 3 * win0_12.size 3 = 0 ∧ win0_12.xsize (grid0.coords t) 3 = 64 := by decide +kernel
    exact h t
  refine ⟨fun h => ?_, fun h a => ?_⟩
  · have g0 : win0_12.index t 0 * win0_12.size 0 ≤ (i 0 : Nat)
        ∧ (i 0 : Nat) < win0_12.index t 0 * win0_12.size 0 + win0_12.xsize (grid0.coords t) 0 := h 0
    rw [e.1, e.2.1] at g0
    exact g0
  · match a with
    | ⟨0, _⟩ =>
      show win0_12.index t 0 * win0_12.size 0 ≤ (i 0 : Nat)
        ∧ (i 0 : Nat) < win0_12.index t 0 * win0_12.size 0 + win0_12.xsize (grid0.coords t) 0
      rw [e.1, e.2.1]; exact h
    | ⟨1, _⟩ =>
      show win0_12.index t 1 * win0_12.size 1 ≤ (i 1 : Nat)
        ∧ (i 1 : Nat) < win0_12.index t 1 * win0_12.size 1 + win0_12.xsize (grid0.coords t) 1
      rw [e.2.2.1, e.2.2.2.1]; omega
    | ⟨2, _⟩ =>
      show win0_12.index t 2 * win0_12.size 2 ≤ (i 2 : Nat)
        ∧ (i 2 : Nat) < win0_12.index t 2 * win0_12.size 2 + win0_12.xsize (grid0.coords t) 2
      rw [e.2.2.2.2.1, e.2.2.2.2.2.1]; omega
    | ⟨3, _⟩ =>
      show win0_12.index t 3 * win0_12.size 3 ≤ (i 3 : Nat)
        ∧ (i 3 : Nat) < win0_12.index t 3 * win0_12.size 3 + win0_12.xsize (grid0.coords t) 3
      rw [e.2.2.2.2.2.2.1, e.2.2.2.2.2.2.2]; omega

/-- The blocks cover the array. -/
theorem cover12 (i : S32x12x64x64.Idx) : ∃ t : Fin cfg0.N, (cfg0.win 12).flush t = true ∧ i ∈ ((cfg0.win 12).blk t).view.set := by
  have h0 : (i 0 : Nat) < 32 := (i 0).isLt
  have hN : cfg0.N = 8 := N_0
  exact ⟨⟨(i 0 : Nat) / 4, by omega⟩, flush0_12 _, (mem_blk12 _ i).mpr
    ⟨by show (i 0 : Nat) / 4 * 4 ≤ _; omega, by show _ < (i 0 : Nat) / 4 * 4 + 4; omega⟩⟩

/-- The array after the run. -/
theorem final12 (c : Dev nD) : (dats m 0 c).arrAt 12 cfg0.N = arr12 m c :=
  (dats m 0 c).arrAt_eq_of_cover 12 (arr12 m c) (fun t _ => flushed_eq12 m c t) cover12

/-- From memories that agree on the arguments, the kernel's arrays are the reference's. -/
theorem algebraic : Cert.algebraic_StepIdeal_StepRefIdeal := by
  intro m g m' g' _ hargs
  refine ⟨arr11 m, arr12 m, (θ_run defs _ _).mono (fun r h c => ?_) (Value.run_blocks m g), ?_⟩
  · obtain ⟨h11, h12, hrest⟩ := h c
    exact ⟨h11.trans (final11 m c), h12.trans (final12 m c), hrest⟩
  refine (θ_run Cert.StepRefIdeal.defs _ _).mono (fun r h c => ?_) (Cert.StepRefIdeal.Value.run m' g')
  obtain ⟨e0, e1, hrest⟩ := h c
  obtain ⟨a0, a1, a2, a3, a4, a5, a6, a7, a8, a9, a10⟩ := hargs c
  refine ⟨e0.trans ?_, e1.trans ?_, hrest⟩
  · exact (Cert.StepRefIdeal.Read.val_main_v62_eq _ _).trans
      (congr (congr (congr (congr (congr (congr (congr (congr (congr (congr (congrArg _ a0) a1) a2) a3) a4) a5) a6) a7) a8) a9) a10)
  · exact (Cert.StepRefIdeal.Read.val_main_v24_eq _ _ _ _ _ _).trans (congr (congr (congr (congr (congr (congrArg _ a1) a2) a3) a4) a5) a10)

end Cert.StepIdeal.Rows

end
-- ==== Proof.ExpertsRun.lean ====
module

public import proofs.«01_k».proof.Defs
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

/-!
  The run of the experts' call, at any float instance. One tile of sorted rows is worked on at each point of the grid: the
  two prefetched tables name the tile's expert and how many tiles are in use. At a tile in use the body stores the
  expert's gated linear unit of the tile's rows; at any other it stores zeros. So every tile is stored at its point,
  whatever the second table says.
-/

@[expose] public section

set_option maxRecDepth 16384

noncomputable section

namespace Cert.ExpertsIdeal.Tiles

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the tables -/

/-- Core `c`'s buffers where the call begins: the launch memory. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables, read off the launch memory. -/
def tbl : pre0.Contents (Elt F) := fun j => V m (0 : Dev nD) (pre0.ref j)
/-- Every device holds those tables. -/
theorem V_pre (c : Dev nD) (j : Fin 2) : V m c (pre0.ref j) = tbl m j := by
  obtain rfl : c = 0 := Subsingleton.elim _ _; rfl
/-- The tables name blocks inside the arrays at every point. -/
abbrev Ok : Prop := ok0 (F := F) (tbl m)
/-- The tables, as contents the call may be launched at, -/
abbrev adm (hO : Ok m) : (pcfg0 (F := F)).Adm := ⟨tbl m, hO⟩
/-- and the call's pipeline at them. -/
abbrev cfgM (hO : Ok m) : Pipeline.Cfg sig Λ₀ := cfg0 (adm m hO)

/-- The table of the tiles' experts, as the body takes it, -/
abbrev tbM0 : Memref sig .tc .smem S256 .i32 := Memref.whole main_arg0
/-- and the table whose first word is the number of tiles in use. -/
abbrev tbM1 : Memref sig .tc .smem S128 .i32 := Memref.whole main_arg1

/-- The contents of a table's buffer. -/
abbrev TbBuf (c : Dev nD) {S : Shape} {e : EltTy} (M : Memref sig .tc .smem S e) : Type := Buf (Elt F) (M.view.loc (c : Thread nD τ))
/-- Half of a table's buffer, which is enough to read it. -/
abbrev tbPt (c : Dev nD) {S : Shape} {e : EltTy} (M : Memref sig .tc .smem S e) (f : TbBuf (F := F) c M) : sProp 𝕄 :=
  M.view.loc (c : Thread nD τ) ↦{fullShare.right} f

/-- The halves of the tables the call hands its body. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The second table's first word, as the body loads it. -/
abbrev word {c : Dev nD} (xt1 : TbBuf (F := F) c tbM1) : BitVec 32 :=
  View.readAt (Elt F) tbM1.view (Rect.unit (s := S128) ![0] S1.size inb_S128_S1_0).toLoadRect xt1 (Shape.Idx.first (numel1_S1.symm ▸ Nat.one_pos))

/-- A tile is in use or it is not. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = v
  revert v
  decide

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Where the body leaves operand 0's block in place, it finds it in the operand's staging buffer at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Where the body leaves operand 1's block in place, it finds it in the operand's staging buffer at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Where the body leaves operand 2's block in place, it finds it in the operand's staging buffer at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Where the body leaves operand 3's block in place, it finds it in the operand's staging buffer at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The output's window is written at every point. -/
theorem idle4 (hO : Ok m) (i : (cfgM m hO).grid.Coords) : (cfgM m hO).idle 4 i = false := by
  show (!(k0_cond1 i ((tbl m).atD 1 ![0]) == 1#1) && !(k0_cond2 i ((tbl m).atD 1 ![0]) == 1#1)) = false
  by_cases h : k0_cond1 i ((tbl m).atD 1 ![0]) = 1#1
  · rw [h]; rfl
  · rw [(cond2_iff i _).mpr h]; exact Bool.and_false _

/-- The output's block is written back at every point. -/
theorem flush4 (hO : Ok m) (t : Fin (cfgM m hO).N) : ((cfgM m hO).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true) t

/-! ## The body -/

/-- A staging buffer of the output, through which its tiles are stated. -/
abbrev VO : View sig .tc .vmem S512x1024 .f32 := (Memref.whole cc0_stg4_0 : Memref sig .tc .vmem S512x1024 .f32).view
/-- The staging buffer of window 0 at point `t`, -/
abbrev ms0 (hO : Ok m) (t : Fin (cfgM m hO).N) : Memref sig .tc .vmem S512x1024 .f32 := spec0_0.stage ((cfgM m hO).slots t 0)
/-- and that it is a whole buffer. -/
abbrev hs0 (hO : Ok m) (t : Fin (cfgM m hO).N) : (ms0 m hO t).IsWhole := hstage0_0 (((cfgM m hO).slots t 0).cast nbuf0_0)
/-- The staging buffer of window 1 at point `t`, -/
abbrev ms1 (hO : Ok m) (t : Fin (cfgM m hO).N) : Memref sig .tc .vmem S1x1x1024x512 .f32 := spec0_1.stage ((cfgM m hO).slots t 1)
/-- and that it is a whole buffer. -/
abbrev hs1 (hO : Ok m) (t : Fin (cfgM m hO).N) : (ms1 m hO t).IsWhole := hstage0_1 (((cfgM m hO).slots t 1).cast nbuf0_1)
/-- The staging buffer of window 2 at point `t`, -/
abbrev ms2 (hO : Ok m) (t : Fin (cfgM m hO).N) : Memref sig .tc .vmem S1x1x1024x512 .f32 := spec0_2.stage ((cfgM m hO).slots t 2)
/-- and that it is a whole buffer. -/
abbrev hs2 (hO : Ok m) (t : Fin (cfgM m hO).N) : (ms2 m hO t).IsWhole := hstage0_2 (((cfgM m hO).slots t 2).cast nbuf0_2)
/-- The staging buffer of window 3 at point `t`, -/
abbrev ms3 (hO : Ok m) (t : Fin (cfgM m hO).N) : Memref sig .tc .vmem S1x1x512x1024 .f32 := spec0_3.stage ((cfgM m hO).slots t 3)
/-- and that it is a whole buffer. -/
abbrev hs3 (hO : Ok m) (t : Fin (cfgM m hO).N) : (ms3 m hO t).IsWhole := hstage0_3 (((cfgM m hO).slots t 3).cast nbuf0_3)
/-- The staging buffer of window 4 at point `t`, -/
abbrev ms4 (hO : Ok m) (t : Fin (cfgM m hO).N) : Memref sig .tc .vmem S512x1024 .f32 := spec0_4.stage ((cfgM m hO).slots t 4)
/-- and that it is a whole buffer. -/
abbrev hs4 (hO : Ok m) (t : Fin (cfgM m hO).N) : (ms4 m hO t).IsWhole := hstage0_4 (((cfgM m hO).slots t 4).cast nbuf0_4)

/-- The body at point `t`. -/
abbrev bodyAt (hO : Ok m) (t : Fin (cfgM m hO).N) : Prog (TpuEff nD τ sig (Elt F) Λ₀ .tc) PUnit :=
  cc0_moe_experts (grid0.coords t) tbM0 (Memref.isWhole_whole _) tbM1 (Memref.isWhole_whole _) (ms0 m hO t) (hs0 m hO t) (ms1 m hO t) (hs1 m hO t) (ms2 m hO t) (hs2 m hO t) (ms3 m hO t) (hs3 m hO t) (ms4 m hO t) (hs4 m hO t)

set_option maxHeartbeats 4000000 in
/-- The body at a tile in use: it leaves in the output's staging buffer the tile's gated linear unit, and the operands' buffers as they were. -/
noncomputable def runUsed (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : k0_cond1 i (word (F := F) xt1) = 1#1) (h2 : ¬ k0_cond2 i (word (F := F) xt1) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c tbM0 xt0 ∗ tbPt c tbM1 xt1) -∗ K ⟨⟩))
          ⊢ wp frame (wpE (defs₀ (F := F)) Variants.none c none) E (cc0_moe_experts i tbM0 (Memref.isWhole_whole _) tbM1 (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0.IsWhole := Memref.isWhole_whole _
    have hT1 : tbM1.IsWhole := Memref.isWhole_whole _
    sl_exec (disch := first | (guard_target = ¬(k0_cond1 _ _ = _); exact h1) | (guard_target = k0_cond1 _ _ = _; exact h1) | (guard_target = ¬(k0_cond2 _ _ = _); exact h2) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

/-- What it stores covers the tile. -/
theorem runUsed_cover (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : k0_cond1 i (word (F := F) xt1) = 1#1) (h2 : ¬ k0_cond2 i (word (F := F) xt1) = 1#1) (y : S512x1024.Idx) :
    ∃ pc ∈ (runUsed c i arg3 harg3 arg4 harg4 arg5 harg5 arg6 harg6 arg7 harg7 x0 x1 x2 x3 xt0 xt1 h1 h2).1, y ∈ pc.1.set :=
  View.cover_of_tiledL (runUsed c i arg3 harg3 arg4 harg4 arg5 harg5 arg6 harg6 arg7 harg7 x0 x1 x2 x3 xt0 xt1 h1 h2).1 S512x1024.size (by sl_kernel_rfl) y

/-- The tile it leaves. -/
def runUsed_out (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : k0_cond1 i (word (F := F) xt1) = 1#1) (h2 : ¬ k0_cond2 i (word (F := F) xt1) = 1#1) : Vec F S512x1024 .f32 :=
  VO.read (Elt F) (VO.writes (Elt F) VO.junk (runUsed c i arg3 harg3 arg4 harg4 arg5 harg5 arg6 harg6 arg7 harg7 x0 x1 x2 x3 xt0 xt1 h1 h2).1)

set_option maxHeartbeats 4000000 in
/-- The body at a tile not in use: it leaves zeros. -/
noncomputable def runFree (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : ¬ k0_cond1 i (word (F := F) xt1) = 1#1) (h2 : k0_cond2 i (word (F := F) xt1) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c tbM0 xt0 ∗ tbPt c tbM1 xt1) -∗ K ⟨⟩))
          ⊢ wp frame (wpE (defs₀ (F := F)) Variants.none c none) E (cc0_moe_experts i tbM0 (Memref.isWhole_whole _) tbM1 (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    have hT0 : tbM0.IsWhole := Memref.isWhole_whole _
    have hT1 : tbM1.IsWhole := Memref.isWhole_whole _
    sl_exec (disch := first | (guard_target = ¬(k0_cond1 _ _ = _); exact h1) | (guard_target = k0_cond1 _ _ = _; exact h1) | (guard_target = ¬(k0_cond2 _ _ = _); exact h2) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

/-- What it stores covers the tile. -/
theorem runFree_cover (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : ¬ k0_cond1 i (word (F := F) xt1) = 1#1) (h2 : k0_cond2 i (word (F := F) xt1) = 1#1) (y : S512x1024.Idx) :
    ∃ pc ∈ (runFree c i arg3 harg3 arg4 harg4 arg5 harg5 arg6 harg6 arg7 harg7 x0 x1 x2 x3 xt0 xt1 h1 h2).1, y ∈ pc.1.set :=
  View.cover_of_tiledL (runFree c i arg3 harg3 arg4 harg4 arg5 harg5 arg6 harg6 arg7 harg7 x0 x1 x2 x3 xt0 xt1 h1 h2).1 S512x1024.size (by sl_kernel_rfl) y

/-- The tile it leaves. -/
def runFree_out (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec F S512x1024 .f32) (x1 : Vec F S1x1x1024x512 .f32) (x2 : Vec F S1x1x1024x512 .f32) (x3 : Vec F S1x1x512x1024 .f32)
    (xt0 : TbBuf (F := F) c tbM0) (xt1 : TbBuf (F := F) c tbM1)
    (h1 : ¬ k0_cond1 i (word (F := F) xt1) = 1#1) (h2 : k0_cond2 i (word (F := F) xt1) = 1#1) : Vec F S512x1024 .f32 :=
  VO.read (Elt F) (VO.writes (Elt F) VO.junk (runFree c i arg3 harg3 arg4 harg4 arg5 harg5 arg6 harg6 arg7 harg7 x0 x1 x2 x3 xt0 xt1 h1 h2).1)

/-- The tile in the output's staging buffer after the body at point `t`. -/
def outAt (hO : Ok m) (c : Dev nD) (t : Fin (cfgM m hO).N) : Vec F S512x1024 .f32 :=
  if h : k0_cond1 (grid0.coords t) (word (F := F) (c := c) (tbl m 1)) = 1#1 then
    runUsed_out c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h (fun h2 => (cond2_iff _ _).mp h2 h)
  else
    runFree_out c (grid0.coords t) (ms0 m hO t) (hs0 m hO t) (ms1 m hO t) (hs1 m hO t) (ms2 m hO t) (hs2 m hO t) (ms3 m hO t) (hs3 m hO t) (ms4 m hO t) (hs4 m hO t) (iblk m hO c 0 t) (iblk m hO c 1 t) (iblk m hO c 2 t) (iblk m hO c 3 t) (tbl m 0) (tbl m 1) h ((cond2_iff _ _).mpr h)

/-! ## The pipeline's proof data -/

/-- The arrays as the call finds them; after the body at point `t` each operand's block in its buffer and the tile in the
    output's; the tables' halves and what the body does not touch; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

/-- The arrays are those the call finds. -/
theorem A_eq (hO : Ok m) (c : Dev nD) (w : Fin (cfgM m hO).W) : (dats m hO 0 c).A w = V m c (Pipeline.arrRef spec0 w) := by
  dsimp only [dats]
/-- What the body leaves in window 0's buffer. -/
theorem after0 (hO : Ok m) (c : Dev nD) (t : Fin (cfgM m hO).N) : (dats m hO 0 c).after 0 t = iblk m hO c 0 t := by dsimp only [dats]; try rfl
/-- What the body leaves in window 1's buffer. -/
theorem after1 (hO : Ok m) (c : Dev nD) (t : Fin (cfgM m hO).N) : (dats m hO 0 c).after 1 t = iblk m hO c 1 t := by dsimp only [dats]; try rfl
/-- What the body leaves in window 2's buffer. -/
theorem after2 (hO : Ok m) (c : Dev nD) (t : Fin (cfgM m hO).N) : (dats m hO 0 c).after 2 t = iblk m hO c 2 t := by dsimp only [dats]; try rfl
/-- What the body leaves in window 3's buffer. -/
theorem after3 (hO : Ok m) (c : Dev nD) (t : Fin (cfgM m hO).N) : (dats m hO 0 c).after 3 t = iblk m hO c 3 t := by dsimp only [dats]; try rfl
/-- What the body leaves in window 4's buffer. -/
theorem after4 (hO : Ok m) (c : Dev nD) (t : Fin (cfgM m hO).N) : (dats m hO 0 c).after 4 t = outAt m hO c t := by dsimp only [dats]; try rfl
/-- What the body finds in window 0's buffer. -/
theorem before0 (hO : Ok m) (c : Dev nD) (t : Fin (cfgM m hO).N) (d) : (dats m hO 0 c).before 0 t d = iblk m hO c 0 t :=
  before0_0_of m hO (dats m hO 0 c) (A_eq m hO c 0) (after0 m hO c) t d
/-- What the body finds in window 1's buffer. -/
theorem before1 (hO : Ok m) (c : Dev nD) (t : Fin (cfgM m hO).N) (d) : (dats m hO 0 c).before 1 t d = iblk m hO c 1 t :=
  before0_1_of m hO (dats m hO 0 c) (A_eq m hO c 1) (after1 m hO c) t d
/-- What the body finds in window 2's buffer. -/
theorem before2 (hO : Ok m) (c : Dev nD) (t : Fin (cfgM m hO).N) (d) : (dats m hO 0 c).before 2 t d = iblk m hO c 2 t :=
  before0_2_of m hO (dats m hO 0 c) (A_eq m hO c 2) (after2 m hO c) t d
/-- What the body finds in window 3's buffer. -/
theorem before3 (hO : Ok m) (c : Dev nD) (t : Fin (cfgM m hO).N) (d) : (dats m hO 0 c).before 3 t d = iblk m hO c 3 t :=
  before0_3_of m hO (dats m hO 0 c) (A_eq m hO c 3) (after3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point, in use or not. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  by_cases h1 : k0_cond1 (grid0.coords t) (word (F := F) (c := c) (tbl m 1)) = 1#1
  · have h2 : ¬ k0_cond2 (grid0.coords t) (word (F := F) (c := c) (tbl m 1)) = 1#1 := fun h2 => (cond2_iff _ _).mp h2 h1
    rw [show outAt m hO c t = _ from dif_pos h1]
    unfold runUsed_out
    iintro ⟨⟨HΦ, ⟨HT0, HT1⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (iblk m hO c 0 t) (iblk m hO c 1 t) (iblk m hO c 2 t) (iblk m hO c 3 t) (tbl m 0) (tbl m 1) h1 h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (runUsed_cover c _ _ _ _ _ _ _ _ _ _ _ _ _ _ _ _ _ h1 h2)
  · have h2 : k0_cond2 (grid0.coords t) (word (F := F) (c := c) (tbl m 1)) = 1#1 := (cond2_iff _ _).mpr h1
    rw [show outAt m hO c t = _ from dif_neg h1]
    unfold runFree_out
    iintro ⟨⟨HΦ, ⟨HT0, HT1⟩⟩, Ho, ⟨%d0, H0⟩, ⟨%d1, H1⟩, ⟨%d2, H2⟩, ⟨%d3, H3⟩, ⟨%d4, H4⟩⟩
    iapply ((runFree c (grid0.coords t) _ _ _ _ _ _ _ _ _ _ (iblk m hO c 0 t) (iblk m hO c 1 t) (iblk m hO c 2 t) (iblk m hO c 3 t) (tbl m 0) (tbl m 1) h1 h2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (runFree_cover c _ _ _ _ _ _ _ _ _ _ _ _ _ _ _ _ _ h1 h2)

/-- The pipeline's call of the body at point `t` is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the pipeline asks of the body, at every point. -/
theorem body_obligation (hO : Ok m) (c : Dev nD) : BodyObligation (dats (F := F) m hO 0 c) (defs₀ (F := F)) Variants.none () Set.univ := fun t => by
  rw [bigSep_W0, bigSep_W0, defs₀_row m hO]
  rewrite [idle4 m hO]
  exact triple_restated (sound_body m hO c t) rfl .rfl fun _ => .rfl

/-! ## The run and the frame -/

set_option backward.isDefEq.respectTransparency.types false in
/-- Every execution ends, with the arrays at what the pipeline leaves and every semaphore at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every execution ends, with every semaphore at zero and the arguments unchanged. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

end Cert.ExpertsIdeal.Tiles

end
-- ==== Proof.ExpertsTable.lean ====
module

public import proofs.«01_k».proof.Proof.ExpertsRun
public import proofs.«01_k».proof.Proof.Gen.Pre_experts_named
public import Idealize.ShloMosaic.Lib.ReduceAll
public import Idealize.ShloMosaic.Lib.ValueIdx

/-!
  What the precondition of the experts' call says: every word of the table of the tiles' experts names one of the 32
  experts. So the blocks of the weights that the table names lie inside the arrays of weights, at every point.
-/

@[expose] public section

set_option maxRecDepth 16384

noncomputable section

namespace Cert.ExpertsIdeal.Tiles

open Cert.ExpertsIdeal.Gen
open Idealize.ShloMosaic Idealize.ShloMosaic.TcCoe Idealize.SL.Sem

variable {F : FTy → Type} [FloatOps F]

/-- A word between 0 and 31, read as a signed number, is below 32 read as a natural number. -/
theorem word_lt (w : BitVec 32) (h0 : IntOp.cmpi .sge w 0#32 = 1#1) (h1 : IntOp.cmpi .slt w 32#32 = 1#1) : w.toNat < 32 := by
  have e (p : Bool) : (BitVec.ofBool p = 1#1) ↔ p = true := by cases p <;> decide
  simp only [e, IntOp.cmpi, BitVec.sle, BitVec.slt, decide_eq_true_eq, BitVec.toInt, BitVec.toNat_ofNat] at h0 h1
  have := w.isLt
  split_ifs at h0 h1 <;> omega

/-- The precondition, read: every word of the table is below 32. -/
theorem named_read [Cert.Pre_experts_named.Facts] (x0 : IVec S256 32) (x1 : IVec S128 32) (x2 : FVec F S49152x1024 .f32)
    (x3 x4 : FVec F S2x32x1024x512 .f32) (x5 : FVec F S2x32x512x1024 .f32)
    (h : Cert.Pre_experts_named.fn (F := F) x0 x1 x2 x3 x4 x5 = fun _ => 1#1) (i : S256.Idx) : (x0 i).toNat < 32 := by
  have h := congrFun h ValueIdx.ix0
  unfold Cert.Pre_experts_named.fn at h
  obtain ⟨h0, h1⟩ := IntOp.andi_eq_one.1 h
  haveI : Subsingleton Cert.Pre_experts_named.S_.Idx := ⟨fun a b => funext fun k => k.elim0⟩
  exact word_lt _ (Host.reduce_andi_all _ _ _ _ _ h0 i) (Host.reduce_andi_all _ _ _ _ _ h1 i)

variable (m : (ℓ : Loc nD τ sig) → Buf (Elt F) ℓ)

/-- Under the precondition the table names blocks inside the arrays at every point. -/
theorem ok_of_named (h : ∀ i : S256.Idx, (tbl m 0 i : BitVec 32).toNat < 32) : Ok m := by
  have hw (i : grid0.Coords) : ((tbl m).at 0 (Rect.unit (s := S256) (k0_off1 i) S1.size (k0_off1_inb i)) numel1_S1 : BitVec 32).toNat < 32 := h _
  refine ⟨fun i => ⟨fun a => ?_, Or.inl rfl⟩, fun i => ⟨fun a => ?_, Or.inl rfl⟩, fun i => ⟨fun a => ?_, Or.inl rfl⟩⟩
  · match a with
    | ⟨0, _⟩ => show (0 + 1) * 1 ≤ 2; omega
    | ⟨1, _⟩ => have := hw i; show (((tbl m).at 0 (Rect.unit (s := S256) (k0_off1 i) S1.size (k0_off1_inb i)) numel1_S1 : BitVec 32).toNat + 1) * 1 ≤ 32; omega
    | ⟨2, _⟩ => show (0 + 1) * 1024 ≤ 1024; omega
    | ⟨3, _⟩ => show (0 + 1) * 512 ≤ 512; omega
  · match a with
    | ⟨0, _⟩ => show (0 + 1) * 1 ≤ 2; omega
    | ⟨1, _⟩ => have := hw i; show (((tbl m).at 0 (Rect.unit (s := S256) (k0_off1 i) S1.size (k0_off1_inb i)) numel1_S1 : BitVec 32).toNat + 1) * 1 ≤ 32; omega
    | ⟨2, _⟩ => show (0 + 1) * 1024 ≤ 1024; omega
    | ⟨3, _⟩ => show (0 + 1) * 512 ≤ 512; omega
  · match a with
    | ⟨0, _⟩ => show (0 + 1) * 1 ≤ 2; omega
    | ⟨1, _⟩ => have := hw i; show (((tbl m).at 0 (Rect.unit (s := S256) (k0_off1 i) S1.size (k0_off1_inb i)) numel1_S1 : BitVec 32).toNat + 1) * 1 ≤ 32; omega
    | ⟨2, _⟩ => show (0 + 1) * 512 ≤ 512; omega
    | ⟨3, _⟩ => show (0 + 1) * 1024 ≤ 1024; omega

end Cert.ExpertsIdeal.Tiles

end
-- ==== Proof.ExpertsRef.lean ====
module

public import proofs.«01_k».proof.Proof.Gen.ExpertsRefIdeal.Read
public import proofs.«01_k».proof.Proof.ProjSpec
public import Idealize.ShloMosaic.Lib.Pointwise
public import Idealize.ShloMosaic.Lib.KernelVsHost

/-!
  The reference of the experts' call, read entry by entry: the gated linear unit of a row by the weights of its tile's
  expert where the tile is in use, and zero elsewhere.
-/

@[expose] public section

set_option maxRecDepth 16384

noncomputable section

namespace Cert.Router

open Idealize.ShloMosaic

/-- The gated linear unit of a row: the products with the two first weights, one through `z · logistic z`, multiplied
    entry by entry, and the product of that with the last weight. -/
def unitRow (x : Fin 1024 → EReal) (wg wu : Fin 1024 → Fin 512 → EReal) (wd : Fin 512 → Fin 1024 → EReal) (l : Fin 1024) : EReal :=
  ∑ h : Fin 512, (projRow x wg h * Ideal.logistic (projRow x wg h) * projRow x wu h) * wd h l

end Cert.Router

namespace Cert.ExpertsRefIdeal.Rows

open Idealize.ShloMosaic Idealize.ShloMosaic.TcCoe Idealize.SL.Sem
open Cert.ExpertsRefIdeal Cert.ExpertsRefIdeal.Read Cert.Router

/-! ## A gather along the first of three axes -/

section Gather
variable {α : Type}

/-- The dimension numbers of a gather of whole matrices `[A, B]` out of `N` of them, one named by each of `R` indices. -/
abbrev matDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- An entry of such a gather: the entry of the matrix the index names, the index read as a signed number and moved to
    the nearest of the `N`. -/
theorem gather_mat {N A B R : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B) :
    Host.gather (matDims N A B R wf) x idx (ix3 r a b) = x (ix3 ⟨min (idx (ix2 r 0)).toInt.toNat (N - 1), by omega⟩ a b) := by
  unfold Host.gather
  congr 1
  funext k
  refine Fin.ext ?_
  show (matDims N A B R wf).start (ix3 r a b) idx k + (matDims N A B R wf).batchCoord (ix3 r a b) k + (matDims N A B R wf).offCoord (ix3 r a b) k = _
  rw [GatherDims.batchCoord_eq_zero _ _ _ List.not_mem_nil, Nat.add_zero]
  have h012 : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matDims N A B R wf).startIndexMap from List.mem_singleton.mpr rfl)]
    have hsi : (matDims N A B R wf).siIdx (ix3 r a b) ⟨List.idxOf (0 : Fin 3) (matDims N A B R wf).startIndexMap,
        List.idxOf_lt_length_iff.2 (List.mem_singleton.mpr rfl)⟩ = ix2 r 0 := by
      funext q; refine Fin.ext ?_
      match q with
      | ⟨0, _⟩ => rfl
      | ⟨1, _⟩ => rfl
    rw [hsi]
    rfl
  · unfold GatherDims.start
    rw [dif_neg (show (1 : Fin 3) ∉ (matDims N A B R wf).startIndexMap from fun h => (by decide : ¬ (1 : Fin 3) = 0) (List.mem_singleton.mp h)), Nat.zero_add]
    rfl
  · unfold GatherDims.start
    rw [dif_neg (show (2 : Fin 3) ∉ (matDims N A B R wf).startIndexMap from fun h => (by decide : ¬ (2 : Fin 3) = 0) (List.mem_singleton.mp h)), Nat.zero_add]
    rfl

end Gather

variable (x0 : IVec S256 32) (x1 : IVec S128 32) (x2 : FVec Ideal S49152x1024 .f32) (x3 x4 : FVec Ideal S2x32x1024x512 .f32)
  (x5 : FVec Ideal S2x32x512x1024 .f32)

/-- The expert of a tile. -/
def expertOf (hx : ∀ i : S256.Idx, (x0 i).toNat < 32) (t : Fin 96) : Fin 32 := ⟨(x0 (ix1 ⟨t.val, by omega⟩)).toNat, hx _⟩

/-- A word below 32 is what it is read as after the step that moves negative numbers up by 32. -/
theorem word_read (w : BitVec 32) (hw : w.toNat < 32) : min (Scalar.select (IntOp.cmpi .slt w 0#32) (IntOp.addi w 32#32) w).toInt.toNat (32 - 1) = w.toNat := by
  have h0 : IntOp.cmpi .slt w 0#32 = 0#1 := by
    unfold IntOp.cmpi
    rw [show w.slt 0#32 = false from by
      simp only [BitVec.slt, BitVec.toInt, BitVec.toNat_ofNat, decide_eq_false_iff_not]
      split_ifs <;> omega]
    rfl
  rw [h0, show Scalar.select (0#1) (IntOp.addi w 32#32) w = w from rfl]
  simp only [BitVec.toInt]
  split_ifs <;> omega

/-- The rows of a tile. -/
theorem ref_v1 (t : Fin 96) (r : Fin 512) (k : Fin 1024) : val_main_v1 (F := Ideal) x2 (ix3 t r k) = x2 (ix2 ⟨t.val * 512 + r.val, by omega⟩ k) := by
  rw [val_main_v1_apply]
  congr 1
  funext a
  apply Fin.ext
  match a with
  | ⟨0, _⟩ => show ((t.val * 512 + r.val) * 1024 + k.val) / 1024 = t.val * 512 + r.val; omega
  | ⟨1, _⟩ => show ((t.val * 512 + r.val) * 1024 + k.val) % 1024 = k.val; omega

/-- The weights of the first layer's experts: of the gate, -/
theorem ref_v3 (e : Fin 32) (k : Fin 1024) (h : Fin 512) : val_main_v3 (F := Ideal) x3 (ix3 e k h) = x3 (ix4 0 e k h) := by
  rw [val_main_v3_apply, val_main_v2_apply]
  congr 1
  funext a
  apply Fin.ext
  match a with
  | ⟨0, _⟩ => rfl
  | ⟨1, _⟩ => show ((e.val * 1024 + k.val) * 512 + h.val) / 524288 % 32 = e.val; omega
  | ⟨2, _⟩ => show ((e.val * 1024 + k.val) * 512 + h.val) / 512 % 1024 = k.val; omega
  | ⟨3, _⟩ => show ((e.val * 1024 + k.val) * 512 + h.val) % 512 = h.val; omega

/-- of the product with it, -/
theorem ref_v12 (e : Fin 32) (k : Fin 1024) (h : Fin 512) : val_main_v12 (F := Ideal) x4 (ix3 e k h) = x4 (ix4 0 e k h) := by
  rw [val_main_v12_apply, val_main_v11_apply]
  congr 1
  funext a
  apply Fin.ext
  match a with
  | ⟨0, _⟩ => rfl
  | ⟨1, _⟩ => show ((e.val * 1024 + k.val) * 512 + h.val) / 524288 % 32 = e.val; omega
  | ⟨2, _⟩ => show ((e.val * 1024 + k.val) * 512 + h.val) / 512 % 1024 = k.val; omega
  | ⟨3, _⟩ => show ((e.val * 1024 + k.val) * 512 + h.val) % 512 = h.val; omega

/-- and of the last product. -/
theorem ref_v21 (e : Fin 32) (h : Fin 512) (l : Fin 1024) : val_main_v21 (F := Ideal) x5 (ix3 e h l) = x5 (ix4 0 e h l) := by
  rw [val_main_v21_apply, val_main_v20_apply]
  congr 1
  funext a
  apply Fin.ext
  match a with
  | ⟨0, _⟩ => rfl
  | ⟨1, _⟩ => show ((e.val * 512 + h.val) * 1024 + l.val) / 524288 % 32 = e.val; omega
  | ⟨2, _⟩ => show ((e.val * 512 + h.val) * 1024 + l.val) / 1024 % 512 = h.val; omega
  | ⟨3, _⟩ => show ((e.val * 512 + h.val) * 1024 + l.val) % 1024 = l.val; omega

variable (hx : ∀ i : S256.Idx, (x0 i).toNat < 32)

/-- The tiles' words, read. -/
theorem ref_v9 (t : Fin 96) : min (val_main_v9 (F := Ideal) x0 (ix2 t 0)).toInt.toNat (32 - 1) = (expertOf x0 hx t).val := by
  rw [val_main_v9_apply, val_main_v8_apply, val_main_v7_apply, val_main_v5_apply, val_main_v0_apply, val_main_v4_apply, val_main_v6_apply]
  have e : idx_main_v0 (idx_main_v9 (ix2 t 0)) = ix1 ⟨t.val, by omega⟩ := by
    funext a
    match a with
    | ⟨0, _⟩ => rfl
  rw [e]
  exact word_read _ (hx _)

/-- The second gather's start index is the tile's expert, -/
theorem ref_v18 (t : Fin 96) : min (val_main_v18 (F := Ideal) x0 (ix2 t 0)).toInt.toNat (32 - 1) = (expertOf x0 hx t).val :=
  ref_v9 x0 hx t

/-- and so is the third's. -/
theorem ref_v27 (t : Fin 96) : min (val_main_v27 (F := Ideal) x0 (ix2 t 0)).toInt.toNat (32 - 1) = (expertOf x0 hx t).val :=
  ref_v9 x0 hx t

/-- The weights of a tile's expert: of the gate, -/
theorem ref_v10 (t : Fin 96) (k : Fin 1024) (h : Fin 512) : val_main_v10 (F := Ideal) x0 x3 (ix3 t k h) = x3 (ix4 0 (expertOf x0 hx t) k h) := by
  unfold val_main_v10
  refine (gather_mat (by decide) Facts₀.gather_S32x1024x512_S96x1_S96x1024x512_12_0_n_n_0_1_11024512_wf _ _ t k h).trans ?_
  rw [ref_v3]
  congr 1
  exact congrArg (fun e => ix4 0 e k h) (Fin.ext (ref_v9 x0 hx t))

/-- of the product with it, -/
theorem ref_v19 (t : Fin 96) (k : Fin 1024) (h : Fin 512) : val_main_v19 (F := Ideal) x0 x4 (ix3 t k h) = x4 (ix4 0 (expertOf x0 hx t) k h) := by
  unfold val_main_v19
  refine (gather_mat (by decide) Facts₀.gather_S32x1024x512_S96x1_S96x1024x512_12_0_n_n_0_1_11024512_wf _ _ t k h).trans ?_
  rw [ref_v12]
  congr 1
  exact congrArg (fun e => ix4 0 e k h) (Fin.ext (ref_v18 x0 hx t))

/-- and of the last product. -/
theorem ref_v28 (t : Fin 96) (h : Fin 512) (l : Fin 1024) : val_main_v28 (F := Ideal) x0 x5 (ix3 t h l) = x5 (ix4 0 (expertOf x0 hx t) h l) := by
  unfold val_main_v28
  refine (gather_mat (by decide) Facts₀.gather_S32x512x1024_S96x1_S96x512x1024_12_0_n_n_0_1_15121024_wf _ _ t h l).trans ?_
  rw [ref_v21]
  congr 1
  exact congrArg (fun e => ix4 0 e h l) (Fin.ext (ref_v27 x0 hx t))

/-- The first product, -/
theorem ref_v29 (t : Fin 96) (r : Fin 512) (h : Fin 512) : val_main_v29 (F := Ideal) x0 x2 x3 (ix3 t r h)
    = projRow (fun k => x2 (ix2 ⟨t.val * 512 + r.val, by omega⟩ k)) (fun k h => x3 (ix4 0 (expertOf x0 hx t) k h)) h := by
  unfold projRow
  rw [val_main_v29_apply]
  refine Finset.sum_congr rfl fun k _ => ?_
  refine congrArg₂ (· * ·) (Eq.trans (congrArg _ ?_) (ref_v1 x2 t r k)) (Eq.trans (congrArg _ ?_) (ref_v10 x0 x3 hx t k h))
  all_goals
    funext a
    match a with
    | ⟨0, _⟩ => rfl
    | ⟨1, _⟩ => rfl
    | ⟨2, _⟩ => rfl

/-- the second, -/
theorem ref_v31 (t : Fin 96) (r : Fin 512) (h : Fin 512) : val_main_v31 (F := Ideal) x0 x2 x4 (ix3 t r h)
    = projRow (fun k => x2 (ix2 ⟨t.val * 512 + r.val, by omega⟩ k)) (fun k h => x4 (ix4 0 (expertOf x0 hx t) k h)) h := by
  unfold projRow
  rw [val_main_v31_apply]
  refine Finset.sum_congr rfl fun k _ => ?_
  refine congrArg₂ (· * ·) (Eq.trans (congrArg _ ?_) (ref_v1 x2 t r k)) (Eq.trans (congrArg _ ?_) (ref_v19 x0 x4 hx t k h))
  all_goals
    funext a
    match a with
    | ⟨0, _⟩ => rfl
    | ⟨1, _⟩ => rfl
    | ⟨2, _⟩ => rfl

/-- the gated entries -/
theorem ref_v32 (j : S96x512x512.Idx) : val_main_v32 (F := Ideal) x0 x2 x3 x4 j
    = val_main_v29 (F := Ideal) x0 x2 x3 j * Ideal.logistic (val_main_v29 (F := Ideal) x0 x2 x3 j) * val_main_v31 (F := Ideal) x0 x2 x4 j := by
  rw [← logistic_words, val_main_v32_apply, val_main_v30_apply, val_main_call0_v5_apply, val_main_call0_v4_apply, val_main_call0_v3_apply,
    val_main_call0_v2_apply, val_main_call0_v1_apply, val_main_call0_v0_apply, val_main_call0_cst_apply, val_main_call0_cst_0_apply]
  rfl

/-- and the last product. -/
theorem ref_v33 (t : Fin 96) (r : Fin 512) (l : Fin 1024) : val_main_v33 (F := Ideal) x0 x2 x3 x4 x5 (ix3 t r l)
    = unitRow (fun k => x2 (ix2 ⟨t.val * 512 + r.val, by omega⟩ k)) (fun k h => x3 (ix4 0 (expertOf x0 hx t) k h))
      (fun k h => x4 (ix4 0 (expertOf x0 hx t) k h)) (fun h l => x5 (ix4 0 (expertOf x0 hx t) h l)) l := by
  unfold unitRow
  rw [val_main_v33_apply]
  refine Finset.sum_congr rfl fun h _ => ?_
  refine congrArg₂ (· * ·) ?_ (Eq.trans (congrArg _ ?_) (ref_v28 x0 x5 hx t h l))
  · rw [ref_v32, ← ref_v29 x0 x2 x3 hx t r h, ← ref_v31 x0 x2 x4 hx t r h]
    have e : lidx_main_v33 (ix3 t r l) h = ix3 t r h := by
      funext a
      match a with
      | ⟨0, _⟩ => rfl
      | ⟨1, _⟩ => rfl
      | ⟨2, _⟩ => rfl
    rw [e]
  · funext a
    match a with
    | ⟨0, _⟩ => rfl
    | ⟨1, _⟩ => rfl
    | ⟨2, _⟩ => rfl

/-- Whether a tile is in use. -/
def used (t : Fin 96) : BitVec 1 := IntOp.cmpi .slt (BitVec.ofNat 32 t.val) (x1 (ix1 0))

/-- The number of tiles in use. -/
theorem ref_v36 (j : S_.Idx) : val_main_v36 (F := Ideal) x1 j = x1 (ix1 0) := by
  unfold val_main_v36
  refine (shapeCast_apply (s := S1) _ _ (k := ix1 0) (j := j) ?_).trans ?_
  · have h1 := (S1.rowMajor (ix1 0)).isLt
    have h2 := (S_.rowMajor j).isLt
    have e1 : S1.numel = 1 := by decide
    have e2 : S_.numel = 1 := by decide
    omega
  · rw [val_main_v35_apply]
    congr 1
    funext a
    match a with
    | ⟨0, _⟩ => rfl

/-- The mask over the rows is that of the row's tile. -/
theorem ref_mask (t : Fin 96) (r : Fin 512) (l : Fin 1024) : val_main_call1_v1 (F := Ideal) x1 (ix3 t r l) = used x1 t := by
  rw [val_main_call1_v1_apply, val_main_v39_apply, val_main_v38_apply, val_main_v34_apply, val_main_v37_apply, ref_v36]
  rfl

/-- The result, entry by entry. -/
theorem ref_v41 (i : Fin 49152) (l : Fin 1024) : val_main_v41 (F := Ideal) x0 x1 x2 x3 x4 x5 (ix2 i l)
    = if used x1 ⟨i.val / 512, by omega⟩ = 1#1 then
        unitRow (fun k => x2 (ix2 i k)) (fun k h => x3 (ix4 0 (expertOf x0 hx ⟨i.val / 512, by omega⟩) k h))
          (fun k h => x4 (ix4 0 (expertOf x0 hx ⟨i.val / 512, by omega⟩) k h)) (fun h l => x5 (ix4 0 (expertOf x0 hx ⟨i.val / 512, by omega⟩) h l)) l
      else 0 := by
  rw [val_main_v41_apply]
  have e : idx_main_v41 (ix2 i l) = ix3 ⟨i.val / 512, by omega⟩ ⟨i.val % 512, by omega⟩ l := by
    funext a
    apply Fin.ext
    match a with
    | ⟨0, _⟩ => show (i.val * 1024 + l.val) / 524288 = i.val / 512; omega
    | ⟨1, _⟩ => show (i.val * 1024 + l.val) / 1024 % 512 = i.val % 512; omega
    | ⟨2, _⟩ => show (i.val * 1024 + l.val) % 1024 = l.val; omega
  rw [e, val_main_v40_apply, ref_mask, ref_v33 x0 x2 x3 x4 x5 hx, val_main_call1_v2_apply, val_main_call1_v0_apply, val_main_cst_apply]
  have er : (⟨i.val / 512 * 512 + i.val % 512, by omega⟩ : Fin 49152) = i := Fin.ext (by show i.val / 512 * 512 + i.val % 512 = i.val; omega)
  have ez : (FloatOps.ofBits (F := Ideal) .f32 0x00000000#32 : EReal) = 0 := Ideal.ofBits_zero_f32
  rw [ez]
  simp only [er]
  rfl

end Cert.ExpertsRefIdeal.Rows

end
-- ==== Proof.ExpertsValue.lean ====
module

public import proofs.«01_k».proof.Proof.Gen.Experts
public import proofs.«01_k».proof.Proof.Gen.Pre_experts_named
public import proofs.«01_k».proof.Proof.ExpertsTable
public import proofs.«01_k».proof.Proof.ExpertsRef
public import Idealize.ShloMosaic.Lib.VecWindow

/-!
  The values of the experts' call: each tile of the result is the gated linear unit of the tile's rows by the weights of
  the tile's expert where the tile is in use, and zero elsewhere. So the whole result is the reference's.
-/

@[expose] public section

set_option maxRecDepth 16384

noncomputable section

namespace Cert.ExpertsIdeal.Tiles

open Cert.ExpertsIdeal.Gen
open Idealize.ShloMosaic Idealize.ShloMosaic.TcCoe Idealize.SL.Sem
open Idealize.ShloMosaic.Pipeline (Dat Cfg Window)
open Cert.Router Cert.ExpertsRefIdeal.Rows

/-! ## The body's tile -/

/-- The tile a body leaves at a point in use is its payload of the blocks. -/
theorem used_eq (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec Ideal S512x1024 .f32) (x1 : Vec Ideal S1x1x1024x512 .f32) (x2 : Vec Ideal S1x1x1024x512 .f32) (x3 : Vec Ideal S1x1x512x1024 .f32)
    (xt0 : TbBuf (F := Ideal) c tbM0) (xt1 : TbBuf (F := Ideal) c tbM1)
    (h1 : k0_cond1 i (word (F := Ideal) xt1) = 1#1) (h2 : ¬ k0_cond2 i (word (F := Ideal) xt1) = 1#1) :
    runUsed_out c i arg3 harg3 arg4 harg4 arg5 harg5 arg6 harg6 arg7 harg7 x0 x1 x2 x3 xt0 xt1 h1 h2 = k0_pay1 x0 x1 x2 x3 := by
  unfold runUsed_out runUsed
  dsimp only
  refine (View.read_writes_full VO _ inb_S512x1024_S512x1024_0_0 _ []).trans ?_
  have e0 := (View.readAt_full arg3.view (harg3.unread x0) inb_S512x1024_S512x1024_0_0).trans (harg3.read_unread x0)
  have e1 := (View.readAt_full arg4.view (harg4.unread x1) inb_S1x1x1024x512_S1x1x1024x512_0_0_0_0).trans (harg4.read_unread x1)
  have e2 := (View.readAt_full arg5.view (harg5.unread x2) inb_S1x1x1024x512_S1x1x1024x512_0_0_0_0).trans (harg5.read_unread x2)
  have e3 := (View.readAt_full arg6.view (harg6.unread x3) inb_S1x1x512x1024_S1x1x512x1024_0_0_0_0).trans (harg6.read_unread x3)
  exact congr (congr (congr (congrArg k0_pay1 e0) e1) e2) e3

/-- The tile it leaves at any other point is zeros. -/
theorem free_eq (c : Dev nD) (i : grid0.Coords) (arg3 : Memref sig .tc .vmem S512x1024 .f32) (harg3 : arg3.IsWhole) (arg4 : Memref sig .tc .vmem S1x1x1024x512 .f32) (harg4 : arg4.IsWhole)
    (arg5 : Memref sig .tc .vmem S1x1x1024x512 .f32) (harg5 : arg5.IsWhole) (arg6 : Memref sig .tc .vmem S1x1x512x1024 .f32) (harg6 : arg6.IsWhole)
    (arg7 : Memref sig .tc .vmem S512x1024 .f32) (harg7 : arg7.IsWhole)
    (x0 : Vec Ideal S512x1024 .f32) (x1 : Vec Ideal S1x1x1024x512 .f32) (x2 : Vec Ideal S1x1x1024x512 .f32) (x3 : Vec Ideal S1x1x512x1024 .f32)
    (xt0 : TbBuf (F := Ideal) c tbM0) (xt1 : TbBuf (F := Ideal) c tbM1)
    (h1 : ¬ k0_cond1 i (word (F := Ideal) xt1) = 1#1) (h2 : k0_cond2 i (word (F := Ideal) xt1) = 1#1) :
    runFree_out c i arg3 harg3 arg4 harg4 arg5 harg5 arg6 harg6 arg7 harg7 x0 x1 x2 x3 xt0 xt1 h1 h2 = k0_pay2 (F := Ideal) := by
  unfold runFree_out runFree
  dsimp only
  exact View.read_writes_full VO _ inb_S512x1024_S512x1024_0_0 _ []

/-- A matrix held under two leading axes of one entry. -/
theorem flat_up (x : Vec Ideal S1x1x1024x512 .f32) (k : Fin 1024) (h : Fin 512) :
    shapeCast S1024x512 x shapeCasts_S1x1x1024x512_S1024x512 (ix2 k h) = x (ix4 0 0 k h) :=
  shapeCast_apply _ _ _ _ (by
    rewrite [Shape.rowMajor_val_four, Shape.rowMajor_val_two]
    show ((0 * 1 + 0) * 1024 + k.val) * 512 + h.val = k.val * 512 + h.val
    omega)

/-- The same of the last weights. -/
theorem flat_down (x : Vec Ideal S1x1x512x1024 .f32) (h : Fin 512) (l : Fin 1024) :
    shapeCast S512x1024 x shapeCasts_S1x1x512x1024_S512x1024 (ix2 h l) = x (ix4 0 0 h l) :=
  shapeCast_apply _ _ _ _ (by
    rewrite [Shape.rowMajor_val_four, Shape.rowMajor_val_two]
    show ((0 * 1 + 0) * 512 + h.val) * 1024 + l.val = h.val * 1024 + l.val
    omega)

/-- The payload, entry by entry. -/
theorem pay1_apply (x0 : Vec Ideal S512x1024 .f32) (x1 x2 : Vec Ideal S1x1x1024x512 .f32) (x3 : Vec Ideal S1x1x512x1024 .f32) (r : Fin 512) (l : Fin 1024) :
    k0_pay1 x0 x1 x2 x3 (ix2 r l)
      = unitRow (fun k => x0 (ix2 r k)) (fun k h => x1 (ix4 0 0 k h)) (fun k h => x2 (ix4 0 0 k h)) (fun h l => x3 (ix4 0 0 h l)) l := by
  unfold k0_pay1 unitRow projRow
  simp only [← flat_up, ← flat_down]
  generalize shapeCast S1024x512 x1 shapeCasts_S1x1x1024x512_S1024x512 = y1
  generalize shapeCast S1024x512 x2 shapeCasts_S1x1x1024x512_S1024x512 = y2
  generalize shapeCast S512x1024 x3 shapeCasts_S1x1x512x1024_S512x1024 = y3
  pointwise

/-- The payload at a point out of use is zero. -/
theorem pay2_apply (r : Fin 512) (l : Fin 1024) : k0_pay2 (F := Ideal) (ix2 r l) = 0 := by
  unfold k0_pay2
  exact Ideal.ofBits_zero_f32

/-! ## The tables and the blocks -/

variable (m : (ℓ : Loc nD τ sig) → Buf (Elt Ideal) ℓ)

/-- The tables and the arrays, as the launch memory holds them. -/
abbrev A0 (c : Dev nD) : IVec S256 32 := m ((c : Thread nD τ).loc main_arg0)
abbrev A1 (c : Dev nD) : IVec S128 32 := m ((c : Thread nD τ).loc main_arg1)
abbrev A2 (c : Dev nD) : Vec Ideal S49152x1024 .f32 := m ((c : Thread nD τ).loc main_arg2)
abbrev A3 (c : Dev nD) : Vec Ideal S2x32x1024x512 .f32 := m ((c : Thread nD τ).loc main_arg3)
abbrev A4 (c : Dev nD) : Vec Ideal S2x32x1024x512 .f32 := m ((c : Thread nD τ).loc main_arg4)
abbrev A5 (c : Dev nD) : Vec Ideal S2x32x512x1024 .f32 := m ((c : Thread nD τ).loc main_arg5)

/-- A point's tile. -/
def tileAt (t : Fin grid0.N) : Fin 96 := ⟨t.val, by have := t.isLt; have : grid0.N = 96 := N_0; omega⟩
/-- The row of the whole array that row `r` of point `t`'s tile is. -/
def rowAt (t : Fin grid0.N) (r : Fin 512) : Fin 49152 := ⟨t.val * 512 + r.val, by have := (tileAt t).isLt; have : (tileAt t).val = t.val := rfl; omega⟩

/-- A point's coordinate is its number. -/
theorem coord_val (t : Fin grid0.N) : (grid0.coords t 0).val = t.val := by
  have h : ∀ t : Fin grid0.N, (grid0.coords t 0).val = t.val := by decide +kernel
  exact h t

/-- The second table's first word, as the body loads it. -/
theorem word_eq (c : Dev nD) : word (F := Ideal) (c := c) (tbl m 1) = A1 m c (ix1 0) := by
  obtain rfl : c = 0 := Subsingleton.elim _ _
  show A1 m 0 _ = A1 m 0 _
  congr 1
  funext a
  match a with
  | ⟨0, _⟩ => rfl

/-- The body's condition is that the point's tile is in use. -/
theorem cond1_iff (c : Dev nD) (t : Fin grid0.N) : k0_cond1 (grid0.coords t) (word (F := Ideal) (c := c) (tbl m 1)) = 1#1 ↔ used (A1 m c) (tileAt t) = 1#1 := by
  rw [word_eq]
  unfold k0_cond1 used
  dsimp only
  rw [coord_val]
  show _ ↔ IntOp.cmpi .slt (BitVec.ofNat 32 t.val) (A1 m c (ix1 0)) = 1#1
  generalize hv : IntOp.cmpi .slt (BitVec.ofNat 32 t.val) (A1 m c (ix1 0)) = v
  rw [show Scalar.cmpi .slt (BitVec.ofNat 32 t.val) (A1 m c (ix1 0)) = v from hv]
  clear hv
  revert v
  decide

variable (hx : ∀ c, ∀ i : S256.Idx, (A0 m c i).toNat < 32) (hO : Ok m)

/-- The word of the first table an index map reads. -/
theorem at_eq (c : Dev nD) (t : Fin grid0.N) :
    ((tbl m).at 0 (Rect.unit (s := S256) (k0_off1 (grid0.coords t)) S1.size (k0_off1_inb (grid0.coords t))) numel1_S1 : BitVec 32).toNat = (expertOf (A0 m c) (hx c) (tileAt t)).val := by
  obtain rfl : c = 0 := Subsingleton.elim _ _
  show (A0 m 0 _).toNat = (A0 m 0 _).toNat
  congr 2
  funext a
  apply Fin.ext
  match a with
  | ⟨0, _⟩ =>
    have h : ∀ t : Fin grid0.N, k0_off1 (grid0.coords t) 0 = t.val := by decide +kernel
    show k0_off1 (grid0.coords t) 0 + 1 * 0 = t.val
    rw [h]; omega

/-- The block of the rows. -/
theorem blk0 (c : Dev nD) (t : Fin grid0.N) (r : Fin 512) (k : Fin 1024) :
    (iblk m hO c 0 t : Vec Ideal S512x1024 .f32) (ix2 r k) = A2 m c (ix2 (rowAt t r) k) := by
  have hi : cc0_transform_0 (grid0.coords t) 0 = t.val ∧ cc0_transform_0 (grid0.coords t) 1 = 0 := by
    have h : ∀ t : Fin grid0.N, cc0_transform_0 (grid0.coords t) 0 = t.val ∧ cc0_transform_0 (grid0.coords t) 1 = 0 := by decide +kernel
    exact h t
  unfold iblk
  refine (View.read_apply _ _).trans ?_
  show A2 m c _ = A2 m c _
  congr 1
  funext a
  apply Fin.ext
  match a with
  | ⟨0, _⟩ => show cc0_transform_0 (grid0.coords t) 0 * 512 + 1 * r.val = t.val * 512 + r.val; rw [hi.1]; omega
  | ⟨1, _⟩ => show cc0_transform_0 (grid0.coords t) 1 * 1024 + 1 * k.val = k.val; rw [hi.2]; omega

/-- The block of the gate's weights. -/
theorem blk1 (c : Dev nD) (t : Fin grid0.N) (k : Fin 1024) (h : Fin 512) :
    (iblk m hO c 1 t : Vec Ideal S1x1x1024x512 .f32) (ix4 0 0 k h) = A3 m c (ix4 0 (expertOf (A0 m c) (hx c) (tileAt t)) k h) := by
  unfold iblk
  refine (View.read_apply _ _).trans ?_
  show A3 m c _ = A3 m c _
  congr 1
  funext a
  apply Fin.ext
  match a with
  | ⟨0, _⟩ => rfl
  | ⟨1, _⟩ =>
    show ((tbl m).at 0 (Rect.unit (s := S256) (k0_off1 (grid0.coords t)) S1.size (k0_off1_inb (grid0.coords t))) numel1_S1 : BitVec 32).toNat * 1 + 1 * 0 = (expertOf (A0 m c) (hx c) (tileAt t)).val
    rw [at_eq m hx c t]; omega
  | ⟨2, _⟩ => show 0 * 1024 + 1 * k.val = k.val; omega
  | ⟨3, _⟩ => show 0 * 512 + 1 * h.val = h.val; omega

/-- The block of the other first weights. -/
theorem blk2 (c : Dev nD) (t : Fin grid0.N) (k : Fin 1024) (h : Fin 512) :
    (iblk m hO c 2 t : Vec Ideal S1x1x1024x512 .f32) (ix4 0 0 k h) = A4 m c (ix4 0 (expertOf (A0 m c) (hx c) (tileAt t)) k h) := by
  unfold iblk
  refine (View.read_apply _ _).trans ?_
  show A4 m c _ = A4 m c _
  congr 1
  funext a
  apply Fin.ext
  match a with
  | ⟨0, _⟩ => rfl
  | ⟨1, _⟩ =>
    show ((tbl m).at 0 (Rect.unit (s := S256) (k0_off1 (grid0.coords t)) S1.size (k0_off1_inb (grid0.coords t))) numel1_S1 : BitVec 32).toNat * 1 + 1 * 0 = (expertOf (A0 m c) (hx c) (tileAt t)).val
    rw [at_eq m hx c t]; omega
  | ⟨2, _⟩ => show 0 * 1024 + 1 * k.val = k.val; omega
  | ⟨3, _⟩ => show 0 * 512 + 1 * h.val = h.val; omega

/-- The block of the last weights. -/
theorem blk3 (c : Dev nD) (t : Fin grid0.N) (h : Fin 512) (l : Fin 1024) :
    (iblk m hO c 3 t : Vec Ideal S1x1x512x1024 .f32) (ix4 0 0 h l) = A5 m c (ix4 0 (expertOf (A0 m c) (hx c) (tileAt t)) h l) := by
  unfold iblk
  refine (View.read_apply _ _).trans ?_
  show A5 m c _ = A5 m c _
  congr 1
  funext a
  apply Fin.ext
  match a with
  | ⟨0, _⟩ => rfl
  | ⟨1, _⟩ =>
    show ((tbl m).at 0 (Rect.unit (s := S256) (k0_off1 (grid0.coords t)) S1.size (k0_off1_inb (grid0.coords t))) numel1_S1 : BitVec 32).toNat * 1 + 1 * 0 = (expertOf (A0 m c) (hx c) (tileAt t)).val
    rw [at_eq m hx c t]; omega
  | ⟨2, _⟩ => show 0 * 512 + 1 * h.val = h.val; omega
  | ⟨3, _⟩ => show 0 * 1024 + 1 * l.val = l.val; omega

/-! ## The result -/

/-- The result. -/
def arr (c : Dev nD) : Vec Ideal S49152x1024 .f32 := Cert.ExpertsRefIdeal.Read.val_main_v41 (F := Ideal) (A0 m c) (A1 m c) (A2 m c) (A3 m c) (A4 m c) (A5 m c)

include hx in
/-- What the body leaves at a point. -/
theorem out_eq (c : Dev nD) (t : Fin grid0.N) (r : Fin 512) (l : Fin 1024) : outAt m hO c t (ix2 r l) = arr m c (ix2 (rowAt t r) l) := by
  have et : (⟨(rowAt t r).val / 512, by omega⟩ : Fin 96) = tileAt t := Fin.ext (by show (t.val * 512 + r.val) / 512 = t.val; omega)
  unfold arr
  rw [ref_v41 _ _ _ _ _ _ (hx c)]
  simp only [et]
  unfold outAt
  by_cases h : k0_cond1 (grid0.coords t) (word (F := Ideal) (c := c) (tbl m 1)) = 1#1
  · rw [dif_pos h, if_pos ((cond1_iff m c t).mp h)]
    refine (congrFun (used_eq c _ _ _ _ _ _ _ _ _ _ _ _ _ _ _ _ _ _ _) (ix2 r l)).trans ?_
    refine (pay1_apply _ _ _ _ r l).trans ?_
    exact congrFun (congr (congr (congr (congrArg unitRow (funext fun k => blk0 m hO c t r k)) (funext fun k => funext fun h => blk1 m hx hO c t k h))
      (funext fun k => funext fun h => blk2 m hx hO c t k h)) (funext fun h => funext fun l => blk3 m hx hO c t h l)) l
  · rw [dif_neg h, if_neg fun h' => h ((cond1_iff m c t).mpr h')]
    exact (congrFun (free_eq c _ _ _ _ _ _ _ _ _ _ _ _ _ _ _ _ _ _ _) (ix2 r l)).trans (pay2_apply r l)

/-- The block of the result a point writes. -/
theorem idx4 (t : Fin grid0.N) : cc0_transform_4 (grid0.coords t) 0 = t.val ∧ cc0_transform_4 (grid0.coords t) 1 = 0 := by
  have h : ∀ t : Fin grid0.N, cc0_transform_4 (grid0.coords t) 0 = t.val ∧ cc0_transform_4 (grid0.coords t) 1 = 0 := by decide +kernel
  exact h t

/-- The entry of a whole array that an entry of a point's block is. -/
theorem read_blk4 (G : S49152x1024.Idx → Elt Ideal .f32) (t : Fin (cfgM m hO).N) (r : Fin 512) (l : Fin 1024) :
    (((cfgM m hO).win 4).blk t).view.read (Elt Ideal) G (ix2 r l) = G (ix2 (rowAt t r) l) := by
  refine (View.read_apply _ _).trans ?_
  show G _ = G _
  congr 1
  funext a
  apply Fin.ext
  match a with
  | ⟨0, _⟩ => show cc0_transform_4 (grid0.coords t) 0 * 512 + 1 * r.val = t.val * 512 + r.val; rw [(idx4 t).1]; omega
  | ⟨1, _⟩ => show cc0_transform_4 (grid0.coords t) 1 * 1024 + 1 * l.val = l.val; rw [(idx4 t).2]; omega

include hx in
/-- What a point writes back is its block of the whole array. -/
theorem flushed_eq4 (c : Dev nD) (t : Fin (cfgM m hO).N) :
    (dats m hO 0 c).flushed 4 t = (((cfgM m hO).win 4).blk t).view.read (Elt Ideal) (arr m c) := by
  show ((cfgM m hO).win 4).cut (grid0.coords t) ((dats m hO 0 c).after 4 t) = _
  rw [after4]
  have H : ∀ j : S512x1024.Idx, outAt m hO c t j = (((cfgM m hO).win 4).blk t).view.read (Elt Ideal) (arr m c) j := fun j => by
    obtain ⟨r, l, rfl⟩ : ∃ (r : Fin 512) (l : Fin 1024), j = ix2 r l := ⟨j 0, j 1, eq_ix2 j⟩
    exact (out_eq m hx hO c t r l).trans (read_blk4 m hO (arr m c) t r l).symm
  exact funext H

/-- The rows of a point's block. -/
theorem mem_blk4 (t : Fin (cfgM m hO).N) (i : S49152x1024.Idx) :
    i ∈ (((cfgM m hO).win 4).blk t).view.set ↔ t.val * 512 ≤ (i 0 : Nat) ∧ (i 0 : Nat) < t.val * 512 + 512 := by
  show i ∈ ((View.whole main_v0).slice (((cfgM m hO).win 4).rect t)).set ↔ _
  refine (iff_of_eq (congrArg (i ∈ ·) (View.set_slice_whole (main_v0 : Ref sig .tc) (((cfgM m hO).win 4).rect t)))).trans (Rect.mem_set_unit.trans ?_)
  have h1 : (i 1 : Nat) < 1024 := (i 1).isLt
  refine ⟨fun h => ?_, fun h a => ?_⟩
  · have : cc0_transform_4 (grid0.coords t) 0 * 512 ≤ (i 0 : Nat) ∧ (i 0 : Nat) < cc0_transform_4 (grid0.coords t) 0 * 512 + 512 := h 0
    rw [(idx4 t).1] at this; exact this
  · match a with
    | ⟨0, _⟩ =>
      show cc0_transform_4 (grid0.coords t) 0 * 512 ≤ (i 0 : Nat) ∧ (i 0 : Nat) < cc0_transform_4 (grid0.coords t) 0 * 512 + 512
      rw [(idx4 t).1]; exact h
    | ⟨1, _⟩ =>
      show cc0_transform_4 (grid0.coords t) 1 * 1024 ≤ (i 1 : Nat) ∧ (i 1 : Nat) < cc0_transform_4 (grid0.coords t) 1 * 1024 + 1024
      rw [(idx4 t).2]
      exact ⟨(Nat.zero_mul 1024).trans_le (Nat.zero_le _), h1⟩

/-- The blocks cover the array. -/
theorem cover4 (i : S49152x1024.Idx) : ∃ t : Fin (cfgM m hO).N, ((cfgM m hO).win 4).flush t = true ∧ i ∈ (((cfgM m hO).win 4).blk t).view.set := by
  have h0 : (i 0 : Nat) < 49152 := (i 0).isLt
  have hN : grid0.N = 96 := N_0
  have ht : (i 0 : Nat) / 512 < grid0.N := by omega
  refine ⟨(⟨(i 0 : Nat) / 512, ht⟩ : Fin grid0.N), flush4 m hO _, (mem_blk4 m hO (⟨(i 0 : Nat) / 512, ht⟩ : Fin grid0.N) i).mpr ?_⟩
  show (i 0 : Nat) / 512 * 512 ≤ (i 0 : Nat) ∧ (i 0 : Nat) < (i 0 : Nat) / 512 * 512 + 512
  omega

include hx in
/-- The array after the run. -/
theorem final4 (c : Dev nD) : (dats m hO 0 c).arrAt 4 (cfgM m hO).N = arr m c :=
  (dats m hO 0 c).arrAt_eq_of_cover 4 (arr m c) (fun t _ => flushed_eq4 m hx hO c t) (cover4 m hO)

/-! ## The claims -/

/-- The experts named by the table are below 32, from the precondition of the memory. -/
theorem named_ideal (h : Cert.Pre_ExpertsIdeal m) (c : Dev nD) (i : S256.Idx) : (A0 m c i).toNat < 32 :=
  named_read _ _ _ _ _ _ (h c) i

/-- The kernel's run over the extended reals leaves its arguments as they were. -/
theorem quiescent_ideal : Cert.quiescent_ExpertsIdeal := fun m g hpre =>
  frame (F := Ideal) m g (ok_of_named m (named_ideal m hpre 0))

/-- The two programs' kernel bodies are the same. -/
theorem bodies_eq : Cert.Experts.defs₀ (F := Bits) = Cert.ExpertsIdeal.defs₀ (F := Bits) := by
  unfold Cert.Experts.defs₀ Cert.ExpertsIdeal.defs₀
  refine congrArg Defs.onTc ?_
  funext l x
  match l, x with
  | 0, (t, s) => rfl

/-- So their tables of bodies are. -/
theorem defs_eq : Cert.Experts.defs (F := Bits) = Cert.ExpertsIdeal.defs (F := Bits) :=
  congrArg (Pipeline.defs (Cert.ExpertsIdeal.pcfgs (F := Bits))) bodies_eq

/-- The kernel's run leaves its arguments as they were: the same run, over the machine's floats. -/
theorem quiescent_bits : Cert.quiescent_Experts := fun m g hpre => by
  rw [defs_eq]
  exact frame (F := Bits) m g (ok_of_named m fun i => named_read _ _ _ _ _ _ (hpre 0) i)

/-- The kernel's result is the reference's. -/
theorem algebraic : Cert.algebraic_ExpertsIdeal_ExpertsRefIdeal := by
  intro m g m' g' hpre hargs
  have hx : ∀ c, ∀ i : S256.Idx, (A0 m c i).toNat < 32 := named_ideal m hpre
  have hO : Ok m := ok_of_named m (hx 0)
  refine ⟨arr m, (θ_run defs _ _).mono (fun r h c => ?_) (run_main m g hO), ?_⟩
  · exact ⟨((h.1 c).1 4).trans (final4 m hx hO c), (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩
  refine (θ_run Cert.ExpertsRefIdeal.defs _ _).mono (fun r h c => ?_) (Cert.ExpertsRefIdeal.Value.run m' g')
  obtain ⟨e, hrest⟩ := h c
  obtain ⟨a0, a1, a2, a3, a4, a5⟩ := hargs c
  refine ⟨e.trans ?_, hrest⟩
  exact (Cert.ExpertsRefIdeal.Read.val_main_v41_eq _ _).trans (congr (congr (congr (congr (congr (congrArg _ a0) a1) a2) a3) a4) a5)

end Cert.ExpertsIdeal.Tiles

end
-- ==== Proof.lean ====
module

public import proofs.«01_k».proof.Defs
public import proofs.«01_k».proof.Proof.Gen.ExpertsIdeal.Launch
public import proofs.«01_k».proof.Proof.Gen.ExpertsIdeal.Skeleton
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_experts_named
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputRefIdeal
public import proofs.«01_k».proof.Proof.Gen.InputRefIdeal.Run
public import proofs.«01_k».proof.Proof.Gen.InputRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.Memory
public import proofs.«01_k».proof.Proof.Gen.InputB
public import proofs.«01_k».proof.Proof.Gen.Memory.Skeleton
public import proofs.«01_k».proof.Proof.Gen.InputB.Skeleton
public import proofs.«01_k».proof.Proof.Gen.Memory.Launch
public import proofs.«01_k».proof.Proof.Gen.InputB.Launch
public import proofs.«01_k».proof.Proof.Gen.Memory.Points
public import proofs.«01_k».proof.Proof.Gen.InputB.Points
public import proofs.«01_k».proof.Proof.Gen.Memory.Frame
public import proofs.«01_k».proof.Proof.Gen.InputB.Frame
public import proofs.«01_k».proof.Proof.Gen.MemoryIdeal
public import proofs.«01_k».proof.Proof.Gen.InputBIdeal
public import proofs.«01_k».proof.Proof.Gen.MemoryIdeal.Skeleton
public import proofs.«01_k».proof.Proof.Gen.InputBIdeal.Skeleton
public import proofs.«01_k».proof.Proof.Gen.MemoryIdeal.Launch
public import proofs.«01_k».proof.Proof.Gen.InputBIdeal.Launch
public import proofs.«01_k».proof.Proof.Gen.MemoryIdeal.Points
public import proofs.«01_k».proof.Proof.Gen.InputBIdeal.Points
public import proofs.«01_k».proof.Proof.Gen.MemoryIdeal.Frame
public import proofs.«01_k».proof.Proof.Gen.InputBIdeal.Frame
public import proofs.«01_k».proof.Proof.Gen.MemoryIdeal.Value
public import proofs.«01_k».proof.Proof.Gen.InputBIdeal.Value
public import proofs.«01_k».proof.Proof.Gen.MemoryRefIdeal
public import proofs.«01_k».proof.Proof.Gen.InputBRefIdeal
public import proofs.«01_k».proof.Proof.Gen.MemoryRefIdeal.Run
public import proofs.«01_k».proof.Proof.Gen.InputBRefIdeal.Run
public import proofs.«01_k».proof.Proof.Gen.MemoryRefIdeal.Read
public import proofs.«01_k».proof.Proof.Gen.InputBRefIdeal.Read
public import proofs.«01_k».proof.Proof.Gen.SampleB
public import proofs.«01_k».proof.Proof.Gen.SampleB.Skeleton
public import proofs.«01_k».proof.Proof.Gen.SampleB.Launch
public import proofs.«01_k».proof.Proof.Gen.SampleB.Points
public import proofs.«01_k».proof.Proof.Gen.SampleB.Frame
public import proofs.«01_k».proof.Proof.Gen.SampleBIdeal
public import proofs.«01_k».proof.Proof.Gen.SampleBIdeal.Skeleton
public import proofs.«01_k».proof.Proof.Gen.SampleBIdeal.Launch
public import proofs.«01_k».proof.Proof.Gen.SampleBIdeal.Points
public import proofs.«01_k».proof.Proof.Gen.SampleBIdeal.Frame
public import proofs.«01_k».proof.Proof.Gen.SampleBIdeal.Value
public import proofs.«01_k».proof.Proof.Gen.SampleBRefIdeal
public import proofs.«01_k».proof.Proof.Gen.SampleBRefIdeal.Run
public import proofs.«01_k».proof.Proof.Gen.SampleBRefIdeal.Read
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnIdeal.Value
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Gen.StepRefIdeal.Read
public import proofs.«01_k».proof.Proof.Router
public import proofs.«01_k».proof.Proof.InputValue
public import proofs.«01_k».proof.Proof.SampleValue
public import proofs.«01_k».proof.Proof.InputBValue
public import proofs.«01_k».proof.Proof.SampleBValue
public import proofs.«01_k».proof.Proof.MemoryValue
public import proofs.«01_k».proof.Proof.MemAttnValue
public import proofs.«01_k».proof.Proof.StepValue
public import proofs.«01_k».proof.Proof.ExpertsRun
public import proofs.«01_k».proof.Proof.ExpertsTable
public import proofs.«01_k».proof.Proof.ExpertsRef
public import proofs.«01_k».proof.Proof.ExpertsValue
public import Idealize.ShloMosaic.Adequacy
public import Idealize.ShloMosaic.Init

@[expose] public section

noncomputable section

namespace Cert.Proof

open Idealize.ShloMosaic Idealize.SL.Sem Cert.Kernel

/-- The reference leaves its arguments as they were and every semaphore at zero. -/
theorem reference_frame : Cert.quiescent_ReferenceIdeal := fun m ρ _ =>
  (θ_run Cert.ReferenceIdeal.defs _ _).mono (fun r h => And.intro (fun c => (h c).2.2.2) (Idealize.ShloMosaic.sem_eq_zero_of_no_sems (by decide) r.2))
    (Cert.ReferenceIdeal.Value.run m ρ)

/-- The same from memories whose arguments are real. -/
theorem reference_frame_finite : Cert.quiescent_ReferenceIdeal_pre_finite := fun m ρ _ =>
  (θ_run Cert.ReferenceIdeal.defs _ _).mono (fun r h => And.intro (fun c => (h c).2.2.2) (Idealize.ShloMosaic.sem_eq_zero_of_no_sems (by decide) r.2))
    (Cert.ReferenceIdeal.Value.run m ρ)

/-- From memories that agree on the arguments, all of them real, the kernel's three arrays are the reference's. -/
theorem router_algebraic : Cert.algebraic_KernelIdeal_ReferenceIdeal_pre_finite := by
  intro m g m' g' hp hargs
  refine ⟨Cert.KernelIdeal.RefValue.arr9 m, Cert.KernelIdeal.RefValue.arr10 m, Cert.KernelIdeal.RefValue.arr11 m,
    Cert.KernelIdeal.RefValue.run m g, ?_⟩
  refine (θ_run Cert.ReferenceIdeal.defs _ _).mono (fun r h c => ?_) (Cert.ReferenceIdeal.Value.run m' g')
  obtain ⟨e2, e15, e64, hrest⟩ := h c
  obtain ⟨a0, a1, a2, a3, a4, a5, a6, a7, a8⟩ := hargs c
  refine ⟨e2.trans ?_, e15.trans ?_, e64.trans ?_, hrest⟩
  · refine (Cert.ReferenceIdeal.Read.val_main_v2_eq _).trans (Eq.trans ?_ (Cert.Router.arr9_eq m c).symm)
    exact congr (congr (congr (congrArg _ a0) a1) a2) a3
  · refine (Cert.ReferenceIdeal.Read.val_main_v15_eq _).trans (Eq.trans ?_ (Cert.Router.arr10_eq m c).symm)
    exact congr (congr (congr (congr (congrArg _ a0) a1) a2) a3) a4
  · refine (Cert.ReferenceIdeal.Read.val_main_v64_eq _).trans (Eq.trans ?_ (Cert.Router.arr11_eq m c (congrFun (hp c) ix0)).symm)
    exact congr (congr (congr (congr (congr (congr (congr (congr (congrArg _ a0) a1) a2) a3) a4) a5) a6) a7) a8

/-- The reference of the prompt's attention layer projection leaves its arguments as they were and every semaphore at zero. -/
theorem input_reference_frame : Cert.quiescent_InputRefIdeal := fun m ρ _ =>
  (θ_run Cert.InputRefIdeal.defs _ _).mono (fun r h => And.intro (fun c => (h c).2.2.2.2.2.2.2.2.2) (Idealize.ShloMosaic.sem_eq_zero_of_no_sems (by decide) r.2))
    (Cert.InputRefIdeal.Value.run m ρ)

/-- The reference of the sample's attention layer projection leaves its arguments as they were and every semaphore at zero. -/
theorem sample_reference_frame : Cert.quiescent_SampleRefIdeal := fun m ρ _ =>
  (θ_run Cert.SampleRefIdeal.defs _ _).mono (fun r h => And.intro (fun c => (h c).2.2.2.2.2.2.2.2.2) (Idealize.ShloMosaic.sem_eq_zero_of_no_sems (by decide) r.2))
    (Cert.SampleRefIdeal.Value.run m ρ)

/-- The reference of the recurrent layer's projection leaves its arguments as they were and every semaphore at zero. -/
theorem inputB_reference_frame : Cert.quiescent_InputBRefIdeal := fun m ρ _ =>
  (θ_run Cert.InputBRefIdeal.defs _ _).mono (fun r h => And.intro (fun c => (h c).2.2) (Idealize.ShloMosaic.sem_eq_zero_of_no_sems (by decide) r.2))
    (Cert.InputBRefIdeal.Value.run m ρ)

/-- The reference of the memory projection leaves its arguments as they were and every semaphore at zero. -/
theorem memory_reference_frame : Cert.quiescent_MemoryRefIdeal := fun m ρ _ =>
  (θ_run Cert.MemoryRefIdeal.defs _ _).mono (fun r h => And.intro (fun c => (h c).2.2) (Idealize.ShloMosaic.sem_eq_zero_of_no_sems (by decide) r.2))
    (Cert.MemoryRefIdeal.Value.run m ρ)

/-- The reference of the experts' call leaves its arguments as they were and every semaphore at zero. -/
theorem experts_reference_frame : Cert.quiescent_ExpertsRefIdeal := fun m ρ _ =>
  (θ_run Cert.ExpertsRefIdeal.defs _ _).mono (fun r h => And.intro (fun c => (h c).2) (Idealize.ShloMosaic.sem_eq_zero_of_no_sems (by decide) r.2))
    (Cert.ExpertsRefIdeal.Value.run m ρ)

/-- The same from memories whose tables name experts. -/
theorem experts_reference_frame_named : Cert.quiescent_ExpertsRefIdeal_pre_experts_named := fun m ρ _ =>
  (θ_run Cert.ExpertsRefIdeal.defs _ _).mono (fun r h => And.intro (fun c => (h c).2) (Idealize.ShloMosaic.sem_eq_zero_of_no_sems (by decide) r.2))
    (Cert.ExpertsRefIdeal.Value.run m ρ)

/-- The reference of the recurrent layer's projection of the sample leaves its arguments as they were and every semaphore at
    zero. -/
theorem sampleB_reference_frame : Cert.quiescent_SampleBRefIdeal := fun m ρ _ =>
  (θ_run Cert.SampleBRefIdeal.defs _ _).mono (fun r h => And.intro (fun c => (h c).2.2) (Idealize.ShloMosaic.sem_eq_zero_of_no_sems (by decide) r.2))
    (Cert.SampleBRefIdeal.Value.run m ρ)

/-- The reference of the memory attention leaves its arguments as they were and every semaphore at zero. -/
theorem memAttn_reference_frame : Cert.quiescent_MemAttnRefIdeal := fun m ρ _ =>
  (θ_run Cert.MemAttnRefIdeal.defs _ _).mono (fun r h => And.intro (fun c => (h c).2) (Idealize.ShloMosaic.sem_eq_zero_of_no_sems (by decide) r.2))
    (Cert.MemAttnRefIdeal.Value.run m ρ)

/-- The reference of the recurrence's step leaves its arguments as they were and every semaphore at zero. -/
theorem step_reference_frame : Cert.quiescent_StepRefIdeal := fun m ρ _ =>
  (θ_run Cert.StepRefIdeal.defs _ _).mono (fun r h => And.intro (fun c => (h c).2.2) (Idealize.ShloMosaic.sem_eq_zero_of_no_sems (by decide) r.2))
    (Cert.StepRefIdeal.Value.run m ρ)

/-- Every claim of the certificate. -/
theorem claim : Cert.Claim := ⟨Cert.Kernel.Gen.facts, Cert.KernelIdeal.Gen.facts, Cert.ReferenceIdeal.Gen.facts,
  Cert.Input.Gen.facts, Cert.InputIdeal.Gen.facts, Cert.InputRefIdeal.Gen.facts,
  Cert.Sample.Gen.facts, Cert.SampleIdeal.Gen.facts, Cert.SampleRefIdeal.Gen.facts,
  Cert.InputB.Gen.facts, Cert.InputBIdeal.Gen.facts, Cert.InputBRefIdeal.Gen.facts,
  Cert.Memory.Gen.facts, Cert.MemoryIdeal.Gen.facts, Cert.MemoryRefIdeal.Gen.facts,
  Cert.Experts.Gen.facts, Cert.ExpertsIdeal.Gen.facts, Cert.ExpertsRefIdeal.Gen.facts,
  Cert.SampleB.Gen.facts, Cert.SampleBIdeal.Gen.facts, Cert.SampleBRefIdeal.Gen.facts,
  Cert.MemAttn.Gen.facts, Cert.MemAttnIdeal.Gen.facts, Cert.MemAttnRefIdeal.Gen.facts,
  Cert.Step.Gen.facts, Cert.StepIdeal.Gen.facts, Cert.StepRefIdeal.Gen.facts,
  Cert.Pre_finite.Gen.facts, Cert.Pre_experts_named.Gen.facts,
  fun m ρ _ => Cert.Kernel.Gen.frame m ρ,
  fun m ρ _ => Cert.KernelIdeal.Gen.frame m ρ,
  fun m ρ _ => Cert.KernelIdeal.Gen.frame m ρ,
  reference_frame,
  reference_frame_finite,
  fun m ρ _ => Cert.Input.Gen.frame m ρ,
  fun m ρ _ => Cert.InputIdeal.Gen.frame m ρ,
  input_reference_frame,
  fun m ρ _ => Cert.Sample.Gen.frame m ρ,
  fun m ρ _ => Cert.SampleIdeal.Gen.frame m ρ,
  sample_reference_frame,
  fun m ρ _ => Cert.InputB.Gen.frame m ρ,
  fun m ρ _ => Cert.InputBIdeal.Gen.frame m ρ,
  inputB_reference_frame,
  fun m ρ _ => Cert.Memory.Gen.frame m ρ,
  fun m ρ _ => Cert.MemoryIdeal.Gen.frame m ρ,
  memory_reference_frame,
  Cert.ExpertsIdeal.Tiles.quiescent_bits,
  Cert.ExpertsIdeal.Tiles.quiescent_ideal,
  experts_reference_frame,
  experts_reference_frame_named,
  fun m ρ _ => Cert.SampleB.Gen.frame m ρ,
  fun m ρ _ => Cert.SampleBIdeal.Gen.frame m ρ,
  sampleB_reference_frame,
  fun m ρ _ => Cert.MemAttn.Gen.frame m ρ,
  fun m ρ _ => Cert.MemAttnIdeal.Gen.frame m ρ,
  memAttn_reference_frame,
  fun m ρ _ => Cert.Step.Gen.frame m ρ,
  fun m ρ _ => Cert.StepIdeal.Gen.frame m ρ,
  step_reference_frame,
  trivial,
  router_algebraic,
  trivial,
  Cert.InputIdeal.Rows.algebraic,
  trivial,
  Cert.SampleIdeal.Rows.algebraic,
  trivial,
  Cert.InputBIdeal.Rows.algebraic,
  trivial,
  Cert.MemoryIdeal.Rows.algebraic,
  trivial,
  Cert.ExpertsIdeal.Tiles.algebraic,
  trivial,
  Cert.SampleBIdeal.Rows.algebraic,
  trivial,
  Cert.MemAttnIdeal.Rows.algebraic,
  trivial,
  Cert.StepIdeal.Rows.algebraic⟩

end Cert.Proof

end
